-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Experts [hPre_expert_tables : Cert.Pre_expert_tables.Facts] (m : (ℓ : Loc Cert.Experts.nD Cert.Experts.τ Cert.Experts.sig) → Buf (Elt Bits) ℓ) : Prop :=
  ∀ c : Dev Cert.Experts.nD,
    (Cert.Pre_expert_tables.fn (F := Bits) (m ((c.tc : Thread Cert.Experts.nD Cert.Experts.τ).loc Cert.Experts.main_arg0)) (m ((c.tc : Thread Cert.Experts.nD Cert.Experts.τ).loc Cert.Experts.main_arg1)) (m ((c.tc : Thread Cert.Experts.nD Cert.Experts.τ).loc Cert.Experts.main_arg2)) (m ((c.tc : Thread Cert.Experts.nD Cert.Experts.τ).loc Cert.Experts.main_arg3)) (m ((c.tc : Thread Cert.Experts.nD Cert.Experts.τ).loc Cert.Experts.main_arg4))) = (fun _ => 1#1)

def Pre_ExpertsIdeal [hPre_expert_tables : Cert.Pre_expert_tables.Facts] (m : (ℓ : Loc Cert.ExpertsIdeal.nD Cert.ExpertsIdeal.τ Cert.ExpertsIdeal.sig) → Buf (Elt Ideal) ℓ) : Prop :=
  ∀ c : Dev Cert.ExpertsIdeal.nD,
    (Cert.Pre_expert_tables.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4))) = (fun _ => 1#1)

def Pre_ExpertsRefIdeal (m : (ℓ : Loc Cert.ExpertsRefIdeal.nD Cert.ExpertsRefIdeal.τ Cert.ExpertsRefIdeal.sig) → Buf (Elt Ideal) ℓ) : Prop :=
  True

def Pre_ExpertsRefIdeal_expert_tables [hPre_expert_tables : Cert.Pre_expert_tables.Facts] (m : (ℓ : Loc Cert.ExpertsRefIdeal.nD Cert.ExpertsRefIdeal.τ Cert.ExpertsRefIdeal.sig) → Buf (Elt Ideal) ℓ) : Prop :=
  ∀ c : Dev Cert.ExpertsRefIdeal.nD,
    (Cert.Pre_expert_tables.fn (F := Ideal) (m ((c.tc : Thread Cert.ExpertsRefIdeal.nD Cert.ExpertsRefIdeal.τ).loc Cert.ExpertsRefIdeal.main_arg0)) (m ((c.tc : Thread Cert.ExpertsRefIdeal.nD Cert.ExpertsRefIdeal.τ).loc Cert.ExpertsRefIdeal.main_arg1)) (m ((c.tc : Thread Cert.ExpertsRefIdeal.nD Cert.ExpertsRefIdeal.τ).loc Cert.ExpertsRefIdeal.main_arg2)) (m ((c.tc : Thread Cert.ExpertsRefIdeal.nD Cert.ExpertsRefIdeal.τ).loc Cert.ExpertsRefIdeal.main_arg3)) (m ((c.tc : Thread Cert.ExpertsRefIdeal.nD Cert.ExpertsRefIdeal.τ).loc Cert.ExpertsRefIdeal.main_arg4))) = (fun _ => 1#1)

def Pre_Dense (m : (ℓ : Loc Cert.Dense.nD Cert.Dense.τ Cert.Dense.sig) → Buf (Elt Bits) ℓ) : Prop :=
  True

def Pre_DenseIdeal (m : (ℓ : Loc Cert.DenseIdeal.nD Cert.DenseIdeal.τ Cert.DenseIdeal.sig) → Buf (Elt Ideal) ℓ) : Prop :=
  True

def Pre_DenseRefIdeal (m : (ℓ : Loc Cert.DenseRefIdeal.nD Cert.DenseRefIdeal.τ Cert.DenseRefIdeal.sig) → Buf (Elt Ideal) ℓ) : Prop :=
  True

def Pre_Down [hPre_gated_tables : Cert.Pre_gated_tables.Facts] (m : (ℓ : Loc Cert.Down.nD Cert.Down.τ Cert.Down.sig) → Buf (Elt Bits) ℓ) : Prop :=
  ∀ c : Dev Cert.Down.nD,
    (Cert.Pre_gated_tables.fn (F := Bits) (m ((c.tc : Thread Cert.Down.nD Cert.Down.τ).loc Cert.Down.main_arg0)) (m ((c.tc : Thread Cert.Down.nD Cert.Down.τ).loc Cert.Down.main_arg1)) (m ((c.tc : Thread Cert.Down.nD Cert.Down.τ).loc Cert.Down.main_arg2)) (m ((c.tc : Thread Cert.Down.nD Cert.Down.τ).loc Cert.Down.main_arg3)) (m ((c.tc : Thread Cert.Down.nD Cert.Down.τ).loc Cert.Down.main_arg4))) = (fun _ => 1#1)

def Pre_DownIdeal [hPre_gated_tables : Cert.Pre_gated_tables.Facts] (m : (ℓ : Loc Cert.DownIdeal.nD Cert.DownIdeal.τ Cert.DownIdeal.sig) → Buf (Elt Ideal) ℓ) : Prop :=
  ∀ c : Dev Cert.DownIdeal.nD,
    (Cert.Pre_gated_tables.fn (F := Ideal) (m ((c.tc : Thread Cert.DownIdeal.nD Cert.DownIdeal.τ).loc Cert.DownIdeal.main_arg0)) (m ((c.tc : Thread Cert.DownIdeal.nD Cert.DownIdeal.τ).loc Cert.DownIdeal.main_arg1)) (m ((c.tc : Thread Cert.DownIdeal.nD Cert.DownIdeal.τ).loc Cert.DownIdeal.main_arg2)) (m ((c.tc : Thread Cert.DownIdeal.nD Cert.DownIdeal.τ).loc Cert.DownIdeal.main_arg3)) (m ((c.tc : Thread Cert.DownIdeal.nD Cert.DownIdeal.τ).loc Cert.DownIdeal.main_arg4))) = (fun _ => 1#1)

def Pre_DownRefIdeal (m : (ℓ : Loc Cert.DownRefIdeal.nD Cert.DownRefIdeal.τ Cert.DownRefIdeal.sig) → Buf (Elt Ideal) ℓ) : Prop :=
  True

def Pre_DownRefIdeal_gated_tables [hPre_gated_tables : Cert.Pre_gated_tables.Facts] (m : (ℓ : Loc Cert.DownRefIdeal.nD Cert.DownRefIdeal.τ Cert.DownRefIdeal.sig) → Buf (Elt Ideal) ℓ) : Prop :=
  ∀ c : Dev Cert.DownRefIdeal.nD,
    (Cert.Pre_gated_tables.fn (F := Ideal) (m ((c.tc : Thread Cert.DownRefIdeal.nD Cert.DownRefIdeal.τ).loc Cert.DownRefIdeal.main_arg0)) (m ((c.tc : Thread Cert.DownRefIdeal.nD Cert.DownRefIdeal.τ).loc Cert.DownRefIdeal.main_arg1)) (m ((c.tc : Thread Cert.DownRefIdeal.nD Cert.DownRefIdeal.τ).loc Cert.DownRefIdeal.main_arg2)) (m ((c.tc : Thread Cert.DownRefIdeal.nD Cert.DownRefIdeal.τ).loc Cert.DownRefIdeal.main_arg3)) (m ((c.tc : Thread Cert.DownRefIdeal.nD Cert.DownRefIdeal.τ).loc Cert.DownRefIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Experts [hExperts : Cert.Experts.Facts] [hPre_expert_tables : Cert.Pre_expert_tables.Facts] : Prop :=
  ∀ (m : (ℓ : Loc Cert.Experts.nD Cert.Experts.τ Cert.Experts.sig) → Buf (Elt Bits) ℓ) (g : Dev Cert.Experts.nD → PrngReg), Pre_Experts m →
    θ_run (Cert.Experts.defs (F := Bits)) (onTc (τ := Cert.Experts.τ) (Cert.Experts.main (F := Bits))) ⟨m, fun _ => 0, g⟩ (fun r => (∀ c : Dev Cert.Experts.nD,
      r.2.mem ((c.tc : Thread Cert.Experts.nD Cert.Experts.τ).loc Cert.Experts.main_arg0) = m ((c.tc : Thread Cert.Experts.nD Cert.Experts.τ).loc Cert.Experts.main_arg0)
      ∧ r.2.mem ((c.tc : Thread Cert.Experts.nD Cert.Experts.τ).loc Cert.Experts.main_arg1) = m ((c.tc : Thread Cert.Experts.nD Cert.Experts.τ).loc Cert.Experts.main_arg1)
      ∧ r.2.mem ((c.tc : Thread Cert.Experts.nD Cert.Experts.τ).loc Cert.Experts.main_arg2) = m ((c.tc : Thread Cert.Experts.nD Cert.Experts.τ).loc Cert.Experts.main_arg2)
      ∧ r.2.mem ((c.tc : Thread Cert.Experts.nD Cert.Experts.τ).loc Cert.Experts.main_arg3) = m ((c.tc : Thread Cert.Experts.nD Cert.Experts.τ).loc Cert.Experts.main_arg3)
      ∧ r.2.mem ((c.tc : Thread Cert.Experts.nD Cert.Experts.τ).loc Cert.Experts.main_arg4) = m ((c.tc : Thread Cert.Experts.nD Cert.Experts.τ).loc Cert.Experts.main_arg4))
      ∧ r.2.sem = fun _ => 0)

def quiescent_ExpertsIdeal [hExpertsIdeal : Cert.ExpertsIdeal.Facts] [hPre_expert_tables : Cert.Pre_expert_tables.Facts] : Prop :=
  ∀ (m : (ℓ : Loc Cert.ExpertsIdeal.nD Cert.ExpertsIdeal.τ Cert.ExpertsIdeal.sig) → Buf (Elt Ideal) ℓ) (g : Dev Cert.ExpertsIdeal.nD → PrngReg), Pre_ExpertsIdeal m →
    θ_run (Cert.ExpertsIdeal.defs (F := Ideal)) (onTc (τ := Cert.ExpertsIdeal.τ) (Cert.ExpertsIdeal.main (F := Ideal))) ⟨m, fun _ => 0, g⟩ (fun r => (∀ c : Dev Cert.ExpertsIdeal.nD,
      r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
      ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
      ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
      ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
      ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4))
      ∧ r.2.sem = fun _ => 0)

def quiescent_ExpertsRefIdeal [hExpertsRefIdeal : Cert.ExpertsRefIdeal.Facts] : Prop :=
  ∀ (m : (ℓ : Loc Cert.ExpertsRefIdeal.nD Cert.ExpertsRefIdeal.τ Cert.ExpertsRefIdeal.sig) → Buf (Elt Ideal) ℓ) (g : Dev Cert.ExpertsRefIdeal.nD → PrngReg), Pre_ExpertsRefIdeal m →
    θ_run (Cert.ExpertsRefIdeal.defs (F := Ideal)) (onTc (τ := Cert.ExpertsRefIdeal.τ) (Cert.ExpertsRefIdeal.main (F := Ideal))) ⟨m, fun _ => 0, g⟩ (fun r => (∀ c : Dev Cert.ExpertsRefIdeal.nD,
      r.2.mem ((c.tc : Thread Cert.ExpertsRefIdeal.nD Cert.ExpertsRefIdeal.τ).loc Cert.ExpertsRefIdeal.main_arg0) = m ((c.tc : Thread Cert.ExpertsRefIdeal.nD Cert.ExpertsRefIdeal.τ).loc Cert.ExpertsRefIdeal.main_arg0)
      ∧ r.2.mem ((c.tc : Thread Cert.ExpertsRefIdeal.nD Cert.ExpertsRefIdeal.τ).loc Cert.ExpertsRefIdeal.main_arg1) = m ((c.tc : Thread Cert.ExpertsRefIdeal.nD Cert.ExpertsRefIdeal.τ).loc Cert.ExpertsRefIdeal.main_arg1)
      ∧ r.2.mem ((c.tc : Thread Cert.ExpertsRefIdeal.nD Cert.ExpertsRefIdeal.τ).loc Cert.ExpertsRefIdeal.main_arg2) = m ((c.tc : Thread Cert.ExpertsRefIdeal.nD Cert.ExpertsRefIdeal.τ).loc Cert.ExpertsRefIdeal.main_arg2)
      ∧ r.2.mem ((c.tc : Thread Cert.ExpertsRefIdeal.nD Cert.ExpertsRefIdeal.τ).loc Cert.ExpertsRefIdeal.main_arg3) = m ((c.tc : Thread Cert.ExpertsRefIdeal.nD Cert.ExpertsRefIdeal.τ).loc Cert.ExpertsRefIdeal.main_arg3)
      ∧ r.2.mem ((c.tc : Thread Cert.ExpertsRefIdeal.nD Cert.ExpertsRefIdeal.τ).loc Cert.ExpertsRefIdeal.main_arg4) = m ((c.tc : Thread Cert.ExpertsRefIdeal.nD Cert.ExpertsRefIdeal.τ).loc Cert.ExpertsRefIdeal.main_arg4))
      ∧ r.2.sem = fun _ => 0)

def quiescent_ExpertsRefIdeal_pre_expert_tables [hExpertsRefIdeal : Cert.ExpertsRefIdeal.Facts] [hPre_expert_tables : Cert.Pre_expert_tables.Facts] : Prop :=
  ∀ (m : (ℓ : Loc Cert.ExpertsRefIdeal.nD Cert.ExpertsRefIdeal.τ Cert.ExpertsRefIdeal.sig) → Buf (Elt Ideal) ℓ) (g : Dev Cert.ExpertsRefIdeal.nD → PrngReg), Pre_ExpertsRefIdeal_expert_tables m →
    θ_run (Cert.ExpertsRefIdeal.defs (F := Ideal)) (onTc (τ := Cert.ExpertsRefIdeal.τ) (Cert.ExpertsRefIdeal.main (F := Ideal))) ⟨m, fun _ => 0, g⟩ (fun r => (∀ c : Dev Cert.ExpertsRefIdeal.nD,
      r.2.mem ((c.tc : Thread Cert.ExpertsRefIdeal.nD Cert.ExpertsRefIdeal.τ).loc Cert.ExpertsRefIdeal.main_arg0) = m ((c.tc : Thread Cert.ExpertsRefIdeal.nD Cert.ExpertsRefIdeal.τ).loc Cert.ExpertsRefIdeal.main_arg0)
      ∧ r.2.mem ((c.tc : Thread Cert.ExpertsRefIdeal.nD Cert.ExpertsRefIdeal.τ).loc Cert.ExpertsRefIdeal.main_arg1) = m ((c.tc : Thread Cert.ExpertsRefIdeal.nD Cert.ExpertsRefIdeal.τ).loc Cert.ExpertsRefIdeal.main_arg1)
      ∧ r.2.mem ((c.tc : Thread Cert.ExpertsRefIdeal.nD Cert.ExpertsRefIdeal.τ).loc Cert.ExpertsRefIdeal.main_arg2) = m ((c.tc : Thread Cert.ExpertsRefIdeal.nD Cert.ExpertsRefIdeal.τ).loc Cert.ExpertsRefIdeal.main_arg2)
      ∧ r.2.mem ((c.tc : Thread Cert.ExpertsRefIdeal.nD Cert.ExpertsRefIdeal.τ).loc Cert.ExpertsRefIdeal.main_arg3) = m ((c.tc : Thread Cert.ExpertsRefIdeal.nD Cert.ExpertsRefIdeal.τ).loc Cert.ExpertsRefIdeal.main_arg3)
      ∧ r.2.mem ((c.tc : Thread Cert.ExpertsRefIdeal.nD Cert.ExpertsRefIdeal.τ).loc Cert.ExpertsRefIdeal.main_arg4) = m ((c.tc : Thread Cert.ExpertsRefIdeal.nD Cert.ExpertsRefIdeal.τ).loc Cert.ExpertsRefIdeal.main_arg4))
      ∧ r.2.sem = fun _ => 0)

def quiescent_Dense [hDense : Cert.Dense.Facts] : Prop :=
  ∀ (m : (ℓ : Loc Cert.Dense.nD Cert.Dense.τ Cert.Dense.sig) → Buf (Elt Bits) ℓ) (g : Dev Cert.Dense.nD → PrngReg), Pre_Dense m →
    θ_run (Cert.Dense.defs (F := Bits)) (onTc (τ := Cert.Dense.τ) (Cert.Dense.main (F := Bits))) ⟨m, fun _ => 0, g⟩ (fun r => (∀ c : Dev Cert.Dense.nD,
      r.2.mem ((c.tc : Thread Cert.Dense.nD Cert.Dense.τ).loc Cert.Dense.main_arg0) = m ((c.tc : Thread Cert.Dense.nD Cert.Dense.τ).loc Cert.Dense.main_arg0)
      ∧ r.2.mem ((c.tc : Thread Cert.Dense.nD Cert.Dense.τ).loc Cert.Dense.main_arg1) = m ((c.tc : Thread Cert.Dense.nD Cert.Dense.τ).loc Cert.Dense.main_arg1)
      ∧ r.2.mem ((c.tc : Thread Cert.Dense.nD Cert.Dense.τ).loc Cert.Dense.main_arg2) = m ((c.tc : Thread Cert.Dense.nD Cert.Dense.τ).loc Cert.Dense.main_arg2))
      ∧ r.2.sem = fun _ => 0)

def quiescent_DenseIdeal [hDenseIdeal : Cert.DenseIdeal.Facts] : Prop :=
  ∀ (m : (ℓ : Loc Cert.DenseIdeal.nD Cert.DenseIdeal.τ Cert.DenseIdeal.sig) → Buf (Elt Ideal) ℓ) (g : Dev Cert.DenseIdeal.nD → PrngReg), Pre_DenseIdeal m →
    θ_run (Cert.DenseIdeal.defs (F := Ideal)) (onTc (τ := Cert.DenseIdeal.τ) (Cert.DenseIdeal.main (F := Ideal))) ⟨m, fun _ => 0, g⟩ (fun r => (∀ c : Dev Cert.DenseIdeal.nD,
      r.2.mem ((c.tc : Thread Cert.DenseIdeal.nD Cert.DenseIdeal.τ).loc Cert.DenseIdeal.main_arg0) = m ((c.tc : Thread Cert.DenseIdeal.nD Cert.DenseIdeal.τ).loc Cert.DenseIdeal.main_arg0)
      ∧ r.2.mem ((c.tc : Thread Cert.DenseIdeal.nD Cert.DenseIdeal.τ).loc Cert.DenseIdeal.main_arg1) = m ((c.tc : Thread Cert.DenseIdeal.nD Cert.DenseIdeal.τ).loc Cert.DenseIdeal.main_arg1)
      ∧ r.2.mem ((c.tc : Thread Cert.DenseIdeal.nD Cert.DenseIdeal.τ).loc Cert.DenseIdeal.main_arg2) = m ((c.tc : Thread Cert.DenseIdeal.nD Cert.DenseIdeal.τ).loc Cert.DenseIdeal.main_arg2))
      ∧ r.2.sem = fun _ => 0)

def quiescent_DenseRefIdeal [hDenseRefIdeal : Cert.DenseRefIdeal.Facts] : Prop :=
  ∀ (m : (ℓ : Loc Cert.DenseRefIdeal.nD Cert.DenseRefIdeal.τ Cert.DenseRefIdeal.sig) → Buf (Elt Ideal) ℓ) (g : Dev Cert.DenseRefIdeal.nD → PrngReg), Pre_DenseRefIdeal m →
    θ_run (Cert.DenseRefIdeal.defs (F := Ideal)) (onTc (τ := Cert.DenseRefIdeal.τ) (Cert.DenseRefIdeal.main (F := Ideal))) ⟨m, fun _ => 0, g⟩ (fun r => (∀ c : Dev Cert.DenseRefIdeal.nD,
      r.2.mem ((c.tc : Thread Cert.DenseRefIdeal.nD Cert.DenseRefIdeal.τ).loc Cert.DenseRefIdeal.main_arg0) = m ((c.tc : Thread Cert.DenseRefIdeal.nD Cert.DenseRefIdeal.τ).loc Cert.DenseRefIdeal.main_arg0)
      ∧ r.2.mem ((c.tc : Thread Cert.DenseRefIdeal.nD Cert.DenseRefIdeal.τ).loc Cert.DenseRefIdeal.main_arg1) = m ((c.tc : Thread Cert.DenseRefIdeal.nD Cert.DenseRefIdeal.τ).loc Cert.DenseRefIdeal.main_arg1)
      ∧ r.2.mem ((c.tc : Thread Cert.DenseRefIdeal.nD Cert.DenseRefIdeal.τ).loc Cert.DenseRefIdeal.main_arg2) = m ((c.tc : Thread Cert.DenseRefIdeal.nD Cert.DenseRefIdeal.τ).loc Cert.DenseRefIdeal.main_arg2))
      ∧ r.2.sem = fun _ => 0)

def quiescent_Down [hDown : Cert.Down.Facts] [hPre_gated_tables : Cert.Pre_gated_tables.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2)
      ∧ r.2.mem ((c.tc : Thread Cert.Down.nD Cert.Down.τ).loc Cert.Down.main_arg3) = m ((c.tc : Thread Cert.Down.nD Cert.Down.τ).loc Cert.Down.main_arg3)
      ∧ r.2.mem ((c.tc : Thread Cert.Down.nD Cert.Down.τ).loc Cert.Down.main_arg4) = m ((c.tc : Thread Cert.Down.nD Cert.Down.τ).loc Cert.Down.main_arg4))
      ∧ r.2.sem = fun _ => 0)

def quiescent_DownIdeal [hDownIdeal : Cert.DownIdeal.Facts] [hPre_gated_tables : Cert.Pre_gated_tables.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
      ∧ r.2.mem ((c.tc : Thread Cert.DownIdeal.nD Cert.DownIdeal.τ).loc Cert.DownIdeal.main_arg4) = m ((c.tc : Thread Cert.DownIdeal.nD Cert.DownIdeal.τ).loc Cert.DownIdeal.main_arg4))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2)
      ∧ r.2.mem ((c.tc : Thread Cert.DownRefIdeal.nD Cert.DownRefIdeal.τ).loc Cert.DownRefIdeal.main_arg3) = m ((c.tc : Thread Cert.DownRefIdeal.nD Cert.DownRefIdeal.τ).loc Cert.DownRefIdeal.main_arg3)
      ∧ r.2.mem ((c.tc : Thread Cert.DownRefIdeal.nD Cert.DownRefIdeal.τ).loc Cert.DownRefIdeal.main_arg4) = m ((c.tc : Thread Cert.DownRefIdeal.nD Cert.DownRefIdeal.τ).loc Cert.DownRefIdeal.main_arg4))
      ∧ r.2.sem = fun _ => 0)

def quiescent_DownRefIdeal_pre_gated_tables [hDownRefIdeal : Cert.DownRefIdeal.Facts] [hPre_gated_tables : Cert.Pre_gated_tables.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal_gated_tables m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2)
      ∧ r.2.mem ((c.tc : Thread Cert.DownRefIdeal.nD Cert.DownRefIdeal.τ).loc Cert.DownRefIdeal.main_arg3) = m ((c.tc : Thread Cert.DownRefIdeal.nD Cert.DownRefIdeal.τ).loc Cert.DownRefIdeal.main_arg3)
      ∧ r.2.mem ((c.tc : Thread Cert.DownRefIdeal.nD Cert.DownRefIdeal.τ).loc Cert.DownRefIdeal.main_arg4) = m ((c.tc : Thread Cert.DownRefIdeal.nD Cert.DownRefIdeal.τ).loc Cert.DownRefIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v25_0)) (v1 : (c : Dev Cert.KernelIdeal.nD) → Buf (Elt Ideal) ((c.tc : Thread Cert.KernelIdeal.nD Cert.KernelIdeal.τ).loc Cert.KernelIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25_0) = v0 c
          ∧ r.2.mem ((c.tc : Thread Cert.KernelIdeal.nD Cert.KernelIdeal.τ).loc Cert.KernelIdeal.main_v28) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_v8_7) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Experts_ExpertsIdeal : Prop :=
  True

def algebraic_ExpertsIdeal_ExpertsRefIdeal [hExpertsIdeal : Cert.ExpertsIdeal.Facts] [hExpertsRefIdeal : Cert.ExpertsRefIdeal.Facts] [hPre_expert_tables : Cert.Pre_expert_tables.Facts] : Prop :=
  ∀ (m : (ℓ : Loc Cert.ExpertsIdeal.nD Cert.ExpertsIdeal.τ Cert.ExpertsIdeal.sig) → Buf (Elt Ideal) ℓ) (g : Dev Cert.ExpertsIdeal.nD → PrngReg)
    (m' : (ℓ : Loc Cert.ExpertsRefIdeal.nD Cert.ExpertsRefIdeal.τ Cert.ExpertsRefIdeal.sig) → Buf (Elt Ideal) ℓ) (g' : Dev Cert.ExpertsRefIdeal.nD → PrngReg), Pre_ExpertsIdeal m →
    (∀ c : Dev Cert.ExpertsIdeal.nD,
      m' ((c.tc : Thread Cert.ExpertsRefIdeal.nD Cert.ExpertsRefIdeal.τ).loc Cert.ExpertsRefIdeal.main_arg0) = m ((c.tc : Thread Cert.ExpertsIdeal.nD Cert.ExpertsIdeal.τ).loc Cert.ExpertsIdeal.main_arg0)
      ∧ m' ((c.tc : Thread Cert.ExpertsRefIdeal.nD Cert.ExpertsRefIdeal.τ).loc Cert.ExpertsRefIdeal.main_arg1) = m ((c.tc : Thread Cert.ExpertsIdeal.nD Cert.ExpertsIdeal.τ).loc Cert.ExpertsIdeal.main_arg1)
      ∧ m' ((c.tc : Thread Cert.ExpertsRefIdeal.nD Cert.ExpertsRefIdeal.τ).loc Cert.ExpertsRefIdeal.main_arg2) = m ((c.tc : Thread Cert.ExpertsIdeal.nD Cert.ExpertsIdeal.τ).loc Cert.ExpertsIdeal.main_arg2)
      ∧ m' ((c.tc : Thread Cert.ExpertsRefIdeal.nD Cert.ExpertsRefIdeal.τ).loc Cert.ExpertsRefIdeal.main_arg3) = m ((c.tc : Thread Cert.ExpertsIdeal.nD Cert.ExpertsIdeal.τ).loc Cert.ExpertsIdeal.main_arg3)
      ∧ m' ((c.tc : Thread Cert.ExpertsRefIdeal.nD Cert.ExpertsRefIdeal.τ).loc Cert.ExpertsRefIdeal.main_arg4) = m ((c.tc : Thread Cert.ExpertsIdeal.nD Cert.ExpertsIdeal.τ).loc Cert.ExpertsIdeal.main_arg4)) →
    ∃ (v0 : (c : Dev Cert.ExpertsIdeal.nD) → Buf (Elt Ideal) ((c.tc : Thread Cert.ExpertsIdeal.nD Cert.ExpertsIdeal.τ).loc Cert.ExpertsIdeal.main_v11)),
      θ_run (Cert.ExpertsIdeal.defs (F := Ideal)) (onTc (τ := Cert.ExpertsIdeal.τ) (Cert.ExpertsIdeal.main (F := Ideal))) ⟨m, fun _ => 0, g⟩ (fun r => ∀ c : Dev Cert.ExpertsIdeal.nD,
          r.2.mem ((c.tc : Thread Cert.ExpertsIdeal.nD Cert.ExpertsIdeal.τ).loc Cert.ExpertsIdeal.main_v11) = v0 c
          ∧ r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
          ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
          ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
          ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
          ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4))
      ∧ θ_run (Cert.ExpertsRefIdeal.defs (F := Ideal)) (onTc (τ := Cert.ExpertsRefIdeal.τ) (Cert.ExpertsRefIdeal.main (F := Ideal))) ⟨m', fun _ => 0, g'⟩ (fun r => ∀ c : Dev Cert.ExpertsRefIdeal.nD,
          r.2.mem ((c.tc : Thread Cert.ExpertsRefIdeal.nD Cert.ExpertsRefIdeal.τ).loc Cert.ExpertsRefIdeal.main_v125) = v0 c
          ∧ r.2.mem ((c.tc : Thread Cert.ExpertsRefIdeal.nD Cert.ExpertsRefIdeal.τ).loc Cert.ExpertsRefIdeal.main_arg0) = m' ((c.tc : Thread Cert.ExpertsRefIdeal.nD Cert.ExpertsRefIdeal.τ).loc Cert.ExpertsRefIdeal.main_arg0)
          ∧ r.2.mem ((c.tc : Thread Cert.ExpertsRefIdeal.nD Cert.ExpertsRefIdeal.τ).loc Cert.ExpertsRefIdeal.main_arg1) = m' ((c.tc : Thread Cert.ExpertsRefIdeal.nD Cert.ExpertsRefIdeal.τ).loc Cert.ExpertsRefIdeal.main_arg1)
          ∧ r.2.mem ((c.tc : Thread Cert.ExpertsRefIdeal.nD Cert.ExpertsRefIdeal.τ).loc Cert.ExpertsRefIdeal.main_arg2) = m' ((c.tc : Thread Cert.ExpertsRefIdeal.nD Cert.ExpertsRefIdeal.τ).loc Cert.ExpertsRefIdeal.main_arg2)
          ∧ r.2.mem ((c.tc : Thread Cert.ExpertsRefIdeal.nD Cert.ExpertsRefIdeal.τ).loc Cert.ExpertsRefIdeal.main_arg3) = m' ((c.tc : Thread Cert.ExpertsRefIdeal.nD Cert.ExpertsRefIdeal.τ).loc Cert.ExpertsRefIdeal.main_arg3)
          ∧ r.2.mem ((c.tc : Thread Cert.ExpertsRefIdeal.nD Cert.ExpertsRefIdeal.τ).loc Cert.ExpertsRefIdeal.main_arg4) = m' ((c.tc : Thread Cert.ExpertsRefIdeal.nD Cert.ExpertsRefIdeal.τ).loc Cert.ExpertsRefIdeal.main_arg4))

def preserves_Dense_DenseIdeal : Prop :=
  True

def algebraic_DenseIdeal_DenseRefIdeal [hDenseIdeal : Cert.DenseIdeal.Facts] [hDenseRefIdeal : Cert.DenseRefIdeal.Facts] : Prop :=
  ∀ (m : (ℓ : Loc Cert.DenseIdeal.nD Cert.DenseIdeal.τ Cert.DenseIdeal.sig) → Buf (Elt Ideal) ℓ) (g : Dev Cert.DenseIdeal.nD → PrngReg)
    (m' : (ℓ : Loc Cert.DenseRefIdeal.nD Cert.DenseRefIdeal.τ Cert.DenseRefIdeal.sig) → Buf (Elt Ideal) ℓ) (g' : Dev Cert.DenseRefIdeal.nD → PrngReg), Pre_DenseIdeal m →
    (∀ c : Dev Cert.DenseIdeal.nD,
      m' ((c.tc : Thread Cert.DenseRefIdeal.nD Cert.DenseRefIdeal.τ).loc Cert.DenseRefIdeal.main_arg0) = m ((c.tc : Thread Cert.DenseIdeal.nD Cert.DenseIdeal.τ).loc Cert.DenseIdeal.main_arg0)
      ∧ m' ((c.tc : Thread Cert.DenseRefIdeal.nD Cert.DenseRefIdeal.τ).loc Cert.DenseRefIdeal.main_arg1) = m ((c.tc : Thread Cert.DenseIdeal.nD Cert.DenseIdeal.τ).loc Cert.DenseIdeal.main_arg1)
      ∧ m' ((c.tc : Thread Cert.DenseRefIdeal.nD Cert.DenseRefIdeal.τ).loc Cert.DenseRefIdeal.main_arg2) = m ((c.tc : Thread Cert.DenseIdeal.nD Cert.DenseIdeal.τ).loc Cert.DenseIdeal.main_arg2)) →
    ∃ (v0 : (c : Dev Cert.DenseIdeal.nD) → Buf (Elt Ideal) ((c.tc : Thread Cert.DenseIdeal.nD Cert.DenseIdeal.τ).loc Cert.DenseIdeal.main_v13)),
      θ_run (Cert.DenseIdeal.defs (F := Ideal)) (onTc (τ := Cert.DenseIdeal.τ) (Cert.DenseIdeal.main (F := Ideal))) ⟨m, fun _ => 0, g⟩ (fun r => ∀ c : Dev Cert.DenseIdeal.nD,
          r.2.mem ((c.tc : Thread Cert.DenseIdeal.nD Cert.DenseIdeal.τ).loc Cert.DenseIdeal.main_v13) = v0 c
          ∧ r.2.mem ((c.tc : Thread Cert.DenseIdeal.nD Cert.DenseIdeal.τ).loc Cert.DenseIdeal.main_arg0) = m ((c.tc : Thread Cert.DenseIdeal.nD Cert.DenseIdeal.τ).loc Cert.DenseIdeal.main_arg0)
          ∧ r.2.mem ((c.tc : Thread Cert.DenseIdeal.nD Cert.DenseIdeal.τ).loc Cert.DenseIdeal.main_arg1) = m ((c.tc : Thread Cert.DenseIdeal.nD Cert.DenseIdeal.τ).loc Cert.DenseIdeal.main_arg1)
          ∧ r.2.mem ((c.tc : Thread Cert.DenseIdeal.nD Cert.DenseIdeal.τ).loc Cert.DenseIdeal.main_arg2) = m ((c.tc : Thread Cert.DenseIdeal.nD Cert.DenseIdeal.τ).loc Cert.DenseIdeal.main_arg2))
      ∧ θ_run (Cert.DenseRefIdeal.defs (F := Ideal)) (onTc (τ := Cert.DenseRefIdeal.τ) (Cert.DenseRefIdeal.main (F := Ideal))) ⟨m', fun _ => 0, g'⟩ (fun r => ∀ c : Dev Cert.DenseRefIdeal.nD,
          r.2.mem ((c.tc : Thread Cert.DenseRefIdeal.nD Cert.DenseRefIdeal.τ).loc Cert.DenseRefIdeal.main_v7) = v0 c
          ∧ r.2.mem ((c.tc : Thread Cert.DenseRefIdeal.nD Cert.DenseRefIdeal.τ).loc Cert.DenseRefIdeal.main_arg0) = m' ((c.tc : Thread Cert.DenseRefIdeal.nD Cert.DenseRefIdeal.τ).loc Cert.DenseRefIdeal.main_arg0)
          ∧ r.2.mem ((c.tc : Thread Cert.DenseRefIdeal.nD Cert.DenseRefIdeal.τ).loc Cert.DenseRefIdeal.main_arg1) = m' ((c.tc : Thread Cert.DenseRefIdeal.nD Cert.DenseRefIdeal.τ).loc Cert.DenseRefIdeal.main_arg1)
          ∧ r.2.mem ((c.tc : Thread Cert.DenseRefIdeal.nD Cert.DenseRefIdeal.τ).loc Cert.DenseRefIdeal.main_arg2) = m' ((c.tc : Thread Cert.DenseRefIdeal.nD Cert.DenseRefIdeal.τ).loc Cert.DenseRefIdeal.main_arg2))

def preserves_Down_DownIdeal : Prop :=
  True

def algebraic_DownIdeal_DownRefIdeal [hDownIdeal : Cert.DownIdeal.Facts] [hDownRefIdeal : Cert.DownRefIdeal.Facts] [hPre_gated_tables : Cert.Pre_gated_tables.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)
      ∧ m' ((c.tc : Thread Cert.DownRefIdeal.nD Cert.DownRefIdeal.τ).loc Cert.DownRefIdeal.main_arg3) = m ((c.tc : Thread Cert.DownIdeal.nD Cert.DownIdeal.τ).loc Cert.DownIdeal.main_arg3)
      ∧ m' ((c.tc : Thread Cert.DownRefIdeal.nD Cert.DownRefIdeal.τ).loc Cert.DownRefIdeal.main_arg4) = m ((c.tc : Thread Cert.DownIdeal.nD Cert.DownIdeal.τ).loc Cert.DownIdeal.main_arg4)) →
    ∃ (v0 : (c : Dev Cert.DownIdeal.nD) → Buf (Elt Ideal) ((c.tc : Thread Cert.DownIdeal.nD Cert.DownIdeal.τ).loc Cert.DownIdeal.main_v14)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v14) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
          ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
          ∧ r.2.mem ((c.tc : Thread Cert.DownIdeal.nD Cert.DownIdeal.τ).loc Cert.DownIdeal.main_arg4) = m ((c.tc : Thread Cert.DownIdeal.nD Cert.DownIdeal.τ).loc Cert.DownIdeal.main_arg4))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v100) = v0 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2)
          ∧ r.2.mem ((c.tc : Thread Cert.DownRefIdeal.nD Cert.DownRefIdeal.τ).loc Cert.DownRefIdeal.main_arg3) = m' ((c.tc : Thread Cert.DownRefIdeal.nD Cert.DownRefIdeal.τ).loc Cert.DownRefIdeal.main_arg3)
          ∧ r.2.mem ((c.tc : Thread Cert.DownRefIdeal.nD Cert.DownRefIdeal.τ).loc Cert.DownRefIdeal.main_arg4) = m' ((c.tc : Thread Cert.DownRefIdeal.nD Cert.DownRefIdeal.τ).loc Cert.DownRefIdeal.main_arg4))

def Claim : Prop :=
  ∃ (hKernel : Cert.Kernel.Facts) (hKernelIdeal : Cert.KernelIdeal.Facts) (hReferenceIdeal : Cert.ReferenceIdeal.Facts) (hExperts : Cert.Experts.Facts) (hExpertsIdeal : Cert.ExpertsIdeal.Facts) (hExpertsRefIdeal : Cert.ExpertsRefIdeal.Facts) (hDense : Cert.Dense.Facts) (hDenseIdeal : Cert.DenseIdeal.Facts) (hDenseRefIdeal : Cert.DenseRefIdeal.Facts) (hDown : Cert.Down.Facts) (hDownIdeal : Cert.DownIdeal.Facts) (hDownRefIdeal : Cert.DownRefIdeal.Facts) (hPre_expert_tables : Cert.Pre_expert_tables.Facts) (hPre_gated_tables : Cert.Pre_gated_tables.Facts),
    quiescent_Kernel (hKernel := hKernel)
    ∧ quiescent_KernelIdeal (hKernelIdeal := hKernelIdeal)
    ∧ quiescent_ReferenceIdeal (hReferenceIdeal := hReferenceIdeal)
    ∧ quiescent_Experts (hExperts := hExperts) (hPre_expert_tables := hPre_expert_tables)
    ∧ quiescent_ExpertsIdeal (hExpertsIdeal := hExpertsIdeal) (hPre_expert_tables := hPre_expert_tables)
    ∧ quiescent_ExpertsRefIdeal (hExpertsRefIdeal := hExpertsRefIdeal)
    ∧ quiescent_ExpertsRefIdeal_pre_expert_tables (hExpertsRefIdeal := hExpertsRefIdeal) (hPre_expert_tables := hPre_expert_tables)
    ∧ quiescent_Dense (hDense := hDense)
    ∧ quiescent_DenseIdeal (hDenseIdeal := hDenseIdeal)
    ∧ quiescent_DenseRefIdeal (hDenseRefIdeal := hDenseRefIdeal)
    ∧ quiescent_Down (hDown := hDown) (hPre_gated_tables := hPre_gated_tables)
    ∧ quiescent_DownIdeal (hDownIdeal := hDownIdeal) (hPre_gated_tables := hPre_gated_tables)
    ∧ quiescent_DownRefIdeal (hDownRefIdeal := hDownRefIdeal)
    ∧ quiescent_DownRefIdeal_pre_gated_tables (hDownRefIdeal := hDownRefIdeal) (hPre_gated_tables := hPre_gated_tables)
    ∧ preserves_Kernel_KernelIdeal
    ∧ algebraic_KernelIdeal_ReferenceIdeal (hKernelIdeal := hKernelIdeal) (hReferenceIdeal := hReferenceIdeal)
    ∧ preserves_Experts_ExpertsIdeal
    ∧ algebraic_ExpertsIdeal_ExpertsRefIdeal (hExpertsIdeal := hExpertsIdeal) (hExpertsRefIdeal := hExpertsRefIdeal) (hPre_expert_tables := hPre_expert_tables)
    ∧ preserves_Dense_DenseIdeal
    ∧ algebraic_DenseIdeal_DenseRefIdeal (hDenseIdeal := hDenseIdeal) (hDenseRefIdeal := hDenseRefIdeal)
    ∧ preserves_Down_DownIdeal
    ∧ algebraic_DownIdeal_DownRefIdeal (hDownIdeal := hDownIdeal) (hDownRefIdeal := hDownRefIdeal) (hPre_gated_tables := hPre_gated_tables)
-- ==== Pre_expert_tables.lean ====
abbrev S20480x4096 : Shape := ⟨2, ![20480, 4096]⟩
abbrev S8x4096x14336 : Shape := ⟨3, ![8, 4096, 14336]⟩
abbrev S40 : Shape := ⟨1, ![40]⟩
abbrev S40x1 : Shape := ⟨2, ![40, 1]⟩
abbrev S1x40 : Shape := ⟨2, ![1, 40]⟩
abbrev S40x40 : Shape := ⟨2, ![40, 40]⟩
abbrev S_ : Shape := ⟨0, ![]⟩

class Facts : Prop where
  bcast_S40_S40x1_0 : S40.BroadcastsInDim S40x1 (![0] : Fin 1 → Fin S40x1.rank)
  bcast_S40_S1x40_1 : S40.BroadcastsInDim S1x40 (![1] : Fin 1 → Fin S1x40.rank)
  bcast_S40x1_S40x40_0_1 : S40x1.BroadcastsInDim S40x40 (![0, 1] : Fin 2 → Fin S40x40.rank)
  bcast_S1x40_S40x40_0_1 : S1x40.BroadcastsInDim S40x40 (![0, 1] : Fin 2 → Fin S40x40.rank)
  bcast_S_S40 : S_.BroadcastsInDim S40 (![] : Fin 0 → Fin S40.rank)

variable [Facts]

def fn_part1 {F : FTy → Type} [FloatOps F] (main_arg4 : IVec S40 32) (main_v11 : IVec S40x40 1) (main_v16 : IVec S40 1) (main_v18 : IVec S40 1) (main_v19 : IVec S40 32) : IVec S40x40 1 :=
  let main_v20 : IVec S40 1 := cmpi .eq main_arg4 main_v19
  let main_v21 : IVec S40 1 := ori main_v18 main_v20
  let main_c_3 : IVec S_ 32 := constantI S_ 32 8#32
  let main_v22 : IVec S40 32 := broadcastInDim S40 ![] bcast_S_S40 main_c_3
  let main_v23 : IVec S40 1 := cmpi .sge main_arg4 main_v22
  let main_c_4 : IVec S_ 32 := constantI S_ 32 12#32
  let main_v24 : IVec S40 32 := broadcastInDim S40 ![] bcast_S_S40 main_c_4
  let main_v25 : IVec S40 1 := cmpi .sle main_arg4 main_v24
  let main_v26 : IVec S40 1 := andi main_v23 main_v25
  let main_v27 : IVec S40 1 := ori main_v21 main_v26
  let main_v28 : IVec S40 1 := andi main_v16 main_v27
  let main_v29 : IVec S40x1 1 := broadcastInDim S40x1 ![0] bcast_S40_S40x1_0 main_v28
  let main_v30 : IVec S40x40 1 := broadcastInDim S40x40 ![0, 1] bcast_S40x1_S40x40_0_1 main_v29
  let main_v31 : IVec S40x40 1 := andi main_v11 main_v30
  main_v31

def fn {F : FTy → Type} [FloatOps F] (main_arg0 : FVec F S20480x4096 .bf16) (main_arg1 : FVec F S8x4096x14336 .f32) (main_arg2 : FVec F S8x4096x14336 .f32) (main_arg3 : IVec S40 32) (main_arg4 : IVec S40 32) : IVec S40x40 1 :=
  let main_v0 : IVec S40 32 := iotaInDim S40 32 0
  let main_v1 : IVec S40x1 32 := broadcastInDim S40x1 ![0] bcast_S40_S40x1_0 main_arg3
  let main_v2 : IVec S1x40 32 := broadcastInDim S1x40 ![1] bcast_S40_S1x40_1 main_arg3
  let main_v3 : IVec S40x40 32 := broadcastInDim S40x40 ![0, 1] bcast_S40x1_S40x40_0_1 main_v1
  let main_v4 : IVec S40x40 32 := broadcastInDim S40x40 ![0, 1] bcast_S1x40_S40x40_0_1 main_v2
  let main_v5 : IVec S40x40 1 := cmpi .sle main_v3 main_v4
  let main_v6 : IVec S40x1 32 := broadcastInDim S40x1 ![0] bcast_S40_S40x1_0 main_v0
  let main_v7 : IVec S1x40 32 := broadcastInDim S1x40 ![1] bcast_S40_S1x40_1 main_v0
  let main_v8 : IVec S40x40 32 := broadcastInDim S40x40 ![0, 1] bcast_S40x1_S40x40_0_1 main_v6
  let main_v9 : IVec S40x40 32 := broadcastInDim S40x40 ![0, 1] bcast_S1x40_S40x40_0_1 main_v7
  let main_v10 : IVec S40x40 1 := cmpi .sgt main_v8 main_v9
  let main_v11 : IVec S40x40 1 := ori main_v5 main_v10
  let main_c : IVec S_ 32 := constantI S_ 32 0#32
  let main_v12 : IVec S40 32 := broadcastInDim S40 ![] bcast_S_S40 main_c
  let main_v13 : IVec S40 1 := cmpi .sge main_arg3 main_v12
  let main_c_0 : IVec S_ 32 := constantI S_ 32 8#32
  let main_v14 : IVec S40 32 := broadcastInDim S40 ![] bcast_S_S40 main_c_0
  let main_v15 : IVec S40 1 := cmpi .slt main_arg3 main_v14
  let main_v16 : IVec S40 1 := andi main_v13 main_v15
  let main_c_1 : IVec S_ 32 := constantI S_ 32 0#32
  let main_v17 : IVec S40 32 := broadcastInDim S40 ![] bcast_S_S40 main_c_1
  let main_v18 : IVec S40 1 := cmpi .eq main_arg4 main_v17
  let main_c_2 : IVec S_ 32 := constantI S_ 32 1#32
  let main_v19 : IVec S40 32 := broadcastInDim S40 ![] bcast_S_S40 main_c_2
  fn_part1 (F := F) main_arg4 main_v11 main_v16 main_v18 main_v19
-- ==== Pre_gated_tables.lean ====
abbrev S20480x14336 : Shape := ⟨2, ![20480, 14336]⟩
abbrev S8x14336x4096 : Shape := ⟨3, ![8, 14336, 4096]⟩
abbrev S40 : Shape := ⟨1, ![40]⟩
abbrev S20480x1 : Shape := ⟨2, ![20480, 1]⟩
abbrev S40x1 : Shape := ⟨2, ![40, 1]⟩
abbrev S1x40 : Shape := ⟨2, ![1, 40]⟩
abbrev S40x40 : Shape := ⟨2, ![40, 40]⟩
abbrev S_ : Shape := ⟨0, ![]⟩

class Facts : Prop where
  bcast_S40_S40x1_0 : S40.BroadcastsInDim S40x1 (![0] : Fin 1 → Fin S40x1.rank)
  bcast_S40_S1x40_1 : S40.BroadcastsInDim S1x40 (![1] : Fin 1 → Fin S1x40.rank)
  bcast_S40x1_S40x40_0_1 : S40x1.BroadcastsInDim S40x40 (![0, 1] : Fin 2 → Fin S40x40.rank)
  bcast_S1x40_S40x40_0_1 : S1x40.BroadcastsInDim S40x40 (![0, 1] : Fin 2 → Fin S40x40.rank)
  bcast_S_S40 : S_.BroadcastsInDim S40 (![] : Fin 0 → Fin S40.rank)
  reducesTo_S40x40_S_d0_1 : S40x40.ReducesTo [0, 1] S_
  h_S_ : 0 < S_.numel
  bcast_S_S20480x1 : S_.BroadcastsInDim S20480x1 (![] : Fin 0 → Fin S20480x1.rank)
  reducesTo_S20480x1_S_d0_1 : S20480x1.ReducesTo [0, 1] S_

variable [Facts]

def fn_part2 {F : FTy → Type} [FloatOps F] (main_v32 : IVec S_ 1) (main_v37 : IVec S20480x1 1) (main_c_7 : IVec S_ 1) : IVec S_ 1 :=
  let main_v38 : IVec S_ 1 := (fun x v => Host.reduce IntOp.andi x v reducesTo_S20480x1_S_d0_1 h_S_) main_v37 main_c_7
  let main_v39 : IVec S_ 1 := andi main_v32 main_v38
  main_v39

def fn_part1 {F : FTy → Type} [FloatOps F] (main_arg3 : IVec S40 32) (main_arg4 : FVec F S20480x1 .f32) (main_v11 : IVec S40x40 1) (main_v16 : IVec S40 1) (main_v18 : IVec S40 1) (main_v19 : IVec S40 32) : IVec S_ 1 :=
  let main_v20 : IVec S40 1 := cmpi .eq main_arg3 main_v19
  let main_v21 : IVec S40 1 := ori main_v18 main_v20
  let main_c_3 : IVec S_ 32 := constantI S_ 32 8#32
  let main_v22 : IVec S40 32 := broadcastInDim S40 ![] bcast_S_S40 main_c_3
  let main_v23 : IVec S40 1 := cmpi .sge main_arg3 main_v22
  let main_c_4 : IVec S_ 32 := constantI S_ 32 12#32
  let main_v24 : IVec S40 32 := broadcastInDim S40 ![] bcast_S_S40 main_c_4
  let main_v25 : IVec S40 1 := cmpi .sle main_arg3 main_v24
  let main_v26 : IVec S40 1 := andi main_v23 main_v25
  let main_v27 : IVec S40 1 := ori main_v21 main_v26
  let main_v28 : IVec S40 1 := andi main_v16 main_v27
  let main_v29 : IVec S40x1 1 := broadcastInDim S40x1 ![0] bcast_S40_S40x1_0 main_v28
  let main_v30 : IVec S40x40 1 := broadcastInDim S40x40 ![0, 1] bcast_S40x1_S40x40_0_1 main_v29
  let main_v31 : IVec S40x40 1 := andi main_v11 main_v30
  let main_c_5 : IVec S_ 1 := constantI S_ 1 1#1
  let main_v32 : IVec S_ 1 := (fun x v => Host.reduce IntOp.andi x v reducesTo_S40x40_S_d0_1 h_S_) main_v31 main_c_5
  let main_cst : FVec F S_ .f32 := constant S_ .f32 0x00000000#32
  let main_v33 : FVec F S20480x1 .f32 := broadcastInDim S20480x1 ![] bcast_S_S20480x1 main_cst
  let main_v34 : IVec S20480x1 1 := cmpf .oge main_arg4 main_v33
  let main_cst_6 : FVec F S_ .f32 := constant S_ .f32 0x3F800000#32
  let main_v35 : FVec F S20480x1 .f32 := broadcastInDim S20480x1 ![] bcast_S_S20480x1 main_cst_6
  let main_v36 : IVec S20480x1 1 := cmpf .ole main_arg4 main_v35
  let main_v37 : IVec S20480x1 1 := andi main_v34 main_v36
  let main_c_7 : IVec S_ 1 := constantI S_ 1 1#1
  fn_part2 (F := F) main_v32 main_v37 main_c_7

def fn {F : FTy → Type} [FloatOps F] (main_arg0 : FVec F S20480x14336 .bf16) (main_arg1 : FVec F S8x14336x4096 .f32) (main_arg2 : IVec S40 32) (main_arg3 : IVec S40 32) (main_arg4 : FVec F S20480x1 .f32) : IVec S_ 1 :=
  let main_v0 : IVec S40 32 := iotaInDim S40 32 0
  let main_v1 : IVec S40x1 32 := broadcastInDim S40x1 ![0] bcast_S40_S40x1_0 main_arg2
  let main_v2 : IVec S1x40 32 := broadcastInDim S1x40 ![1] bcast_S40_S1x40_1 main_arg2
  let main_v3 : IVec S40x40 32 := broadcastInDim S40x40 ![0, 1] bcast_S40x1_S40x40_0_1 main_v1
  let main_v4 : IVec S40x40 32 := broadcastInDim S40x40 ![0, 1] bcast_S1x40_S40x40_0_1 main_v2
  let main_v5 : IVec S40x40 1 := cmpi .sle main_v3 main_v4
  let main_v6 : IVec S40x1 32 := broadcastInDim S40x1 ![0] bcast_S40_S40x1_0 main_v0
  let main_v7 : IVec S1x40 32 := broadcastInDim S1x40 ![1] bcast_S40_S1x40_1 main_v0
  let main_v8 : IVec S40x40 32 := broadcastInDim S40x40 ![0, 1] bcast_S40x1_S40x40_0_1 main_v6
  let main_v9 : IVec S40x40 32 := broadcastInDim S40x40 ![0, 1] bcast_S1x40_S40x40_0_1 main_v7
  let main_v10 : IVec S40x40 1 := cmpi .sgt main_v8 main_v9
  let main_v11 : IVec S40x40 1 := ori main_v5 main_v10
  let main_c : IVec S_ 32 := constantI S_ 32 0#32
  let main_v12 : IVec S40 32 := broadcastInDim S40 ![] bcast_S_S40 main_c
  let main_v13 : IVec S40 1 := cmpi .sge main_arg2 main_v12
  let main_c_0 : IVec S_ 32 := constantI S_ 32 8#32
  let main_v14 : IVec S40 32 := broadcastInDim S40 ![] bcast_S_S40 main_c_0
  let main_v15 : IVec S40 1 := cmpi .slt main_arg2 main_v14
  let main_v16 : IVec S40 1 := andi main_v13 main_v15
  let main_c_1 : IVec S_ 32 := constantI S_ 32 0#32
  let main_v17 : IVec S40 32 := broadcastInDim S40 ![] bcast_S_S40 main_c_1
  let main_v18 : IVec S40 1 := cmpi .eq main_arg3 main_v17
  let main_c_2 : IVec S_ 32 := constantI S_ 32 1#32
  let main_v19 : IVec S40 32 := broadcastInDim S40 ![] bcast_S_S40 main_c_2
  fn_part1 (F := F) main_arg3 main_arg4 main_v11 main_v16 main_v18 main_v19
-- ==== Kernel.lean ====
abbrev S4x2048x32x64 : Shape := ⟨4, ![4, 2048, 32, 64]⟩
abbrev S_ : Shape := ⟨0, ![]⟩
abbrev S8x4x64x256 : Shape := ⟨4, ![8, 4, 64, 256]⟩
abbrev S4x2048x2048 : Shape := ⟨3, ![4, 2048, 2048]⟩
abbrev S256 : Shape := ⟨1, ![256]⟩
abbrev S64 : Shape := ⟨1, ![64]⟩
abbrev S64x1 : Shape := ⟨2, ![64, 1]⟩
abbrev S1x256 : Shape := ⟨2, ![1, 256]⟩
abbrev S64x256 : Shape := ⟨2, ![64, 256]⟩
abbrev S256x1 : Shape := ⟨2, ![256, 1]⟩
abbrev S256x256 : Shape := ⟨2, ![256, 256]⟩
abbrev S4x64x2048 : Shape := ⟨3, ![4, 64, 2048]⟩
abbrev S1x64x256 : Shape := ⟨3, ![1, 64, 256]⟩
abbrev S4x1x2048 : Shape := ⟨3, ![4, 1, 2048]⟩
abbrev S1x4x64x256 : Shape := ⟨4, ![1, 4, 64, 256]⟩
abbrev S4x64x256 : Shape := ⟨3, ![4, 64, 256]⟩
abbrev S4x1x256 : Shape := ⟨3, ![4, 1, 256]⟩
abbrev S4x4x16x256 : Shape := ⟨4, ![4, 4, 16, 256]⟩
abbrev S4x4x1x16x256 : Shape := ⟨5, ![4, 4, 1, 16, 256]⟩
abbrev S4x4x3x16x256 : Shape := ⟨5, ![4, 4, 3, 16, 256]⟩
abbrev S768x256 : Shape := ⟨2, ![768, 256]⟩
abbrev S6144x256 : Shape := ⟨2, ![6144, 256]⟩
abbrev S4x8x8x256 : Shape := ⟨4, ![4, 8, 8, 256]⟩
abbrev S4x8x256 : Shape := ⟨3, ![4, 8, 256]⟩
abbrev S4x256 : Shape := ⟨2, ![4, 256]⟩
abbrev S2048x256 : Shape := ⟨2, ![2048, 256]⟩
abbrev S8x4x64x4x64 : Shape := ⟨5, ![8, 4, 64, 4, 64]⟩
abbrev S4x8x4x64x64 : Shape := ⟨5, ![4, 8, 4, 64, 64]⟩
abbrev S4x32x64x64 : Shape := ⟨4, ![4, 32, 64, 64]⟩

abbrev nBuf : Space → Nat
  | .hbm => 92
  | .vmem => 20
  | .smem => 0
  | _ => 0

abbrev bufTy : (tb : Table) → Fin (tcTables nBuf tb) → BufTy
  | .hbm, ⟨0, _⟩ => ⟨S4x2048x32x64, .f32⟩
  | .hbm, ⟨1, _⟩ => ⟨S4x2048x32x64, .f32⟩
  | .hbm, ⟨2, _⟩ => ⟨S4x2048x32x64, .f32⟩
  | .hbm, ⟨3, _⟩ => ⟨S4x2048x32x64, .f32⟩
  | .hbm, ⟨4, _⟩ => ⟨S4x2048x32x64, .f32⟩
  | .hbm, ⟨5, _⟩ => ⟨S4x2048x32x64, .f32⟩
  | .hbm, ⟨6, _⟩ => ⟨S_, .f32⟩
  | .hbm, ⟨7, _⟩ => ⟨S8x4x64x256, .f32⟩
  | .hbm, ⟨8, _⟩ => ⟨S4x2048x2048, .f32⟩
  | .hbm, ⟨9, _⟩ => ⟨S4x2048x2048, .f32⟩
  | .hbm, ⟨10, _⟩ => ⟨S4x2048x2048, .f32⟩
  | .hbm, ⟨11, _⟩ => ⟨S4x2048x2048, .f32⟩
  | .hbm, ⟨12, _⟩ => ⟨S4x2048x2048, .f32⟩
  | .hbm, ⟨13, _⟩ => ⟨S4x2048x2048, .f32⟩
  | .hbm, ⟨14, _⟩ => ⟨S256, .i32⟩
  | .hbm, ⟨15, _⟩ => ⟨S64, .i32⟩
  | .hbm, ⟨16, _⟩ => ⟨S64x1, .i32⟩
  | .hbm, ⟨17, _⟩ => ⟨S1x256, .i32⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S_, .i1⟩
  | .hbm, ⟨22, _⟩ => ⟨S_, .i32⟩
  | .hbm, ⟨23, _⟩ => ⟨S_, .i32⟩
  | .hbm, ⟨24, _⟩ => ⟨S1x256, .i32⟩
  | .hbm, ⟨25, _⟩ => ⟨S1x256, .i32⟩
  | .hbm, ⟨26, _⟩ => ⟨S_, .i32⟩
  | .hbm, ⟨27, _⟩ => ⟨S1x256, .i32⟩
  | .hbm, ⟨28, _⟩ => ⟨S1x256, .i1⟩
  | .hbm, ⟨29, _⟩ => ⟨S_, .i32⟩
  | .hbm, ⟨30, _⟩ => ⟨S1x256, .i32⟩
  | .hbm, ⟨31, _⟩ => ⟨S1x256, .i1⟩
  | .hbm, ⟨32, _⟩ => ⟨S_, .i32⟩
  | .hbm, ⟨33, _⟩ => ⟨S_, .i1⟩
  | .hbm, ⟨34, _⟩ => ⟨S1x256, .i1⟩
  | .hbm, ⟨35, _⟩ => ⟨S1x256, .i1⟩
  | .hbm, ⟨36, _⟩ => ⟨S1x256, .i1⟩
  | .hbm, ⟨37, _⟩ => ⟨S1x256, .i32⟩
  | .hbm, ⟨38, _⟩ => ⟨S1x256, .i32⟩
  | .hbm, ⟨39, _⟩ => ⟨S1x256, .i32⟩
  | .hbm, ⟨40, _⟩ => ⟨S64x256, .i32⟩
  | .hbm, ⟨41, _⟩ => ⟨S64x256, .i32⟩
  | .hbm, ⟨42, _⟩ => ⟨S64x256, .i1⟩
  | .hbm, ⟨43, _⟩ => ⟨S64x256, .f32⟩
  | .hbm, ⟨44, _⟩ => ⟨S256, .i32⟩
  | .hbm, ⟨45, _⟩ => ⟨S256x1, .i32⟩
  | .hbm, ⟨46, _⟩ => ⟨S_, .i32⟩
  | .hbm, ⟨47, _⟩ => ⟨S_, .i32⟩
  | .hbm, ⟨48, _⟩ => ⟨S256x1, .i32⟩
  | .hbm, ⟨49, _⟩ => ⟨S256x1, .i32⟩
  | .hbm, ⟨50, _⟩ => ⟨S256x1, .i32⟩
  | .hbm, ⟨51, _⟩ => ⟨S_, .i32⟩
  | .hbm, ⟨52, _⟩ => ⟨S256x1, .i32⟩
  | .hbm, ⟨53, _⟩ => ⟨S256x1, .i1⟩
  | .hbm, ⟨54, _⟩ => ⟨S256x1, .i32⟩
  | .hbm, ⟨55, _⟩ => ⟨S256x1, .i32⟩
  | .hbm, ⟨56, _⟩ => ⟨S_, .i32⟩
  | .hbm, ⟨57, _⟩ => ⟨S256x1, .i32⟩
  | .hbm, ⟨58, _⟩ => ⟨S256x1, .i1⟩
  | .hbm, ⟨59, _⟩ => ⟨S256x1, .i1⟩
  | .hbm, ⟨60, _⟩ => ⟨S_, .i32⟩
  | .hbm, ⟨61, _⟩ => ⟨S256x1, .i32⟩
  | .hbm, ⟨62, _⟩ => ⟨S256x1, .i32⟩
  | .hbm, ⟨63, _⟩ => ⟨S256x1, .i32⟩
  | .hbm, ⟨64, _⟩ => ⟨S1x256, .i32⟩
  | .hbm, ⟨65, _⟩ => ⟨S_, .i32⟩
  | .hbm, ⟨66, _⟩ => ⟨S_, .i32⟩
  | .hbm, ⟨67, _⟩ => ⟨S1x256, .i32⟩
  | .hbm, ⟨68, _⟩ => ⟨S1x256, .i32⟩
  | .hbm, ⟨69, _⟩ => ⟨S1x256, .i32⟩
  | .hbm, ⟨70, _⟩ => ⟨S_, .i32⟩
  | .hbm, ⟨71, _⟩ => ⟨S1x256, .i32⟩
  | .hbm, ⟨72, _⟩ => ⟨S1x256, .i1⟩
  | .hbm, ⟨73, _⟩ => ⟨S1x256, .i32⟩
  | .hbm, ⟨74, _⟩ => ⟨S1x256, .i32⟩
  | .hbm, ⟨75, _⟩ => ⟨S_, .i32⟩
  | .hbm, ⟨76, _⟩ => ⟨S1x256, .i32⟩
  | .hbm, ⟨77, _⟩ => ⟨S1x256, .i1⟩
  | .hbm, ⟨78, _⟩ => ⟨S1x256, .i1⟩
  | .hbm, ⟨79, _⟩ => ⟨S_, .i32⟩
  | .hbm, ⟨80, _⟩ => ⟨S1x256, .i32⟩
  | .hbm, ⟨81, _⟩ => ⟨S1x256, .i32⟩
  | .hbm, ⟨82, _⟩ => ⟨S1x256, .i32⟩
  | .hbm, ⟨83, _⟩ => ⟨S256x256, .i32⟩
  | .hbm, ⟨84, _⟩ => ⟨S256x256, .i32⟩
  | .hbm, ⟨85, _⟩ => ⟨S256x256, .i1⟩
  | .hbm, ⟨86, _⟩ => ⟨S256x256, .bf16⟩
  | .hbm, ⟨87, _⟩ => ⟨S4x2048x2048, .f32⟩
  | .hbm, ⟨88, _⟩ => ⟨S8x4x64x256, .f32⟩
  | .hbm, ⟨89, _⟩ => ⟨S8x4x64x4x64, .f32⟩
  | .hbm, ⟨90, _⟩ => ⟨S4x8x4x64x64, .f32⟩
  | .hbm, ⟨91, _⟩ => ⟨S4x32x64x64, .f32⟩
  | .local _ .vmem, ⟨0, _⟩ => ⟨S4x64x2048, .f32⟩
  | .local _ .vmem, ⟨1, _⟩ => ⟨S4x64x2048, .f32⟩
  | .local _ .vmem, ⟨2, _⟩ => ⟨S4x64x2048, .f32⟩
  | .local _ .vmem, ⟨3, _⟩ => ⟨S4x64x2048, .f32⟩
  | .local _ .vmem, ⟨4, _⟩ => ⟨S4x64x2048, .f32⟩
  | .local _ .vmem, ⟨5, _⟩ => ⟨S4x64x2048, .f32⟩
  | .local _ .vmem, ⟨6, _⟩ => ⟨S4x64x2048, .f32⟩
  | .local _ .vmem, ⟨7, _⟩ => ⟨S4x64x2048, .f32⟩
  | .local _ .vmem, ⟨8, _⟩ => ⟨S4x64x2048, .f32⟩
  | .local _ .vmem, ⟨9, _⟩ => ⟨S4x64x2048, .f32⟩
  | .local _ .vmem, ⟨10, _⟩ => ⟨S4x64x2048, .f32⟩
  | .local _ .vmem, ⟨11, _⟩ => ⟨S4x64x2048, .f32⟩
  | .local _ .vmem, ⟨12, _⟩ => ⟨S8x4x64x256, .f32⟩
  | .local _ .vmem, ⟨13, _⟩ => ⟨S256x256, .bf16⟩
  | .local _ .vmem, ⟨14, _⟩ => ⟨S64x256, .f32⟩
  | .local _ .vmem, ⟨15, _⟩ => ⟨S4x64x2048, .f32⟩
  | .local _ .vmem, ⟨16, _⟩ => ⟨S4x64x2048, .f32⟩
  | .local _ .vmem, ⟨17, _⟩ => ⟨S8x4x64x256, .f32⟩
  | .local _ .vmem, ⟨18, _⟩ => ⟨S8x4x64x256, .f32⟩
  | .local _ .vmem, ⟨19, _⟩ => ⟨S8x4x64x256, .bf16⟩
  | _, _ => ⟨S4x2048x32x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_c : Ref sig .tc := ⟨.hbm, 18, rfl⟩
abbrev main_call0_v0 : Ref sig .tc := ⟨.hbm, 19, rfl⟩
abbrev main_call0_c : Ref sig .tc := ⟨.hbm, 20, rfl⟩
abbrev main_call0_v1 : Ref sig .tc := ⟨.hbm, 21, rfl⟩
abbrev main_call0_c_0 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_call0_c_1 : Ref sig .tc := ⟨.hbm, 26, rfl⟩
abbrev main_call0_v5 : Ref sig .tc := ⟨.hbm, 27, rfl⟩
abbrev main_call0_v6 : Ref sig .tc := ⟨.hbm, 28, rfl⟩
abbrev main_call0_c_2 : Ref sig .tc := ⟨.hbm, 29, rfl⟩
abbrev main_call0_v7 : Ref sig .tc := ⟨.hbm, 30, rfl⟩
abbrev main_call0_v8 : Ref sig .tc := ⟨.hbm, 31, rfl⟩
abbrev main_call0_c_3 : Ref sig .tc := ⟨.hbm, 32, rfl⟩
abbrev main_call0_v9 : Ref sig .tc := ⟨.hbm, 33, rfl⟩
abbrev main_call0_v10 : Ref sig .tc := ⟨.hbm, 34, rfl⟩
abbrev main_call0_v11 : Ref sig .tc := ⟨.hbm, 35, rfl⟩
abbrev main_call0_v12 : Ref sig .tc := ⟨.hbm, 36, rfl⟩
abbrev main_call0_v13 : Ref sig .tc := ⟨.hbm, 37, rfl⟩
abbrev main_call0_v14 : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_c_0 : Ref sig .tc := ⟨.hbm, 46, rfl⟩
abbrev main_call1_v0 : Ref sig .tc := ⟨.hbm, 47, rfl⟩
abbrev main_call1_v1 : Ref sig .tc := ⟨.hbm, 48, rfl⟩
abbrev main_call1_v2 : Ref sig .tc := ⟨.hbm, 49, rfl⟩
abbrev main_call1_v3 : Ref sig .tc := ⟨.hbm, 50, rfl⟩
abbrev main_call1_v4 : Ref sig .tc := ⟨.hbm, 51, rfl⟩
abbrev main_call1_v5 : Ref sig .tc := ⟨.hbm, 52, rfl⟩
abbrev main_call1_v6 : Ref sig .tc := ⟨.hbm, 53, rfl⟩
abbrev main_call1_v7 : Ref sig .tc := ⟨.hbm, 54, rfl⟩
abbrev main_call1_v8 : Ref sig .tc := ⟨.hbm, 55, rfl⟩
abbrev main_call1_c : Ref sig .tc := ⟨.hbm, 56, rfl⟩
abbrev main_call1_v9 : Ref sig .tc := ⟨.hbm, 57, rfl⟩
abbrev main_call1_v10 : Ref sig .tc := ⟨.hbm, 58, rfl⟩
abbrev main_call1_v11 : Ref sig .tc := ⟨.hbm, 59, rfl⟩
abbrev main_call1_c_0 : Ref sig .tc := ⟨.hbm, 60, rfl⟩
abbrev main_call1_v12 : Ref sig .tc := ⟨.hbm, 61, rfl⟩
abbrev main_call1_v13 : Ref sig .tc := ⟨.hbm, 62, rfl⟩
abbrev main_v18 : Ref sig .tc := ⟨.hbm, 63, rfl⟩
abbrev main_v19 : Ref sig .tc := ⟨.hbm, 64, rfl⟩
abbrev main_c_1 : Ref sig .tc := ⟨.hbm, 65, rfl⟩
abbrev main_call2_v0 : Ref sig .tc := ⟨.hbm, 66, rfl⟩
abbrev main_call2_v1 : Ref sig .tc := ⟨.hbm, 67, rfl⟩
abbrev main_call2_v2 : Ref sig .tc := ⟨.hbm, 68, rfl⟩
abbrev main_call2_v3 : Ref sig .tc := ⟨.hbm, 69, rfl⟩
abbrev main_call2_v4 : Ref sig .tc := ⟨.hbm, 70, rfl⟩
abbrev main_call2_v5 : Ref sig .tc := ⟨.hbm, 71, rfl⟩
abbrev main_call2_v6 : Ref sig .tc := ⟨.hbm, 72, rfl⟩
abbrev main_call2_v7 : Ref sig .tc := ⟨.hbm, 73, rfl⟩
abbrev main_call2_v8 : Ref sig .tc := ⟨.hbm, 74, rfl⟩
abbrev main_call2_c : Ref sig .tc := ⟨.hbm, 75, rfl⟩
abbrev main_call2_v9 : Ref sig .tc := ⟨.hbm, 76, rfl⟩
abbrev main_call2_v10 : Ref sig .tc := ⟨.hbm, 77, rfl⟩
abbrev main_call2_v11 : Ref sig .tc := ⟨.hbm, 78, rfl⟩
abbrev main_call2_c_0 : Ref sig .tc := ⟨.hbm, 79, rfl⟩
abbrev main_call2_v12 : Ref sig .tc := ⟨.hbm, 80, rfl⟩
abbrev main_call2_v13 : Ref sig .tc := ⟨.hbm, 81, rfl⟩
abbrev main_v20 : Ref sig .tc := ⟨.hbm, 82, rfl⟩
abbrev main_v21 : Ref sig .tc := ⟨.hbm, 83, rfl⟩
abbrev main_v22 : Ref sig .tc := ⟨.hbm, 84, rfl⟩
abbrev main_v23 : Ref sig .tc := ⟨.hbm, 85, rfl⟩
abbrev main_v24 : Ref sig .tc := ⟨.hbm, 86, rfl⟩
abbrev main_v25_0 : Ref sig .tc := ⟨.hbm, 87, rfl⟩
abbrev main_v25_1 : Ref sig .tc := ⟨.hbm, 88, rfl⟩
abbrev main_v26 : Ref sig .tc := ⟨.hbm, 89, rfl⟩
abbrev main_v27 : Ref sig .tc := ⟨.hbm, 90, rfl⟩
abbrev main_v28 : Ref sig .tc := ⟨.hbm, 91, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_scratch0 : Ref sig .tc := ⟨.vmem, 18, rfl⟩
abbrev cc0_scratch1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem9_1 : DmaSem sig := 16
abbrev cc0_sem10_0 : DmaSem sig := 17

abbrev nD : Nat := 1
abbrev τ : Topo := Topo.v7x

variable {F : FTy → Type} [FloatOps F]

abbrev grid0 : Pipeline.Grid := ⟨2, ![1, 32], ![false, false]⟩

@[reducible] def k0_t1_loop : Scf.Loop 32 :=
  let c0_i32_4 : BitVec 32 := 0#32
  let c64_i32 : BitVec 32 := 64#32
  let v9 : BitVec 32 := Scalar.addi c0_i32_4 c64_i32
  let c1_i32 : BitVec 32 := 1#32
  ⟨c0_i32_4, v9, c1_i32⟩
def k0_off1 (k0_t1 : Fin k0_t1_loop.trips) : Fin 3 → Nat :=
  let c0_69 : Index := 0#32
  let c0_i32_4 : BitVec 32 := 0#32
  let c1_i32 : BitVec 32 := 1#32
  let arg15 : BitVec 32 := Scf.iv c0_i32_4 c1_i32 k0_t1
  let v140 : Index := Scalar.indexCast arg15
  let c0_70 : Index := 0#32
  ![0, v140.toNat, 0]
def k0_off2 (k0_t1 : Fin k0_t1_loop.trips) : Fin 3 → Nat :=
  let c0_79 : Index := 0#32
  let c0_i32_4 : BitVec 32 := 0#32
  let c1_i32 : BitVec 32 := 1#32
  let arg15 : BitVec 32 := Scf.iv c0_i32_4 c1_i32 k0_t1
  let c1_i32_67 : BitVec 32 := 1#32
  let v138 : BitVec 32 := Scalar.subi arg15 c1_i32_67
  let c0_i32_68 : BitVec 32 := 0#32
  let v139 : BitVec 32 := Scalar.maxsi v138 c0_i32_68
  let v157 : Index := Scalar.indexCast v139
  let c0_80 : Index := 0#32
  ![0, v157.toNat, 0]
def k0_cond2 (k0_t1 : Fin k0_t1_loop.trips) : BitVec 1 :=
  let c0_i32_4 : BitVec 32 := 0#32
  let c1_i32 : BitVec 32 := 1#32
  let arg15 : BitVec 32 := Scf.iv c0_i32_4 c1_i32 k0_t1
  let c0_i32_226 : BitVec 32 := 0#32
  let v619 : BitVec 1 := Scalar.cmpi .sgt arg15 c0_i32_226
  let v620 : BitVec 32 := Scalar.extui v619
  let c0_i32_227 : BitVec 32 := 0#32
  let v621 : BitVec 1 := Scalar.cmpi .ne v620 c0_i32_227
  v621

def k0_off3 (k0_t1 : Fin k0_t1_loop.trips) : Fin 3 → Nat :=
  let c0_228 : Index := 0#32
  let c0_i32_4 : BitVec 32 := 0#32
  let c1_i32 : BitVec 32 := 1#32
  let arg15 : BitVec 32 := Scf.iv c0_i32_4 c1_i32 k0_t1
  let c1_i32_67 : BitVec 32 := 1#32
  let v138 : BitVec 32 := Scalar.subi arg15 c1_i32_67
  let c0_i32_68 : BitVec 32 := 0#32
  let v139 : BitVec 32 := Scalar.maxsi v138 c0_i32_68
  let v622 : Index := Scalar.indexCast v139
  let c0_229 : Index := 0#32
  ![0, v622.toNat, 0]
def k0_off4 (k0_t1 : Fin k0_t1_loop.trips) : Fin 3 → Nat :=
  let c0_230 : Index := 0#32
  let c0_i32_4 : BitVec 32 := 0#32
  let c1_i32 : BitVec 32 := 1#32
  let arg15 : BitVec 32 := Scf.iv c0_i32_4 c1_i32 k0_t1
  let c1_i32_67 : BitVec 32 := 1#32
  let v138 : BitVec 32 := Scalar.subi arg15 c1_i32_67
  let c0_i32_68 : BitVec 32 := 0#32
  let v139 : BitVec 32 := Scalar.maxsi v138 c0_i32_68
  let v624 : Index := Scalar.indexCast v139
  let c256_231 : Index := 256#32
  ![0, v624.toNat, 256]
def k0_off5 (k0_t1 : Fin k0_t1_loop.trips) : Fin 3 → Nat :=
  let c0_232 : Index := 0#32
  let c0_i32_4 : BitVec 32 := 0#32
  let c1_i32 : BitVec 32 := 1#32
  let arg15 : BitVec 32 := Scf.iv c0_i32_4 c1_i32 k0_t1
  let c1_i32_67 : BitVec 32 := 1#32
  let v138 : BitVec 32 := Scalar.subi arg15 c1_i32_67
  let c0_i32_68 : BitVec 32 := 0#32
  let v139 : BitVec 32 := Scalar.maxsi v138 c0_i32_68
  let v626 : Index := Scalar.indexCast v139
  let c512_233 : Index := 512#32
  ![0, v626.toNat, 512]
def k0_off6 (k0_t1 : Fin k0_t1_loop.trips) : Fin 3 → Nat :=
  let c0_234 : Index := 0#32
  let c0_i32_4 : BitVec 32 := 0#32
  let c1_i32 : BitVec 32 := 1#32
  let arg15 : BitVec 32 := Scf.iv c0_i32_4 c1_i32 k0_t1
  let c1_i32_67 : BitVec 32 := 1#32
  let v138 : BitVec 32 := Scalar.subi arg15 c1_i32_67
  let c0_i32_68 : BitVec 32 := 0#32
  let v139 : BitVec 32 := Scalar.maxsi v138 c0_i32_68
  let v628 : Index := Scalar.indexCast v139
  let c768_235 : Index := 768#32
  ![0, v628.toNat, 768]
def k0_off7 (k0_t1 : Fin k0_t1_loop.trips) : Fin 3 → Nat :=
  let c0_236 : Index := 0#32
  let c0_i32_4 : BitVec 32 := 0#32
  let c1_i32 : BitVec 32 := 1#32
  let arg15 : BitVec 32 := Scf.iv c0_i32_4 c1_i32 k0_t1
  let c1_i32_67 : BitVec 32 := 1#32
  let v138 : BitVec 32 := Scalar.subi arg15 c1_i32_67
  let c0_i32_68 : BitVec 32 := 0#32
  let v139 : BitVec 32 := Scalar.maxsi v138 c0_i32_68
  let v630 : Index := Scalar.indexCast v139
  let c1024_237 : Index := 1024#32
  ![0, v630.toNat, 1024]
def k0_off8 (k0_t1 : Fin k0_t1_loop.trips) : Fin 3 → Nat :=
  let c0_238 : Index := 0#32
  let c0_i32_4 : BitVec 32 := 0#32
  let c1_i32 : BitVec 32 := 1#32
  let arg15 : BitVec 32 := Scf.iv c0_i32_4 c1_i32 k0_t1
  let c1_i32_67 : BitVec 32 := 1#32
  let v138 : BitVec 32 := Scalar.subi arg15 c1_i32_67
  let c0_i32_68 : BitVec 32 := 0#32
  let v139 : BitVec 32 := Scalar.maxsi v138 c0_i32_68
  let v632 : Index := Scalar.indexCast v139
  let c1280_239 : Index := 1280#32
  ![0, v632.toNat, 1280]
def k0_off9 (k0_t1 : Fin k0_t1_loop.trips) : Fin 3 → Nat :=
  let c0_240 : Index := 0#32
  let c0_i32_4 : BitVec 32 := 0#32
  let c1_i32 : BitVec 32 := 1#32
  let arg15 : BitVec 32 := Scf.iv c0_i32_4 c1_i32 k0_t1
  let c1_i32_67 : BitVec 32 := 1#32
  let v138 : BitVec 32 := Scalar.subi arg15 c1_i32_67
  let c0_i32_68 : BitVec 32 := 0#32
  let v139 : BitVec 32 := Scalar.maxsi v138 c0_i32_68
  let v634 : Index := Scalar.indexCast v139
  let c1536_241 : Index := 1536#32
  ![0, v634.toNat, 1536]
def k0_off10 (k0_t1 : Fin k0_t1_loop.trips) : Fin 3 → Nat :=
  let c0_242 : Index := 0#32
  let c0_i32_4 : BitVec 32 := 0#32
  let c1_i32 : BitVec 32 := 1#32
  let arg15 : BitVec 32 := Scf.iv c0_i32_4 c1_i32 k0_t1
  let c1_i32_67 : BitVec 32 := 1#32
  let v138 : BitVec 32 := Scalar.subi arg15 c1_i32_67
  let c0_i32_68 : BitVec 32 := 0#32
  let v139 : BitVec 32 := Scalar.maxsi v138 c0_i32_68
  let v636 : Index := Scalar.indexCast v139
  let c1792_243 : Index := 1792#32
  ![0, v636.toNat, 1792]
def k0_cond3 (i : grid0.Coords) : BitVec 1 :=
  let arg1 : BitVec 32 := BitVec.ofNat 32 (i 1).val
  let c31_i32 : BitVec 32 := 31#32
  let v135 : BitVec 1 := Scalar.cmpi .eq arg1 c31_i32
  let v136 : BitVec 32 := Scalar.extui v135
  let c0_i32_66 : BitVec 32 := 0#32
  let v137 : BitVec 1 := Scalar.cmpi .ne v136 c0_i32_66
  v137

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage0_0 : Fin 2 → Memref sig .tc .vmem S4x64x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4x64x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4x64x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S4x64x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S4x64x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S4x64x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S8x4x64x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, false]

abbrev stage0_7 : Fin 1 → Memref sig .tc .vmem S256x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S64x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S4x64x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 1 → Memref sig .tc .vmem S8x4x64x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true, false]
-- ==== ReferenceIdeal.lean ====
abbrev S4x2048x32x64 : Shape := ⟨4, ![4, 2048, 32, 64]⟩
abbrev S_ : Shape := ⟨0, ![]⟩
abbrev S4x32x64x64 : Shape := ⟨4, ![4, 32, 64, 64]⟩
abbrev S2048x4x32x64 : Shape := ⟨4, ![2048, 4, 32, 64]⟩
abbrev S1x4x32x64 : Shape := ⟨4, ![1, 4, 32, 64]⟩
abbrev S4x32x64 : Shape := ⟨3, ![4, 32, 64]⟩
abbrev S4x32x1x64 : Shape := ⟨4, ![4, 32, 1, 64]⟩
abbrev S4x32x64x1 : Shape := ⟨4, ![4, 32, 64, 1]⟩
abbrev S4x2048x2048 : Shape := ⟨3, ![4, 2048, 2048]⟩

abbrev nBuf : Space → Nat
  | .hbm => 84
  | .vmem => 0
  | .smem => 0
  | _ => 0

abbrev bufTy : (tb : Table) → Fin (tcTables nBuf tb) → BufTy
  | .hbm, ⟨0, _⟩ => ⟨S4x2048x32x64, .f32⟩
  | .hbm, ⟨1, _⟩ => ⟨S4x2048x32x64, .f32⟩
  | .hbm, ⟨2, _⟩ => ⟨S4x2048x32x64, .f32⟩
  | .hbm, ⟨3, _⟩ => ⟨S4x2048x32x64, .f32⟩
  | .hbm, ⟨4, _⟩ => ⟨S4x2048x32x64, .f32⟩
  | .hbm, ⟨5, _⟩ => ⟨S4x2048x32x64, .f32⟩
  | .hbm, ⟨6, _⟩ => ⟨S_, .f32⟩
  | .hbm, ⟨7, _⟩ => ⟨S4x32x64x64, .f32⟩
  | .hbm, ⟨8, _⟩ => ⟨S2048x4x32x64, .f32⟩
  | .hbm, ⟨9, _⟩ => ⟨S2048x4x32x64, .f32⟩
  | .hbm, ⟨10, _⟩ => ⟨S2048x4x32x64, .f32⟩
  | .hbm, ⟨11, _⟩ => ⟨S2048x4x32x64, .f32⟩
  | .hbm, ⟨12, _⟩ => ⟨S2048x4x32x64, .f32⟩
  | .hbm, ⟨13, _⟩ => ⟨S2048x4x32x64, .f32⟩
  | .hbm, ⟨14, _⟩ => ⟨S_, .f32⟩
  | .hbm, ⟨15, _⟩ => ⟨S2048x4x32x64, .f32⟩
  | .hbm, ⟨16, _⟩ => ⟨S_, .i32⟩
  | .hbm, ⟨17, _⟩ => ⟨S2048x4x32x64, .f32⟩
  | .hbm, ⟨18, _⟩ => ⟨S2048x4x32x64, .f32⟩
  | .hbm, ⟨19, _⟩ => ⟨S2048x4x32x64, .f32⟩
  | .hbm, ⟨20, _⟩ => ⟨S2048x4x32x64, .f32⟩
  | .hbm, ⟨21, _⟩ => ⟨S2048x4x32x64, .f32⟩
  | .hbm, ⟨22, _⟩ => ⟨S2048x4x32x64, .f32⟩
  | .hbm, ⟨23, _⟩ => ⟨S_, .i32⟩
  | .hbm, ⟨24, _⟩ => ⟨S4x32x64x64, .f32⟩
  | .hbm, ⟨25, _⟩ => ⟨S2048x4x32x64, .f32⟩
  | .hbm, ⟨26, _⟩ => ⟨S_, .i32⟩
  | .hbm, ⟨27, _⟩ => ⟨S_, .i1⟩
  | .hbm, ⟨28, _⟩ => ⟨S_, .i32⟩
  | .hbm, ⟨29, _⟩ => ⟨S_, .i32⟩
  | .hbm, ⟨30, _⟩ => ⟨S_, .i32⟩
  | .hbm, ⟨31, _⟩ => ⟨S1x4x32x64, .f32⟩
  | .hbm, ⟨32, _⟩ => ⟨S4x32x64, .f32⟩
  | .hbm, ⟨33, _⟩ => ⟨S_, .i32⟩
  | .hbm, ⟨34, _⟩ => ⟨S_, .i32⟩
  | .hbm, ⟨35, _⟩ => ⟨S_, .i32⟩
  | .hbm, ⟨36, _⟩ => ⟨S1x4x32x64, .f32⟩
  | .hbm, ⟨37, _⟩ => ⟨S4x32x64, .f32⟩
  | .hbm, ⟨38, _⟩ => ⟨S_, .i32⟩
  | .hbm, ⟨39, _⟩ => ⟨S_, .i32⟩
  | .hbm, ⟨40, _⟩ => ⟨S_, .i32⟩
  | .hbm, ⟨41, _⟩ => ⟨S1x4x32x64, .f32⟩
  | .hbm, ⟨42, _⟩ => ⟨S4x32x64, .f32⟩
  | .hbm, ⟨43, _⟩ => ⟨S_, .i32⟩
  | .hbm, ⟨44, _⟩ => ⟨S_, .i32⟩
  | .hbm, ⟨45, _⟩ => ⟨S_, .i32⟩
  | .hbm, ⟨46, _⟩ => ⟨S1x4x32x64, .f32⟩
  | .hbm, ⟨47, _⟩ => ⟨S4x32x64, .f32⟩
  | .hbm, ⟨48, _⟩ => ⟨S_, .i32⟩
  | .hbm, ⟨49, _⟩ => ⟨S_, .i32⟩
  | .hbm, ⟨50, _⟩ => ⟨S_, .i32⟩
  | .hbm, ⟨51, _⟩ => ⟨S1x4x32x64, .f32⟩
  | .hbm, ⟨52, _⟩ => ⟨S4x32x64, .f32⟩
  | .hbm, ⟨53, _⟩ => ⟨S_, .i32⟩
  | .hbm, ⟨54, _⟩ => ⟨S_, .i32⟩
  | .hbm, ⟨55, _⟩ => ⟨S_, .i32⟩
  | .hbm, ⟨56, _⟩ => ⟨S1x4x32x64, .f32⟩
  | .hbm, ⟨57, _⟩ => ⟨S4x32x64, .f32⟩
  | .hbm, ⟨58, _⟩ => ⟨S4x32x64, .f32⟩
  | .hbm, ⟨59, _⟩ => ⟨S4x32x1x64, .f32⟩
  | .hbm, ⟨60, _⟩ => ⟨S4x32x64x64, .f32⟩
  | .hbm, ⟨61, _⟩ => ⟨S4x32x64x64, .f32⟩
  | .hbm, ⟨62, _⟩ => ⟨S4x32x64x1, .f32⟩
  | .hbm, ⟨63, _⟩ => ⟨S4x32x1x64, .f32⟩
  | .hbm, ⟨64, _⟩ => ⟨S4x32x64x64, .f32⟩
  | .hbm, ⟨65, _⟩ => ⟨S4x32x64x64, .f32⟩
  | .hbm, ⟨66, _⟩ => ⟨S4x32x64x64, .f32⟩
  | .hbm, ⟨67, _⟩ => ⟨S4x32x64x64, .f32⟩
  | .hbm, ⟨68, _⟩ => ⟨S4x32x64x1, .f32⟩
  | .hbm, ⟨69, _⟩ => ⟨S4x32x1x64, .f32⟩
  | .hbm, ⟨70, _⟩ => ⟨S4x32x64x64, .f32⟩
  | .hbm, ⟨71, _⟩ => ⟨S4x32x64x64, .f32⟩
  | .hbm, ⟨72, _⟩ => ⟨S4x32x64x64, .f32⟩
  | .hbm, ⟨73, _⟩ => ⟨S4x32x64x64, .f32⟩
  | .hbm, ⟨74, _⟩ => ⟨S4x32x64, .f32⟩
  | .hbm, ⟨75, _⟩ => ⟨S1x4x32x64, .f32⟩
  | .hbm, ⟨76, _⟩ => ⟨S_, .i32⟩
  | .hbm, ⟨77, _⟩ => ⟨S_, .i32⟩
  | .hbm, ⟨78, _⟩ => ⟨S_, .i32⟩
  | .hbm, ⟨79, _⟩ => ⟨S2048x4x32x64, .f32⟩
  | .hbm, ⟨80, _⟩ => ⟨S_, .i32⟩
  | .hbm, ⟨81, _⟩ => ⟨S_, .i32⟩
  | .hbm, ⟨82, _⟩ => ⟨S4x2048x32x64, .f32⟩
  | .hbm, ⟨83, _⟩ => ⟨S4x2048x2048, .f32⟩
  | _, _ => ⟨S4x2048x32x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_c : Ref sig .tc := ⟨.hbm, 16, rfl⟩
abbrev main_v8_0 : Ref sig .tc := ⟨.hbm, 17, rfl⟩
abbrev main_v8_1 : Ref sig .tc := ⟨.hbm, 18, rfl⟩
abbrev main_v8_2 : Ref sig .tc := ⟨.hbm, 19, rfl⟩
abbrev main_v8_3 : Ref sig .tc := ⟨.hbm, 20, rfl⟩
abbrev main_v8_4 : Ref sig .tc := ⟨.hbm, 21, rfl⟩
abbrev main_v8_5 : Ref sig .tc := ⟨.hbm, 22, rfl⟩
abbrev main_v8_6 : Ref sig .tc := ⟨.hbm, 23, rfl⟩
abbrev main_v8_7 : Ref sig .tc := ⟨.hbm, 24, rfl⟩
abbrev main_v8_8 : Ref sig .tc := ⟨.hbm, 25, rfl⟩
abbrev main_while0c_c_9 : Ref sig .tc := ⟨.hbm, 26, rfl⟩
abbrev main_while0c_v11 : Ref sig .tc := ⟨.hbm, 27, rfl⟩
abbrev main_while0b_call0_c : Ref sig .tc := ⟨.hbm, 28, rfl⟩
abbrev main_while0b_call0_c_0 : Ref sig .tc := ⟨.hbm, 29, rfl⟩
abbrev main_while0b_call0_c_1 : Ref sig .tc := ⟨.hbm, 30, rfl⟩
abbrev main_while0b_call0_v0 : Ref sig .tc := ⟨.hbm, 31, rfl⟩
abbrev main_while0b_v11 : Ref sig .tc := ⟨.hbm, 32, rfl⟩
abbrev main_while0b_call1_c : Ref sig .tc := ⟨.hbm, 33, rfl⟩
abbrev main_while0b_call1_c_0 : Ref sig .tc := ⟨.hbm, 34, rfl⟩
abbrev main_while0b_call1_c_1 : Ref sig .tc := ⟨.hbm, 35, rfl⟩
abbrev main_while0b_call1_v0 : Ref sig .tc := ⟨.hbm, 36, rfl⟩
abbrev main_while0b_v12 : Ref sig .tc := ⟨.hbm, 37, rfl⟩
abbrev main_while0b_call2_c : Ref sig .tc := ⟨.hbm, 38, rfl⟩
abbrev main_while0b_call2_c_0 : Ref sig .tc := ⟨.hbm, 39, rfl⟩
abbrev main_while0b_call2_c_1 : Ref sig .tc := ⟨.hbm, 40, rfl⟩
abbrev main_while0b_call2_v0 : Ref sig .tc := ⟨.hbm, 41, rfl⟩
abbrev main_while0b_v13 : Ref sig .tc := ⟨.hbm, 42, rfl⟩
abbrev main_while0b_call3_c : Ref sig .tc := ⟨.hbm, 43, rfl⟩
abbrev main_while0b_call3_c_0 : Ref sig .tc := ⟨.hbm, 44, rfl⟩
abbrev main_while0b_call3_c_1 : Ref sig .tc := ⟨.hbm, 45, rfl⟩
abbrev main_while0b_call3_v0 : Ref sig .tc := ⟨.hbm, 46, rfl⟩
abbrev main_while0b_v14 : Ref sig .tc := ⟨.hbm, 47, rfl⟩
abbrev main_while0b_call4_c : Ref sig .tc := ⟨.hbm, 48, rfl⟩
abbrev main_while0b_call4_c_0 : Ref sig .tc := ⟨.hbm, 49, rfl⟩
abbrev main_while0b_call4_c_1 : Ref sig .tc := ⟨.hbm, 50, rfl⟩
abbrev main_while0b_call4_v0 : Ref sig .tc := ⟨.hbm, 51, rfl⟩
abbrev main_while0b_v15 : Ref sig .tc := ⟨.hbm, 52, rfl⟩
abbrev main_while0b_call5_c : Ref sig .tc := ⟨.hbm, 53, rfl⟩
abbrev main_while0b_call5_c_0 : Ref sig .tc := ⟨.hbm, 54, rfl⟩
abbrev main_while0b_call5_c_1 : Ref sig .tc := ⟨.hbm, 55, rfl⟩
abbrev main_while0b_call5_v0 : Ref sig .tc := ⟨.hbm, 56, rfl⟩
abbrev main_while0b_v16 : Ref sig .tc := ⟨.hbm, 57, rfl⟩
abbrev main_while0b_v17 : Ref sig .tc := ⟨.hbm, 58, rfl⟩
abbrev main_while0b_v18 : Ref sig .tc := ⟨.hbm, 59, rfl⟩
abbrev main_while0b_v19 : Ref sig .tc := ⟨.hbm, 60, rfl⟩
abbrev main_while0b_v20 : Ref sig .tc := ⟨.hbm, 61, rfl⟩
abbrev main_while0b_v21 : Ref sig .tc := ⟨.hbm, 62, rfl⟩
abbrev main_while0b_v22 : Ref sig .tc := ⟨.hbm, 63, rfl⟩
abbrev main_while0b_v23 : Ref sig .tc := ⟨.hbm, 64, rfl⟩
abbrev main_while0b_v24 : Ref sig .tc := ⟨.hbm, 65, rfl⟩
abbrev main_while0b_v25 : Ref sig .tc := ⟨.hbm, 66, rfl⟩
abbrev main_while0b_v26 : Ref sig .tc := ⟨.hbm, 67, rfl⟩
abbrev main_while0b_v27 : Ref sig .tc := ⟨.hbm, 68, rfl⟩
abbrev main_while0b_v28 : Ref sig .tc := ⟨.hbm, 69, rfl⟩
abbrev main_while0b_v29 : Ref sig .tc := ⟨.hbm, 70, rfl⟩
abbrev main_while0b_v30 : Ref sig .tc := ⟨.hbm, 71, rfl⟩
abbrev main_while0b_v31 : Ref sig .tc := ⟨.hbm, 72, rfl⟩
abbrev main_while0b_v32 : Ref sig .tc := ⟨.hbm, 73, rfl⟩
abbrev main_while0b_v33 : Ref sig .tc := ⟨.hbm, 74, rfl⟩
abbrev main_while0b_call6_v0 : Ref sig .tc := ⟨.hbm, 75, rfl⟩
abbrev main_while0b_call6_c : Ref sig .tc := ⟨.hbm, 76, rfl⟩
abbrev main_while0b_call6_c_0 : Ref sig .tc := ⟨.hbm, 77, rfl⟩
abbrev main_while0b_call6_c_1 : Ref sig .tc := ⟨.hbm, 78, rfl⟩
abbrev main_while0b_v34 : Ref sig .tc := ⟨.hbm, 79, rfl⟩
abbrev main_while0b_c_9 : Ref sig .tc := ⟨.hbm, 80, rfl⟩
abbrev main_while0b_v35 : Ref sig .tc := ⟨.hbm, 81, rfl⟩
abbrev main_v9 : Ref sig .tc := ⟨.hbm, 82, rfl⟩
abbrev main_v10 : Ref sig .tc := ⟨.hbm, 83, rfl⟩

abbrev nD : Nat := 1
abbrev τ : Topo := Topo.v7x

variable {F : FTy → Type} [FloatOps F]

abbrev main_while0_count : Scf.Loop 32 := ⟨0#32, 2048#32, 1#32⟩
-- ==== Experts.lean ====
abbrev S20480x4096 : Shape := ⟨2, ![20480, 4096]⟩
abbrev S8x4096x14336 : Shape := ⟨3, ![8, 4096, 14336]⟩
abbrev S40 : Shape := ⟨1, ![40]⟩
abbrev S1x40 : Shape := ⟨2, ![1, 40]⟩
abbrev S40x1 : Shape := ⟨2, ![40, 1]⟩
abbrev S40x40 : Shape := ⟨2, ![40, 40]⟩
abbrev S_ : Shape := ⟨0, ![]⟩
abbrev S20480x14336 : Shape := ⟨2, ![20480, 14336]⟩
abbrev S512x4096 : Shape := ⟨2, ![512, 4096]⟩
abbrev S512x512 : Shape := ⟨2, ![512, 512]⟩
abbrev S4096x512 : Shape := ⟨2, ![4096, 512]⟩
abbrev S2 : Shape := ⟨1, ![2]⟩
abbrev S1 : Shape := ⟨1, ![1]⟩
abbrev S1x4096x512 : Shape := ⟨3, ![1, 4096, 512]⟩
abbrev S128x4096 : Shape := ⟨2, ![128, 4096]⟩
abbrev S128x512 : Shape := ⟨2, ![128, 512]⟩

abbrev nBuf : Space → Nat
  | .hbm => 22
  | .vmem => 8
  | .smem => 3
  | _ => 0

abbrev bufTy : (tb : Table) → Fin (tcTables nBuf tb) → BufTy
  | .hbm, ⟨0, _⟩ => ⟨S20480x4096, .bf16⟩
  | .hbm, ⟨1, _⟩ => ⟨S8x4096x14336, .f32⟩
  | .hbm, ⟨2, _⟩ => ⟨S8x4096x14336, .f32⟩
  | .hbm, ⟨3, _⟩ => ⟨S1x40, .i32⟩
  | .hbm, ⟨4, _⟩ => ⟨S40x1, .i32⟩
  | .hbm, ⟨5, _⟩ => ⟨S40x40, .i32⟩
  | .hbm, ⟨6, _⟩ => ⟨S40x40, .i32⟩
  | .hbm, ⟨7, _⟩ => ⟨S40x40, .i1⟩
  | .hbm, ⟨8, _⟩ => ⟨S1x40, .i32⟩
  | .hbm, ⟨9, _⟩ => ⟨S_, .i32⟩
  | .hbm, ⟨10, _⟩ => ⟨S40x40, .i32⟩
  | .hbm, ⟨11, _⟩ => ⟨S40x40, .i32⟩
  | .hbm, ⟨12, _⟩ => ⟨S40x40, .i32⟩
  | .hbm, ⟨13, _⟩ => ⟨S_, .i32⟩
  | .hbm, ⟨14, _⟩ => ⟨S40, .i32⟩
  | .hbm, ⟨15, _⟩ => ⟨S_, .i32⟩
  | .hbm, ⟨16, _⟩ => ⟨S40, .i32⟩
  | .hbm, ⟨17, _⟩ => ⟨S40, .i1⟩
  | .hbm, ⟨18, _⟩ => ⟨S_, .i32⟩
  | .hbm, ⟨19, _⟩ => ⟨S_, .i32⟩
  | .hbm, ⟨20, _⟩ => ⟨S40, .i32⟩
  | .hbm, ⟨21, _⟩ => ⟨S20480x14336, .bf16⟩
  | .local _ .vmem, ⟨0, _⟩ => ⟨S512x4096, .bf16⟩
  | .local _ .vmem, ⟨1, _⟩ => ⟨S512x4096, .bf16⟩
  | .local _ .vmem, ⟨2, _⟩ => ⟨S512x512, .bf16⟩
  | .local _ .vmem, ⟨3, _⟩ => ⟨S512x512, .bf16⟩
  | .local _ .vmem, ⟨4, _⟩ => ⟨S4096x512, .f32⟩
  | .local _ .vmem, ⟨5, _⟩ => ⟨S4096x512, .f32⟩
  | .local _ .vmem, ⟨6, _⟩ => ⟨S4096x512, .bf16⟩
  | .local _ .vmem, ⟨7, _⟩ => ⟨S4096x512, .bf16⟩
  | .local _ .smem, ⟨0, _⟩ => ⟨S40, .i32⟩
  | .local _ .smem, ⟨1, _⟩ => ⟨S40, .i32⟩
  | .local _ .smem, ⟨2, _⟩ => ⟨S40, .i32⟩
  | _, _ => ⟨S20480x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_c : Ref sig .tc := ⟨.hbm, 9, rfl⟩
abbrev main_call0_v0 : Ref sig .tc := ⟨.hbm, 10, rfl⟩
abbrev main_call0_v1 : Ref sig .tc := ⟨.hbm, 11, rfl⟩
abbrev main_v6 : Ref sig .tc := ⟨.hbm, 12, rfl⟩
abbrev main_c_0 : Ref sig .tc := ⟨.hbm, 13, rfl⟩
abbrev main_v7 : Ref sig .tc := ⟨.hbm, 14, rfl⟩
abbrev main_c_1 : Ref sig .tc := ⟨.hbm, 15, rfl⟩
abbrev main_v8 : Ref sig .tc := ⟨.hbm, 16, rfl⟩
abbrev main_v9 : Ref sig .tc := ⟨.hbm, 17, rfl⟩
abbrev main_c_2 : Ref sig .tc := ⟨.hbm, 18, rfl⟩
abbrev main_call1_v0 : Ref sig .tc := ⟨.hbm, 19, rfl⟩
abbrev main_call1_v1 : Ref sig .tc := ⟨.hbm, 20, rfl⟩
abbrev main_v11 : Ref sig .tc := ⟨.hbm, 21, rfl⟩
abbrev main_arg3 : Ref sig .tc := ⟨.smem, 0, rfl⟩
abbrev main_arg4 : Ref sig .tc := ⟨.smem, 1, rfl⟩
abbrev main_v10 : Ref sig .tc := ⟨.smem, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![28, 40], ![false, false]⟩

abbrev pre0 : Pipeline.Prefetch sig := ⟨3, ![main_arg3.idx, main_arg4.idx, main_v10.idx], fun | 0 => main_arg3.names | 1 => main_arg4.names | 2 => main_v10.names | ⟨_ + 3, h⟩ => absurd h (Nat.not_lt.2 (Nat.le_add_left _ _)), fun | 0 => rfl | 1 => rfl | 2 => rfl | ⟨_ + 3, h⟩ => absurd h (Nat.not_lt.2 (Nat.le_add_left _ _))⟩

def k0_off1 (i : grid0.Coords) : Fin 1 → Nat :=
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let v2 : Index := Scalar.indexCast v1
  ![v2.toNat]
def k0_off2 (i : grid0.Coords) : Fin 1 → Nat :=
  let arg1 : BitVec 32 := BitVec.ofNat 32 (i 1).val
  let v5 : Index := Scalar.indexCast arg1
  ![v5.toNat]
def k0_off3 (i : grid0.Coords) : Fin 1 → Nat :=
  let arg1 : BitVec 32 := BitVec.ofNat 32 (i 1).val
  let v67 : Index := Scalar.indexCast arg1
  ![v67.toNat]
def k0_cond2 (i : grid0.Coords) : BitVec 1 :=
  let arg0 : BitVec 32 := BitVec.ofNat 32 (i 0).val
  let c0_i32_35 : BitVec 32 := 0#32
  let v69 : BitVec 1 := Scalar.cmpi .eq arg0 c0_i32_35
  let arg1 : BitVec 32 := BitVec.ofNat 32 (i 1).val
  let c0_i32_36 : BitVec 32 := 0#32
  let v70 : BitVec 1 := Scalar.cmpi .eq arg1 c0_i32_36
  let v71 : BitVec 1 := Scalar.andi v69 v70
  let v72 : BitVec 32 := Scalar.extui v71
  let c0_i32_37 : BitVec 32 := 0#32
  let v73 : BitVec 1 := Scalar.cmpi .ne v72 c0_i32_37
  v73

def k0_mult1 (i : grid0.Coords) : BitVec 32 :=
  let arg0 : BitVec 32 := BitVec.ofNat 32 (i 0).val
  let c512_i32_55 : BitVec 32 := 512#32
  let v108 : BitVec 32 := Scalar.muli arg0 c512_i32_55
  v108
def k0_off4 (i : grid0.Coords) (v68 : BitVec 32) : Fin 3 → Nat :=
  let c0_i32_57 : BitVec 32 := 0#32
  let arg0 : BitVec 32 := BitVec.ofNat 32 (i 0).val
  let c512_i32_55 : BitVec 32 := 512#32
  let v108 : BitVec 32 := Scalar.muli arg0 c512_i32_55
  let v109 : BitVec 32 := v108
  ![v68.toNat, 0, v109.toNat]
def k0_cond1 (i : grid0.Coords) (v3 : BitVec 32) (v6 : BitVec 32) : BitVec 1 :=
  let arg1 : BitVec 32 := BitVec.ofNat 32 (i 1).val
  let c0_i32_0 : BitVec 32 := 0#32
  let v4 : BitVec 1 := Scalar.cmpi .eq arg1 c0_i32_0
  let v7 : BitVec 1 := Scalar.cmpi .ne v6 v3
  let v8 : BitVec 1 := Scalar.ori v4 v7
  let v9 : BitVec 32 := Scalar.extui v8
  let c0_i32_1 : BitVec 32 := 0#32
  let v10 : BitVec 1 := Scalar.cmpi .ne v9 c0_i32_1
  v10

def k0_mult2 (i : grid0.Coords) : BitVec 32 :=
  let arg0 : BitVec 32 := BitVec.ofNat 32 (i 0).val
  let c512_i32_58 : BitVec 32 := 512#32
  let v114 : BitVec 32 := Scalar.muli arg0 c512_i32_58
  v114
def k0_mult3 (i : grid0.Coords) : BitVec 32 :=
  let arg0 : BitVec 32 := BitVec.ofNat 32 (i 0).val
  let c512_i32 : BitVec 32 := 512#32
  let v74 : BitVec 32 := Scalar.muli arg0 c512_i32
  v74
def k0_off5 (i : grid0.Coords) (v68 : BitVec 32) : Fin 3 → Nat :=
  let c0_i32_39 : BitVec 32 := 0#32
  let arg0 : BitVec 32 := BitVec.ofNat 32 (i 0).val
  let c512_i32 : BitVec 32 := 512#32
  let v74 : BitVec 32 := Scalar.muli arg0 c512_i32
  let v75 : BitVec 32 := v74
  ![v68.toNat, 0, v75.toNat]

def k0_chk1 (i : grid0.Coords) (v3 : BitVec 32) (v6 : BitVec 32) (v68 : BitVec 32) : Prop :=
  (∀ (k0_h1 : k0_cond1 i v3 v6 = 1#1), ∀ (k0_h2 : k0_cond2 i = 1#1), ∀ a, (k0_off4 i v68) a + S1x4096x512.size a ≤ S8x4096x14336.size a) ∧
  (∀ (k0_h1 : k0_cond1 i v3 v6 = 1#1), ∀ a, (k0_off5 i v68) a + S1x4096x512.size a ≤ S8x4096x14336.size a)
theorem k0_off4_inb : ∀ (i : grid0.Coords) (v3 : BitVec 32) (v6 : BitVec 32) (v68 : BitVec 32) (k0_hw1 : k0_chk1 i v3 v6 v68), ∀ (k0_h1 : k0_cond1 i v3 v6 = 1#1), ∀ (k0_h2 : k0_cond2 i = 1#1), ∀ a, (k0_off4 i v68) a + S1x4096x512.size a ≤ S8x4096x14336.size a := fun i v3 v6 v68 k0_hw1 k0_h1 k0_h2 => k0_hw1.1 k0_h1 k0_h2
theorem k0_off5_inb : ∀ (i : grid0.Coords) (v3 : BitVec 32) (v6 : BitVec 32) (v68 : BitVec 32) (k0_hw1 : k0_chk1 i v3 v6 v68), ∀ (k0_h1 : k0_cond1 i v3 v6 = 1#1), ∀ a, (k0_off5 i v68) a + S1x4096x512.size a ≤ S8x4096x14336.size a := fun i v3 v6 v68 k0_hw1 k0_h1 => k0_hw1.2 k0_h1

def k0_mult4 (i : grid0.Coords) : BitVec 32 :=
  let arg0 : BitVec 32 := BitVec.ofNat 32 (i 0).val
  let c512_i32_43 : BitVec 32 := 512#32
  let v85 : BitVec 32 := Scalar.muli arg0 c512_i32_43
  v85
def k0_off6 (i : grid0.Coords) : Fin 1 → Nat :=
  let arg1 : BitVec 32 := BitVec.ofNat 32 (i 1).val
  let v96 : Index := Scalar.indexCast arg1
  ![v96.toNat]
def k0_mult5 (i : grid0.Coords) (v97 : BitVec 32) : BitVec 32 :=
  let c0_i32_50 : BitVec 32 := 0#32
  let v98 : BitVec 1 := Scalar.cmpi .sge v97 c0_i32_50
  let arg0 : BitVec 32 := BitVec.ofNat 32 (i 0).val
  let c1_i32_52 : BitVec 32 := 1#32
  let v101 : BitVec 32 := Scalar.addi arg0 c1_i32_52
  let v102 : BitVec 32 := Scalar.select v98 arg0 v101
  let c512_i32_55 : BitVec 32 := 512#32
  let v108 : BitVec 32 := Scalar.muli v102 c512_i32_55
  v108
def k0_cond3 (i : grid0.Coords) (v97 : BitVec 32) : BitVec 1 :=
  let c0_i32_50 : BitVec 32 := 0#32
  let v98 : BitVec 1 := Scalar.cmpi .sge v97 c0_i32_50
  let arg0 : BitVec 32 := BitVec.ofNat 32 (i 0).val
  let c1_i32_53 : BitVec 32 := 1#32
  let v103 : BitVec 32 := Scalar.addi arg0 c1_i32_53
  let c28_i32 : BitVec 32 := 28#32
  let v104 : BitVec 1 := Scalar.cmpi .slt v103 c28_i32
  let v105 : BitVec 1 := Scalar.ori v98 v104
  let v106 : BitVec 32 := Scalar.extui v105
  let c0_i32_54 : BitVec 32 := 0#32
  let v107 : BitVec 1 := Scalar.cmpi .ne v106 c0_i32_54
  v107

def k0_off7 (i : grid0.Coords) (v97 : BitVec 32) (v99 : BitVec 32) : Fin 3 → Nat :=
  let c0_i32_50 : BitVec 32 := 0#32
  let v98 : BitVec 1 := Scalar.cmpi .sge v97 c0_i32_50
  let v100 : BitVec 32 := Scalar.select v98 v97 v99
  let c0_i32_57 : BitVec 32 := 0#32
  let arg0 : BitVec 32 := BitVec.ofNat 32 (i 0).val
  let c1_i32_52 : BitVec 32 := 1#32
  let v101 : BitVec 32 := Scalar.addi arg0 c1_i32_52
  let v102 : BitVec 32 := Scalar.select v98 arg0 v101
  let c512_i32_55 : BitVec 32 := 512#32
  let v108 : BitVec 32 := Scalar.muli v102 c512_i32_55
  let v109 : BitVec 32 := v108
  ![v100.toNat, 0, v109.toNat]

def k0_chk3 (i : grid0.Coords) (v3 : BitVec 32) (v6 : BitVec 32) (v97 : BitVec 32) (v99 : BitVec 32) : Prop :=
  (∀ (k0_h1 : k0_cond1 i v3 v6 = 1#1), ∀ (k0_h3 : k0_cond3 i v97 = 1#1), ∀ a, (k0_off7 i v97 v99) a + S1x4096x512.size a ≤ S8x4096x14336.size a)
theorem k0_off7_inb : ∀ (i : grid0.Coords) (v3 : BitVec 32) (v6 : BitVec 32) (v97 : BitVec 32) (v99 : BitVec 32) (k0_hw3 : k0_chk3 i v3 v6 v97 v99), ∀ (k0_h1 : k0_cond1 i v3 v6 = 1#1), ∀ (k0_h3 : k0_cond3 i v97 = 1#1), ∀ a, (k0_off7 i v97 v99) a + S1x4096x512.size a ≤ S8x4096x14336.size a := fun i v3 v6 v97 v99 k0_hw3 k0_h1 k0_h3 => k0_hw3 k0_h1 k0_h3

def k0_mult6 (i : grid0.Coords) (v97 : BitVec 32) : BitVec 32 :=
  let c0_i32_50 : BitVec 32 := 0#32
  let v98 : BitVec 1 := Scalar.cmpi .sge v97 c0_i32_50
  let arg0 : BitVec 32 := BitVec.ofNat 32 (i 0).val
  let c1_i32_52 : BitVec 32 := 1#32
  let v101 : BitVec 32 := Scalar.addi arg0 c1_i32_52
  let v102 : BitVec 32 := Scalar.select v98 arg0 v101
  let c512_i32_58 : BitVec 32 := 512#32
  let v114 : BitVec 32 := Scalar.muli v102 c512_i32_58
  v114

def k0_chk2 (i : grid0.Coords) (v3 : BitVec 32) (v6 : BitVec 32) (v97 : BitVec 32) : Prop :=
  (∀ (k0_h1 : k0_cond1 i v3 v6 = 1#1), ∀ (k0_h3 : k0_cond3 i v97 = 1#1), 512 ∣ (k0_mult5 i v97).toNat) ∧
  (∀ (k0_h1 : k0_cond1 i v3 v6 = 1#1), ∀ (k0_h3 : k0_cond3 i v97 = 1#1), 512 ∣ (k0_mult6 i v97).toNat)
theorem k0_mult5_dvd : ∀ (i : grid0.Coords) (v3 : BitVec 32) (v6 : BitVec 32) (v97 : BitVec 32) (k0_hw2 : k0_chk2 i v3 v6 v97), ∀ (k0_h1 : k0_cond1 i v3 v6 = 1#1), ∀ (k0_h3 : k0_cond3 i v97 = 1#1), 512 ∣ (k0_mult5 i v97).toNat := fun i v3 v6 v97 k0_hw2 k0_h1 k0_h3 => k0_hw2.1 k0_h1 k0_h3
theorem k0_mult6_dvd : ∀ (i : grid0.Coords) (v3 : BitVec 32) (v6 : BitVec 32) (v97 : BitVec 32) (k0_hw2 : k0_chk2 i v3 v6 v97), ∀ (k0_h1 : k0_cond1 i v3 v6 = 1#1), ∀ (k0_h3 : k0_cond3 i v97 = 1#1), 512 ∣ (k0_mult6 i v97).toNat := fun i v3 v6 v97 k0_hw2 k0_h1 k0_h3 => k0_hw2.2 k0_h1 k0_h3

def k0_off8 (i : grid0.Coords) : Fin 1 → Nat :=
  let arg1 : BitVec 32 := BitVec.ofNat 32 (i 1).val
  let v11 : Index := Scalar.indexCast arg1
  ![v11.toNat]
def k0_cond4 (v12 : BitVec 32) : BitVec 1 :=
  let c1_i32_2 : BitVec 32 := 1#32
  let v13 : BitVec 1 := Scalar.cmpi .eq v12 c1_i32_2
  let v14 : BitVec 32 := Scalar.extui v13
  let c0_i32_3 : BitVec 32 := 0#32
  let v15 : BitVec 1 := Scalar.cmpi .ne v14 c0_i32_3
  v15

def k0_cond5 (v12 : BitVec 32) : BitVec 1 :=
  let c0_i32_4 : BitVec 32 := 0#32
  let v16 : BitVec 1 := Scalar.cmpi .eq v12 c0_i32_4
  let v17 : BitVec 32 := Scalar.extui v16
  let c0_i32_5 : BitVec 32 := 0#32
  let v18 : BitVec 1 := Scalar.cmpi .ne v17 c0_i32_5
  v18

def k0_cond6 (v12 : BitVec 32) : BitVec 1 :=
  let c8_i32 : BitVec 32 := 8#32
  let v19 : BitVec 1 := Scalar.cmpi .sge v12 c8_i32
  let c8_i32_6 : BitVec 32 := 8#32
  let v20 : BitVec 32 := Scalar.subi v12 c8_i32_6
  let c0_i32_7 : BitVec 32 := 0#32
  let v21 : BitVec 1 := Scalar.cmpi .sgt v20 c0_i32_7
  let v22 : BitVec 1 := Scalar.andi v19 v21
  let v23 : BitVec 32 := Scalar.extui v22
  let c0_i32_8 : BitVec 32 := 0#32
  let v24 : BitVec 1 := Scalar.cmpi .ne v23 c0_i32_8
  v24

def k0_cond7 (v12 : BitVec 32) : BitVec 1 :=
  let c8_i32_9 : BitVec 32 := 8#32
  let v25 : BitVec 1 := Scalar.cmpi .sge v12 c8_i32_9
  let c8_i32_10 : BitVec 32 := 8#32
  let v26 : BitVec 32 := Scalar.subi v12 c8_i32_10
  let c0_i32_11 : BitVec 32 := 0#32
  let v27 : BitVec 1 := Scalar.cmpi .sle v26 c0_i32_11
  let v28 : BitVec 1 := Scalar.andi v25 v27
  let v29 : BitVec 32 := Scalar.extui v28
  let c0_i32_12 : BitVec 32 := 0#32
  let v30 : BitVec 1 := Scalar.cmpi .ne v29 c0_i32_12
  v30

def k0_cond8 (v12 : BitVec 32) : BitVec 1 :=
  let c8_i32_13 : BitVec 32 := 8#32
  let v31 : BitVec 1 := Scalar.cmpi .sge v12 c8_i32_13
  let c8_i32_14 : BitVec 32 := 8#32
  let v32 : BitVec 32 := Scalar.subi v12 c8_i32_14
  let c1_i32_15 : BitVec 32 := 1#32
  let v33 : BitVec 1 := Scalar.cmpi .sgt v32 c1_i32_15
  let v34 : BitVec 1 := Scalar.andi v31 v33
  let v35 : BitVec 32 := Scalar.extui v34
  let c0_i32_16 : BitVec 32 := 0#32
  let v36 : BitVec 1 := Scalar.cmpi .ne v35 c0_i32_16
  v36

def k0_cond9 (v12 : BitVec 32) : BitVec 1 :=
  let c8_i32_17 : BitVec 32 := 8#32
  let v37 : BitVec 1 := Scalar.cmpi .sge v12 c8_i32_17
  let c8_i32_18 : BitVec 32 := 8#32
  let v38 : BitVec 32 := Scalar.subi v12 c8_i32_18
  let c1_i32_19 : BitVec 32 := 1#32
  let v39 : BitVec 1 := Scalar.cmpi .sle v38 c1_i32_19
  let v40 : BitVec 1 := Scalar.andi v37 v39
  let v41 : BitVec 32 := Scalar.extui v40
  let c0_i32_20 : BitVec 32 := 0#32
  let v42 : BitVec 1 := Scalar.cmpi .ne v41 c0_i32_20
  v42

def k0_cond10 (v12 : BitVec 32) : BitVec 1 :=
  let c8_i32_21 : BitVec 32 := 8#32
  let v43 : BitVec 1 := Scalar.cmpi .sge v12 c8_i32_21
  let c8_i32_22 : BitVec 32 := 8#32
  let v44 : BitVec 32 := Scalar.subi v12 c8_i32_22
  let c2_i32 : BitVec 32 := 2#32
  let v45 : BitVec 1 := Scalar.cmpi .sgt v44 c2_i32
  let v46 : BitVec 1 := Scalar.andi v43 v45
  let v47 : BitVec 32 := Scalar.extui v46
  let c0_i32_23 : BitVec 32 := 0#32
  let v48 : BitVec 1 := Scalar.cmpi .ne v47 c0_i32_23
  v48

def k0_cond11 (v12 : BitVec 32) : BitVec 1 :=
  let c8_i32_24 : BitVec 32 := 8#32
  let v49 : BitVec 1 := Scalar.cmpi .sge v12 c8_i32_24
  let c8_i32_25 : BitVec 32 := 8#32
  let v50 : BitVec 32 := Scalar.subi v12 c8_i32_25
  let c2_i32_26 : BitVec 32 := 2#32
  let v51 : BitVec 1 := Scalar.cmpi .sle v50 c2_i32_26
  let v52 : BitVec 1 := Scalar.andi v49 v51
  let v53 : BitVec 32 := Scalar.extui v52
  let c0_i32_27 : BitVec 32 := 0#32
  let v54 : BitVec 1 := Scalar.cmpi .ne v53 c0_i32_27
  v54

def k0_cond12 (v12 : BitVec 32) : BitVec 1 :=
  let c8_i32_28 : BitVec 32 := 8#32
  let v55 : BitVec 1 := Scalar.cmpi .sge v12 c8_i32_28
  let c8_i32_29 : BitVec 32 := 8#32
  let v56 : BitVec 32 := Scalar.subi v12 c8_i32_29
  let c3_i32 : BitVec 32 := 3#32
  let v57 : BitVec 1 := Scalar.cmpi .sgt v56 c3_i32
  let v58 : BitVec 1 := Scalar.andi v55 v57
  let v59 : BitVec 32 := Scalar.extui v58
  let c0_i32_30 : BitVec 32 := 0#32
  let v60 : BitVec 1 := Scalar.cmpi .ne v59 c0_i32_30
  v60

def k0_cond13 (v12 : BitVec 32) : BitVec 1 :=
  let c8_i32_31 : BitVec 32 := 8#32
  let v61 : BitVec 1 := Scalar.cmpi .sge v12 c8_i32_31
  let c8_i32_32 : BitVec 32 := 8#32
  let v62 : BitVec 32 := Scalar.subi v12 c8_i32_32
  let c3_i32_33 : BitVec 32 := 3#32
  let v63 : BitVec 1 := Scalar.cmpi .sle v62 c3_i32_33
  let v64 : BitVec 1 := Scalar.andi v61 v63
  let v65 : BitVec 32 := Scalar.extui v64
  let c0_i32_34 : BitVec 32 := 0#32
  let v66 : BitVec 1 := Scalar.cmpi .ne v65 c0_i32_34
  v66

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]
-- ==== ExpertsRefIdeal.lean ====
abbrev S20480x4096 : Shape := ⟨2, ![20480, 4096]⟩
abbrev S8x4096x14336 : Shape := ⟨3, ![8, 4096, 14336]⟩
abbrev S40 : Shape := ⟨1, ![40]⟩
abbrev S512 : Shape := ⟨1, ![512]⟩
abbrev S1x512 : Shape := ⟨2, ![1, 512]⟩
abbrev S40x1 : Shape := ⟨2, ![40, 1]⟩
abbrev S_ : Shape := ⟨0, ![]⟩
abbrev S40x512 : Shape := ⟨2, ![40, 512]⟩
abbrev S20480x1 : Shape := ⟨2, ![20480, 1]⟩
abbrev S20480x14336 : Shape := ⟨2, ![20480, 14336]⟩
abbrev S1x4096x14336 : Shape := ⟨3, ![1, 4096, 14336]⟩
abbrev S4096x14336 : Shape := ⟨2, ![4096, 14336]⟩

abbrev nBuf : Space → Nat
  | .hbm => 242
  | .vmem => 0
  | .smem => 0
  | _ => 0

abbrev hbmTy0_0 (i : Nat) : BufTy := match i % 128 with
  | 0 => ⟨S20480x4096, .bf16⟩
  | 1 => ⟨S8x4096x14336, .f32⟩
  | 2 => ⟨S8x4096x14336, .f32⟩
  | 3 => ⟨S40, .i32⟩
  | 4 => ⟨S40, .i32⟩
  | 5 => ⟨S512, .i32⟩
  | 6 => ⟨S1x512, .i32⟩
  | 7 => ⟨S40x1, .i32⟩
  | 8 => ⟨S_, .i32⟩
  | 9 => ⟨S40x1, .i32⟩
  | 10 => ⟨S40x1, .i1⟩
  | 11 => ⟨S_, .i32⟩
  | 12 => ⟨S40x1, .i32⟩
  | 13 => ⟨S40x1, .i1⟩
  | 14 => ⟨S_, .i32⟩
  | 15 => ⟨S40x1, .i32⟩
  | 16 => ⟨S40x1, .i32⟩
  | 17 => ⟨S_, .i32⟩
  | 18 => ⟨S40x1, .i32⟩
  | 19 => ⟨S40x1, .i32⟩
  | 20 => ⟨S40x512, .i32⟩
  | 21 => ⟨S40x512, .i32⟩
  | 22 => ⟨S40x512, .i1⟩
  | 23 => ⟨S40x512, .i1⟩
  | 24 => ⟨S40x512, .i1⟩
  | 25 => ⟨S40x512, .i1⟩
  | 26 => ⟨S20480x1, .i1⟩
  | 27 => ⟨S40x1, .i32⟩
  | 28 => ⟨S40x512, .i32⟩
  | 29 => ⟨S20480x1, .i32⟩
  | 30 => ⟨S_, .f32⟩
  | 31 => ⟨S20480x14336, .f32⟩
  | 32 => ⟨S20480x4096, .f32⟩
  | 33 => ⟨S1x4096x14336, .f32⟩
  | 34 => ⟨S4096x14336, .f32⟩
  | 35 => ⟨S20480x14336, .f32⟩
  | 36 => ⟨S20480x14336, .f32⟩
  | 37 => ⟨S20480x14336, .f32⟩
  | 38 => ⟨S_, .f32⟩
  | 39 => ⟨S20480x14336, .f32⟩
  | 40 => ⟨S20480x14336, .f32⟩
  | 41 => ⟨S_, .f32⟩
  | 42 => ⟨S20480x14336, .f32⟩
  | 43 => ⟨S20480x14336, .f32⟩
  | 44 => ⟨S20480x14336, .f32⟩
  | 45 => ⟨S1x4096x14336, .f32⟩
  | 46 => ⟨S4096x14336, .f32⟩
  | 47 => ⟨S20480x14336, .f32⟩
  | 48 => ⟨S20480x14336, .f32⟩
  | 49 => ⟨S_, .i32⟩
  | 50 => ⟨S20480x1, .i32⟩
  | 51 => ⟨S20480x1, .i1⟩
  | 52 => ⟨S20480x1, .i1⟩
  | 53 => ⟨S_, .f32⟩
  | 54 => ⟨S_, .f32⟩
  | 55 => ⟨S20480x14336, .i1⟩
  | 56 => ⟨S20480x14336, .f32⟩
  | 57 => ⟨S20480x14336, .f32⟩
  | 58 => ⟨S20480x14336, .f32⟩
  | 59 => ⟨S1x4096x14336, .f32⟩
  | 60 => ⟨S4096x14336, .f32⟩
  | 61 => ⟨S20480x14336, .f32⟩
  | 62 => ⟨S20480x14336, .f32⟩
  | 63 => ⟨S20480x14336, .f32⟩
  | 64 => ⟨S_, .f32⟩
  | 65 => ⟨S20480x14336, .f32⟩
  | 66 => ⟨S20480x14336, .f32⟩
  | 67 => ⟨S_, .f32⟩
  | 68 => ⟨S20480x14336, .f32⟩
  | 69 => ⟨S20480x14336, .f32⟩
  | 70 => ⟨S20480x14336, .f32⟩
  | 71 => ⟨S1x4096x14336, .f32⟩
  | 72 => ⟨S4096x14336, .f32⟩
  | 73 => ⟨S20480x14336, .f32⟩
  | 74 => ⟨S20480x14336, .f32⟩
  | 75 => ⟨S_, .i32⟩
  | 76 => ⟨S20480x1, .i32⟩
  | 77 => ⟨S20480x1, .i1⟩
  | 78 => ⟨S20480x1, .i1⟩
  | 79 => ⟨S_, .f32⟩
  | 80 => ⟨S_, .f32⟩
  | 81 => ⟨S20480x14336, .i1⟩
  | 82 => ⟨S20480x14336, .f32⟩
  | 83 => ⟨S20480x14336, .f32⟩
  | 84 => ⟨S20480x14336, .f32⟩
  | 85 => ⟨S1x4096x14336, .f32⟩
  | 86 => ⟨S4096x14336, .f32⟩
  | 87 => ⟨S20480x14336, .f32⟩
  | 88 => ⟨S20480x14336, .f32⟩
  | 89 => ⟨S20480x14336, .f32⟩
  | 90 => ⟨S_, .f32⟩
  | 91 => ⟨S20480x14336, .f32⟩
  | 92 => ⟨S20480x14336, .f32⟩
  | 93 => ⟨S_, .f32⟩
  | 94 => ⟨S20480x14336, .f32⟩
  | 95 => ⟨S20480x14336, .f32⟩
  | 96 => ⟨S20480x14336, .f32⟩
  | 97 => ⟨S1x4096x14336, .f32⟩
  | 98 => ⟨S4096x14336, .f32⟩
  | 99 => ⟨S20480x14336, .f32⟩
  | 100 => ⟨S20480x14336, .f32⟩
  | 101 => ⟨S_, .i32⟩
  | 102 => ⟨S20480x1, .i32⟩
  | 103 => ⟨S20480x1, .i1⟩
  | 104 => ⟨S20480x1, .i1⟩
  | 105 => ⟨S_, .f32⟩
  | 106 => ⟨S_, .f32⟩
  | 107 => ⟨S20480x14336, .i1⟩
  | 108 => ⟨S20480x14336, .f32⟩
  | 109 => ⟨S20480x14336, .f32⟩
  | 110 => ⟨S20480x14336, .f32⟩
  | 111 => ⟨S1x4096x14336, .f32⟩
  | 112 => ⟨S4096x14336, .f32⟩
  | 113 => ⟨S20480x14336, .f32⟩
  | 114 => ⟨S20480x14336, .f32⟩
  | 115 => ⟨S20480x14336, .f32⟩
  | 116 => ⟨S_, .f32⟩
  | 117 => ⟨S20480x14336, .f32⟩
  | 118 => ⟨S20480x14336, .f32⟩
  | 119 => ⟨S_, .f32⟩
  | 120 => ⟨S20480x14336, .f32⟩
  | 121 => ⟨S20480x14336, .f32⟩
  | 122 => ⟨S20480x14336, .f32⟩
  | 123 => ⟨S1x4096x14336, .f32⟩
  | 124 => ⟨S4096x14336, .f32⟩
  | 125 => ⟨S20480x14336, .f32⟩
  | 126 => ⟨S20480x14336, .f32⟩
  | 127 => ⟨S_, .i32⟩
  | _ => ⟨S20480x4096, .bf16⟩

abbrev hbmTy0_1 (i : Nat) : BufTy := match i % 128 with
  | 0 => ⟨S20480x1, .i32⟩
  | 1 => ⟨S20480x1, .i1⟩
  | 2 => ⟨S20480x1, .i1⟩
  | 3 => ⟨S_, .f32⟩
  | 4 => ⟨S_, .f32⟩
  | 5 => ⟨S20480x14336, .i1⟩
  | 6 => ⟨S20480x14336, .f32⟩
  | 7 => ⟨S20480x14336, .f32⟩
  | 8 => ⟨S20480x14336, .f32⟩
  | 9 => ⟨S1x4096x14336, .f32⟩
  | 10 => ⟨S4096x14336, .f32⟩
  | 11 => ⟨S20480x14336, .f32⟩
  | 12 => ⟨S20480x14336, .f32⟩
  | 13 => ⟨S20480x14336, .f32⟩
  | 14 => ⟨S_, .f32⟩
  | 15 => ⟨S20480x14336, .f32⟩
  | 16 => ⟨S20480x14336, .f32⟩
  | 17 => ⟨S_, .f32⟩
  | 18 => ⟨S20480x14336, .f32⟩
  | 19 => ⟨S20480x14336, .f32⟩
  | 20 => ⟨S20480x14336, .f32⟩
  | 21 => ⟨S1x4096x14336, .f32⟩
  | 22 => ⟨S4096x14336, .f32⟩
  | 23 => ⟨S20480x14336, .f32⟩
  | 24 => ⟨S20480x14336, .f32⟩
  | 25 => ⟨S_, .i32⟩
  | 26 => ⟨S20480x1, .i32⟩
  | 27 => ⟨S20480x1, .i1⟩
  | 28 => ⟨S20480x1, .i1⟩
  | 29 => ⟨S_, .f32⟩
  | 30 => ⟨S_, .f32⟩
  | 31 => ⟨S20480x14336, .i1⟩
  | 32 => ⟨S20480x14336, .f32⟩
  | 33 => ⟨S20480x14336, .f32⟩
  | 34 => ⟨S20480x14336, .f32⟩
  | 35 => ⟨S1x4096x14336, .f32⟩
  | 36 => ⟨S4096x14336, .f32⟩
  | 37 => ⟨S20480x14336, .f32⟩
  | 38 => ⟨S20480x14336, .f32⟩
  | 39 => ⟨S20480x14336, .f32⟩
  | 40 => ⟨S_, .f32⟩
  | 41 => ⟨S20480x14336, .f32⟩
  | 42 => ⟨S20480x14336, .f32⟩
  | 43 => ⟨S_, .f32⟩
  | 44 => ⟨S20480x14336, .f32⟩
  | 45 => ⟨S20480x14336, .f32⟩
  | 46 => ⟨S20480x14336, .f32⟩
  | 47 => ⟨S1x4096x14336, .f32⟩
  | 48 => ⟨S4096x14336, .f32⟩
  | 49 => ⟨S20480x14336, .f32⟩
  | 50 => ⟨S20480x14336, .f32⟩
  | 51 => ⟨S_, .i32⟩
  | 52 => ⟨S20480x1, .i32⟩
  | 53 => ⟨S20480x1, .i1⟩
  | 54 => ⟨S20480x1, .i1⟩
  | 55 => ⟨S_, .f32⟩
  | 56 => ⟨S_, .f32⟩
  | 57 => ⟨S20480x14336, .i1⟩
  | 58 => ⟨S20480x14336, .f32⟩
  | 59 => ⟨S20480x14336, .f32⟩
  | 60 => ⟨S20480x14336, .f32⟩
  | 61 => ⟨S1x4096x14336, .f32⟩
  | 62 => ⟨S4096x14336, .f32⟩
  | 63 => ⟨S20480x14336, .f32⟩
  | 64 => ⟨S20480x14336, .f32⟩
  | 65 => ⟨S20480x14336, .f32⟩
  | 66 => ⟨S_, .f32⟩
  | 67 => ⟨S20480x14336, .f32⟩
  | 68 => ⟨S20480x14336, .f32⟩
  | 69 => ⟨S_, .f32⟩
  | 70 => ⟨S20480x14336, .f32⟩
  | 71 => ⟨S20480x14336, .f32⟩
  | 72 => ⟨S20480x14336, .f32⟩
  | 73 => ⟨S1x4096x14336, .f32⟩
  | 74 => ⟨S4096x14336, .f32⟩
  | 75 => ⟨S20480x14336, .f32⟩
  | 76 => ⟨S20480x14336, .f32⟩
  | 77 => ⟨S_, .i32⟩
  | 78 => ⟨S20480x1, .i32⟩
  | 79 => ⟨S20480x1, .i1⟩
  | 80 => ⟨S20480x1, .i1⟩
  | 81 => ⟨S_, .f32⟩
  | 82 => ⟨S_, .f32⟩
  | 83 => ⟨S20480x14336, .i1⟩
  | 84 => ⟨S20480x14336, .f32⟩
  | 85 => ⟨S20480x14336, .f32⟩
  | 86 => ⟨S20480x14336, .f32⟩
  | 87 => ⟨S1x4096x14336, .f32⟩
  | 88 => ⟨S4096x14336, .f32⟩
  | 89 => ⟨S20480x14336, .f32⟩
  | 90 => ⟨S20480x14336, .f32⟩
  | 91 => ⟨S20480x14336, .f32⟩
  | 92 => ⟨S_, .f32⟩
  | 93 => ⟨S20480x14336, .f32⟩
  | 94 => ⟨S20480x14336, .f32⟩
  | 95 => ⟨S_, .f32⟩
  | 96 => ⟨S20480x14336, .f32⟩
  | 97 => ⟨S20480x14336, .f32⟩
  | 98 => ⟨S20480x14336, .f32⟩
  | 99 => ⟨S1x4096x14336, .f32⟩
  | 100 => ⟨S4096x14336, .f32⟩
  | 101 => ⟨S20480x14336, .f32⟩
  | 102 => ⟨S20480x14336, .f32⟩
  | 103 => ⟨S_, .i32⟩
  | 104 => ⟨S20480x1, .i32⟩
  | 105 => ⟨S20480x1, .i1⟩
  | 106 => ⟨S20480x1, .i1⟩
  | 107 => ⟨S_, .f32⟩
  | 108 => ⟨S_, .f32⟩
  | 109 => ⟨S20480x14336, .i1⟩
  | 110 => ⟨S20480x14336, .f32⟩
  | 111 => ⟨S20480x14336, .f32⟩
  | 112 => ⟨S20480x14336, .f32⟩
  | 113 => ⟨S20480x14336, .bf16⟩
  | _ => ⟨S20480x4096, .bf16⟩

abbrev hbmTy (i : Nat) : BufTy := match i / 128 with
  | 0 => hbmTy0_0 i
  | 1 => hbmTy0_1 i
  | _ => ⟨S20480x4096, .bf16⟩

abbrev bufTy : (tb : Table) → Fin (tcTables nBuf tb) → BufTy
  | .hbm, ⟨i, _⟩ => hbmTy i
  | _, _ => ⟨S20480x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_v3 : Ref sig .tc := ⟨.hbm, 9, rfl⟩
abbrev main_v4 : Ref sig .tc := ⟨.hbm, 10, rfl⟩
abbrev main_c_0 : Ref sig .tc := ⟨.hbm, 11, rfl⟩
abbrev main_v5 : Ref sig .tc := ⟨.hbm, 12, rfl⟩
abbrev main_v6 : Ref sig .tc := ⟨.hbm, 13, rfl⟩
abbrev main_c_1 : Ref sig .tc := ⟨.hbm, 14, rfl⟩
abbrev main_v7 : Ref sig .tc := ⟨.hbm, 15, rfl⟩
abbrev main_v8 : Ref sig .tc := ⟨.hbm, 16, rfl⟩
abbrev main_c_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_call0_v0 : Ref sig .tc := ⟨.hbm, 23, rfl⟩
abbrev main_call0_v1 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_call1_v0 : Ref sig .tc := ⟨.hbm, 36, rfl⟩
abbrev main_call1_v1 : Ref sig .tc := ⟨.hbm, 37, rfl⟩
abbrev main_call1_cst : Ref sig .tc := ⟨.hbm, 38, rfl⟩
abbrev main_call1_v2 : Ref sig .tc := ⟨.hbm, 39, rfl⟩
abbrev main_call1_v3 : Ref sig .tc := ⟨.hbm, 40, rfl⟩
abbrev main_call1_cst_0 : Ref sig .tc := ⟨.hbm, 41, rfl⟩
abbrev main_call1_v4 : Ref sig .tc := ⟨.hbm, 42, rfl⟩
abbrev main_call1_v5 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_c_3 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_cst_4 : Ref sig .tc := ⟨.hbm, 53, rfl⟩
abbrev main_call2_v0 : Ref sig .tc := ⟨.hbm, 54, rfl⟩
abbrev main_call2_v1 : Ref sig .tc := ⟨.hbm, 55, rfl⟩
abbrev main_call2_v2 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_call3_v0 : Ref sig .tc := ⟨.hbm, 62, rfl⟩
abbrev main_call3_v1 : Ref sig .tc := ⟨.hbm, 63, rfl⟩
abbrev main_call3_cst : Ref sig .tc := ⟨.hbm, 64, rfl⟩
abbrev main_call3_v2 : Ref sig .tc := ⟨.hbm, 65, rfl⟩
abbrev main_call3_v3 : Ref sig .tc := ⟨.hbm, 66, rfl⟩
abbrev main_call3_cst_0 : Ref sig .tc := ⟨.hbm, 67, rfl⟩
abbrev main_call3_v4 : Ref sig .tc := ⟨.hbm, 68, rfl⟩
abbrev main_call3_v5 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_c_5 : Ref sig .tc := ⟨.hbm, 75, rfl⟩
abbrev main_v42 : Ref sig .tc := ⟨.hbm, 76, rfl⟩
abbrev main_v43 : Ref sig .tc := ⟨.hbm, 77, rfl⟩
abbrev main_v44 : Ref sig .tc := ⟨.hbm, 78, rfl⟩
abbrev main_cst_6 : Ref sig .tc := ⟨.hbm, 79, rfl⟩
abbrev main_call4_v0 : Ref sig .tc := ⟨.hbm, 80, rfl⟩
abbrev main_call4_v1 : Ref sig .tc := ⟨.hbm, 81, rfl⟩
abbrev main_call4_v2 : Ref sig .tc := ⟨.hbm, 82, rfl⟩
abbrev main_v45 : Ref sig .tc := ⟨.hbm, 83, rfl⟩
abbrev main_v46 : Ref sig .tc := ⟨.hbm, 84, rfl⟩
abbrev main_v47 : Ref sig .tc := ⟨.hbm, 85, rfl⟩
abbrev main_v48 : Ref sig .tc := ⟨.hbm, 86, rfl⟩
abbrev main_v49 : Ref sig .tc := ⟨.hbm, 87, rfl⟩
abbrev main_call5_v0 : Ref sig .tc := ⟨.hbm, 88, rfl⟩
abbrev main_call5_v1 : Ref sig .tc := ⟨.hbm, 89, rfl⟩
abbrev main_call5_cst : Ref sig .tc := ⟨.hbm, 90, rfl⟩
abbrev main_call5_v2 : Ref sig .tc := ⟨.hbm, 91, rfl⟩
abbrev main_call5_v3 : Ref sig .tc := ⟨.hbm, 92, rfl⟩
abbrev main_call5_cst_0 : Ref sig .tc := ⟨.hbm, 93, rfl⟩
abbrev main_call5_v4 : Ref sig .tc := ⟨.hbm, 94, rfl⟩
abbrev main_call5_v5 : Ref sig .tc := ⟨.hbm, 95, rfl⟩
abbrev main_v50 : Ref sig .tc := ⟨.hbm, 96, rfl⟩
abbrev main_v51 : Ref sig .tc := ⟨.hbm, 97, rfl⟩
abbrev main_v52 : Ref sig .tc := ⟨.hbm, 98, rfl⟩
abbrev main_v53 : Ref sig .tc := ⟨.hbm, 99, rfl⟩
abbrev main_v54 : Ref sig .tc := ⟨.hbm, 100, rfl⟩
abbrev main_c_7 : Ref sig .tc := ⟨.hbm, 101, rfl⟩
abbrev main_v55 : Ref sig .tc := ⟨.hbm, 102, rfl⟩
abbrev main_v56 : Ref sig .tc := ⟨.hbm, 103, rfl⟩
abbrev main_v57 : Ref sig .tc := ⟨.hbm, 104, rfl⟩
abbrev main_cst_8 : Ref sig .tc := ⟨.hbm, 105, rfl⟩
abbrev main_call6_v0 : Ref sig .tc := ⟨.hbm, 106, rfl⟩
abbrev main_call6_v1 : Ref sig .tc := ⟨.hbm, 107, rfl⟩
abbrev main_call6_v2 : Ref sig .tc := ⟨.hbm, 108, rfl⟩
abbrev main_v58 : Ref sig .tc := ⟨.hbm, 109, rfl⟩
abbrev main_v59 : Ref sig .tc := ⟨.hbm, 110, rfl⟩
abbrev main_v60 : Ref sig .tc := ⟨.hbm, 111, rfl⟩
abbrev main_v61 : Ref sig .tc := ⟨.hbm, 112, rfl⟩
abbrev main_v62 : Ref sig .tc := ⟨.hbm, 113, rfl⟩
abbrev main_call7_v0 : Ref sig .tc := ⟨.hbm, 114, rfl⟩
abbrev main_call7_v1 : Ref sig .tc := ⟨.hbm, 115, rfl⟩
abbrev main_call7_cst : Ref sig .tc := ⟨.hbm, 116, rfl⟩
abbrev main_call7_v2 : Ref sig .tc := ⟨.hbm, 117, rfl⟩
abbrev main_call7_v3 : Ref sig .tc := ⟨.hbm, 118, rfl⟩
abbrev main_call7_cst_0 : Ref sig .tc := ⟨.hbm, 119, rfl⟩
abbrev main_call7_v4 : Ref sig .tc := ⟨.hbm, 120, rfl⟩
abbrev main_call7_v5 : Ref sig .tc := ⟨.hbm, 121, rfl⟩
abbrev main_v63 : Ref sig .tc := ⟨.hbm, 122, rfl⟩
abbrev main_v64 : Ref sig .tc := ⟨.hbm, 123, rfl⟩
abbrev main_v65 : Ref sig .tc := ⟨.hbm, 124, rfl⟩
abbrev main_v66 : Ref sig .tc := ⟨.hbm, 125, rfl⟩
abbrev main_v67 : Ref sig .tc := ⟨.hbm, 126, rfl⟩
abbrev main_c_9 : Ref sig .tc := ⟨.hbm, 127, rfl⟩
abbrev main_v68 : Ref sig .tc := ⟨.hbm, 128, rfl⟩
abbrev main_v69 : Ref sig .tc := ⟨.hbm, 129, rfl⟩
abbrev main_v70 : Ref sig .tc := ⟨.hbm, 130, rfl⟩
abbrev main_cst_10 : Ref sig .tc := ⟨.hbm, 131, rfl⟩
abbrev main_call8_v0 : Ref sig .tc := ⟨.hbm, 132, rfl⟩
abbrev main_call8_v1 : Ref sig .tc := ⟨.hbm, 133, rfl⟩
abbrev main_call8_v2 : Ref sig .tc := ⟨.hbm, 134, rfl⟩
abbrev main_v71 : Ref sig .tc := ⟨.hbm, 135, rfl⟩
abbrev main_v72 : Ref sig .tc := ⟨.hbm, 136, rfl⟩
abbrev main_v73 : Ref sig .tc := ⟨.hbm, 137, rfl⟩
abbrev main_v74 : Ref sig .tc := ⟨.hbm, 138, rfl⟩
abbrev main_v75 : Ref sig .tc := ⟨.hbm, 139, rfl⟩
abbrev main_call9_v0 : Ref sig .tc := ⟨.hbm, 140, rfl⟩
abbrev main_call9_v1 : Ref sig .tc := ⟨.hbm, 141, rfl⟩
abbrev main_call9_cst : Ref sig .tc := ⟨.hbm, 142, rfl⟩
abbrev main_call9_v2 : Ref sig .tc := ⟨.hbm, 143, rfl⟩
abbrev main_call9_v3 : Ref sig .tc := ⟨.hbm, 144, rfl⟩
abbrev main_call9_cst_0 : Ref sig .tc := ⟨.hbm, 145, rfl⟩
abbrev main_call9_v4 : Ref sig .tc := ⟨.hbm, 146, rfl⟩
abbrev main_call9_v5 : Ref sig .tc := ⟨.hbm, 147, rfl⟩
abbrev main_v76 : Ref sig .tc := ⟨.hbm, 148, rfl⟩
abbrev main_v77 : Ref sig .tc := ⟨.hbm, 149, rfl⟩
abbrev main_v78 : Ref sig .tc := ⟨.hbm, 150, rfl⟩
abbrev main_v79 : Ref sig .tc := ⟨.hbm, 151, rfl⟩
abbrev main_v80 : Ref sig .tc := ⟨.hbm, 152, rfl⟩
abbrev main_c_11 : Ref sig .tc := ⟨.hbm, 153, rfl⟩
abbrev main_v81 : Ref sig .tc := ⟨.hbm, 154, rfl⟩
abbrev main_v82 : Ref sig .tc := ⟨.hbm, 155, rfl⟩
abbrev main_v83 : Ref sig .tc := ⟨.hbm, 156, rfl⟩
abbrev main_cst_12 : Ref sig .tc := ⟨.hbm, 157, rfl⟩
abbrev main_call10_v0 : Ref sig .tc := ⟨.hbm, 158, rfl⟩
abbrev main_call10_v1 : Ref sig .tc := ⟨.hbm, 159, rfl⟩
abbrev main_call10_v2 : Ref sig .tc := ⟨.hbm, 160, rfl⟩
abbrev main_v84 : Ref sig .tc := ⟨.hbm, 161, rfl⟩
abbrev main_v85 : Ref sig .tc := ⟨.hbm, 162, rfl⟩
abbrev main_v86 : Ref sig .tc := ⟨.hbm, 163, rfl⟩
abbrev main_v87 : Ref sig .tc := ⟨.hbm, 164, rfl⟩
abbrev main_v88 : Ref sig .tc := ⟨.hbm, 165, rfl⟩
abbrev main_call11_v0 : Ref sig .tc := ⟨.hbm, 166, rfl⟩
abbrev main_call11_v1 : Ref sig .tc := ⟨.hbm, 167, rfl⟩
abbrev main_call11_cst : Ref sig .tc := ⟨.hbm, 168, rfl⟩
abbrev main_call11_v2 : Ref sig .tc := ⟨.hbm, 169, rfl⟩
abbrev main_call11_v3 : Ref sig .tc := ⟨.hbm, 170, rfl⟩
abbrev main_call11_cst_0 : Ref sig .tc := ⟨.hbm, 171, rfl⟩
abbrev main_call11_v4 : Ref sig .tc := ⟨.hbm, 172, rfl⟩
abbrev main_call11_v5 : Ref sig .tc := ⟨.hbm, 173, rfl⟩
abbrev main_v89 : Ref sig .tc := ⟨.hbm, 174, rfl⟩
abbrev main_v90 : Ref sig .tc := ⟨.hbm, 175, rfl⟩
abbrev main_v91 : Ref sig .tc := ⟨.hbm, 176, rfl⟩
abbrev main_v92 : Ref sig .tc := ⟨.hbm, 177, rfl⟩
abbrev main_v93 : Ref sig .tc := ⟨.hbm, 178, rfl⟩
abbrev main_c_13 : Ref sig .tc := ⟨.hbm, 179, rfl⟩
abbrev main_v94 : Ref sig .tc := ⟨.hbm, 180, rfl⟩
abbrev main_v95 : Ref sig .tc := ⟨.hbm, 181, rfl⟩
abbrev main_v96 : Ref sig .tc := ⟨.hbm, 182, rfl⟩
abbrev main_cst_14 : Ref sig .tc := ⟨.hbm, 183, rfl⟩
abbrev main_call12_v0 : Ref sig .tc := ⟨.hbm, 184, rfl⟩
abbrev main_call12_v1 : Ref sig .tc := ⟨.hbm, 185, rfl⟩
abbrev main_call12_v2 : Ref sig .tc := ⟨.hbm, 186, rfl⟩
abbrev main_v97 : Ref sig .tc := ⟨.hbm, 187, rfl⟩
abbrev main_v98 : Ref sig .tc := ⟨.hbm, 188, rfl⟩
abbrev main_v99 : Ref sig .tc := ⟨.hbm, 189, rfl⟩
abbrev main_v100 : Ref sig .tc := ⟨.hbm, 190, rfl⟩
abbrev main_v101 : Ref sig .tc := ⟨.hbm, 191, rfl⟩
abbrev main_call13_v0 : Ref sig .tc := ⟨.hbm, 192, rfl⟩
abbrev main_call13_v1 : Ref sig .tc := ⟨.hbm, 193, rfl⟩
abbrev main_call13_cst : Ref sig .tc := ⟨.hbm, 194, rfl⟩
abbrev main_call13_v2 : Ref sig .tc := ⟨.hbm, 195, rfl⟩
abbrev main_call13_v3 : Ref sig .tc := ⟨.hbm, 196, rfl⟩
abbrev main_call13_cst_0 : Ref sig .tc := ⟨.hbm, 197, rfl⟩
abbrev main_call13_v4 : Ref sig .tc := ⟨.hbm, 198, rfl⟩
abbrev main_call13_v5 : Ref sig .tc := ⟨.hbm, 199, rfl⟩
abbrev main_v102 : Ref sig .tc := ⟨.hbm, 200, rfl⟩
abbrev main_v103 : Ref sig .tc := ⟨.hbm, 201, rfl⟩
abbrev main_v104 : Ref sig .tc := ⟨.hbm, 202, rfl⟩
abbrev main_v105 : Ref sig .tc := ⟨.hbm, 203, rfl⟩
abbrev main_v106 : Ref sig .tc := ⟨.hbm, 204, rfl⟩
abbrev main_c_15 : Ref sig .tc := ⟨.hbm, 205, rfl⟩
abbrev main_v107 : Ref sig .tc := ⟨.hbm, 206, rfl⟩
abbrev main_v108 : Ref sig .tc := ⟨.hbm, 207, rfl⟩
abbrev main_v109 : Ref sig .tc := ⟨.hbm, 208, rfl⟩
abbrev main_cst_16 : Ref sig .tc := ⟨.hbm, 209, rfl⟩
abbrev main_call14_v0 : Ref sig .tc := ⟨.hbm, 210, rfl⟩
abbrev main_call14_v1 : Ref sig .tc := ⟨.hbm, 211, rfl⟩
abbrev main_call14_v2 : Ref sig .tc := ⟨.hbm, 212, rfl⟩
abbrev main_v110 : Ref sig .tc := ⟨.hbm, 213, rfl⟩
abbrev main_v111 : Ref sig .tc := ⟨.hbm, 214, rfl⟩
abbrev main_v112 : Ref sig .tc := ⟨.hbm, 215, rfl⟩
abbrev main_v113 : Ref sig .tc := ⟨.hbm, 216, rfl⟩
abbrev main_v114 : Ref sig .tc := ⟨.hbm, 217, rfl⟩
abbrev main_call15_v0 : Ref sig .tc := ⟨.hbm, 218, rfl⟩
abbrev main_call15_v1 : Ref sig .tc := ⟨.hbm, 219, rfl⟩
abbrev main_call15_cst : Ref sig .tc := ⟨.hbm, 220, rfl⟩
abbrev main_call15_v2 : Ref sig .tc := ⟨.hbm, 221, rfl⟩
abbrev main_call15_v3 : Ref sig .tc := ⟨.hbm, 222, rfl⟩
abbrev main_call15_cst_0 : Ref sig .tc := ⟨.hbm, 223, rfl⟩
abbrev main_call15_v4 : Ref sig .tc := ⟨.hbm, 224, rfl⟩
abbrev main_call15_v5 : Ref sig .tc := ⟨.hbm, 225, rfl⟩
abbrev main_v115 : Ref sig .tc := ⟨.hbm, 226, rfl⟩
abbrev main_v116 : Ref sig .tc := ⟨.hbm, 227, rfl⟩
abbrev main_v117 : Ref sig .tc := ⟨.hbm, 228, rfl⟩
abbrev main_v118 : Ref sig .tc := ⟨.hbm, 229, rfl⟩
abbrev main_v119 : Ref sig .tc := ⟨.hbm, 230, rfl⟩
abbrev main_c_17 : Ref sig .tc := ⟨.hbm, 231, rfl⟩
abbrev main_v120 : Ref sig .tc := ⟨.hbm, 232, rfl⟩
abbrev main_v121 : Ref sig .tc := ⟨.hbm, 233, rfl⟩
abbrev main_v122 : Ref sig .tc := ⟨.hbm, 234, rfl⟩
abbrev main_cst_18 : Ref sig .tc := ⟨.hbm, 235, rfl⟩
abbrev main_call16_v0 : Ref sig .tc := ⟨.hbm, 236, rfl⟩
abbrev main_call16_v1 : Ref sig .tc := ⟨.hbm, 237, rfl⟩
abbrev main_call16_v2 : Ref sig .tc := ⟨.hbm, 238, rfl⟩
abbrev main_v123 : Ref sig .tc := ⟨.hbm, 239, rfl⟩
abbrev main_v124 : Ref sig .tc := ⟨.hbm, 240, rfl⟩
abbrev main_v125 : Ref sig .tc := ⟨.hbm, 241, rfl⟩

abbrev nD : Nat := 1
abbrev τ : Topo := Topo.v7x

variable {F : FTy → Type} [FloatOps F]
-- ==== Dense.lean ====
abbrev S8192x4096 : Shape := ⟨2, ![8192, 4096]⟩
abbrev S1x4096x14336 : Shape := ⟨3, ![1, 4096, 14336]⟩
abbrev S_ : Shape := ⟨0, ![]⟩
abbrev S8 : Shape := ⟨1, ![8]⟩
abbrev S1x8 : Shape := ⟨2, ![1, 8]⟩
abbrev S8x1 : Shape := ⟨2, ![8, 1]⟩
abbrev S8x8 : Shape := ⟨2, ![8, 8]⟩
abbrev S8192x14336 : Shape := ⟨2, ![8192, 14336]⟩
abbrev S1024x4096 : Shape := ⟨2, ![1024, 4096]⟩
abbrev S1024x512 : Shape := ⟨2, ![1024, 512]⟩
abbrev S4096x512 : Shape := ⟨2, ![4096, 512]⟩
abbrev S2 : Shape := ⟨1, ![2]⟩
abbrev S1 : Shape := ⟨1, ![1]⟩
abbrev S1x4096x512 : Shape := ⟨3, ![1, 4096, 512]⟩

abbrev nBuf : Space → Nat
  | .hbm => 24
  | .vmem => 8
  | .smem => 3
  | _ => 0

abbrev bufTy : (tb : Table) → Fin (tcTables nBuf tb) → BufTy
  | .hbm, ⟨0, _⟩ => ⟨S8192x4096, .bf16⟩
  | .hbm, ⟨1, _⟩ => ⟨S1x4096x14336, .f32⟩
  | .hbm, ⟨2, _⟩ => ⟨S1x4096x14336, .f32⟩
  | .hbm, ⟨3, _⟩ => ⟨S_, .i32⟩
  | .hbm, ⟨4, _⟩ => ⟨S_, .i32⟩
  | .hbm, ⟨5, _⟩ => ⟨S1x8, .i32⟩
  | .hbm, ⟨6, _⟩ => ⟨S8x1, .i32⟩
  | .hbm, ⟨7, _⟩ => ⟨S8x8, .i32⟩
  | .hbm, ⟨8, _⟩ => ⟨S8x8, .i32⟩
  | .hbm, ⟨9, _⟩ => ⟨S8x8, .i1⟩
  | .hbm, ⟨10, _⟩ => ⟨S1x8, .i32⟩
  | .hbm, ⟨11, _⟩ => ⟨S_, .i32⟩
  | .hbm, ⟨12, _⟩ => ⟨S8x8, .i32⟩
  | .hbm, ⟨13, _⟩ => ⟨S8x8, .i32⟩
  | .hbm, ⟨14, _⟩ => ⟨S8x8, .i32⟩
  | .hbm, ⟨15, _⟩ => ⟨S_, .i32⟩
  | .hbm, ⟨16, _⟩ => ⟨S8, .i32⟩
  | .hbm, ⟨17, _⟩ => ⟨S_, .i32⟩
  | .hbm, ⟨18, _⟩ => ⟨S8, .i32⟩
  | .hbm, ⟨19, _⟩ => ⟨S8, .i1⟩
  | .hbm, ⟨20, _⟩ => ⟨S_, .i32⟩
  | .hbm, ⟨21, _⟩ => ⟨S_, .i32⟩
  | .hbm, ⟨22, _⟩ => ⟨S8, .i32⟩
  | .hbm, ⟨23, _⟩ => ⟨S8192x14336, .bf16⟩
  | .local _ .vmem, ⟨0, _⟩ => ⟨S1024x4096, .bf16⟩
  | .local _ .vmem, ⟨1, _⟩ => ⟨S1024x4096, .bf16⟩
  | .local _ .vmem, ⟨2, _⟩ => ⟨S1024x512, .bf16⟩
  | .local _ .vmem, ⟨3, _⟩ => ⟨S1024x512, .bf16⟩
  | .local _ .vmem, ⟨4, _⟩ => ⟨S4096x512, .f32⟩
  | .local _ .vmem, ⟨5, _⟩ => ⟨S4096x512, .f32⟩
  | .local _ .vmem, ⟨6, _⟩ => ⟨S4096x512, .bf16⟩
  | .local _ .vmem, ⟨7, _⟩ => ⟨S4096x512, .bf16⟩
  | .local _ .smem, ⟨0, _⟩ => ⟨S8, .i32⟩
  | .local _ .smem, ⟨1, _⟩ => ⟨S8, .i32⟩
  | .local _ .smem, ⟨2, _⟩ => ⟨S8, .i32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_c_0 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_c_1 : Ref sig .tc := ⟨.hbm, 11, rfl⟩
abbrev main_call0_v0 : Ref sig .tc := ⟨.hbm, 12, rfl⟩
abbrev main_call0_v1 : Ref sig .tc := ⟨.hbm, 13, rfl⟩
abbrev main_v8 : Ref sig .tc := ⟨.hbm, 14, rfl⟩
abbrev main_c_2 : Ref sig .tc := ⟨.hbm, 15, rfl⟩
abbrev main_v9 : Ref sig .tc := ⟨.hbm, 16, rfl⟩
abbrev main_c_3 : Ref sig .tc := ⟨.hbm, 17, rfl⟩
abbrev main_v10 : Ref sig .tc := ⟨.hbm, 18, rfl⟩
abbrev main_v11 : Ref sig .tc := ⟨.hbm, 19, rfl⟩
abbrev main_c_4 : Ref sig .tc := ⟨.hbm, 20, rfl⟩
abbrev main_call1_v0 : Ref sig .tc := ⟨.hbm, 21, rfl⟩
abbrev main_call1_v1 : Ref sig .tc := ⟨.hbm, 22, rfl⟩
abbrev main_v13 : Ref sig .tc := ⟨.hbm, 23, rfl⟩
abbrev main_v0 : Ref sig .tc := ⟨.smem, 0, rfl⟩
abbrev main_v1 : Ref sig .tc := ⟨.smem, 1, rfl⟩
abbrev main_v12 : Ref sig .tc := ⟨.smem, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![28, 8], ![false, false]⟩

abbrev pre0 : Pipeline.Prefetch sig := ⟨3, ![main_v0.idx, main_v1.idx, main_v12.idx], fun | 0 => main_v0.names | 1 => main_v1.names | 2 => main_v12.names | ⟨_ + 3, h⟩ => absurd h (Nat.not_lt.2 (Nat.le_add_left _ _)), fun | 0 => rfl | 1 => rfl | 2 => rfl | ⟨_ + 3, h⟩ => absurd h (Nat.not_lt.2 (Nat.le_add_left _ _))⟩

def k0_off1 (i : grid0.Coords) : Fin 1 → Nat :=
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let v2 : Index := Scalar.indexCast v1
  ![v2.toNat]
def k0_off2 (i : grid0.Coords) : Fin 1 → Nat :=
  let arg1 : BitVec 32 := BitVec.ofNat 32 (i 1).val
  let v5 : Index := Scalar.indexCast arg1
  ![v5.toNat]
def k0_off3 (i : grid0.Coords) : Fin 1 → Nat :=
  let arg1 : BitVec 32 := BitVec.ofNat 32 (i 1).val
  let v19 : Index := Scalar.indexCast arg1
  ![v19.toNat]
def k0_cond2 (i : grid0.Coords) : BitVec 1 :=
  let arg0 : BitVec 32 := BitVec.ofNat 32 (i 0).val
  let c0_i32_6 : BitVec 32 := 0#32
  let v21 : BitVec 1 := Scalar.cmpi .eq arg0 c0_i32_6
  let arg1 : BitVec 32 := BitVec.ofNat 32 (i 1).val
  let c0_i32_7 : BitVec 32 := 0#32
  let v22 : BitVec 1 := Scalar.cmpi .eq arg1 c0_i32_7
  let v23 : BitVec 1 := Scalar.andi v21 v22
  let v24 : BitVec 32 := Scalar.extui v23
  let c0_i32_8 : BitVec 32 := 0#32
  let v25 : BitVec 1 := Scalar.cmpi .ne v24 c0_i32_8
  v25

def k0_mult1 (i : grid0.Coords) : BitVec 32 :=
  let arg0 : BitVec 32 := BitVec.ofNat 32 (i 0).val
  let c512_i32_26 : BitVec 32 := 512#32
  let v60 : BitVec 32 := Scalar.muli arg0 c512_i32_26
  v60
def k0_off4 (i : grid0.Coords) (v20 : BitVec 32) : Fin 3 → Nat :=
  let c0_i32_28 : BitVec 32 := 0#32
  let arg0 : BitVec 32 := BitVec.ofNat 32 (i 0).val
  let c512_i32_26 : BitVec 32 := 512#32
  let v60 : BitVec 32 := Scalar.muli arg0 c512_i32_26
  let v61 : BitVec 32 := v60
  ![v20.toNat, 0, v61.toNat]
def k0_cond1 (i : grid0.Coords) (v3 : BitVec 32) (v6 : BitVec 32) : BitVec 1 :=
  let arg1 : BitVec 32 := BitVec.ofNat 32 (i 1).val
  let c0_i32_0 : BitVec 32 := 0#32
  let v4 : BitVec 1 := Scalar.cmpi .eq arg1 c0_i32_0
  let v7 : BitVec 1 := Scalar.cmpi .ne v6 v3
  let v8 : BitVec 1 := Scalar.ori v4 v7
  let v9 : BitVec 32 := Scalar.extui v8
  let c0_i32_1 : BitVec 32 := 0#32
  let v10 : BitVec 1 := Scalar.cmpi .ne v9 c0_i32_1
  v10

def k0_mult2 (i : grid0.Coords) : BitVec 32 :=
  let arg0 : BitVec 32 := BitVec.ofNat 32 (i 0).val
  let c512_i32_29 : BitVec 32 := 512#32
  let v66 : BitVec 32 := Scalar.muli arg0 c512_i32_29
  v66
def k0_mult3 (i : grid0.Coords) : BitVec 32 :=
  let arg0 : BitVec 32 := BitVec.ofNat 32 (i 0).val
  let c512_i32 : BitVec 32 := 512#32
  let v26 : BitVec 32 := Scalar.muli arg0 c512_i32
  v26
def k0_off5 (i : grid0.Coords) (v20 : BitVec 32) : Fin 3 → Nat :=
  let c0_i32_10 : BitVec 32 := 0#32
  let arg0 : BitVec 32 := BitVec.ofNat 32 (i 0).val
  let c512_i32 : BitVec 32 := 512#32
  let v26 : BitVec 32 := Scalar.muli arg0 c512_i32
  let v27 : BitVec 32 := v26
  ![v20.toNat, 0, v27.toNat]

def k0_chk1 (i : grid0.Coords) (v3 : BitVec 32) (v6 : BitVec 32) (v20 : BitVec 32) : Prop :=
  (∀ (k0_h1 : k0_cond1 i v3 v6 = 1#1), ∀ (k0_h2 : k0_cond2 i = 1#1), ∀ a, (k0_off4 i v20) a + S1x4096x512.size a ≤ S1x4096x14336.size a) ∧
  (∀ (k0_h1 : k0_cond1 i v3 v6 = 1#1), ∀ a, (k0_off5 i v20) a + S1x4096x512.size a ≤ S1x4096x14336.size a)
theorem k0_off4_inb : ∀ (i : grid0.Coords) (v3 : BitVec 32) (v6 : BitVec 32) (v20 : BitVec 32) (k0_hw1 : k0_chk1 i v3 v6 v20), ∀ (k0_h1 : k0_cond1 i v3 v6 = 1#1), ∀ (k0_h2 : k0_cond2 i = 1#1), ∀ a, (k0_off4 i v20) a + S1x4096x512.size a ≤ S1x4096x14336.size a := fun i v3 v6 v20 k0_hw1 k0_h1 k0_h2 => k0_hw1.1 k0_h1 k0_h2
theorem k0_off5_inb : ∀ (i : grid0.Coords) (v3 : BitVec 32) (v6 : BitVec 32) (v20 : BitVec 32) (k0_hw1 : k0_chk1 i v3 v6 v20), ∀ (k0_h1 : k0_cond1 i v3 v6 = 1#1), ∀ a, (k0_off5 i v20) a + S1x4096x512.size a ≤ S1x4096x14336.size a := fun i v3 v6 v20 k0_hw1 k0_h1 => k0_hw1.2 k0_h1

def k0_mult4 (i : grid0.Coords) : BitVec 32 :=
  let arg0 : BitVec 32 := BitVec.ofNat 32 (i 0).val
  let c512_i32_14 : BitVec 32 := 512#32
  let v37 : BitVec 32 := Scalar.muli arg0 c512_i32_14
  v37
def k0_off6 (i : grid0.Coords) : Fin 1 → Nat :=
  let arg1 : BitVec 32 := BitVec.ofNat 32 (i 1).val
  let v48 : Index := Scalar.indexCast arg1
  ![v48.toNat]
def k0_mult5 (i : grid0.Coords) (v49 : BitVec 32) : BitVec 32 :=
  let c0_i32_21 : BitVec 32 := 0#32
  let v50 : BitVec 1 := Scalar.cmpi .sge v49 c0_i32_21
  let arg0 : BitVec 32 := BitVec.ofNat 32 (i 0).val
  let c1_i32_23 : BitVec 32 := 1#32
  let v53 : BitVec 32 := Scalar.addi arg0 c1_i32_23
  let v54 : BitVec 32 := Scalar.select v50 arg0 v53
  let c512_i32_26 : BitVec 32 := 512#32
  let v60 : BitVec 32 := Scalar.muli v54 c512_i32_26
  v60
def k0_cond3 (i : grid0.Coords) (v49 : BitVec 32) : BitVec 1 :=
  let c0_i32_21 : BitVec 32 := 0#32
  let v50 : BitVec 1 := Scalar.cmpi .sge v49 c0_i32_21
  let arg0 : BitVec 32 := BitVec.ofNat 32 (i 0).val
  let c1_i32_24 : BitVec 32 := 1#32
  let v55 : BitVec 32 := Scalar.addi arg0 c1_i32_24
  let c28_i32 : BitVec 32 := 28#32
  let v56 : BitVec 1 := Scalar.cmpi .slt v55 c28_i32
  let v57 : BitVec 1 := Scalar.ori v50 v56
  let v58 : BitVec 32 := Scalar.extui v57
  let c0_i32_25 : BitVec 32 := 0#32
  let v59 : BitVec 1 := Scalar.cmpi .ne v58 c0_i32_25
  v59

def k0_off7 (i : grid0.Coords) (v49 : BitVec 32) (v51 : BitVec 32) : Fin 3 → Nat :=
  let c0_i32_21 : BitVec 32 := 0#32
  let v50 : BitVec 1 := Scalar.cmpi .sge v49 c0_i32_21
  let v52 : BitVec 32 := Scalar.select v50 v49 v51
  let c0_i32_28 : BitVec 32 := 0#32
  let arg0 : BitVec 32 := BitVec.ofNat 32 (i 0).val
  let c1_i32_23 : BitVec 32 := 1#32
  let v53 : BitVec 32 := Scalar.addi arg0 c1_i32_23
  let v54 : BitVec 32 := Scalar.select v50 arg0 v53
  let c512_i32_26 : BitVec 32 := 512#32
  let v60 : BitVec 32 := Scalar.muli v54 c512_i32_26
  let v61 : BitVec 32 := v60
  ![v52.toNat, 0, v61.toNat]

def k0_chk3 (i : grid0.Coords) (v3 : BitVec 32) (v6 : BitVec 32) (v49 : BitVec 32) (v51 : BitVec 32) : Prop :=
  (∀ (k0_h1 : k0_cond1 i v3 v6 = 1#1), ∀ (k0_h3 : k0_cond3 i v49 = 1#1), ∀ a, (k0_off7 i v49 v51) a + S1x4096x512.size a ≤ S1x4096x14336.size a)
theorem k0_off7_inb : ∀ (i : grid0.Coords) (v3 : BitVec 32) (v6 : BitVec 32) (v49 : BitVec 32) (v51 : BitVec 32) (k0_hw3 : k0_chk3 i v3 v6 v49 v51), ∀ (k0_h1 : k0_cond1 i v3 v6 = 1#1), ∀ (k0_h3 : k0_cond3 i v49 = 1#1), ∀ a, (k0_off7 i v49 v51) a + S1x4096x512.size a ≤ S1x4096x14336.size a := fun i v3 v6 v49 v51 k0_hw3 k0_h1 k0_h3 => k0_hw3 k0_h1 k0_h3

def k0_mult6 (i : grid0.Coords) (v49 : BitVec 32) : BitVec 32 :=
  let c0_i32_21 : BitVec 32 := 0#32
  let v50 : BitVec 1 := Scalar.cmpi .sge v49 c0_i32_21
  let arg0 : BitVec 32 := BitVec.ofNat 32 (i 0).val
  let c1_i32_23 : BitVec 32 := 1#32
  let v53 : BitVec 32 := Scalar.addi arg0 c1_i32_23
  let v54 : BitVec 32 := Scalar.select v50 arg0 v53
  let c512_i32_29 : BitVec 32 := 512#32
  let v66 : BitVec 32 := Scalar.muli v54 c512_i32_29
  v66

def k0_chk2 (i : grid0.Coords) (v3 : BitVec 32) (v6 : BitVec 32) (v49 : BitVec 32) : Prop :=
  (∀ (k0_h1 : k0_cond1 i v3 v6 = 1#1), ∀ (k0_h3 : k0_cond3 i v49 = 1#1), 512 ∣ (k0_mult5 i v49).toNat) ∧
  (∀ (k0_h1 : k0_cond1 i v3 v6 = 1#1), ∀ (k0_h3 : k0_cond3 i v49 = 1#1), 512 ∣ (k0_mult6 i v49).toNat)
theorem k0_mult5_dvd : ∀ (i : grid0.Coords) (v3 : BitVec 32) (v6 : BitVec 32) (v49 : BitVec 32) (k0_hw2 : k0_chk2 i v3 v6 v49), ∀ (k0_h1 : k0_cond1 i v3 v6 = 1#1), ∀ (k0_h3 : k0_cond3 i v49 = 1#1), 512 ∣ (k0_mult5 i v49).toNat := fun i v3 v6 v49 k0_hw2 k0_h1 k0_h3 => k0_hw2.1 k0_h1 k0_h3
theorem k0_mult6_dvd : ∀ (i : grid0.Coords) (v3 : BitVec 32) (v6 : BitVec 32) (v49 : BitVec 32) (k0_hw2 : k0_chk2 i v3 v6 v49), ∀ (k0_h1 : k0_cond1 i v3 v6 = 1#1), ∀ (k0_h3 : k0_cond3 i v49 = 1#1), 512 ∣ (k0_mult6 i v49).toNat := fun i v3 v6 v49 k0_hw2 k0_h1 k0_h3 => k0_hw2.2 k0_h1 k0_h3

def k0_off8 (i : grid0.Coords) : Fin 1 → Nat :=
  let arg1 : BitVec 32 := BitVec.ofNat 32 (i 1).val
  let v11 : Index := Scalar.indexCast arg1
  ![v11.toNat]
def k0_cond4 (v12 : BitVec 32) : BitVec 1 :=
  let c1_i32_2 : BitVec 32 := 1#32
  let v13 : BitVec 1 := Scalar.cmpi .eq v12 c1_i32_2
  let v14 : BitVec 32 := Scalar.extui v13
  let c0_i32_3 : BitVec 32 := 0#32
  let v15 : BitVec 1 := Scalar.cmpi .ne v14 c0_i32_3
  v15

def k0_cond5 (v12 : BitVec 32) : BitVec 1 :=
  let c0_i32_4 : BitVec 32 := 0#32
  let v16 : BitVec 1 := Scalar.cmpi .eq v12 c0_i32_4
  let v17 : BitVec 32 := Scalar.extui v16
  let c0_i32_5 : BitVec 32 := 0#32
  let v18 : BitVec 1 := Scalar.cmpi .ne v17 c0_i32_5
  v18

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]
-- ==== DenseRefIdeal.lean ====
abbrev S8192x4096 : Shape := ⟨2, ![8192, 4096]⟩
abbrev S1x4096x14336 : Shape := ⟨3, ![1, 4096, 14336]⟩
abbrev S4096x14336 : Shape := ⟨2, ![4096, 14336]⟩
abbrev S8192x14336 : Shape := ⟨2, ![8192, 14336]⟩
abbrev S_ : Shape := ⟨0, ![]⟩

abbrev nBuf : Space → Nat
  | .hbm => 19
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S1x4096x14336, .f32⟩
  | .hbm, ⟨2, _⟩ => ⟨S1x4096x14336, .f32⟩
  | .hbm, ⟨3, _⟩ => ⟨S8192x4096, .f32⟩
  | .hbm, ⟨4, _⟩ => ⟨S4096x14336, .f32⟩
  | .hbm, ⟨5, _⟩ => ⟨S8192x14336, .f32⟩
  | .hbm, ⟨6, _⟩ => ⟨S8192x14336, .f32⟩
  | .hbm, ⟨7, _⟩ => ⟨S8192x14336, .f32⟩
  | .hbm, ⟨8, _⟩ => ⟨S_, .f32⟩
  | .hbm, ⟨9, _⟩ => ⟨S8192x14336, .f32⟩
  | .hbm, ⟨10, _⟩ => ⟨S8192x14336, .f32⟩
  | .hbm, ⟨11, _⟩ => ⟨S_, .f32⟩
  | .hbm, ⟨12, _⟩ => ⟨S8192x14336, .f32⟩
  | .hbm, ⟨13, _⟩ => ⟨S8192x14336, .f32⟩
  | .hbm, ⟨14, _⟩ => ⟨S8192x14336, .f32⟩
  | .hbm, ⟨15, _⟩ => ⟨S4096x14336, .f32⟩
  | .hbm, ⟨16, _⟩ => ⟨S8192x14336, .f32⟩
  | .hbm, ⟨17, _⟩ => ⟨S8192x14336, .f32⟩
  | .hbm, ⟨18, _⟩ => ⟨S8192x14336, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩

abbrev nD : Nat := 1
abbrev τ : Topo := Topo.v7x

variable {F : FTy → Type} [FloatOps F]
-- ==== Down.lean ====
abbrev S20480x14336 : Shape := ⟨2, ![20480, 14336]⟩
abbrev S8x14336x4096 : Shape := ⟨3, ![8, 14336, 4096]⟩
abbrev S40 : Shape := ⟨1, ![40]⟩
abbrev S20480x1 : Shape := ⟨2, ![20480, 1]⟩
abbrev S1x40 : Shape := ⟨2, ![1, 40]⟩
abbrev S40x1 : Shape := ⟨2, ![40, 1]⟩
abbrev S40x40 : Shape := ⟨2, ![40, 40]⟩
abbrev S_ : Shape := ⟨0, ![]⟩
abbrev S20480x4096 : Shape := ⟨2, ![20480, 4096]⟩
abbrev S512x3584 : Shape := ⟨2, ![512, 3584]⟩
abbrev S512x1 : Shape := ⟨2, ![512, 1]⟩
abbrev S512x1024 : Shape := ⟨2, ![512, 1024]⟩
abbrev S3584x1024 : Shape := ⟨2, ![3584, 1024]⟩
abbrev S1 : Shape := ⟨1, ![1]⟩
abbrev S1x3584x1024 : Shape := ⟨3, ![1, 3584, 1024]⟩
abbrev S128x3584 : Shape := ⟨2, ![128, 3584]⟩
abbrev S128x1024 : Shape := ⟨2, ![128, 1024]⟩
abbrev S128x1 : Shape := ⟨2, ![128, 1]⟩

abbrev nBuf : Space → Nat
  | .hbm => 25
  | .vmem => 38
  | .smem => 3
  | _ => 0

abbrev bufTy : (tb : Table) → Fin (tcTables nBuf tb) → BufTy
  | .hbm, ⟨0, _⟩ => ⟨S20480x14336, .bf16⟩
  | .hbm, ⟨1, _⟩ => ⟨S8x14336x4096, .f32⟩
  | .hbm, ⟨2, _⟩ => ⟨S20480x1, .f32⟩
  | .hbm, ⟨3, _⟩ => ⟨S1x40, .i32⟩
  | .hbm, ⟨4, _⟩ => ⟨S40x1, .i32⟩
  | .hbm, ⟨5, _⟩ => ⟨S40x40, .i32⟩
  | .hbm, ⟨6, _⟩ => ⟨S40x40, .i32⟩
  | .hbm, ⟨7, _⟩ => ⟨S40x40, .i1⟩
  | .hbm, ⟨8, _⟩ => ⟨S1x40, .i32⟩
  | .hbm, ⟨9, _⟩ => ⟨S_, .i32⟩
  | .hbm, ⟨10, _⟩ => ⟨S40x40, .i32⟩
  | .hbm, ⟨11, _⟩ => ⟨S40x40, .i32⟩
  | .hbm, ⟨12, _⟩ => ⟨S40x40, .i32⟩
  | .hbm, ⟨13, _⟩ => ⟨S_, .i32⟩
  | .hbm, ⟨14, _⟩ => ⟨S40, .i32⟩
  | .hbm, ⟨15, _⟩ => ⟨S_, .i32⟩
  | .hbm, ⟨16, _⟩ => ⟨S40, .i32⟩
  | .hbm, ⟨17, _⟩ => ⟨S40, .i1⟩
  | .hbm, ⟨18, _⟩ => ⟨S_, .i32⟩
  | .hbm, ⟨19, _⟩ => ⟨S_, .i32⟩
  | .hbm, ⟨20, _⟩ => ⟨S40, .i32⟩
  | .hbm, ⟨21, _⟩ => ⟨S20480x4096, .f32⟩
  | .hbm, ⟨22, _⟩ => ⟨S20480x4096, .f32⟩
  | .hbm, ⟨23, _⟩ => ⟨S20480x4096, .f32⟩
  | .hbm, ⟨24, _⟩ => ⟨S20480x4096, .f32⟩
  | .local _ .vmem, ⟨0, _⟩ => ⟨S512x3584, .bf16⟩
  | .local _ .vmem, ⟨1, _⟩ => ⟨S512x3584, .bf16⟩
  | .local _ .vmem, ⟨2, _⟩ => ⟨S512x1, .f32⟩
  | .local _ .vmem, ⟨3, _⟩ => ⟨S512x1, .f32⟩
  | .local _ .vmem, ⟨4, _⟩ => ⟨S512x1024, .f32⟩
  | .local _ .vmem, ⟨5, _⟩ => ⟨S512x1024, .f32⟩
  | .local _ .vmem, ⟨6, _⟩ => ⟨S3584x1024, .f32⟩
  | .local _ .vmem, ⟨7, _⟩ => ⟨S3584x1024, .bf16⟩
  | .local _ .vmem, ⟨8, _⟩ => ⟨S512x3584, .bf16⟩
  | .local _ .vmem, ⟨9, _⟩ => ⟨S512x3584, .bf16⟩
  | .local _ .vmem, ⟨10, _⟩ => ⟨S512x1024, .f32⟩
  | .local _ .vmem, ⟨11, _⟩ => ⟨S512x1024, .f32⟩
  | .local _ .vmem, ⟨12, _⟩ => ⟨S512x1, .f32⟩
  | .local _ .vmem, ⟨13, _⟩ => ⟨S512x1, .f32⟩
  | .local _ .vmem, ⟨14, _⟩ => ⟨S512x1024, .f32⟩
  | .local _ .vmem, ⟨15, _⟩ => ⟨S512x1024, .f32⟩
  | .local _ .vmem, ⟨16, _⟩ => ⟨S3584x1024, .f32⟩
  | .local _ .vmem, ⟨17, _⟩ => ⟨S3584x1024, .bf16⟩
  | .local _ .vmem, ⟨18, _⟩ => ⟨S512x3584, .bf16⟩
  | .local _ .vmem, ⟨19, _⟩ => ⟨S512x3584, .bf16⟩
  | .local _ .vmem, ⟨20, _⟩ => ⟨S512x1024, .f32⟩
  | .local _ .vmem, ⟨21, _⟩ => ⟨S512x1024, .f32⟩
  | .local _ .vmem, ⟨22, _⟩ => ⟨S512x1, .f32⟩
  | .local _ .vmem, ⟨23, _⟩ => ⟨S512x1, .f32⟩
  | .local _ .vmem, ⟨24, _⟩ => ⟨S512x1024, .f32⟩
  | .local _ .vmem, ⟨25, _⟩ => ⟨S512x1024, .f32⟩
  | .local _ .vmem, ⟨26, _⟩ => ⟨S3584x1024, .f32⟩
  | .local _ .vmem, ⟨27, _⟩ => ⟨S3584x1024, .bf16⟩
  | .local _ .vmem, ⟨28, _⟩ => ⟨S512x3584, .bf16⟩
  | .local _ .vmem, ⟨29, _⟩ => ⟨S512x3584, .bf16⟩
  | .local _ .vmem, ⟨30, _⟩ => ⟨S512x1024, .f32⟩
  | .local _ .vmem, ⟨31, _⟩ => ⟨S512x1024, .f32⟩
  | .local _ .vmem, ⟨32, _⟩ => ⟨S512x1, .f32⟩
  | .local _ .vmem, ⟨33, _⟩ => ⟨S512x1, .f32⟩
  | .local _ .vmem, ⟨34, _⟩ => ⟨S512x1024, .f32⟩
  | .local _ .vmem, ⟨35, _⟩ => ⟨S512x1024, .f32⟩
  | .local _ .vmem, ⟨36, _⟩ => ⟨S3584x1024, .f32⟩
  | .local _ .vmem, ⟨37, _⟩ => ⟨S3584x1024, .bf16⟩
  | .local _ .smem, ⟨0, _⟩ => ⟨S40, .i32⟩
  | .local _ .smem, ⟨1, _⟩ => ⟨S40, .i32⟩
  | .local _ .smem, ⟨2, _⟩ => ⟨S40, .i32⟩
  | _, _ => ⟨S20480x14336, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg4 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_c : Ref sig .tc := ⟨.hbm, 9, rfl⟩
abbrev main_call0_v0 : Ref sig .tc := ⟨.hbm, 10, rfl⟩
abbrev main_call0_v1 : Ref sig .tc := ⟨.hbm, 11, rfl⟩
abbrev main_v6 : Ref sig .tc := ⟨.hbm, 12, rfl⟩
abbrev main_c_0 : Ref sig .tc := ⟨.hbm, 13, rfl⟩
abbrev main_v7 : Ref sig .tc := ⟨.hbm, 14, rfl⟩
abbrev main_c_1 : Ref sig .tc := ⟨.hbm, 15, rfl⟩
abbrev main_v8 : Ref sig .tc := ⟨.hbm, 16, rfl⟩
abbrev main_v9 : Ref sig .tc := ⟨.hbm, 17, rfl⟩
abbrev main_c_2 : Ref sig .tc := ⟨.hbm, 18, rfl⟩
abbrev main_call1_v0 : Ref sig .tc := ⟨.hbm, 19, rfl⟩
abbrev main_call1_v1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_arg2 : Ref sig .tc := ⟨.smem, 0, rfl⟩
abbrev main_arg3 : Ref sig .tc := ⟨.smem, 1, rfl⟩
abbrev main_v10 : Ref sig .tc := ⟨.smem, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc1_scratch0 : Ref sig .tc := ⟨.vmem, 16, rfl⟩
abbrev cc1_scratch1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg2_1 : Ref sig .tc := ⟨.vmem, 23, rfl⟩
abbrev cc2_stg3_0 : Ref sig .tc := ⟨.vmem, 24, rfl⟩
abbrev cc2_stg3_1 : Ref sig .tc := ⟨.vmem, 25, rfl⟩
abbrev cc2_scratch0 : Ref sig .tc := ⟨.vmem, 26, rfl⟩
abbrev cc2_scratch1 : Ref sig .tc := ⟨.vmem, 27, rfl⟩
abbrev cc3_stg0_0 : Ref sig .tc := ⟨.vmem, 28, rfl⟩
abbrev cc3_stg0_1 : Ref sig .tc := ⟨.vmem, 29, rfl⟩
abbrev cc3_stg1_0 : Ref sig .tc := ⟨.vmem, 30, rfl⟩
abbrev cc3_stg1_1 : Ref sig .tc := ⟨.vmem, 31, rfl⟩
abbrev cc3_stg2_0 : Ref sig .tc := ⟨.vmem, 32, rfl⟩
abbrev cc3_stg2_1 : Ref sig .tc := ⟨.vmem, 33, rfl⟩
abbrev cc3_stg3_0 : Ref sig .tc := ⟨.vmem, 34, rfl⟩
abbrev cc3_stg3_1 : Ref sig .tc := ⟨.vmem, 35, rfl⟩
abbrev cc3_scratch0 : Ref sig .tc := ⟨.vmem, 36, rfl⟩
abbrev cc3_scratch1 : Ref sig .tc := ⟨.vmem, 37, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12
abbrev cc1_sem3_0 : DmaSem sig := 13
abbrev cc1_sem3_1 : DmaSem sig := 14
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem2_1 : DmaSem sig := 21
abbrev cc2_sem3_0 : DmaSem sig := 22
abbrev cc2_sem3_1 : DmaSem sig := 23
abbrev cc3_sem0_0 : DmaSem sig := 25
abbrev cc3_sem0_1 : DmaSem sig := 26
abbrev cc3_sem1_0 : DmaSem sig := 27
abbrev cc3_sem1_1 : DmaSem sig := 28
abbrev cc3_sem2_0 : DmaSem sig := 29
abbrev cc3_sem2_1 : DmaSem sig := 30
abbrev cc3_sem3_0 : DmaSem sig := 31
abbrev cc3_sem3_1 : DmaSem sig := 32

abbrev nD : Nat := 1
abbrev τ : Topo := Topo.v7x

variable {F : FTy → Type} [FloatOps F]

abbrev grid0 : Pipeline.Grid := ⟨2, ![4, 40], ![false, false]⟩

abbrev pre0 : Pipeline.Prefetch sig := ⟨3, ![main_arg2.idx, main_arg3.idx, main_v10.idx], fun | 0 => main_arg2.names | 1 => main_arg3.names | 2 => main_v10.names | ⟨_ + 3, h⟩ => absurd h (Nat.not_lt.2 (Nat.le_add_left _ _)), fun | 0 => rfl | 1 => rfl | 2 => rfl | ⟨_ + 3, h⟩ => absurd h (Nat.not_lt.2 (Nat.le_add_left _ _))⟩

def k0_off1 (i : grid0.Coords) : Fin 1 → Nat :=
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let v2 : Index := Scalar.indexCast v1
  ![v2.toNat]
def k0_off2 (i : grid0.Coords) : Fin 1 → Nat :=
  let arg1 : BitVec 32 := BitVec.ofNat 32 (i 1).val
  let v5 : Index := Scalar.indexCast arg1
  ![v5.toNat]
def k0_off3 (i : grid0.Coords) : Fin 1 → Nat :=
  let arg1 : BitVec 32 := BitVec.ofNat 32 (i 1).val
  let v67 : Index := Scalar.indexCast arg1
  ![v67.toNat]
def k0_cond2 (i : grid0.Coords) : BitVec 1 :=
  let arg0 : BitVec 32 := BitVec.ofNat 32 (i 0).val
  let c0_i32_35 : BitVec 32 := 0#32
  let v69 : BitVec 1 := Scalar.cmpi .eq arg0 c0_i32_35
  let arg1 : BitVec 32 := BitVec.ofNat 32 (i 1).val
  let c0_i32_36 : BitVec 32 := 0#32
  let v70 : BitVec 1 := Scalar.cmpi .eq arg1 c0_i32_36
  let v71 : BitVec 1 := Scalar.andi v69 v70
  let v72 : BitVec 32 := Scalar.extui v71
  let c0_i32_37 : BitVec 32 := 0#32
  let v73 : BitVec 1 := Scalar.cmpi .ne v72 c0_i32_37
  v73

def k0_mult1 (i : grid0.Coords) : BitVec 32 :=
  let arg0 : BitVec 32 := BitVec.ofNat 32 (i 0).val
  let c1024_i32_48 : BitVec 32 := 1024#32
  let v97 : BitVec 32 := Scalar.muli arg0 c1024_i32_48
  v97
def k0_off4 (i : grid0.Coords) (v68 : BitVec 32) : Fin 3 → Nat :=
  let c0_i32_50 : BitVec 32 := 0#32
  let arg0 : BitVec 32 := BitVec.ofNat 32 (i 0).val
  let c1024_i32_48 : BitVec 32 := 1024#32
  let v97 : BitVec 32 := Scalar.muli arg0 c1024_i32_48
  let v98 : BitVec 32 := v97
  ![v68.toNat, 0, v98.toNat]
def k0_cond1 (i : grid0.Coords) (v3 : BitVec 32) (v6 : BitVec 32) : BitVec 1 :=
  let arg1 : BitVec 32 := BitVec.ofNat 32 (i 1).val
  let c0_i32_0 : BitVec 32 := 0#32
  let v4 : BitVec 1 := Scalar.cmpi .eq arg1 c0_i32_0
  let v7 : BitVec 1 := Scalar.cmpi .ne v6 v3
  let v8 : BitVec 1 := Scalar.ori v4 v7
  let v9 : BitVec 32 := Scalar.extui v8
  let c0_i32_1 : BitVec 32 := 0#32
  let v10 : BitVec 1 := Scalar.cmpi .ne v9 c0_i32_1
  v10

def k0_mult2 (i : grid0.Coords) : BitVec 32 :=
  let arg0 : BitVec 32 := BitVec.ofNat 32 (i 0).val
  let c1024_i32 : BitVec 32 := 1024#32
  let v74 : BitVec 32 := Scalar.muli arg0 c1024_i32
  v74
def k0_off5 (i : grid0.Coords) (v68 : BitVec 32) : Fin 3 → Nat :=
  let c0_i32_39 : BitVec 32 := 0#32
  let arg0 : BitVec 32 := BitVec.ofNat 32 (i 0).val
  let c1024_i32 : BitVec 32 := 1024#32
  let v74 : BitVec 32 := Scalar.muli arg0 c1024_i32
  let v75 : BitVec 32 := v74
  ![v68.toNat, 0, v75.toNat]

def k0_chk1 (i : grid0.Coords) (v3 : BitVec 32) (v6 : BitVec 32) (v68 : BitVec 32) : Prop :=
  (∀ (k0_h1 : k0_cond1 i v3 v6 = 1#1), ∀ (k0_h2 : k0_cond2 i = 1#1), ∀ a, (k0_off4 i v68) a + S1x3584x1024.size a ≤ S8x14336x4096.size a) ∧
  (∀ (k0_h1 : k0_cond1 i v3 v6 = 1#1), ∀ a, (k0_off5 i v68) a + S1x3584x1024.size a ≤ S8x14336x4096.size a)
theorem k0_off4_inb : ∀ (i : grid0.Coords) (v3 : BitVec 32) (v6 : BitVec 32) (v68 : BitVec 32) (k0_hw1 : k0_chk1 i v3 v6 v68), ∀ (k0_h1 : k0_cond1 i v3 v6 = 1#1), ∀ (k0_h2 : k0_cond2 i = 1#1), ∀ a, (k0_off4 i v68) a + S1x3584x1024.size a ≤ S8x14336x4096.size a := fun i v3 v6 v68 k0_hw1 k0_h1 k0_h2 => k0_hw1.1 k0_h1 k0_h2
theorem k0_off5_inb : ∀ (i : grid0.Coords) (v3 : BitVec 32) (v6 : BitVec 32) (v68 : BitVec 32) (k0_hw1 : k0_chk1 i v3 v6 v68), ∀ (k0_h1 : k0_cond1 i v3 v6 = 1#1), ∀ a, (k0_off5 i v68) a + S1x3584x1024.size a ≤ S8x14336x4096.size a := fun i v3 v6 v68 k0_hw1 k0_h1 => k0_hw1.2 k0_h1

def k0_off6 (i : grid0.Coords) : Fin 1 → Nat :=
  let arg1 : BitVec 32 := BitVec.ofNat 32 (i 1).val
  let v85 : Index := Scalar.indexCast arg1
  ![v85.toNat]
def k0_mult3 (i : grid0.Coords) (v86 : BitVec 32) : BitVec 32 :=
  let c0_i32_43 : BitVec 32 := 0#32
  let v87 : BitVec 1 := Scalar.cmpi .sge v86 c0_i32_43
  let arg0 : BitVec 32 := BitVec.ofNat 32 (i 0).val
  let c1_i32_45 : BitVec 32 := 1#32
  let v90 : BitVec 32 := Scalar.addi arg0 c1_i32_45
  let v91 : BitVec 32 := Scalar.select v87 arg0 v90
  let c1024_i32_48 : BitVec 32 := 1024#32
  let v97 : BitVec 32 := Scalar.muli v91 c1024_i32_48
  v97
def k0_cond3 (i : grid0.Coords) (v86 : BitVec 32) : BitVec 1 :=
  let c0_i32_43 : BitVec 32 := 0#32
  let v87 : BitVec 1 := Scalar.cmpi .sge v86 c0_i32_43
  let arg0 : BitVec 32 := BitVec.ofNat 32 (i 0).val
  let c1_i32_46 : BitVec 32 := 1#32
  let v92 : BitVec 32 := Scalar.addi arg0 c1_i32_46
  let c4_i32 : BitVec 32 := 4#32
  let v93 : BitVec 1 := Scalar.cmpi .slt v92 c4_i32
  let v94 : BitVec 1 := Scalar.ori v87 v93
  let v95 : BitVec 32 := Scalar.extui v94
  let c0_i32_47 : BitVec 32 := 0#32
  let v96 : BitVec 1 := Scalar.cmpi .ne v95 c0_i32_47
  v96

def k0_chk2 (i : grid0.Coords) (v3 : BitVec 32) (v6 : BitVec 32) (v86 : BitVec 32) : Prop :=
  (∀ (k0_h1 : k0_cond1 i v3 v6 = 1#1), ∀ (k0_h3 : k0_cond3 i v86 = 1#1), 1024 ∣ (k0_mult3 i v86).toNat)
theorem k0_mult3_dvd : ∀ (i : grid0.Coords) (v3 : BitVec 32) (v6 : BitVec 32) (v86 : BitVec 32) (k0_hw2 : k0_chk2 i v3 v6 v86), ∀ (k0_h1 : k0_cond1 i v3 v6 = 1#1), ∀ (k0_h3 : k0_cond3 i v86 = 1#1), 1024 ∣ (k0_mult3 i v86).toNat := fun i v3 v6 v86 k0_hw2 k0_h1 k0_h3 => k0_hw2 k0_h1 k0_h3

def k0_off7 (i : grid0.Coords) (v86 : BitVec 32) (v88 : BitVec 32) : Fin 3 → Nat :=
  let c0_i32_43 : BitVec 32 := 0#32
  let v87 : BitVec 1 := Scalar.cmpi .sge v86 c0_i32_43
  let v89 : BitVec 32 := Scalar.select v87 v86 v88
  let c0_i32_50 : BitVec 32 := 0#32
  let arg0 : BitVec 32 := BitVec.ofNat 32 (i 0).val
  let c1_i32_45 : BitVec 32 := 1#32
  let v90 : BitVec 32 := Scalar.addi arg0 c1_i32_45
  let v91 : BitVec 32 := Scalar.select v87 arg0 v90
  let c1024_i32_48 : BitVec 32 := 1024#32
  let v97 : BitVec 32 := Scalar.muli v91 c1024_i32_48
  let v98 : BitVec 32 := v97
  ![v89.toNat, 0, v98.toNat]

def k0_chk3 (i : grid0.Coords) (v3 : BitVec 32) (v6 : BitVec 32) (v86 : BitVec 32) (v88 : BitVec 32) : Prop :=
  (∀ (k0_h1 : k0_cond1 i v3 v6 = 1#1), ∀ (k0_h3 : k0_cond3 i v86 = 1#1), ∀ a, (k0_off7 i v86 v88) a + S1x3584x1024.size a ≤ S8x14336x4096.size a)
theorem k0_off7_inb : ∀ (i : grid0.Coords) (v3 : BitVec 32) (v6 : BitVec 32) (v86 : BitVec 32) (v88 : BitVec 32) (k0_hw3 : k0_chk3 i v3 v6 v86 v88), ∀ (k0_h1 : k0_cond1 i v3 v6 = 1#1), ∀ (k0_h3 : k0_cond3 i v86 = 1#1), ∀ a, (k0_off7 i v86 v88) a + S1x3584x1024.size a ≤ S8x14336x4096.size a := fun i v3 v6 v86 v88 k0_hw3 k0_h1 k0_h3 => k0_hw3 k0_h1 k0_h3

def k0_off8 (i : grid0.Coords) : Fin 1 → Nat :=
  let arg1 : BitVec 32 := BitVec.ofNat 32 (i 1).val
  let v11 : Index := Scalar.indexCast arg1
  ![v11.toNat]
def k0_cond4 (v12 : BitVec 32) : BitVec 1 :=
  let c1_i32_2 : BitVec 32 := 1#32
  let v13 : BitVec 1 := Scalar.cmpi .eq v12 c1_i32_2
  let v14 : BitVec 32 := Scalar.extui v13
  let c0_i32_3 : BitVec 32 := 0#32
  let v15 : BitVec 1 := Scalar.cmpi .ne v14 c0_i32_3
  v15

def k0_cond5 (v12 : BitVec 32) : BitVec 1 :=
  let c0_i32_4 : BitVec 32 := 0#32
  let v16 : BitVec 1 := Scalar.cmpi .eq v12 c0_i32_4
  let v17 : BitVec 32 := Scalar.extui v16
  let c0_i32_5 : BitVec 32 := 0#32
  let v18 : BitVec 1 := Scalar.cmpi .ne v17 c0_i32_5
  v18

def k0_cond6 (v12 : BitVec 32) : BitVec 1 :=
  let c8_i32 : BitVec 32 := 8#32
  let v19 : BitVec 1 := Scalar.cmpi .sge v12 c8_i32
  let c8_i32_6 : BitVec 32 := 8#32
  let v20 : BitVec 32 := Scalar.subi v12 c8_i32_6
  let c0_i32_7 : BitVec 32 := 0#32
  let v21 : BitVec 1 := Scalar.cmpi .sgt v20 c0_i32_7
  let v22 : BitVec 1 := Scalar.andi v19 v21
  let v23 : BitVec 32 := Scalar.extui v22
  let c0_i32_8 : BitVec 32 := 0#32
  let v24 : BitVec 1 := Scalar.cmpi .ne v23 c0_i32_8
  v24

def k0_cond7 (v12 : BitVec 32) : BitVec 1 :=
  let c8_i32_9 : BitVec 32 := 8#32
  let v25 : BitVec 1 := Scalar.cmpi .sge v12 c8_i32_9
  let c8_i32_10 : BitVec 32 := 8#32
  let v26 : BitVec 32 := Scalar.subi v12 c8_i32_10
  let c0_i32_11 : BitVec 32 := 0#32
  let v27 : BitVec 1 := Scalar.cmpi .sle v26 c0_i32_11
  let v28 : BitVec 1 := Scalar.andi v25 v27
  let v29 : BitVec 32 := Scalar.extui v28
  let c0_i32_12 : BitVec 32 := 0#32
  let v30 : BitVec 1 := Scalar.cmpi .ne v29 c0_i32_12
  v30

def k0_cond8 (v12 : BitVec 32) : BitVec 1 :=
  let c8_i32_13 : BitVec 32 := 8#32
  let v31 : BitVec 1 := Scalar.cmpi .sge v12 c8_i32_13
  let c8_i32_14 : BitVec 32 := 8#32
  let v32 : BitVec 32 := Scalar.subi v12 c8_i32_14
  let c1_i32_15 : BitVec 32 := 1#32
  let v33 : BitVec 1 := Scalar.cmpi .sgt v32 c1_i32_15
  let v34 : BitVec 1 := Scalar.andi v31 v33
  let v35 : BitVec 32 := Scalar.extui v34
  let c0_i32_16 : BitVec 32 := 0#32
  let v36 : BitVec 1 := Scalar.cmpi .ne v35 c0_i32_16
  v36

def k0_cond9 (v12 : BitVec 32) : BitVec 1 :=
  let c8_i32_17 : BitVec 32 := 8#32
  let v37 : BitVec 1 := Scalar.cmpi .sge v12 c8_i32_17
  let c8_i32_18 : BitVec 32 := 8#32
  let v38 : BitVec 32 := Scalar.subi v12 c8_i32_18
  let c1_i32_19 : BitVec 32 := 1#32
  let v39 : BitVec 1 := Scalar.cmpi .sle v38 c1_i32_19
  let v40 : BitVec 1 := Scalar.andi v37 v39
  let v41 : BitVec 32 := Scalar.extui v40
  let c0_i32_20 : BitVec 32 := 0#32
  let v42 : BitVec 1 := Scalar.cmpi .ne v41 c0_i32_20
  v42

def k0_cond10 (v12 : BitVec 32) : BitVec 1 :=
  let c8_i32_21 : BitVec 32 := 8#32
  let v43 : BitVec 1 := Scalar.cmpi .sge v12 c8_i32_21
  let c8_i32_22 : BitVec 32 := 8#32
  let v44 : BitVec 32 := Scalar.subi v12 c8_i32_22
  let c2_i32 : BitVec 32 := 2#32
  let v45 : BitVec 1 := Scalar.cmpi .sgt v44 c2_i32
  let v46 : BitVec 1 := Scalar.andi v43 v45
  let v47 : BitVec 32 := Scalar.extui v46
  let c0_i32_23 : BitVec 32 := 0#32
  let v48 : BitVec 1 := Scalar.cmpi .ne v47 c0_i32_23
  v48

def k0_cond11 (v12 : BitVec 32) : BitVec 1 :=
  let c8_i32_24 : BitVec 32 := 8#32
  let v49 : BitVec 1 := Scalar.cmpi .sge v12 c8_i32_24
  let c8_i32_25 : BitVec 32 := 8#32
  let v50 : BitVec 32 := Scalar.subi v12 c8_i32_25
  let c2_i32_26 : BitVec 32 := 2#32
  let v51 : BitVec 1 := Scalar.cmpi .sle v50 c2_i32_26
  let v52 : BitVec 1 := Scalar.andi v49 v51
  let v53 : BitVec 32 := Scalar.extui v52
  let c0_i32_27 : BitVec 32 := 0#32
  let v54 : BitVec 1 := Scalar.cmpi .ne v53 c0_i32_27
  v54

def k0_cond12 (v12 : BitVec 32) : BitVec 1 :=
  let c8_i32_28 : BitVec 32 := 8#32
  let v55 : BitVec 1 := Scalar.cmpi .sge v12 c8_i32_28
  let c8_i32_29 : BitVec 32 := 8#32
  let v56 : BitVec 32 := Scalar.subi v12 c8_i32_29
  let c3_i32 : BitVec 32 := 3#32
  let v57 : BitVec 1 := Scalar.cmpi .sgt v56 c3_i32
  let v58 : BitVec 1 := Scalar.andi v55 v57
  let v59 : BitVec 32 := Scalar.extui v58
  let c0_i32_30 : BitVec 32 := 0#32
  let v60 : BitVec 1 := Scalar.cmpi .ne v59 c0_i32_30
  v60

def k0_cond13 (v12 : BitVec 32) : BitVec 1 :=
  let c8_i32_31 : BitVec 32 := 8#32
  let v61 : BitVec 1 := Scalar.cmpi .sge v12 c8_i32_31
  let c8_i32_32 : BitVec 32 := 8#32
  let v62 : BitVec 32 := Scalar.subi v12 c8_i32_32
  let c3_i32_33 : BitVec 32 := 3#32
  let v63 : BitVec 1 := Scalar.cmpi .sle v62 c3_i32_33
  let v64 : BitVec 1 := Scalar.andi v61 v63
  let v65 : BitVec 32 := Scalar.extui v64
  let c0_i32_34 : BitVec 32 := 0#32
  let v66 : BitVec 1 := Scalar.cmpi .ne v65 c0_i32_34
  v66

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x3584 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨2, ![4, 40], ![false, false]⟩

abbrev pre1 : Pipeline.Prefetch sig := ⟨3, ![main_arg2.idx, main_arg3.idx, main_v10.idx], fun | 0 => main_arg2.names | 1 => main_arg3.names | 2 => main_v10.names | ⟨_ + 3, h⟩ => absurd h (Nat.not_lt.2 (Nat.le_add_left _ _)), fun | 0 => rfl | 1 => rfl | 2 => rfl | ⟨_ + 3, h⟩ => absurd h (Nat.not_lt.2 (Nat.le_add_left _ _))⟩

def k1_off1 (i : grid1.Coords) : Fin 1 → Nat :=
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let v2 : Index := Scalar.indexCast v1
  ![v2.toNat]
def k1_off2 (i : grid1.Coords) : Fin 1 → Nat :=
  let arg1 : BitVec 32 := BitVec.ofNat 32 (i 1).val
  let v5 : Index := Scalar.indexCast arg1
  ![v5.toNat]
def k1_off3 (i : grid1.Coords) : Fin 1 → Nat :=
  let arg1 : BitVec 32 := BitVec.ofNat 32 (i 1).val
  let v67 : Index := Scalar.indexCast arg1
  ![v67.toNat]
def k1_cond2 (i : grid1.Coords) : BitVec 1 :=
  let arg0 : BitVec 32 := BitVec.ofNat 32 (i 0).val
  let c0_i32_35 : BitVec 32 := 0#32
  let v69 : BitVec 1 := Scalar.cmpi .eq arg0 c0_i32_35
  let arg1 : BitVec 32 := BitVec.ofNat 32 (i 1).val
  let c0_i32_36 : BitVec 32 := 0#32
  let v70 : BitVec 1 := Scalar.cmpi .eq arg1 c0_i32_36
  let v71 : BitVec 1 := Scalar.andi v69 v70
  let v72 : BitVec 32 := Scalar.extui v71
  let c0_i32_37 : BitVec 32 := 0#32
  let v73 : BitVec 1 := Scalar.cmpi .ne v72 c0_i32_37
  v73

def k1_mult1 (i : grid1.Coords) : BitVec 32 :=
  let arg0 : BitVec 32 := BitVec.ofNat 32 (i 0).val
  let c1024_i32_47 : BitVec 32 := 1024#32
  let v97 : BitVec 32 := Scalar.muli arg0 c1024_i32_47
  v97
def k1_off4 (i : grid1.Coords) (v68 : BitVec 32) : Fin 3 → Nat :=
  let c3584_i32_49 : BitVec 32 := 3584#32
  let arg0 : BitVec 32 := BitVec.ofNat 32 (i 0).val
  let c1024_i32_47 : BitVec 32 := 1024#32
  let v97 : BitVec 32 := Scalar.muli arg0 c1024_i32_47
  let v98 : BitVec 32 := v97
  ![v68.toNat, 3584, v98.toNat]
def k1_cond1 (i : grid1.Coords) (v3 : BitVec 32) (v6 : BitVec 32) : BitVec 1 :=
  let arg1 : BitVec 32 := BitVec.ofNat 32 (i 1).val
  let c0_i32_0 : BitVec 32 := 0#32
  let v4 : BitVec 1 := Scalar.cmpi .eq arg1 c0_i32_0
  let v7 : BitVec 1 := Scalar.cmpi .ne v6 v3
  let v8 : BitVec 1 := Scalar.ori v4 v7
  let v9 : BitVec 32 := Scalar.extui v8
  let c0_i32_1 : BitVec 32 := 0#32
  let v10 : BitVec 1 := Scalar.cmpi .ne v9 c0_i32_1
  v10

def k1_mult2 (i : grid1.Coords) : BitVec 32 :=
  let arg0 : BitVec 32 := BitVec.ofNat 32 (i 0).val
  let c1024_i32 : BitVec 32 := 1024#32
  let v74 : BitVec 32 := Scalar.muli arg0 c1024_i32
  v74
def k1_off5 (i : grid1.Coords) (v68 : BitVec 32) : Fin 3 → Nat :=
  let c3584_i32 : BitVec 32 := 3584#32
  let arg0 : BitVec 32 := BitVec.ofNat 32 (i 0).val
  let c1024_i32 : BitVec 32 := 1024#32
  let v74 : BitVec 32 := Scalar.muli arg0 c1024_i32
  let v75 : BitVec 32 := v74
  ![v68.toNat, 3584, v75.toNat]

def k1_chk1 (i : grid1.Coords) (v3 : BitVec 32) (v6 : BitVec 32) (v68 : BitVec 32) : Prop :=
  (∀ (k1_h1 : k1_cond1 i v3 v6 = 1#1), ∀ (k1_h2 : k1_cond2 i = 1#1), ∀ a, (k1_off4 i v68) a + S1x3584x1024.size a ≤ S8x14336x4096.size a) ∧
  (∀ (k1_h1 : k1_cond1 i v3 v6 = 1#1), ∀ a, (k1_off5 i v68) a + S1x3584x1024.size a ≤ S8x14336x4096.size a)
theorem k1_off4_inb : ∀ (i : grid1.Coords) (v3 : BitVec 32) (v6 : BitVec 32) (v68 : BitVec 32) (k1_hw1 : k1_chk1 i v3 v6 v68), ∀ (k1_h1 : k1_cond1 i v3 v6 = 1#1), ∀ (k1_h2 : k1_cond2 i = 1#1), ∀ a, (k1_off4 i v68) a + S1x3584x1024.size a ≤ S8x14336x4096.size a := fun i v3 v6 v68 k1_hw1 k1_h1 k1_h2 => k1_hw1.1 k1_h1 k1_h2
theorem k1_off5_inb : ∀ (i : grid1.Coords) (v3 : BitVec 32) (v6 : BitVec 32) (v68 : BitVec 32) (k1_hw1 : k1_chk1 i v3 v6 v68), ∀ (k1_h1 : k1_cond1 i v3 v6 = 1#1), ∀ a, (k1_off5 i v68) a + S1x3584x1024.size a ≤ S8x14336x4096.size a := fun i v3 v6 v68 k1_hw1 k1_h1 => k1_hw1.2 k1_h1

def k1_off6 (i : grid1.Coords) : Fin 1 → Nat :=
  let arg1 : BitVec 32 := BitVec.ofNat 32 (i 1).val
  let v85 : Index := Scalar.indexCast arg1
  ![v85.toNat]
def k1_mult3 (i : grid1.Coords) (v86 : BitVec 32) : BitVec 32 :=
  let c0_i32_42 : BitVec 32 := 0#32
  let v87 : BitVec 1 := Scalar.cmpi .sge v86 c0_i32_42
  let arg0 : BitVec 32 := BitVec.ofNat 32 (i 0).val
  let c1_i32_44 : BitVec 32 := 1#32
  let v90 : BitVec 32 := Scalar.addi arg0 c1_i32_44
  let v91 : BitVec 32 := Scalar.select v87 arg0 v90
  let c1024_i32_47 : BitVec 32 := 1024#32
  let v97 : BitVec 32 := Scalar.muli v91 c1024_i32_47
  v97
def k1_cond3 (i : grid1.Coords) (v86 : BitVec 32) : BitVec 1 :=
  let c0_i32_42 : BitVec 32 := 0#32
  let v87 : BitVec 1 := Scalar.cmpi .sge v86 c0_i32_42
  let arg0 : BitVec 32 := BitVec.ofNat 32 (i 0).val
  let c1_i32_45 : BitVec 32 := 1#32
  let v92 : BitVec 32 := Scalar.addi arg0 c1_i32_45
  let c4_i32 : BitVec 32 := 4#32
  let v93 : BitVec 1 := Scalar.cmpi .slt v92 c4_i32
  let v94 : BitVec 1 := Scalar.ori v87 v93
  let v95 : BitVec 32 := Scalar.extui v94
  let c0_i32_46 : BitVec 32 := 0#32
  let v96 : BitVec 1 := Scalar.cmpi .ne v95 c0_i32_46
  v96

def k1_chk2 (i : grid1.Coords) (v3 : BitVec 32) (v6 : BitVec 32) (v86 : BitVec 32) : Prop :=
  (∀ (k1_h1 : k1_cond1 i v3 v6 = 1#1), ∀ (k1_h3 : k1_cond3 i v86 = 1#1), 1024 ∣ (k1_mult3 i v86).toNat)
theorem k1_mult3_dvd : ∀ (i : grid1.Coords) (v3 : BitVec 32) (v6 : BitVec 32) (v86 : BitVec 32) (k1_hw2 : k1_chk2 i v3 v6 v86), ∀ (k1_h1 : k1_cond1 i v3 v6 = 1#1), ∀ (k1_h3 : k1_cond3 i v86 = 1#1), 1024 ∣ (k1_mult3 i v86).toNat := fun i v3 v6 v86 k1_hw2 k1_h1 k1_h3 => k1_hw2 k1_h1 k1_h3

def k1_off7 (i : grid1.Coords) (v86 : BitVec 32) (v88 : BitVec 32) : Fin 3 → Nat :=
  let c0_i32_42 : BitVec 32 := 0#32
  let v87 : BitVec 1 := Scalar.cmpi .sge v86 c0_i32_42
  let v89 : BitVec 32 := Scalar.select v87 v86 v88
  let c3584_i32_49 : BitVec 32 := 3584#32
  let arg0 : BitVec 32 := BitVec.ofNat 32 (i 0).val
  let c1_i32_44 : BitVec 32 := 1#32
  let v90 : BitVec 32 := Scalar.addi arg0 c1_i32_44
  let v91 : BitVec 32 := Scalar.select v87 arg0 v90
  let c1024_i32_47 : BitVec 32 := 1024#32
  let v97 : BitVec 32 := Scalar.muli v91 c1024_i32_47
  let v98 : BitVec 32 := v97
  ![v89.toNat, 3584, v98.toNat]

def k1_chk3 (i : grid1.Coords) (v3 : BitVec 32) (v6 : BitVec 32) (v86 : BitVec 32) (v88 : BitVec 32) : Prop :=
  (∀ (k1_h1 : k1_cond1 i v3 v6 = 1#1), ∀ (k1_h3 : k1_cond3 i v86 = 1#1), ∀ a, (k1_off7 i v86 v88) a + S1x3584x1024.size a ≤ S8x14336x4096.size a)
theorem k1_off7_inb : ∀ (i : grid1.Coords) (v3 : BitVec 32) (v6 : BitVec 32) (v86 : BitVec 32) (v88 : BitVec 32) (k1_hw3 : k1_chk3 i v3 v6 v86 v88), ∀ (k1_h1 : k1_cond1 i v3 v6 = 1#1), ∀ (k1_h3 : k1_cond3 i v86 = 1#1), ∀ a, (k1_off7 i v86 v88) a + S1x3584x1024.size a ≤ S8x14336x4096.size a := fun i v3 v6 v86 v88 k1_hw3 k1_h1 k1_h3 => k1_hw3 k1_h1 k1_h3

def k1_off8 (i : grid1.Coords) : Fin 1 → Nat :=
  let arg1 : BitVec 32 := BitVec.ofNat 32 (i 1).val
  let v11 : Index := Scalar.indexCast arg1
  ![v11.toNat]
def k1_cond4 (v12 : BitVec 32) : BitVec 1 :=
  let c1_i32_2 : BitVec 32 := 1#32
  let v13 : BitVec 1 := Scalar.cmpi .eq v12 c1_i32_2
  let v14 : BitVec 32 := Scalar.extui v13
  let c0_i32_3 : BitVec 32 := 0#32
  let v15 : BitVec 1 := Scalar.cmpi .ne v14 c0_i32_3
  v15

def k1_cond5 (v12 : BitVec 32) : BitVec 1 :=
  let c0_i32_4 : BitVec 32 := 0#32
  let v16 : BitVec 1 := Scalar.cmpi .eq v12 c0_i32_4
  let v17 : BitVec 32 := Scalar.extui v16
  let c0_i32_5 : BitVec 32 := 0#32
  let v18 : BitVec 1 := Scalar.cmpi .ne v17 c0_i32_5
  v18

def k1_cond6 (v12 : BitVec 32) : BitVec 1 :=
  let c8_i32 : BitVec 32 := 8#32
  let v19 : BitVec 1 := Scalar.cmpi .sge v12 c8_i32
  let c8_i32_6 : BitVec 32 := 8#32
  let v20 : BitVec 32 := Scalar.subi v12 c8_i32_6
  let c0_i32_7 : BitVec 32 := 0#32
  let v21 : BitVec 1 := Scalar.cmpi .sgt v20 c0_i32_7
  let v22 : BitVec 1 := Scalar.andi v19 v21
  let v23 : BitVec 32 := Scalar.extui v22
  let c0_i32_8 : BitVec 32 := 0#32
  let v24 : BitVec 1 := Scalar.cmpi .ne v23 c0_i32_8
  v24

def k1_cond7 (v12 : BitVec 32) : BitVec 1 :=
  let c8_i32_9 : BitVec 32 := 8#32
  let v25 : BitVec 1 := Scalar.cmpi .sge v12 c8_i32_9
  let c8_i32_10 : BitVec 32 := 8#32
  let v26 : BitVec 32 := Scalar.subi v12 c8_i32_10
  let c0_i32_11 : BitVec 32 := 0#32
  let v27 : BitVec 1 := Scalar.cmpi .sle v26 c0_i32_11
  let v28 : BitVec 1 := Scalar.andi v25 v27
  let v29 : BitVec 32 := Scalar.extui v28
  let c0_i32_12 : BitVec 32 := 0#32
  let v30 : BitVec 1 := Scalar.cmpi .ne v29 c0_i32_12
  v30

def k1_cond8 (v12 : BitVec 32) : BitVec 1 :=
  let c8_i32_13 : BitVec 32 := 8#32
  let v31 : BitVec 1 := Scalar.cmpi .sge v12 c8_i32_13
  let c8_i32_14 : BitVec 32 := 8#32
  let v32 : BitVec 32 := Scalar.subi v12 c8_i32_14
  let c1_i32_15 : BitVec 32 := 1#32
  let v33 : BitVec 1 := Scalar.cmpi .sgt v32 c1_i32_15
  let v34 : BitVec 1 := Scalar.andi v31 v33
  let v35 : BitVec 32 := Scalar.extui v34
  let c0_i32_16 : BitVec 32 := 0#32
  let v36 : BitVec 1 := Scalar.cmpi .ne v35 c0_i32_16
  v36

def k1_cond9 (v12 : BitVec 32) : BitVec 1 :=
  let c8_i32_17 : BitVec 32 := 8#32
  let v37 : BitVec 1 := Scalar.cmpi .sge v12 c8_i32_17
  let c8_i32_18 : BitVec 32 := 8#32
  let v38 : BitVec 32 := Scalar.subi v12 c8_i32_18
  let c1_i32_19 : BitVec 32 := 1#32
  let v39 : BitVec 1 := Scalar.cmpi .sle v38 c1_i32_19
  let v40 : BitVec 1 := Scalar.andi v37 v39
  let v41 : BitVec 32 := Scalar.extui v40
  let c0_i32_20 : BitVec 32 := 0#32
  let v42 : BitVec 1 := Scalar.cmpi .ne v41 c0_i32_20
  v42

def k1_cond10 (v12 : BitVec 32) : BitVec 1 :=
  let c8_i32_21 : BitVec 32 := 8#32
  let v43 : BitVec 1 := Scalar.cmpi .sge v12 c8_i32_21
  let c8_i32_22 : BitVec 32 := 8#32
  let v44 : BitVec 32 := Scalar.subi v12 c8_i32_22
  let c2_i32 : BitVec 32 := 2#32
  let v45 : BitVec 1 := Scalar.cmpi .sgt v44 c2_i32
  let v46 : BitVec 1 := Scalar.andi v43 v45
  let v47 : BitVec 32 := Scalar.extui v46
  let c0_i32_23 : BitVec 32 := 0#32
  let v48 : BitVec 1 := Scalar.cmpi .ne v47 c0_i32_23
  v48

def k1_cond11 (v12 : BitVec 32) : BitVec 1 :=
  let c8_i32_24 : BitVec 32 := 8#32
  let v49 : BitVec 1 := Scalar.cmpi .sge v12 c8_i32_24
  let c8_i32_25 : BitVec 32 := 8#32
  let v50 : BitVec 32 := Scalar.subi v12 c8_i32_25
  let c2_i32_26 : BitVec 32 := 2#32
  let v51 : BitVec 1 := Scalar.cmpi .sle v50 c2_i32_26
  let v52 : BitVec 1 := Scalar.andi v49 v51
  let v53 : BitVec 32 := Scalar.extui v52
  let c0_i32_27 : BitVec 32 := 0#32
  let v54 : BitVec 1 := Scalar.cmpi .ne v53 c0_i32_27
  v54

def k1_cond12 (v12 : BitVec 32) : BitVec 1 :=
  let c8_i32_28 : BitVec 32 := 8#32
  let v55 : BitVec 1 := Scalar.cmpi .sge v12 c8_i32_28
  let c8_i32_29 : BitVec 32 := 8#32
  let v56 : BitVec 32 := Scalar.subi v12 c8_i32_29
  let c3_i32 : BitVec 32 := 3#32
  let v57 : BitVec 1 := Scalar.cmpi .sgt v56 c3_i32
  let v58 : BitVec 1 := Scalar.andi v55 v57
  let v59 : BitVec 32 := Scalar.extui v58
  let c0_i32_30 : BitVec 32 := 0#32
  let v60 : BitVec 1 := Scalar.cmpi .ne v59 c0_i32_30
  v60

def k1_cond13 (v12 : BitVec 32) : BitVec 1 :=
  let c8_i32_31 : BitVec 32 := 8#32
  let v61 : BitVec 1 := Scalar.cmpi .sge v12 c8_i32_31
  let c8_i32_32 : BitVec 32 := 8#32
  let v62 : BitVec 32 := Scalar.subi v12 c8_i32_32
  let c3_i32_33 : BitVec 32 := 3#32
  let v63 : BitVec 1 := Scalar.cmpi .sle v62 c3_i32_33
  let v64 : BitVec 1 := Scalar.andi v61 v63
  let v65 : BitVec 32 := Scalar.extui v64
  let c0_i32_34 : BitVec 32 := 0#32
  let v66 : BitVec 1 := Scalar.cmpi .ne v65 c0_i32_34
  v66

def cc1_transform_0 (i : grid1.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg1.toNat, c1_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage1_0 : Fin 2 → Memref sig .tc .vmem S512x3584 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S512x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S512x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S512x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev grid2 : Pipeline.Grid := ⟨2, ![4, 40], ![false, false]⟩

abbrev pre2 : Pipeline.Prefetch sig := ⟨3, ![main_arg2.idx, main_arg3.idx, main_v10.idx], fun | 0 => main_arg2.names | 1 => main_arg3.names | 2 => main_v10.names | ⟨_ + 3, h⟩ => absurd h (Nat.not_lt.2 (Nat.le_add_left _ _)), fun | 0 => rfl | 1 => rfl | 2 => rfl | ⟨_ + 3, h⟩ => absurd h (Nat.not_lt.2 (Nat.le_add_left _ _))⟩

def k2_off1 (i : grid2.Coords) : Fin 1 → Nat :=
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let v2 : Index := Scalar.indexCast v1
  ![v2.toNat]
def k2_off2 (i : grid2.Coords) : Fin 1 → Nat :=
  let arg1 : BitVec 32 := BitVec.ofNat 32 (i 1).val
  let v5 : Index := Scalar.indexCast arg1
  ![v5.toNat]
def k2_off3 (i : grid2.Coords) : Fin 1 → Nat :=
  let arg1 : BitVec 32 := BitVec.ofNat 32 (i 1).val
  let v67 : Index := Scalar.indexCast arg1
  ![v67.toNat]
def k2_cond2 (i : grid2.Coords) : BitVec 1 :=
  let arg0 : BitVec 32 := BitVec.ofNat 32 (i 0).val
  let c0_i32_35 : BitVec 32 := 0#32
  let v69 : BitVec 1 := Scalar.cmpi .eq arg0 c0_i32_35
  let arg1 : BitVec 32 := BitVec.ofNat 32 (i 1).val
  let c0_i32_36 : BitVec 32 := 0#32
  let v70 : BitVec 1 := Scalar.cmpi .eq arg1 c0_i32_36
  let v71 : BitVec 1 := Scalar.andi v69 v70
  let v72 : BitVec 32 := Scalar.extui v71
  let c0_i32_37 : BitVec 32 := 0#32
  let v73 : BitVec 1 := Scalar.cmpi .ne v72 c0_i32_37
  v73

def k2_mult1 (i : grid2.Coords) : BitVec 32 :=
  let arg0 : BitVec 32 := BitVec.ofNat 32 (i 0).val
  let c1024_i32_47 : BitVec 32 := 1024#32
  let v97 : BitVec 32 := Scalar.muli arg0 c1024_i32_47
  v97
def k2_off4 (i : grid2.Coords) (v68 : BitVec 32) : Fin 3 → Nat :=
  let c7168_i32_49 : BitVec 32 := 7168#32
  let arg0 : BitVec 32 := BitVec.ofNat 32 (i 0).val
  let c1024_i32_47 : BitVec 32 := 1024#32
  let v97 : BitVec 32 := Scalar.muli arg0 c1024_i32_47
  let v98 : BitVec 32 := v97
  ![v68.toNat, 7168, v98.toNat]
def k2_cond1 (i : grid2.Coords) (v3 : BitVec 32) (v6 : BitVec 32) : BitVec 1 :=
  let arg1 : BitVec 32 := BitVec.ofNat 32 (i 1).val
  let c0_i32_0 : BitVec 32 := 0#32
  let v4 : BitVec 1 := Scalar.cmpi .eq arg1 c0_i32_0
  let v7 : BitVec 1 := Scalar.cmpi .ne v6 v3
  let v8 : BitVec 1 := Scalar.ori v4 v7
  let v9 : BitVec 32 := Scalar.extui v8
  let c0_i32_1 : BitVec 32 := 0#32
  let v10 : BitVec 1 := Scalar.cmpi .ne v9 c0_i32_1
  v10

def k2_mult2 (i : grid2.Coords) : BitVec 32 :=
  let arg0 : BitVec 32 := BitVec.ofNat 32 (i 0).val
  let c1024_i32 : BitVec 32 := 1024#32
  let v74 : BitVec 32 := Scalar.muli arg0 c1024_i32
  v74
def k2_off5 (i : grid2.Coords) (v68 : BitVec 32) : Fin 3 → Nat :=
  let c7168_i32 : BitVec 32 := 7168#32
  let arg0 : BitVec 32 := BitVec.ofNat 32 (i 0).val
  let c1024_i32 : BitVec 32 := 1024#32
  let v74 : BitVec 32 := Scalar.muli arg0 c1024_i32
  let v75 : BitVec 32 := v74
  ![v68.toNat, 7168, v75.toNat]

def k2_chk1 (i : grid2.Coords) (v3 : BitVec 32) (v6 : BitVec 32) (v68 : BitVec 32) : Prop :=
  (∀ (k2_h1 : k2_cond1 i v3 v6 = 1#1), ∀ (k2_h2 : k2_cond2 i = 1#1), ∀ a, (k2_off4 i v68) a + S1x3584x1024.size a ≤ S8x14336x4096.size a) ∧
  (∀ (k2_h1 : k2_cond1 i v3 v6 = 1#1), ∀ a, (k2_off5 i v68) a + S1x3584x1024.size a ≤ S8x14336x4096.size a)
theorem k2_off4_inb : ∀ (i : grid2.Coords) (v3 : BitVec 32) (v6 : BitVec 32) (v68 : BitVec 32) (k2_hw1 : k2_chk1 i v3 v6 v68), ∀ (k2_h1 : k2_cond1 i v3 v6 = 1#1), ∀ (k2_h2 : k2_cond2 i = 1#1), ∀ a, (k2_off4 i v68) a + S1x3584x1024.size a ≤ S8x14336x4096.size a := fun i v3 v6 v68 k2_hw1 k2_h1 k2_h2 => k2_hw1.1 k2_h1 k2_h2
theorem k2_off5_inb : ∀ (i : grid2.Coords) (v3 : BitVec 32) (v6 : BitVec 32) (v68 : BitVec 32) (k2_hw1 : k2_chk1 i v3 v6 v68), ∀ (k2_h1 : k2_cond1 i v3 v6 = 1#1), ∀ a, (k2_off5 i v68) a + S1x3584x1024.size a ≤ S8x14336x4096.size a := fun i v3 v6 v68 k2_hw1 k2_h1 => k2_hw1.2 k2_h1

def k2_off6 (i : grid2.Coords) : Fin 1 → Nat :=
  let arg1 : BitVec 32 := BitVec.ofNat 32 (i 1).val
  let v85 : Index := Scalar.indexCast arg1
  ![v85.toNat]
def k2_mult3 (i : grid2.Coords) (v86 : BitVec 32) : BitVec 32 :=
  let c0_i32_42 : BitVec 32 := 0#32
  let v87 : BitVec 1 := Scalar.cmpi .sge v86 c0_i32_42
  let arg0 : BitVec 32 := BitVec.ofNat 32 (i 0).val
  let c1_i32_44 : BitVec 32 := 1#32
  let v90 : BitVec 32 := Scalar.addi arg0 c1_i32_44
  let v91 : BitVec 32 := Scalar.select v87 arg0 v90
  let c1024_i32_47 : BitVec 32 := 1024#32
  let v97 : BitVec 32 := Scalar.muli v91 c1024_i32_47
  v97
def k2_cond3 (i : grid2.Coords) (v86 : BitVec 32) : BitVec 1 :=
  let c0_i32_42 : BitVec 32 := 0#32
  let v87 : BitVec 1 := Scalar.cmpi .sge v86 c0_i32_42
  let arg0 : BitVec 32 := BitVec.ofNat 32 (i 0).val
  let c1_i32_45 : BitVec 32 := 1#32
  let v92 : BitVec 32 := Scalar.addi arg0 c1_i32_45
  let c4_i32 : BitVec 32 := 4#32
  let v93 : BitVec 1 := Scalar.cmpi .slt v92 c4_i32
  let v94 : BitVec 1 := Scalar.ori v87 v93
  let v95 : BitVec 32 := Scalar.extui v94
  let c0_i32_46 : BitVec 32 := 0#32
  let v96 : BitVec 1 := Scalar.cmpi .ne v95 c0_i32_46
  v96

def k2_chk2 (i : grid2.Coords) (v3 : BitVec 32) (v6 : BitVec 32) (v86 : BitVec 32) : Prop :=
  (∀ (k2_h1 : k2_cond1 i v3 v6 = 1#1), ∀ (k2_h3 : k2_cond3 i v86 = 1#1), 1024 ∣ (k2_mult3 i v86).toNat)
theorem k2_mult3_dvd : ∀ (i : grid2.Coords) (v3 : BitVec 32) (v6 : BitVec 32) (v86 : BitVec 32) (k2_hw2 : k2_chk2 i v3 v6 v86), ∀ (k2_h1 : k2_cond1 i v3 v6 = 1#1), ∀ (k2_h3 : k2_cond3 i v86 = 1#1), 1024 ∣ (k2_mult3 i v86).toNat := fun i v3 v6 v86 k2_hw2 k2_h1 k2_h3 => k2_hw2 k2_h1 k2_h3

def k2_off7 (i : grid2.Coords) (v86 : BitVec 32) (v88 : BitVec 32) : Fin 3 → Nat :=
  let c0_i32_42 : BitVec 32 := 0#32
  let v87 : BitVec 1 := Scalar.cmpi .sge v86 c0_i32_42
  let v89 : BitVec 32 := Scalar.select v87 v86 v88
  let c7168_i32_49 : BitVec 32 := 7168#32
  let arg0 : BitVec 32 := BitVec.ofNat 32 (i 0).val
  let c1_i32_44 : BitVec 32 := 1#32
  let v90 : BitVec 32 := Scalar.addi arg0 c1_i32_44
  let v91 : BitVec 32 := Scalar.select v87 arg0 v90
  let c1024_i32_47 : BitVec 32 := 1024#32
  let v97 : BitVec 32 := Scalar.muli v91 c1024_i32_47
  let v98 : BitVec 32 := v97
  ![v89.toNat, 7168, v98.toNat]

def k2_chk3 (i : grid2.Coords) (v3 : BitVec 32) (v6 : BitVec 32) (v86 : BitVec 32) (v88 : BitVec 32) : Prop :=
  (∀ (k2_h1 : k2_cond1 i v3 v6 = 1#1), ∀ (k2_h3 : k2_cond3 i v86 = 1#1), ∀ a, (k2_off7 i v86 v88) a + S1x3584x1024.size a ≤ S8x14336x4096.size a)
theorem k2_off7_inb : ∀ (i : grid2.Coords) (v3 : BitVec 32) (v6 : BitVec 32) (v86 : BitVec 32) (v88 : BitVec 32) (k2_hw3 : k2_chk3 i v3 v6 v86 v88), ∀ (k2_h1 : k2_cond1 i v3 v6 = 1#1), ∀ (k2_h3 : k2_cond3 i v86 = 1#1), ∀ a, (k2_off7 i v86 v88) a + S1x3584x1024.size a ≤ S8x14336x4096.size a := fun i v3 v6 v86 v88 k2_hw3 k2_h1 k2_h3 => k2_hw3 k2_h1 k2_h3

def k2_off8 (i : grid2.Coords) : Fin 1 → Nat :=
  let arg1 : BitVec 32 := BitVec.ofNat 32 (i 1).val
  let v11 : Index := Scalar.indexCast arg1
  ![v11.toNat]
def k2_cond4 (v12 : BitVec 32) : BitVec 1 :=
  let c1_i32_2 : BitVec 32 := 1#32
  let v13 : BitVec 1 := Scalar.cmpi .eq v12 c1_i32_2
  let v14 : BitVec 32 := Scalar.extui v13
  let c0_i32_3 : BitVec 32 := 0#32
  let v15 : BitVec 1 := Scalar.cmpi .ne v14 c0_i32_3
  v15

def k2_cond5 (v12 : BitVec 32) : BitVec 1 :=
  let c0_i32_4 : BitVec 32 := 0#32
  let v16 : BitVec 1 := Scalar.cmpi .eq v12 c0_i32_4
  let v17 : BitVec 32 := Scalar.extui v16
  let c0_i32_5 : BitVec 32 := 0#32
  let v18 : BitVec 1 := Scalar.cmpi .ne v17 c0_i32_5
  v18

def k2_cond6 (v12 : BitVec 32) : BitVec 1 :=
  let c8_i32 : BitVec 32 := 8#32
  let v19 : BitVec 1 := Scalar.cmpi .sge v12 c8_i32
  let c8_i32_6 : BitVec 32 := 8#32
  let v20 : BitVec 32 := Scalar.subi v12 c8_i32_6
  let c0_i32_7 : BitVec 32 := 0#32
  let v21 : BitVec 1 := Scalar.cmpi .sgt v20 c0_i32_7
  let v22 : BitVec 1 := Scalar.andi v19 v21
  let v23 : BitVec 32 := Scalar.extui v22
  let c0_i32_8 : BitVec 32 := 0#32
  let v24 : BitVec 1 := Scalar.cmpi .ne v23 c0_i32_8
  v24

def k2_cond7 (v12 : BitVec 32) : BitVec 1 :=
  let c8_i32_9 : BitVec 32 := 8#32
  let v25 : BitVec 1 := Scalar.cmpi .sge v12 c8_i32_9
  let c8_i32_10 : BitVec 32 := 8#32
  let v26 : BitVec 32 := Scalar.subi v12 c8_i32_10
  let c0_i32_11 : BitVec 32 := 0#32
  let v27 : BitVec 1 := Scalar.cmpi .sle v26 c0_i32_11
  let v28 : BitVec 1 := Scalar.andi v25 v27
  let v29 : BitVec 32 := Scalar.extui v28
  let c0_i32_12 : BitVec 32 := 0#32
  let v30 : BitVec 1 := Scalar.cmpi .ne v29 c0_i32_12
  v30

def k2_cond8 (v12 : BitVec 32) : BitVec 1 :=
  let c8_i32_13 : BitVec 32 := 8#32
  let v31 : BitVec 1 := Scalar.cmpi .sge v12 c8_i32_13
  let c8_i32_14 : BitVec 32 := 8#32
  let v32 : BitVec 32 := Scalar.subi v12 c8_i32_14
  let c1_i32_15 : BitVec 32 := 1#32
  let v33 : BitVec 1 := Scalar.cmpi .sgt v32 c1_i32_15
  let v34 : BitVec 1 := Scalar.andi v31 v33
  let v35 : BitVec 32 := Scalar.extui v34
  let c0_i32_16 : BitVec 32 := 0#32
  let v36 : BitVec 1 := Scalar.cmpi .ne v35 c0_i32_16
  v36

def k2_cond9 (v12 : BitVec 32) : BitVec 1 :=
  let c8_i32_17 : BitVec 32 := 8#32
  let v37 : BitVec 1 := Scalar.cmpi .sge v12 c8_i32_17
  let c8_i32_18 : BitVec 32 := 8#32
  let v38 : BitVec 32 := Scalar.subi v12 c8_i32_18
  let c1_i32_19 : BitVec 32 := 1#32
  let v39 : BitVec 1 := Scalar.cmpi .sle v38 c1_i32_19
  let v40 : BitVec 1 := Scalar.andi v37 v39
  let v41 : BitVec 32 := Scalar.extui v40
  let c0_i32_20 : BitVec 32 := 0#32
  let v42 : BitVec 1 := Scalar.cmpi .ne v41 c0_i32_20
  v42

def k2_cond10 (v12 : BitVec 32) : BitVec 1 :=
  let c8_i32_21 : BitVec 32 := 8#32
  let v43 : BitVec 1 := Scalar.cmpi .sge v12 c8_i32_21
  let c8_i32_22 : BitVec 32 := 8#32
  let v44 : BitVec 32 := Scalar.subi v12 c8_i32_22
  let c2_i32 : BitVec 32 := 2#32
  let v45 : BitVec 1 := Scalar.cmpi .sgt v44 c2_i32
  let v46 : BitVec 1 := Scalar.andi v43 v45
  let v47 : BitVec 32 := Scalar.extui v46
  let c0_i32_23 : BitVec 32 := 0#32
  let v48 : BitVec 1 := Scalar.cmpi .ne v47 c0_i32_23
  v48

def k2_cond11 (v12 : BitVec 32) : BitVec 1 :=
  let c8_i32_24 : BitVec 32 := 8#32
  let v49 : BitVec 1 := Scalar.cmpi .sge v12 c8_i32_24
  let c8_i32_25 : BitVec 32 := 8#32
  let v50 : BitVec 32 := Scalar.subi v12 c8_i32_25
  let c2_i32_26 : BitVec 32 := 2#32
  let v51 : BitVec 1 := Scalar.cmpi .sle v50 c2_i32_26
  let v52 : BitVec 1 := Scalar.andi v49 v51
  let v53 : BitVec 32 := Scalar.extui v52
  let c0_i32_27 : BitVec 32 := 0#32
  let v54 : BitVec 1 := Scalar.cmpi .ne v53 c0_i32_27
  v54

def k2_cond12 (v12 : BitVec 32) : BitVec 1 :=
  let c8_i32_28 : BitVec 32 := 8#32
  let v55 : BitVec 1 := Scalar.cmpi .sge v12 c8_i32_28
  let c8_i32_29 : BitVec 32 := 8#32
  let v56 : BitVec 32 := Scalar.subi v12 c8_i32_29
  let c3_i32 : BitVec 32 := 3#32
  let v57 : BitVec 1 := Scalar.cmpi .sgt v56 c3_i32
  let v58 : BitVec 1 := Scalar.andi v55 v57
  let v59 : BitVec 32 := Scalar.extui v58
  let c0_i32_30 : BitVec 32 := 0#32
  let v60 : BitVec 1 := Scalar.cmpi .ne v59 c0_i32_30
  v60

def k2_cond13 (v12 : BitVec 32) : BitVec 1 :=
  let c8_i32_31 : BitVec 32 := 8#32
  let v61 : BitVec 1 := Scalar.cmpi .sge v12 c8_i32_31
  let c8_i32_32 : BitVec 32 := 8#32
  let v62 : BitVec 32 := Scalar.subi v12 c8_i32_32
  let c3_i32_33 : BitVec 32 := 3#32
  let v63 : BitVec 1 := Scalar.cmpi .sle v62 c3_i32_33
  let v64 : BitVec 1 := Scalar.andi v61 v63
  let v65 : BitVec 32 := Scalar.extui v64
  let c0_i32_34 : BitVec 32 := 0#32
  let v66 : BitVec 1 := Scalar.cmpi .ne v65 c0_i32_34
  v66

def cc2_transform_0 (i : grid2.Coords) : Fin 2 → Nat :=
  let arg0 : BitVec 32 := BitVec.ofNat 32 (i 0).val
  let arg1 : BitVec 32 := BitVec.ofNat 32 (i 1).val
  let c2_i32 : BitVec 32 := 2#32
  let c0_i32 : BitVec 32 := 0#32
  ![arg1.toNat, c2_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage2_0 : Fin 2 → Memref sig .tc .vmem S512x3584 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![false, true]

abbrev stage2_1 : Fin 2 → Memref sig .tc .vmem S512x1024 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev stage2_2 : Fin 2 → Memref sig .tc .vmem S512x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![false, true]

abbrev stage2_3 : Fin 2 → Memref sig .tc .vmem S512x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

abbrev grid3 : Pipeline.Grid := ⟨2, ![4, 40], ![false, false]⟩

abbrev pre3 : Pipeline.Prefetch sig := ⟨3, ![main_arg2.idx, main_arg3.idx, main_v10.idx], fun | 0 => main_arg2.names | 1 => main_arg3.names | 2 => main_v10.names | ⟨_ + 3, h⟩ => absurd h (Nat.not_lt.2 (Nat.le_add_left _ _)), fun | 0 => rfl | 1 => rfl | 2 => rfl | ⟨_ + 3, h⟩ => absurd h (Nat.not_lt.2 (Nat.le_add_left _ _))⟩

def k3_off1 (i : grid3.Coords) : Fin 1 → Nat :=
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let v2 : Index := Scalar.indexCast v1
  ![v2.toNat]
def k3_off2 (i : grid3.Coords) : Fin 1 → Nat :=
  let arg1 : BitVec 32 := BitVec.ofNat 32 (i 1).val
  let v5 : Index := Scalar.indexCast arg1
  ![v5.toNat]
def k3_off3 (i : grid3.Coords) : Fin 1 → Nat :=
  let arg1 : BitVec 32 := BitVec.ofNat 32 (i 1).val
  let v67 : Index := Scalar.indexCast arg1
  ![v67.toNat]
def k3_cond2 (i : grid3.Coords) : BitVec 1 :=
  let arg0 : BitVec 32 := BitVec.ofNat 32 (i 0).val
  let c0_i32_35 : BitVec 32 := 0#32
  let v69 : BitVec 1 := Scalar.cmpi .eq arg0 c0_i32_35
  let arg1 : BitVec 32 := BitVec.ofNat 32 (i 1).val
  let c0_i32_36 : BitVec 32 := 0#32
  let v70 : BitVec 1 := Scalar.cmpi .eq arg1 c0_i32_36
  let v71 : BitVec 1 := Scalar.andi v69 v70
  let v72 : BitVec 32 := Scalar.extui v71
  let c0_i32_37 : BitVec 32 := 0#32
  let v73 : BitVec 1 := Scalar.cmpi .ne v72 c0_i32_37
  v73

def k3_mult1 (i : grid3.Coords) : BitVec 32 :=
  let arg0 : BitVec 32 := BitVec.ofNat 32 (i 0).val
  let c1024_i32_47 : BitVec 32 := 1024#32
  let v97 : BitVec 32 := Scalar.muli arg0 c1024_i32_47
  v97
def k3_off4 (i : grid3.Coords) (v68 : BitVec 32) : Fin 3 → Nat :=
  let c10752_i32_49 : BitVec 32 := 10752#32
  let arg0 : BitVec 32 := BitVec.ofNat 32 (i 0).val
  let c1024_i32_47 : BitVec 32 := 1024#32
  let v97 : BitVec 32 := Scalar.muli arg0 c1024_i32_47
  let v98 : BitVec 32 := v97
  ![v68.toNat, 10752, v98.toNat]
def k3_cond1 (i : grid3.Coords) (v3 : BitVec 32) (v6 : BitVec 32) : BitVec 1 :=
  let arg1 : BitVec 32 := BitVec.ofNat 32 (i 1).val
  let c0_i32_0 : BitVec 32 := 0#32
  let v4 : BitVec 1 := Scalar.cmpi .eq arg1 c0_i32_0
  let v7 : BitVec 1 := Scalar.cmpi .ne v6 v3
  let v8 : BitVec 1 := Scalar.ori v4 v7
  let v9 : BitVec 32 := Scalar.extui v8
  let c0_i32_1 : BitVec 32 := 0#32
  let v10 : BitVec 1 := Scalar.cmpi .ne v9 c0_i32_1
  v10

def k3_mult2 (i : grid3.Coords) : BitVec 32 :=
  let arg0 : BitVec 32 := BitVec.ofNat 32 (i 0).val
  let c1024_i32 : BitVec 32 := 1024#32
  let v74 : BitVec 32 := Scalar.muli arg0 c1024_i32
  v74
def k3_off5 (i : grid3.Coords) (v68 : BitVec 32) : Fin 3 → Nat :=
  let c10752_i32 : BitVec 32 := 10752#32
  let arg0 : BitVec 32 := BitVec.ofNat 32 (i 0).val
  let c1024_i32 : BitVec 32 := 1024#32
  let v74 : BitVec 32 := Scalar.muli arg0 c1024_i32
  let v75 : BitVec 32 := v74
  ![v68.toNat, 10752, v75.toNat]

def k3_chk1 (i : grid3.Coords) (v3 : BitVec 32) (v6 : BitVec 32) (v68 : BitVec 32) : Prop :=
  (∀ (k3_h1 : k3_cond1 i v3 v6 = 1#1), ∀ (k3_h2 : k3_cond2 i = 1#1), ∀ a, (k3_off4 i v68) a + S1x3584x1024.size a ≤ S8x14336x4096.size a) ∧
  (∀ (k3_h1 : k3_cond1 i v3 v6 = 1#1), ∀ a, (k3_off5 i v68) a + S1x3584x1024.size a ≤ S8x14336x4096.size a)
theorem k3_off4_inb : ∀ (i : grid3.Coords) (v3 : BitVec 32) (v6 : BitVec 32) (v68 : BitVec 32) (k3_hw1 : k3_chk1 i v3 v6 v68), ∀ (k3_h1 : k3_cond1 i v3 v6 = 1#1), ∀ (k3_h2 : k3_cond2 i = 1#1), ∀ a, (k3_off4 i v68) a + S1x3584x1024.size a ≤ S8x14336x4096.size a := fun i v3 v6 v68 k3_hw1 k3_h1 k3_h2 => k3_hw1.1 k3_h1 k3_h2
theorem k3_off5_inb : ∀ (i : grid3.Coords) (v3 : BitVec 32) (v6 : BitVec 32) (v68 : BitVec 32) (k3_hw1 : k3_chk1 i v3 v6 v68), ∀ (k3_h1 : k3_cond1 i v3 v6 = 1#1), ∀ a, (k3_off5 i v68) a + S1x3584x1024.size a ≤ S8x14336x4096.size a := fun i v3 v6 v68 k3_hw1 k3_h1 => k3_hw1.2 k3_h1

def k3_off6 (i : grid3.Coords) : Fin 1 → Nat :=
  let arg1 : BitVec 32 := BitVec.ofNat 32 (i 1).val
  let v85 : Index := Scalar.indexCast arg1
  ![v85.toNat]
def k3_mult3 (i : grid3.Coords) (v86 : BitVec 32) : BitVec 32 :=
  let c0_i32_42 : BitVec 32 := 0#32
  let v87 : BitVec 1 := Scalar.cmpi .sge v86 c0_i32_42
  let arg0 : BitVec 32 := BitVec.ofNat 32 (i 0).val
  let c1_i32_44 : BitVec 32 := 1#32
  let v90 : BitVec 32 := Scalar.addi arg0 c1_i32_44
  let v91 : BitVec 32 := Scalar.select v87 arg0 v90
  let c1024_i32_47 : BitVec 32 := 1024#32
  let v97 : BitVec 32 := Scalar.muli v91 c1024_i32_47
  v97
def k3_cond3 (i : grid3.Coords) (v86 : BitVec 32) : BitVec 1 :=
  let c0_i32_42 : BitVec 32 := 0#32
  let v87 : BitVec 1 := Scalar.cmpi .sge v86 c0_i32_42
  let arg0 : BitVec 32 := BitVec.ofNat 32 (i 0).val
  let c1_i32_45 : BitVec 32 := 1#32
  let v92 : BitVec 32 := Scalar.addi arg0 c1_i32_45
  let c4_i32 : BitVec 32 := 4#32
  let v93 : BitVec 1 := Scalar.cmpi .slt v92 c4_i32
  let v94 : BitVec 1 := Scalar.ori v87 v93
  let v95 : BitVec 32 := Scalar.extui v94
  let c0_i32_46 : BitVec 32 := 0#32
  let v96 : BitVec 1 := Scalar.cmpi .ne v95 c0_i32_46
  v96

def k3_chk2 (i : grid3.Coords) (v3 : BitVec 32) (v6 : BitVec 32) (v86 : BitVec 32) : Prop :=
  (∀ (k3_h1 : k3_cond1 i v3 v6 = 1#1), ∀ (k3_h3 : k3_cond3 i v86 = 1#1), 1024 ∣ (k3_mult3 i v86).toNat)
theorem k3_mult3_dvd : ∀ (i : grid3.Coords) (v3 : BitVec 32) (v6 : BitVec 32) (v86 : BitVec 32) (k3_hw2 : k3_chk2 i v3 v6 v86), ∀ (k3_h1 : k3_cond1 i v3 v6 = 1#1), ∀ (k3_h3 : k3_cond3 i v86 = 1#1), 1024 ∣ (k3_mult3 i v86).toNat := fun i v3 v6 v86 k3_hw2 k3_h1 k3_h3 => k3_hw2 k3_h1 k3_h3

def k3_off7 (i : grid3.Coords) (v86 : BitVec 32) (v88 : BitVec 32) : Fin 3 → Nat :=
  let c0_i32_42 : BitVec 32 := 0#32
  let v87 : BitVec 1 := Scalar.cmpi .sge v86 c0_i32_42
  let v89 : BitVec 32 := Scalar.select v87 v86 v88
  let c10752_i32_49 : BitVec 32 := 10752#32
  let arg0 : BitVec 32 := BitVec.ofNat 32 (i 0).val
  let c1_i32_44 : BitVec 32 := 1#32
  let v90 : BitVec 32 := Scalar.addi arg0 c1_i32_44
  let v91 : BitVec 32 := Scalar.select v87 arg0 v90
  let c1024_i32_47 : BitVec 32 := 1024#32
  let v97 : BitVec 32 := Scalar.muli v91 c1024_i32_47
  let v98 : BitVec 32 := v97
  ![v89.toNat, 10752, v98.toNat]

def k3_chk3 (i : grid3.Coords) (v3 : BitVec 32) (v6 : BitVec 32) (v86 : BitVec 32) (v88 : BitVec 32) : Prop :=
  (∀ (k3_h1 : k3_cond1 i v3 v6 = 1#1), ∀ (k3_h3 : k3_cond3 i v86 = 1#1), ∀ a, (k3_off7 i v86 v88) a + S1x3584x1024.size a ≤ S8x14336x4096.size a)
theorem k3_off7_inb : ∀ (i : grid3.Coords) (v3 : BitVec 32) (v6 : BitVec 32) (v86 : BitVec 32) (v88 : BitVec 32) (k3_hw3 : k3_chk3 i v3 v6 v86 v88), ∀ (k3_h1 : k3_cond1 i v3 v6 = 1#1), ∀ (k3_h3 : k3_cond3 i v86 = 1#1), ∀ a, (k3_off7 i v86 v88) a + S1x3584x1024.size a ≤ S8x14336x4096.size a := fun i v3 v6 v86 v88 k3_hw3 k3_h1 k3_h3 => k3_hw3 k3_h1 k3_h3

def k3_off8 (i : grid3.Coords) : Fin 1 → Nat :=
  let arg1 : BitVec 32 := BitVec.ofNat 32 (i 1).val
  let v11 : Index := Scalar.indexCast arg1
  ![v11.toNat]
def k3_cond4 (v12 : BitVec 32) : BitVec 1 :=
  let c1_i32_2 : BitVec 32 := 1#32
  let v13 : BitVec 1 := Scalar.cmpi .eq v12 c1_i32_2
  let v14 : BitVec 32 := Scalar.extui v13
  let c0_i32_3 : BitVec 32 := 0#32
  let v15 : BitVec 1 := Scalar.cmpi .ne v14 c0_i32_3
  v15

def k3_cond5 (v12 : BitVec 32) : BitVec 1 :=
  let c0_i32_4 : BitVec 32 := 0#32
  let v16 : BitVec 1 := Scalar.cmpi .eq v12 c0_i32_4
  let v17 : BitVec 32 := Scalar.extui v16
  let c0_i32_5 : BitVec 32 := 0#32
  let v18 : BitVec 1 := Scalar.cmpi .ne v17 c0_i32_5
  v18

def k3_cond6 (v12 : BitVec 32) : BitVec 1 :=
  let c8_i32 : BitVec 32 := 8#32
  let v19 : BitVec 1 := Scalar.cmpi .sge v12 c8_i32
  let c8_i32_6 : BitVec 32 := 8#32
  let v20 : BitVec 32 := Scalar.subi v12 c8_i32_6
  let c0_i32_7 : BitVec 32 := 0#32
  let v21 : BitVec 1 := Scalar.cmpi .sgt v20 c0_i32_7
  let v22 : BitVec 1 := Scalar.andi v19 v21
  let v23 : BitVec 32 := Scalar.extui v22
  let c0_i32_8 : BitVec 32 := 0#32
  let v24 : BitVec 1 := Scalar.cmpi .ne v23 c0_i32_8
  v24

def k3_cond7 (v12 : BitVec 32) : BitVec 1 :=
  let c8_i32_9 : BitVec 32 := 8#32
  let v25 : BitVec 1 := Scalar.cmpi .sge v12 c8_i32_9
  let c8_i32_10 : BitVec 32 := 8#32
  let v26 : BitVec 32 := Scalar.subi v12 c8_i32_10
  let c0_i32_11 : BitVec 32 := 0#32
  let v27 : BitVec 1 := Scalar.cmpi .sle v26 c0_i32_11
  let v28 : BitVec 1 := Scalar.andi v25 v27
  let v29 : BitVec 32 := Scalar.extui v28
  let c0_i32_12 : BitVec 32 := 0#32
  let v30 : BitVec 1 := Scalar.cmpi .ne v29 c0_i32_12
  v30

def k3_cond8 (v12 : BitVec 32) : BitVec 1 :=
  let c8_i32_13 : BitVec 32 := 8#32
  let v31 : BitVec 1 := Scalar.cmpi .sge v12 c8_i32_13
  let c8_i32_14 : BitVec 32 := 8#32
  let v32 : BitVec 32 := Scalar.subi v12 c8_i32_14
  let c1_i32_15 : BitVec 32 := 1#32
  let v33 : BitVec 1 := Scalar.cmpi .sgt v32 c1_i32_15
  let v34 : BitVec 1 := Scalar.andi v31 v33
  let v35 : BitVec 32 := Scalar.extui v34
  let c0_i32_16 : BitVec 32 := 0#32
  let v36 : BitVec 1 := Scalar.cmpi .ne v35 c0_i32_16
  v36

def k3_cond9 (v12 : BitVec 32) : BitVec 1 :=
  let c8_i32_17 : BitVec 32 := 8#32
  let v37 : BitVec 1 := Scalar.cmpi .sge v12 c8_i32_17
  let c8_i32_18 : BitVec 32 := 8#32
  let v38 : BitVec 32 := Scalar.subi v12 c8_i32_18
  let c1_i32_19 : BitVec 32 := 1#32
  let v39 : BitVec 1 := Scalar.cmpi .sle v38 c1_i32_19
  let v40 : BitVec 1 := Scalar.andi v37 v39
  let v41 : BitVec 32 := Scalar.extui v40
  let c0_i32_20 : BitVec 32 := 0#32
  let v42 : BitVec 1 := Scalar.cmpi .ne v41 c0_i32_20
  v42

def k3_cond10 (v12 : BitVec 32) : BitVec 1 :=
  let c8_i32_21 : BitVec 32 := 8#32
  let v43 : BitVec 1 := Scalar.cmpi .sge v12 c8_i32_21
  let c8_i32_22 : BitVec 32 := 8#32
  let v44 : BitVec 32 := Scalar.subi v12 c8_i32_22
  let c2_i32 : BitVec 32 := 2#32
  let v45 : BitVec 1 := Scalar.cmpi .sgt v44 c2_i32
  let v46 : BitVec 1 := Scalar.andi v43 v45
  let v47 : BitVec 32 := Scalar.extui v46
  let c0_i32_23 : BitVec 32 := 0#32
  let v48 : BitVec 1 := Scalar.cmpi .ne v47 c0_i32_23
  v48

def k3_cond11 (v12 : BitVec 32) : BitVec 1 :=
  let c8_i32_24 : BitVec 32 := 8#32
  let v49 : BitVec 1 := Scalar.cmpi .sge v12 c8_i32_24
  let c8_i32_25 : BitVec 32 := 8#32
  let v50 : BitVec 32 := Scalar.subi v12 c8_i32_25
  let c2_i32_26 : BitVec 32 := 2#32
  let v51 : BitVec 1 := Scalar.cmpi .sle v50 c2_i32_26
  let v52 : BitVec 1 := Scalar.andi v49 v51
  let v53 : BitVec 32 := Scalar.extui v52
  let c0_i32_27 : BitVec 32 := 0#32
  let v54 : BitVec 1 := Scalar.cmpi .ne v53 c0_i32_27
  v54

def k3_cond12 (v12 : BitVec 32) : BitVec 1 :=
  let c8_i32_28 : BitVec 32 := 8#32
  let v55 : BitVec 1 := Scalar.cmpi .sge v12 c8_i32_28
  let c8_i32_29 : BitVec 32 := 8#32
  let v56 : BitVec 32 := Scalar.subi v12 c8_i32_29
  let c3_i32 : BitVec 32 := 3#32
  let v57 : BitVec 1 := Scalar.cmpi .sgt v56 c3_i32
  let v58 : BitVec 1 := Scalar.andi v55 v57
  let v59 : BitVec 32 := Scalar.extui v58
  let c0_i32_30 : BitVec 32 := 0#32
  let v60 : BitVec 1 := Scalar.cmpi .ne v59 c0_i32_30
  v60

def k3_cond13 (v12 : BitVec 32) : BitVec 1 :=
  let c8_i32_31 : BitVec 32 := 8#32
  let v61 : BitVec 1 := Scalar.cmpi .sge v12 c8_i32_31
  let c8_i32_32 : BitVec 32 := 8#32
  let v62 : BitVec 32 := Scalar.subi v12 c8_i32_32
  let c3_i32_33 : BitVec 32 := 3#32
  let v63 : BitVec 1 := Scalar.cmpi .sle v62 c3_i32_33
  let v64 : BitVec 1 := Scalar.andi v61 v63
  let v65 : BitVec 32 := Scalar.extui v64
  let c0_i32_34 : BitVec 32 := 0#32
  let v66 : BitVec 1 := Scalar.cmpi .ne v65 c0_i32_34
  v66

def cc3_transform_0 (i : grid3.Coords) : Fin 2 → Nat :=
  let arg0 : BitVec 32 := BitVec.ofNat 32 (i 0).val
  let arg1 : BitVec 32 := BitVec.ofNat 32 (i 1).val
  let c3_i32 : BitVec 32 := 3#32
  let c0_i32 : BitVec 32 := 0#32
  ![arg1.toNat, c3_i32.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_4 (i : grid3.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage3_0 : Fin 2 → Memref sig .tc .vmem S512x3584 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![false, true]

abbrev stage3_1 : Fin 2 → Memref sig .tc .vmem S512x1024 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, true]

abbrev stage3_2 : Fin 2 → Memref sig .tc .vmem S512x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![false, true]

abbrev stage3_3 : Fin 2 → Memref sig .tc .vmem S512x1024 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, true]
-- ==== DownRefIdeal.lean ====
abbrev S20480x14336 : Shape := ⟨2, ![20480, 14336]⟩
abbrev S8x14336x4096 : Shape := ⟨3, ![8, 14336, 4096]⟩
abbrev S40 : Shape := ⟨1, ![40]⟩
abbrev S20480x1 : Shape := ⟨2, ![20480, 1]⟩
abbrev S512 : Shape := ⟨1, ![512]⟩
abbrev S1x512 : Shape := ⟨2, ![1, 512]⟩
abbrev S40x1 : Shape := ⟨2, ![40, 1]⟩
abbrev S_ : Shape := ⟨0, ![]⟩
abbrev S40x512 : Shape := ⟨2, ![40, 512]⟩
abbrev S20480x4096 : Shape := ⟨2, ![20480, 4096]⟩
abbrev S1x14336x4096 : Shape := ⟨3, ![1, 14336, 4096]⟩
abbrev S14336x4096 : Shape := ⟨2, ![14336, 4096]⟩

abbrev nBuf : Space → Nat
  | .hbm => 153
  | .vmem => 0
  | .smem => 0
  | _ => 0

abbrev hbmTy0_0 (i : Nat) : BufTy := match i % 128 with
  | 0 => ⟨S20480x14336, .bf16⟩
  | 1 => ⟨S8x14336x4096, .f32⟩
  | 2 => ⟨S40, .i32⟩
  | 3 => ⟨S40, .i32⟩
  | 4 => ⟨S20480x1, .f32⟩
  | 5 => ⟨S512, .i32⟩
  | 6 => ⟨S1x512, .i32⟩
  | 7 => ⟨S40x1, .i32⟩
  | 8 => ⟨S_, .i32⟩
  | 9 => ⟨S40x1, .i32⟩
  | 10 => ⟨S40x1, .i1⟩
  | 11 => ⟨S_, .i32⟩
  | 12 => ⟨S40x1, .i32⟩
  | 13 => ⟨S40x1, .i1⟩
  | 14 => ⟨S_, .i32⟩
  | 15 => ⟨S40x1, .i32⟩
  | 16 => ⟨S40x1, .i32⟩
  | 17 => ⟨S_, .i32⟩
  | 18 => ⟨S40x1, .i32⟩
  | 19 => ⟨S40x1, .i32⟩
  | 20 => ⟨S40x512, .i32⟩
  | 21 => ⟨S40x512, .i32⟩
  | 22 => ⟨S40x512, .i1⟩
  | 23 => ⟨S40x512, .i1⟩
  | 24 => ⟨S40x512, .i1⟩
  | 25 => ⟨S40x512, .i1⟩
  | 26 => ⟨S20480x1, .i1⟩
  | 27 => ⟨S40x1, .i32⟩
  | 28 => ⟨S40x512, .i32⟩
  | 29 => ⟨S20480x1, .i32⟩
  | 30 => ⟨S20480x14336, .f32⟩
  | 31 => ⟨S_, .f32⟩
  | 32 => ⟨S20480x4096, .f32⟩
  | 33 => ⟨S_, .i32⟩
  | 34 => ⟨S20480x1, .i32⟩
  | 35 => ⟨S20480x1, .i1⟩
  | 36 => ⟨S20480x1, .i1⟩
  | 37 => ⟨S1x14336x4096, .f32⟩
  | 38 => ⟨S14336x4096, .f32⟩
  | 39 => ⟨S20480x4096, .f32⟩
  | 40 => ⟨S20480x4096, .f32⟩
  | 41 => ⟨S20480x4096, .f32⟩
  | 42 => ⟨S_, .f32⟩
  | 43 => ⟨S_, .f32⟩
  | 44 => ⟨S20480x4096, .i1⟩
  | 45 => ⟨S20480x4096, .f32⟩
  | 46 => ⟨S20480x4096, .f32⟩
  | 47 => ⟨S20480x4096, .f32⟩
  | 48 => ⟨S_, .i32⟩
  | 49 => ⟨S20480x1, .i32⟩
  | 50 => ⟨S20480x1, .i1⟩
  | 51 => ⟨S20480x1, .i1⟩
  | 52 => ⟨S1x14336x4096, .f32⟩
  | 53 => ⟨S14336x4096, .f32⟩
  | 54 => ⟨S20480x4096, .f32⟩
  | 55 => ⟨S20480x4096, .f32⟩
  | 56 => ⟨S20480x4096, .f32⟩
  | 57 => ⟨S_, .f32⟩
  | 58 => ⟨S_, .f32⟩
  | 59 => ⟨S20480x4096, .i1⟩
  | 60 => ⟨S20480x4096, .f32⟩
  | 61 => ⟨S20480x4096, .f32⟩
  | 62 => ⟨S20480x4096, .f32⟩
  | 63 => ⟨S_, .i32⟩
  | 64 => ⟨S20480x1, .i32⟩
  | 65 => ⟨S20480x1, .i1⟩
  | 66 => ⟨S20480x1, .i1⟩
  | 67 => ⟨S1x14336x4096, .f32⟩
  | 68 => ⟨S14336x4096, .f32⟩
  | 69 => ⟨S20480x4096, .f32⟩
  | 70 => ⟨S20480x4096, .f32⟩
  | 71 => ⟨S20480x4096, .f32⟩
  | 72 => ⟨S_, .f32⟩
  | 73 => ⟨S_, .f32⟩
  | 74 => ⟨S20480x4096, .i1⟩
  | 75 => ⟨S20480x4096, .f32⟩
  | 76 => ⟨S20480x4096, .f32⟩
  | 77 => ⟨S20480x4096, .f32⟩
  | 78 => ⟨S_, .i32⟩
  | 79 => ⟨S20480x1, .i32⟩
  | 80 => ⟨S20480x1, .i1⟩
  | 81 => ⟨S20480x1, .i1⟩
  | 82 => ⟨S1x14336x4096, .f32⟩
  | 83 => ⟨S14336x4096, .f32⟩
  | 84 => ⟨S20480x4096, .f32⟩
  | 85 => ⟨S20480x4096, .f32⟩
  | 86 => ⟨S20480x4096, .f32⟩
  | 87 => ⟨S_, .f32⟩
  | 88 => ⟨S_, .f32⟩
  | 89 => ⟨S20480x4096, .i1⟩
  | 90 => ⟨S20480x4096, .f32⟩
  | 91 => ⟨S20480x4096, .f32⟩
  | 92 => ⟨S20480x4096, .f32⟩
  | 93 => ⟨S_, .i32⟩
  | 94 => ⟨S20480x1, .i32⟩
  | 95 => ⟨S20480x1, .i1⟩
  | 96 => ⟨S20480x1, .i1⟩
  | 97 => ⟨S1x14336x4096, .f32⟩
  | 98 => ⟨S14336x4096, .f32⟩
  | 99 => ⟨S20480x4096, .f32⟩
  | 100 => ⟨S20480x4096, .f32⟩
  | 101 => ⟨S20480x4096, .f32⟩
  | 102 => ⟨S_, .f32⟩
  | 103 => ⟨S_, .f32⟩
  | 104 => ⟨S20480x4096, .i1⟩
  | 105 => ⟨S20480x4096, .f32⟩
  | 106 => ⟨S20480x4096, .f32⟩
  | 107 => ⟨S20480x4096, .f32⟩
  | 108 => ⟨S_, .i32⟩
  | 109 => ⟨S20480x1, .i32⟩
  | 110 => ⟨S20480x1, .i1⟩
  | 111 => ⟨S20480x1, .i1⟩
  | 112 => ⟨S1x14336x4096, .f32⟩
  | 113 => ⟨S14336x4096, .f32⟩
  | 114 => ⟨S20480x4096, .f32⟩
  | 115 => ⟨S20480x4096, .f32⟩
  | 116 => ⟨S20480x4096, .f32⟩
  | 117 => ⟨S_, .f32⟩
  | 118 => ⟨S_, .f32⟩
  | 119 => ⟨S20480x4096, .i1⟩
  | 120 => ⟨S20480x4096, .f32⟩
  | 121 => ⟨S20480x4096, .f32⟩
  | 122 => ⟨S20480x4096, .f32⟩
  | 123 => ⟨S_, .i32⟩
  | 124 => ⟨S20480x1, .i32⟩
  | 125 => ⟨S20480x1, .i1⟩
  | 126 => ⟨S20480x1, .i1⟩
  | 127 => ⟨S1x14336x4096, .f32⟩
  | _ => ⟨S20480x14336, .bf16⟩

abbrev hbmTy0_1 (i : Nat) : BufTy := match i % 128 with
  | 0 => ⟨S14336x4096, .f32⟩
  | 1 => ⟨S20480x4096, .f32⟩
  | 2 => ⟨S20480x4096, .f32⟩
  | 3 => ⟨S20480x4096, .f32⟩
  | 4 => ⟨S_, .f32⟩
  | 5 => ⟨S_, .f32⟩
  | 6 => ⟨S20480x4096, .i1⟩
  | 7 => ⟨S20480x4096, .f32⟩
  | 8 => ⟨S20480x4096, .f32⟩
  | 9 => ⟨S20480x4096, .f32⟩
  | 10 => ⟨S_, .i32⟩
  | 11 => ⟨S20480x1, .i32⟩
  | 12 => ⟨S20480x1, .i1⟩
  | 13 => ⟨S20480x1, .i1⟩
  | 14 => ⟨S1x14336x4096, .f32⟩
  | 15 => ⟨S14336x4096, .f32⟩
  | 16 => ⟨S20480x4096, .f32⟩
  | 17 => ⟨S20480x4096, .f32⟩
  | 18 => ⟨S20480x4096, .f32⟩
  | 19 => ⟨S_, .f32⟩
  | 20 => ⟨S_, .f32⟩
  | 21 => ⟨S20480x4096, .i1⟩
  | 22 => ⟨S20480x4096, .f32⟩
  | 23 => ⟨S20480x4096, .f32⟩
  | 24 => ⟨S20480x4096, .f32⟩
  | _ => ⟨S20480x14336, .bf16⟩

abbrev hbmTy (i : Nat) : BufTy := match i / 128 with
  | 0 => hbmTy0_0 i
  | 1 => hbmTy0_1 i
  | _ => ⟨S20480x14336, .bf16⟩

abbrev bufTy : (tb : Table) → Fin (tcTables nBuf tb) → BufTy
  | .hbm, ⟨i, _⟩ => hbmTy i
  | _, _ => ⟨S20480x14336, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_v3 : Ref sig .tc := ⟨.hbm, 9, rfl⟩
abbrev main_v4 : Ref sig .tc := ⟨.hbm, 10, rfl⟩
abbrev main_c_0 : Ref sig .tc := ⟨.hbm, 11, rfl⟩
abbrev main_v5 : Ref sig .tc := ⟨.hbm, 12, rfl⟩
abbrev main_v6 : Ref sig .tc := ⟨.hbm, 13, rfl⟩
abbrev main_c_1 : Ref sig .tc := ⟨.hbm, 14, rfl⟩
abbrev main_v7 : Ref sig .tc := ⟨.hbm, 15, rfl⟩
abbrev main_v8 : Ref sig .tc := ⟨.hbm, 16, rfl⟩
abbrev main_c_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_call0_v0 : Ref sig .tc := ⟨.hbm, 23, rfl⟩
abbrev main_call0_v1 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst : Ref sig .tc := ⟨.hbm, 31, rfl⟩
abbrev main_v20 : Ref sig .tc := ⟨.hbm, 32, rfl⟩
abbrev main_c_3 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_4 : Ref sig .tc := ⟨.hbm, 42, rfl⟩
abbrev main_call1_v0 : Ref sig .tc := ⟨.hbm, 43, rfl⟩
abbrev main_call1_v1 : Ref sig .tc := ⟨.hbm, 44, rfl⟩
abbrev main_call1_v2 : Ref sig .tc := ⟨.hbm, 45, rfl⟩
abbrev main_v29 : Ref sig .tc := ⟨.hbm, 46, rfl⟩
abbrev main_v30 : Ref sig .tc := ⟨.hbm, 47, rfl⟩
abbrev main_c_5 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_6 : Ref sig .tc := ⟨.hbm, 57, rfl⟩
abbrev main_call2_v0 : Ref sig .tc := ⟨.hbm, 58, rfl⟩
abbrev main_call2_v1 : Ref sig .tc := ⟨.hbm, 59, rfl⟩
abbrev main_call2_v2 : Ref sig .tc := ⟨.hbm, 60, rfl⟩
abbrev main_v39 : Ref sig .tc := ⟨.hbm, 61, rfl⟩
abbrev main_v40 : Ref sig .tc := ⟨.hbm, 62, rfl⟩
abbrev main_c_7 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_cst_8 : Ref sig .tc := ⟨.hbm, 72, rfl⟩
abbrev main_call3_v0 : Ref sig .tc := ⟨.hbm, 73, rfl⟩
abbrev main_call3_v1 : Ref sig .tc := ⟨.hbm, 74, rfl⟩
abbrev main_call3_v2 : Ref sig .tc := ⟨.hbm, 75, rfl⟩
abbrev main_v49 : Ref sig .tc := ⟨.hbm, 76, rfl⟩
abbrev main_v50 : Ref sig .tc := ⟨.hbm, 77, rfl⟩
abbrev main_c_9 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_cst_10 : Ref sig .tc := ⟨.hbm, 87, rfl⟩
abbrev main_call4_v0 : Ref sig .tc := ⟨.hbm, 88, rfl⟩
abbrev main_call4_v1 : Ref sig .tc := ⟨.hbm, 89, rfl⟩
abbrev main_call4_v2 : Ref sig .tc := ⟨.hbm, 90, rfl⟩
abbrev main_v59 : Ref sig .tc := ⟨.hbm, 91, rfl⟩
abbrev main_v60 : Ref sig .tc := ⟨.hbm, 92, rfl⟩
abbrev main_c_11 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_cst_12 : Ref sig .tc := ⟨.hbm, 102, rfl⟩
abbrev main_call5_v0 : Ref sig .tc := ⟨.hbm, 103, rfl⟩
abbrev main_call5_v1 : Ref sig .tc := ⟨.hbm, 104, rfl⟩
abbrev main_call5_v2 : Ref sig .tc := ⟨.hbm, 105, rfl⟩
abbrev main_v69 : Ref sig .tc := ⟨.hbm, 106, rfl⟩
abbrev main_v70 : Ref sig .tc := ⟨.hbm, 107, rfl⟩
abbrev main_c_13 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_cst_14 : Ref sig .tc := ⟨.hbm, 117, rfl⟩
abbrev main_call6_v0 : Ref sig .tc := ⟨.hbm, 118, rfl⟩
abbrev main_call6_v1 : Ref sig .tc := ⟨.hbm, 119, rfl⟩
abbrev main_call6_v2 : Ref sig .tc := ⟨.hbm, 120, rfl⟩
abbrev main_v79 : Ref sig .tc := ⟨.hbm, 121, rfl⟩
abbrev main_v80 : Ref sig .tc := ⟨.hbm, 122, rfl⟩
abbrev main_c_15 : Ref sig .tc := ⟨.hbm, 123, rfl⟩
abbrev main_v81 : Ref sig .tc := ⟨.hbm, 124, rfl⟩
abbrev main_v82 : Ref sig .tc := ⟨.hbm, 125, rfl⟩
abbrev main_v83 : Ref sig .tc := ⟨.hbm, 126, rfl⟩
abbrev main_v84 : Ref sig .tc := ⟨.hbm, 127, rfl⟩
abbrev main_v85 : Ref sig .tc := ⟨.hbm, 128, rfl⟩
abbrev main_v86 : Ref sig .tc := ⟨.hbm, 129, rfl⟩
abbrev main_v87 : Ref sig .tc := ⟨.hbm, 130, rfl⟩
abbrev main_v88 : Ref sig .tc := ⟨.hbm, 131, rfl⟩
abbrev main_cst_16 : Ref sig .tc := ⟨.hbm, 132, rfl⟩
abbrev main_call7_v0 : Ref sig .tc := ⟨.hbm, 133, rfl⟩
abbrev main_call7_v1 : Ref sig .tc := ⟨.hbm, 134, rfl⟩
abbrev main_call7_v2 : Ref sig .tc := ⟨.hbm, 135, rfl⟩
abbrev main_v89 : Ref sig .tc := ⟨.hbm, 136, rfl⟩
abbrev main_v90 : Ref sig .tc := ⟨.hbm, 137, rfl⟩
abbrev main_c_17 : Ref sig .tc := ⟨.hbm, 138, rfl⟩
abbrev main_v91 : Ref sig .tc := ⟨.hbm, 139, rfl⟩
abbrev main_v92 : Ref sig .tc := ⟨.hbm, 140, rfl⟩
abbrev main_v93 : Ref sig .tc := ⟨.hbm, 141, rfl⟩
abbrev main_v94 : Ref sig .tc := ⟨.hbm, 142, rfl⟩
abbrev main_v95 : Ref sig .tc := ⟨.hbm, 143, rfl⟩
abbrev main_v96 : Ref sig .tc := ⟨.hbm, 144, rfl⟩
abbrev main_v97 : Ref sig .tc := ⟨.hbm, 145, rfl⟩
abbrev main_v98 : Ref sig .tc := ⟨.hbm, 146, rfl⟩
abbrev main_cst_18 : Ref sig .tc := ⟨.hbm, 147, rfl⟩
abbrev main_call8_v0 : Ref sig .tc := ⟨.hbm, 148, rfl⟩
abbrev main_call8_v1 : Ref sig .tc := ⟨.hbm, 149, rfl⟩
abbrev main_call8_v2 : Ref sig .tc := ⟨.hbm, 150, rfl⟩
abbrev main_v99 : Ref sig .tc := ⟨.hbm, 151, rfl⟩
abbrev main_v100 : Ref sig .tc := ⟨.hbm, 152, rfl⟩

abbrev nD : Nat := 1
abbrev τ : Topo := Topo.v7x

variable {F : FTy → Type} [FloatOps F]
-- ==== Proof.SameText.lean ====
/- The kernel and its ideal reading are the same text: their bodies and their host lines are the same programs at every float
   instance, so a run of the one is a run of the other. -/
module

public import proofs.«01_k».proof.Proof.Gen.Kernel
public import proofs.«01_k».proof.Proof.Gen.KernelIdeal

@[expose] public section

noncomputable section

namespace Cert.SameText

open Idealize.ShloMosaic Idealize.SL.Sem

variable {F : FTy → Type} [FloatOps F]

set_option maxHeartbeats 4000000 in
/-- The body of the call, at every point. -/
theorem bodies : Cert.Kernel.defs₀ (F := F) = Cert.KernelIdeal.defs₀ (F := F) := by
  unfold Cert.Kernel.defs₀ Cert.KernelIdeal.defs₀
  congr 1
  funext x y
  match x, y with
  | 0, (t, s) => rfl
  | ⟨_ + 1, h⟩, _ => exact absurd h (Nat.not_lt.2 (Nat.le_add_left _ _))

/-- The table of bodies with the call's pipeline. -/
theorem tables : Cert.Kernel.defs (F := F) = Cert.KernelIdeal.defs (F := F) :=
  congrArg (Pipeline.defs (Cert.KernelIdeal.pcfgs (F := F))) bodies

set_option maxHeartbeats 4000000 in
/-- The host lines. -/
theorem mains : Cert.Kernel.main (F := F) = Cert.KernelIdeal.main (F := F) := rfl

end Cert.SameText

end

end
-- ==== Proof.Step.lean ====
/- What one time step of the scan computes, as functions of the step's rows and of the state alone. The state is held
   transposed: 8 groups of 4 heads, per group a [batch, value channel, 4·64 lanes] slab whose lanes are (head, key channel).
   A group's three products (state·a, value row spread by the identity, state·r) are stacked and multiplied by the 0/1
   matrix that sums the 64 lanes of a head; all eight groups go through one matrix product. -/
module

public import proofs.«01_k».proof.Proof.Gen.KernelIdeal.Skeleton
public import Idealize.ShloMosaic.Lib.WritesUnit

@[expose] public section

noncomputable section

namespace Cert.KernelIdeal.Wkv

open Idealize.ShloMosaic Cert.KernelIdeal Cert.KernelIdeal.Gen

variable {F : FTy → Type} [FloatOps F]

/-- The slices of the 2048 lanes at a multiple of 256 are in range. -/
theorem seg_slices (q : Fin 8) : S4x1x2048.Slices ![0, 0, 256 * q.val] S4x1x256 := by
  revert q; decide

/-- The slices of the product's 6144 rows at a multiple of 768 are in range. -/
theorem red_slices (q : Fin 8) : S6144x256.Slices ![768 * q.val, 0] S768x256 := by
  revert q; decide

/-- The slices of the last product's 2048 rows at a multiple of 256 are in range. -/
theorem last_slices (q : Fin 8) : S2048x256.Slices ![256 * q.val, 0] S256x256 := by
  revert q; decide

/-- One group's slab lies in the state. -/
theorem slab_inb (q : Fin 8) : ∀ a, (![q.val, 0, 0, 0] : Fin 4 → ℕ) a + S1x4x64x256.size a ≤ S8x4x64x256.size a := by
  revert q; decide

/-- One step's row lies in the chunk. -/
theorem row_inb (n : Fin 64) : ∀ a, (![0, n.val, 0] : Fin 3 → ℕ) a + S4x1x2048.size a ≤ S4x64x2048.size a := by
  revert n; decide

/-- The lanes of group `q` of a row. -/
def seg {t : FTy} (q : Fin 8) (x : FVec F S4x1x2048 t) : FVec F S4x1x256 t :=
  extractStridedSlice S4x1x256 ![0, 0, 256 * q.val] x (seg_slices q)

/-- The lanes of group `q` of a row, repeated over the 64 value channels. -/
def spread {t : FTy} (q : Fin 8) (x : FVec F S4x1x2048 t) : FVec F S4x64x256 t :=
  broadcastTo S4x64x256 (seg q x) broadcasts_S4x1x256_S4x64x256

/-- A row at full precision, as the kernel reads it. -/
def high (x : Vec F S4x1x2048 .f32) : FVec F S4x1x2048 .f32 :=
  shapeCast S4x1x2048 x shapeCasts_S4x1x2048_S4x1x2048

/-- A row rounded to the product's precision. -/
def low (x : Vec F S4x1x2048 .f32) : FVec F S4x1x2048 .bf16 :=
  truncf .bf16 (high x) bitsLt_bf16_f32

/-- Group `q`'s slab of the state. -/
def slab {e : EltTy} (q : Fin 8) (S : Vec F S8x4x64x256 e) : Vec F S1x4x64x256 e :=
  fun x => S ((Rect.unit (s := S8x4x64x256) ![q.val, 0, 0, 0] S1x4x64x256.size (slab_inb q)).toLoadRect.idx x)

/-- Step `n`'s row of a chunk of 64 steps. -/
def row {e : EltTy} (n : Fin 64) (X : Vec F S4x64x2048 e) : Vec F S4x1x2048 e :=
  fun x => X ((Rect.unit (s := S4x64x2048) ![0, n.val, 0] S4x1x2048.size (row_inb n)).toLoadRect.idx x)

/-- The head-sum matrix as read. -/
def gm (G : Vec F S256x256 .bf16) : FVec F S256x256 .bf16 := shapeCast S256x256 G shapeCasts_S256x256_S256x256

/-- The identity as read, with a leading unit axis. -/
def ey (E : Vec F S64x256 .f32) : FVec F S1x64x256 .f32 :=
  shapeCast S1x64x256 (shapeCast S64x256 E shapeCasts_S64x256_S64x256) shapeCasts_S64x256_S1x64x256

/-- Group `q`'s rows of the stacked product: state·a, identity·v, state·r. -/
def lhsG (q : Fin 8) (E : Vec F S64x256 .f32) (A V R : Vec F S4x1x2048 .f32) (Sb : Vec F S1x4x64x256 .bf16) :
    FVec F S768x256 .bf16 :=
  shapeCast S768x256
    (concatenate S4x4x3x16x256 2
      [⟨S4x4x1x16x256, shapeCast S4x4x1x16x256 (shapeCast S4x4x16x256
          (mulf (shapeCast S4x64x256 Sb shapeCasts_S1x4x64x256_S4x64x256) (spread q (low A)))
          shapeCasts_S4x64x256_S4x4x16x256) shapeCasts_S4x4x16x256_S4x4x1x16x256⟩,
       ⟨S4x4x1x16x256, shapeCast S4x4x1x16x256 (shapeCast S4x4x16x256
          (mulf (broadcastTo S4x64x256 (truncf .bf16 (ey E) bitsLt_bf16_f32) broadcasts_S1x64x256_S4x64x256)
            (spread q (low V)))
          shapeCasts_S4x64x256_S4x4x16x256) shapeCasts_S4x4x16x256_S4x4x1x16x256⟩,
       ⟨S4x4x1x16x256, shapeCast S4x4x1x16x256 (shapeCast S4x4x16x256
          (mulf (shapeCast S4x64x256 Sb shapeCasts_S1x4x64x256_S4x64x256) (spread q (low R)))
          shapeCasts_S4x64x256_S4x4x16x256) shapeCasts_S4x4x16x256_S4x4x1x16x256⟩]
      concatenates_S4x4x1x16x256_S4x4x1x16x256_S4x4x1x16x256_S4x4x3x16x256_d2)
    shapeCasts_S4x4x3x16x256_S768x256

/-- The step's matrix product over all eight groups. -/
def red (G : Vec F S256x256 .bf16) (E : Vec F S64x256 .f32) (A V R : Vec F S4x1x2048 .f32)
    (Sb : Vec F S8x4x64x256 .bf16) : FVec F S6144x256 .f32 :=
  matmul dot_S6144x256_S256x256_S6144x256_1_0_0_1_n_n none
    (concatenate S6144x256 0
      [⟨S768x256, lhsG 0 E A V R (slab 0 Sb)⟩, ⟨S768x256, lhsG 1 E A V R (slab 1 Sb)⟩,
       ⟨S768x256, lhsG 2 E A V R (slab 2 Sb)⟩, ⟨S768x256, lhsG 3 E A V R (slab 3 Sb)⟩,
       ⟨S768x256, lhsG 4 E A V R (slab 4 Sb)⟩, ⟨S768x256, lhsG 5 E A V R (slab 5 Sb)⟩,
       ⟨S768x256, lhsG 6 E A V R (slab 6 Sb)⟩, ⟨S768x256, lhsG 7 E A V R (slab 7 Sb)⟩]
      concatenates_S768x256_S768x256_S768x256_S768x256_S768x256_S768x256_S768x256_S768x256_S6144x256_d0)
    (gm G) (constant S6144x256 .f32 0x00000000#32)

/-- Group `q` of the product, its rows taken apart. -/
def grp (q : Fin 8) (m : FVec F S6144x256 .f32) : FVec F S4x4x3x16x256 .f32 :=
  shapeCast S4x4x3x16x256 (extractStridedSlice S768x256 ![768 * q.val, 0] m (red_slices q)) shapeCasts_S768x256_S4x4x3x16x256

/-- State·a of a group, summed over each head's lanes. -/
def saP (g : FVec F S4x4x3x16x256 .f32) : FVec F S4x64x256 .f32 :=
  shapeCast S4x64x256 (shapeCast S4x4x16x256
    (extractStridedSlice S4x4x1x16x256 ![0, 0, 0, 0, 0] g slices_S4x4x3x16x256_o0_0_0_0_0_S4x4x1x16x256)
    shapeCasts_S4x4x1x16x256_S4x4x16x256) shapeCasts_S4x4x16x256_S4x64x256

/-- The value row of a group, repeated over each head's lanes. -/
def vxP (g : FVec F S4x4x3x16x256 .f32) : FVec F S4x64x256 .f32 :=
  shapeCast S4x64x256 (shapeCast S4x4x16x256
    (extractStridedSlice S4x4x1x16x256 ![0, 0, 1, 0, 0] g slices_S4x4x3x16x256_o0_0_1_0_0_S4x4x1x16x256)
    shapeCasts_S4x4x1x16x256_S4x4x16x256) shapeCasts_S4x4x16x256_S4x64x256

/-- State·r of a group, summed over each head's lanes. -/
def yyP (g : FVec F S4x4x3x16x256 .f32) : FVec F S4x64x256 .f32 :=
  shapeCast S4x64x256 (shapeCast S4x4x16x256
    (extractStridedSlice S4x4x1x16x256 ![0, 0, 2, 0, 0] g slices_S4x4x3x16x256_o0_0_2_0_0_S4x4x1x16x256)
    shapeCasts_S4x4x1x16x256_S4x4x16x256) shapeCasts_S4x4x16x256_S4x64x256

/-- A group's new state from its old one and the product. -/
def newM (q : Fin 8) (W K B : Vec F S4x1x2048 .f32) (m : FVec F S6144x256 .f32) (s : Vec F S1x4x64x256 .f32) :
    FVec F S4x64x256 .f32 :=
  addf (addf (mulf (shapeCast S4x64x256 s shapeCasts_S1x4x64x256_S4x64x256) (spread q (high W)))
    (mulf (saP (grp q m)) (spread q (high B)))) (mulf (vxP (grp q m)) (spread q (high K)))

/-- The diagonal of a [value channel, lane] plane, as a row of lanes. -/
def diag (E : Vec F S64x256 .f32) (p : FVec F S4x64x256 .f32) : FVec F S4x1x256 .f32 :=
  shapeCast S4x1x256 (multiReduction .add [1] S4x256 (multiReduction .add [1] S4x8x256
    (shapeCast S4x8x8x256 (mulf p (broadcastTo S4x64x256 (ey E) broadcasts_S1x64x256_S4x64x256))
      shapeCasts_S4x64x256_S4x8x8x256) 0x00000000#32 reduces_S4x8x8x256_S4x8x256 (.inl rfl) rfl)
    0x00000000#32 reduces_S4x8x256_S4x256 (.inl rfl) rfl) shapeCasts_S4x256_S4x1x256

/-- The output of group `q` for the row whose `r` went into the product. -/
def yG (q : Fin 8) (E : Vec F S64x256 .f32) (m : FVec F S6144x256 .f32) : FVec F S4x1x256 .f32 :=
  diag E (yyP (grp q m))

/-- What a step writes into group `q` of the state. -/
def newG (q : Fin 8) (W K B : Vec F S4x1x2048 .f32) (m : FVec F S6144x256 .f32) (s : Vec F S1x4x64x256 .f32) :
    FVec F S1x4x64x256 .f32 :=
  shapeCast S1x4x64x256 (newM q W K B m s) shapeCasts_S4x64x256_S1x4x64x256

/-- What a step writes into group `q` of the rounded state. -/
def newGb (q : Fin 8) (W K B : Vec F S4x1x2048 .f32) (m : FVec F S6144x256 .f32) (s : Vec F S1x4x64x256 .f32) :
    FVec F S1x4x64x256 .bf16 :=
  shapeCast S1x4x64x256 (truncf .bf16 (newM q W K B m s) bitsLt_bf16_f32) shapeCasts_S4x64x256_S1x4x64x256

/-- The rounded state. -/
def lowS (S : Vec F S8x4x64x256 .f32) : Vec F S8x4x64x256 .bf16 :=
  shapeCast S8x4x64x256 (truncf .bf16 (shapeCast S8x4x64x256 S shapeCasts_S8x4x64x256_S8x4x64x256) bitsLt_bf16_f32)
    shapeCasts_S8x4x64x256_S8x4x64x256

/-- The last row's product: the state after the last step times its `r`, all groups stacked. -/
def redLast (G : Vec F S256x256 .bf16) (R : Vec F S4x1x2048 .f32) (Sb : Vec F S8x4x64x256 .bf16) : FVec F S2048x256 .f32 :=
  let l (q : Fin 8) : FVec F S256x256 .bf16 :=
    shapeCast S256x256 (mulf (shapeCast S4x64x256 (slab q Sb) shapeCasts_S1x4x64x256_S4x64x256) (spread q (low R)))
      shapeCasts_S4x64x256_S256x256
  matmul dot_S2048x256_S256x256_S2048x256_1_0_0_1_n_n none
    (concatenate S2048x256 0
      [⟨S256x256, l 0⟩, ⟨S256x256, l 1⟩, ⟨S256x256, l 2⟩, ⟨S256x256, l 3⟩,
       ⟨S256x256, l 4⟩, ⟨S256x256, l 5⟩, ⟨S256x256, l 6⟩, ⟨S256x256, l 7⟩]
      concatenates_S256x256_S256x256_S256x256_S256x256_S256x256_S256x256_S256x256_S256x256_S2048x256_d0)
    (gm G) (constant S2048x256 .f32 0x00000000#32)

/-- The last row's output of group `q`. -/
def yLast (q : Fin 8) (E : Vec F S64x256 .f32) (m : FVec F S2048x256 .f32) : FVec F S4x1x256 .f32 :=
  diag E (shapeCast S4x64x256 (extractStridedSlice S256x256 ![256 * q.val, 0] m (last_slices q)) shapeCasts_S256x256_S4x64x256)

end Cert.KernelIdeal.Wkv

end

end
-- ==== Proof.Chunk.lean ====
/- What a chunk of 64 time steps computes: the state after each step, and the chunk's output rows. The kernel writes row
   `n`'s output in trip `n + 1` (that trip's product carries the state after step `n` against row `n`'s `r`), and the last
   row's after the loop by a product of its own. -/
module

public import proofs.«01_k».proof.Proof.Step
public import Idealize.ShloMosaic.Lib.Pointwise

@[expose] public section

noncomputable section

namespace Cert.KernelIdeal.Wkv

open Idealize.ShloMosaic Cert.KernelIdeal Cert.KernelIdeal.Gen

variable {F : FTy → Type} [FloatOps F]

/-- What a chunk reads: its 64 rows of the six streams, the head-sum matrix and the identity. -/
structure Chunk (F : FTy → Type) where
  /-- the receptance rows -/
  r : Vec F S4x64x2048 .f32
  /-- the decay rows -/
  w : Vec F S4x64x2048 .f32
  /-- the key rows -/
  k : Vec F S4x64x2048 .f32
  /-- the value rows -/
  v : Vec F S4x64x2048 .f32
  /-- the removal-direction rows -/
  a : Vec F S4x64x2048 .f32
  /-- the replacement rows -/
  b : Vec F S4x64x2048 .f32
  /-- the head-sum matrix -/
  g : Vec F S256x256 .bf16
  /-- the identity, repeated over a group's four heads -/
  e : Vec F S64x256 .f32

/-- Row `n` of a stream. -/
def rowN {e : EltTy} (n : ℕ) (X : Vec F S4x64x2048 e) : Vec F S4x1x2048 e :=
  row ⟨n % 64, Nat.mod_lt _ (by decide)⟩ X

/-- Trip `n`'s product from the state before it: this row's `a` and `v`, the previous row's `r`. -/
def redN (c : Chunk F) (n : ℕ) (S : Vec F S8x4x64x256 .f32) : FVec F S6144x256 .f32 :=
  red c.g c.e (rowN n c.a) (rowN n c.v) (rowN (n - 1) c.r) (lowS S)

/-- The state after step `n` from the state before it. -/
def stepS (c : Chunk F) (n : ℕ) (S : Vec F S8x4x64x256 .f32) : Vec F S8x4x64x256 .f32 :=
  fun j => newG (j 0) (rowN n c.w) (rowN n c.k) (rowN n c.b) (redN c n S) (slab (j 0) S) (ix4 0 (j 1) (j 2) (j 3))

/-- The state before step `n` of the chunk. -/
def stN (c : Chunk F) (S : Vec F S8x4x64x256 .f32) : ℕ → Vec F S8x4x64x256 .f32
  | 0 => S
  | n + 1 => stepS c n (stN c S n)

/-- The state before step `n + 1`. -/
theorem stN_succ (c : Chunk F) (S : Vec F S8x4x64x256 .f32) (n : ℕ) : stN c S (n + 1) = stepS c n (stN c S n) := rfl

/-- The group of a lane of the 2048. -/
def laneQ (l : Fin 2048) : Fin 8 := ⟨l.val / 256, by omega⟩

/-- A lane's place in its group. -/
def laneR (l : Fin 2048) : Fin 256 := ⟨l.val % 256, Nat.mod_lt _ (by decide)⟩

/-- The chunk's output rows, from the state before its first step. -/
def yChunk (c : Chunk F) (S : Vec F S8x4x64x256 .f32) : Vec F S4x64x2048 .f32 := fun j =>
  if (j 1).val < 63 then
    yG (laneQ (j 2)) c.e (redN c ((j 1).val + 1) (stN c S ((j 1).val + 1))) (ix3 (j 0) 0 (laneR (j 2)))
  else yLast (laneQ (j 2)) c.e (redLast c.g (rowN 63 c.r) (lowS (stN c S 64))) (ix3 (j 0) 0 (laneR (j 2)))

/-- A row before the last, by the trip that writes it. -/
theorem yChunk_of_succ (c : Chunk F) (S : Vec F S8x4x64x256 .f32) (j : S4x64x2048.Idx) (n : ℕ) (h : (j 1).val + 1 = n)
    (hn : n < 64) :
    yChunk c S j = yG (laneQ (j 2)) c.e (redN c n (stN c S n)) (ix3 (j 0) 0 (laneR (j 2))) := by
  subst h
  exact if_pos (by omega)

/-- The last row, by the product after the loop. -/
theorem yChunk_of_last (c : Chunk F) (S : Vec F S8x4x64x256 .f32) (j : S4x64x2048.Idx) (h : ¬ (j 1).val < 63) :
    yChunk c S j = yLast (laneQ (j 2)) c.e (redLast c.g (rowN 63 c.r) (lowS (stN c S 64))) (ix3 (j 0) 0 (laneR (j 2))) :=
  if_neg h

/-- The rounded state, entry by entry. -/
theorem lowS_apply (S : Vec F S8x4x64x256 .f32) (j : S8x4x64x256.Idx) :
    lowS S j = truncf (F := F) (φ := .f32) .bf16 S bitsLt_bf16_f32 j := by
  unfold lowS
  rw [shapeCast_id, shapeCast_id]

/-- Rounding a new state is what a trip writes into the rounded state. -/
theorem lowS_stepS (c : Chunk F) (n : ℕ) (S : Vec F S8x4x64x256 .f32) (j : S8x4x64x256.Idx) :
    lowS (stepS c n S) j
      = newGb (j 0) (rowN n c.w) (rowN n c.k) (rowN n c.b) (redN c n S) (slab (j 0) S) (ix4 0 (j 1) (j 2) (j 3)) := by
  rw [lowS_apply]; rfl

end Cert.KernelIdeal.Wkv

end

end
-- ==== Proof.Trip.lean ====
/- One trip of the chunk's loop on the buffers: the pieces it stores into the state, the rounded state and the output are the
   step's functions of what it reads, and reading the buffers after it gives the next state and one more output row. -/
module

public import proofs.«01_k».proof.Proof.Chunk
public import proofs.«01_k».proof.Proof.Gen.KernelIdeal.Loops

@[expose] public section

set_option maxRecDepth 16384
set_option maxHeartbeats 1000000

noncomputable section

namespace Cert.KernelIdeal.Wkv

open Idealize.ShloMosaic Idealize.ShloMosaic.TcCoe Cert.KernelIdeal Cert.KernelIdeal.Gen

variable {F : FTy → Type} [FloatOps F]

/-- The offset of the row of `r` a trip reads, and of the output row it writes. -/
theorem off2_eq : ∀ k : Fin k0_t1_loop.trips, k0_off2 k = ![0, k.val - 1, 0] := by decide +kernel

/-- The trips that write an output row: all but the first. -/
theorem cond2_iff : ∀ k : Fin k0_t1_loop.trips, k0_cond2 k = 1#1 ↔ 0 < k.val := by decide +kernel

/-- There are 64 trips. -/
theorem trips_eq : k0_t1_loop.trips = 64 := by decide +kernel

/-- The offsets of a trip's eight output stores, as the program computes them. -/
def offY (k : Fin k0_t1_loop.trips) : Fin 8 → Fin 3 → ℕ :=
  ![k0_off3 k, k0_off4 k, k0_off5 k, k0_off6 k, k0_off7 k, k0_off8 k, k0_off9 k, k0_off10 k]

/-- Their closed form: row `k - 1`, group `q`'s lanes. -/
theorem offY_eq : ∀ (k : Fin k0_t1_loop.trips) (q : Fin 8), offY k q = ![0, k.val - 1, 256 * q.val] := by decide +kernel

/-- They lie in the chunk. -/
theorem offY_inb : ∀ (k : Fin k0_t1_loop.trips) (q : Fin 8) (a : Fin 3),
    offY k q a + S4x1x256.size a ≤ S4x64x2048.size a := by decide +kernel

/-- A row read at an offset that is row `n`'s. -/
theorem readAt_row {m : Memref sig .tc .vmem S4x64x2048 .f32} (X : BufTy.Contents (Elt F) m.view.ty) (n : ℕ) (hn : n < 64)
    (off : Fin 3 → ℕ) (inb : ∀ a, off a + S4x1x2048.size a ≤ S4x64x2048.size a) (h : off = ![0, n, 0]) :
    View.readAt (Elt F) m.view (Rect.unit (s := S4x64x2048) off S4x1x2048.size inb).toLoadRect X
      = rowN n (m.view.read (Elt F) X) := by
  subst h
  have : (⟨n % 64, Nat.mod_lt _ (by decide)⟩ : Fin 64) = ⟨n, hn⟩ := Fin.ext (Nat.mod_eq_of_lt hn)
  unfold rowN
  rw [this]
  rfl

section Trip

variable (𝒱 : Variants) (c : Dev nD) (bd : Option 𝒱.V) (i : grid0.Coords) (arg2 : Memref sig .tc .vmem S4x64x2048 .f32) (harg2 : arg2.IsWhole) (arg3 : Memref sig .tc .vmem S4x64x2048 .f32) (harg3 : arg3.IsWhole) (arg4 : Memref sig .tc .vmem S4x64x2048 .f32) (harg4 : arg4.IsWhole) (arg5 : Memref sig .tc .vmem S4x64x2048 .f32) (harg5 : arg5.IsWhole) (arg6 : Memref sig .tc .vmem S4x64x2048 .f32) (harg6 : arg6.IsWhole) (arg7 : Memref sig .tc .vmem S4x64x2048 .f32) (harg7 : arg7.IsWhole) (arg8 : Memref sig .tc .vmem S8x4x64x256 .f32) (harg8 : arg8.IsWhole) (arg9 : Memref sig .tc .vmem S256x256 .bf16) (harg9 : arg9.IsWhole) (arg10 : Memref sig .tc .vmem S64x256 .f32) (harg10 : arg10.IsWhole) (arg11 : Memref sig .tc .vmem S4x64x2048 .f32) (harg11 : arg11.IsWhole) (arg12 : Memref sig .tc .vmem S8x4x64x256 .f32) (harg12 : arg12.IsWhole) (arg13 : Memref sig .tc .vmem S8x4x64x256 .f32) (harg13 : arg13.IsWhole) (arg14 : Memref sig .tc .vmem S8x4x64x256 .bf16) (harg14 : arg14.IsWhole)
  (v3 : Vec F S256x256 .bf16) (v5 : Vec F S64x256 .f32)
  (X2 : BufTy.Contents (Elt F) arg2.view.ty) (X3 : BufTy.Contents (Elt F) arg3.view.ty)
  (X4 : BufTy.Contents (Elt F) arg4.view.ty) (X5 : BufTy.Contents (Elt F) arg5.view.ty)
  (X6 : BufTy.Contents (Elt F) arg6.view.ty) (X7 : BufTy.Contents (Elt F) arg7.view.ty)
  (k : Fin k0_t1_loop.trips)
  (f11 : BufTy.Contents (Elt F) arg11.view.ty) (f13 : BufTy.Contents (Elt F) arg13.view.ty)
  (f14 : BufTy.Contents (Elt F) arg14.view.ty)

/-- The row a trip reads of a stream. -/
abbrev rd (m : Memref sig .tc .vmem S4x64x2048 .f32) (X : BufTy.Contents (Elt F) m.view.ty) : Vec F S4x1x2048 .f32 :=
  View.readAt (Elt F) m.view (Rect.unit (s := S4x64x2048) (k0_off1 k) S4x1x2048.size (k0_off1_inb k)).toLoadRect X

/-- The row of `r` a trip reads. -/
abbrev rdR (m : Memref sig .tc .vmem S4x64x2048 .f32) (X : BufTy.Contents (Elt F) m.view.ty) : Vec F S4x1x2048 .f32 :=
  View.readAt (Elt F) m.view (Rect.unit (s := S4x64x2048) (k0_off2 k) S4x1x2048.size (k0_off2_inb k)).toLoadRect X

/-- The product of a trip, from what it reads. -/
abbrev mT : FVec F S6144x256 .f32 :=
  red v3 v5 (rd k arg6 X6) (rd k arg5 X5) (rdR k arg2 X2) (arg14.view.read (Elt F) f14)

/-- The pieces a trip stores into the state. -/
theorem pieces13 :
    (trip_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 v3 v5 X2 X3 X4 X5 X6 X7 k).2.1 f11 f13 f14
      = View.tilePieces (Val := Elt F) (s := S8x4x64x256) (e := .f32) S1x4x64x256.size (fun q : Fin 8 => ![q.val, 0, 0, 0]) slab_inb
          (fun q => newG q (rd k arg3 X3) (rd k arg4 X4) (rd k arg7 X7) (mT arg2 arg5 arg6 arg14 v3 v5 X2 X5 X6 k f14)
            (slab q (arg13.view.read (Elt F) f13))) 8 (le_refl 8) := by
  unfold trip_k0_t1
  rfl

/-- The pieces a trip stores into the rounded state. -/
theorem pieces14 :
    (trip_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 v3 v5 X2 X3 X4 X5 X6 X7 k).2.2.1 f11 f13 f14
      = View.tilePieces (Val := Elt F) (s := S8x4x64x256) (e := .bf16) S1x4x64x256.size (fun q : Fin 8 => ![q.val, 0, 0, 0]) slab_inb
          (fun q => newGb q (rd k arg3 X3) (rd k arg4 X4) (rd k arg7 X7) (mT arg2 arg5 arg6 arg14 v3 v5 X2 X5 X6 k f14)
            (slab q (arg13.view.read (Elt F) f13))) 8 (le_refl 8) := by
  unfold trip_k0_t1
  rfl

/-- The pieces a trip after the first stores into the output. -/
theorem pieces11 (h : k0_cond2 k = 1#1) :
    (trip_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 v3 v5 X2 X3 X4 X5 X6 X7 k).1 f11 f13 f14 h
      = View.tilePieces (Val := Elt F) (s := S4x64x2048) (e := .f32) S4x1x256.size (offY k) (offY_inb k)
          (fun q => yG q v5 (mT arg2 arg5 arg6 arg14 v3 v5 X2 X5 X6 k f14)) 8 (le_refl 8) := by
  unfold trip_k0_t1
  rfl

end Trip

end Cert.KernelIdeal.Wkv

end

end
-- ==== Proof.Loop.lean ====
/- The chunk's loop on the buffers: before trip `n` the state buffer reads as the state after `n` steps, the rounded one as its
   rounding, and the output's first `n - 1` rows as the chunk's output. -/
module

public import proofs.«01_k».proof.Proof.Trip

@[expose] public section

set_option maxRecDepth 16384
set_option maxHeartbeats 1000000

noncomputable section

namespace Cert.KernelIdeal.Wkv

open Idealize.ShloMosaic Idealize.ShloMosaic.TcCoe Idealize.ShloMosaic.Tactic Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- Eight slabs stored over a state read back as those slabs. -/
theorem read_slabs {e : EltTy} (m : Memref sig .tc .vmem S8x4x64x256 e) (f : BufTy.Contents (Elt F) m.view.ty)
    (P : Fin 8 → Vec F S1x4x64x256 e) (j : S8x4x64x256.Idx) :
    m.view.read (Elt F) (m.view.writes (Elt F) f (View.tilePieces (Val := Elt F) (s := S8x4x64x256) (e := e) S1x4x64x256.size
      (fun q : Fin 8 => ![q.val, 0, 0, 0]) slab_inb P 8 (le_refl 8))) j = P (j 0) (ix4 0 (j 1) (j 2) (j 3)) := by
  refine View.read_tilePieces m.view f _ _ _ P 8 (le_refl 8) j (j 0) (j 0).isLt (ix4 0 (j 1) (j 2) (j 3)) ?_ 0 ?_
  · intro a
    match a with
    | ⟨0, _⟩ => rfl
    | ⟨1, _⟩ => exact (Nat.zero_add _).symm
    | ⟨2, _⟩ => exact (Nat.zero_add _).symm
    | ⟨3, _⟩ => exact (Nat.zero_add _).symm
  · intro q hq
    show (j 0).val < q.val ∨ q.val + 1 ≤ (j 0).val
    have : q.val ≠ (j 0).val := fun h => hq (Fin.ext h)
    omega

/-- Eight lane groups stored into row `n` of the output read back as those groups. -/
theorem read_rowY (m : Memref sig .tc .vmem S4x64x2048 .f32) (f : BufTy.Contents (Elt F) m.view.ty)
    (off : Fin 8 → Fin 3 → ℕ) (inb : ∀ (q : Fin 8) (a : Fin 3), off q a + S4x1x256.size a ≤ S4x64x2048.size a)
    (n : ℕ) (hoff : ∀ q : Fin 8, off q = ![0, n, 256 * q.val])
    (P : Fin 8 → Vec F S4x1x256 .f32) (j : S4x64x2048.Idx) (hj : (j 1).val = n) :
    m.view.read (Elt F) (m.view.writes (Elt F) f (View.tilePieces (Val := Elt F) (s := S4x64x2048) (e := .f32) S4x1x256.size
      off inb P 8 (le_refl 8))) j = P (laneQ (j 2)) (ix3 (j 0) 0 (laneR (j 2))) := by
  have hl : (laneQ (j 2)).val = (j 2).val / 256 := rfl
  have hr : (laneR (j 2)).val = (j 2).val % 256 := rfl
  have h2 : (j 2).val < 2048 := (j 2).isLt
  refine View.read_tilePieces m.view f _ _ _ P 8 (le_refl 8) j (laneQ (j 2)) (laneQ (j 2)).isLt
    (ix3 (j 0) 0 (laneR (j 2))) ?_ 2 ?_
  · rw [hoff]
    intro a
    match a with
    | ⟨0, _⟩ => exact (Nat.zero_add _).symm
    | ⟨1, _⟩ => exact hj
    | ⟨2, _⟩ =>
      show (j 2).val = 256 * ((j 2).val / 256) + (j 2).val % 256
      omega
  · intro q hq
    rw [hoff]
    show (j 2).val < 256 * q.val ∨ 256 * q.val + 256 ≤ (j 2).val
    have : q.val ≠ (j 2).val / 256 := fun h => hq (Fin.ext h)
    omega

/-- A row other than the stored one keeps what it held. -/
theorem read_rowY_miss (m : Memref sig .tc .vmem S4x64x2048 .f32) (f : BufTy.Contents (Elt F) m.view.ty)
    (off : Fin 8 → Fin 3 → ℕ) (inb : ∀ (q : Fin 8) (a : Fin 3), off q a + S4x1x256.size a ≤ S4x64x2048.size a)
    (n : ℕ) (hoff : ∀ q : Fin 8, off q = ![0, n, 256 * q.val])
    (P : Fin 8 → Vec F S4x1x256 .f32) (j : S4x64x2048.Idx) (hj : (j 1).val ≠ n) :
    m.view.read (Elt F) (m.view.writes (Elt F) f (View.tilePieces (Val := Elt F) (s := S4x64x2048) (e := .f32) S4x1x256.size
      off inb P 8 (le_refl 8))) j = m.view.read (Elt F) f j := by
  refine View.read_tilePieces_miss m.view f _ _ _ P 8 (le_refl 8) j 1 ?_
  intro q _
  rw [hoff]
  show (j 1).val < n ∨ n + 1 ≤ (j 1).val
  omega

/-- What the three written buffers hold before trip `n`. -/
def LoopFact (ch : Chunk F) (S : Vec F S8x4x64x256 .f32) (n : ℕ) (y : Vec F S4x64x2048 .f32) (s : Vec F S8x4x64x256 .f32)
    (sb : Vec F S8x4x64x256 .bf16) : Prop :=
  s = stN ch S n ∧ sb = lowS (stN ch S n) ∧ ∀ j : S4x64x2048.Idx, (j 1).val + 1 < n → y j = yChunk ch S j

section Loop

variable (𝒱 : Variants) (c : Dev nD) (bd : Option 𝒱.V) (i : grid0.Coords) (arg2 : Memref sig .tc .vmem S4x64x2048 .f32) (harg2 : arg2.IsWhole) (arg3 : Memref sig .tc .vmem S4x64x2048 .f32) (harg3 : arg3.IsWhole) (arg4 : Memref sig .tc .vmem S4x64x2048 .f32) (harg4 : arg4.IsWhole) (arg5 : Memref sig .tc .vmem S4x64x2048 .f32) (harg5 : arg5.IsWhole) (arg6 : Memref sig .tc .vmem S4x64x2048 .f32) (harg6 : arg6.IsWhole) (arg7 : Memref sig .tc .vmem S4x64x2048 .f32) (harg7 : arg7.IsWhole) (arg8 : Memref sig .tc .vmem S8x4x64x256 .f32) (harg8 : arg8.IsWhole) (arg9 : Memref sig .tc .vmem S256x256 .bf16) (harg9 : arg9.IsWhole) (arg10 : Memref sig .tc .vmem S64x256 .f32) (harg10 : arg10.IsWhole) (arg11 : Memref sig .tc .vmem S4x64x2048 .f32) (harg11 : arg11.IsWhole) (arg12 : Memref sig .tc .vmem S8x4x64x256 .f32) (harg12 : arg12.IsWhole) (arg13 : Memref sig .tc .vmem S8x4x64x256 .f32) (harg13 : arg13.IsWhole) (arg14 : Memref sig .tc .vmem S8x4x64x256 .bf16) (harg14 : arg14.IsWhole)
  (v3 : Vec F S256x256 .bf16) (v5 : Vec F S64x256 .f32)
  (X2 : BufTy.Contents (Elt F) arg2.view.ty) (X3 : BufTy.Contents (Elt F) arg3.view.ty)
  (X4 : BufTy.Contents (Elt F) arg4.view.ty) (X5 : BufTy.Contents (Elt F) arg5.view.ty)
  (X6 : BufTy.Contents (Elt F) arg6.view.ty) (X7 : BufTy.Contents (Elt F) arg7.view.ty)
  (S : Vec F S8x4x64x256 .f32)

/-- The chunk the buffers hold. -/
abbrev chunkOf : Chunk F :=
  ⟨arg2.view.read (Elt F) X2, arg3.view.read (Elt F) X3, arg4.view.read (Elt F) X4, arg5.view.read (Elt F) X5,
    arg6.view.read (Elt F) X6, arg7.view.read (Elt F) X7, v3, v5⟩

/-- A trip takes what the buffers hold before it to what they hold before the next. -/
theorem loopFact_step (k : Fin k0_t1_loop.trips)
    (f11 : BufTy.Contents (Elt F) arg11.view.ty) (f13 : BufTy.Contents (Elt F) arg13.view.ty)
    (f14 : BufTy.Contents (Elt F) arg14.view.ty)
    (H : LoopFact (chunkOf arg2 arg3 arg4 arg5 arg6 arg7 v3 v5 X2 X3 X4 X5 X6 X7) S k.val (arg11.view.read (Elt F) f11)
      (arg13.view.read (Elt F) f13) (arg14.view.read (Elt F) f14)) :
    LoopFact (chunkOf arg2 arg3 arg4 arg5 arg6 arg7 v3 v5 X2 X3 X4 X5 X6 X7) S (k.val + 1)
      (arg11.view.read (Elt F) (arg11.view.writes (Elt F) f11
        (if h : k0_cond2 k = 1#1 then (trip_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 v3 v5 X2 X3 X4 X5 X6 X7 k).1 f11 f13 f14 h else [])))
      (arg13.view.read (Elt F) (arg13.view.writes (Elt F) f13
        ((trip_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 v3 v5 X2 X3 X4 X5 X6 X7 k).2.1 f11 f13 f14)))
      (arg14.view.read (Elt F) (arg14.view.writes (Elt F) f14
        ((trip_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 v3 v5 X2 X3 X4 X5 X6 X7 k).2.2.1 f11 f13 f14))) := by
  have hk : k.val < 64 := Nat.lt_of_lt_of_le k.isLt k0_t1_abs.2.1
  obtain ⟨H13, H14, H11⟩ := H
  have hm : mT arg2 arg5 arg6 arg14 v3 v5 X2 X5 X6 k f14
      = redN (chunkOf arg2 arg3 arg4 arg5 arg6 arg7 v3 v5 X2 X3 X4 X5 X6 X7) k.val
          (stN (chunkOf arg2 arg3 arg4 arg5 arg6 arg7 v3 v5 X2 X3 X4 X5 X6 X7) S k.val) := by
    unfold mT redN rd rdR
    rw [readAt_row X6 k.val hk _ _ (k0_off1_eq k), readAt_row X5 k.val hk _ _ (k0_off1_eq k),
      readAt_row X2 (k.val - 1) (by omega) _ _ (off2_eq k), H14]
  refine ⟨?_, ?_, ?_⟩
  · funext j
    rw [pieces13, read_slabs, hm, H13, stN_succ]
    unfold rd
    rw [readAt_row X3 k.val hk _ _ (k0_off1_eq k), readAt_row X4 k.val hk _ _ (k0_off1_eq k),
      readAt_row X7 k.val hk _ _ (k0_off1_eq k)]
    rfl
  · funext j
    rw [pieces14, read_slabs, hm, H13]
    unfold rd
    rw [readAt_row X3 k.val hk _ _ (k0_off1_eq k), readAt_row X4 k.val hk _ _ (k0_off1_eq k),
      readAt_row X7 k.val hk _ _ (k0_off1_eq k)]
    rw [stN_succ, lowS_stepS]
  · intro j hj
    have hc : k0_cond2 k = 1#1 := (cond2_iff k).mpr (by omega)
    rw [dif_pos hc, pieces11]
    by_cases hn : (j 1).val = k.val - 1
    · rw [read_rowY _ _ _ _ (k.val - 1) (offY_eq k) _ j hn, hm]
      exact (yChunk_of_succ _ S j k.val (by omega) hk).symm
    · rw [read_rowY_miss _ _ _ _ (k.val - 1) (offY_eq k) _ j hn]
      exact H11 j (by omega)

/-- What the loop holds before trip `n`. -/
abbrev loopInv (n : ℕ) (_u : PUnit) : sProp 𝕄 :=
  iprop((arg2.view.loc (c : Thread nD τ) ↦[arg2.view.set]{fullShare} X2) ∗ (arg3.view.loc (c : Thread nD τ) ↦[arg3.view.set]{fullShare} X3)
    ∗ (arg4.view.loc (c : Thread nD τ) ↦[arg4.view.set]{fullShare} X4) ∗ (arg5.view.loc (c : Thread nD τ) ↦[arg5.view.set]{fullShare} X5)
    ∗ (arg6.view.loc (c : Thread nD τ) ↦[arg6.view.set]{fullShare} X6) ∗ (arg7.view.loc (c : Thread nD τ) ↦[arg7.view.set]{fullShare} X7)
    ∗ (∃ f11 f13 f14, (arg11.view.loc (c : Thread nD τ) ↦[arg11.view.set]{fullShare} f11)
      ∗ (arg13.view.loc (c : Thread nD τ) ↦[arg13.view.set]{fullShare} f13)
      ∗ (arg14.view.loc (c : Thread nD τ) ↦[arg14.view.set]{fullShare} f14)
      ∗ ⌜LoopFact (chunkOf arg2 arg3 arg4 arg5 arg6 arg7 v3 v5 X2 X3 X4 X5 X6 X7) S n (arg11.view.read (Elt F) f11)
          (arg13.view.read (Elt F) f13) (arg14.view.read (Elt F) f14)⌝))

/-- One trip keeps it. -/
theorem loop_step (E : Set ℕ) (k : Fin k0_t1_loop.trips) (acc : PUnit) :
    loopInv c arg2 arg3 arg4 arg5 arg6 arg7 arg11 arg13 arg14 v3 v5 X2 X3 X4 X5 X6 X7 S k.val acc
      ⊢ wp frame (wpE (defs₀ (F := F)) 𝒱 (c : Thread nD τ) bd) E (k0_t1_body (F := F) i arg2 harg2 arg3 harg3 arg4 harg4 arg5 harg5 arg6 harg6 arg7 harg7 arg8 harg8 arg9 harg9 arg10 harg10 arg11 harg11 arg12 harg12 arg13 harg13 arg14 harg14 v3 v5 k acc)
          (loopInv c arg2 arg3 arg4 arg5 arg6 arg7 arg11 arg13 arg14 v3 v5 X2 X3 X4 X5 X6 X7 S (k.val + 1)) := by
  iintro ⟨H2, H3, H4, H5, H6, H7, %f11, %f13, %f14, H11, H13, H14, %hF⟩
  iapply (wp_wand_r Idealize.ShloMosaic.frame (wpE (defs₀ (F := F)) 𝒱 (c : Thread nD τ) bd) E)
  isplitl [H2 H3 H4 H5 H6 H7 H11 H13 H14]
  · iapply ((trip_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 v3 v5 X2 X3 X4 X5 X6 X7 k).2.2.2 E f11 f13 f14)
    isplitl [H2]; · iexact H2
    isplitl [H3]; · iexact H3
    isplitl [H4]; · iexact H4
    isplitl [H5]; · iexact H5
    isplitl [H6]; · iexact H6
    isplitl [H7]; · iexact H7
    isplitl [H11]; · iexact H11
    isplitl [H13]; · iexact H13
    iexact H14
  · iintro %_ ⟨H2, H3, H4, H5, H6, H7, H11, H13, H14⟩
    isplitl [H2]; · iexact H2
    isplitl [H3]; · iexact H3
    isplitl [H4]; · iexact H4
    isplitl [H5]; · iexact H5
    isplitl [H6]; · iexact H6
    isplitl [H7]; · iexact H7
    iexists _; iexists _; iexists _
    isplitl [H11]; · iexact H11
    isplitl [H13]; · iexact H13
    isplitl [H14]; · iexact H14
    ipureintro
    exact loopFact_step 𝒱 c bd i arg2 harg2 arg3 harg3 arg4 harg4 arg5 harg5 arg6 harg6 arg7 harg7 arg8 harg8 arg9 harg9 arg10 harg10 arg11 harg11 arg12 harg12 arg13 harg13 arg14 harg14 v3 v5 X2 X3 X4 X5 X6 X7 S k f11 f13 f14 hF

end Loop

end Cert.KernelIdeal.Wkv

end

end
-- ==== Proof.LastRow.lean ====
/- The last output row, stored after the loop: the eight lane groups stored over the rows the loop wrote make the chunk's
   output. -/
module

public import proofs.«01_k».proof.Proof.Loop
public import Idealize.ShloMosaic.Lib.VecWindow

@[expose] public section

set_option maxRecDepth 16384
set_option maxHeartbeats 2000000

noncomputable section

namespace Cert.KernelIdeal.Wkv

open Idealize.ShloMosaic Idealize.ShloMosaic.TcCoe Idealize.ShloMosaic.Tactic Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- Row 63's lane groups are in range. -/
theorem last_inb : ∀ (q : Fin 8) (a : Fin 3), (![0, 63, 256 * q.val] : Fin 3 → ℕ) a + S4x1x256.size a ≤ S4x64x2048.size a := by
  decide

/-- What the buffers hold after the last trip, with the two constant operands read whole. -/
theorem loopFact_end {arg9 : Memref sig .tc .vmem S256x256 .bf16} {arg10 : Memref sig .tc .vmem S64x256 .f32}
    {f9 : BufTy.Contents (Elt F) arg9.view.ty} {f10 : BufTy.Contents (Elt F) arg10.view.ty}
    {x2 x3 x4 x5 x6 x7 y : Vec F S4x64x2048 .f32} {S s : Vec F S8x4x64x256 .f32} {sb : Vec F S8x4x64x256 .bf16}
    (H : LoopFact ⟨x2, x3, x4, x5, x6, x7,
      View.readAt (Elt F) arg9.view (Rect.unit (s := S256x256) ![0, 0] S256x256.size inb_S256x256_S256x256_0_0).toLoadRect f9,
      View.readAt (Elt F) arg10.view (Rect.unit (s := S64x256) ![0, 0] S64x256.size inb_S64x256_S64x256_0_0).toLoadRect f10⟩
      S k0_t1_loop.trips y s sb) :
    LoopFact ⟨x2, x3, x4, x5, x6, x7, arg9.view.read (Elt F) f9, arg10.view.read (Elt F) f10⟩ S 64 y s sb := by
  rw [View.readAt_full, View.readAt_full, trips_eq] at H
  exact H

/-- The loop's rows with the last row's lane groups stored over them are the chunk's output. -/
theorem read_last (arg2 arg11 : Memref sig .tc .vmem S4x64x2048 .f32) (arg9 : Memref sig .tc .vmem S256x256 .bf16)
    (arg10 : Memref sig .tc .vmem S64x256 .f32) (arg14 : Memref sig .tc .vmem S8x4x64x256 .bf16)
    (f2 : BufTy.Contents (Elt F) arg2.view.ty) (f9 : BufTy.Contents (Elt F) arg9.view.ty)
    (f10 : BufTy.Contents (Elt F) arg10.view.ty) (g11 : BufTy.Contents (Elt F) arg11.view.ty)
    (g14 : BufTy.Contents (Elt F) arg14.view.ty) (x3 x4 x5 x6 x7 : Vec F S4x64x2048 .f32)
    (S s : Vec F S8x4x64x256 .f32)
    (H : LoopFact ⟨arg2.view.read (Elt F) f2, x3, x4, x5, x6, x7, arg9.view.read (Elt F) f9, arg10.view.read (Elt F) f10⟩ S 64
      (arg11.view.read (Elt F) g11) s (arg14.view.read (Elt F) g14)) :
    arg11.view.read (Elt F) (arg11.view.writes (Elt F) g11
      (View.tilePieces (Val := Elt F) (s := S4x64x2048) (e := .f32) S4x1x256.size (fun q : Fin 8 => ![0, 63, 256 * q.val]) last_inb
        (fun q => yLast q
          (View.readAt (Elt F) arg10.view (Rect.unit (s := S64x256) ![0, 0] S64x256.size inb_S64x256_S64x256_0_0).toLoadRect f10)
          (redLast
            (View.readAt (Elt F) arg9.view (Rect.unit (s := S256x256) ![0, 0] S256x256.size inb_S256x256_S256x256_0_0).toLoadRect f9)
            (View.readAt (Elt F) arg2.view (Rect.unit (s := S4x64x2048) ![0, 63, 0] S4x1x2048.size inb_S4x64x2048_S4x1x2048_0_63_0).toLoadRect f2)
            (arg14.view.read (Elt F) g14))) 8 (le_refl 8)))
      = yChunk ⟨arg2.view.read (Elt F) f2, x3, x4, x5, x6, x7, arg9.view.read (Elt F) f9, arg10.view.read (Elt F) f10⟩ S := by
  obtain ⟨-, H14, H11⟩ := H
  funext j
  have hj : (j 1).val < 64 := (j 1).isLt
  by_cases h : (j 1).val < 63
  · rw [read_rowY_miss _ _ _ _ 63 (fun _ => rfl) _ j (by omega)]
    exact H11 j (by omega)
  · rw [read_rowY _ _ _ _ 63 (fun _ => rfl) _ j (by omega), yChunk_of_last _ _ _ h, View.readAt_full, View.readAt_full,
      readAt_row f2 63 (by omega) _ _ rfl, H14]

end Cert.KernelIdeal.Wkv

end

end
-- ==== Proof.Body.lean ====
/- A grid point's body on its windows: from the windows' blocks and the state carried in, the chunk's output, the chunk's final
   state carried on, and at the last point that state in the result's window. -/
module

public import proofs.«01_k».proof.Proof.LastRow

@[expose] public section

set_option maxRecDepth 16384
set_option maxHeartbeats 2000000

noncomputable section

namespace Cert.KernelIdeal.Wkv

open Idealize.ShloMosaic Idealize.ShloMosaic.TcCoe Idealize.ShloMosaic.Tactic Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The condition of the region that starts a batch block's state. -/
abbrev condI (i : grid0.Coords) : Prop :=
  (Scalar.cmpi .ne (Scalar.extui (Scalar.cmpi .eq (BitVec.ofNat 32 (i 1).val) 0#32)) 0#32 : BitVec 1) = 1#1

/-- The state started from the initial state's block reads as it. -/
theorem init13 (arg8 arg13 : Memref sig .tc .vmem S8x4x64x256 .f32) (f8 : BufTy.Contents (Elt F) arg8.view.ty)
    (f13 : BufTy.Contents (Elt F) arg13.view.ty) :
    arg13.view.read (Elt F) (arg13.view.writes (Elt F) f13
      [⟨Rect.unit (s := S8x4x64x256) ![0, 0, 0, 0] S8x4x64x256.size inb_S8x4x64x256_S8x4x64x256_0_0_0_0,
        k0_pay72 (View.readAt (Elt F) arg8.view (Rect.unit (s := S8x4x64x256) ![0, 0, 0, 0] S8x4x64x256.size
          inb_S8x4x64x256_S8x4x64x256_0_0_0_0).toLoadRect f8)⟩])
      = arg8.view.read (Elt F) f8 := by
  rw [View.readAt_full]
  refine (View.read_writes_full arg13.view f13 _ _ _).trans ?_
  unfold k0_pay72
  exact (shapeCast_id _ _).trans (shapeCast_id _ _)

/-- The rounded state started from the initial state's block reads as its rounding. -/
theorem init14 (arg8 : Memref sig .tc .vmem S8x4x64x256 .f32) (arg14 : Memref sig .tc .vmem S8x4x64x256 .bf16)
    (f8 : BufTy.Contents (Elt F) arg8.view.ty) (f14 : BufTy.Contents (Elt F) arg14.view.ty) :
    arg14.view.read (Elt F) (arg14.view.writes (Elt F) f14
      [⟨Rect.unit (s := S8x4x64x256) ![0, 0, 0, 0] S8x4x64x256.size inb_S8x4x64x256_S8x4x64x256_0_0_0_0,
        k0_pay73 (View.readAt (Elt F) arg8.view (Rect.unit (s := S8x4x64x256) ![0, 0, 0, 0] S8x4x64x256.size
          inb_S8x4x64x256_S8x4x64x256_0_0_0_0).toLoadRect f8)⟩])
      = lowS (arg8.view.read (Elt F) f8) := by
  rw [View.readAt_full]
  exact View.read_writes_full arg14.view f14 _ _ _

/-- The state copied into the result's window reads as it. -/
theorem read_store12 (arg12 arg13 : Memref sig .tc .vmem S8x4x64x256 .f32) (f12 : BufTy.Contents (Elt F) arg12.view.ty)
    (g13 : BufTy.Contents (Elt F) arg13.view.ty) (X : Vec F S8x4x64x256 .f32) (h : arg13.view.read (Elt F) g13 = X) :
    arg12.view.read (Elt F) (arg12.view.writes (Elt F) f12
      [⟨Rect.unit (s := S8x4x64x256) ![0, 0, 0, 0] S8x4x64x256.size inb_S8x4x64x256_S8x4x64x256_0_0_0_0,
        (View.readAt (Elt F) arg13.view (Rect.unit (s := S8x4x64x256) ![0, 0, 0, 0] S8x4x64x256.size
          inb_S8x4x64x256_S8x4x64x256_0_0_0_0).toLoadRect g13)⟩]) = X := by
  rw [View.readAt_full, h]
  exact View.read_writes_full arg12.view f12 _ _ _

/-- A point between the first and the last of a batch block: the state carried in, the chunk run on, the state carried on. -/
theorem run_mid (c : Dev nD) (E : Set ℕ) (K : PUnit → sProp 𝕄) (i : grid0.Coords) (arg2 : Memref sig .tc .vmem S4x64x2048 .f32) (harg2 : arg2.IsWhole) (arg3 : Memref sig .tc .vmem S4x64x2048 .f32) (harg3 : arg3.IsWhole) (arg4 : Memref sig .tc .vmem S4x64x2048 .f32) (harg4 : arg4.IsWhole) (arg5 : Memref sig .tc .vmem S4x64x2048 .f32) (harg5 : arg5.IsWhole) (arg6 : Memref sig .tc .vmem S4x64x2048 .f32) (harg6 : arg6.IsWhole) (arg7 : Memref sig .tc .vmem S4x64x2048 .f32) (harg7 : arg7.IsWhole) (arg8 : Memref sig .tc .vmem S8x4x64x256 .f32) (harg8 : arg8.IsWhole) (arg9 : Memref sig .tc .vmem S256x256 .bf16) (harg9 : arg9.IsWhole) (arg10 : Memref sig .tc .vmem S64x256 .f32) (harg10 : arg10.IsWhole) (arg11 : Memref sig .tc .vmem S4x64x2048 .f32) (harg11 : arg11.IsWhole) (arg12 : Memref sig .tc .vmem S8x4x64x256 .f32) (harg12 : arg12.IsWhole) (arg13 : Memref sig .tc .vmem S8x4x64x256 .f32) (harg13 : arg13.IsWhole) (arg14 : Memref sig .tc .vmem S8x4x64x256 .bf16) (harg14 : arg14.IsWhole)
    (hc0 : ¬ condI i) (hc1 : ¬ k0_cond3 i = 1#1)
    (x2 x3 x4 x5 x6 x7 : Vec F S4x64x2048 .f32) (x8 : Vec F S8x4x64x256 .f32) (x9 : Vec F S256x256 .bf16)
    (x10 : Vec F S64x256 .f32) (x11 : Vec F S4x64x2048 .f32) (x12 : Vec F S8x4x64x256 .f32) (S : Vec F S8x4x64x256 .f32) :
    iprop(owns (c : Thread nD τ) arg2 fullShare x2
      ∗ owns (c : Thread nD τ) arg3 fullShare x3
      ∗ owns (c : Thread nD τ) arg4 fullShare x4
      ∗ owns (c : Thread nD τ) arg5 fullShare x5
      ∗ owns (c : Thread nD τ) arg6 fullShare x6
      ∗ owns (c : Thread nD τ) arg7 fullShare x7
      ∗ owns (c : Thread nD τ) arg8 fullShare x8
      ∗ owns (c : Thread nD τ) arg9 fullShare x9
      ∗ owns (c : Thread nD τ) arg10 fullShare x10
      ∗ owns (c : Thread nD τ) arg11 fullShare x11
      ∗ owns (c : Thread nD τ) arg12 fullShare x12
      ∗ owns (c : Thread nD τ) arg13 fullShare S
      ∗ owns (c : Thread nD τ) arg14 fullShare (lowS S)
      ∗ (owns (c : Thread nD τ) arg2 fullShare x2
      ∗ owns (c : Thread nD τ) arg3 fullShare x3
      ∗ owns (c : Thread nD τ) arg4 fullShare x4
      ∗ owns (c : Thread nD τ) arg5 fullShare x5
      ∗ owns (c : Thread nD τ) arg6 fullShare x6
      ∗ owns (c : Thread nD τ) arg7 fullShare x7
      ∗ owns (c : Thread nD τ) arg8 fullShare x8
      ∗ owns (c : Thread nD τ) arg9 fullShare x9
      ∗ owns (c : Thread nD τ) arg10 fullShare x10
      ∗ owns (c : Thread nD τ) arg11 fullShare (yChunk ⟨x2, x3, x4, x5, x6, x7, x9, x10⟩ S)
      ∗ owns (c : Thread nD τ) arg12 fullShare x12
      ∗ owns (c : Thread nD τ) arg13 fullShare (stN ⟨x2, x3, x4, x5, x6, x7, x9, x10⟩ S 64)
      ∗ owns (c : Thread nD τ) arg14 fullShare (lowS (stN ⟨x2, x3, x4, x5, x6, x7, x9, x10⟩ S 64)) -∗ K ⟨⟩))
      ⊢ wp frame (wpE (defs₀ (F := F)) Variants.none (c : Thread nD τ) none) E (cc0_wkv_scan i arg2 harg2 arg3 harg3 arg4 harg4 arg5 harg5 arg6 harg6 arg7 harg7 arg8 harg8 arg9 harg9 arg10 harg10 arg11 harg11 arg12 harg12 arg13 harg13 arg14 harg14) K := by
  simp only [cc0_wkv_scan_eq_skeleton]; unfold cc0_wkv_scan_skel
  simp only [k0_part15_eq_skeleton, k0_part12_eq_skeleton, k0_part13_eq_skeleton, k0_part14_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, Hk⟩
  subst hf2
  subst hf3
  subst hf4
  subst hf5
  subst hf6
  subst hf7
  subst hf9
  subst hf10
  set_option sl_exec.maxSteps 6 in
  sl_exec (disch := first | sl_exact hc0 | sl_exact hc1)
  sl_for (loopInv c arg2 arg3 arg4 arg5 arg6 arg7 arg11 arg13 arg14
      (View.readAt (Elt F) arg9.view (Rect.unit (s := S256x256) ![0, 0] S256x256.size inb_S256x256_S256x256_0_0).toLoadRect f9)
      (View.readAt (Elt F) arg10.view (Rect.unit (s := S64x256) ![0, 0] S64x256.size inb_S64x256_S64x256_0_0).toLoadRect f10)
      f2 f3 f4 f5 f6 f7 S) $$ [H2 H3 H4 H5 H6 H7 H11 H13 H14]
  case region =>
    intro k acc
    exact loop_step Variants.none c none i arg2 harg2 arg3 harg3 arg4 harg4 arg5 harg5 arg6 harg6 arg7 harg7 arg8 harg8 arg9 harg9 arg10 harg10 arg11 harg11 arg12 harg12 arg13 harg13 arg14 harg14 _ _ f2 f3 f4 f5 f6 f7 S E k acc
  · isplitl [H2]; · iexact H2
    isplitl [H3]; · iexact H3
    isplitl [H4]; · iexact H4
    isplitl [H5]; · iexact H5
    isplitl [H6]; · iexact H6
    isplitl [H7]; · iexact H7
    iexists _; iexists _; iexists _
    isplitl [H11]; · iexact H11
    isplitl [H13]; · iexact H13
    isplitl [H14]; · iexact H14
    ipureintro
    exact ⟨hf13, hf14, fun j hj => absurd hj (by omega)⟩
  iintro %_ ⟨H2, H3, H4, H5, H6, H7, %g11, %g13, %g14, H11, H13, H14, %hF⟩
  iterate 8
    try sl_exec (disch := first | sl_exact hc0 | sl_exact hc1)
    try sl_step
  replace hF := loopFact_end hF
  iapply Hk
  isplitl [H2]
  · iexists _; isplitr
    swap; · iexact H2
    ipureintro
    exact rfl
  isplitl [H3]
  · iexists _; isplitr
    swap; · iexact H3
    ipureintro
    exact rfl
  isplitl [H4]
  · iexists _; isplitr
    swap; · iexact H4
    ipureintro
    exact rfl
  isplitl [H5]
  · iexists _; isplitr
    swap; · iexact H5
    ipureintro
    exact rfl
  isplitl [H6]
  · iexists _; isplitr
    swap; · iexact H6
    ipureintro
    exact rfl
  isplitl [H7]
  · iexists _; isplitr
    swap; · iexact H7
    ipureintro
    exact rfl
  isplitl [H8]
  · iexists _; isplitr
    swap; · iexact H8
    ipureintro
    exact hf8
  isplitl [H9]
  · iexists _; isplitr
    swap; · iexact H9
    ipureintro
    exact rfl
  isplitl [H10]
  · iexists _; isplitr
    swap; · iexact H10
    ipureintro
    exact rfl
  isplitl [H11]
  · iexists _; isplitr
    swap; · iexact H11
    ipureintro
    exact read_last arg2 arg11 arg9 arg10 arg14 f2 f9 f10 g11 g14 _ _ _ _ _ _ _ hF
  isplitl [H12]
  · iexists _; isplitr
    swap; · iexact H12
    ipureintro
    exact hf12
  isplitl [H13]
  · iexists _; isplitr
    swap; · iexact H13
    ipureintro
    exact hF.1
  iexists _; isplitr
  swap; · iexact H14
  ipureintro
  exact hF.2.1

/-- The first point of a batch block: the state started from the initial state. -/
theorem run_first (c : Dev nD) (E : Set ℕ) (K : PUnit → sProp 𝕄) (i : grid0.Coords) (arg2 : Memref sig .tc .vmem S4x64x2048 .f32) (harg2 : arg2.IsWhole) (arg3 : Memref sig .tc .vmem S4x64x2048 .f32) (harg3 : arg3.IsWhole) (arg4 : Memref sig .tc .vmem S4x64x2048 .f32) (harg4 : arg4.IsWhole) (arg5 : Memref sig .tc .vmem S4x64x2048 .f32) (harg5 : arg5.IsWhole) (arg6 : Memref sig .tc .vmem S4x64x2048 .f32) (harg6 : arg6.IsWhole) (arg7 : Memref sig .tc .vmem S4x64x2048 .f32) (harg7 : arg7.IsWhole) (arg8 : Memref sig .tc .vmem S8x4x64x256 .f32) (harg8 : arg8.IsWhole) (arg9 : Memref sig .tc .vmem S256x256 .bf16) (harg9 : arg9.IsWhole) (arg10 : Memref sig .tc .vmem S64x256 .f32) (harg10 : arg10.IsWhole) (arg11 : Memref sig .tc .vmem S4x64x2048 .f32) (harg11 : arg11.IsWhole) (arg12 : Memref sig .tc .vmem S8x4x64x256 .f32) (harg12 : arg12.IsWhole) (arg13 : Memref sig .tc .vmem S8x4x64x256 .f32) (harg13 : arg13.IsWhole) (arg14 : Memref sig .tc .vmem S8x4x64x256 .bf16) (harg14 : arg14.IsWhole)
    (hc0 : condI i) (hc1 : ¬ k0_cond3 i = 1#1)
    (x2 x3 x4 x5 x6 x7 : Vec F S4x64x2048 .f32) (x8 : Vec F S8x4x64x256 .f32) (x9 : Vec F S256x256 .bf16)
    (x10 : Vec F S64x256 .f32) (x11 : Vec F S4x64x2048 .f32) (x12 : Vec F S8x4x64x256 .f32) (x13 : Vec F S8x4x64x256 .f32) (x14 : Vec F S8x4x64x256 .bf16) :
    iprop(owns (c : Thread nD τ) arg2 fullShare x2
      ∗ owns (c : Thread nD τ) arg3 fullShare x3
      ∗ owns (c : Thread nD τ) arg4 fullShare x4
      ∗ owns (c : Thread nD τ) arg5 fullShare x5
      ∗ owns (c : Thread nD τ) arg6 fullShare x6
      ∗ owns (c : Thread nD τ) arg7 fullShare x7
      ∗ owns (c : Thread nD τ) arg8 fullShare x8
      ∗ owns (c : Thread nD τ) arg9 fullShare x9
      ∗ owns (c : Thread nD τ) arg10 fullShare x10
      ∗ owns (c : Thread nD τ) arg11 fullShare x11
      ∗ owns (c : Thread nD τ) arg12 fullShare x12
      ∗ owns (c : Thread nD τ) arg13 fullShare x13
      ∗ owns (c : Thread nD τ) arg14 fullShare x14
      ∗ (owns (c : Thread nD τ) arg2 fullShare x2
      ∗ owns (c : Thread nD τ) arg3 fullShare x3
      ∗ owns (c : Thread nD τ) arg4 fullShare x4
      ∗ owns (c : Thread nD τ) arg5 fullShare x5
      ∗ owns (c : Thread nD τ) arg6 fullShare x6
      ∗ owns (c : Thread nD τ) arg7 fullShare x7
      ∗ owns (c : Thread nD τ) arg8 fullShare x8
      ∗ owns (c : Thread nD τ) arg9 fullShare x9
      ∗ owns (c : Thread nD τ) arg10 fullShare x10
      ∗ owns (c : Thread nD τ) arg11 fullShare (yChunk ⟨x2, x3, x4, x5, x6, x7, x9, x10⟩ x8)
      ∗ owns (c : Thread nD τ) arg12 fullShare x12
      ∗ owns (c : Thread nD τ) arg13 fullShare (stN ⟨x2, x3, x4, x5, x6, x7, x9, x10⟩ x8 64)
      ∗ owns (c : Thread nD τ) arg14 fullShare (lowS (stN ⟨x2, x3, x4, x5, x6, x7, x9, x10⟩ x8 64)) -∗ K ⟨⟩))
      ⊢ wp frame (wpE (defs₀ (F := F)) Variants.none (c : Thread nD τ) none) E (cc0_wkv_scan i arg2 harg2 arg3 harg3 arg4 harg4 arg5 harg5 arg6 harg6 arg7 harg7 arg8 harg8 arg9 harg9 arg10 harg10 arg11 harg11 arg12 harg12 arg13 harg13 arg14 harg14) K := by
  simp only [cc0_wkv_scan_eq_skeleton]; unfold cc0_wkv_scan_skel
  simp only [k0_part15_eq_skeleton, k0_part12_eq_skeleton, k0_part13_eq_skeleton, k0_part14_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, Hk⟩
  subst hf2
  subst hf3
  subst hf4
  subst hf5
  subst hf6
  subst hf7
  subst hf9
  subst hf10
  subst hf8
  set_option sl_exec.maxSteps 12 in
  sl_exec (disch := first | sl_exact hc0 | sl_exact hc1)
  sl_for (loopInv c arg2 arg3 arg4 arg5 arg6 arg7 arg11 arg13 arg14
      (View.readAt (Elt F) arg9.view (Rect.unit (s := S256x256) ![0, 0] S256x256.size inb_S256x256_S256x256_0_0).toLoadRect f9)
      (View.readAt (Elt F) arg10.view (Rect.unit (s := S64x256) ![0, 0] S64x256.size inb_S64x256_S64x256_0_0).toLoadRect f10)
      f2 f3 f4 f5 f6 f7 (arg8.view.read (Elt F) f8)) $$ [H2 H3 H4 H5 H6 H7 H11 H13 H14]
  case region =>
    intro k acc
    exact loop_step Variants.none c none i arg2 harg2 arg3 harg3 arg4 harg4 arg5 harg5 arg6 harg6 arg7 harg7 arg8 harg8 arg9 harg9 arg10 harg10 arg11 harg11 arg12 harg12 arg13 harg13 arg14 harg14 _ _ f2 f3 f4 f5 f6 f7 (arg8.view.read (Elt F) f8) E k acc
  · isplitl [H2]; · iexact H2
    isplitl [H3]; · iexact H3
    isplitl [H4]; · iexact H4
    isplitl [H5]; · iexact H5
    isplitl [H6]; · iexact H6
    isplitl [H7]; · iexact H7
    iexists _; iexists _; iexists _
    isplitl [H11]; · iexact H11
    isplitl [H13]; · iexact H13
    isplitl [H14]; · iexact H14
    ipureintro
    refine ⟨?_, ?_, fun j hj => absurd hj (by omega)⟩
    · exact init13 arg8 arg13 f8 f13
    · exact init14 arg8 arg14 f8 f14
  iintro %_ ⟨H2, H3, H4, H5, H6, H7, %g11, %g13, %g14, H11, H13, H14, %hF⟩
  iterate 8
    try sl_exec (disch := first | sl_exact hc0 | sl_exact hc1)
    try sl_step
  replace hF := loopFact_end hF
  iapply Hk
  isplitl [H2]
  · iexists _; isplitr
    swap; · iexact H2
    ipureintro
    exact rfl
  isplitl [H3]
  · iexists _; isplitr
    swap; · iexact H3
    ipureintro
    exact rfl
  isplitl [H4]
  · iexists _; isplitr
    swap; · iexact H4
    ipureintro
    exact rfl
  isplitl [H5]
  · iexists _; isplitr
    swap; · iexact H5
    ipureintro
    exact rfl
  isplitl [H6]
  · iexists _; isplitr
    swap; · iexact H6
    ipureintro
    exact rfl
  isplitl [H7]
  · iexists _; isplitr
    swap; · iexact H7
    ipureintro
    exact rfl
  isplitl [H8]
  · iexists _; isplitr
    swap; · iexact H8
    ipureintro
    exact rfl
  isplitl [H9]
  · iexists _; isplitr
    swap; · iexact H9
    ipureintro
    exact rfl
  isplitl [H10]
  · iexists _; isplitr
    swap; · iexact H10
    ipureintro
    exact rfl
  isplitl [H11]
  · iexists _; isplitr
    swap; · iexact H11
    ipureintro
    exact read_last arg2 arg11 arg9 arg10 arg14 f2 f9 f10 g11 g14 _ _ _ _ _ _ _ hF
  isplitl [H12]
  · iexists _; isplitr
    swap; · iexact H12
    ipureintro
    exact hf12
  isplitl [H13]
  · iexists _; isplitr
    swap; · iexact H13
    ipureintro
    exact hF.1
  iexists _; isplitr
  swap; · iexact H14
  ipureintro
  exact hF.2.1

/-- The last point of a batch block: the state also written to the result. -/
theorem run_final (c : Dev nD) (E : Set ℕ) (K : PUnit → sProp 𝕄) (i : grid0.Coords) (arg2 : Memref sig .tc .vmem S4x64x2048 .f32) (harg2 : arg2.IsWhole) (arg3 : Memref sig .tc .vmem S4x64x2048 .f32) (harg3 : arg3.IsWhole) (arg4 : Memref sig .tc .vmem S4x64x2048 .f32) (harg4 : arg4.IsWhole) (arg5 : Memref sig .tc .vmem S4x64x2048 .f32) (harg5 : arg5.IsWhole) (arg6 : Memref sig .tc .vmem S4x64x2048 .f32) (harg6 : arg6.IsWhole) (arg7 : Memref sig .tc .vmem S4x64x2048 .f32) (harg7 : arg7.IsWhole) (arg8 : Memref sig .tc .vmem S8x4x64x256 .f32) (harg8 : arg8.IsWhole) (arg9 : Memref sig .tc .vmem S256x256 .bf16) (harg9 : arg9.IsWhole) (arg10 : Memref sig .tc .vmem S64x256 .f32) (harg10 : arg10.IsWhole) (arg11 : Memref sig .tc .vmem S4x64x2048 .f32) (harg11 : arg11.IsWhole) (arg12 : Memref sig .tc .vmem S8x4x64x256 .f32) (harg12 : arg12.IsWhole) (arg13 : Memref sig .tc .vmem S8x4x64x256 .f32) (harg13 : arg13.IsWhole) (arg14 : Memref sig .tc .vmem S8x4x64x256 .bf16) (harg14 : arg14.IsWhole)
    (hc0 : ¬ condI i) (hc1 : k0_cond3 i = 1#1)
    (x2 x3 x4 x5 x6 x7 : Vec F S4x64x2048 .f32) (x8 : Vec F S8x4x64x256 .f32) (x9 : Vec F S256x256 .bf16)
    (x10 : Vec F S64x256 .f32) (x11 : Vec F S4x64x2048 .f32) (x12 : Vec F S8x4x64x256 .f32) (S : Vec F S8x4x64x256 .f32) :
    iprop(owns (c : Thread nD τ) arg2 fullShare x2
      ∗ owns (c : Thread nD τ) arg3 fullShare x3
      ∗ owns (c : Thread nD τ) arg4 fullShare x4
      ∗ owns (c : Thread nD τ) arg5 fullShare x5
      ∗ owns (c : Thread nD τ) arg6 fullShare x6
      ∗ owns (c : Thread nD τ) arg7 fullShare x7
      ∗ owns (c : Thread nD τ) arg8 fullShare x8
      ∗ owns (c : Thread nD τ) arg9 fullShare x9
      ∗ owns (c : Thread nD τ) arg10 fullShare x10
      ∗ owns (c : Thread nD τ) arg11 fullShare x11
      ∗ owns (c : Thread nD τ) arg12 fullShare x12
      ∗ owns (c : Thread nD τ) arg13 fullShare S
      ∗ owns (c : Thread nD τ) arg14 fullShare (lowS S)
      ∗ (owns (c : Thread nD τ) arg2 fullShare x2
      ∗ owns (c : Thread nD τ) arg3 fullShare x3
      ∗ owns (c : Thread nD τ) arg4 fullShare x4
      ∗ owns (c : Thread nD τ) arg5 fullShare x5
      ∗ owns (c : Thread nD τ) arg6 fullShare x6
      ∗ owns (c : Thread nD τ) arg7 fullShare x7
      ∗ owns (c : Thread nD τ) arg8 fullShare x8
      ∗ owns (c : Thread nD τ) arg9 fullShare x9
      ∗ owns (c : Thread nD τ) arg10 fullShare x10
      ∗ owns (c : Thread nD τ) arg11 fullShare (yChunk ⟨x2, x3, x4, x5, x6, x7, x9, x10⟩ S)
      ∗ owns (c : Thread nD τ) arg12 fullShare (stN ⟨x2, x3, x4, x5, x6, x7, x9, x10⟩ S 64)
      ∗ owns (c : Thread nD τ) arg13 fullShare (stN ⟨x2, x3, x4, x5, x6, x7, x9, x10⟩ S 64)
      ∗ owns (c : Thread nD τ) arg14 fullShare (lowS (stN ⟨x2, x3, x4, x5, x6, x7, x9, x10⟩ S 64)) -∗ K ⟨⟩))
      ⊢ wp frame (wpE (defs₀ (F := F)) Variants.none (c : Thread nD τ) none) E (cc0_wkv_scan i arg2 harg2 arg3 harg3 arg4 harg4 arg5 harg5 arg6 harg6 arg7 harg7 arg8 harg8 arg9 harg9 arg10 harg10 arg11 harg11 arg12 harg12 arg13 harg13 arg14 harg14) K := by
  simp only [cc0_wkv_scan_eq_skeleton]; unfold cc0_wkv_scan_skel
  simp only [k0_part15_eq_skeleton, k0_part12_eq_skeleton, k0_part13_eq_skeleton, k0_part14_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, Hk⟩
  subst hf2
  subst hf3
  subst hf4
  subst hf5
  subst hf6
  subst hf7
  subst hf9
  subst hf10
  set_option sl_exec.maxSteps 6 in
  sl_exec (disch := first | sl_exact hc0 | sl_exact hc1)
  sl_for (loopInv c arg2 arg3 arg4 arg5 arg6 arg7 arg11 arg13 arg14
      (View.readAt (Elt F) arg9.view (Rect.unit (s := S256x256) ![0, 0] S256x256.size inb_S256x256_S256x256_0_0).toLoadRect f9)
      (View.readAt (Elt F) arg10.view (Rect.unit (s := S64x256) ![0, 0] S64x256.size inb_S64x256_S64x256_0_0).toLoadRect f10)
      f2 f3 f4 f5 f6 f7 S) $$ [H2 H3 H4 H5 H6 H7 H11 H13 H14]
  case region =>
    intro k acc
    exact loop_step Variants.none c none i arg2 harg2 arg3 harg3 arg4 harg4 arg5 harg5 arg6 harg6 arg7 harg7 arg8 harg8 arg9 harg9 arg10 harg10 arg11 harg11 arg12 harg12 arg13 harg13 arg14 harg14 _ _ f2 f3 f4 f5 f6 f7 S E k acc
  · isplitl [H2]; · iexact H2
    isplitl [H3]; · iexact H3
    isplitl [H4]; · iexact H4
    isplitl [H5]; · iexact H5
    isplitl [H6]; · iexact H6
    isplitl [H7]; · iexact H7
    iexists _; iexists _; iexists _
    isplitl [H11]; · iexact H11
    isplitl [H13]; · iexact H13
    isplitl [H14]; · iexact H14
    ipureintro
    exact ⟨hf13, hf14, fun j hj => absurd hj (by omega)⟩
  iintro %_ ⟨H2, H3, H4, H5, H6, H7, %g11, %g13, %g14, H11, H13, H14, %hF⟩
  iterate 8
    try sl_exec (disch := first | sl_exact hc0 | sl_exact hc1)
    try sl_step
  replace hF := loopFact_end hF
  iapply Hk
  isplitl [H2]
  · iexists _; isplitr
    swap; · iexact H2
    ipureintro
    exact rfl
  isplitl [H3]
  · iexists _; isplitr
    swap; · iexact H3
    ipureintro
    exact rfl
  isplitl [H4]
  · iexists _; isplitr
    swap; · iexact H4
    ipureintro
    exact rfl
  isplitl [H5]
  · iexists _; isplitr
    swap; · iexact H5
    ipureintro
    exact rfl
  isplitl [H6]
  · iexists _; isplitr
    swap; · iexact H6
    ipureintro
    exact rfl
  isplitl [H7]
  · iexists _; isplitr
    swap; · iexact H7
    ipureintro
    exact rfl
  isplitl [H8]
  · iexists _; isplitr
    swap; · iexact H8
    ipureintro
    exact hf8
  isplitl [H9]
  · iexists _; isplitr
    swap; · iexact H9
    ipureintro
    exact rfl
  isplitl [H10]
  · iexists _; isplitr
    swap; · iexact H10
    ipureintro
    exact rfl
  isplitl [H11]
  · iexists _; isplitr
    swap; · iexact H11
    ipureintro
    exact read_last arg2 arg11 arg9 arg10 arg14 f2 f9 f10 g11 g14 _ _ _ _ _ _ _ hF
  isplitl [H12]
  · iexists _; isplitr
    swap; · iexact H12
    ipureintro
    exact read_store12 arg12 arg13 f12 g13 _ hF.1
  isplitl [H13]
  · iexists _; isplitr
    swap; · iexact H13
    ipureintro
    exact hF.1
  iexists _; isplitr
  swap; · iexact H14
  ipureintro
  exact hF.2.1

end Cert.KernelIdeal.Wkv

end

end
-- ==== Proof.Region.lean ====
/- The region as a whole: what each grid point's windows hold, the state carried between points, the body's obligation at every
   point, and the launch, over any arithmetic. -/
module

public import proofs.«01_k».proof.Proof.Body
public import proofs.«01_k».proof.Proof.Gen.KernelIdeal.Frame
public import Idealize.ShloMosaic.Lib.Claim

@[expose] public section

set_option maxRecDepth 16384

noncomputable section

namespace Cert.KernelIdeal.Wkv

open Idealize.ShloMosaic Idealize.ShloMosaic.TcCoe Idealize.ShloMosaic.Tactic Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The state is started at the first point and nowhere else. -/
theorem condI_iff (t : Fin grid0.N) : condI (grid0.coords t) ↔ t.val = 0 := by
  have ht : t.val < 32 := Nat.lt_of_lt_of_eq t.isLt N_0
  have e1 : (grid0.coords t 1).val = t.val / 1 % 32 := Pipeline.Grid.coords_val t 1 (by decide) rfl
  simp only [condI, e1]
  word_cmp

/-- The state is written to the result at the last point and nowhere else. -/
theorem cond3_iff (t : Fin grid0.N) : k0_cond3 (grid0.coords t) = 1#1 ↔ t.val = 31 := by
  have ht : t.val < 32 := Nat.lt_of_lt_of_eq t.isLt N_0
  have e1 : (grid0.coords t 1).val = t.val / 1 % 32 := Pipeline.Grid.coords_val t 1 (by decide) rfl
  simp only [k0_cond3, e1]
  word_cmp

/-- The kernel's scratch: the state and its rounding. -/
abbrev scS : Memref sig .tc .vmem S8x4x64x256 .f32 := Memref.whole cc0_scratch0
abbrev scB : Memref sig .tc .vmem S8x4x64x256 .bf16 := Memref.whole cc0_scratch1

/-- The launch's invariant with the scratch spelled as memrefs at some contents. -/
theorem PhiA_eq (c : Dev nD) :
    (Pipeline.ΦA spec0 c : sProp 𝕄)
      = iprop(((∃ d, owns (c : Thread nD τ) scS fullShare d) ∗ (∃ d, owns (c : Thread nD τ) scB fullShare d)) ∗ (∃ r, prngReg c r)) := by
  unfold Pipeline.ΦA; rw [scopedRest0_eq]; simp only [scS, scB, owns_whole]; try rfl

/-- The operands of the chunk a grid point runs. -/
def chunkAt (c : Dev nD) (t : Fin cfg0.N) : Chunk F :=
  ⟨iblk m c 0 t, iblk m c 1 t, iblk m c 2 t, iblk m c 3 t, iblk m c 4 t, iblk m c 5 t, iblk m c 7 t, iblk m c 8 t⟩

/-- The first grid point. -/
abbrev pt0 : Fin cfg0.N := ⟨0, Nat.lt_of_lt_of_eq (by decide : 0 < 32) N_0.symm⟩

/-- The state before grid point `n`: the initial state, run through the chunks before. -/
def stAt (c : Dev nD) : ℕ → Vec F S8x4x64x256 .f32
  | 0 => iblk m c 6 pt0
  | n + 1 => if h : n < cfg0.N then stN (chunkAt m c ⟨n, h⟩) (stAt c n) 64 else stAt c n

/-- The state after a grid point. -/
theorem stAt_succ (c : Dev nD) (t : Fin cfg0.N) :
    stAt m c (t.val + 1) = stN (chunkAt m c t) (stAt m c t.val) 64 := dif_pos t.isLt

/-- What holds between points: before the first, the launch's invariant; after, the scratch at the state carried. -/
def PhiC (c : Dev nD) : ℕ → sProp 𝕄
  | 0 => Pipeline.ΦA spec0 c
  | n + 1 => iprop((owns (c : Thread nD τ) scS fullShare (stAt m c (n + 1)) ∗ owns (c : Thread nD τ) scB fullShare (lowS (stAt m c (n + 1))))
      ∗ (∃ r, prngReg c r))

/-- Before a point that is not the first. -/
theorem PhiC_pos (c : Dev nD) (n : ℕ) (h : n ≠ 0) :
    PhiC m c n = iprop((owns (c : Thread nD τ) scS fullShare (stAt m c n) ∗ owns (c : Thread nD τ) scB fullShare (lowS (stAt m c n)))
      ∗ (∃ r, prngReg c r)) := by
  cases n with
  | zero => exact absurd rfl h
  | succ n => rfl

/-- The pipeline's data: the operands' blocks left in place, the chunk's output rows, the final state. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => yChunk (chunkAt m c t) (stAt m c t.val)
    | ⟨10, _⟩ => stAt m c (t.val + 1)
  Φ t := PhiC m c t.val
  q _ := fullShare
  owed _ := 0

/-- The arrays are those the region finds. -/
theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = yChunk (chunkAt m c t) (stAt m c t.val) := by dsimp only [dats]
theorem after0_10 (c : Dev nD) (t : Fin cfg0.N) : (dats m 0 c).after 10 t = stAt m c (t.val + 1) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d

abbrev ms0 (t : Fin cfg0.N) := win0_0.stage (cfg0.slots t 0)
abbrev ms1 (t : Fin cfg0.N) := win0_1.stage (cfg0.slots t 1)
abbrev ms2 (t : Fin cfg0.N) := win0_2.stage (cfg0.slots t 2)
abbrev ms3 (t : Fin cfg0.N) := win0_3.stage (cfg0.slots t 3)
abbrev ms4 (t : Fin cfg0.N) := win0_4.stage (cfg0.slots t 4)
abbrev ms5 (t : Fin cfg0.N) := win0_5.stage (cfg0.slots t 5)
abbrev ms6 (t : Fin cfg0.N) := win0_6.stage (cfg0.slots t 6)
abbrev ms7 (t : Fin cfg0.N) := win0_7.stage (cfg0.slots t 7)
abbrev ms8 (t : Fin cfg0.N) := win0_8.stage (cfg0.slots t 8)
abbrev ms9 (t : Fin cfg0.N) := win0_9.stage (cfg0.slots t 9)
abbrev ms10 (t : Fin cfg0.N) := win0_10.stage (cfg0.slots t 10)

theorem leaves0 (c : Dev nD) (t : Fin cfg0.N) :
    (dats m 0 c).leavesExact 0 t = owns (c : Thread nD τ) (ms0 t) fullShare ((dats m 0 c).after 0 t) := by
  unfold Dat.leavesExact; rw [show cfg0.idle 0 (grid0.coords t) = false from rfl]
theorem leaves1 (c : Dev nD) (t : Fin cfg0.N) :
    (dats m 0 c).leavesExact 1 t = owns (c : Thread nD τ) (ms1 t) fullShare ((dats m 0 c).after 1 t) := by
  unfold Dat.leavesExact; rw [show cfg0.idle 1 (grid0.coords t) = false from rfl]
theorem leaves2 (c : Dev nD) (t : Fin cfg0.N) :
    (dats m 0 c).leavesExact 2 t = owns (c : Thread nD τ) (ms2 t) fullShare ((dats m 0 c).after 2 t) := by
  unfold Dat.leavesExact; rw [show cfg0.idle 2 (grid0.coords t) = false from rfl]
theorem leaves3 (c : Dev nD) (t : Fin cfg0.N) :
    (dats m 0 c).leavesExact 3 t = owns (c : Thread nD τ) (ms3 t) fullShare ((dats m 0 c).after 3 t) := by
  unfold Dat.leavesExact; rw [show cfg0.idle 3 (grid0.coords t) = false from rfl]
theorem leaves4 (c : Dev nD) (t : Fin cfg0.N) :
    (dats m 0 c).leavesExact 4 t = owns (c : Thread nD τ) (ms4 t) fullShare ((dats m 0 c).after 4 t) := by
  unfold Dat.leavesExact; rw [show cfg0.idle 4 (grid0.coords t) = false from rfl]
theorem leaves5 (c : Dev nD) (t : Fin cfg0.N) :
    (dats m 0 c).leavesExact 5 t = owns (c : Thread nD τ) (ms5 t) fullShare ((dats m 0 c).after 5 t) := by
  unfold Dat.leavesExact; rw [show cfg0.idle 5 (grid0.coords t) = false from rfl]
theorem leaves6 (c : Dev nD) (t : Fin cfg0.N) :
    (dats m 0 c).leavesExact 6 t = owns (c : Thread nD τ) (ms6 t) fullShare ((dats m 0 c).after 6 t) := by
  unfold Dat.leavesExact; rw [show cfg0.idle 6 (grid0.coords t) = false from rfl]
theorem leaves7 (c : Dev nD) (t : Fin cfg0.N) :
    (dats m 0 c).leavesExact 7 t = owns (c : Thread nD τ) (ms7 t) fullShare ((dats m 0 c).after 7 t) := by
  unfold Dat.leavesExact; rw [show cfg0.idle 7 (grid0.coords t) = false from rfl]
theorem leaves8 (c : Dev nD) (t : Fin cfg0.N) :
    (dats m 0 c).leavesExact 8 t = owns (c : Thread nD τ) (ms8 t) fullShare ((dats m 0 c).after 8 t) := by
  unfold Dat.leavesExact; rw [show cfg0.idle 8 (grid0.coords t) = false from rfl]
theorem leaves9 (c : Dev nD) (t : Fin cfg0.N) :
    (dats m 0 c).leavesExact 9 t = owns (c : Thread nD τ) (ms9 t) fullShare ((dats m 0 c).after 9 t) := by
  unfold Dat.leavesExact; rw [show cfg0.idle 9 (grid0.coords t) = false from rfl]

/-- The state's result window is left as found before the last point. -/
theorem leaves10_idle (c : Dev nD) (t : Fin cfg0.N) (h : t.val ≠ 31) :
    (dats m 0 c).leavesExact 10 t = iprop(∃ d, owns (c : Thread nD τ) (ms10 t) fullShare ((dats m 0 c).before 10 t d)) := by
  have ht : t.val < 32 := Nat.lt_of_lt_of_eq t.isLt N_0
  refine Dat.leavesExact_idle _ 10 t ?_ ?_
  · show (!(k0_cond3 (grid0.coords t) == 1#1)) = true
    rw [Bool.not_eq_true', beq_eq_false_iff_ne]
    exact fun hc => h ((cond3_iff t).mp hc)
  · rw [← Bool.not_eq_true]
    exact fun hc => h (by have := (flush0_10 t).mp hc; omega)

/-- And holds the final state after it. -/
theorem leaves10_last (c : Dev nD) (t : Fin cfg0.N) (h : t.val = 31) :
    (dats m 0 c).leavesExact 10 t = owns (c : Thread nD τ) (ms10 t) fullShare ((dats m 0 c).after 10 t) := by
  unfold Dat.leavesExact
  rw [show cfg0.idle 10 (grid0.coords t) = false from by
    show (!(k0_cond3 (grid0.coords t) == 1#1)) = false
    rw [(cond3_iff t).mpr h]; rfl]

/-- What the body is called with. -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d))
    ∗ (∃ d, owns (c : Thread nD τ) (ms10 t) fullShare ((dats m 0 c).before 10 t d)))

/-- What it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t)

set_option maxHeartbeats 4000000 in
/-- The body at any point, by the run of the point's case. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8]
  rw [show (dats m 0 c).owesAt () t.succ = (dats m 0 c).owesAt () t.castSucc from rfl]
  rw [show (dats m 0 c).Φ t.succ = PhiC m c (t.val + 1) from rfl, show (dats m 0 c).Φ t.castSucc = PhiC m c t.val from rfl,
    PhiC_pos m c (t.val + 1) (Nat.succ_ne_zero _), stAt_succ]
  have hN : t.val < 32 := lt_of_lt_of_eq t.isLt (show cfg0.N = 32 from N_0)
  rw [leaves0, leaves1, leaves2, leaves3, leaves4, leaves5, leaves6, leaves7, leaves8, leaves9]
  rw [after0_0, after0_1, after0_2, after0_3, after0_4, after0_5, after0_6, after0_7, after0_8, after0_9]
  by_cases h0 : t.val = 0
  · have h1 : t.val ≠ 31 := by omega
    have hst : stAt m c t.val = iblk m c 6 t := by
      rw [h0, show t = pt0 from Fin.ext h0]; rfl
    rw [leaves10_idle m c t h1]
    rw [hst, h0, show PhiC m c 0 = Pipeline.ΦA spec0 c from rfl, PhiA_eq]
    iintro ⟨⟨⟨⟨%dS, HS⟩, ⟨%dB, HB⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply (run_first c Set.univ _ (grid0.coords t) _ _ _ _ _ _ _ _ _ _ _ _ _ _ _ _ _ _ _ _ _ _ _ _ _ _ ((condI_iff t).mpr h0) (fun h => h1 ((cond3_iff t).mp h))
      (iblk m c 0 t) (iblk m c 1 t) (iblk m c 2 t) (iblk m c 3 t) (iblk m c 4 t) (iblk m c 5 t) (iblk m c 6 t) (iblk m c 7 t)
      (iblk m c 8 t) ((dats m 0 c).before 9 t d9) ((dats m 0 c).before 10 t d10) _ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [HS]; · iexact HS
    isplitl [HB]; · iexact HB
    iintro ⟨H0, H1, H2, H3, H4, H5, H6, H7, H8, H9, H10, HS, HB⟩
    isplitl [HS HB Hg]
    · isplitl [HS HB]
      · isplitl [HS]
        · iexact HS
        iexact HB
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexists d10; iexact H10
  · by_cases h1 : t.val = 31
    · skip
      rw [leaves10_last m c t h1, after0_10, stAt_succ]
      rw [PhiC_pos m c _ h0]
      iintro ⟨⟨⟨HS, HB⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply (run_final c Set.univ _ (grid0.coords t) _ _ _ _ _ _ _ _ _ _ _ _ _ _ _ _ _ _ _ _ _ _ _ _ _ _ (fun h => h0 ((condI_iff t).mp h)) ((cond3_iff t).mpr h1)
        (iblk m c 0 t) (iblk m c 1 t) (iblk m c 2 t) (iblk m c 3 t) (iblk m c 4 t) (iblk m c 5 t) (iblk m c 6 t) (iblk m c 7 t)
        (iblk m c 8 t) ((dats m 0 c).before 9 t d9) ((dats m 0 c).before 10 t d10) (stAt m c t.val))
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [HS]; · iexact HS
      isplitl [HB]; · iexact HB
      iintro ⟨H0, H1, H2, H3, H4, H5, H6, H7, H8, H9, H10, HS, HB⟩
      isplitl [HS HB Hg]
      · isplitl [HS HB]
        · isplitl [HS]
          · iexact HS
          iexact HB
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      iexact H10
    · skip
      rw [leaves10_idle m c t h1]
      rw [PhiC_pos m c _ h0]
      iintro ⟨⟨⟨HS, HB⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply (run_mid c Set.univ _ (grid0.coords t) _ _ _ _ _ _ _ _ _ _ _ _ _ _ _ _ _ _ _ _ _ _ _ _ _ _ (fun h => h0 ((condI_iff t).mp h)) (fun h => h1 ((cond3_iff t).mp h))
        (iblk m c 0 t) (iblk m c 1 t) (iblk m c 2 t) (iblk m c 3 t) (iblk m c 4 t) (iblk m c 5 t) (iblk m c 6 t) (iblk m c 7 t)
        (iblk m c 8 t) ((dats m 0 c).before 9 t d9) ((dats m 0 c).before 10 t d10) (stAt m c t.val))
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [HS]; · iexact HS
      isplitl [HB]; · iexact HB
      iintro ⟨H0, H1, H2, H3, H4, H5, H6, H7, H8, H9, H10, HS, HB⟩
      isplitl [HS HB Hg]
      · isplitl [HS HB]
        · isplitl [HS]
          · iexact HS
          iexact HB
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      iexists d10; iexact H10

/-- The body table's row at a point is the body there. -/
theorem defs₀_row (t : Fin cfg0.N) :
    defs₀ (F := F) .tc cfg0.body (cfg0.bodyArgs t (cfg0.slots t)) = bodyAt0 t := by
  unfold defs₀; rw [Defs.onTc_tc]

/-- The pipeline's obligation on the body. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- The launch hands over the invariant before the first point. -/
theorem hin (c : Dev nD) : Pipeline.ΦA spec0 c ⊢ (dats m 0 c).Φ 0 := by
  rw [show (dats m 0 c).Φ 0 = Pipeline.ΦA spec0 c from rfl]

/-- The invariant after the last point gives the launch's back. -/
theorem hout (c : Dev nD) : (dats m 0 c).Φ (Fin.last cfg0.N) ⊢ Pipeline.ΦA spec0 c := by
  rw [show (dats m 0 c).Φ (Fin.last cfg0.N) = PhiC m c cfg0.N from rfl, PhiC_pos m c _ (by rw [show cfg0.N = 32 from N_0]; decide), PhiA_eq]
  iintro ⟨⟨HS, HB⟩, Hg⟩
  isplitl [HS HB]
  · isplitl [HS]
    · iexists _; iexact HS
    iexists _; iexact HB
  iexact Hg

set_option backward.isDefEq.respectTransparency.types false in
set_option maxHeartbeats 800000 in
/-- The launch: every array of the region ends as the pipeline's data say, the host lines after it run on those, every other
    buffer is as the region found it, and every semaphore ends at zero. -/
theorem run_main : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The frame: the arguments end unchanged and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

end Cert.KernelIdeal.Wkv

end

end
-- ==== Proof.StepIdeal.lean ====
/- One time step on extended reals, entry by entry: the product with the 0/1 head matrix is a sum over a head's 64 lanes, the
   spread identity picks a value channel, and the diagonal of a plane picks a lane's own channel. -/
module

public import proofs.«01_k».proof.Proof.Chunk

@[expose] public section

noncomputable section

namespace Cert.KernelIdeal.Wkv

open Idealize.ShloMosaic Cert.KernelIdeal Cert.KernelIdeal.Gen

/-- Lane `j` of the head that lane `l` of a group belongs to. -/
def mate (l : Fin 256) (j : Fin 64) : Fin 256 := ⟨64 * (l.val / 64) + j.val, by omega⟩

/-- Lane `l` of group `q` among the 2048. -/
def wide (q : Fin 8) (l : Fin 256) : Fin 2048 := ⟨256 * q.val + l.val, by omega⟩

/-- The key channel of a lane. -/
def chan (l : Fin 256) : Fin 64 := ⟨l.val % 64, Nat.mod_lt _ (by decide)⟩

/-- The row of a group's stacked product that holds part `p` of batch `b`, value channel `i`. -/
def prow (p : Fin 3) (b : Fin 4) (i : Fin 64) : Fin 768 :=
  ⟨b.val * 192 + i.val / 16 * 48 + 16 * p.val + i.val % 16, by omega⟩

/-- Row `n` of group `q` among the 6144. -/
def grow (q : Fin 8) (n : Fin 768) : Fin 6144 := ⟨768 * q.val + n.val, by omega⟩

/-- A matrix that is 1 between lanes of one head and 0 elsewhere. -/
def HeadSum (G : Vec Ideal S256x256 .bf16) : Prop :=
  ∀ k l : Fin 256, G (ix2 k l) = if k.val / 64 = l.val / 64 then (1 : EReal) else 0

/-- A matrix that is 1 where the row is the lane's channel and 0 elsewhere. -/
def Spread (E : Vec Ideal S64x256 .f32) : Prop :=
  ∀ (i : Fin 64) (l : Fin 256), E (ix2 i l) = if i.val = l.val % 64 then (1 : EReal) else 0

/-- A sum over a group's lanes weighted by a row of the head matrix is the sum over the head's lanes. -/
theorem sum_head (f : Fin 256 → EReal) (l : Fin 256) :
    ∑ k : Fin 256, f k * (if k.val / 64 = l.val / 64 then (1 : EReal) else 0) = ∑ j : Fin 64, f (mate l j) := by
  simp only [mul_ite, mul_one, mul_zero]
  rw [← Finset.sum_filter]
  symm
  refine Finset.sum_nbij' (fun j => mate l j) (fun k => chan k) ?_ ?_ ?_ ?_ ?_
  · intro j _
    simp only [Finset.mem_filter, Finset.mem_univ, true_and, mate]
    omega
  · intro k _; exact Finset.mem_univ _
  · intro j _
    exact Fin.ext (by simp only [mate, chan]; omega)
  · intro k hk
    simp only [Finset.mem_filter, Finset.mem_univ, true_and] at hk
    exact Fin.ext (by simp only [mate, chan]; omega)
  · intro j _; rfl

/-- A sum over the value channels weighted by a lane's column of the identity is the lane's own channel. -/
theorem sum_chan (f : Fin 64 → EReal) (l : Fin 256) :
    ∑ i : Fin 64, f i * (if i.val = l.val % 64 then (1 : EReal) else 0) = f (chan l) := by
  rw [Finset.sum_eq_single (chan l)]
  · have h : (chan l).val = l.val % 64 := rfl
    rw [h, if_pos rfl, mul_one]
  · intro i _ hi
    rw [if_neg (fun h : i.val = l.val % 64 => hi (Fin.ext h)), mul_zero]
  · intro h; exact absurd (Finset.mem_univ _) h

/-- A row spread over the value channels, at an entry. -/
theorem spread_at {t : FTy} (q : Fin 8) (x : FVec Ideal S4x1x2048 t) (b : Fin 4) (i : Fin 64) (l : Fin 256) :
    spread q x (ix3 b i l) = x (ix3 b 0 (wide q l)) := by
  pointwise [spread, seg, wide]

/-- A row as read is the row. -/
theorem high_at (x : Vec Ideal S4x1x2048 .f32) (b : Fin 4) (l : Fin 2048) : high x (ix3 b 0 l) = x (ix3 b 0 l) := by
  pointwise [high]

/-- Rounding is exact on extended reals. -/
theorem low_at (x : Vec Ideal S4x1x2048 .f32) (b : Fin 4) (l : Fin 2048) : low x (ix3 b 0 l) = x (ix3 b 0 l) := by
  pointwise [low, high]

/-- The identity as read is the identity. -/
theorem ey_at (E : Vec Ideal S64x256 .f32) (i : Fin 64) (l : Fin 256) : ey E (ix3 0 i l) = E (ix2 i l) := by
  pointwise [ey]

/-- The head matrix as read is the head matrix. -/
theorem gm_at (G : Vec Ideal S256x256 .bf16) (i l : Fin 256) : gm G (ix2 i l) = G (ix2 i l) := by
  pointwise [gm]

/-- The state·a part of a group of the product, at an entry. -/
theorem saP_grp (q : Fin 8) (m : FVec Ideal S6144x256 .f32) (b : Fin 4) (i : Fin 64) (l : Fin 256) :
    saP (grp q m) (ix3 b i l) = m (ix2 (grow q (prow 0 b i)) l) := by
  pointwise [saP, grp]
  exact congrArg (fun x => m (ix2 x l)) (Fin.ext (by simp only [grow, prow]; omega))

/-- The value part of a group of the product, at an entry. -/
theorem vxP_grp (q : Fin 8) (m : FVec Ideal S6144x256 .f32) (b : Fin 4) (i : Fin 64) (l : Fin 256) :
    vxP (grp q m) (ix3 b i l) = m (ix2 (grow q (prow 1 b i)) l) := by
  pointwise [vxP, grp]
  exact congrArg (fun x => m (ix2 x l)) (Fin.ext (by simp only [grow, prow]; omega))

/-- The state·r part of a group of the product, at an entry. -/
theorem yyP_grp (q : Fin 8) (m : FVec Ideal S6144x256 .f32) (b : Fin 4) (i : Fin 64) (l : Fin 256) :
    yyP (grp q m) (ix3 b i l) = m (ix2 (grow q (prow 2 b i)) l) := by
  pointwise [yyP, grp]
  exact congrArg (fun x => m (ix2 x l)) (Fin.ext (by simp only [grow, prow]; omega))

/-- Part 0 of the stacked factor, at an entry. -/
theorem lhsG_at0 (q : Fin 8) (E : Vec Ideal S64x256 .f32) (A V R : Vec Ideal S4x1x2048 .f32)
    (Sb : Vec Ideal S1x4x64x256 .bf16) (b : Fin 4) (i : Fin 64) (k : Fin 256) :
    lhsG q E A V R Sb (ix2 (prow 0 b i) k) = Sb (ix4 0 b i k) * A (ix3 b 0 (wide q k)) := by
  pointwise [lhsG, prow]
  split_ifs <;> first
    | (exfalso; omega)
    | (rw [spread_at, low_at]; try rw [ey_at])

/-- Part 1 of the stacked factor, at an entry. -/
theorem lhsG_at1 (q : Fin 8) (E : Vec Ideal S64x256 .f32) (A V R : Vec Ideal S4x1x2048 .f32)
    (Sb : Vec Ideal S1x4x64x256 .bf16) (b : Fin 4) (i : Fin 64) (k : Fin 256) :
    lhsG q E A V R Sb (ix2 (prow 1 b i) k) = E (ix2 i k) * V (ix3 b 0 (wide q k)) := by
  pointwise [lhsG, prow]
  split_ifs <;> first
    | (exfalso; omega)
    | (rw [spread_at, low_at]; try rw [ey_at])

/-- Part 2 of the stacked factor, at an entry. -/
theorem lhsG_at2 (q : Fin 8) (E : Vec Ideal S64x256 .f32) (A V R : Vec Ideal S4x1x2048 .f32)
    (Sb : Vec Ideal S1x4x64x256 .bf16) (b : Fin 4) (i : Fin 64) (k : Fin 256) :
    lhsG q E A V R Sb (ix2 (prow 2 b i) k) = Sb (ix4 0 b i k) * R (ix3 b 0 (wide q k)) := by
  pointwise [lhsG, prow]
  split_ifs <;> first
    | (exfalso; omega)
    | (rw [spread_at, low_at]; try rw [ey_at])

/-- The diagonal of a plane against the spread identity is the lane's own channel. -/
theorem diag_at (E : Vec Ideal S64x256 .f32) (hE : Spread E) (p : FVec Ideal S4x64x256 .f32) (b : Fin 4) (l : Fin 256) :
    diag E p (ix3 b 0 l) = p (ix3 b (chan l) l) := by
  pointwise [diag]
  simp only [ey_at]
  rw [← sum_chan (fun i => p (ix3 b i l)) l, ← Finset.sum_product', Finset.univ_product_univ]
  refine Finset.sum_nbij' (fun x : Fin 8 × Fin 8 => (⟨x.2.val * 8 + x.1.val, by omega⟩ : Fin 64))
    (fun i => ((⟨i.val % 8, by omega⟩ : Fin 8), (⟨i.val / 8, by omega⟩ : Fin 8))) ?_ ?_ ?_ ?_ ?_
  · intro x _; exact Finset.mem_univ _
  · intro x _; exact Finset.mem_univ _
  · intro x _
    refine Prod.ext (Fin.ext ?_) (Fin.ext ?_) <;> (dsimp only; omega)
  · intro i _
    exact Fin.ext (by dsimp only; omega)
  · intro x _
    rw [hE]

/-- Eight stacks of 768 rows: row `n` of stack `q`. -/
theorem stack768 (f : Fin 8 → Fin 768 → EReal) (q : Fin 8) (n : Fin 768) :
    (if h : 768 * q.val + n.val < 768 then f 0 ⟨768 * q.val + n.val, h⟩ else
        if h : 768 * q.val + n.val - 768 < 768 then f 1 ⟨768 * q.val + n.val - 768, h⟩ else
        if h : 768 * q.val + n.val - 768 - 768 < 768 then f 2 ⟨768 * q.val + n.val - 768 - 768, h⟩ else
        if h : 768 * q.val + n.val - 768 - 768 - 768 < 768 then f 3 ⟨768 * q.val + n.val - 768 - 768 - 768, h⟩ else
        if h : 768 * q.val + n.val - 768 - 768 - 768 - 768 < 768 then f 4 ⟨768 * q.val + n.val - 768 - 768 - 768 - 768, h⟩ else
        if h : 768 * q.val + n.val - 768 - 768 - 768 - 768 - 768 < 768 then f 5 ⟨768 * q.val + n.val - 768 - 768 - 768 - 768 - 768, h⟩ else
        if h : 768 * q.val + n.val - 768 - 768 - 768 - 768 - 768 - 768 < 768 then f 6 ⟨768 * q.val + n.val - 768 - 768 - 768 - 768 - 768 - 768, h⟩ else
        f 7 ⟨768 * q.val + n.val - 768 - 768 - 768 - 768 - 768 - 768 - 768, by omega⟩) = f q n := by
  split_ifs <;> exact congr (congrArg f (Fin.ext (by omega))) (Fin.ext (by dsimp only; omega))

/-- Eight stacks of 256 rows: row `n` of stack `q`. -/
theorem stack256 (f : Fin 8 → Fin 256 → EReal) (q : Fin 8) (n : Fin 256) :
    (if h : 256 * q.val + n.val < 256 then f 0 ⟨256 * q.val + n.val, h⟩ else
        if h : 256 * q.val + n.val - 256 < 256 then f 1 ⟨256 * q.val + n.val - 256, h⟩ else
        if h : 256 * q.val + n.val - 256 - 256 < 256 then f 2 ⟨256 * q.val + n.val - 256 - 256, h⟩ else
        if h : 256 * q.val + n.val - 256 - 256 - 256 < 256 then f 3 ⟨256 * q.val + n.val - 256 - 256 - 256, h⟩ else
        if h : 256 * q.val + n.val - 256 - 256 - 256 - 256 < 256 then f 4 ⟨256 * q.val + n.val - 256 - 256 - 256 - 256, h⟩ else
        if h : 256 * q.val + n.val - 256 - 256 - 256 - 256 - 256 < 256 then f 5 ⟨256 * q.val + n.val - 256 - 256 - 256 - 256 - 256, h⟩ else
        if h : 256 * q.val + n.val - 256 - 256 - 256 - 256 - 256 - 256 < 256 then f 6 ⟨256 * q.val + n.val - 256 - 256 - 256 - 256 - 256 - 256, h⟩ else
        f 7 ⟨256 * q.val + n.val - 256 - 256 - 256 - 256 - 256 - 256 - 256, by omega⟩) = f q n := by
  split_ifs <;> exact congr (congrArg f (Fin.ext (by omega))) (Fin.ext (by dsimp only; omega))

/-- A row of the step's product: its group's stacked row, summed over each head. -/
theorem red_at (G : Vec Ideal S256x256 .bf16) (hG : HeadSum G) (E : Vec Ideal S64x256 .f32)
    (A V R : Vec Ideal S4x1x2048 .f32) (Sb : Vec Ideal S8x4x64x256 .bf16) (q : Fin 8) (n : Fin 768) (l : Fin 256) :
    red G E A V R Sb (ix2 (grow q n) l) = ∑ j : Fin 64, lhsG q E A V R (slab q Sb) (ix2 n (mate l j)) := by
  rw [← sum_head (fun k => lhsG q E A V R (slab q Sb) (ix2 n k)) l]
  pointwise [red, grow]
  refine Finset.sum_congr rfl fun x _ => ?_
  rw [gm_at, hG]
  exact congrArg (· * _) (stack768 (fun q n => lhsG q E A V R (slab q Sb) (ix2 n x)) q n)

/-- A group's slab, at an entry. -/
theorem slab_at {e : EltTy} (q : Fin 8) (S : Vec Ideal S8x4x64x256 e) (b : Fin 4) (i : Fin 64) (l : Fin 256) :
    slab q S (ix4 0 b i l) = S (ix4 q b i l) := by
  unfold slab
  refine congrArg S (funext fun a => Fin.ext ?_)
  match a with
  | ⟨0, _⟩ => show q.val + 1 * 0 = q.val; omega
  | ⟨1, _⟩ => show 0 + 1 * b.val = b.val; omega
  | ⟨2, _⟩ => show 0 + 1 * i.val = i.val; omega
  | ⟨3, _⟩ => show 0 + 1 * l.val = l.val; omega

/-- The rounded state, at an entry. -/
theorem lowS_at (S : Vec Ideal S8x4x64x256 .f32) (j : S8x4x64x256.Idx) : lowS S j = S j := by
  rw [lowS_apply]; rfl

/-- A step's row of a stream, at an entry. -/
theorem rowN_at {e : EltTy} (n : ℕ) (hn : n < 64) (X : Vec Ideal S4x64x2048 e) (b : Fin 4) (l : Fin 2048) :
    rowN n X (ix3 b 0 l) = X (ix3 b ⟨n, hn⟩ l) := by
  unfold rowN row
  refine congrArg X (funext fun a => Fin.ext ?_)
  match a with
  | ⟨0, _⟩ => show 0 + 1 * b.val = b.val; omega
  | ⟨1, _⟩ => show n % 64 + 1 * 0 = n; omega
  | ⟨2, _⟩ => show 0 + 1 * l.val = l.val; omega

/-- State·a in trip `n`'s product. -/
theorem sa_at (c : Chunk Ideal) (hG : HeadSum c.g) (n : ℕ) (hn : n < 64) (S : Vec Ideal S8x4x64x256 .f32) (q : Fin 8)
    (b : Fin 4) (i : Fin 64) (l : Fin 256) :
    saP (grp q (redN c n S)) (ix3 b i l)
      = ∑ j : Fin 64, S (ix4 q b i (mate l j)) * c.a (ix3 b ⟨n, hn⟩ (wide q (mate l j))) := by
  rw [saP_grp]; unfold redN; rw [red_at _ hG]
  refine Finset.sum_congr rfl fun j _ => ?_
  rw [lhsG_at0, slab_at, lowS_at, rowN_at n hn]

/-- The value row in trip `n`'s product: the lane's head's value at the channel. -/
theorem vx_at (c : Chunk Ideal) (hG : HeadSum c.g) (hE : Spread c.e) (n : ℕ) (hn : n < 64)
    (S : Vec Ideal S8x4x64x256 .f32) (q : Fin 8) (b : Fin 4) (i : Fin 64) (l : Fin 256) :
    vxP (grp q (redN c n S)) (ix3 b i l) = c.v (ix3 b ⟨n, hn⟩ (wide q (mate l i))) := by
  rw [vxP_grp]; unfold redN; rw [red_at _ hG]
  rw [Finset.sum_eq_single i]
  · rw [lhsG_at1, hE, rowN_at n hn, if_pos (by simp only [mate]; omega), one_mul]
  · intro j _ hj
    rw [lhsG_at1, hE, if_neg (fun h => hj (Fin.ext (by simp only [mate] at h; omega))), zero_mul]
  · intro h; exact absurd (Finset.mem_univ _) h

/-- State·r in trip `n`'s product: the previous row's `r`. -/
theorem yy_at (c : Chunk Ideal) (hG : HeadSum c.g) (n : ℕ) (hn : n + 1 < 64) (S : Vec Ideal S8x4x64x256 .f32) (q : Fin 8)
    (b : Fin 4) (i : Fin 64) (l : Fin 256) :
    yyP (grp q (redN c (n + 1) S)) (ix3 b i l)
      = ∑ j : Fin 64, S (ix4 q b i (mate l j)) * c.r (ix3 b ⟨n, by omega⟩ (wide q (mate l j))) := by
  rw [yyP_grp]; unfold redN; rw [red_at _ hG]
  refine Finset.sum_congr rfl fun j _ => ?_
  rw [lhsG_at2, slab_at, lowS_at, Nat.add_sub_cancel, rowN_at n (by omega)]

/-- The update of an entry in a group's slab. -/
theorem newG_at (q : Fin 8) (W K B : Vec Ideal S4x1x2048 .f32) (m : FVec Ideal S6144x256 .f32)
    (s : Vec Ideal S1x4x64x256 .f32) (b : Fin 4) (i : Fin 64) (l : Fin 256) :
    newG q W K B m s (ix4 0 b i l)
      = s (ix4 0 b i l) * W (ix3 b 0 (wide q l)) + saP (grp q m) (ix3 b i l) * B (ix3 b 0 (wide q l))
        + vxP (grp q m) (ix3 b i l) * K (ix3 b 0 (wide q l)) := by
  pointwise [newG, newM]
  simp only [spread_at, high_at]

/-- One step of the state, at an entry. -/
theorem stepS_at (c : Chunk Ideal) (hG : HeadSum c.g) (hE : Spread c.e) (n : ℕ) (hn : n < 64)
    (S : Vec Ideal S8x4x64x256 .f32) (q : Fin 8) (b : Fin 4) (i : Fin 64) (l : Fin 256) :
    stepS c n S (ix4 q b i l)
      = S (ix4 q b i l) * c.w (ix3 b ⟨n, hn⟩ (wide q l))
        + (∑ j : Fin 64, S (ix4 q b i (mate l j)) * c.a (ix3 b ⟨n, hn⟩ (wide q (mate l j))))
          * c.b (ix3 b ⟨n, hn⟩ (wide q l))
        + c.v (ix3 b ⟨n, hn⟩ (wide q (mate l i))) * c.k (ix3 b ⟨n, hn⟩ (wide q l)) := by
  show newG q (rowN n c.w) (rowN n c.k) (rowN n c.b) (redN c n S) (slab q S) (ix4 0 b i l) = _
  rw [newG_at, slab_at, sa_at c hG n hn, vx_at c hG hE n hn, rowN_at n hn, rowN_at n hn, rowN_at n hn]

/-- Group `q`'s rows of the last product's factor. -/
def lastL (q : Fin 8) (R : Vec Ideal S4x1x2048 .f32) (Sb : Vec Ideal S8x4x64x256 .bf16) : FVec Ideal S256x256 .bf16 :=
  shapeCast S256x256 (mulf (shapeCast S4x64x256 (slab q Sb) shapeCasts_S1x4x64x256_S4x64x256) (spread q (low R)))
    shapeCasts_S4x64x256_S256x256

/-- The row of batch `b`, value channel `i` in a group's 256. -/
def lrow (b : Fin 4) (i : Fin 64) : Fin 256 := ⟨b.val * 64 + i.val, by omega⟩

/-- Row `n` of group `q` among the 2048. -/
def lgrow (q : Fin 8) (n : Fin 256) : Fin 2048 := ⟨256 * q.val + n.val, by omega⟩

/-- The last product's factor, at an entry. -/
theorem lastL_at (q : Fin 8) (R : Vec Ideal S4x1x2048 .f32) (Sb : Vec Ideal S8x4x64x256 .bf16) (b : Fin 4) (i : Fin 64)
    (l : Fin 256) : lastL q R Sb (ix2 (lrow b i) l) = Sb (ix4 q b i l) * R (ix3 b 0 (wide q l)) := by
  pointwise [lastL, lrow]
  rw [spread_at, low_at, slab_at]

/-- The last product with its factor's groups named. -/
theorem redLast_eq (G : Vec Ideal S256x256 .bf16) (R : Vec Ideal S4x1x2048 .f32) (Sb : Vec Ideal S8x4x64x256 .bf16) :
    redLast G R Sb = matmul dot_S2048x256_S256x256_S2048x256_1_0_0_1_n_n none
      (concatenate S2048x256 0
        [⟨S256x256, lastL 0 R Sb⟩, ⟨S256x256, lastL 1 R Sb⟩, ⟨S256x256, lastL 2 R Sb⟩, ⟨S256x256, lastL 3 R Sb⟩,
         ⟨S256x256, lastL 4 R Sb⟩, ⟨S256x256, lastL 5 R Sb⟩, ⟨S256x256, lastL 6 R Sb⟩, ⟨S256x256, lastL 7 R Sb⟩]
        concatenates_S256x256_S256x256_S256x256_S256x256_S256x256_S256x256_S256x256_S256x256_S2048x256_d0)
      (gm G) (constant S2048x256 .f32 0x00000000#32) := rfl

/-- A row of the last product, summed over each head. -/
theorem redLast_at (G : Vec Ideal S256x256 .bf16) (hG : HeadSum G) (R : Vec Ideal S4x1x2048 .f32)
    (Sb : Vec Ideal S8x4x64x256 .bf16) (q : Fin 8) (n : Fin 256) (l : Fin 256) :
    redLast G R Sb (ix2 (lgrow q n) l) = ∑ j : Fin 64, lastL q R Sb (ix2 n (mate l j)) := by
  rw [← sum_head (fun k => lastL q R Sb (ix2 n k)) l, redLast_eq]
  pointwise [lgrow]
  refine Finset.sum_congr rfl fun x _ => ?_
  rw [gm_at, hG]
  exact congrArg (· * _) (stack256 (fun q n => lastL q R Sb (ix2 n x)) q n)

/-- The last row's output, at a lane. -/
theorem yLast_at (q : Fin 8) (E : Vec Ideal S64x256 .f32) (hE : Spread E) (m : FVec Ideal S2048x256 .f32) (b : Fin 4)
    (l : Fin 256) :
    yLast q E m (ix3 b 0 l) = m (ix2 (lgrow q (lrow b (chan l))) l) := by
  unfold yLast
  rw [diag_at E hE]
  pointwise [lgrow, lrow]

/-- A chunk's output row, at a lane: the state after the row's step against the row's `r`, summed over the head's lanes, at
    the lane's own channel. -/
theorem yChunk_at (c : Chunk Ideal) (hG : HeadSum c.g) (hE : Spread c.e) (S : Vec Ideal S8x4x64x256 .f32) (b : Fin 4)
    (n : Fin 64) (q : Fin 8) (l : Fin 256) :
    yChunk c S (ix3 b n (wide q l))
      = ∑ j : Fin 64, stN c S (n.val + 1) (ix4 q b (chan l) (mate l j)) * c.r (ix3 b n (wide q (mate l j))) := by
  have hq : laneQ (wide q l) = q := Fin.ext (by simp only [laneQ, wide]; omega)
  have hl : laneR (wide q l) = l := Fin.ext (by simp only [laneR, wide]; omega)
  by_cases h : n.val < 63
  · refine (yChunk_of_succ c S (ix3 b n (wide q l)) (n.val + 1) rfl (by omega)).trans ?_
    show yG (laneQ (wide q l)) c.e (redN c (n.val + 1) (stN c S (n.val + 1))) (ix3 b 0 (laneR (wide q l))) = _
    rw [hq, hl]
    unfold yG
    rw [diag_at c.e hE, yy_at c hG n.val (by omega)]
  · refine (yChunk_of_last c S (ix3 b n (wide q l)) h).trans ?_
    show yLast (laneQ (wide q l)) c.e (redLast c.g (rowN 63 c.r) (lowS (stN c S 64))) (ix3 b 0 (laneR (wide q l))) = _
    obtain rfl : n = ⟨63, by decide⟩ := Fin.ext (by have := n.isLt; dsimp only; omega)
    rw [hq, hl, yLast_at q c.e hE, redLast_at _ hG]
    refine Finset.sum_congr rfl fun j _ => ?_
    rw [lastL_at, lowS_at, rowN_at 63 (by decide)]

end Cert.KernelIdeal.Wkv

end

end
-- ==== Proof.Host.lean ====
/- What the host prepares before the region, on extended reals: the six streams with heads and channels joined, a zero state,
   the 0/1 matrix between lanes of one head and the identity repeated over a group's heads; and each window's block of these,
   entry by entry. -/
module

public import proofs.«01_k».proof.Proof.StepIdeal
public import proofs.«01_k».proof.Proof.Gen.KernelIdeal.Frame
public import Idealize.ShloMosaic.Lib.Pipeline.ValueKit.Point
public import Idealize.ShloMosaic.Lib.Claim

@[expose] public section

set_option maxRecDepth 16384

noncomputable section

namespace Cert.KernelIdeal.Wkv

open Idealize.ShloMosaic Idealize.ShloMosaic.TcCoe Idealize.ShloMosaic.Tactic Cert.KernelIdeal Cert.KernelIdeal.Gen
open Idealize.SL.Sem

/-- jnp's remainder by 64 on words: the remainder with the divisor's sign. -/
def remWord (x : BitVec 32) : BitVec 32 :=
  Scalar.select
    (IntOp.andi
      (IntOp.cmpi .ne
        (IntOp.cmpi .slt (IntOp.remsi .host x (Scalar.select (IntOp.cmpi .eq 64#32 0#32) 1#32 64#32)) 0#32)
        (IntOp.cmpi .slt (Scalar.select (IntOp.cmpi .eq 64#32 0#32) 1#32 64#32) 0#32))
      (IntOp.cmpi .ne (IntOp.remsi .host x (Scalar.select (IntOp.cmpi .eq 64#32 0#32) 1#32 64#32)) 0#32))
    (IntOp.addi (IntOp.remsi .host x (Scalar.select (IntOp.cmpi .eq 64#32 0#32) 1#32 64#32))
      (Scalar.select (IntOp.cmpi .eq 64#32 0#32) 1#32 64#32))
    (IntOp.remsi .host x (Scalar.select (IntOp.cmpi .eq 64#32 0#32) 1#32 64#32))

/-- jnp's floor division by 64 on words. -/
def divWord (x : BitVec 32) : BitVec 32 :=
  Scalar.select
    (IntOp.andi
      (IntOp.cmpi .ne (if x = 0 then 0 else if x.msb = true then -1 else 1)
        (if 64#32 = 0 then (0 : BitVec 32) else if (64#32).msb = true then -1 else 1))
      (IntOp.cmpi .ne (IntOp.remsi .host x 64#32) 0#32))
    (IntOp.subi (IntOp.divsi .host x 64#32) 1#32)
    (IntOp.divsi .host x 64#32)

/-- On lane numbers it is the remainder. -/
theorem remWord_lane (l : Fin 256) : remWord (BitVec.ofNat 32 l.val) = BitVec.ofNat 32 (l.val % 64) := by
  revert l; decide +kernel

/-- On lane numbers it is the quotient. -/
theorem divWord_lane (l : Fin 256) : divWord (BitVec.ofNat 32 l.val) = BitVec.ofNat 32 (l.val / 64) := by
  revert l; decide +kernel

/-- The truth value of an equation between small numbers, as an extended real. -/
theorem uitofp_eq (φ : FTy) (x y : ℕ) (hx : x < 256) (hy : y < 256) :
    (FloatOps.uitofp (F := Ideal) φ (IntOp.cmpi .eq (BitVec.ofNat 32 x) (BitVec.ofNat 32 y)) : EReal) = if x = y then (1 : EReal) else 0 := by
  show (((IntOp.cmpi .eq (BitVec.ofNat 32 x) (BitVec.ofNat 32 y)).toNat : ℝ) : EReal) = _
  unfold IntOp.cmpi
  by_cases h : x = y
  · subst h
    simp
  · have hne : ¬ (BitVec.ofNat 32 x = BitVec.ofNat 32 y) := by
      intro e
      have := congrArg BitVec.toNat e
      simp only [BitVec.toNat_ofNat] at this
      omega
    simp [h, hne]

variable (m : (ℓ : Loc nD τ sig) → Buf (Elt Ideal) ℓ)

/-- The initial state is zero. -/
theorem V_main_v0 (c : Dev nD) (j : S8x4x64x256.Idx) : (V m c main_v0 : Vec Ideal S8x4x64x256 .f32) j = (0 : EReal) := by
  simp only [V, V0, hostOps0, hostOps0_1, hostOps0_2, hostOps0_3, hostOps0_4, hostOps0_5, hostOps0_6, List.flatten_cons,
    List.flatten_nil, List.append_nil, List.cons_append, List.nil_append]
  after_results_simp
  pointwise

/-- The receptance stream with heads and channels joined. -/
theorem V_main_v1 (c : Dev nD) (b : Fin 4) (t : Fin 2048) (l : Fin 2048) :
    (V m c main_v1 : Vec Ideal S4x2048x2048 .f32) (ix3 b t l)
      = (m ((c : Thread nD τ).loc main_arg0) : Vec Ideal S4x2048x32x64 .f32)
          (ix4 b t ⟨l.val / 64, by omega⟩ ⟨l.val % 64, by omega⟩) := by
  simp only [V, V0, hostOps0, hostOps0_1, hostOps0_2, hostOps0_3, hostOps0_4, hostOps0_5, hostOps0_6, List.flatten_cons,
    List.flatten_nil, List.append_nil, List.cons_append, List.nil_append]
  after_results_simp
  pointwise

/-- The decay stream with heads and channels joined. -/
theorem V_main_v2 (c : Dev nD) (b : Fin 4) (t : Fin 2048) (l : Fin 2048) :
    (V m c main_v2 : Vec Ideal S4x2048x2048 .f32) (ix3 b t l)
      = (m ((c : Thread nD τ).loc main_arg1) : Vec Ideal S4x2048x32x64 .f32)
          (ix4 b t ⟨l.val / 64, by omega⟩ ⟨l.val % 64, by omega⟩) := by
  simp only [V, V0, hostOps0, hostOps0_1, hostOps0_2, hostOps0_3, hostOps0_4, hostOps0_5, hostOps0_6, List.flatten_cons,
    List.flatten_nil, List.append_nil, List.cons_append, List.nil_append]
  after_results_simp
  pointwise

/-- The key stream with heads and channels joined. -/
theorem V_main_v3 (c : Dev nD) (b : Fin 4) (t : Fin 2048) (l : Fin 2048) :
    (V m c main_v3 : Vec Ideal S4x2048x2048 .f32) (ix3 b t l)
      = (m ((c : Thread nD τ).loc main_arg2) : Vec Ideal S4x2048x32x64 .f32)
          (ix4 b t ⟨l.val / 64, by omega⟩ ⟨l.val % 64, by omega⟩) := by
  simp only [V, V0, hostOps0, hostOps0_1, hostOps0_2, hostOps0_3, hostOps0_4, hostOps0_5, hostOps0_6, List.flatten_cons,
    List.flatten_nil, List.append_nil, List.cons_append, List.nil_append]
  after_results_simp
  pointwise

/-- The value stream with heads and channels joined. -/
theorem V_main_v4 (c : Dev nD) (b : Fin 4) (t : Fin 2048) (l : Fin 2048) :
    (V m c main_v4 : Vec Ideal S4x2048x2048 .f32) (ix3 b t l)
      = (m ((c : Thread nD τ).loc main_arg3) : Vec Ideal S4x2048x32x64 .f32)
          (ix4 b t ⟨l.val / 64, by omega⟩ ⟨l.val % 64, by omega⟩) := by
  simp only [V, V0, hostOps0, hostOps0_1, hostOps0_2, hostOps0_3, hostOps0_4, hostOps0_5, hostOps0_6, List.flatten_cons,
    List.flatten_nil, List.append_nil, List.cons_append, List.nil_append]
  after_results_simp
  pointwise

/-- The removal-direction stream with heads and channels joined. -/
theorem V_main_v5 (c : Dev nD) (b : Fin 4) (t : Fin 2048) (l : Fin 2048) :
    (V m c main_v5 : Vec Ideal S4x2048x2048 .f32) (ix3 b t l)
      = (m ((c : Thread nD τ).loc main_arg4) : Vec Ideal S4x2048x32x64 .f32)
          (ix4 b t ⟨l.val / 64, by omega⟩ ⟨l.val % 64, by omega⟩) := by
  simp only [V, V0, hostOps0, hostOps0_1, hostOps0_2, hostOps0_3, hostOps0_4, hostOps0_5, hostOps0_6, List.flatten_cons,
    List.flatten_nil, List.append_nil, List.cons_append, List.nil_append]
  after_results_simp
  pointwise

/-- The replacement stream with heads and channels joined. -/
theorem V_main_v6 (c : Dev nD) (b : Fin 4) (t : Fin 2048) (l : Fin 2048) :
    (V m c main_v6 : Vec Ideal S4x2048x2048 .f32) (ix3 b t l)
      = (m ((c : Thread nD τ).loc main_arg5) : Vec Ideal S4x2048x32x64 .f32)
          (ix4 b t ⟨l.val / 64, by omega⟩ ⟨l.val % 64, by omega⟩) := by
  simp only [V, V0, hostOps0, hostOps0_1, hostOps0_2, hostOps0_3, hostOps0_4, hostOps0_5, hostOps0_6, List.flatten_cons,
    List.flatten_nil, List.append_nil, List.cons_append, List.nil_append]
  after_results_simp
  pointwise

/-- The identity the host builds. -/
theorem V_main_v15 (c : Dev nD) : Spread (V m c main_v15) := by
  intro i l
  simp only [V, V0, hostOps0, hostOps0_1, hostOps0_2, hostOps0_3, hostOps0_4, hostOps0_5, hostOps0_6, List.flatten_cons,
    List.flatten_nil, List.append_nil, List.cons_append, List.nil_append]
  after_results_simp
  simp only [StableHlo.TRef.toBuf, StableHlo.TRef.ofBuf, cast_cast, cast_eq, id]
  pointwise
  refine Eq.trans (congrArg (fun x => (FloatOps.uitofp (F := Ideal) .f32 (IntOp.cmpi .eq (BitVec.ofNat 32 i.val) x) : EReal))
    (remWord_lane l)) ?_
  exact uitofp_eq .f32 _ _ (by omega) (by omega)

/-- The head-sum matrix the host builds. -/
theorem V_main_v24 (c : Dev nD) : HeadSum (V m c main_v24) := by
  intro i l
  simp only [V, V0, hostOps0, hostOps0_1, hostOps0_2, hostOps0_3, hostOps0_4, hostOps0_5, hostOps0_6, List.flatten_cons,
    List.flatten_nil, List.append_nil, List.cons_append, List.nil_append]
  after_results_simp
  simp only [StableHlo.TRef.toBuf, StableHlo.TRef.ofBuf, cast_cast, cast_eq, id]
  pointwise
  refine Eq.trans (congrArg₂ (fun x y => (FloatOps.uitofp (F := Ideal) .bf16 (IntOp.cmpi .eq x y) : EReal))
    (divWord_lane i) (divWord_lane l)) ?_
  exact uitofp_eq .bf16 _ _ (by omega) (by omega)

/-- The time step of row `n` of grid point `t`. -/
def time (t : Fin cfg0.N) (n : Fin 64) : Fin 2048 :=
  ⟨64 * t.val + n.val, by have h : t.val < 32 := Nat.lt_of_lt_of_eq t.isLt N_0; omega⟩

/-- Window 0 moves along the time axis. -/
theorem idx0 : ∀ t : Fin cfg0.N, win0_0.index t = ![0, t.val, 0] := by
  decide +kernel

/-- A block of the receptance stream, at an entry. -/
theorem iblk0_at (c : Dev nD) (t : Fin cfg0.N) (b : Fin 4) (n : Fin 64) (l : Fin 2048) :
    (iblk m c 0 t : Vec Ideal S4x64x2048 .f32) (ix3 b n l)
      = (m ((c : Thread nD τ).loc main_arg0) : Vec Ideal S4x2048x32x64 .f32)
          (ix4 b (time t n) ⟨l.val / 64, by omega⟩ ⟨l.val % 64, by omega⟩) := by
  refine Eq.trans ?_ (V_main_v1 m c b (time t n) l)
  show _ = (V m c (Pipeline.arrRef spec0 0) : Vec Ideal S4x2048x2048 .f32) (ix3 b (time t n) l)
  unfold iblk time
  generalize V m c (Pipeline.arrRef spec0 0) = Z
  blk_ext [idx0 t]

/-- Window 1 moves along the time axis. -/
theorem idx1 : ∀ t : Fin cfg0.N, win0_1.index t = ![0, t.val, 0] := by
  decide +kernel

/-- A block of the decay stream, at an entry. -/
theorem iblk1_at (c : Dev nD) (t : Fin cfg0.N) (b : Fin 4) (n : Fin 64) (l : Fin 2048) :
    (iblk m c 1 t : Vec Ideal S4x64x2048 .f32) (ix3 b n l)
      = (m ((c : Thread nD τ).loc main_arg1) : Vec Ideal S4x2048x32x64 .f32)
          (ix4 b (time t n) ⟨l.val / 64, by omega⟩ ⟨l.val % 64, by omega⟩) := by
  refine Eq.trans ?_ (V_main_v2 m c b (time t n) l)
  show _ = (V m c (Pipeline.arrRef spec0 1) : Vec Ideal S4x2048x2048 .f32) (ix3 b (time t n) l)
  unfold iblk time
  generalize V m c (Pipeline.arrRef spec0 1) = Z
  blk_ext [idx1 t]

/-- Window 2 moves along the time axis. -/
theorem idx2 : ∀ t : Fin cfg0.N, win0_2.index t = ![0, t.val, 0] := by
  decide +kernel

/-- A block of the key stream, at an entry. -/
theorem iblk2_at (c : Dev nD) (t : Fin cfg0.N) (b : Fin 4) (n : Fin 64) (l : Fin 2048) :
    (iblk m c 2 t : Vec Ideal S4x64x2048 .f32) (ix3 b n l)
      = (m ((c : Thread nD τ).loc main_arg2) : Vec Ideal S4x2048x32x64 .f32)
          (ix4 b (time t n) ⟨l.val / 64, by omega⟩ ⟨l.val % 64, by omega⟩) := by
  refine Eq.trans ?_ (V_main_v3 m c b (time t n) l)
  show _ = (V m c (Pipeline.arrRef spec0 2) : Vec Ideal S4x2048x2048 .f32) (ix3 b (time t n) l)
  unfold iblk time
  generalize V m c (Pipeline.arrRef spec0 2) = Z
  blk_ext [idx2 t]

/-- Window 3 moves along the time axis. -/
theorem idx3 : ∀ t : Fin cfg0.N, win0_3.index t = ![0, t.val, 0] := by
  decide +kernel

/-- A block of the value stream, at an entry. -/
theorem iblk3_at (c : Dev nD) (t : Fin cfg0.N) (b : Fin 4) (n : Fin 64) (l : Fin 2048) :
    (iblk m c 3 t : Vec Ideal S4x64x2048 .f32) (ix3 b n l)
      = (m ((c : Thread nD τ).loc main_arg3) : Vec Ideal S4x2048x32x64 .f32)
          (ix4 b (time t n) ⟨l.val / 64, by omega⟩ ⟨l.val % 64, by omega⟩) := by
  refine Eq.trans ?_ (V_main_v4 m c b (time t n) l)
  show _ = (V m c (Pipeline.arrRef spec0 3) : Vec Ideal S4x2048x2048 .f32) (ix3 b (time t n) l)
  unfold iblk time
  generalize V m c (Pipeline.arrRef spec0 3) = Z
  blk_ext [idx3 t]

/-- Window 4 moves along the time axis. -/
theorem idx4 : ∀ t : Fin cfg0.N, win0_4.index t = ![0, t.val, 0] := by
  decide +kernel

/-- A block of the removal-direction stream, at an entry. -/
theorem iblk4_at (c : Dev nD) (t : Fin cfg0.N) (b : Fin 4) (n : Fin 64) (l : Fin 2048) :
    (iblk m c 4 t : Vec Ideal S4x64x2048 .f32) (ix3 b n l)
      = (m ((c : Thread nD τ).loc main_arg4) : Vec Ideal S4x2048x32x64 .f32)
          (ix4 b (time t n) ⟨l.val / 64, by omega⟩ ⟨l.val % 64, by omega⟩) := by
  refine Eq.trans ?_ (V_main_v5 m c b (time t n) l)
  show _ = (V m c (Pipeline.arrRef spec0 4) : Vec Ideal S4x2048x2048 .f32) (ix3 b (time t n) l)
  unfold iblk time
  generalize V m c (Pipeline.arrRef spec0 4) = Z
  blk_ext [idx4 t]

/-- Window 5 moves along the time axis. -/
theorem idx5 : ∀ t : Fin cfg0.N, win0_5.index t = ![0, t.val, 0] := by
  decide +kernel

/-- A block of the replacement stream, at an entry. -/
theorem iblk5_at (c : Dev nD) (t : Fin cfg0.N) (b : Fin 4) (n : Fin 64) (l : Fin 2048) :
    (iblk m c 5 t : Vec Ideal S4x64x2048 .f32) (ix3 b n l)
      = (m ((c : Thread nD τ).loc main_arg5) : Vec Ideal S4x2048x32x64 .f32)
          (ix4 b (time t n) ⟨l.val / 64, by omega⟩ ⟨l.val % 64, by omega⟩) := by
  refine Eq.trans ?_ (V_main_v6 m c b (time t n) l)
  show _ = (V m c (Pipeline.arrRef spec0 5) : Vec Ideal S4x2048x2048 .f32) (ix3 b (time t n) l)
  unfold iblk time
  generalize V m c (Pipeline.arrRef spec0 5) = Z
  blk_ext [idx5 t]

/-- Window 6 is the whole array. -/
theorem idx6 : ∀ t : Fin cfg0.N, win0_6.index t = ![0, 0, 0, 0] := by
  decide +kernel

/-- So its block is the array. -/
theorem iblk6_eq (c : Dev nD) (t : Fin cfg0.N) :
    (iblk m c 6 t : Vec Ideal S8x4x64x256 .f32) = (V m c main_v0 : Vec Ideal S8x4x64x256 .f32) := by
  show _ = (V m c (Pipeline.arrRef spec0 6) : Vec Ideal S8x4x64x256 .f32)
  unfold iblk
  generalize V m c (Pipeline.arrRef spec0 6) = Z
  funext x
  blk_ext [idx6 t]

/-- Window 7 is the whole array. -/
theorem idx7 : ∀ t : Fin cfg0.N, win0_7.index t = ![0, 0] := by
  decide +kernel

/-- So its block is the array. -/
theorem iblk7_eq (c : Dev nD) (t : Fin cfg0.N) :
    (iblk m c 7 t : Vec Ideal S256x256 .bf16) = (V m c main_v24 : Vec Ideal S256x256 .bf16) := by
  show _ = (V m c (Pipeline.arrRef spec0 7) : Vec Ideal S256x256 .bf16)
  unfold iblk
  generalize V m c (Pipeline.arrRef spec0 7) = Z
  funext x
  blk_ext [idx7 t]

/-- Window 8 is the whole array. -/
theorem idx8 : ∀ t : Fin cfg0.N, win0_8.index t = ![0, 0] := by
  decide +kernel

/-- So its block is the array. -/
theorem iblk8_eq (c : Dev nD) (t : Fin cfg0.N) :
    (iblk m c 8 t : Vec Ideal S64x256 .f32) = (V m c main_v15 : Vec Ideal S64x256 .f32) := by
  show _ = (V m c (Pipeline.arrRef spec0 8) : Vec Ideal S64x256 .f32)
  unfold iblk
  generalize V m c (Pipeline.arrRef spec0 8) = Z
  funext x
  blk_ext [idx8 t]

/-- The initial state as the region reads it is zero. -/
theorem iblk6_at (c : Dev nD) (t : Fin cfg0.N) (j : S8x4x64x256.Idx) :
    (iblk m c 6 t : Vec Ideal S8x4x64x256 .f32) j = (0 : EReal) :=
  (congrFun (iblk6_eq m c t) j).trans (V_main_v0 m c j)

/-- The head-sum matrix as the region reads it. -/
theorem iblk7_sum (c : Dev nD) (t : Fin cfg0.N) : HeadSum (iblk m c 7 t) :=
  fun i l => (congrFun (iblk7_eq m c t) (ix2 i l)).trans (V_main_v24 m c i l)

/-- The identity as the region reads it. -/
theorem iblk8_spread (c : Dev nD) (t : Fin cfg0.N) : Spread (iblk m c 8 t) :=
  fun i l => (congrFun (iblk8_eq m c t) (ix2 i l)).trans (V_main_v15 m c i l)

end Cert.KernelIdeal.Wkv

end

end
-- ==== Proof.Scan.lean ====
/- The recurrence of the layer's memory heads on extended reals, written once over plain functions: the state decays by `w` per
   key channel, the direction `a` is removed along `b`, the value row is added along `k`; the output is the state against `r`. -/
module

public import Idealize.ShloMosaic.Lib.Pointwise

@[expose] public section

noncomputable section

namespace Cert.Wkv

open Idealize.ShloMosaic

/-- A stream by batch, time, head and channel. -/
abbrev Stream := Fin 4 → Fin 2048 → Fin 32 → Fin 64 → EReal

/-- A time step as an index. -/
def at' (n : ℕ) : Fin 2048 := ⟨n % 2048, Nat.mod_lt _ (by decide)⟩

/-- One step of the state. -/
def advance (w k v a b : Stream) (n : ℕ) (S : Fin 4 → Fin 32 → Fin 64 → Fin 64 → EReal) :
    Fin 4 → Fin 32 → Fin 64 → Fin 64 → EReal :=
  fun c h i j => S c h i j * w c (at' n) h j + (∑ l : Fin 64, S c h i l * a c (at' n) h l) * b c (at' n) h j
    + v c (at' n) h i * k c (at' n) h j

/-- The state before step `n`. -/
def state (w k v a b : Stream) : ℕ → Fin 4 → Fin 32 → Fin 64 → Fin 64 → EReal
  | 0 => fun _ _ _ _ => 0
  | n + 1 => advance w k v a b n (state w k v a b n)

/-- The output of step `n`. -/
def out (r w k v a b : Stream) (n : ℕ) (c : Fin 4) (h : Fin 32) (i : Fin 64) : EReal :=
  ∑ j : Fin 64, state w k v a b (n + 1) c h i j * r c (at' n) h j

/-- An array as a stream. -/
def stream (X : Vec Ideal (⟨4, ![4, 2048, 32, 64]⟩ : Shape) .f32) : Stream := fun c t h i => X (ix4 c t h i)

end Cert.Wkv

end

end
-- ==== Proof.KernelValue.lean ====
/- What the kernel's chunks compute is the recurrence, and what the two result arrays hold after the run. -/
module

public import proofs.«01_k».proof.Proof.Host
public import proofs.«01_k».proof.Proof.Region
public import proofs.«01_k».proof.Proof.Scan

@[expose] public section

set_option maxRecDepth 16384

noncomputable section

namespace Cert.KernelIdeal.Wkv

open Idealize.ShloMosaic Idealize.ShloMosaic.TcCoe Idealize.ShloMosaic.Tactic Cert.KernelIdeal Cert.KernelIdeal.Gen
open Idealize.SL.Sem Cert.Wkv
open Idealize.ShloMosaic.Pipeline (Dat Cfg Window cellOf)

variable (m : (ℓ : Loc nD τ sig) → Buf (Elt Ideal) ℓ) (ρ : Dev nD → PrngReg)

/-- Argument `0` as a stream: the receptance. -/
def sR (c : Dev nD) : Stream := stream (m ((c : Thread nD τ).loc main_arg0))
/-- Argument `1` as a stream: the decay. -/
def sW (c : Dev nD) : Stream := stream (m ((c : Thread nD τ).loc main_arg1))
/-- Argument `2` as a stream: the key. -/
def sK (c : Dev nD) : Stream := stream (m ((c : Thread nD τ).loc main_arg2))
/-- Argument `3` as a stream: the value. -/
def sV (c : Dev nD) : Stream := stream (m ((c : Thread nD τ).loc main_arg3))
/-- Argument `4` as a stream: the removal direction. -/
def sA (c : Dev nD) : Stream := stream (m ((c : Thread nD τ).loc main_arg4))
/-- Argument `5` as a stream: the replacement. -/
def sB (c : Dev nD) : Stream := stream (m ((c : Thread nD τ).loc main_arg5))

/-- The state before step `n`, of the launch's arguments. -/
def stM (c : Dev nD) (n : ℕ) : Fin 4 → Fin 32 → Fin 64 → Fin 64 → EReal :=
  Cert.Wkv.state (sW m c) (sK m c) (sV m c) (sA m c) (sB m c) n

/-- The output of step `n`, of the launch's arguments. -/
def outM (c : Dev nD) (n : ℕ) : Fin 4 → Fin 32 → Fin 64 → EReal :=
  Cert.Wkv.out (sR m c) (sW m c) (sK m c) (sV m c) (sA m c) (sB m c) n

/-- The head of lane `l` of group `q`. -/
def headOf (q : Fin 8) (l : Fin 256) : Fin 32 := ⟨4 * q.val + l.val / 64, by omega⟩

/-- A lane of the 2048 is its head and its channel. -/
theorem wide_div (q : Fin 8) (l : Fin 256) (h : (wide q l).val / 64 < 32) :
    (⟨(wide q l).val / 64, h⟩ : Fin 32) = headOf q l := Fin.ext (by simp only [wide, headOf]; omega)

theorem wide_mod (q : Fin 8) (l : Fin 256) (h : (wide q l).val % 64 < 64) :
    (⟨(wide q l).val % 64, h⟩ : Fin 64) = chan l := Fin.ext (by simp only [wide, chan]; omega)

theorem headOf_mate (q : Fin 8) (l : Fin 256) (j : Fin 64) : headOf q (mate l j) = headOf q l :=
  Fin.ext (by simp only [headOf, mate]; omega)

theorem chan_mate (l : Fin 256) (j : Fin 64) : chan (mate l j) = j := Fin.ext (by simp only [chan, mate]; omega)

theorem time_eq (t : Fin cfg0.N) (n : ℕ) (hn : n < 64) : time t ⟨n, hn⟩ = at' (64 * t.val + n) := by
  have h : t.val < 32 := Nat.lt_of_lt_of_eq t.isLt N_0
  exact Fin.ext (by simp only [time, at']; omega)

/-- A chunk's `r` row, as the stream's entry. -/
theorem chunk_r (c : Dev nD) (t : Fin cfg0.N) (b : Fin 4) (n : ℕ) (hn : n < 64) (q : Fin 8) (l : Fin 256) :
    (chunkAt m c t).r (ix3 b ⟨n, hn⟩ (wide q l)) = sR m c b (at' (64 * t.val + n)) (headOf q l) (chan l) := by
  refine (iblk0_at m c t b ⟨n, hn⟩ (wide q l)).trans ?_
  rw [wide_div, wide_mod, time_eq]
  rfl

/-- A chunk's `w` row, as the stream's entry. -/
theorem chunk_w (c : Dev nD) (t : Fin cfg0.N) (b : Fin 4) (n : ℕ) (hn : n < 64) (q : Fin 8) (l : Fin 256) :
    (chunkAt m c t).w (ix3 b ⟨n, hn⟩ (wide q l)) = sW m c b (at' (64 * t.val + n)) (headOf q l) (chan l) := by
  refine (iblk1_at m c t b ⟨n, hn⟩ (wide q l)).trans ?_
  rw [wide_div, wide_mod, time_eq]
  rfl

/-- A chunk's `k` row, as the stream's entry. -/
theorem chunk_k (c : Dev nD) (t : Fin cfg0.N) (b : Fin 4) (n : ℕ) (hn : n < 64) (q : Fin 8) (l : Fin 256) :
    (chunkAt m c t).k (ix3 b ⟨n, hn⟩ (wide q l)) = sK m c b (at' (64 * t.val + n)) (headOf q l) (chan l) := by
  refine (iblk2_at m c t b ⟨n, hn⟩ (wide q l)).trans ?_
  rw [wide_div, wide_mod, time_eq]
  rfl

/-- A chunk's `v` row, as the stream's entry. -/
theorem chunk_v (c : Dev nD) (t : Fin cfg0.N) (b : Fin 4) (n : ℕ) (hn : n < 64) (q : Fin 8) (l : Fin 256) :
    (chunkAt m c t).v (ix3 b ⟨n, hn⟩ (wide q l)) = sV m c b (at' (64 * t.val + n)) (headOf q l) (chan l) := by
  refine (iblk3_at m c t b ⟨n, hn⟩ (wide q l)).trans ?_
  rw [wide_div, wide_mod, time_eq]
  rfl

/-- A chunk's `a` row, as the stream's entry. -/
theorem chunk_a (c : Dev nD) (t : Fin cfg0.N) (b : Fin 4) (n : ℕ) (hn : n < 64) (q : Fin 8) (l : Fin 256) :
    (chunkAt m c t).a (ix3 b ⟨n, hn⟩ (wide q l)) = sA m c b (at' (64 * t.val + n)) (headOf q l) (chan l) := by
  refine (iblk4_at m c t b ⟨n, hn⟩ (wide q l)).trans ?_
  rw [wide_div, wide_mod, time_eq]
  rfl

/-- A chunk's `b` row, as the stream's entry. -/
theorem chunk_b (c : Dev nD) (t : Fin cfg0.N) (b : Fin 4) (n : ℕ) (hn : n < 64) (q : Fin 8) (l : Fin 256) :
    (chunkAt m c t).b (ix3 b ⟨n, hn⟩ (wide q l)) = sB m c b (at' (64 * t.val + n)) (headOf q l) (chan l) := by
  refine (iblk5_at m c t b ⟨n, hn⟩ (wide q l)).trans ?_
  rw [wide_div, wide_mod, time_eq]
  rfl

/-- A chunk's state after `n` of its steps is the recurrence's, when the state before the chunk is. -/
theorem stN_state (c : Dev nD) (t : Fin cfg0.N) (S : Vec Ideal S8x4x64x256 .f32)
    (hS : ∀ (q : Fin 8) (b : Fin 4) (i : Fin 64) (l : Fin 256),
      S (ix4 q b i l) = stM m c (64 * t.val) b (headOf q l) i (chan l)) :
    ∀ n ≤ 64, ∀ (q : Fin 8) (b : Fin 4) (i : Fin 64) (l : Fin 256),
      stN (chunkAt m c t) S n (ix4 q b i l) = stM m c (64 * t.val + n) b (headOf q l) i (chan l) := by
  intro n
  induction n with
  | zero => intro _ q b i l; exact hS q b i l
  | succ n ih =>
    intro hn q b i l
    have hn' : n < 64 := by omega
    have ih := ih (by omega)
    rw [stN_succ, stepS_at (chunkAt m c t) (iblk7_sum m c t) (iblk8_spread m c t) n hn']
    rw [ih, chunk_w, chunk_b, chunk_v, chunk_k, headOf_mate, chan_mate]
    have hs : ∀ j : Fin 64, stN (chunkAt m c t) S n (ix4 q b i (mate l j)) * (chunkAt m c t).a (ix3 b ⟨n, hn'⟩ (wide q (mate l j)))
        = stM m c (64 * t.val + n) b (headOf q l) i j * sA m c b (at' (64 * t.val + n)) (headOf q l) j := by
      intro j
      rw [ih, chunk_a, headOf_mate, chan_mate]
    rw [Finset.sum_congr rfl fun j _ => hs j]
    rfl

/-- The state carried to grid point `n` is the recurrence's. -/
theorem stAt_state (c : Dev nD) : ∀ n ≤ 32, ∀ (q : Fin 8) (b : Fin 4) (i : Fin 64) (l : Fin 256),
    stAt m c n (ix4 q b i l) = stM m c (64 * n) b (headOf q l) i (chan l) := by
  intro n
  induction n with
  | zero => intro _ q b i l; exact iblk6_at m c pt0 (ix4 q b i l)
  | succ n ih =>
    intro hn q b i l
    have h : n < cfg0.N := Nat.lt_of_lt_of_eq (by omega : n < 32) N_0.symm
    have e := stAt_succ m c ⟨n, h⟩
    dsimp only at e
    rw [e]
    exact stN_state m c ⟨n, h⟩ (stAt m c n) (ih (by omega)) 64 le_rfl q b i l

/-- A chunk's output rows are the recurrence's outputs. -/
theorem yChunk_out (c : Dev nD) (t : Fin cfg0.N) (b : Fin 4) (n : Fin 64) (l : Fin 2048) :
    yChunk (chunkAt m c t) (stAt m c t.val) (ix3 b n l)
      = outM m c (64 * t.val + n.val) b ⟨l.val / 64, by omega⟩ ⟨l.val % 64, by omega⟩ := by
  obtain ⟨q, l, rfl⟩ : ∃ (q : Fin 8) (l' : Fin 256), l = wide q l' :=
    ⟨⟨l.val / 256, by omega⟩, ⟨l.val % 256, by omega⟩, Fin.ext (by simp only [wide]; omega)⟩
  have ht : t.val < 32 := Nat.lt_of_lt_of_eq t.isLt N_0
  rw [yChunk_at (chunkAt m c t) (iblk7_sum m c t) (iblk8_spread m c t), wide_div, wide_mod]
  show _ = ∑ j : Fin 64, stM m c (64 * t.val + n.val + 1) b (headOf q l) (chan l) j
    * sR m c b (at' (64 * t.val + n.val)) (headOf q l) j
  refine Finset.sum_congr rfl fun j _ => ?_
  rw [stN_state m c t (stAt m c t.val) (stAt_state m c t.val (by omega)) (n.val + 1) (by omega), headOf_mate, chan_mate]
  rw [show n = ⟨n.val, n.isLt⟩ from rfl, chunk_r, headOf_mate, chan_mate]
  rfl

/-- The output array: time step by time step the recurrence's outputs. -/
def outArr (c : Dev nD) : Vec Ideal S4x2048x2048 .f32 := fun j =>
  outM m c (j 1).val (j 0) ⟨(j 2).val / 64, by have := (j 2).isLt; change (j 2).val < 2048 at this; omega⟩
    ⟨(j 2).val % 64, by omega⟩

/-- Window 9 moves along the time axis. -/
theorem idx9 : ∀ t : Fin cfg0.N, win0_9.index t = ![0, t.val, 0] := by
  decide +kernel

/-- The first result array after the run. -/
theorem final9 (c : Dev nD) : (dats m 0 c).arrAt 9 (cfgs 0).N = outArr m c := by
  refine (dats m 0 c).arrAt_eq_of_covers 9 _ (by decide +kernel) fun t hf y => ?_
  blk_simp
  rw [after0_9]
  have ht : t.val < 32 := Nat.lt_of_lt_of_eq t.isLt N_0
  obtain ⟨b, n, l, rfl⟩ : ∃ (b : Fin 4) (n : Fin 64) (l : Fin 2048), y = ix3 b n l := ⟨y 0, y 1, y 2, eq_ix3 y⟩
  rw [yChunk_out]
  have e : (win0_9.blk t).view.emb (ix3 b n l) = ix3 b (time t n) l := by
    unfold time
    blk_ext [idx9 t]
  rw [e]
  rfl

/-- The last grid point. -/
abbrev ptL : Fin cfg0.N := ⟨31, Nat.lt_of_lt_of_eq (by decide : 31 < 32) N_0.symm⟩

/-- The second result array after the run: the state after the last chunk. -/
theorem final10 (c : Dev nD) : (dats m 0 c).arrAt 10 (cfgs 0).N = stAt m c 32 := by
  refine (dats m 0 c).arrAt_eq_of_after_last 10 ptL (by decide +kernel) _ fun j => ?_
  blk_simp
  exact congrFun (after0_10 m c ptL) _

end Cert.KernelIdeal.Wkv

end

end
-- ==== Proof.Result.lean ====
/- The kernel's two results: the outputs of the recurrence, and its state after the last time step, put back by head from the
   grouped layout the kernel keeps it in. -/
module

public import proofs.«01_k».proof.Proof.KernelValue

@[expose] public section

set_option maxRecDepth 16384

noncomputable section

namespace Cert.KernelIdeal.Wkv

open Idealize.ShloMosaic Idealize.ShloMosaic.TcCoe Idealize.ShloMosaic.Pipeline Idealize.SL.Sem Idealize.SL
open Cert.KernelIdeal Cert.KernelIdeal.Gen Cert.Wkv

/-- The grouped state, ungrouped: head `4q + g` is group `q`'s lanes `64g … 64g + 63`. -/
def ungroup (Z : Vec Ideal S8x4x64x256 .f32) : Vec Ideal S4x32x64x64 .f32 :=
  shapeCast S4x32x64x64 (transpose S4x8x4x64x64 [1, 0, 3, 2, 4] (shapeCast S8x4x64x4x64 Z shapeCasts_S8x4x64x256_S8x4x64x4x64)
    transposes_S8x4x64x4x64_S4x8x4x64x64_1_0_3_2_4) shapeCasts_S4x8x4x64x64_S4x32x64x64

/-- The ungrouped state at an entry. -/
theorem ungroup_at (Z : Vec Ideal S8x4x64x256 .f32) (b : Fin 4) (h : Fin 32) (i j : Fin 64) :
    ungroup Z (ix4 b h i j)
      = Z (ix4 (⟨h.val / 4, by omega⟩ : Fin 8) b i (⟨64 * (h.val % 4) + j.val, by omega⟩ : Fin 256)) := by
  pointwise [ungroup]
  exact congrArg (fun z => Z (ix4 _ b i z)) (Fin.ext (by dsimp only; omega))

variable (m : (ℓ : Loc nD τ sig) → Buf (Elt Ideal) ℓ) (ρ : Dev nD → PrngReg)

/-- The state after the last time step, by head. -/
def stArr (c : Dev nD) : Vec Ideal S4x32x64x64 .f32 := fun j => stM m c 2048 (j 0) (j 1) (j 2) (j 3)

/-- The kernel's last state, ungrouped, is the recurrence's. -/
theorem ungroup_last (c : Dev nD) : ungroup (stAt m c 32) = stArr m c := by
  funext j
  obtain ⟨b, h, i, l, rfl⟩ : ∃ (b : Fin 4) (h : Fin 32) (i l : Fin 64), j = ix4 b h i l := ⟨j 0, j 1, j 2, j 3, eq_ix4 j⟩
  rw [ungroup_at, stAt_state m c 32 le_rfl]
  show _ = stM m c 2048 b h i l
  refine congr (congrArg (fun z => stM m c 2048 b z i) (Fin.ext ?_)) (Fin.ext ?_)
  · show 4 * (h.val / 4) + (64 * (h.val % 4) + l.val) / 64 = h.val
    omega
  · show (64 * (h.val % 4) + l.val) % 64 = l.val
    omega

set_option backward.isDefEq.respectTransparency.types false in
/-- The host lines after the call leave the ungrouped state. -/
theorem tail_main_v28 (c : Dev nD) :
    Pipeline.afterTail₀ cfgs (dats m) 0 (V0 m) [hostOps1] c main_v28 = ungroup (stAt m c 32) := by
  rw [← final10 m c]
  unfold Pipeline.afterTail₀
  have e := Pipeline.withArrays_arr (cfgs 0).spec (by decide) c (V0 m c) (fun w => (dats m 0 c).arrAt w (cfgs 0).N) 10
  revert e
  generalize Pipeline.withArrays (cfgs 0).spec c (V0 m c) (fun w => (dats m 0 c).arrAt w (cfgs 0).N) = W
  intro e
  simp only [hostOps1, List.flatten_cons, List.flatten_nil, List.append_nil]
  after_results_simp
  rw [← e]
  rfl

/-- THE KERNEL'S VALUES: the run ends with the recurrence's outputs and last state in the results, the arguments unchanged. -/
theorem run_values : θ_run defs (onTc (τ := τ) (main (F := Ideal))) ⟨m, fun _ => 0, ρ⟩ (fun r => ∀ c : Dev nD,
      r.2.mem ((c.tc : Thread nD τ).loc main_v25_0) = outArr m c
      ∧ r.2.mem ((c.tc : Thread nD τ).loc main_v28) = stArr m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h.1.1 c).1 9).trans (final9 m c),
      ((h.1.1 c).2 main_v28 (Pipeline.mem_restRefs_of main_v28 (by decide) (by decide))).trans
        ((tail_main_v28 m c).trans (ungroup_last m c)), h.2.1 c⟩)
    (θ_run_and (run_main m ρ) (frame m ρ))

end Cert.KernelIdeal.Wkv

end

end
-- ==== Proof.RefRun.lean ====
/- The reference's run, one trip of its scan at a time: a sequence of states that starts from the arguments' streams and a zero
   state and goes on by the loop's step gives what the two results hold. -/
module

public import proofs.«01_k».proof.Proof.Gen.ReferenceIdeal.Run
public import proofs.«01_k».proof.Proof.Gen.ReferenceIdeal.Step

@[expose] public section

noncomputable section

namespace Cert.ReferenceIdeal.Wkv

open Idealize.ShloMosaic Idealize.ShloMosaic.TcCoe Idealize.SL.Sem Idealize.ShloMosaic.StableHlo
open Cert.ReferenceIdeal Cert.ReferenceIdeal.Gen Cert.ReferenceIdeal.Value
open Cert.ReferenceIdeal.Step (State step init)

variable {F : FTy → Type} [FloatOps F]

/-- Before trip `j` the loop's buffers hold the state `s`, and its counter the number `j`. -/
structure Carries (W : Valuation τ sig (Elt F)) (s : State F) (j : ℕ) : Prop where
  wkv : W (Proc.devRef .tc main_v8_7) = s.main_v8_7
  outs : W (Proc.devRef .tc main_v8_8) = s.main_v8_8
  x0 : W (Proc.devRef .tc main_v8_0) = s.main_v8_0
  x1 : W (Proc.devRef .tc main_v8_1) = s.main_v8_1
  x2 : W (Proc.devRef .tc main_v8_2) = s.main_v8_2
  x3 : W (Proc.devRef .tc main_v8_3) = s.main_v8_3
  x4 : W (Proc.devRef .tc main_v8_4) = s.main_v8_4
  x5 : W (Proc.devRef .tc main_v8_5) = s.main_v8_5
  num : W (Proc.devRef .tc main_v8_6) = constantI S_ 32 (BitVec.ofNat 32 j)

variable {W : Valuation τ sig (Elt F)} {s : State F} {j : ℕ}

/-- The state matrix one trip writes is the step's. -/
theorem new_wkv (h : Carries W s j) : step_main_v8_7 W = (step j s).main_v8_7 := by
  unfold step_main_v8_7 res_main_while0b_v32
  rw [h.wkv, h.x1, h.x2, h.x3, h.x4, h.x5, h.num]
  rfl

/-- The rows written so far, with this trip's put in, are the step's. -/
theorem new_outs (h : Carries W s j) : step_main_v8_8 W = (step j s).main_v8_8 := by
  unfold step_main_v8_8 res_main_while0b_v32
  rw [h.wkv, h.outs, h.x0, h.x1, h.x2, h.x3, h.x4, h.x5, h.num]
  rfl

/-- The counter goes to the next number. -/
theorem new_num (h : Carries W s j) : step_main_v8_6 W = constantI S_ 32 (BitVec.ofNat 32 (j + 1)) := by
  unfold step_main_v8_6
  rw [h.num]
  exact funext fun _ => (BitVec.ofNat_add j 1).symm

/-- One trip carries the next state. -/
theorem carries_succ (h : Carries W s j) : Carries (STEP W) (step j s) (j + 1) :=
  ⟨(STEP_main_v8_7 W).trans (new_wkv h), (STEP_main_v8_8 W).trans (new_outs h), (STEP_main_v8_0 W).trans h.x0,
    (STEP_main_v8_1 W).trans h.x1, (STEP_main_v8_2 W).trans h.x2, (STEP_main_v8_3 W).trans h.x3,
    (STEP_main_v8_4 W).trans h.x4, (STEP_main_v8_5 W).trans h.x5, (STEP_main_v8_6 W).trans (new_num h)⟩

section Run

variable (m : (ℓ : Loc nD τ sig) → Buf (Elt F) ℓ) (c : Dev nD)

/-- What the scan starts from, of the arguments in memory. -/
abbrev start0 : State F :=
  init (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))

set_option maxRecDepth 65536 in
set_option maxHeartbeats 400000 in
/-- The operations before the loop leave the state it starts from. -/
theorem carries_zero : Carries (entryContents preI m c) (start0 m c) 0 := by
  constructor <;> (simp only [entryContents, afterL_cons, afterL_nil]; after_reads_simp) <;> rfl

/-- Before trip `n` the loop's buffers hold the `n`-th state. -/
theorem carries_all (it : ℕ → State F) (h0 : it 0 = start0 m c) (hs : ∀ n, it (n + 1) = step n (it n)) (n : ℕ) :
    Carries (STEP^[n] (entryContents preI m c)) (it n) n := by
  induction n with
  | zero => exact h0 ▸ carries_zero m c
  | succ n ih => rw [Function.iterate_succ_apply', hs n]; exact carries_succ ih

end Run

set_option maxRecDepth 65536 in
/-- THE REFERENCE'S RUN. Of any sequence of states that starts from the arguments and goes on by the step, the results are read
    off state 2048, and the arguments are as they were. -/
theorem run_states (m : (ℓ : Loc nD τ sig) → Buf (Elt F) ℓ) (ρ : Dev nD → PrngReg) (it : Dev nD → ℕ → State F)
    (h0 : ∀ c, it c 0 = start0 m c) (hs : ∀ c n, it c (n + 1) = step n (it c n)) :
    θ_run (defs (F := F)) (onTc (τ := τ) (main (F := F))) ⟨m, fun _ => 0, ρ⟩ fun r => ∀ c : Dev nD,
      r.2.mem ((c.tc : Thread nD τ).loc main_v10) = Cert.ReferenceIdeal.Step.R_main_v10 (it c 2048)
        ∧ r.2.mem ((c.tc : Thread nD τ).loc main_v8_7) = (it c 2048).main_v8_7
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5) := by
  refine (θ_run defs _ _).mono (fun _ h c => ?_) (Value.run m ρ)
  have hk := carries_all m c (it c) (h0 c) (hs c) 2048
  refine ⟨(h c).1.trans ?_, (h c).2.1.trans hk.wkv, (h c).2.2.1, (h c).2.2.2.1, (h c).2.2.2.2.1, (h c).2.2.2.2.2.1,
    (h c).2.2.2.2.2.2.1, (h c).2.2.2.2.2.2.2⟩
  unfold out_main_v10
  rw [hk.outs]
  rfl

end Cert.ReferenceIdeal.Wkv
end
end
-- ==== Proof.Reference.lean ====
/- What the reference's loop computes is the recurrence: the state after `n` trips is the recurrence's, and the rows written so far
   are its outputs. -/
module

public import proofs.«01_k».proof.Proof.Scan
public import proofs.«01_k».proof.Proof.RefRun
public import Idealize.ShloMosaic.Lib.WordCmp
public import Idealize.ShloMosaic.Lib.Pointwise

@[expose] public section

set_option maxRecDepth 16384

noncomputable section

namespace Cert.ReferenceIdeal.Wkv

open Idealize.ShloMosaic Idealize.ShloMosaic.WordCmp Cert.ReferenceIdeal Cert.ReferenceIdeal.Gen Cert.ReferenceIdeal.Step Cert.Wkv

/-- A row of a time-major stream lies in it. -/
theorem row_slices (n : Fin 2048) : S2048x4x32x64.Slices ![n.val, 0, 0, 0] S1x4x32x64 := by
  refine ⟨rfl, fun a => ?_⟩
  match a with
  | ⟨0, _⟩ => show n.val + 1 ≤ 2048; omega
  | ⟨1, _⟩ => show 0 + 4 ≤ 4; omega
  | ⟨2, _⟩ => show 0 + 32 ≤ 32; omega
  | ⟨3, _⟩ => show 0 + 64 ≤ 64; omega

/-- Where trip `n` reads and writes: row `n`. -/
def start (n : ℕ) : Fin 4 → Int := fun k =>
  ((![(constantI S_ 32 (BitVec.ofNat 32 n) : (⟨S_, .i32⟩ : BufTy).Contents (Elt Ideal)), constantI S_ 32 0#32, constantI S_ 32 0#32,
      constantI S_ 32 0#32] : Fin 4 → (⟨S_, .i32⟩ : BufTy).Contents (Elt Ideal)) k (Shape.Idx.first h_S_)).toInt

theorem start_eq (n : ℕ) (hn : n < 2048) (a : Fin 4) : start n a = ((![n, 0, 0, 0] : Fin 4 → ℕ) a : Int) := by
  match a with
  | ⟨0, _⟩ =>
    show (BitVec.ofNat 32 n).toInt = (n : Int)
    rw [BitVec.toInt_eq_toNat_of_lt (by rw [BitVec.toNat_ofNat]; omega), BitVec.toNat_ofNat, Nat.mod_eq_of_lt (by omega)]
  | ⟨1, _⟩ => rfl
  | ⟨2, _⟩ => rfl
  | ⟨3, _⟩ => rfl

/-- Row `n` of a time-major stream, as the trip slices it. -/
def rowAt (X : Vec Ideal S2048x4x32x64 .f32) (n : ℕ) : Vec Ideal S4x32x64 .f32 :=
  shapeCast S4x32x64 (Host.dynamicSlice S1x4x32x64 X (start n) sliceFits_S2048x4x32x64_S1x4x32x64)
    shapeCasts_S1x4x32x64_S4x32x64

/-- A row at an entry. -/
theorem rowAt_at (X : Vec Ideal S2048x4x32x64 .f32) (n : ℕ) (hn : n < 2048) (c : Fin 4) (h : Fin 32) (i : Fin 64) :
    rowAt X n (ix3 c h i) = X (ix4 ⟨n, hn⟩ c h i) := by
  unfold rowAt
  rw [dynamicSlice_eq_extract S1x4x32x64 X (start n) _ ![n, 0, 0, 0] (row_slices ⟨n, hn⟩) (start_eq n hn)]
  pointwise

/-- A row stored into the outputs, at an entry. -/
theorem put_at (Y : Vec Ideal S2048x4x32x64 .f32) (u : Vec Ideal S1x4x32x64 .f32) (n : ℕ) (hn : n < 2048) (t : Fin 2048)
    (c : Fin 4) (h : Fin 32) (i : Fin 64) :
    Host.dynamicUpdateSlice Y u (start n) updateFits_S2048x4x32x64_S1x4x32x64 (ix4 t c h i)
      = if t.val = n then u (ix4 0 c h i) else Y (ix4 t c h i) := by
  rw [dynamicUpdateSlice_eq_update Y u (start n) _ ![n, 0, 0, 0] (row_slices ⟨n, hn⟩) (start_eq n hn)]
  pointwise
  by_cases e : t.val = n
  · rw [dif_pos ⟨e.ge, by omega⟩, if_pos e]
    exact congrArg (fun z => u (ix4 z c h i)) (Subsingleton.elim (α := Fin 1) _ _)
  · rw [dif_neg (by omega), if_neg e]

/-- The new state of a trip, at an entry. -/
theorem b45_at (n : ℕ) (s : State Ideal) (c : Fin 4) (h : Fin 32) (i j : Fin 64) :
    b45 n s (ix4 c h i j)
      = s.main_v8_7 (ix4 c h i j) * rowAt s.main_v8_1 n (ix3 c h j)
        + (∑ l : Fin 64, s.main_v8_7 (ix4 c h i l) * rowAt s.main_v8_4 n (ix3 c h l)) * rowAt s.main_v8_5 n (ix3 c h j)
        + rowAt s.main_v8_3 n (ix3 c h i) * rowAt s.main_v8_2 n (ix3 c h j) := by
  have e1 : b9 n s = rowAt s.main_v8_1 n := rfl
  have e2 : b14 n s = rowAt s.main_v8_2 n := rfl
  have e3 : b19 n s = rowAt s.main_v8_3 n := rfl
  have e4 : b24 n s = rowAt s.main_v8_4 n := rfl
  have e5 : b29 n s = rowAt s.main_v8_5 n := rfl
  pointwise [b45, b39, b33, b38, b44, b32, b31, b36, b34, b37, b35, b42, b40, b43, b41, b30]
  rw [e1, e2, e3, e4, e5]

/-- A trip's output, at an entry. -/
theorem b47_at (n : ℕ) (s : State Ideal) (c : Fin 4) (h : Fin 32) (i : Fin 64) :
    b47 n s (ix4 0 c h i) = ∑ j : Fin 64, b45 n s (ix4 c h i j) * rowAt s.main_v8_0 n (ix3 c h j) := by
  have e0 : b4 n s = rowAt s.main_v8_0 n := rfl
  pointwise [b47, b46]
  rw [e0]

/-- The reference's states. -/
def it (r w k v a b : Vec Ideal S4x2048x32x64 .f32) : ℕ → State Ideal
  | 0 => init r w k v a b
  | n + 1 => step n (it r w k v a b n)

variable (r w k v a b : Vec Ideal S4x2048x32x64 .f32)

/-- The streams stay what they were. -/
theorem it_streams (n : ℕ) :
    (it r w k v a b n).main_v8_0 = A_main_v1 r w k v a b ∧ (it r w k v a b n).main_v8_1 = A_main_v2 r w k v a b
    ∧ (it r w k v a b n).main_v8_2 = A_main_v3 r w k v a b ∧ (it r w k v a b n).main_v8_3 = A_main_v4 r w k v a b
    ∧ (it r w k v a b n).main_v8_4 = A_main_v5 r w k v a b ∧ (it r w k v a b n).main_v8_5 = A_main_v6 r w k v a b := by
  induction n with
  | zero => exact ⟨rfl, rfl, rfl, rfl, rfl, rfl⟩
  | succ n ih => exact ih

/-- Row `n` of the receptance stream. -/
theorem row_r (n : ℕ) (hn : n < 2048) (c : Fin 4) (h : Fin 32) (i : Fin 64) :
    rowAt (it r w k v a b n).main_v8_0 n (ix3 c h i) = stream r c (at' n) h i := by
  rw [rowAt_at _ n hn, (it_streams r w k v a b n).1]
  have e : (⟨n, hn⟩ : Fin 2048) = at' n := Fin.ext (by simp only [at']; omega)
  rw [e]
  unfold stream
  pointwise [A_main_v1]

/-- Row `n` of the decay stream. -/
theorem row_w (n : ℕ) (hn : n < 2048) (c : Fin 4) (h : Fin 32) (i : Fin 64) :
    rowAt (it r w k v a b n).main_v8_1 n (ix3 c h i) = stream w c (at' n) h i := by
  rw [rowAt_at _ n hn, (it_streams r w k v a b n).2.1]
  have e : (⟨n, hn⟩ : Fin 2048) = at' n := Fin.ext (by simp only [at']; omega)
  rw [e]
  unfold stream
  pointwise [A_main_v2]

/-- Row `n` of the key stream. -/
theorem row_k (n : ℕ) (hn : n < 2048) (c : Fin 4) (h : Fin 32) (i : Fin 64) :
    rowAt (it r w k v a b n).main_v8_2 n (ix3 c h i) = stream k c (at' n) h i := by
  rw [rowAt_at _ n hn, (it_streams r w k v a b n).2.2.1]
  have e : (⟨n, hn⟩ : Fin 2048) = at' n := Fin.ext (by simp only [at']; omega)
  rw [e]
  unfold stream
  pointwise [A_main_v3]

/-- Row `n` of the value stream. -/
theorem row_v (n : ℕ) (hn : n < 2048) (c : Fin 4) (h : Fin 32) (i : Fin 64) :
    rowAt (it r w k v a b n).main_v8_3 n (ix3 c h i) = stream v c (at' n) h i := by
  rw [rowAt_at _ n hn, (it_streams r w k v a b n).2.2.2.1]
  have e : (⟨n, hn⟩ : Fin 2048) = at' n := Fin.ext (by simp only [at']; omega)
  rw [e]
  unfold stream
  pointwise [A_main_v4]

/-- Row `n` of the removal-direction stream. -/
theorem row_a (n : ℕ) (hn : n < 2048) (c : Fin 4) (h : Fin 32) (i : Fin 64) :
    rowAt (it r w k v a b n).main_v8_4 n (ix3 c h i) = stream a c (at' n) h i := by
  rw [rowAt_at _ n hn, (it_streams r w k v a b n).2.2.2.2.1]
  have e : (⟨n, hn⟩ : Fin 2048) = at' n := Fin.ext (by simp only [at']; omega)
  rw [e]
  unfold stream
  pointwise [A_main_v5]

/-- Row `n` of the replacement stream. -/
theorem row_b (n : ℕ) (hn : n < 2048) (c : Fin 4) (h : Fin 32) (i : Fin 64) :
    rowAt (it r w k v a b n).main_v8_5 n (ix3 c h i) = stream b c (at' n) h i := by
  rw [rowAt_at _ n hn, (it_streams r w k v a b n).2.2.2.2.2]
  have e : (⟨n, hn⟩ : Fin 2048) = at' n := Fin.ext (by simp only [at']; omega)
  rw [e]
  unfold stream
  pointwise [A_main_v6]

/-- The state after `n` trips is the recurrence's. -/
theorem it_state (n : ℕ) (hn : n ≤ 2048) (c : Fin 4) (h : Fin 32) (i j : Fin 64) :
    (it r w k v a b n).main_v8_7 (ix4 c h i j)
      = state (stream w) (stream k) (stream v) (stream a) (stream b) n c h i j := by
  induction n generalizing c h i j with
  | zero =>
    show K_main_v0 (F := Ideal) (ix4 c h i j) = (0 : EReal)
    pointwise [K_main_v0, K_main_cst]
  | succ n ih =>
    have hn' : n < 2048 := by omega
    have ih := ih (by omega)
    show (step n (it r w k v a b n)).main_v8_7 (ix4 c h i j) = _
    rw [step_main_v8_7, b45_at]
    rw [row_w r w k v a b n hn', row_b r w k v a b n hn', row_v r w k v a b n hn', row_k r w k v a b n hn', ih]
    rw [Finset.sum_congr rfl fun l _ => congr (congrArg _ (ih c h i l)) (row_a r w k v a b n hn' c h l)]
    rfl

/-- The output rows written after `n` trips are the recurrence's outputs. -/
theorem it_out (n : ℕ) (hn : n ≤ 2048) (t : Fin 2048) (ht : t.val < n) (c : Fin 4) (h : Fin 32) (i : Fin 64) :
    (it r w k v a b n).main_v8_8 (ix4 t c h i)
      = out (stream r) (stream w) (stream k) (stream v) (stream a) (stream b) t.val c h i := by
  induction n with
  | zero => omega
  | succ n ih =>
    have hn' : n < 2048 := by omega
    show (step n (it r w k v a b n)).main_v8_8 (ix4 t c h i) = _
    rw [step_main_v8_8]
    refine (put_at _ _ n hn' t c h i).trans ?_
    by_cases e : t.val = n
    · rw [if_pos e, b47_at, e]
      refine Finset.sum_congr rfl fun j _ => ?_
      rw [row_r r w k v a b n hn', ← step_main_v8_7]
      exact congrArg (· * _) (it_state r w k v a b (n + 1) hn c h i j)
    · rw [if_neg e]
      exact ih (by omega) (by omega)

/-- The reference's first result, at an entry. -/
theorem result_at (c : Fin 4) (t : Fin 2048) (l : Fin 2048) :
    R_main_v10 (it r w k v a b 2048) (ix3 c t l)
      = out (stream r) (stream w) (stream k) (stream v) (stream a) (stream b) t.val c ⟨l.val / 64, by omega⟩
          ⟨l.val % 64, by omega⟩ := by
  rw [← it_out r w k v a b 2048 le_rfl t t.isLt]
  pointwise [R_main_v10]

end Cert.ReferenceIdeal.Wkv

end

end
-- ==== Proof.Equation.lean ====
/- The equation between the two programs: on the same arguments the kernel's results are the reference's. -/
module

public import proofs.«01_k».proof.Proof.Result
public import proofs.«01_k».proof.Proof.Reference

@[expose] public section

noncomputable section

namespace Cert.Wkv

open Idealize.ShloMosaic Idealize.ShloMosaic.TcCoe

variable (m : (ℓ : Loc Cert.KernelIdeal.nD Cert.KernelIdeal.τ Cert.KernelIdeal.sig) → Buf (Elt Ideal) ℓ)

/-- The reference's states on the kernel's arguments. -/
abbrev itOf (c : Dev Cert.KernelIdeal.nD) : ℕ → Cert.ReferenceIdeal.Step.State Ideal :=
  Cert.ReferenceIdeal.Wkv.it (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2))
    (m ((c.tc : Thread Cert.KernelIdeal.nD Cert.KernelIdeal.τ).loc Cert.KernelIdeal.main_arg3))
    (m ((c.tc : Thread Cert.KernelIdeal.nD Cert.KernelIdeal.τ).loc Cert.KernelIdeal.main_arg4))
    (m ((c.tc : Thread Cert.KernelIdeal.nD Cert.KernelIdeal.τ).loc Cert.KernelIdeal.main_arg5))

/-- The outputs agree. -/
theorem outputs_eq (c : Dev Cert.KernelIdeal.nD) :
    Cert.ReferenceIdeal.Step.R_main_v10 (itOf m c 2048) = Cert.KernelIdeal.Wkv.outArr m c := by
  funext j
  obtain ⟨b, t, l, rfl⟩ : ∃ (b : Fin 4) (t l : Fin 2048), j = ix3 b t l := ⟨j 0, j 1, j 2, eq_ix3 j⟩
  exact Cert.ReferenceIdeal.Wkv.result_at _ _ _ _ _ _ b t l

/-- The last states agree. -/
theorem states_eq (c : Dev Cert.KernelIdeal.nD) : (itOf m c 2048).main_v8_7 = Cert.KernelIdeal.Wkv.stArr m c := by
  funext j
  obtain ⟨b, h, i, l, rfl⟩ : ∃ (b : Fin 4) (h : Fin 32) (i l : Fin 64), j = ix4 b h i l := ⟨j 0, j 1, j 2, j 3, eq_ix4 j⟩
  exact Cert.ReferenceIdeal.Wkv.it_state _ _ _ _ _ _ 2048 le_rfl b h i l

end Cert.Wkv

end

end
-- ==== Proof.FfnRows.lean ====
/- The product of a tile: what a grid point of the dense kernel stores in its block. -/
module

public import proofs.«01_k».proof.Proof.Gen.DenseIdeal
public import proofs.«01_k».proof.Proof.Gen.DenseIdeal.Skeleton
public import proofs.«01_k».proof.Proof.Gen.DenseIdeal.Launch
public import Idealize.ShloMosaic.Lib.Tactic
public import Idealize.ShloMosaic.Lib.Pipeline.FrameBody
public import Idealize.ShloMosaic.Lib.Pipeline.Frame
public import Idealize.ShloMosaic.Lib.WritesUnit
public import Idealize.ShloMosaic.Lib.VecWindow

@[expose] public section

set_option maxRecDepth 16384
set_option maxHeartbeats 2000000

noncomputable section

namespace Cert.DenseIdeal.Ffn

open Idealize.ShloMosaic Idealize.ShloMosaic.TcCoe Idealize.ShloMosaic.Tactic Cert.DenseIdeal Cert.DenseIdeal.Gen
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

set_option cleanup.letToHave false in
/-- The kernel's body from the point where the tile's kind has been read. -/
noncomputable def rowsTail (i : grid0.Coords) (arg2 : Memref sig .tc .smem S8 .i32) (harg2 : arg2.IsWhole) (arg3 : Memref sig .tc .smem S8 .i32) (harg3 : arg3.IsWhole) (arg4 : Memref sig .tc .smem S8 .i32) (harg4 : arg4.IsWhole) (arg5 : Memref sig .tc .vmem S1024x4096 .bf16) (harg5 : arg5.IsWhole) (arg6 : Memref sig .tc .hbm S1x4096x14336 .f32) (harg6 : arg6.IsWhole) (arg7 : Memref sig .tc .hbm S1x4096x14336 .f32) (harg7 : arg7.IsWhole) (arg8 : Memref sig .tc .vmem S1024x512 .bf16) (harg8 : arg8.IsWhole) (arg9 : Memref sig .tc .vmem S4096x512 .f32) (harg9 : arg9.IsWhole) (arg10 : Memref sig .tc .vmem S4096x512 .f32) (harg10 : arg10.IsWhole) (arg11 : Memref sig .tc .vmem S4096x512 .bf16) (harg11 : arg11.IsWhole) (arg12 : Memref sig .tc .vmem S4096x512 .bf16) (harg12 : arg12.IsWhole) (arg13 : DmaSems sig S2) (v12 : Elt F .i32) :
    Prog (TpuEff nD τ sig (Elt F) Λ₀ .tc) PUnit := do
  if k0_h4 : k0_cond4 v12 = 1#1 then do
    let v19 : Vec F S1024x4096 .bf16 ← Prog.lift (.load arg5 (Rect.unit (s := S1024x4096) ![0, 0] S1024x4096.size inb_S1024x4096_S1024x4096_0_0).toLoadRect (View.loadsAt_vmem h_S1024x4096))
    let v20 : Vec F S4096x512 .bf16 ← Prog.lift (.load arg11 (Rect.unit (s := S4096x512) ![0, 0] S4096x512.size inb_S4096x512_S4096x512_0_0).toLoadRect (View.loadsAt_vmem h_S4096x512))
    let v22 : Vec F S4096x512 .bf16 ← Prog.lift (.load arg12 (Rect.unit (s := S4096x512) ![0, 0] S4096x512.size inb_S4096x512_S4096x512_0_0).toLoadRect (View.loadsAt_vmem h_S4096x512))
    let v28 : Vec F S1024x512 .bf16 ← Prog.lift (.load arg8 (Rect.unit (s := S1024x512) ![0, 0] S1024x512.size inb_S1024x512_S1024x512_0_0).toLoadRect (View.loadsAt_vmem h_S1024x512))
    Prog.lift (.store arg8 (Rect.unit (s := S1024x512) ![0, 0] S1024x512.size inb_S1024x512_S1024x512_0_0) (k0_pay1 v19 v20 v22) Finset.univ (View.stores_vmem h_S1024x512 (harg8.storeExact_slice rfl _ packedbf16_S1024x512_S1024x512_0_0) (fun _ => rfl)) (.inl rfl))
    pure ⟨⟩
  else do
    pure ⟨⟩
  if k0_h5 : k0_cond5 v12 = 1#1 then do
    let v20 : Vec F S1024x512 .bf16 ← Prog.lift (.load arg8 (Rect.unit (s := S1024x512) ![0, 0] S1024x512.size inb_S1024x512_S1024x512_0_0).toLoadRect (View.loadsAt_vmem h_S1024x512))
    Prog.lift (.store arg8 (Rect.unit (s := S1024x512) ![0, 0] S1024x512.size inb_S1024x512_S1024x512_0_0) (k0_pay2 (F := F)) Finset.univ (View.stores_vmem h_S1024x512 (harg8.storeExact_slice rfl _ packedbf16_S1024x512_S1024x512_0_0) (fun _ => rfl)) (.inl rfl))
    pure ⟨⟩
  else do
    pure ⟨⟩
  pure ⟨⟩

/-- The only kind of tile here: whole. -/
def IsKind (v : BitVec 32) : Prop := v = 1#32

/-- The tile's stores leave its product in the block. -/
theorem rows_run (c : Dev nD) (K : PUnit → sProp 𝕄) (i : grid0.Coords) (arg2 : Memref sig .tc .smem S8 .i32) (harg2 : arg2.IsWhole) (arg3 : Memref sig .tc .smem S8 .i32) (harg3 : arg3.IsWhole) (arg4 : Memref sig .tc .smem S8 .i32) (harg4 : arg4.IsWhole) (arg5 : Memref sig .tc .vmem S1024x4096 .bf16) (harg5 : arg5.IsWhole) (arg6 : Memref sig .tc .hbm S1x4096x14336 .f32) (harg6 : arg6.IsWhole) (arg7 : Memref sig .tc .hbm S1x4096x14336 .f32) (harg7 : arg7.IsWhole) (arg8 : Memref sig .tc .vmem S1024x512 .bf16) (harg8 : arg8.IsWhole) (arg9 : Memref sig .tc .vmem S4096x512 .f32) (harg9 : arg9.IsWhole) (arg10 : Memref sig .tc .vmem S4096x512 .f32) (harg10 : arg10.IsWhole) (arg11 : Memref sig .tc .vmem S4096x512 .bf16) (harg11 : arg11.IsWhole) (arg12 : Memref sig .tc .vmem S4096x512 .bf16) (harg12 : arg12.IsWhole) (arg13 : DmaSems sig S2)
    (v : BitVec 32) (hv : IsKind v) (H : Vec F S1024x4096 .bf16) (D : Vec F S1024x512 .bf16) (A B : Vec F S4096x512 .bf16) :
    iprop(owns (c : Thread nD τ) arg5 fullShare H ∗ owns (c : Thread nD τ) arg8 fullShare D
        ∗ owns (c : Thread nD τ) arg11 fullShare A ∗ owns (c : Thread nD τ) arg12 fullShare B
        ∗ ((owns (c : Thread nD τ) arg5 fullShare H ∗ owns (c : Thread nD τ) arg8 fullShare (k0_pay1 H A B)
            ∗ owns (c : Thread nD τ) arg11 fullShare A ∗ owns (c : Thread nD τ) arg12 fullShare B) -∗ K ⟨⟩))
      ⊢ wp frame (wpE (defs₀ (F := F)) Variants.none c none) Set.univ (rowsTail i arg2 harg2 arg3 harg3 arg4 harg4 arg5 harg5 arg6 harg6 arg7 harg7 arg8 harg8 arg9 harg9 arg10 harg10 arg11 harg11 arg12 harg12 arg13 v) K := by
  unfold owns rowsTail
  iintro ⟨⟨%f5, %hf5, H5⟩, ⟨%f8, %hf8, H8⟩, ⟨%fA, %hfA, HA⟩, ⟨%fB, %hfB, HB⟩, Hk⟩
  subst hf5
  subst hfA
  subst hfB
  subst hv
  iterate 8
    try sl_exec (disch := decide)
    try sl_step
  iapply Hk
  isplitl [H5]
  · iexists _; isplitr
    swap; · iexact H5
    ipureintro; rfl
  isplitl [H8]
  swap
  · isplitl [HA]
    · iexists _; isplitr
      swap; · iexact HA
      ipureintro; rfl
    · iexists _; isplitr
      swap; · iexact HB
      ipureintro; rfl
  iexists _; isplitr
  swap; · iexact H8
  ipureintro
  rw [View.readAt_full, View.readAt_full, View.readAt_full]
  exact View.read_writes_full arg8.view f8 _ _ _

end Cert.DenseIdeal.Ffn
end
end
-- ==== Proof.ExpRows.lean ====
/- The product of a tile: what a grid point of the experts' kernel stores in its block, by the tile's kind. -/
module

public import proofs.«01_k».proof.Proof.Gen.ExpertsIdeal
public import proofs.«01_k».proof.Proof.Gen.ExpertsIdeal.Skeleton
public import proofs.«01_k».proof.Proof.Gen.ExpertsIdeal.Launch
public import Idealize.ShloMosaic.Lib.Tactic
public import Idealize.ShloMosaic.Lib.Pipeline.FrameBody
public import Idealize.ShloMosaic.Lib.Pipeline.Frame
public import Idealize.ShloMosaic.Lib.WritesUnit
public import Idealize.ShloMosaic.Lib.VecWindow

@[expose] public section

set_option maxRecDepth 16384
set_option maxHeartbeats 2000000

noncomputable section

namespace Cert.ExpertsIdeal.Moe

open Idealize.ShloMosaic Idealize.ShloMosaic.TcCoe Idealize.ShloMosaic.Tactic Cert.ExpertsIdeal Cert.ExpertsIdeal.Gen
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

set_option cleanup.letToHave false in
/-- The kernel's body from the point where the tile's kind has been read. -/
noncomputable def rowsTail (i : grid0.Coords) (arg2 : Memref sig .tc .smem S40 .i32) (harg2 : arg2.IsWhole) (arg3 : Memref sig .tc .smem S40 .i32) (harg3 : arg3.IsWhole) (arg4 : Memref sig .tc .smem S40 .i32) (harg4 : arg4.IsWhole) (arg5 : Memref sig .tc .vmem S512x4096 .bf16) (harg5 : arg5.IsWhole) (arg6 : Memref sig .tc .hbm S8x4096x14336 .f32) (harg6 : arg6.IsWhole) (arg7 : Memref sig .tc .hbm S8x4096x14336 .f32) (harg7 : arg7.IsWhole) (arg8 : Memref sig .tc .vmem S512x512 .bf16) (harg8 : arg8.IsWhole) (arg9 : Memref sig .tc .vmem S4096x512 .f32) (harg9 : arg9.IsWhole) (arg10 : Memref sig .tc .vmem S4096x512 .f32) (harg10 : arg10.IsWhole) (arg11 : Memref sig .tc .vmem S4096x512 .bf16) (harg11 : arg11.IsWhole) (arg12 : Memref sig .tc .vmem S4096x512 .bf16) (harg12 : arg12.IsWhole) (arg13 : DmaSems sig S2) (v12 : Elt F .i32) :
    Prog (TpuEff nD τ sig (Elt F) Λ₀ .tc) PUnit := do
  let ⟨v12, v31, v33⟩ : Σ' (v12 : Elt F .i32) (v31 : BitVec 1), BitVec 1 ← (do
    if k0_h4 : k0_cond4 v12 = 1#1 then do
      let v67 : Vec F S512x4096 .bf16 ← Prog.lift (.load arg5 (Rect.unit (s := S512x4096) ![0, 0] S512x4096.size inb_S512x4096_S512x4096_0_0).toLoadRect (View.loadsAt_vmem h_S512x4096))
      let v68 : Vec F S4096x512 .bf16 ← Prog.lift (.load arg11 (Rect.unit (s := S4096x512) ![0, 0] S4096x512.size inb_S4096x512_S4096x512_0_0).toLoadRect (View.loadsAt_vmem h_S4096x512))
      let v70 : Vec F S4096x512 .bf16 ← Prog.lift (.load arg12 (Rect.unit (s := S4096x512) ![0, 0] S4096x512.size inb_S4096x512_S4096x512_0_0).toLoadRect (View.loadsAt_vmem h_S4096x512))
      let v76 : Vec F S512x512 .bf16 ← Prog.lift (.load arg8 (Rect.unit (s := S512x512) ![0, 0] S512x512.size inb_S512x512_S512x512_0_0).toLoadRect (View.loadsAt_vmem h_S512x512))
      Prog.lift (.store arg8 (Rect.unit (s := S512x512) ![0, 0] S512x512.size inb_S512x512_S512x512_0_0) (k0_pay3 v67 v68 v70) Finset.univ (View.stores_vmem h_S512x512 (harg8.storeExact_slice rfl _ packedbf16_S512x512_S512x512_0_0) (fun _ => rfl)) (.inl rfl))
      pure ⟨⟩
    else do
      pure ⟨⟩
    if k0_h5 : k0_cond5 v12 = 1#1 then do
      let v68 : Vec F S512x512 .bf16 ← Prog.lift (.load arg8 (Rect.unit (s := S512x512) ![0, 0] S512x512.size inb_S512x512_S512x512_0_0).toLoadRect (View.loadsAt_vmem h_S512x512))
      Prog.lift (.store arg8 (Rect.unit (s := S512x512) ![0, 0] S512x512.size inb_S512x512_S512x512_0_0) (k0_pay4 (F := F)) Finset.univ (View.stores_vmem h_S512x512 (harg8.storeExact_slice rfl _ packedbf16_S512x512_S512x512_0_0) (fun _ => rfl)) (.inl rfl))
      pure ⟨⟩
    else do
      pure ⟨⟩
    if k0_h6 : k0_cond6 v12 = 1#1 then do
      let v67 : Vec F S128x4096 .bf16 ← Prog.lift (.load arg5 (Rect.unit (s := S512x4096) ![0, 0] S128x4096.size inb_S512x4096_S128x4096_0_0).toLoadRect (View.loadsAt_vmem h_S128x4096))
      let v68 : Vec F S4096x512 .bf16 ← Prog.lift (.load arg11 (Rect.unit (s := S4096x512) ![0, 0] S4096x512.size inb_S4096x512_S4096x512_0_0).toLoadRect (View.loadsAt_vmem h_S4096x512))
      let v70 : Vec F S4096x512 .bf16 ← Prog.lift (.load arg12 (Rect.unit (s := S4096x512) ![0, 0] S4096x512.size inb_S4096x512_S4096x512_0_0).toLoadRect (View.loadsAt_vmem h_S4096x512))
      let v76 : Vec F S128x512 .bf16 ← Prog.lift (.load arg8 (Rect.unit (s := S512x512) ![0, 0] S128x512.size inb_S512x512_S128x512_0_0).toLoadRect (View.loadsAt_vmem h_S128x512))
      Prog.lift (.store arg8 (Rect.unit (s := S512x512) ![0, 0] S128x512.size inb_S512x512_S128x512_0_0) (k0_pay5 v67 v68 v70) Finset.univ (View.stores_vmem h_S128x512 (harg8.storeExact_slice rfl _ packedbf16_S512x512_S128x512_0_0) (fun _ => rfl)) (.inl rfl))
      pure ⟨⟩
    else do
      pure ⟨⟩
    if k0_h7 : k0_cond7 v12 = 1#1 then do
      let v68 : Vec F S128x512 .bf16 ← Prog.lift (.load arg8 (Rect.unit (s := S512x512) ![0, 0] S128x512.size inb_S512x512_S128x512_0_0).toLoadRect (View.loadsAt_vmem h_S128x512))
      Prog.lift (.store arg8 (Rect.unit (s := S512x512) ![0, 0] S128x512.size inb_S512x512_S128x512_0_0) (k0_pay6 (F := F)) Finset.univ (View.stores_vmem h_S128x512 (harg8.storeExact_slice rfl _ packedbf16_S512x512_S128x512_0_0) (fun _ => rfl)) (.inl rfl))
      pure ⟨⟩
    else do
      pure ⟨⟩
    let v31 : BitVec 1 := Scalar.cmpi .sge v12 8#32
    let v32 : BitVec 32 := Scalar.subi v12 8#32
    let v33 : BitVec 1 := Scalar.cmpi .sgt v32 1#32
    pure (⟨v12, v31, v33⟩ : Σ' (v12 : Elt F .i32) (v31 : BitVec 1), BitVec 1))
  k0_part3_skel i arg2 harg2 arg3 harg3 arg4 harg4 arg5 harg5 arg6 harg6 arg7 harg7 arg8 harg8 arg9 harg9 arg10 harg10 arg11 harg11 arg12 harg12 arg13 v12 v31 v33
  pure ⟨⟩

/-- The index of a row and a column. -/
def idx2 {n k : ℕ} (a : Fin n) (b : Fin k) : (⟨2, ![n, k]⟩ : Shape).Idx := fun
  | ⟨0, _⟩ => a
  | ⟨1, _⟩ => b

/-- The rows of a tile from row `o` on, a quarter of them. -/
def quarter (H : Vec F S512x4096 .bf16) (o : ℕ) (ho : o + 128 ≤ 512) : Vec F S128x4096 .bf16 :=
  fun x => H (idx2 (n := 512) (k := 4096) ⟨o + (x 0).val, by have := (x 0).isLt; change (x 0).val < 128 at this; omega⟩ (x 1))

/-- How many quarters of a tile of kind `v` are computed, where it is neither whole nor empty. -/
def liveQuarters (v : BitVec 32) : ℕ := v.toNat - 8

/-- One quarter's result. -/
def quarterVal (v : BitVec 32) (b : ℕ) (hb : b < 4) (H : Vec F S512x4096 .bf16) (A B : Vec F S4096x512 .bf16) : Vec F S128x512 .bf16 :=
  if b < liveQuarters v then k0_pay5 (quarter H (128 * b) (by omega)) A B else k0_pay6 (F := F)

/-- What a tile of kind `v` holds: the whole product, zero, or the product in its first quarters. -/
def rowsVal (v : BitVec 32) (H : Vec F S512x4096 .bf16) (A B : Vec F S4096x512 .bf16) : Vec F S512x512 .bf16 :=
  if v = 1#32 then k0_pay3 H A B else if v = 0#32 then k0_pay4 (F := F) else
    fun y => quarterVal v ((y 0).val / 128) (by have := (y 0).isLt; change (y 0).val < 512 at this; omega) H A B
      (idx2 (n := 128) (k := 512) ⟨(y 0).val % 128, Nat.mod_lt _ (by decide)⟩ (y 1))

/-- The kinds a tile can have. -/
def IsKind (v : BitVec 32) : Prop := v = 0#32 ∨ v = 1#32 ∨ v = 8#32 ∨ v = 9#32 ∨ v = 10#32 ∨ v = 11#32 ∨ v = 12#32

/-- Four stores of a quarter each leave the rows of each. -/
theorem read_quarters (M : Memref sig .tc .vmem S512x512 .bf16) (f : BufTy.Contents (Elt F) M.view.ty)
    (W0 W1 W2 W3 : Vec F S128x512 .bf16) (i0 i1 i2 i3) (y : S512x512.Idx) (X : Elt F .bf16)
    (h0 : ∀ x : S128x512.Idx, (y 0).val = 0 + (x 0).val → (y 1).val = (x 1).val → W0 x = X)
    (h1 : ∀ x : S128x512.Idx, (y 0).val = 128 + (x 0).val → (y 1).val = (x 1).val → W1 x = X)
    (h2 : ∀ x : S128x512.Idx, (y 0).val = 256 + (x 0).val → (y 1).val = (x 1).val → W2 x = X)
    (h3 : ∀ x : S128x512.Idx, (y 0).val = 384 + (x 0).val → (y 1).val = (x 1).val → W3 x = X) :
    M.view.read (Elt F) (M.view.writes (Elt F) f
      [⟨Rect.unit (s := S512x512) ![384, 0] S128x512.size i3, W3⟩, ⟨Rect.unit (s := S512x512) ![256, 0] S128x512.size i2, W2⟩,
        ⟨Rect.unit (s := S512x512) ![128, 0] S128x512.size i1, W1⟩, ⟨Rect.unit (s := S512x512) ![0, 0] S128x512.size i0, W0⟩]) y = X := by
  have hy : (y 0).val < 512 := (y 0).isLt
  rw [View.read_writes_cons_rows M.view f i3 W3 _ y rfl (W := 128) rfl rfl]
  split
  · exact h3 _ (by show _ = 384 + ((y 0).val - 384); omega) (by show _ = (y 1).val - 0; omega)
  rw [View.read_writes_cons_rows M.view f i2 W2 _ y rfl (W := 128) rfl rfl]
  split
  · exact h2 _ (by show _ = 256 + ((y 0).val - 256); omega) (by show _ = (y 1).val - 0; omega)
  rw [View.read_writes_cons_rows M.view f i1 W1 _ y rfl (W := 128) rfl rfl]
  split
  · exact h1 _ (by show _ = 128 + ((y 0).val - 128); omega) (by show _ = (y 1).val - 0; omega)
  rw [View.read_writes_cons_rows M.view f i0 W0 _ y rfl (W := 128) rfl rfl]
  split
  · exact h0 _ (by show _ = 0 + ((y 0).val - 0); omega) (by show _ = (y 1).val - 0; omega)
  · omega

/-- A row of a quartered tile is a row of its quarter. -/
theorem rowsVal_quarter (v : BitVec 32) (h1 : v ≠ 1#32) (h0 : v ≠ 0#32) (H : Vec F S512x4096 .bf16) (A B : Vec F S4096x512 .bf16)
    (b : ℕ) (hb : b < 4) (y : S512x512.Idx) (x : S128x512.Idx) (hy0 : (y 0).val = 128 * b + (x 0).val) (hy1 : (y 1).val = (x 1).val) :
    quarterVal v b hb H A B x = rowsVal v H A B y := by
  have hx : (x 0).val < 128 := (x 0).isLt
  unfold rowsVal
  rw [if_neg h1, if_neg h0]
  have e : (y 0).val / 128 = b := by omega
  subst e
  refine congrArg _ (funext fun a => ?_)
  match a with
  | ⟨0, _⟩ => exact Fin.ext (by show (x 0).val = (y 0).val % 128; omega)
  | ⟨1, _⟩ => exact Fin.ext hy1.symm

/-- A load of a quarter of the rows reads the quarter. -/
theorem readAt_quarter (M : Memref sig .tc .vmem S512x4096 .bf16) (f : BufTy.Contents (Elt F) M.view.ty) (o : ℕ) (ho : o + 128 ≤ 512) (inb) :
    View.readAt (Elt F) M.view (Rect.unit (s := S512x4096) ![o, 0] S128x4096.size inb).toLoadRect f = quarter (M.view.read (Elt F) f) o ho := by
  funext x
  unfold quarter
  rw [View.readAt_apply]
  refine congrArg _ (funext fun a => ?_)
  match a with
  | ⟨0, _⟩ => exact Fin.ext (by show o + 1 * (x 0).val = o + (x 0).val; omega)
  | ⟨1, _⟩ => exact Fin.ext (by show 0 + 1 * (x 1).val = (x 1).val; omega)

/-- The tile's stores leave its value in the block. -/
theorem rows_run (c : Dev nD) (K : PUnit → sProp 𝕄) (i : grid0.Coords) (arg2 : Memref sig .tc .smem S40 .i32) (harg2 : arg2.IsWhole) (arg3 : Memref sig .tc .smem S40 .i32) (harg3 : arg3.IsWhole) (arg4 : Memref sig .tc .smem S40 .i32) (harg4 : arg4.IsWhole) (arg5 : Memref sig .tc .vmem S512x4096 .bf16) (harg5 : arg5.IsWhole) (arg6 : Memref sig .tc .hbm S8x4096x14336 .f32) (harg6 : arg6.IsWhole) (arg7 : Memref sig .tc .hbm S8x4096x14336 .f32) (harg7 : arg7.IsWhole) (arg8 : Memref sig .tc .vmem S512x512 .bf16) (harg8 : arg8.IsWhole) (arg9 : Memref sig .tc .vmem S4096x512 .f32) (harg9 : arg9.IsWhole) (arg10 : Memref sig .tc .vmem S4096x512 .f32) (harg10 : arg10.IsWhole) (arg11 : Memref sig .tc .vmem S4096x512 .bf16) (harg11 : arg11.IsWhole) (arg12 : Memref sig .tc .vmem S4096x512 .bf16) (harg12 : arg12.IsWhole) (arg13 : DmaSems sig S2)
    (v : BitVec 32) (hv : IsKind v) (H : Vec F S512x4096 .bf16) (D : Vec F S512x512 .bf16) (A B : Vec F S4096x512 .bf16) :
    iprop(owns (c : Thread nD τ) arg5 fullShare H ∗ owns (c : Thread nD τ) arg8 fullShare D
        ∗ owns (c : Thread nD τ) arg11 fullShare A ∗ owns (c : Thread nD τ) arg12 fullShare B
        ∗ ((owns (c : Thread nD τ) arg5 fullShare H ∗ owns (c : Thread nD τ) arg8 fullShare (rowsVal v H A B)
            ∗ owns (c : Thread nD τ) arg11 fullShare A ∗ owns (c : Thread nD τ) arg12 fullShare B) -∗ K ⟨⟩))
      ⊢ wp frame (wpE (defs₀ (F := F)) Variants.none c none) Set.univ (rowsTail i arg2 harg2 arg3 harg3 arg4 harg4 arg5 harg5 arg6 harg6 arg7 harg7 arg8 harg8 arg9 harg9 arg10 harg10 arg11 harg11 arg12 harg12 arg13 v) K := by
  unfold owns rowsTail
  iintro ⟨⟨%f5, %hf5, H5⟩, ⟨%f8, %hf8, H8⟩, ⟨%fA, %hfA, HA⟩, ⟨%fB, %hfB, HB⟩, Hk⟩
  subst hf5
  subst hfA
  subst hfB
  rcases hv with h | h | h | h | h | h | h <;> subst h
  all_goals
    iterate 8
      try sl_exec (disch := decide)
      try sl_step
  all_goals
    iapply Hk
    isplitl [H5]
    · iexists _; isplitr
      swap; · iexact H5
      ipureintro; rfl
    isplitl [H8]
    swap
    · isplitl [HA]
      · iexists _; isplitr
        swap; · iexact HA
        ipureintro; rfl
      · iexists _; isplitr
        swap; · iexact HB
        ipureintro; rfl
    iexists _; isplitr
    swap; · iexact H8
    ipureintro
  · exact View.read_writes_full arg8.view f8 _ _ _
  · rw [View.readAt_full, View.readAt_full, View.readAt_full]
    exact View.read_writes_full arg8.view f8 _ _ _
  all_goals
    try rw [View.readAt_full arg11.view, View.readAt_full arg12.view]
    try simp only [readAt_quarter _ _ 0 (by decide), readAt_quarter _ _ 128 (by decide), readAt_quarter _ _ 256 (by decide), readAt_quarter _ _ 384 (by decide)]
    funext y
    refine read_quarters arg8 f8 _ _ _ _ _ _ _ _ y _ ?_ ?_ ?_ ?_
  all_goals
    intro x hx0 hx1
    first
    | (refine Eq.trans ?goalE (rowsVal_quarter _ ?goalA ?goalB _ _ _ 0 (by decide) y x hx0 hx1)
       case goalA => decide
       case goalB => decide
       case goalE =>
         unfold quarterVal
         first
         | exact (congrFun (if_pos (by decide)) x).symm
         | exact (congrFun (if_neg (by decide)) x).symm)
    | (refine Eq.trans ?goalE (rowsVal_quarter _ ?goalA ?goalB _ _ _ 1 (by decide) y x hx0 hx1)
       case goalA => decide
       case goalB => decide
       case goalE =>
         unfold quarterVal
         first
         | exact (congrFun (if_pos (by decide)) x).symm
         | exact (congrFun (if_neg (by decide)) x).symm)
    | (refine Eq.trans ?goalE (rowsVal_quarter _ ?goalA ?goalB _ _ _ 2 (by decide) y x hx0 hx1)
       case goalA => decide
       case goalB => decide
       case goalE =>
         unfold quarterVal
         first
         | exact (congrFun (if_pos (by decide)) x).symm
         | exact (congrFun (if_neg (by decide)) x).symm)
    | (refine Eq.trans ?goalE (rowsVal_quarter _ ?goalA ?goalB _ _ _ 3 (by decide) y x hx0 hx1)
       case goalA => decide
       case goalB => decide
       case goalE =>
         unfold quarterVal
         first
         | exact (congrFun (if_pos (by decide)) x).symm
         | exact (congrFun (if_neg (by decide)) x).symm)

end Cert.ExpertsIdeal.Moe
end
end
-- ==== Proof.ExpWords.lean ====
/- The experts' kernel's conditions and offsets at a grid point, as arithmetic on its coordinates and words. -/
module

public import proofs.«01_k».proof.Proof.ExpRows
public import Idealize.ShloMosaic.Lib.WordCmp

@[expose] public section

set_option maxRecDepth 16384

noncomputable section

namespace Cert.ExpertsIdeal.Moe

open Idealize.ShloMosaic Idealize.ShloMosaic.TcCoe Idealize.ShloMosaic.Tactic Cert.ExpertsIdeal Cert.ExpertsIdeal.Gen

/-- A truth value widened and compared with zero is itself. -/
theorem nonzero_ext (b : BitVec 1) : Scalar.cmpi .ne (Scalar.extui b) 0#32 = b := by
  revert b; decide

theorem or_one (a b : BitVec 1) : Scalar.ori a b = 1#1 ↔ a = 1#1 ∨ b = 1#1 := by
  revert a b; decide

theorem and_one (a b : BitVec 1) : Scalar.andi a b = 1#1 ↔ a = 1#1 ∧ b = 1#1 := by
  revert a b; decide

theorem ofBool_one (p : Prop) [Decidable p] : BitVec.ofBool (decide p) = 1#1 ↔ p := by
  by_cases h : p <;> simp [h]

theorem eq_one (x y : BitVec 32) : Scalar.cmpi .eq x y = 1#1 ↔ x = y := by
  show IntOp.cmpi .eq x y = 1#1 ↔ _
  rw [WordCmp.cmpi_eq_eq]; exact ofBool_one _

theorem ne_one (x y : BitVec 32) : Scalar.cmpi .ne x y = 1#1 ↔ x ≠ y := by
  show IntOp.cmpi .ne x y = 1#1 ↔ _
  rw [WordCmp.cmpi_ne_eq]; exact ofBool_one _

theorem slt_one (x y : BitVec 32) : Scalar.cmpi .slt x y = 1#1 ↔ x.toInt < y.toInt := by
  show IntOp.cmpi .slt x y = 1#1 ↔ _
  rw [WordCmp.cmpi_slt_eq]; exact ofBool_one _

theorem sge_one (x y : BitVec 32) : Scalar.cmpi .sge x y = 1#1 ↔ y.toInt ≤ x.toInt := by
  show IntOp.cmpi .sge x y = 1#1 ↔ _
  rw [WordCmp.cmpi_sge_eq]; exact ofBool_one _

theorem n_lt (i : grid0.Coords) : (i 0).val < 28 := (i 0).isLt
theorem m_lt (i : grid0.Coords) : (i 1).val < 40 := (i 1).isLt

theorem ofNat_zero_iff (n : ℕ) (h : n < 100000) : BitVec.ofNat 32 n = 0#32 ↔ n = 0 := by
  constructor
  · intro e
    have := congrArg BitVec.toNat e
    rw [BitVec.toNat_ofNat] at this
    have h0 : (0#32).toNat = 0 := rfl
    omega
  · rintro rfl; rfl

theorem cond1_iff (i : grid0.Coords) (a b : BitVec 32) : k0_cond1 i a b = 1#1 ↔ (i 1).val = 0 ∨ b ≠ a := by
  show Scalar.cmpi .ne (Scalar.extui (Scalar.ori (Scalar.cmpi .eq (BitVec.ofNat 32 (i 1).val) 0#32) (Scalar.cmpi .ne b a))) 0#32 = 1#1 ↔ _
  rw [nonzero_ext, or_one, eq_one, ne_one, ofNat_zero_iff _ (by have := m_lt i; omega)]

theorem cond2_iff (i : grid0.Coords) : k0_cond2 i = 1#1 ↔ (i 0).val = 0 ∧ (i 1).val = 0 := by
  show Scalar.cmpi .ne (Scalar.extui (Scalar.andi (Scalar.cmpi .eq (BitVec.ofNat 32 (i 0).val) 0#32) (Scalar.cmpi .eq (BitVec.ofNat 32 (i 1).val) 0#32))) 0#32 = 1#1 ↔ _
  rw [nonzero_ext, and_one, eq_one, eq_one, ofNat_zero_iff _ (by have := n_lt i; omega), ofNat_zero_iff _ (by have := m_lt i; omega)]

theorem cond3_iff (i : grid0.Coords) (a : BitVec 32) : k0_cond3 i a = 1#1 ↔ 0 ≤ a.toInt ∨ (i 0).val + 1 < 28 := by
  show Scalar.cmpi .ne (Scalar.extui (Scalar.ori (Scalar.cmpi .sge a 0#32) (Scalar.cmpi .slt (Scalar.addi (BitVec.ofNat 32 (i 0).val) 1#32) 28#32))) 0#32 = 1#1 ↔ _
  rw [nonzero_ext, or_one, sge_one, slt_one]
  have hn := n_lt i
  have e : (Scalar.addi (BitVec.ofNat 32 (i 0).val) 1#32).toInt = (i 0).val + 1 :=
    (by decide : ∀ n : Fin 28, (Scalar.addi (BitVec.ofNat 32 n.val) 1#32).toInt = (n.val : Int) + 1) ⟨(i 0).val, hn⟩
  rw [e]
  have e2 : (28#32 : BitVec 32).toInt = 28 := rfl
  have e3 : (0#32 : BitVec 32).toInt = 0 := rfl
  rw [e2, e3]
  omega

theorem off1_eq (i : grid0.Coords) : k0_off1 i 0 = (i 1).val - 1 := by
  show (Scalar.indexCast (Scalar.maxsi (Scalar.subi (BitVec.ofNat 32 (i 1).val) 1#32) 0#32)).toNat = _
  exact (by decide : ∀ n : Fin 40, (Scalar.indexCast (Scalar.maxsi (Scalar.subi (BitVec.ofNat 32 n.val) 1#32) 0#32)).toNat = n.val - 1) ⟨(i 1).val, m_lt i⟩

theorem off2_eq (i : grid0.Coords) : k0_off2 i 0 = (i 1).val := by
  show (Scalar.indexCast (BitVec.ofNat 32 (i 1).val)).toNat = _
  exact (by decide : ∀ n : Fin 40, (Scalar.indexCast (BitVec.ofNat 32 n.val)).toNat = n.val) ⟨(i 1).val, m_lt i⟩

theorem off3_eq (i : grid0.Coords) : k0_off3 i 0 = (i 1).val := off2_eq i
theorem off6_eq (i : grid0.Coords) : k0_off6 i 0 = (i 1).val := off2_eq i
theorem off8_eq (i : grid0.Coords) : k0_off8 i 0 = (i 1).val := off2_eq i

theorem off5_eq (i : grid0.Coords) (v : BitVec 32) : k0_off5 i v = ![v.toNat, 0, 512 * (i 0).val] := by
  show ![v.toNat, 0, (Scalar.muli (BitVec.ofNat 32 (i 0).val) 512#32).toNat] = _
  have hn := n_lt i
  have e : (Scalar.muli (BitVec.ofNat 32 (i 0).val) 512#32).toNat = 512 * (i 0).val :=
    (by decide : ∀ n : Fin 28, (Scalar.muli (BitVec.ofNat 32 n.val) 512#32).toNat = 512 * n.val) ⟨(i 0).val, hn⟩
  rw [e]

theorem off7_eq (i : grid0.Coords) (a b : BitVec 32) :
    k0_off7 i a b = if 0 ≤ a.toInt then ![a.toNat, 0, 512 * (i 0).val] else ![b.toNat, 0, 512 * ((i 0).val + 1)] := by
  show ![(Scalar.select (Scalar.cmpi .sge a 0#32) a b).toNat, 0,
    (Scalar.muli (Scalar.select (Scalar.cmpi .sge a 0#32) (BitVec.ofNat 32 (i 0).val) (Scalar.addi (BitVec.ofNat 32 (i 0).val) 1#32)) 512#32).toNat] = _
  have hn := n_lt i
  have e1 : (Scalar.muli (BitVec.ofNat 32 (i 0).val) 512#32).toNat = 512 * (i 0).val :=
    (by decide : ∀ n : Fin 28, (Scalar.muli (BitVec.ofNat 32 n.val) 512#32).toNat = 512 * n.val) ⟨(i 0).val, hn⟩
  have e2 : (Scalar.muli (Scalar.addi (BitVec.ofNat 32 (i 0).val) 1#32) 512#32).toNat = 512 * ((i 0).val + 1) :=
    (by decide : ∀ n : Fin 28, (Scalar.muli (Scalar.addi (BitVec.ofNat 32 n.val) 1#32) 512#32).toNat = 512 * (n.val + 1)) ⟨(i 0).val, hn⟩
  by_cases h : 0 ≤ a.toInt
  · rw [if_pos h, (sge_one a 0#32).2 h]
    show ![a.toNat, 0, (Scalar.muli (BitVec.ofNat 32 (i 0).val) 512#32).toNat] = _
    rw [e1]
  · have hc : Scalar.cmpi .sge a 0#32 = 0#1 := by
      have := mt (sge_one a 0#32).1 h
      revert this
      generalize Scalar.cmpi .sge a 0#32 = b
      revert b; decide
    rw [if_neg h, hc]
    show ![b.toNat, 0, (Scalar.muli (Scalar.addi (BitVec.ofNat 32 (i 0).val) 1#32) 512#32).toNat] = _
    rw [e2]

/-- At the first grid point there are next blocks. -/
theorem cond3_of_cond2 (i : grid0.Coords) (v : BitVec 32) (h : k0_cond2 i = 1#1) : k0_cond3 i v = 1#1 := by
  rw [cond2_iff] at h
  rw [cond3_iff]
  omega

/-- A block's bounds. -/
theorem blk_inb (e o : ℕ) (he : e < 8) (ho : o ≤ 13824) : ∀ a : Fin 3, (![e, 0, o] : Fin 3 → ℕ) a + S1x4096x512.size a ≤ S8x4096x14336.size a
  | ⟨0, _⟩ => by show e + 1 ≤ 8; omega
  | ⟨1, _⟩ => by show 0 + 4096 ≤ 4096; omega
  | ⟨2, _⟩ => by show o + 512 ≤ 14336; omega

theorem chk1_of (i : grid0.Coords) (a b v : BitVec 32) (hv : v.toNat < 8) : k0_chk1 i a b v := by
  have hn := n_lt i
  have e : k0_off4 i v = ![v.toNat, 0, 512 * (i 0).val] := off5_eq i v
  exact ⟨fun _ _ => by rw [e]; exact blk_inb _ _ hv (by omega), fun _ => by rw [off5_eq]; exact blk_inb _ _ hv (by omega)⟩

/-- The column the next block begins at is a multiple of a block's width. -/
theorem mult5_dvd (i : grid0.Coords) (a : BitVec 32) : 512 ∣ (k0_mult5 i a).toNat := by
  have hn := n_lt i
  show 512 ∣ (Scalar.muli (Scalar.select (Scalar.cmpi .sge a 0#32) (BitVec.ofNat 32 (i 0).val) (Scalar.addi (BitVec.ofNat 32 (i 0).val) 1#32)) 512#32).toNat
  have e1 := (by decide : ∀ n : Fin 28, (Scalar.muli (BitVec.ofNat 32 n.val) 512#32).toNat = 512 * n.val) ⟨(i 0).val, hn⟩
  have e2 := (by decide : ∀ n : Fin 28, (Scalar.muli (Scalar.addi (BitVec.ofNat 32 n.val) 1#32) 512#32).toNat = 512 * (n.val + 1)) ⟨(i 0).val, hn⟩
  have hb : ∀ b : BitVec 1, b = 1#1 ∨ b = 0#1 := by decide
  rcases hb (Scalar.cmpi .sge a 0#32) with h | h
  · rw [h]
    exact ⟨_, e1⟩
  · rw [h]
    exact ⟨_, e2⟩

theorem chk2_of (i : grid0.Coords) (a b v : BitVec 32) : k0_chk2 i a b v :=
  ⟨fun _ _ => mult5_dvd i v, fun _ _ => mult5_dvd i v⟩

theorem chk3_of (i : grid0.Coords) (a b v u : BitVec 32) (hv : 0 ≤ v.toInt → v.toNat < 8) (hu : u.toNat < 8) : k0_chk3 i a b v u := by
  have hn := n_lt i
  intro _ h3
  rw [cond3_iff] at h3
  rw [off7_eq]
  split
  · rename_i h; exact blk_inb _ _ (hv h) (by omega)
  · rename_i h; exact blk_inb _ _ hu (by omega)

end Cert.ExpertsIdeal.Moe
end
end
-- ==== Proof.FfnWords.lean ====
/- The dense kernel's conditions and offsets at a grid point, as arithmetic on its coordinates and words. -/
module

public import proofs.«01_k».proof.Proof.FfnRows
public import proofs.«01_k».proof.Proof.ExpWords
public import Idealize.ShloMosaic.Lib.WordCmp

@[expose] public section

set_option maxRecDepth 16384

noncomputable section

namespace Cert.DenseIdeal.Ffn

open Idealize.ShloMosaic Idealize.ShloMosaic.TcCoe Idealize.ShloMosaic.Tactic Cert.DenseIdeal Cert.DenseIdeal.Gen
open Cert.ExpertsIdeal.Moe (nonzero_ext or_one and_one ofBool_one eq_one ne_one slt_one sge_one ofNat_zero_iff)

theorem n_lt (i : grid0.Coords) : (i 0).val < 28 := (i 0).isLt
theorem m_lt (i : grid0.Coords) : (i 1).val < 8 := (i 1).isLt

theorem cond1_iff (i : grid0.Coords) (a b : BitVec 32) : k0_cond1 i a b = 1#1 ↔ (i 1).val = 0 ∨ b ≠ a := by
  show Scalar.cmpi .ne (Scalar.extui (Scalar.ori (Scalar.cmpi .eq (BitVec.ofNat 32 (i 1).val) 0#32) (Scalar.cmpi .ne b a))) 0#32 = 1#1 ↔ _
  rw [nonzero_ext, or_one, eq_one, ne_one, ofNat_zero_iff _ (by have := m_lt i; omega)]

theorem cond2_iff (i : grid0.Coords) : k0_cond2 i = 1#1 ↔ (i 0).val = 0 ∧ (i 1).val = 0 := by
  show Scalar.cmpi .ne (Scalar.extui (Scalar.andi (Scalar.cmpi .eq (BitVec.ofNat 32 (i 0).val) 0#32) (Scalar.cmpi .eq (BitVec.ofNat 32 (i 1).val) 0#32))) 0#32 = 1#1 ↔ _
  rw [nonzero_ext, and_one, eq_one, eq_one, ofNat_zero_iff _ (by have := n_lt i; omega), ofNat_zero_iff _ (by have := m_lt i; omega)]

theorem cond3_iff (i : grid0.Coords) (a : BitVec 32) : k0_cond3 i a = 1#1 ↔ 0 ≤ a.toInt ∨ (i 0).val + 1 < 28 := by
  show Scalar.cmpi .ne (Scalar.extui (Scalar.ori (Scalar.cmpi .sge a 0#32) (Scalar.cmpi .slt (Scalar.addi (BitVec.ofNat 32 (i 0).val) 1#32) 28#32))) 0#32 = 1#1 ↔ _
  rw [nonzero_ext, or_one, sge_one, slt_one]
  have hn := n_lt i
  have e : (Scalar.addi (BitVec.ofNat 32 (i 0).val) 1#32).toInt = (i 0).val + 1 :=
    (by decide : ∀ n : Fin 28, (Scalar.addi (BitVec.ofNat 32 n.val) 1#32).toInt = (n.val : Int) + 1) ⟨(i 0).val, hn⟩
  rw [e]
  have e2 : (28#32 : BitVec 32).toInt = 28 := rfl
  have e3 : (0#32 : BitVec 32).toInt = 0 := rfl
  rw [e2, e3]
  omega

theorem off1_eq (i : grid0.Coords) : k0_off1 i 0 = (i 1).val - 1 := by
  show (Scalar.indexCast (Scalar.maxsi (Scalar.subi (BitVec.ofNat 32 (i 1).val) 1#32) 0#32)).toNat = _
  exact (by decide : ∀ n : Fin 8, (Scalar.indexCast (Scalar.maxsi (Scalar.subi (BitVec.ofNat 32 n.val) 1#32) 0#32)).toNat = n.val - 1) ⟨(i 1).val, m_lt i⟩

theorem off2_eq (i : grid0.Coords) : k0_off2 i 0 = (i 1).val := by
  show (Scalar.indexCast (BitVec.ofNat 32 (i 1).val)).toNat = _
  exact (by decide : ∀ n : Fin 8, (Scalar.indexCast (BitVec.ofNat 32 n.val)).toNat = n.val) ⟨(i 1).val, m_lt i⟩

theorem off3_eq (i : grid0.Coords) : k0_off3 i 0 = (i 1).val := off2_eq i
theorem off6_eq (i : grid0.Coords) : k0_off6 i 0 = (i 1).val := off2_eq i
theorem off8_eq (i : grid0.Coords) : k0_off8 i 0 = (i 1).val := off2_eq i

theorem off5_eq (i : grid0.Coords) (v : BitVec 32) : k0_off5 i v = ![v.toNat, 0, 512 * (i 0).val] := by
  show ![v.toNat, 0, (Scalar.muli (BitVec.ofNat 32 (i 0).val) 512#32).toNat] = _
  have hn := n_lt i
  have e : (Scalar.muli (BitVec.ofNat 32 (i 0).val) 512#32).toNat = 512 * (i 0).val :=
    (by decide : ∀ n : Fin 28, (Scalar.muli (BitVec.ofNat 32 n.val) 512#32).toNat = 512 * n.val) ⟨(i 0).val, hn⟩
  rw [e]

theorem off7_eq (i : grid0.Coords) (a b : BitVec 32) :
    k0_off7 i a b = if 0 ≤ a.toInt then ![a.toNat, 0, 512 * (i 0).val] else ![b.toNat, 0, 512 * ((i 0).val + 1)] := by
  show ![(Scalar.select (Scalar.cmpi .sge a 0#32) a b).toNat, 0,
    (Scalar.muli (Scalar.select (Scalar.cmpi .sge a 0#32) (BitVec.ofNat 32 (i 0).val) (Scalar.addi (BitVec.ofNat 32 (i 0).val) 1#32)) 512#32).toNat] = _
  have hn := n_lt i
  have e1 : (Scalar.muli (BitVec.ofNat 32 (i 0).val) 512#32).toNat = 512 * (i 0).val :=
    (by decide : ∀ n : Fin 28, (Scalar.muli (BitVec.ofNat 32 n.val) 512#32).toNat = 512 * n.val) ⟨(i 0).val, hn⟩
  have e2 : (Scalar.muli (Scalar.addi (BitVec.ofNat 32 (i 0).val) 1#32) 512#32).toNat = 512 * ((i 0).val + 1) :=
    (by decide : ∀ n : Fin 28, (Scalar.muli (Scalar.addi (BitVec.ofNat 32 n.val) 1#32) 512#32).toNat = 512 * (n.val + 1)) ⟨(i 0).val, hn⟩
  by_cases h : 0 ≤ a.toInt
  · rw [if_pos h, (sge_one a 0#32).2 h]
    show ![a.toNat, 0, (Scalar.muli (BitVec.ofNat 32 (i 0).val) 512#32).toNat] = _
    rw [e1]
  · have hc : Scalar.cmpi .sge a 0#32 = 0#1 := by
      have := mt (sge_one a 0#32).1 h
      revert this
      generalize Scalar.cmpi .sge a 0#32 = b
      revert b; decide
    rw [if_neg h, hc]
    show ![b.toNat, 0, (Scalar.muli (Scalar.addi (BitVec.ofNat 32 (i 0).val) 1#32) 512#32).toNat] = _
    rw [e2]

/-- At the first grid point there are next blocks. -/
theorem cond3_of_cond2 (i : grid0.Coords) (v : BitVec 32) (h : k0_cond2 i = 1#1) : k0_cond3 i v = 1#1 := by
  rw [cond2_iff] at h
  rw [cond3_iff]
  omega

/-- A block's bounds. -/
theorem blk_inb (e o : ℕ) (he : e < 1) (ho : o ≤ 13824) : ∀ a : Fin 3, (![e, 0, o] : Fin 3 → ℕ) a + S1x4096x512.size a ≤ S1x4096x14336.size a
  | ⟨0, _⟩ => by show e + 1 ≤ 1; omega
  | ⟨1, _⟩ => by show 0 + 4096 ≤ 4096; omega
  | ⟨2, _⟩ => by show o + 512 ≤ 14336; omega

theorem chk1_of (i : grid0.Coords) (a b v : BitVec 32) (hv : v.toNat < 1) : k0_chk1 i a b v := by
  have hn := n_lt i
  have e : k0_off4 i v = ![v.toNat, 0, 512 * (i 0).val] := off5_eq i v
  exact ⟨fun _ _ => by rw [e]; exact blk_inb _ _ hv (by omega), fun _ => by rw [off5_eq]; exact blk_inb _ _ hv (by omega)⟩

/-- The column the next block begins at is a multiple of a block's width. -/
theorem mult5_dvd (i : grid0.Coords) (a : BitVec 32) : 512 ∣ (k0_mult5 i a).toNat := by
  have hn := n_lt i
  show 512 ∣ (Scalar.muli (Scalar.select (Scalar.cmpi .sge a 0#32) (BitVec.ofNat 32 (i 0).val) (Scalar.addi (BitVec.ofNat 32 (i 0).val) 1#32)) 512#32).toNat
  have e1 := (by decide : ∀ n : Fin 28, (Scalar.muli (BitVec.ofNat 32 n.val) 512#32).toNat = 512 * n.val) ⟨(i 0).val, hn⟩
  have e2 := (by decide : ∀ n : Fin 28, (Scalar.muli (Scalar.addi (BitVec.ofNat 32 n.val) 1#32) 512#32).toNat = 512 * (n.val + 1)) ⟨(i 0).val, hn⟩
  have hb : ∀ b : BitVec 1, b = 1#1 ∨ b = 0#1 := by decide
  rcases hb (Scalar.cmpi .sge a 0#32) with h | h
  · rw [h]
    exact ⟨_, e1⟩
  · rw [h]
    exact ⟨_, e2⟩

theorem chk2_of (i : grid0.Coords) (a b v : BitVec 32) : k0_chk2 i a b v :=
  ⟨fun _ _ => mult5_dvd i v, fun _ _ => mult5_dvd i v⟩

theorem chk3_of (i : grid0.Coords) (a b v u : BitVec 32) (hv : 0 ≤ v.toInt → v.toNat < 1) (hu : u.toNat < 1) : k0_chk3 i a b v u := by
  have hn := n_lt i
  intro _ h3
  rw [cond3_iff] at h3
  rw [off7_eq]
  split
  · rename_i h; exact blk_inb _ _ (hv h) (by omega)
  · rename_i h; exact blk_inb _ _ hu (by omega)

end Cert.DenseIdeal.Ffn
end
end
-- ==== Proof.FfnBody.lean ====
/- A grid point of the dense kernel: the words it reads, the blocks it copies, and its run in each case. -/
module

public import proofs.«01_k».proof.Proof.FfnWords
public import Idealize.ShloMosaic.Lib.ValueLayout

@[expose] public section

set_option maxRecDepth 16384
set_option maxHeartbeats 4000000

noncomputable section

namespace Cert.DenseIdeal.Ffn

open Idealize.ShloMosaic Idealize.ShloMosaic.ValueIdx Idealize.ShloMosaic.TcCoe Idealize.ShloMosaic.Tactic Cert.DenseIdeal Cert.DenseIdeal.Gen
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- The first part of the body, then `k`: bring in the expert's two blocks, start the next ones', and read the tile's kind. -/
noncomputable def weightsThen {X : Type} (i : grid0.Coords) (arg2 : Memref sig .tc .smem S8 .i32) (harg2 : arg2.IsWhole) (arg3 : Memref sig .tc .smem S8 .i32) (harg3 : arg3.IsWhole) (arg4 : Memref sig .tc .smem S8 .i32) (harg4 : arg4.IsWhole) (arg5 : Memref sig .tc .vmem S1024x4096 .bf16) (harg5 : arg5.IsWhole) (arg6 : Memref sig .tc .hbm S1x4096x14336 .f32) (harg6 : arg6.IsWhole) (arg7 : Memref sig .tc .hbm S1x4096x14336 .f32) (harg7 : arg7.IsWhole) (arg8 : Memref sig .tc .vmem S1024x512 .bf16) (harg8 : arg8.IsWhole) (arg9 : Memref sig .tc .vmem S4096x512 .f32) (harg9 : arg9.IsWhole) (arg10 : Memref sig .tc .vmem S4096x512 .f32) (harg10 : arg10.IsWhole) (arg11 : Memref sig .tc .vmem S4096x512 .bf16) (harg11 : arg11.IsWhole) (arg12 : Memref sig .tc .vmem S4096x512 .bf16) (harg12 : arg12.IsWhole) (arg13 : DmaSems sig S2) (k : Elt F .i32 → Prog (TpuEff nD τ sig (Elt F) Λ₀ .tc) X) :
    Prog (TpuEff nD τ sig (Elt F) Λ₀ .tc) X := do
  let arg0 : BitVec 32 := BitVec.ofNat 32 (i 0).val
  let arg1 : BitVec 32 := BitVec.ofNat 32 (i 1).val
  let v3 : Elt F .i32 ← smemLoad arg2 (Rect.unit (s := S8) (k0_off1 i) S1.size (k0_off1_inb i)) numel1_S1 rfl
  let v6 : Elt F .i32 ← smemLoad arg2 (Rect.unit (s := S8) (k0_off2 i) S1.size (k0_off2_inb i)) numel1_S1 rfl
  if k0_h1 : k0_cond1 i v3 v6 = 1#1 then do
    let ⟨v97, v98, v99, k0_hw3⟩ : Σ' (v97 : Elt F .i32) (v98 : BitVec 1) (v99 : Elt F .i32), k0_chk3 i v3 v6 v97 v99 ← k0_part1_skel i arg2 harg2 arg3 harg3 arg4 harg4 arg5 harg5 arg6 harg6 arg7 harg7 arg8 harg8 arg9 harg9 arg10 harg10 arg11 harg11 arg12 harg12 arg13 arg0 arg1 v3 v6 k0_h1
    if k0_h3 : k0_cond3 i v97 = 1#1 then do
      let v110 : DmaSems sig S1 := arg13.slice (Rect.unit (s := S2) ![0] S1.size inb_S2_S1_0)
      let v111 : DmaSems sig S_ := v110.squeeze S_ squeezes_S1_S_
      let v112 : Memref sig .tc .hbm S1x4096x512 .f32 := arg6.slice (Rect.unit (s := S1x4096x14336) (k0_off7 i v97 v99) S1x4096x512.size (k0_off7_inb i v3 v6 v97 v99 k0_hw3 k0_h1 k0_h3)) (fun _ => rfl)
      let v113 : Memref sig .tc .hbm S4096x512 .f32 := v112.squeeze S4096x512 squeezes_S1x4096x512_S4096x512
      Prog.lift (.enqueueDma v113 (.here arg9) (.dma v111.sem) ((View.wordExact_bits rfl).reshape _ _) harg9.wordExact ⟨Or.inl rfl, trivial⟩)
      let v116 : DmaSems sig S1 := arg13.slice (Rect.unit (s := S2) ![1] S1.size inb_S2_S1_1)
      let v117 : DmaSems sig S_ := v116.squeeze S_ squeezes_S1_S_
      let v118 : Memref sig .tc .hbm S1x4096x512 .f32 := arg7.slice (Rect.unit (s := S1x4096x14336) (k0_off7 i v97 v99) S1x4096x512.size (k0_off7_inb i v3 v6 v97 v99 k0_hw3 k0_h1 k0_h3)) (fun _ => rfl)
      let v119 : Memref sig .tc .hbm S4096x512 .f32 := v118.squeeze S4096x512 squeezes_S1x4096x512_S4096x512
      Prog.lift (.enqueueDma v119 (.here arg10) (.dma v117.sem) ((View.wordExact_bits rfl).reshape _ _) harg10.wordExact ⟨Or.inl rfl, trivial⟩)
      pure ⟨⟩
    else do
      pure ⟨⟩
    pure ⟨⟩
  else do
    pure ⟨⟩
  let v12 : Elt F .i32 ← smemLoad arg3 (Rect.unit (s := S8) (k0_off8 i) S1.size (k0_off8_inb i)) numel1_S1 rfl
  k v12

/-- The body is its two parts, one after the other. -/
theorem body_eq (i : grid0.Coords) (arg2 : Memref sig .tc .smem S8 .i32) (harg2 : arg2.IsWhole) (arg3 : Memref sig .tc .smem S8 .i32) (harg3 : arg3.IsWhole) (arg4 : Memref sig .tc .smem S8 .i32) (harg4 : arg4.IsWhole) (arg5 : Memref sig .tc .vmem S1024x4096 .bf16) (harg5 : arg5.IsWhole) (arg6 : Memref sig .tc .hbm S1x4096x14336 .f32) (harg6 : arg6.IsWhole) (arg7 : Memref sig .tc .hbm S1x4096x14336 .f32) (harg7 : arg7.IsWhole) (arg8 : Memref sig .tc .vmem S1024x512 .bf16) (harg8 : arg8.IsWhole) (arg9 : Memref sig .tc .vmem S4096x512 .f32) (harg9 : arg9.IsWhole) (arg10 : Memref sig .tc .vmem S4096x512 .f32) (harg10 : arg10.IsWhole) (arg11 : Memref sig .tc .vmem S4096x512 .bf16) (harg11 : arg11.IsWhole) (arg12 : Memref sig .tc .vmem S4096x512 .bf16) (harg12 : arg12.IsWhole) (arg13 : DmaSems sig S2) :
    cc0_matmul_swiglu_in_skel (F := F) i arg2 harg2 arg3 harg3 arg4 harg4 arg5 harg5 arg6 harg6 arg7 harg7 arg8 harg8 arg9 harg9 arg10 harg10 arg11 harg11 arg12 harg12 arg13 = weightsThen i arg2 harg2 arg3 harg3 arg4 harg4 arg5 harg5 arg6 harg6 arg7 harg7 arg8 harg8 arg9 harg9 arg10 harg10 arg11 harg11 arg12 harg12 arg13 (rowsTail i arg2 harg2 arg3 harg3 arg4 harg4 arg5 harg5 arg6 harg6 arg7 harg7 arg8 harg8 arg9 harg9 arg10 harg10 arg11 harg11 arg12 harg12 arg13) := by
  unfold cc0_matmul_swiglu_in_skel weightsThen rowsTail
  simp only [k0_part1_eq_skeleton]

/-- The kernel's body at a grid point, on its windows. -/
abbrev bodyAt (i : grid0.Coords) (arg5 : Memref sig .tc .vmem S1024x4096 .bf16) (harg5 : arg5.IsWhole)
    (arg8 : Memref sig .tc .vmem S1024x512 .bf16) (harg8 : arg8.IsWhole) : Prog (TpuEff nD τ sig (Elt F) Λ₀ .tc) PUnit :=
  cc0_matmul_swiglu_in_skel i (Memref.whole main_v0) (Memref.isWhole_whole _) (Memref.whole main_v1) (Memref.isWhole_whole _)
    (Memref.whole main_v12) (Memref.isWhole_whole _) arg5 harg5 (Memref.whole main_arg1) (Memref.isWhole_whole _)
    (Memref.whole main_arg2) (Memref.isWhole_whole _) arg8 harg8 (Memref.whole cc0_scratch0) (Memref.isWhole_whole _)
    (Memref.whole cc0_scratch1) (Memref.isWhole_whole _) (Memref.whole cc0_scratch2) (Memref.isWhole_whole _)
    (Memref.whole cc0_scratch3) (Memref.isWhole_whole _) cc0_scratch4

/-- A word of a table, at the offset a load names. -/
def word (te : Vec F S8 .i32) (off : Fin 1 → ℕ) (h : ∀ a, off a + S1.size a ≤ S8.size a) : BitVec 32 :=
  te (fun a => ⟨off a, by have := h a; have e : S1.size a = 1 := by match a with | ⟨0, _⟩ => rfl
                          omega⟩)

/-- A buffer held whole. -/
abbrev held (c : Dev nD) {S : Shape} {e : EltTy} {sp : Space} (M : Memref sig .tc sp S e) (f : Buf (Elt F) (M.view.loc (c : Thread nD τ))) : sProp 𝕄 :=
  M.view.loc (c : Thread nD τ) ↦{fullShare} f

/-- The block of a weight at an offset. -/
abbrev blkOf (M : Memref sig .tc .hbm S1x4096x14336 .f32) (off : Fin 3 → ℕ) (h : ∀ a, off a + S1x4096x512.size a ≤ S1x4096x14336.size a) :
    Memref sig .tc .hbm S4096x512 .f32 :=
  (M.slice (Rect.unit (s := S1x4096x14336) off S1x4096x512.size h) (fun _ => rfl)).squeeze S4096x512 squeezes_S1x4096x512_S4096x512

abbrev MW1 : Memref sig .tc .hbm S1x4096x14336 .f32 := Memref.whole main_arg1
abbrev MW2 : Memref sig .tc .hbm S1x4096x14336 .f32 := Memref.whole main_arg2
abbrev MT : Memref sig .tc .smem S8 .i32 := Memref.whole main_v0
abbrev MM : Memref sig .tc .smem S8 .i32 := Memref.whole main_v1
abbrev MX : Memref sig .tc .smem S8 .i32 := Memref.whole main_v12
abbrev MF1 : Memref sig .tc .vmem S4096x512 .f32 := Memref.whole cc0_scratch0
abbrev MF2 : Memref sig .tc .vmem S4096x512 .f32 := Memref.whole cc0_scratch1
abbrev MB1 : Memref sig .tc .vmem S4096x512 .bf16 := Memref.whole cc0_scratch2
abbrev MB2 : Memref sig .tc .vmem S4096x512 .bf16 := Memref.whole cc0_scratch3

/-- A table of words, held at half. -/
def tbl (c : Dev nD) {S : Shape} {e : EltTy} {sp : Space} (M : Memref sig .tc sp S e) (f : Buf (Elt F) (M.view.loc (c : Thread nD τ))) : sProp 𝕄 :=
  M.view.loc (c : Thread nD τ) ↦[Finset.univ]{fullShare.right} f

/-- The first part of the body on its windows, then `k`. -/
abbrev weightsAt {X : Type} (i : grid0.Coords) (arg5 : Memref sig .tc .vmem S1024x4096 .bf16) (harg5 : arg5.IsWhole)
    (arg8 : Memref sig .tc .vmem S1024x512 .bf16) (harg8 : arg8.IsWhole) (k : Elt F .i32 → Prog (TpuEff nD τ sig (Elt F) Λ₀ .tc) X) :
    Prog (TpuEff nD τ sig (Elt F) Λ₀ .tc) X :=
  weightsThen i (Memref.whole main_v0) (Memref.isWhole_whole _) (Memref.whole main_v1) (Memref.isWhole_whole _)
    (Memref.whole main_v12) (Memref.isWhole_whole _) arg5 harg5 (Memref.whole main_arg1) (Memref.isWhole_whole _)
    (Memref.whole main_arg2) (Memref.isWhole_whole _) arg8 harg8 (Memref.whole cc0_scratch0) (Memref.isWhole_whole _)
    (Memref.whole cc0_scratch1) (Memref.isWhole_whole _) (Memref.whole cc0_scratch2) (Memref.isWhole_whole _)
    (Memref.whole cc0_scratch3) (Memref.isWhole_whole _) cc0_scratch4 k

/-- The block of a weight that begins at an offset. -/
def blkAt (Wt : Vec F S1x4096x14336 .f32) (off : Fin 3 → ℕ) : Vec F S4096x512 .f32 := fun x =>
  Wt (ix3 (n0 := 1) (n1 := 4096) (n2 := 14336) ⟨off 0 % 1, Nat.mod_lt _ (by decide)⟩ ⟨(off 1 + (x 0).val) % 4096, Nat.mod_lt _ (by decide)⟩
    ⟨(off 2 + (x 1).val) % 14336, Nat.mod_lt _ (by decide)⟩)

/-- A copy's source, read. -/
theorem read_blk1 (off : Fin 3 → ℕ) (h : ∀ a, off a + S1x4096x512.size a ≤ S1x4096x14336.size a) (Wt : Vec F S1x4096x14336 .f32) :
    (blkOf MW1 off h).view.read (Elt F) Wt = blkAt Wt off := by
  have h0 := h 0
  have h1 := h 1
  have h2 := h 2
  change off 0 + 1 ≤ 1 at h0
  change off 1 + 4096 ≤ 4096 at h1
  change off 2 + 512 ≤ 14336 at h2
  have key : ∀ (p : Fin 4096) (q : Fin 512), (blkOf MW1 off h).view.read (Elt F) Wt (ix2 p q) = blkAt Wt off (ix2 p q) := by
    intro p q
    have e : (blkOf MW1 off h).view.read (Elt F) Wt (ix2 p q)
        = Wt ((Rect.unit (s := S1x4096x14336) off S1x4096x512.size h).emb (Shape.reshapeEquiv (s := S1x4096x512) squeezes_S1x4096x512_S4096x512.numel_eq (ix2 p q))) := rfl
    rw [e, show Shape.reshapeEquiv (s := S1x4096x512) squeezes_S1x4096x512_S4096x512.numel_eq (ix2 p q)
        = ix3 (⟨0, Nat.one_pos⟩ : Fin 1) p q from reshapeEquiv_ix2_1ab _ _ _]
    unfold blkAt
    refine congrArg Wt (funext fun a => ?_)
    have x0 := p.isLt
    have x1 := q.isLt
    match a with
    | ⟨0, _⟩ => exact Fin.ext (by show off 0 + 0 * 1 = off 0 % 1; omega)
    | ⟨1, _⟩ => exact Fin.ext (by show off 1 + 1 * p.val = (off 1 + p.val) % 4096; omega)
    | ⟨2, _⟩ => exact Fin.ext (by show off 2 + 1 * q.val = (off 2 + q.val) % 14336; omega)
  funext x
  exact (congrArg _ (eq_ix2 x)).trans ((key (x 0) (x 1)).trans (congrArg _ (eq_ix2 x).symm))

/-- A copy's source, read. -/
theorem read_blk2 (off : Fin 3 → ℕ) (h : ∀ a, off a + S1x4096x512.size a ≤ S1x4096x14336.size a) (Wt : Vec F S1x4096x14336 .f32) :
    (blkOf MW2 off h).view.read (Elt F) Wt = blkAt Wt off := read_blk1 off h Wt

/-- A block of a weight on its way into its buffer; the weight is held but for the block. -/
def flying (c : Dev nD) (MW : Memref sig .tc .hbm S1x4096x14336 .f32) (MF : Memref sig .tc .vmem S4096x512 .f32) (sm : SemLoc sig)
    (f : Buf (Elt F) (MW.view.loc (c : Thread nD τ))) (g : Buf (Elt F) (MF.view.loc (c : Thread nD τ))) : sProp 𝕄 :=
  iprop(∃ I, Transfers.Flight (countersEmb (U := Pipeline.UD sig nD τ)) (c : Thread nD τ) sm default 262144
      iprop((MF.view.loc (c : Thread nD τ) ↦{fullShare} g) ∗ (MW.view.loc (c : Thread nD τ) ↦[I]{fullShare} f))
    ∗ (MW.view.loc (c : Thread nD τ) ↦[Finset.univ \ I]{fullShare} f))

/-- Nothing is on its way: the weight and its buffer are held. -/
def idleAt (c : Dev nD) (MW : Memref sig .tc .hbm S1x4096x14336 .f32) (MF : Memref sig .tc .vmem S4096x512 .f32) (sm : SemLoc sig)
    (f : Buf (Elt F) (MW.view.loc (c : Thread nD τ))) : sProp 𝕄 :=
  iprop((MW.view.loc (c : Thread nD τ) ↦{fullShare} f) ∗ (∃ g, MF.view.loc (c : Thread nD τ) ↦{fullShare} g) ∗ semVal ((c : Thread nD τ), sm) 0)

/-- The two blocks on their way, or none. -/
def pend (c : Dev nD) (W1 W2 : Vec F S1x4096x14336 .f32) : Option (Fin 3 → ℕ) → sProp 𝕄
  | some off => iprop(flying c MW1 MF1 (SemLoc.dma 4) W1 (blkAt W1 off) ∗ flying c MW2 MF2 (SemLoc.dma 5) W2 (blkAt W2 off))
  | none => iprop(idleAt c MW1 MF1 (SemLoc.dma 4) W1 ∗ idleAt c MW2 MF2 (SemLoc.dma 5) W2)

/-- The two spellings of where the expert's block begins. -/
theorem off4_eq (i : grid0.Coords) (v : BitVec 32) : k0_off4 i v = k0_off5 i v := rfl

/-- A copy just started is a block on its way. -/
theorem to_flying (c : Dev nD) (MW : Memref sig .tc .hbm S1x4096x14336 .f32) (MF : Memref sig .tc .vmem S4096x512 .f32) (sm : SemLoc sig)
    (f : Buf (Elt F) (MW.view.loc (c : Thread nD τ))) (g g' : Buf (Elt F) (MF.view.loc (c : Thread nD τ))) (I : Finset (Idx (MW.view.loc (c : Thread nD τ)))) (h : g' = g) :
    iprop(Transfers.Flight (countersEmb (U := Pipeline.UD sig nD τ)) (c : Thread nD τ) sm default 262144
      iprop((MF.view.loc (c : Thread nD τ) ↦{fullShare} g') ∗ (MW.view.loc (c : Thread nD τ) ↦[I]{fullShare} f))
      ∗ (MW.view.loc (c : Thread nD τ) ↦[Finset.univ \ I]{fullShare} f)) ⊢ (flying c MW MF sm f g : sProp 𝕄) := by
  subst h
  unfold flying
  iintro ⟨H1, H2⟩
  iexists I
  isplitl [H1]; · iexact H1
  iexact H2

/-- A buffer held, as its contents read. -/
theorem own_intro (c : Dev nD) {S : Shape} {e : EltTy} {sp : Space} (M : Memref sig .tc sp S e) (f : Buf (Elt F) (M.view.loc (c : Thread nD τ)))
    (A : Vec F S e) (h : M.view.read (Elt F) f = A) :
    (M.view.loc (c : Thread nD τ) ↦[M.view.set]{fullShare} f) ⊢ (owns (c : Thread nD τ) M fullShare A : sProp 𝕄) := by
  unfold owns
  iintro H
  iexists f
  isplitr [H]; · ipureintro; exact h
  iexact H

/-- What the first part of the body leaves: the blocks at `cur` cast, the blocks at `p` on their way. -/
def weightsPost (c : Dev nD) (te md nx : Vec F S8 .i32) (W1 W2 : Vec F S1x4096x14336 .f32) (cur : Fin 3 → ℕ) (p : Option (Fin 3 → ℕ)) : sProp 𝕄 :=
  iprop(tbl c MT te ∗ tbl c MM md ∗ tbl c MX nx ∗ pend c W1 W2 p
    ∗ owns (c : Thread nD τ) MB1 fullShare (k0_pay3 (blkAt W1 cur)) ∗ owns (c : Thread nD τ) MB2 fullShare (k0_pay4 (blkAt W2 cur)) ∗ (∃ W', owes (c : Thread nD τ) 0 W'))

/-- A cast stored whole over a buffer. -/
theorem cast_stored1 (b : Vec F S4096x512 .bf16) (g : Vec F S4096x512 .f32) :
    MB1.view.read (Elt F) (MB1.view.writes (Elt F) b [⟨Rect.unit (s := S4096x512) ![0, 0] S4096x512.size inb_S4096x512_S4096x512_0_0,
      k0_pay3 (View.readAt (Elt F) MF1.view (Rect.unit (s := S4096x512) ![0, 0] S4096x512.size inb_S4096x512_S4096x512_0_0).toLoadRect g)⟩])
      = k0_pay3 (F := F) g := by
  rw [View.readAt_full MF1.view]
  exact View.read_writes_full MB1.view b _ _ []

/-- A cast stored whole over a buffer. -/
theorem cast_stored2 (b : Vec F S4096x512 .bf16) (g : Vec F S4096x512 .f32) :
    MB2.view.read (Elt F) (MB2.view.writes (Elt F) b [⟨Rect.unit (s := S4096x512) ![0, 0] S4096x512.size inb_S4096x512_S4096x512_0_0,
      k0_pay4 (View.readAt (Elt F) MF2.view (Rect.unit (s := S4096x512) ![0, 0] S4096x512.size inb_S4096x512_S4096x512_0_0).toLoadRect g)⟩])
      = k0_pay4 (F := F) g := by
  rw [View.readAt_full MF2.view]
  exact View.read_writes_full MB2.view b _ _ []

/-- A grid point that brings in an expert's blocks, and starts the next ones'. -/
theorem weights_new {X : Type} (c : Dev nD) (K : X → sProp 𝕄) (i : grid0.Coords) (arg5 : Memref sig .tc .vmem S1024x4096 .bf16) (harg5 : arg5.IsWhole)
    (arg8 : Memref sig .tc .vmem S1024x512 .bf16) (harg8 : arg8.IsWhole) (k : Elt F .i32 → Prog (TpuEff nD τ sig (Elt F) Λ₀ .tc) X)
    (te md nx : Vec F S8 .i32)
    (W1 W2 : Vec F S1x4096x14336 .f32) (W : Waits sig Unit)
    (hc1 : k0_cond1 i (word te (k0_off1 i) (k0_off1_inb i)) (word te (k0_off2 i) (k0_off2_inb i)) = 1#1)
    (hk1 : k0_chk1 i (word te (k0_off1 i) (k0_off1_inb i)) (word te (k0_off2 i) (k0_off2_inb i)) (word te (k0_off3 i) (k0_off3_inb i)))
    (hk2 : k0_chk2 i (word te (k0_off1 i) (k0_off1_inb i)) (word te (k0_off2 i) (k0_off2_inb i)) (word nx (k0_off6 i) (k0_off6_inb i)))
    (hk3 : k0_chk3 i (word te (k0_off1 i) (k0_off1_inb i)) (word te (k0_off2 i) (k0_off2_inb i)) (word nx (k0_off6 i) (k0_off6_inb i)) (word te ![0] inb_S8_S1_0)) :
    iprop(tbl c MT te ∗ tbl c MM md ∗ tbl c MX nx
      ∗ pend c W1 W2 (if k0_cond2 i = 1#1 then none else some (k0_off5 i (word te (k0_off3 i) (k0_off3_inb i))))
      ∗ (∃ A, owns (c : Thread nD τ) MB1 fullShare A) ∗ (∃ A, owns (c : Thread nD τ) MB2 fullShare A)
      ∗ owes (c : Thread nD τ) 0 W
      ∗ (weightsPost c te md nx W1 W2 (k0_off5 i (word te (k0_off3 i) (k0_off3_inb i)))
          (if k0_cond3 i (word nx (k0_off6 i) (k0_off6_inb i)) = 1#1 then some (k0_off7 i (word nx (k0_off6 i) (k0_off6_inb i)) (word te ![0] inb_S8_S1_0)) else none)
        -∗ wp frame (wpE (defs₀ (F := F)) Variants.none c none) Set.univ (k (word md (k0_off8 i) (k0_off8_inb i))) K))
      ⊢ wp frame (wpE (defs₀ (F := F)) Variants.none c none) Set.univ (weightsAt i arg5 harg5 arg8 harg8 k) K := by
  by_cases hc2 : k0_cond2 i = 1#1 <;> by_cases hc3 : k0_cond3 i (word nx (k0_off6 i) (k0_off6_inb i)) = 1#1
  · rw [if_pos hc2, if_pos hc3]
    unfold weightsAt weightsThen owns tbl pend idleAt
    iintro ⟨HT, HM, HX, ⟨⟨HW1, ⟨%g1, Hf1⟩, HF1⟩, ⟨HW2, ⟨%g2, Hf2⟩, HF2⟩⟩, ⟨%A1, %b1, %hb1, HB1⟩, ⟨%A2, %b2, %hb2, HB2⟩, HO, HK⟩
    sl_exec (disch := first | sl_exact hc1 | sl_exact hc2 | sl_exact hc3 | sl_exact hk1 | sl_exact hk2 | sl_exact hk3)
    iapply HK
    unfold weightsPost tbl pend
    isplitl [HT]; · iexact HT
    isplitl [HM]; · iexact HM
    isplitl [HX]; · iexact HX
    isplitl [HF1 HW1 HF2 HW2]
    · isplitl [HF1 HW1]
      · iapply (to_flying c MW1 MF1 (SemLoc.dma 4) W1 _ _ _ ((View.write_whole_univ cc0_scratch0 _ _).trans (read_blk1 (k0_off7 i _ _) _ W1)))
        isplitl [HF1]; · iexact HF1
        iexact HW1
      · iapply (to_flying c MW2 MF2 (SemLoc.dma 5) W2 _ _ _ ((View.write_whole_univ cc0_scratch1 _ _).trans (read_blk2 (k0_off7 i _ _) _ W2)))
        isplitl [HF2]; · iexact HF2
        iexact HW2
    isplitl [HB1]
    · iapply (own_intro c MB1 _ _ ((cast_stored1 b1 _).trans (congrArg k0_pay3 ((View.write_whole_univ cc0_scratch0 _ _).trans ((read_blk1 (k0_off4 i _) _ W1).trans (congrArg (blkAt W1) (off4_eq i _)))))))
      iexact HB1
    isplitl [HB2]
    · iapply (own_intro c MB2 _ _ ((cast_stored2 b2 _).trans (congrArg k0_pay4 ((View.write_whole_univ cc0_scratch1 _ _).trans ((read_blk2 (k0_off4 i _) _ W2).trans (congrArg (blkAt W2) (off4_eq i _)))))))
      iexact HB2
    iexists _; iexact HO
  · exact absurd (cond3_of_cond2 i _ hc2) hc3
  · rw [if_neg hc2, if_pos hc3]
    unfold weightsAt weightsThen owns tbl pend flying
    iintro ⟨HT, HM, HX, ⟨⟨%I1, HF1, HW1⟩, ⟨%I2, HF2, HW2⟩⟩, ⟨%A1, %b1, %hb1, HB1⟩, ⟨%A2, %b2, %hb2, HB2⟩, HO, HK⟩
    sl_exec (disch := first | sl_exact hc1 | sl_exact hc2 | sl_exact hc3 | sl_exact hk1 | sl_exact hk2 | sl_exact hk3)
    iapply HK
    unfold weightsPost tbl pend
    isplitl [HT]; · iexact HT
    isplitl [HM]; · iexact HM
    isplitl [HX]; · iexact HX
    isplitl [HF1 HW1 HF2 HW2]
    · isplitl [HF1 HW1]
      · iapply (to_flying c MW1 MF1 (SemLoc.dma 4) W1 _ _ _ ((View.write_whole_univ cc0_scratch0 _ _).trans (read_blk1 (k0_off7 i _ _) _ W1)))
        isplitl [HF1]; · iexact HF1
        iexact HW1
      · iapply (to_flying c MW2 MF2 (SemLoc.dma 5) W2 _ _ _ ((View.write_whole_univ cc0_scratch1 _ _).trans (read_blk2 (k0_off7 i _ _) _ W2)))
        isplitl [HF2]; · iexact HF2
        iexact HW2
    isplitl [HB1]
    · iapply (own_intro c MB1 _ _ (cast_stored1 b1 _))
      iexact HB1
    isplitl [HB2]
    · iapply (own_intro c MB2 _ _ (cast_stored2 b2 _))
      iexact HB2
    iexists _; iexact HO
  · rw [if_neg hc2, if_neg hc3]
    unfold weightsAt weightsThen owns tbl pend flying
    iintro ⟨HT, HM, HX, ⟨⟨%I1, HF1, HW1⟩, ⟨%I2, HF2, HW2⟩⟩, ⟨%A1, %b1, %hb1, HB1⟩, ⟨%A2, %b2, %hb2, HB2⟩, HO, HK⟩
    sl_exec (disch := first | sl_exact hc1 | sl_exact hc2 | sl_exact hc3 | sl_exact hk1 | sl_exact hk2 | sl_exact hk3)
    iapply HK
    unfold weightsPost tbl pend idleAt
    isplitl [HT]; · iexact HT
    isplitl [HM]; · iexact HM
    isplitl [HX]; · iexact HX
    isplitl [HF1 HW1 HF1_dst HF2 HW2 HF2_dst]
    · isplitl [HF1 HW1 HF1_dst]
      · isplitl [HW1]; · iexact HW1
        isplitl [HF1_dst]; · iexists _; iexact HF1_dst
        iexact HF1
      · isplitl [HW2]; · iexact HW2
        isplitl [HF2_dst]; · iexists _; iexact HF2_dst
        iexact HF2
    isplitl [HB1]
    · iapply (own_intro c MB1 _ _ (cast_stored1 b1 _))
      iexact HB1
    isplitl [HB2]
    · iapply (own_intro c MB2 _ _ (cast_stored2 b2 _))
      iexact HB2
    iexists _; iexact HO

/-- A grid point that keeps the blocks of the one before. -/
theorem weights_kept {X : Type} (c : Dev nD) (K : X → sProp 𝕄) (i : grid0.Coords) (arg5 : Memref sig .tc .vmem S1024x4096 .bf16) (harg5 : arg5.IsWhole)
    (arg8 : Memref sig .tc .vmem S1024x512 .bf16) (harg8 : arg8.IsWhole) (k : Elt F .i32 → Prog (TpuEff nD τ sig (Elt F) Λ₀ .tc) X)
    (te md nx : Vec F S8 .i32)
    (hc1 : ¬ k0_cond1 i (word te (k0_off1 i) (k0_off1_inb i)) (word te (k0_off2 i) (k0_off2_inb i)) = 1#1) :
    iprop(tbl c MT te ∗ tbl c MM md
      ∗ (iprop(tbl c MT te ∗ tbl c MM md)
        -∗ wp frame (wpE (defs₀ (F := F)) Variants.none c none) Set.univ (k (word md (k0_off8 i) (k0_off8_inb i))) K))
      ⊢ wp frame (wpE (defs₀ (F := F)) Variants.none c none) Set.univ (weightsAt i arg5 harg5 arg8 harg8 k) K := by
  unfold weightsAt weightsThen tbl
  iintro ⟨HT, HM, HK⟩
  sl_exec (disch := sl_exact hc1)
  iapply HK
  isplitl [HT]; · iexact HT
  iexact HM

end Cert.DenseIdeal.Ffn
end
end
-- ==== Proof.FfnPoint.lean ====
/- A grid point of the dense kernel on what the points before it leave: which blocks are cast, and which are on their way. -/
module

public import proofs.«01_k».proof.Proof.FfnBody

@[expose] public section

set_option maxRecDepth 16384
set_option maxHeartbeats 4000000

noncomputable section

namespace Cert.DenseIdeal.Ffn

open Idealize.ShloMosaic Idealize.ShloMosaic.ValueIdx Idealize.ShloMosaic.TcCoe Idealize.ShloMosaic.Tactic Cert.DenseIdeal Cert.DenseIdeal.Gen
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => Idealize.ShloMosaic.MT nD τ sig Unit (Elt F) ℕ (Pipeline.UD sig nD τ) ℕ

/-- Entry `j` of a table. -/
def ent (te : Vec F S8 .i32) (j : ℕ) : BitVec 32 := te (ix1 (n := 8) ⟨j % 8, Nat.mod_lt _ (by decide)⟩)

/-- The word a load names is the entry at its offset. -/
theorem word_ent (te : Vec F S8 .i32) (off : Fin 1 → ℕ) (h : ∀ a, off a + S1.size a ≤ S8.size a) : word te off h = ent te (off 0) := by
  unfold word ent
  congr 1
  funext a
  match a with
  | ⟨0, _⟩ =>
    have := h 0
    have e1 : S1.size 0 = 1 := rfl
    have e2 : S8.size 0 = 8 := rfl
    exact Fin.ext (show off 0 = off 0 % 8 by omega)

/-- The tables of experts, of tile kinds and of next experts fit together. -/
structure Good (te md nx : Vec F S8 .i32) : Prop where
  te_lt : ∀ j, (ent te j).toNat < 1
  kind : ∀ j, IsKind (ent md j)
  last : (ent nx 7).toInt < 0
  change : ∀ j, j + 1 < 8 → ent te (j + 1) ≠ ent te j → ent nx j = ent te (j + 1)
  keep : ∀ j, j + 1 < 8 → ent te (j + 1) = ent te j → ent nx (j + 1) = ent nx j
  nx_lt : ∀ j, 0 ≤ (ent nx j).toInt → (ent nx j).toNat < 1

/-- Where the blocks of tile `j` in column block `n` begin. -/
def curOff (te : Vec F S8 .i32) (n j : ℕ) : Fin 3 → ℕ := ![(ent te j).toNat, 0, 512 * n]

/-- Where the blocks on their way after that tile begin, if any are. -/
def nextOff (te nx : Vec F S8 .i32) (n j : ℕ) : Option (Fin 3 → ℕ) :=
  if 0 ≤ (ent nx j).toInt then some ![(ent nx j).toNat, 0, 512 * n] else if n + 1 < 28 then some ![(ent te 0).toNat, 0, 512 * (n + 1)] else none

/-- What holds before grid point `s`. -/
def inv (c : Dev nD) (te md nx : Vec F S8 .i32) (W1 W2 : Vec F S1x4096x14336 .f32) : ℕ → sProp 𝕄
  | 0 => iprop(tbl c MT te ∗ tbl c MM md ∗ tbl c MX nx ∗ pend c W1 W2 none
      ∗ (∃ A, owns (c : Thread nD τ) MB1 fullShare A) ∗ (∃ A, owns (c : Thread nD τ) MB2 fullShare A))
  | s + 1 => iprop(tbl c MT te ∗ tbl c MM md ∗ tbl c MX nx ∗ pend c W1 W2 (nextOff te nx (s / 8) (s % 8))
      ∗ owns (c : Thread nD τ) MB1 fullShare (k0_pay3 (blkAt W1 (curOff te (s / 8) (s % 8)))) ∗ owns (c : Thread nD τ) MB2 fullShare (k0_pay4 (blkAt W2 (curOff te (s / 8) (s % 8)))))

/-- After a grid point. -/
theorem inv_succ (c : Dev nD) (te md nx : Vec F S8 .i32) (W1 W2 : Vec F S1x4096x14336 .f32) (s : ℕ) :
    inv c te md nx W1 W2 (s + 1) = iprop(tbl c MT te ∗ tbl c MM md ∗ tbl c MX nx ∗ pend c W1 W2 (nextOff te nx (s / 8) (s % 8))
      ∗ owns (c : Thread nD τ) MB1 fullShare (k0_pay3 (blkAt W1 (curOff te (s / 8) (s % 8)))) ∗ owns (c : Thread nD τ) MB2 fullShare (k0_pay4 (blkAt W2 (curOff te (s / 8) (s % 8))))) := rfl

/-- What a grid point that brings in blocks finds. -/
theorem inv_new (c : Dev nD) (te md nx : Vec F S8 .i32) (W1 W2 : Vec F S1x4096x14336 .f32) (g : Good te md nx) (i : grid0.Coords) (s : ℕ)
    (h0 : (i 0).val = s / 8) (h1 : (i 1).val = s % 8)
    (hc1 : k0_cond1 i (word te (k0_off1 i) (k0_off1_inb i)) (word te (k0_off2 i) (k0_off2_inb i)) = 1#1) :
    inv c te md nx W1 W2 s ⊢ iprop(tbl c MT te ∗ tbl c MM md ∗ tbl c MX nx
      ∗ pend c W1 W2 (if k0_cond2 i = 1#1 then none else some (k0_off5 i (word te (k0_off3 i) (k0_off3_inb i))))
      ∗ (∃ A, owns (c : Thread nD τ) MB1 fullShare A) ∗ (∃ A, owns (c : Thread nD τ) MB2 fullShare A)) := by
  have hn := n_lt i
  match s with
  | 0 => rw [if_pos ((cond2_iff i).mpr ⟨h0, h1⟩)]; exact .rfl
  | s + 1 =>
    have hc2 : ¬ k0_cond2 i = 1#1 := fun h => by have := (cond2_iff i).mp h; omega
    have e : nextOff te nx (s / 8) (s % 8) = some (k0_off5 i (word te (k0_off3 i) (k0_off3_inb i))) := by
      rw [word_ent, off3_eq, off5_eq]
      unfold nextOff
      by_cases hm : (i 1).val = 0
      · have e1 : s % 8 = 7 := by omega
        have e2 : s / 8 + 1 = (i 0).val := by omega
        rw [if_neg (by rw [e1]; exact not_le.mpr g.last), e2, if_pos hn, hm]
      · have e1 : (i 1).val = s % 8 + 1 := by omega
        have e2 : s / 8 = (i 0).val := by omega
        have hd : ent te (s % 8 + 1) ≠ ent te (s % 8) := by
          rcases (cond1_iff i _ _).mp hc1 with h | h
          · exact absurd h hm
          · rw [word_ent, word_ent, off1_eq, off2_eq, e1, Nat.add_sub_cancel] at h
            exact h
        rw [g.change _ (by omega) hd, ← e1, e2]
        have hl := g.te_lt (i 1).val
        rw [if_pos (by rw [BitVec.toInt_eq_toNat_of_lt (by omega)]; omega)]
    rw [if_neg hc2, ← e, inv_succ]
    iintro ⟨H1, H2, H3, H4, H5, H6⟩
    isplitl [H1]; · iexact H1
    isplitl [H2]; · iexact H2
    isplitl [H3]; · iexact H3
    isplitl [H4]; · iexact H4
    isplitl [H5]; · iexists _; iexact H5
    iexists _; iexact H6

/-- The blocks on their way after a grid point that started some. -/
theorem next_eq (te nx : Vec F S8 .i32) (i : grid0.Coords) :
    (if k0_cond3 i (word nx (k0_off6 i) (k0_off6_inb i)) = 1#1 then
      some (k0_off7 i (word nx (k0_off6 i) (k0_off6_inb i)) (word te ![0] inb_S8_S1_0)) else none) = nextOff te nx (i 0).val (i 1).val := by
  rw [word_ent, word_ent, off6_eq, off7_eq]
  unfold nextOff
  by_cases h : 0 ≤ (ent nx (i 1).val).toInt
  · rw [if_pos ((cond3_iff i _).mpr (.inl h)), if_pos h, if_pos h]
  · rw [if_neg h, if_neg h]
    by_cases h' : (i 0).val + 1 < 28
    · rw [if_pos ((cond3_iff i _).mpr (.inr h')), if_pos h']; rfl
    · rw [if_neg h', if_neg fun hc => ((cond3_iff i _).mp hc).elim h h']

/-- A grid point: the tile's rows are written, and what the next point needs holds. -/
theorem point (c : Dev nD) (K : PUnit → sProp 𝕄) (i : grid0.Coords) (arg5 : Memref sig .tc .vmem S1024x4096 .bf16) (harg5 : arg5.IsWhole)
    (arg8 : Memref sig .tc .vmem S1024x512 .bf16) (harg8 : arg8.IsWhole) (te md nx : Vec F S8 .i32) (g : Good te md nx)
    (W1 W2 : Vec F S1x4096x14336 .f32) (s : ℕ) (h0 : (i 0).val = s / 8) (h1 : (i 1).val = s % 8) (W : Waits sig Unit)
    (H : Vec F S1024x4096 .bf16) (D : Vec F S1024x512 .bf16) :
    iprop(inv c te md nx W1 W2 s ∗ owes (c : Thread nD τ) 0 W ∗ owns (c : Thread nD τ) arg5 fullShare H ∗ owns (c : Thread nD τ) arg8 fullShare D
      ∗ (iprop(inv c te md nx W1 W2 (s + 1) ∗ (∃ W', owes (c : Thread nD τ) 0 W') ∗ owns (c : Thread nD τ) arg5 fullShare H
          ∗ owns (c : Thread nD τ) arg8 fullShare (k0_pay1 H (k0_pay3 (blkAt W1 (curOff te (s / 8) (s % 8)))) (k0_pay4 (blkAt W2 (curOff te (s / 8) (s % 8)))))) -∗ K ⟨⟩))
      ⊢ wp frame (wpE (defs₀ (F := F)) Variants.none c none) Set.univ (bodyAt i arg5 harg5 arg8 harg8) K := by
  unfold bodyAt
  rw [body_eq]
  have hM : word md (k0_off8 i) (k0_off8_inb i) = ent md (s % 8) := by rw [word_ent, off8_eq, h1]
  have hcur : k0_off5 i (word te (k0_off3 i) (k0_off3_inb i)) = curOff te (s / 8) (s % 8) := by
    rw [off5_eq, word_ent, off3_eq, h0, h1]; rfl
  have hK : IsKind (ent md (s % 8)) := g.kind _
  by_cases hc1 : k0_cond1 i (word te (k0_off1 i) (k0_off1_inb i)) (word te (k0_off2 i) (k0_off2_inb i)) = 1#1
  · have hk1 : k0_chk1 i (word te (k0_off1 i) (k0_off1_inb i)) (word te (k0_off2 i) (k0_off2_inb i)) (word te (k0_off3 i) (k0_off3_inb i)) :=
      chk1_of i _ _ _ (by rw [word_ent]; exact g.te_lt _)
    have hk2 : k0_chk2 i (word te (k0_off1 i) (k0_off1_inb i)) (word te (k0_off2 i) (k0_off2_inb i)) (word nx (k0_off6 i) (k0_off6_inb i)) :=
      chk2_of i _ _ _
    have hk3 : k0_chk3 i (word te (k0_off1 i) (k0_off1_inb i)) (word te (k0_off2 i) (k0_off2_inb i)) (word nx (k0_off6 i) (k0_off6_inb i)) (word te ![0] inb_S8_S1_0) :=
      chk3_of i _ _ _ _ (by rw [word_ent]; exact g.nx_lt _) (by rw [word_ent]; exact g.te_lt _)
    iintro ⟨HI, HO, H5, H8, HK⟩
    ihave HI' := (inv_new c te md nx W1 W2 g i s h0 h1 hc1) $$ HI
    icases HI' with ⟨HT, HM, HX, HP, HA, HB⟩
    iapply (weights_new c K i arg5 harg5 arg8 harg8 _ te md nx W1 W2 W hc1 hk1 hk2 hk3)
    isplitl [HT]; · iexact HT
    isplitl [HM]; · iexact HM
    isplitl [HX]; · iexact HX
    isplitl [HP]; · iexact HP
    isplitl [HA]; · iexact HA
    isplitl [HB]; · iexact HB
    isplitl [HO]; · iexact HO
    rw [next_eq, hM, hcur, h0, h1]
    unfold weightsPost
    iintro ⟨HT, HM, HX, HP, HA, HB, HO⟩
    iapply (rows_run c K i _ _ _ _ _ _ _ _ _ _ _ _ _ _ _ _ _ _ _ _ _ _ _ (ent md (s % 8)) hK H D _ _)
    isplitl [H5]; · iexact H5
    isplitl [H8]; · iexact H8
    isplitl [HA]; · iexact HA
    isplitl [HB]; · iexact HB
    iintro ⟨H5, H8, HA, HB⟩
    iapply HK
    rw [inv_succ]
    isplitl [HT HM HX HP HA HB]
    · isplitl [HT]; · iexact HT
      isplitl [HM]; · iexact HM
      isplitl [HX]; · iexact HX
      isplitl [HP]; · iexact HP
      isplitl [HA]; · iexact HA
      iexact HB
    isplitl [HO]; · iexact HO
    isplitl [H5]; · iexact H5
    iexact H8
  · have hne := fun h => hc1 ((cond1_iff i _ _).mpr h)
    have hm : (i 1).val ≠ 0 := fun h => hne (.inl h)
    have hte : word te (k0_off2 i) (k0_off2_inb i) = word te (k0_off1 i) (k0_off1_inb i) := not_not.mp fun h => hne (.inr h)
    rw [word_ent, word_ent, off1_eq, off2_eq, h1] at hte
    match s, h0, h1 with
    | 0, h0, h1 => exact absurd h1 hm
    | s + 1, h0, h1 =>
      have e1 : (s + 1) % 8 = s % 8 + 1 := by omega
      have e2 : (s + 1) / 8 = s / 8 := by omega
      rw [e1, Nat.add_sub_cancel] at hte
      have hcu : curOff te ((s + 1) / 8) ((s + 1) % 8) = curOff te (s / 8) (s % 8) := by
        unfold curOff; rw [e1, e2, hte]
      have hnx : nextOff te nx ((s + 1) / 8) ((s + 1) % 8) = nextOff te nx (s / 8) (s % 8) := by
        unfold nextOff; rw [e1, e2, g.keep _ (by omega) hte]
      rw [inv_succ, inv_succ, hcu, hnx]
      iintro ⟨⟨HT, HM, HX, HP, HA, HB⟩, HO, H5, H8, HK⟩
      iapply (weights_kept c K i arg5 harg5 arg8 harg8 _ te md nx hc1)
      isplitl [HT]; · iexact HT
      isplitl [HM]; · iexact HM
      rw [hM]
      iintro ⟨HT, HM⟩
      iapply (rows_run c K i _ _ _ _ _ _ _ _ _ _ _ _ _ _ _ _ _ _ _ _ _ _ _ (ent md ((s + 1) % 8)) hK H D _ _)
      isplitl [H5]; · iexact H5
      isplitl [H8]; · iexact H8
      isplitl [HA]; · iexact HA
      isplitl [HB]; · iexact HB
      iintro ⟨H5, H8, HA, HB⟩
      iapply HK
      isplitl [HT HM HX HP HA HB]
      · isplitl [HT]; · iexact HT
        isplitl [HM]; · iexact HM
        isplitl [HX]; · iexact HX
        isplitl [HP]; · iexact HP
        isplitl [HA]; · iexact HA
        iexact HB
      isplitl [HO]; · iexists W; iexact HO
      isplitl [H5]; · iexact H5
      iexact H8

end Cert.DenseIdeal.Ffn
end
end
-- ==== Proof.FfnRegion.lean ====
/- The dense region as a whole: what each grid point's windows hold, the body's obligation at every point, and the launch,
   over any arithmetic, for tables that fit together. -/
module

public import proofs.«01_k».proof.Proof.FfnPoint
public import proofs.«01_k».proof.Proof.Gen.DenseIdeal.Launch
public import Idealize.ShloMosaic.Lib.Pipeline.FrameBody
public import Idealize.ShloMosaic.Lib.Claim

@[expose] public section

set_option maxRecDepth 16384

noncomputable section

namespace Cert.DenseIdeal.Ffn

open Idealize.ShloMosaic Idealize.ShloMosaic.ValueIdx Idealize.ShloMosaic.TcCoe Idealize.ShloMosaic.Tactic Cert.DenseIdeal Cert.DenseIdeal.Gen
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => Idealize.ShloMosaic.MT nD τ sig Unit (Elt F) ℕ (Pipeline.UD sig nD τ) ℕ

variable (m : (ℓ : Loc nD τ sig) → Buf (Elt F) ℓ) (ρ : Dev nD → PrngReg)

/-- A core's buffers when the region is entered: after the lines before it. -/
abbrev V0 (c : Dev nD) : Valuation τ sig (Elt F) := StableHlo.after (List.flatten [hostOps0, hostOps0_1, hostOps0_2, hostOps0_3]) (fun b => m (c, b))
/-- The same, read at a reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor

set_option maxHeartbeats 800000 in
/-- The program up to the region. -/
theorem hmain (𝒱₀ : Variants) : Pipeline.HMainP (Ix := Unit) (Name := ℕ) (U := Pipeline.UD sig nD τ) (Lvl := ℕ) pcfgs 0 defs₀ 𝒱₀ m (main (F := F)) (V m) :=
  Pipeline.hmainP_prefixes pcfgs 0 defs₀ 𝒱₀ m main [hostOps0, hostOps0_1, hostOps0_2, hostOps0_3]
    (by simp only [List.Forall]; exact ⟨hostOps0_sub, hostOps0_1_sub, hostOps0_2_sub, hostOps0_3_sub⟩)
    (by simp only [List.Forall]; exact ⟨hostOps0_fresh, hostOps0_1_fresh, hostOps0_2_fresh, hostOps0_3_fresh⟩) main_chain

/-- No line before the region writes argument 0. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, List.flatten_cons, List.flatten_nil, List.append_nil, List.cons_append,
      List.nil_append, List.Forall, StableHlo.nullary_writes, StableHlo.unary_writes, StableHlo.binary_writes, StableHlo.ternary_writes, Finset.mem_singleton]
    repeat' apply And.intro
    all_goals exact StableHlo.devRef_ne_of_ne (by decide)))
/-- No line before the region writes argument 1. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, List.flatten_cons, List.flatten_nil, List.append_nil, List.cons_append,
      List.nil_append, List.Forall, StableHlo.nullary_writes, StableHlo.unary_writes, StableHlo.binary_writes, StableHlo.ternary_writes, Finset.mem_singleton]
    repeat' apply And.intro
    all_goals exact StableHlo.devRef_ne_of_ne (by decide)))
/-- No line before the region writes argument 2. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, List.flatten_cons, List.flatten_nil, List.append_nil, List.cons_append,
      List.nil_append, List.Forall, StableHlo.nullary_writes, StableHlo.unary_writes, StableHlo.binary_writes, StableHlo.ternary_writes, Finset.mem_singleton]
    repeat' apply And.intro
    all_goals exact StableHlo.devRef_ne_of_ne (by decide)))
/-- The tables' contents, as the region reads them. -/
abbrev adm (p : Fin 1) : (pcfgs (F := F) p).Adm := ⟨fun k => V m 0 (pre0.ref k), trivial⟩
abbrev cfgA : Pipeline.Cfg sig Λ₀ := cfg0 (adm m 0)
abbrev pcs : Fin 1 → Pipeline.Cfg sig Λ₀ := Pipeline.pin pcfgs (adm m)

theorem cfgA_N : (cfgA m).N = 224 := N_0
theorem tlt (t : Fin (cfgA m).N) : t.val < 224 := Nat.lt_of_lt_of_eq t.isLt (cfgA_N m)

/-- The coordinates of a grid point. -/
theorem coord0 (t : Fin grid0.N) : (grid0.coords t 0).val = t.val / 8 := by
  have ht : t.val < 224 := Nat.lt_of_lt_of_eq t.isLt N_0
  have e : (grid0.coords t 0).val = t.val / 8 % 28 := Pipeline.Grid.coords_val t 0 (by decide) rfl
  omega
theorem coord1 (t : Fin grid0.N) : (grid0.coords t 1).val = t.val % 8 := by
  have e : (grid0.coords t 1).val = t.val / 1 % 8 := Pipeline.Grid.coords_val t 1 (by decide) rfl
  omega

/-- Window `w`'s block at a point, read off its array as the region finds it. -/
def iblk (c : Dev nD) (w : Fin (cfgA m).W) (t : Fin (cfgA m).N) : (((cfgA m).win w).xblock ((cfgA m).grid.coords t)).Idx → Elt F ((cfgA m).win w).elt :=
  (((cfgA m).win w).blk t).view.read (Elt F) (V m c (Pipeline.arrRef spec0 w))

/-- The rows a grid point writes. -/
def outAt (c : Dev nD) (t : Fin (cfgA m).N) : Vec F S1024x512 .bf16 :=
  k0_pay1 (iblk m c 0 t) (k0_pay3 (blkAt (V m c main_arg1) (curOff (V m c main_v0) (t.val / 8) (t.val % 8))))
    (k0_pay4 (blkAt (V m c main_arg2) (curOff (V m c main_v0) (t.val / 8) (t.val % 8))))

/-- The state between points, on the region's buffers. -/
abbrev invAt (c : Dev nD) (n : ℕ) : sProp 𝕄 := inv c (V m c main_v0) (V m c main_v1) (V m c main_v12) (V m c main_arg1) (V m c main_arg2) n

/-- The pipeline's data: the rows in, the rows out, the blocks between. -/
def dats (p : Fin 1) (c : Dev nD) : Dat τ (Elt F) Unit ℕ (Pipeline.UD sig nD τ) ℕ (pcs m p) c where
  A w := V m c (Pipeline.arrRef spec0 w)
  after w t := match w with
    | ⟨0, _⟩ => iblk m c 0 t
    | ⟨1, _⟩ => outAt m c t
  Φ t := iprop(invAt m c t.val ∗ (∃ r, prngReg c r))
  q _ := fullShare
  owed _ := 0

theorem A_eq (c : Dev nD) (w : Fin (cfgA m).W) : (dats m 0 c).A w = V m c (Pipeline.arrRef spec0 w) := by
  dsimp only [dats]
theorem after0_0 (c : Dev nD) (t : Fin (cfgA m).N) : (dats m 0 c).after 0 t = iblk m c 0 t := rfl
theorem after0_1 (c : Dev nD) (t : Fin (cfgA m).N) : (dats m 0 c).after 1 t = outAt m c t := rfl

/-- The input window holds its block at every point. -/
theorem before0_0 (c : Dev nD) (t : Fin (cfgA m).N) (d) : (dats m 0 c).before 0 t d = iblk m c 0 t :=
  ((dats m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)

abbrev ms0 (t : Fin (cfgA m).N) : Memref sig .tc .vmem S1024x4096 .bf16 := spec0_0.stage ((cfgA m).slots t 0)
abbrev ms1 (t : Fin (cfgA m).N) : Memref sig .tc .vmem S1024x512 .bf16 := spec0_1.stage ((cfgA m).slots t 1)

/-- The body at a point, on what the pipeline calls it with. -/
abbrev bodyAt0 (t : Fin (cfgA m).N) : Prog (TpuEff nD τ sig (Elt F) Λ₀ .tc) PUnit :=
  bodyAt (grid0.coords t) (ms0 m t) (hstage0_0 (((cfgA m).slots t 0).cast nbuf0_0)) (ms1 m t) (hstage0_1 (((cfgA m).slots t 1).cast nbuf0_1))

end Cert.DenseIdeal.Ffn
end
end
-- ==== Proof.FfnRun.lean ====
/- The dense run: the body's obligation at every grid point, and the launch,
   over any arithmetic, for tables that fit together. -/
module

public import proofs.«01_k».proof.Proof.FfnRegion
public import proofs.«01_k».proof.Proof.Gen.DenseIdeal.Launch
public import Idealize.ShloMosaic.Lib.Pipeline.FrameBody
public import Idealize.ShloMosaic.Lib.Claim

@[expose] public section

set_option maxRecDepth 16384

noncomputable section

namespace Cert.DenseIdeal.Ffn

open Idealize.ShloMosaic Idealize.ShloMosaic.ValueIdx Idealize.ShloMosaic.TcCoe Idealize.ShloMosaic.Tactic Cert.DenseIdeal Cert.DenseIdeal.Gen
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => Idealize.ShloMosaic.MT nD τ sig Unit (Elt F) ℕ (Pipeline.UD sig nD τ) ℕ

variable (m : (ℓ : Loc nD τ sig) → Buf (Elt F) ℓ) (ρ : Dev nD → PrngReg)

/-- A kind of tile is one of those the body stores for. -/
theorem stored (v : BitVec 32) (h : IsKind v) :
    (!(k0_cond4 v == 1#1) && !(k0_cond5 v == 1#1)) = false := by
  subst h; decide

/-- The word of the tile's kind, as the pipeline reads it. -/
theorem atD_ent (pf : pre0.Contents (Elt F)) (i : grid0.Coords) : pf.atD 1 (k0_off8 i) = ent (F := F) (pf 1) (i 1).val := by
  unfold Pipeline.Prefetch.Contents.atD
  rw [dif_pos (fun a => by
    match a with
    | ⟨0, _⟩ =>
      have e := off8_eq i
      have hm := m_lt i
      show k0_off8 i 0 < 8
      omega)]
  unfold ent
  congr 1
  funext a
  match a with
  | ⟨0, _⟩ =>
    have e := off8_eq i
    have hm := m_lt i
    exact Fin.ext (show k0_off8 i 0 = (i 1).val % 8 by omega)

/-- The result's window is stored at every point. -/
theorem idle1 (g : Good (V m 0 main_v0) (V m 0 main_v1) (V m 0 main_v12)) (i : grid0.Coords) : (cfgA m).idle 1 i = false := by
  show idle0 (adm m 0).1 1 i = false
  have e := atD_ent (adm m 0).1 i
  show (!(k0_cond4 ((adm m 0).1.atD 1 (k0_off8 i)) == 1#1) && !(k0_cond5 ((adm m 0).1.atD 1 (k0_off8 i)) == 1#1)) = false
  rw [e]
  exact stored _ (g.kind _)

theorem leaves0 (c : Dev nD) (t : Fin (cfgA m).N) :
    (dats m 0 c).leavesExact 0 t = owns (c : Thread nD τ) (ms0 m t) fullShare ((dats m 0 c).after 0 t) := by
  unfold Dat.leavesExact; rw [show (cfgA m).idle 0 (grid0.coords t) = false from rfl]; rfl
theorem leaves1 (g : Good (V m 0 main_v0) (V m 0 main_v1) (V m 0 main_v12)) (c : Dev nD) (t : Fin (cfgA m).N) :
    (dats m 0 c).leavesExact 1 t = owns (c : Thread nD τ) (ms1 m t) fullShare ((dats m 0 c).after 1 t) := by
  unfold Dat.leavesExact; rw [idle1 m g (grid0.coords t)]; rfl

theorem Φ_eq (c : Dev nD) (t : Fin ((cfgA m).N + 1)) : (dats m 0 c).Φ t = iprop(invAt m c t.val ∗ (∃ r, prngReg c r)) := rfl

/-- What the body is called with. -/
def bodyPre (c : Dev nD) (t : Fin (cfgA m).N) : sProp 𝕄 :=
  iprop((dats m 0 c).Φ t.castSucc ∗ (dats m 0 c).owesAt () t.castSucc
    ∗ (∃ d, owns (c : Thread nD τ) (ms0 m t) fullShare ((dats m 0 c).before 0 t d))
    ∗ (∃ d, owns (c : Thread nD τ) (ms1 m t) fullShare ((dats m 0 c).before 1 t d)))

/-- What it returns. -/
def bodyPost (c : Dev nD) (t : Fin (cfgA m).N) : sProp 𝕄 :=
  iprop((dats m 0 c).Φ t.succ ∗ (dats m 0 c).owesAt () t.succ ∗ (dats m 0 c).leavesExact 0 t ∗ (dats m 0 c).leavesExact 1 t)

set_option maxHeartbeats 4000000 in
/-- The body at any point. -/
theorem sound_body (g : Good (V m 0 main_v0) (V m 0 main_v1) (V m 0 main_v12)) (c : Dev nD) (t : Fin (cfgA m).N) :
    bodyPre m c t ⊢ wp frame (wpE (defs₀ (F := F)) Variants.none c none) Set.univ (bodyAt0 m t) (fun _ => bodyPost m c t) := by
  have hc : c = 0 := Subsingleton.elim _ _
  subst hc
  unfold bodyPre bodyPost bodyAt0
  simp only [before0_0]
  rw [leaves0, leaves1 m g, after0_0, after0_1]
  rw [Φ_eq, Φ_eq, Fin.val_succ, Fin.val_castSucc]
  unfold Dat.owesAt Pipeline.owesWithin
  rw [show (dats m 0 0).owed t.castSucc = 0 from rfl, show (dats m 0 0).owed t.succ = 0 from rfl]
  unfold outAt
  iintro ⟨⟨HI, Hg⟩, ⟨%W, -, HW⟩, ⟨%d0, H0⟩, ⟨%d1, H1⟩⟩
  iapply (point (F := F) 0 _ (grid0.coords t) (ms0 m t) (hstage0_0 (((cfgA m).slots t 0).cast nbuf0_0)) (ms1 m t) (hstage0_1 (((cfgA m).slots t 1).cast nbuf0_1))
    (V m 0 main_v0) (V m 0 main_v1) (V m 0 main_v12) g (V m 0 main_arg1) (V m 0 main_arg2) t.val (coord0 t) (coord1 t) W (iblk m 0 0 t) ((dats m 0 0).before 1 t d1))
  isplitl [HI]; · iexact HI
  isplitl [HW]; · iexact HW
  isplitl [H0]; · iexact H0
  isplitl [H1]; · iexact H1
  iintro ⟨HI, ⟨%W', HW'⟩, H0, H1⟩
  isplitl [HI Hg]
  · isplitl [HI]; · iexact HI
    iexact Hg
  isplitl [HW']
  · iexists W'; isplitr; · ipureintro; exact fun _ _ => Or.inl trivial
    iexact HW'
  isplitl [H0]; · iexact H0
  iexact H1

/-- The body table's row at a point is the body there. -/
theorem defs₀_row (t : Fin (cfgA m).N) :
    defs₀ (F := F) .tc (cfgA m).body ((cfgA m).bodyArgs t ((cfgA m).slots t)) = bodyAt0 m t := by
  unfold defs₀; rw [Defs.onTc_tc]; rfl

/-- The pipeline's obligation on the body. -/
theorem body_obligation (g : Good (V m 0 main_v0) (V m 0 main_v1) (V m 0 main_v12)) (c : Dev nD) :
    BodyObligation (dats (F := F) m 0 c) (defs₀ (F := F)) Variants.none () Set.univ := fun t => by
  rw [bigSep_W0, bigSep_W0, defs₀_row]
  exact triple_restated (sound_body m g c t) rfl .rfl fun _ => .rfl

/-- The two semaphores of the copies. -/
def osem0 : Fin 2 → SemLoc sig := fun j => (![SemLoc.dma 4, SemLoc.dma 5] : Fin 2 → SemLoc sig) j

theorem ownSemFacts0 : Pipeline.OwnSemFacts spec0 osem0 := by decide

theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 4) 0 ∗ semVal ((c : Thread nD τ), SemLoc.dma 5) 0) := by
  rw [Pipeline.ownSems0_eq_of_list c osem0 [0, 1] (by decide) (by decide)]; rfl

/-- The two weights, which the body copies from itself. -/
abbrev H0 : Finset (Ref sig .tc) := {main_arg1, main_arg2}
theorem H0_sub : H0 ⊆ Pipeline.restRefsP sig pre0 spec0 := by decide

theorem hbm_eq (c : Dev nD) (v : (c : Dev nD) → (b : Ref sig .tc) → Buf (Elt F) ((c : Thread nD τ).loc b)) :
    (BI.bigSep H0 fun b => (((c : Thread nD τ).loc b) ↦{fullShare} v c b : sProp 𝕄))
      = iprop((((c : Thread nD τ).loc main_arg1) ↦{fullShare} v c main_arg1) ∗ (((c : Thread nD τ).loc main_arg2) ↦{fullShare} v c main_arg2)) := by
  rw [BI.bigSep_eq_bigSepL_of_eq [main_arg1, main_arg2] (by decide) (by decide)]; rfl

theorem tables_eq (c : Dev nD) (v : pre0.Contents (Elt F)) :
    (Pipeline.ΦT pre0 v c : sProp 𝕄)
      = iprop((((c : Thread nD τ).loc main_v0) ↦{fullShare.right} v 0) ∗ (((c : Thread nD τ).loc main_v1) ↦{fullShare.right} v 1)
        ∗ (((c : Thread nD τ).loc main_v12) ↦{fullShare.right} v 2)) := by
  show Pipeline.prefHeld pre0 c (fun _ => fullShare.right) v = _
  unfold Pipeline.prefHeld
  rw [BI.bigSep_eq_bigSepL_of_eq [0, 1, 2] (by decide) (by decide)]; rfl

theorem whole_owns (c : Dev nD) (b : Ref sig .tc) (f : b.ty.Contents (Elt F)) :
    (((c : Thread nD τ).loc b) ↦{fullShare} f : sProp 𝕄) ⊢ owns (c : Thread nD τ) (Memref.whole b) fullShare f := by rw [owns_whole]
theorem owns_of_whole (c : Dev nD) (b : Ref sig .tc) (f : b.ty.Contents (Elt F)) :
    (owns (c : Thread nD τ) (Memref.whole b) fullShare f : sProp 𝕄) ⊢ ((c : Thread nD τ).loc b) ↦{fullShare} f := by rw [owns_whole]

/-- The launch hands over the state before the first point. -/
theorem hin (c : Dev nD) : iprop(Pipeline.ΦD osem0 spec0 H0 (V m) c ∗ Pipeline.ΦT pre0 (adm m 0).1 c) ⊢ (dats m 0 c).Φ 0 := by
  have hc : c = 0 := Subsingleton.elim _ _
  subst hc
  rw [Φ_eq, Pipeline.ΦD_eq, scopedRest0_eq, ownSems00_eq, hbm_eq, tables_eq]
  show _ ⊢ iprop(inv 0 (V m 0 main_v0) (V m 0 main_v1) (V m 0 main_v12) (V m 0 main_arg1) (V m 0 main_arg2) 0 ∗ (∃ r, prngReg 0 r))
  unfold inv pend idleAt tbl
  iintro ⟨⟨⟨HF1, HF2, ⟨%f3, HB1⟩, ⟨%f4, HB2⟩⟩, Hg, ⟨HS1, HS2⟩, HW1, HW2⟩, HT, HM, HX⟩
  isplitr [Hg]
  · isplitl [HT]; · iexact HT
    isplitl [HM]; · iexact HM
    isplitl [HX]; · iexact HX
    isplitl [HF1 HS1 HW1 HF2 HS2 HW2]
    · isplitl [HF1 HS1 HW1]
      · isplitl [HW1]; · iexact HW1
        isplitl [HF1]; · iexact HF1
        iexact HS1
      · isplitl [HW2]; · iexact HW2
        isplitl [HF2]; · iexact HF2
        iexact HS2
    isplitl [HB1]
    · iexists f3
      iapply (whole_owns (F := F) 0 cc0_scratch2 f3); iexact HB1
    · iexists f4
      iapply (whole_owns (F := F) 0 cc0_scratch3 f4); iexact HB2
  · iexact Hg

/-- After the last tile nothing is on its way. -/
theorem next_last (te md nx : Vec F S8 .i32) (g : Good te md nx) : nextOff te nx 27 7 = none := by
  unfold nextOff
  have h := g.last
  rw [if_neg (by omega), if_neg (by omega)]

/-- The state after the last point gives the launch's back. -/
theorem hout (g : Good (V m 0 main_v0) (V m 0 main_v1) (V m 0 main_v12)) (c : Dev nD) :
    (dats m 0 c).Φ (Fin.last (cfgA m).N) ⊢ Pipeline.ΦD osem0 spec0 H0 (V m) c := by
  have hc : c = 0 := Subsingleton.elim _ _
  subst hc
  rw [Φ_eq, Pipeline.ΦD_eq, scopedRest0_eq, ownSems00_eq, hbm_eq]
  have e : (Fin.last (cfgA m).N).val = 223 + 1 := by rw [Fin.val_last, cfgA_N]
  rw [e]
  unfold invAt
  rw [inv_succ, show 223 / 8 = 27 from rfl, show 223 % 8 = 7 from rfl, next_last _ _ _ g]
  unfold pend idleAt
  iintro ⟨⟨-, -, -, ⟨⟨HW1, HF1, HS1⟩, HW2, HF2, HS2⟩, HB1, HB2⟩, Hg⟩
  isplitl [HF1 HF2 HB1 HB2]
  · isplitl [HF1]; · iexact HF1
    isplitl [HF2]; · iexact HF2
    isplitl [HB1]
    · iexists _
      iapply (owns_of_whole (F := F) 0 cc0_scratch2 _) $$ HB1
    · iexists _
      iapply (owns_of_whole (F := F) 0 cc0_scratch3 _) $$ HB2
  isplitl [Hg]; · iexact Hg
  isplitl [HS1 HS2]
  · isplitl [HS1]; · iexact HS1
    iexact HS2
  isplitl [HW1]; · iexact HW1
  iexact HW2

set_option backward.isDefEq.respectTransparency.types false in
/-- The run: every array holds what the points wrote, every other buffer is as the region found it. -/
theorem run_main (g : Good (V m 0 main_v0) (V m 0 main_v1) (V m 0 main_v12)) :
    θ_run defs (onTc (τ := τ) (main (F := F))) (s₀ m ρ) (fun r => Pipeline.FramePost (pcs m) (dats m) 0 (V m) r ∧ r.2.sem = fun _ => 0) :=
  Pipeline.θ_run_frameP_dma (Q' := _) pcfgs (adm m) (dats m) (0 : Fin 1) launch0 osem0 defs₀ Variants.none ownSemFacts0 H0 H0_sub m ρ main
    (hbody := fun c => (body_obligation m g c).loose) (hshare := fun c => (dats m 0 c).share_full fun _ => rfl)
    (howed := fun _ _ => rfl) (V := V m) (hmain := hmain m Variants.none) (hA := A_eq m)
    (hpf := fun c k => by rw [Subsingleton.elim c 0]) (hin := hin m) (hout := hout m g) (hQ' := fun _ h => h)

/-- The frame: the arguments end unchanged and every semaphore at zero. -/
theorem frame_run (g : Good (V m 0 main_v0) (V m 0 main_v1) (V m 0 main_v12)) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c => ⟨
      ((h.1 c).1 0).trans (((dats m 0 c).arrAt_in 0 rfl _).trans ((A_eq m c 0).trans (V_main_arg0 m c))),
      ((h.1 c).2 main_arg1 (Pipeline.mem_restRefs_of (win := spec0) main_arg1 (by decide) (by decide))).trans (V_main_arg1 m c),
      ((h.1 c).2 main_arg2 (Pipeline.mem_restRefs_of (win := spec0) main_arg2 (by decide) (by decide))).trans (V_main_arg2 m c)⟩, h.2⟩) (run_main m ρ g)

end Cert.DenseIdeal.Ffn
end
end
-- ==== Proof.FfnSame.lean ====
/- The dense feed-forward's kernel and its ideal reading are the same text: the body and the host lines are the same programs at every float
   instance, so a run of the one is a run of the other. -/
module

public import proofs.«01_k».proof.Proof.Gen.Dense
public import proofs.«01_k».proof.Proof.Gen.DenseIdeal

@[expose] public section

noncomputable section

namespace Cert.FfnSame

open Idealize.ShloMosaic Idealize.SL.Sem

variable {F : FTy → Type} [FloatOps F]

set_option maxHeartbeats 4000000 in
/-- The body of the call, at every point. -/
theorem bodies : Cert.Dense.defs₀ (F := F) = Cert.DenseIdeal.defs₀ (F := F) := by
  unfold Cert.Dense.defs₀ Cert.DenseIdeal.defs₀
  congr 1
  funext x y
  match x, y with
  | 0, (t, s) => rfl
  | ⟨_ + 1, h⟩, _ => exact absurd h (Nat.not_lt.2 (Nat.le_add_left _ _))

/-- The table of bodies with the call's pipeline. -/
theorem tables : Cert.Dense.defs (F := F) = Cert.DenseIdeal.defs (F := F) :=
  congrArg (Pipeline.defs (Cert.DenseIdeal.pcfgs (F := F))) bodies

set_option maxHeartbeats 4000000 in
/-- The host lines. -/
theorem mains : Cert.Dense.main (F := F) = Cert.DenseIdeal.main (F := F) := rfl

end Cert.FfnSame

end

end
-- ==== Proof.FfnHost.lean ====
/- The tables, which the host works out before the region: one expert, every tile whole, no next expert. -/
module

public import proofs.«01_k».proof.Proof.FfnRun
public import Idealize.ShloMosaic.Lib.StableHlo.Predicate
public import Idealize.ShloMosaic.Lib.Pipeline.ValueKit.Point
public import proofs.«01_k».proof.Proof.Gen.DenseIdeal.Launch
public import Idealize.ShloMosaic.Lib.Pipeline.FrameBody
public import Idealize.ShloMosaic.Lib.Claim

@[expose] public section

set_option maxRecDepth 16384

noncomputable section

namespace Cert.DenseIdeal.Ffn

open Idealize.ShloMosaic Idealize.ShloMosaic.TcCoe Idealize.ShloMosaic.Tactic Cert.DenseIdeal Cert.DenseIdeal.Gen
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => Idealize.ShloMosaic.MT nD τ sig Unit (Elt F) ℕ (Pipeline.UD sig nD τ) ℕ

variable (m : (ℓ : Loc nD τ sig) → Buf (Elt F) ℓ) (ρ : Dev nD → PrngReg)

/-- The next expert's number at every tile, as the host works it out. -/
def nextTab (te : IVec S8 32) : IVec S8 32 :=
  select
    (cmpi .eq
      (Host.reduce IntOp.minsi
        (select
          (cmpi .sgt (broadcastInDim S8x8 ![0, 1] bcast_S1x8_S8x8_0_1 (broadcastInDim S1x8 ![1] bcast_S8_S1x8_1 te))
            (broadcastInDim S8x8 ![0, 1] bcast_S8x1_S8x8_0_1 (broadcastInDim S8x1 ![0] bcast_S8_S8x1_0 te)))
          (broadcastInDim S8x8 ![0, 1] bcast_S1x8_S8x8_0_1 (broadcastInDim S1x8 ![1] bcast_S8_S1x8_1 te))
          (broadcastInDim S8x8 ![] bcast_S_S8x8 (constantI S_ 32 1073741824#32)))
        (constantI S_ 32 2147483647#32) reducesTo_S8x8_S8_d1 h_S_)
      (broadcastInDim S8 ![] bcast_S_S8 (constantI S_ 32 1073741824#32)))
    (broadcastInDim S8 ![] bcast_S_S8 (constantI S_ 32 4294967295#32))
    (Host.reduce IntOp.minsi
      (select
        (cmpi .sgt (broadcastInDim S8x8 ![0, 1] bcast_S1x8_S8x8_0_1 (broadcastInDim S1x8 ![1] bcast_S8_S1x8_1 te))
          (broadcastInDim S8x8 ![0, 1] bcast_S8x1_S8x8_0_1 (broadcastInDim S8x1 ![0] bcast_S8_S8x1_0 te)))
        (broadcastInDim S8x8 ![0, 1] bcast_S1x8_S8x8_0_1 (broadcastInDim S1x8 ![1] bcast_S8_S1x8_1 te))
        (broadcastInDim S8x8 ![] bcast_S_S8x8 (constantI S_ 32 1073741824#32)))
      (constantI S_ 32 2147483647#32) reducesTo_S8x8_S8_d1 h_S_)

theorem V_next (c : Dev nD) :
    (V m c main_v12 : Vec F S8 .i32) = nextTab (fun _ => 0#32) := by
  simp only [V, V0, hostOps0, hostOps0_1, hostOps0_2, hostOps0_3, List.flatten_cons,
    List.flatten_nil, List.append_nil, List.cons_append, List.nil_append]
  after_results_simp
  rfl

/-- The word put beside another expert's: the larger one, or a large number. -/
def above (v w : BitVec 32) : BitVec 32 := Scalar.select (IntOp.cmpi .sgt w v) w 1073741824#32

/-- The least larger expert's number, or a large number. -/
def least (T : Fin 8 → BitVec 32) (v : BitVec 32) : BitVec 32 :=
  (Finset.univ : Finset (Fin 8)).fold IntOp.minsi 2147483647#32 (fun x => above v (T x))

theorem nextTab_at (te : IVec S8 32) (j : Fin 8) :
    nextTab te (ix1 j) = Scalar.select (IntOp.cmpi .eq (least (fun x => te (ix1 x)) (te (ix1 j))) 1073741824#32) 4294967295#32
      (least (fun x => te (ix1 x)) (te (ix1 j))) := by
  unfold nextTab least above
  pointwise

/-- No tile has a next expert. -/
theorem nextTab_const (j : Fin 8) : nextTab (fun _ => 0#32) (ix1 j) = 4294967295#32 := by
  rw [nextTab_at]
  decide

/-- Every tile is of the one expert. -/
theorem V_main_v0 (c : Dev nD) : (V m c main_v0 : Vec F S8 .i32) = fun _ => 0#32 := by
  simp only [V, V0, hostOps0, hostOps0_1, hostOps0_2, hostOps0_3, List.flatten_cons,
    List.flatten_nil, List.append_nil, List.cons_append, List.nil_append]
  after_results_simp
  rfl

/-- Every tile is whole. -/
theorem V_main_v1 (c : Dev nD) : (V m c main_v1 : Vec F S8 .i32) = fun _ => 1#32 := by
  simp only [V, V0, hostOps0, hostOps0_1, hostOps0_2, hostOps0_3, List.flatten_cons,
    List.flatten_nil, List.append_nil, List.cons_append, List.nil_append]
  after_results_simp
  rfl

theorem ent_at (te : Vec F S8 .i32) (j : ℕ) (hj : j < 8) : ent te j = te (ix1 ⟨j, hj⟩) := by
  unfold ent
  congr 1
  funext a
  match a with
  | ⟨0, _⟩ => exact Fin.ext (Nat.mod_eq_of_lt hj)

theorem ent_mod (te : Vec F S8 .i32) (j : ℕ) : ent te j = te (ix1 ⟨j % 8, Nat.mod_lt _ (by decide)⟩) := by
  unfold ent
  congr 1

/-- The host's tables are good. -/
theorem good_const : Good (F := F) (fun _ => 0#32) (fun _ => 1#32) (nextTab fun _ => 0#32) where
  te_lt j := by rw [ent_mod]; exact (by decide : (0#32).toNat < 1)
  kind j := by rw [ent_mod]; rfl
  last := by rw [ent_mod, nextTab_const]; decide
  change j hj hne := absurd (by rw [ent_mod, ent_mod]) hne
  keep j hj he := by rw [ent_mod, ent_mod, nextTab_const, nextTab_const]
  nx_lt j hj := by
    rw [ent_mod, nextTab_const] at hj
    exact absurd hj (by decide)

/-- The tables as the region finds them are good. -/
theorem good : Good (V m 0 main_v0) (V m 0 main_v1) (V m 0 main_v12) := by
  rw [V_main_v0, V_main_v1, V_next]
  exact good_const

end Cert.DenseIdeal.Ffn
end
end
-- ==== Proof.ExpMath.lean ====
/- What a grid point stores, on extended reals, entry by entry: in a live row the gated product of the two inner products of the
   row of the block with a column of the two weights, in a dead row zero. -/
module

public import proofs.«01_k».proof.Proof.ExpRows
public import Idealize.ShloMosaic.Lib.Pipeline.ValueKit.Point
public import Idealize.ShloMosaic.Lib.Pointwise

@[expose] public section

set_option maxRecDepth 16384

noncomputable section

namespace Cert.ExpertsIdeal.Moe

open Idealize.ShloMosaic Cert.ExpertsIdeal Cert.ExpertsIdeal.Gen

/-- The gate: `u · logistic u · g`. -/
def gated (u g : EReal) : EReal := u * Ideal.logistic u * g

/-- Row `p` of a tile of kind `v` is computed. -/
def Live (v : BitVec 32) (p : ℕ) : Prop := v = 1#32 ∨ (8 ≤ v.toNat ∧ p / 128 < v.toNat - 8)

instance (v : BitVec 32) (p : ℕ) : Decidable (Live v p) := inferInstanceAs (Decidable (_ ∨ _))

/-- The whole result: row `r` lies in tile `r / 512`, whose expert and kind the two tables name. -/
def expOut (h : Vec Ideal S20480x4096 .bf16) (w1 w3 : Vec Ideal S8x4096x14336 .f32) (te md : IVec S40 32) :
    Vec Ideal S20480x14336 .bf16 := fun y =>
  if Live (md (ix1 (⟨(y 0).val / 512, by have := (y 0).isLt; change (y 0).val < 20480 at this; omega⟩ : Fin 40))) ((y 0).val % 512) then
    gated
      (∑ k : Fin 4096, h (ix2 (y 0) k) * w1 (ix3 (⟨(te (ix1 (⟨(y 0).val / 512, by have := (y 0).isLt; change (y 0).val < 20480 at this; omega⟩ : Fin 40))).toNat % 8, Nat.mod_lt _ (by decide)⟩ : Fin 8) k (y 1)))
      (∑ k : Fin 4096, h (ix2 (y 0) k) * w3 (ix3 (⟨(te (ix1 (⟨(y 0).val / 512, by have := (y 0).isLt; change (y 0).val < 20480 at this; omega⟩ : Fin 40))).toNat % 8, Nat.mod_lt _ (by decide)⟩ : Fin 8) k (y 1)))
  else 0

/-- An index by its coordinates, in the library's spelling. -/
theorem idx2_eq {n k : ℕ} (a : Fin n) (b : Fin k) : idx2 a b = ix2 a b := by
  funext z
  match z with
  | ⟨0, _⟩ => rfl
  | ⟨1, _⟩ => rfl

/-- A whole tile at an entry. -/
theorem pay3_at (H : Vec Ideal S512x4096 .bf16) (A B : Vec Ideal S4096x512 .bf16) (p q : Fin 512) :
    k0_pay3 (F := Ideal) H A B (ix2 p q)
      = gated (∑ k : Fin 4096, H (ix2 p k) * A (ix2 k q)) (∑ k : Fin 4096, H (ix2 p k) * B (ix2 k q)) := by
  pointwise [k0_pay3]
  rfl

/-- A quarter of a tile at an entry. -/
theorem pay5_at (H : Vec Ideal S128x4096 .bf16) (A B : Vec Ideal S4096x512 .bf16) (p : Fin 128) (q : Fin 512) :
    k0_pay5 (F := Ideal) H A B (ix2 p q)
      = gated (∑ k : Fin 4096, H (ix2 p k) * A (ix2 k q)) (∑ k : Fin 4096, H (ix2 p k) * B (ix2 k q)) := by
  pointwise [k0_pay5]
  rfl

/-- A skipped tile is zero. -/
theorem pay4_at (p q : Fin 512) : k0_pay4 (F := Ideal) (ix2 p q) = 0 := by
  pointwise [k0_pay4]

/-- A skipped quarter is zero. -/
theorem pay6_at (p : Fin 128) (q : Fin 512) : k0_pay6 (F := Ideal) (ix2 p q) = 0 := by
  pointwise [k0_pay6]

/-- The weights narrowed are the weights. -/
theorem pay1_at (A : Vec Ideal S4096x512 .f32) (k : Fin 4096) (q : Fin 512) : k0_pay1 (F := Ideal) A (ix2 k q) = A (ix2 k q) := by
  pointwise [k0_pay1]

/-- The second weights narrowed are the weights. -/
theorem pay2_at (A : Vec Ideal S4096x512 .f32) (k : Fin 4096) (q : Fin 512) : k0_pay2 (F := Ideal) A (ix2 k q) = A (ix2 k q) := by
  pointwise [k0_pay2]

/-- What a point stores, at an entry. -/
theorem rowsVal_at (v : BitVec 32) (hv : IsKind v) (H : Vec Ideal S512x4096 .bf16) (A B : Vec Ideal S4096x512 .bf16) (p q : Fin 512) :
    rowsVal (F := Ideal) v H A B (ix2 p q)
      = if Live v p.val then gated (∑ k : Fin 4096, H (ix2 p k) * A (ix2 k q)) (∑ k : Fin 4096, H (ix2 p k) * B (ix2 k q))
        else 0 := by
  unfold rowsVal
  by_cases h1 : v = 1#32
  · rw [if_pos h1, if_pos (show Live v p.val from Or.inl h1), pay3_at]
  rw [if_neg h1]
  by_cases h0 : v = 0#32
  · rw [if_pos h0, pay4_at, if_neg]
    rintro (h | ⟨h, _⟩)
    · exact h1 h
    · subst h0
      exact absurd h (by decide)
  rw [if_neg h0]
  have h8 : 8 ≤ v.toNat := by
    rcases hv with rfl | rfl | rfl | rfl | rfl | rfl | rfl
    · exact absurd rfl h0
    · exact absurd rfl h1
    all_goals decide
  show quarterVal v (p.val / 128) _ H A B (idx2 ⟨p.val % 128, _⟩ q) = _
  unfold quarterVal liveQuarters
  rw [idx2_eq]
  by_cases hl : p.val / 128 < v.toNat - 8
  · rw [if_pos hl, if_pos (show Live v p.val from Or.inr ⟨h8, hl⟩), pay5_at]
    have e : ∀ k : Fin 4096, quarter H (128 * (p.val / 128)) (by have := p.isLt; omega) (ix2 (⟨p.val % 128, Nat.mod_lt _ (by decide)⟩ : Fin 128) k)
        = H (ix2 p k) := fun k => by
      refine congrArg H ?_
      funext z
      match z with
      | ⟨0, _⟩ => exact Fin.ext (Nat.div_add_mod p.val 128)
      | ⟨1, _⟩ => rfl
    simp only [e]
  · rw [if_neg hl, pay6_at, if_neg]
    rintro (h | ⟨_, h⟩)
    · exact h1 h
    · exact hl h

end Cert.ExpertsIdeal.Moe

end

end
-- ==== Proof.FfnMath.lean ====
/- What a grid point stores, on extended reals, entry by entry: the gated product of the two inner products of the row of the block
   with a column of the two weights. -/
module

public import proofs.«01_k».proof.Proof.FfnRows
public import proofs.«01_k».proof.Proof.ExpMath
public import Idealize.ShloMosaic.Lib.Pipeline.ValueKit.Point
public import Idealize.ShloMosaic.Lib.Pointwise

@[expose] public section

set_option maxRecDepth 16384

noncomputable section

namespace Cert.DenseIdeal.Ffn

open Idealize.ShloMosaic Cert.DenseIdeal Cert.DenseIdeal.Gen
open Cert.ExpertsIdeal.Moe (gated)

/-- The whole result: the gated products of a row with the two weights' columns. -/
def denseOut (h : Vec Ideal S8192x4096 .bf16) (w1 w3 : Vec Ideal S1x4096x14336 .f32) : Vec Ideal S8192x14336 .bf16 := fun y =>
  gated (∑ k : Fin 4096, h (ix2 (y 0) k) * w1 (ix3 (0 : Fin 1) k (y 1))) (∑ k : Fin 4096, h (ix2 (y 0) k) * w3 (ix3 (0 : Fin 1) k (y 1)))

/-- A whole tile at an entry. -/
theorem pay1_at (H : Vec Ideal S1024x4096 .bf16) (A B : Vec Ideal S4096x512 .bf16) (p : Fin 1024) (q : Fin 512) :
    k0_pay1 (F := Ideal) H A B (ix2 p q)
      = gated (∑ k : Fin 4096, H (ix2 p k) * A (ix2 k q)) (∑ k : Fin 4096, H (ix2 p k) * B (ix2 k q)) := by
  pointwise [k0_pay1]
  rfl

/-- The weights narrowed are the weights. -/
theorem pay3_at (A : Vec Ideal S4096x512 .f32) (k : Fin 4096) (q : Fin 512) : k0_pay3 (F := Ideal) A (ix2 k q) = A (ix2 k q) := by
  pointwise [k0_pay3]

/-- The second weights narrowed are the weights. -/
theorem pay4_at (A : Vec Ideal S4096x512 .f32) (k : Fin 4096) (q : Fin 512) : k0_pay4 (F := Ideal) A (ix2 k q) = A (ix2 k q) := by
  pointwise [k0_pay4]

end Cert.DenseIdeal.Ffn

end

end
-- ==== Proof.FfnValue.lean ====
/- The kernel's result array on extended reals: block by block what the grid points store, and so row by row the gated products. -/
module

public import proofs.«01_k».proof.Proof.FfnHost
public import proofs.«01_k».proof.Proof.FfnMath

@[expose] public section

set_option maxRecDepth 16384

noncomputable section

namespace Cert.DenseIdeal.Ffn

open Idealize.ShloMosaic Idealize.ShloMosaic.TcCoe Idealize.ShloMosaic.Tactic Cert.DenseIdeal Cert.DenseIdeal.Gen
open Idealize.SL.Sem
open Idealize.ShloMosaic.Pipeline (Dat Cfg Window)

variable (m : (ℓ : Loc nD τ sig) → Buf (Elt Ideal) ℓ) (ρ : Dev nD → PrngReg)

/-- The index of window 0's block at a point: the point's tile. -/
theorem index0 (t : Fin (cfgA m).N) (a : Fin 2) : ((cfgA m).win 0).index t a = (![t.val % 8, 0] : Fin 2 → ℕ) a := by
  have ht := tlt m t
  match a with
  | ⟨0, _⟩ =>
    show (BitVec.ofNat 32 (grid0.coords t 1).val).toNat = t.val % 8
    rw [coord1, BitVec.toNat_ofNat]
    omega
  | ⟨1, _⟩ => rfl

/-- The index of window 1's block at a point: the point's tile and its columns. -/
theorem index1 (t : Fin (cfgA m).N) (a : Fin 2) : ((cfgA m).win 1).index t a = (![t.val % 8, t.val / 8] : Fin 2 → ℕ) a := by
  have ht := tlt m t
  match a with
  | ⟨0, _⟩ =>
    show (BitVec.ofNat 32 (grid0.coords t 1).val).toNat = t.val % 8
    rw [coord1, BitVec.toNat_ofNat]
    omega
  | ⟨1, _⟩ =>
    show (BitVec.ofNat 32 (grid0.coords t 0).val).toNat = t.val / 8
    rw [coord0, BitVec.toNat_ofNat]
    omega

/-- The rows of the block in. -/
theorem iblk0_at (c : Dev nD) (t : Fin (cfgA m).N) (p : Fin 1024) (k : Fin 4096) :
    iblk m c 0 t (ix2 p k) = V m c main_arg0 (ix2 (⟨1024 * (t.val % 8) + p.val, by omega⟩ : Fin 8192) k) := by
  show V m c main_arg0 ((((cfgA m).win 0).blk t).view.emb (ix2 p k)) = _
  refine congrArg (V m c main_arg0) ?_
  funext a
  match a with
  | ⟨0, _⟩ =>
    refine Fin.ext ((((cfgA m).win 0).rect_emb_val t (ix2 p k) (show Fin ((cfgA m).win 0).shape.rank from (0 : Fin 2))).trans ?_)
    rw [index0]
    show t.val % 8 * 1024 + p.val = 1024 * (t.val % 8) + p.val
    omega
  | ⟨1, _⟩ =>
    refine Fin.ext ((((cfgA m).win 0).rect_emb_val t (ix2 p k) (show Fin ((cfgA m).win 0).shape.rank from (1 : Fin 2))).trans ?_)
    rw [index0]
    show 0 * 4096 + k.val = k.val
    omega

/-- Where an entry of the block out sits in the result. -/
theorem emb1 (t : Fin (cfgA m).N) (p : Fin 1024) (q : Fin 512) :
    ((((cfgA m).win 1).blk t).view.emb (ix2 p q) : S8192x14336.Idx)
      = ix2 (⟨1024 * (t.val % 8) + p.val, by omega⟩ : Fin 8192) (⟨512 * (t.val / 8) + q.val, by have := tlt m t; omega⟩ : Fin 14336) := by
  have ht := tlt m t
  funext a
  match a with
  | ⟨0, _⟩ =>
    refine Fin.ext ((((cfgA m).win 1).rect_emb_val t (ix2 p q) (show Fin ((cfgA m).win 1).shape.rank from (0 : Fin 2))).trans ?_)
    rw [index1]
    show t.val % 8 * 1024 + p.val = 1024 * (t.val % 8) + p.val
    omega
  | ⟨1, _⟩ =>
    refine Fin.ext ((((cfgA m).win 1).rect_emb_val t (ix2 p q) (show Fin ((cfgA m).win 1).shape.rank from (1 : Fin 2))).trans ?_)
    rw [index1]
    show t.val / 8 * 512 + q.val = 512 * (t.val / 8) + q.val
    omega

/-- The weights' block at a column. -/
theorem blk_at (Wt : Vec Ideal S1x4096x14336 .f32) (te : Vec Ideal S8 .i32) (n j : ℕ) (hn : n < 28) (k : Fin 4096) (q : Fin 512) :
    blkAt Wt (curOff te n j) (ix2 k q)
      = Wt (ix3 (0 : Fin 1) k (⟨512 * n + q.val, by omega⟩ : Fin 14336)) := by
  refine congrArg Wt ?_
  funext a
  match a with
  | ⟨0, _⟩ => exact Subsingleton.elim (α := Fin 1) _ _
  | ⟨1, _⟩ => exact Fin.ext (show (0 + k.val) % 4096 = k.val by omega)
  | ⟨2, _⟩ => exact Fin.ext (show (512 * n + q.val) % 14336 = 512 * n + q.val by omega)

/-- The block of rows a point writes, at an entry. -/
theorem outAt_at (c : Dev nD) (t : Fin (cfgA m).N) (p : Fin 1024) (q : Fin 512) :
    outAt m c t (ix2 p q) = denseOut (m ((c : Thread nD τ).loc main_arg0)) (m ((c : Thread nD τ).loc main_arg1))
      (m ((c : Thread nD τ).loc main_arg2))
      (ix2 (⟨1024 * (t.val % 8) + p.val, by omega⟩ : Fin 8192) (⟨512 * (t.val / 8) + q.val, by have := tlt m t; omega⟩ : Fin 14336)) := by
  have ht := tlt m t
  unfold outAt
  rw [V_main_arg1, V_main_arg2]
  refine (pay1_at _ _ _ p q).trans ?_
  simp only [iblk0_at, pay3_at, pay4_at, V_main_arg0]
  simp only [blk_at _ _ _ _ (show t.val / 8 < 28 by omega)]
  rfl

/-- Every point writes its block of the result back. -/
theorem flush1 (t : Fin (cfgA m).N) : ((cfgA m).win 1).flush t = true := by
  refine (((cfgA m).win 1).flush_reads rfl (1 : Fin 2) (show 1 < grid0.bound 1 by decide) (show grid0.fixedAfter reads0_1 1 = true by decide) ?_ (P := 1) (m := 0) (show grid0.stride 1 = 1 by decide) rfl t).mpr (by omega)
  exact Pipeline.Window.sep_of_coord _ _ (0 : Fin 2) (fun _ => rfl) (show grid0.bound 1 ≤ 2 ^ 32 by decide)

/-- The result array after the run. -/
theorem final1 (c : Dev nD) :
    (dats m 0 c).arrAt 1 (cfgA m).N = denseOut (m ((c : Thread nD τ).loc main_arg0)) (m ((c : Thread nD τ).loc main_arg1))
      (m ((c : Thread nD τ).loc main_arg2)) := by
  refine (dats m 0 c).arrAt_eq_of_emb 1 _ (fun t hf y => ?_) (fun i => ?_)
  · have key : ∀ y : S1024x512.Idx, ∃ (p : Fin 1024) (q : Fin 512), y = ix2 p q := fun y => ⟨y 0, y 1, eq_ix2 y⟩
    obtain ⟨p, q, rfl⟩ := key y
    refine Eq.trans ?_ ((outAt_at m c t p q).trans (congrArg _ (emb1 m t p q).symm))
    rfl
  · have key : ∀ i : S8192x14336.Idx, ∃ (r : Fin 8192) (j : Fin 14336), i = ix2 r j := fun i => ⟨i 0, i 1, eq_ix2 i⟩
    obtain ⟨r, j, rfl⟩ := key i
    have hr := r.isLt
    have hj := j.isLt
    let t : Fin (cfgA m).N := ⟨8 * (j.val / 512) + r.val / 1024, by rw [cfgA_N]; omega⟩
    refine ⟨t, flush1 m t, ?_⟩
    have e : ix2 r j = ((((cfgA m).win 1).blk t).view.emb (ix2 (⟨r.val % 1024, by omega⟩ : Fin 1024) (⟨j.val % 512, by omega⟩ : Fin 512)) : S8192x14336.Idx) := by
      rw [emb1]
      have h1 : (⟨1024 * (t.val % 8) + r.val % 1024, by omega⟩ : Fin 8192) = r := Fin.ext (by show 1024 * ((8 * (j.val / 512) + r.val / 1024) % 8) + r.val % 1024 = r.val; omega)
      have h2 : (⟨512 * (t.val / 8) + j.val % 512, by show 512 * ((8 * (j.val / 512) + r.val / 1024) / 8) + j.val % 512 < 14336; omega⟩ : Fin 14336) = j := Fin.ext (by show 512 * ((8 * (j.val / 512) + r.val / 1024) / 8) + j.val % 512 = j.val; omega)
      rw [h1, h2]
    rw [e]
    exact View.emb_mem_set _ _

/-- The kernel's run on extended reals: its result is the closed form, its arguments unchanged. -/
theorem run_value :
    θ_run defs (onTc (τ := τ) (main (F := Ideal))) ⟨m, fun _ => 0, ρ⟩ (fun r => ∀ c : Dev nD,
      r.2.mem ((c.tc : Thread nD τ).loc main_v13) = denseOut (m ((c.tc : Thread nD τ).loc main_arg0)) (m ((c.tc : Thread nD τ).loc main_arg1))
          (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨
      ((h.1 c).1 1).trans (final1 m c),
      ((h.1 c).1 0).trans (((dats m 0 c).arrAt_in 0 rfl _).trans ((A_eq m c 0).trans (V_main_arg0 m c))),
      ((h.1 c).2 main_arg1 (Pipeline.mem_restRefs_of (win := spec0) main_arg1 (by decide) (by decide))).trans (V_main_arg1 m c),
      ((h.1 c).2 main_arg2 (Pipeline.mem_restRefs_of (win := spec0) main_arg2 (by decide) (by decide))).trans (V_main_arg2 m c)⟩) (run_main m ρ (good m))

end Cert.DenseIdeal.Ffn
end
end
-- ==== Proof.FfnRef.lean ====
/- The dense feed-forward's reference at an entry: the gated product of the row with the two weights' columns. -/
module

public import proofs.«01_k».proof.Proof.FfnMath
public import proofs.«01_k».proof.Proof.Gen.DenseRefIdeal.Run
public import Idealize.ShloMosaic.Lib.Pointwise

@[expose] public section

set_option maxRecDepth 16384

noncomputable section

namespace Cert.DenseRefIdeal.Ffn

open Idealize.ShloMosaic Idealize.ShloMosaic.TcCoe Idealize.SL.Sem Idealize.ShloMosaic.StableHlo Cert.DenseRefIdeal Cert.DenseRefIdeal.Gen Cert.DenseRefIdeal.Value
open Cert.ExpertsIdeal.Moe (gated)
open Cert.DenseIdeal.Ffn (denseOut)

/-- The product with a weight. -/
def prodOf (h : FVec Ideal S8192x4096 .bf16) (w : FVec Ideal S1x4096x14336 .f32) : FVec Ideal S8192x14336 .f32 :=
  Host.dotGeneral dot_S8192x4096_S4096x14336_S8192x14336_1_0_0_1_n_n none (extf .f32 h bitsLt_bf16_f32)
    (shapeCast _ w shapeCasts_S1x4096x14336_S4096x14336)

/-- The product at an entry. -/
theorem prodOf_at (h : FVec Ideal S8192x4096 .bf16) (w : FVec Ideal S1x4096x14336 .f32) (r : Fin 8192) (j : Fin 14336) :
    prodOf h w (ix2 r j) = ∑ k : Fin 4096, h (ix2 r k) * w (ix3 (0 : Fin 1) k j) := by
  pointwise [prodOf]

/-- The gate of two products, as the reference writes it. -/
def gate (u g : FVec Ideal S8192x14336 .f32) : FVec Ideal S8192x14336 .bf16 :=
  truncf .bf16 (mulf (mulf u (Host.divf (broadcastInDim S8192x14336 ![] bcast_S_S8192x14336 (constant S_ .f32 0x3F800000#32))
    (addf (broadcastInDim S8192x14336 ![] bcast_S_S8192x14336 (constant S_ .f32 0x3F800000#32)) (Host.exp (Host.negf u))))) g) bitsLt_bf16_f32

/-- The gate at an entry. -/
theorem gate_at (u g : FVec Ideal S8192x14336 .f32) (r : Fin 8192) (j : Fin 14336) :
    gate u g (ix2 r j) = gated (u (ix2 r j)) (g (ix2 r j)) := by
  pointwise [gate]
  rfl

/-- The reference's result is the closed form. -/
theorem result_eq (h : FVec Ideal S8192x4096 .bf16) (w1 w3 : FVec Ideal S1x4096x14336 .f32) :
    gate (prodOf h w1) (prodOf h w3) = denseOut h w1 w3 := by
  funext y
  obtain ⟨r, j, rfl⟩ : ∃ (r : Fin 8192) (j : Fin 14336), y = ix2 r j := ⟨y 0, y 1, eq_ix2 y⟩
  rw [gate_at, prodOf_at, prodOf_at]
  rfl

/-- The reference's run: its result is the closed form, its arguments unchanged. -/
theorem run_value (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v7) = denseOut (m ((c.tc : Thread nD τ).loc main_arg0)) (m ((c.tc : Thread nD τ).loc main_arg1))
          (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans (result_eq _ _ _), (h c).2⟩) (run (F := Ideal) m ρ)

end Cert.DenseRefIdeal.Ffn

end

end
-- ==== Proof.ExpBody.lean ====
/- A grid point of the experts' kernel: the words it reads, the blocks it copies, and its run in each case. -/
module

public import proofs.«01_k».proof.Proof.ExpWords
public import Idealize.ShloMosaic.Lib.ValueLayout

@[expose] public section

set_option maxRecDepth 16384
set_option maxHeartbeats 4000000

noncomputable section

namespace Cert.ExpertsIdeal.Moe

open Idealize.ShloMosaic Idealize.ShloMosaic.ValueIdx Idealize.ShloMosaic.TcCoe Idealize.ShloMosaic.Tactic Cert.ExpertsIdeal Cert.ExpertsIdeal.Gen
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- The first part of the body, then `k`: bring in the expert's two blocks, start the next ones', and read the tile's kind. -/
noncomputable def weightsThen {X : Type} (i : grid0.Coords) (arg2 : Memref sig .tc .smem S40 .i32) (harg2 : arg2.IsWhole) (arg3 : Memref sig .tc .smem S40 .i32) (harg3 : arg3.IsWhole) (arg4 : Memref sig .tc .smem S40 .i32) (harg4 : arg4.IsWhole) (arg5 : Memref sig .tc .vmem S512x4096 .bf16) (harg5 : arg5.IsWhole) (arg6 : Memref sig .tc .hbm S8x4096x14336 .f32) (harg6 : arg6.IsWhole) (arg7 : Memref sig .tc .hbm S8x4096x14336 .f32) (harg7 : arg7.IsWhole) (arg8 : Memref sig .tc .vmem S512x512 .bf16) (harg8 : arg8.IsWhole) (arg9 : Memref sig .tc .vmem S4096x512 .f32) (harg9 : arg9.IsWhole) (arg10 : Memref sig .tc .vmem S4096x512 .f32) (harg10 : arg10.IsWhole) (arg11 : Memref sig .tc .vmem S4096x512 .bf16) (harg11 : arg11.IsWhole) (arg12 : Memref sig .tc .vmem S4096x512 .bf16) (harg12 : arg12.IsWhole) (arg13 : DmaSems sig S2) (k : Elt F .i32 → Prog (TpuEff nD τ sig (Elt F) Λ₀ .tc) X) :
    Prog (TpuEff nD τ sig (Elt F) Λ₀ .tc) X := do
  let arg0 : BitVec 32 := BitVec.ofNat 32 (i 0).val
  let arg1 : BitVec 32 := BitVec.ofNat 32 (i 1).val
  let v3 : Elt F .i32 ← smemLoad arg2 (Rect.unit (s := S40) (k0_off1 i) S1.size (k0_off1_inb i)) numel1_S1 rfl
  let v6 : Elt F .i32 ← smemLoad arg2 (Rect.unit (s := S40) (k0_off2 i) S1.size (k0_off2_inb i)) numel1_S1 rfl
  if k0_h1 : k0_cond1 i v3 v6 = 1#1 then do
    let ⟨v97, v98, v99, k0_hw3⟩ : Σ' (v97 : Elt F .i32) (v98 : BitVec 1) (v99 : Elt F .i32), k0_chk3 i v3 v6 v97 v99 ← k0_part1_skel i arg2 harg2 arg3 harg3 arg4 harg4 arg5 harg5 arg6 harg6 arg7 harg7 arg8 harg8 arg9 harg9 arg10 harg10 arg11 harg11 arg12 harg12 arg13 arg0 arg1 v3 v6 k0_h1
    if k0_h3 : k0_cond3 i v97 = 1#1 then do
      let v110 : DmaSems sig S1 := arg13.slice (Rect.unit (s := S2) ![0] S1.size inb_S2_S1_0)
      let v111 : DmaSems sig S_ := v110.squeeze S_ squeezes_S1_S_
      let v112 : Memref sig .tc .hbm S1x4096x512 .f32 := arg6.slice (Rect.unit (s := S8x4096x14336) (k0_off7 i v97 v99) S1x4096x512.size (k0_off7_inb i v3 v6 v97 v99 k0_hw3 k0_h1 k0_h3)) (fun _ => rfl)
      let v113 : Memref sig .tc .hbm S4096x512 .f32 := v112.squeeze S4096x512 squeezes_S1x4096x512_S4096x512
      Prog.lift (.enqueueDma v113 (.here arg9) (.dma v111.sem) ((View.wordExact_bits rfl).reshape _ _) harg9.wordExact ⟨Or.inl rfl, trivial⟩)
      let v116 : DmaSems sig S1 := arg13.slice (Rect.unit (s := S2) ![1] S1.size inb_S2_S1_1)
      let v117 : DmaSems sig S_ := v116.squeeze S_ squeezes_S1_S_
      let v118 : Memref sig .tc .hbm S1x4096x512 .f32 := arg7.slice (Rect.unit (s := S8x4096x14336) (k0_off7 i v97 v99) S1x4096x512.size (k0_off7_inb i v3 v6 v97 v99 k0_hw3 k0_h1 k0_h3)) (fun _ => rfl)
      let v119 : Memref sig .tc .hbm S4096x512 .f32 := v118.squeeze S4096x512 squeezes_S1x4096x512_S4096x512
      Prog.lift (.enqueueDma v119 (.here arg10) (.dma v117.sem) ((View.wordExact_bits rfl).reshape _ _) harg10.wordExact ⟨Or.inl rfl, trivial⟩)
      pure ⟨⟩
    else do
      pure ⟨⟩
    pure ⟨⟩
  else do
    pure ⟨⟩
  let v12 : Elt F .i32 ← smemLoad arg3 (Rect.unit (s := S40) (k0_off8 i) S1.size (k0_off8_inb i)) numel1_S1 rfl
  k v12

/-- What follows the first part may be put inside it. -/
theorem weightsThen_bind {X Y : Type} (i : grid0.Coords) (arg2 : Memref sig .tc .smem S40 .i32) (harg2 : arg2.IsWhole) (arg3 : Memref sig .tc .smem S40 .i32) (harg3 : arg3.IsWhole) (arg4 : Memref sig .tc .smem S40 .i32) (harg4 : arg4.IsWhole) (arg5 : Memref sig .tc .vmem S512x4096 .bf16) (harg5 : arg5.IsWhole) (arg6 : Memref sig .tc .hbm S8x4096x14336 .f32) (harg6 : arg6.IsWhole) (arg7 : Memref sig .tc .hbm S8x4096x14336 .f32) (harg7 : arg7.IsWhole) (arg8 : Memref sig .tc .vmem S512x512 .bf16) (harg8 : arg8.IsWhole) (arg9 : Memref sig .tc .vmem S4096x512 .f32) (harg9 : arg9.IsWhole) (arg10 : Memref sig .tc .vmem S4096x512 .f32) (harg10 : arg10.IsWhole) (arg11 : Memref sig .tc .vmem S4096x512 .bf16) (harg11 : arg11.IsWhole) (arg12 : Memref sig .tc .vmem S4096x512 .bf16) (harg12 : arg12.IsWhole) (arg13 : DmaSems sig S2) (k : Elt F .i32 → Prog (TpuEff nD τ sig (Elt F) Λ₀ .tc) X) (T : X → Prog (TpuEff nD τ sig (Elt F) Λ₀ .tc) Y) :
    weightsThen (F := F) i arg2 harg2 arg3 harg3 arg4 harg4 arg5 harg5 arg6 harg6 arg7 harg7 arg8 harg8 arg9 harg9 arg10 harg10 arg11 harg11 arg12 harg12 arg13 k >>= T = weightsThen i arg2 harg2 arg3 harg3 arg4 harg4 arg5 harg5 arg6 harg6 arg7 harg7 arg8 harg8 arg9 harg9 arg10 harg10 arg11 harg11 arg12 harg12 arg13 (fun v => k v >>= T) := by
  unfold weightsThen
  rw [Prog.bind_assoc]
  refine congrArg (Bind.bind _) (funext fun v3 => ?_)
  rw [Prog.bind_assoc]
  refine congrArg (Bind.bind _) (funext fun v6 => ?_)
  by_cases h1 : k0_cond1 i v3 v6 = 1#1
  · simp only [dif_pos h1]
    rw [Prog.bind_assoc]
    refine congrArg (Bind.bind _) (funext fun x => ?_)
    by_cases h3 : k0_cond3 i x.1 = 1#1
    · simp only [dif_pos h3]
      rfl
    · simp only [dif_neg h3]
      rfl
  · simp only [dif_neg h1]
    rfl

/-- The body is its two parts, one after the other. -/
theorem body_eq (i : grid0.Coords) (arg2 : Memref sig .tc .smem S40 .i32) (harg2 : arg2.IsWhole) (arg3 : Memref sig .tc .smem S40 .i32) (harg3 : arg3.IsWhole) (arg4 : Memref sig .tc .smem S40 .i32) (harg4 : arg4.IsWhole) (arg5 : Memref sig .tc .vmem S512x4096 .bf16) (harg5 : arg5.IsWhole) (arg6 : Memref sig .tc .hbm S8x4096x14336 .f32) (harg6 : arg6.IsWhole) (arg7 : Memref sig .tc .hbm S8x4096x14336 .f32) (harg7 : arg7.IsWhole) (arg8 : Memref sig .tc .vmem S512x512 .bf16) (harg8 : arg8.IsWhole) (arg9 : Memref sig .tc .vmem S4096x512 .f32) (harg9 : arg9.IsWhole) (arg10 : Memref sig .tc .vmem S4096x512 .f32) (harg10 : arg10.IsWhole) (arg11 : Memref sig .tc .vmem S4096x512 .bf16) (harg11 : arg11.IsWhole) (arg12 : Memref sig .tc .vmem S4096x512 .bf16) (harg12 : arg12.IsWhole) (arg13 : DmaSems sig S2) :
    cc0_matmul_swiglu_in_skel (F := F) i arg2 harg2 arg3 harg3 arg4 harg4 arg5 harg5 arg6 harg6 arg7 harg7 arg8 harg8 arg9 harg9 arg10 harg10 arg11 harg11 arg12 harg12 arg13 = weightsThen i arg2 harg2 arg3 harg3 arg4 harg4 arg5 harg5 arg6 harg6 arg7 harg7 arg8 harg8 arg9 harg9 arg10 harg10 arg11 harg11 arg12 harg12 arg13 (rowsTail i arg2 harg2 arg3 harg3 arg4 harg4 arg5 harg5 arg6 harg6 arg7 harg7 arg8 harg8 arg9 harg9 arg10 harg10 arg11 harg11 arg12 harg12 arg13) := by
  unfold cc0_matmul_swiglu_in_skel
  simp only [k0_part2_eq_skeleton, k0_part3_eq_skeleton]
  have e : k0_part2_skel (F := F) i arg2 harg2 arg3 harg3 arg4 harg4 arg5 harg5 arg6 harg6 arg7 harg7 arg8 harg8 arg9 harg9 arg10 harg10 arg11 harg11 arg12 harg12 arg13 = weightsThen i arg2 harg2 arg3 harg3 arg4 harg4 arg5 harg5 arg6 harg6 arg7 harg7 arg8 harg8 arg9 harg9 arg10 harg10 arg11 harg11 arg12 harg12 arg13 (fun v12 => do
    if k0_h4 : k0_cond4 v12 = 1#1 then do
      let v67 : Vec F S512x4096 .bf16 ← Prog.lift (.load arg5 (Rect.unit (s := S512x4096) ![0, 0] S512x4096.size inb_S512x4096_S512x4096_0_0).toLoadRect (View.loadsAt_vmem h_S512x4096))
      let v68 : Vec F S4096x512 .bf16 ← Prog.lift (.load arg11 (Rect.unit (s := S4096x512) ![0, 0] S4096x512.size inb_S4096x512_S4096x512_0_0).toLoadRect (View.loadsAt_vmem h_S4096x512))
      let v70 : Vec F S4096x512 .bf16 ← Prog.lift (.load arg12 (Rect.unit (s := S4096x512) ![0, 0] S4096x512.size inb_S4096x512_S4096x512_0_0).toLoadRect (View.loadsAt_vmem h_S4096x512))
      let v76 : Vec F S512x512 .bf16 ← Prog.lift (.load arg8 (Rect.unit (s := S512x512) ![0, 0] S512x512.size inb_S512x512_S512x512_0_0).toLoadRect (View.loadsAt_vmem h_S512x512))
      Prog.lift (.store arg8 (Rect.unit (s := S512x512) ![0, 0] S512x512.size inb_S512x512_S512x512_0_0) (k0_pay3 v67 v68 v70) Finset.univ (View.stores_vmem h_S512x512 (harg8.storeExact_slice rfl _ packedbf16_S512x512_S512x512_0_0) (fun _ => rfl)) (.inl rfl))
      pure ⟨⟩
    else do
      pure ⟨⟩
    if k0_h5 : k0_cond5 v12 = 1#1 then do
      let v68 : Vec F S512x512 .bf16 ← Prog.lift (.load arg8 (Rect.unit (s := S512x512) ![0, 0] S512x512.size inb_S512x512_S512x512_0_0).toLoadRect (View.loadsAt_vmem h_S512x512))
      Prog.lift (.store arg8 (Rect.unit (s := S512x512) ![0, 0] S512x512.size inb_S512x512_S512x512_0_0) (k0_pay4 (F := F)) Finset.univ (View.stores_vmem h_S512x512 (harg8.storeExact_slice rfl _ packedbf16_S512x512_S512x512_0_0) (fun _ => rfl)) (.inl rfl))
      pure ⟨⟩
    else do
      pure ⟨⟩
    if k0_h6 : k0_cond6 v12 = 1#1 then do
      let v67 : Vec F S128x4096 .bf16 ← Prog.lift (.load arg5 (Rect.unit (s := S512x4096) ![0, 0] S128x4096.size inb_S512x4096_S128x4096_0_0).toLoadRect (View.loadsAt_vmem h_S128x4096))
      let v68 : Vec F S4096x512 .bf16 ← Prog.lift (.load arg11 (Rect.unit (s := S4096x512) ![0, 0] S4096x512.size inb_S4096x512_S4096x512_0_0).toLoadRect (View.loadsAt_vmem h_S4096x512))
      let v70 : Vec F S4096x512 .bf16 ← Prog.lift (.load arg12 (Rect.unit (s := S4096x512) ![0, 0] S4096x512.size inb_S4096x512_S4096x512_0_0).toLoadRect (View.loadsAt_vmem h_S4096x512))
      let v76 : Vec F S128x512 .bf16 ← Prog.lift (.load arg8 (Rect.unit (s := S512x512) ![0, 0] S128x512.size inb_S512x512_S128x512_0_0).toLoadRect (View.loadsAt_vmem h_S128x512))
      Prog.lift (.store arg8 (Rect.unit (s := S512x512) ![0, 0] S128x512.size inb_S512x512_S128x512_0_0) (k0_pay5 v67 v68 v70) Finset.univ (View.stores_vmem h_S128x512 (harg8.storeExact_slice rfl _ packedbf16_S512x512_S128x512_0_0) (fun _ => rfl)) (.inl rfl))
      pure ⟨⟩
    else do
      pure ⟨⟩
    if k0_h7 : k0_cond7 v12 = 1#1 then do
      let v68 : Vec F S128x512 .bf16 ← Prog.lift (.load arg8 (Rect.unit (s := S512x512) ![0, 0] S128x512.size inb_S512x512_S128x512_0_0).toLoadRect (View.loadsAt_vmem h_S128x512))
      Prog.lift (.store arg8 (Rect.unit (s := S512x512) ![0, 0] S128x512.size inb_S512x512_S128x512_0_0) (k0_pay6 (F := F)) Finset.univ (View.stores_vmem h_S128x512 (harg8.storeExact_slice rfl _ packedbf16_S512x512_S128x512_0_0) (fun _ => rfl)) (.inl rfl))
      pure ⟨⟩
    else do
      pure ⟨⟩
    let v31 : BitVec 1 := Scalar.cmpi .sge v12 8#32
    let v32 : BitVec 32 := Scalar.subi v12 8#32
    let v33 : BitVec 1 := Scalar.cmpi .sgt v32 1#32
    pure (⟨v12, v31, v33⟩ : Σ' (v12 : Elt F .i32) (v31 : BitVec 1), BitVec 1)) := by
    unfold k0_part2_skel weightsThen
    simp only [k0_part1_eq_skeleton]
  rw [e, weightsThen_bind]
  rfl

/-- The kernel's body at a grid point, on its windows. -/
abbrev bodyAt (i : grid0.Coords) (arg5 : Memref sig .tc .vmem S512x4096 .bf16) (harg5 : arg5.IsWhole)
    (arg8 : Memref sig .tc .vmem S512x512 .bf16) (harg8 : arg8.IsWhole) : Prog (TpuEff nD τ sig (Elt F) Λ₀ .tc) PUnit :=
  cc0_matmul_swiglu_in_skel i (Memref.whole main_arg3) (Memref.isWhole_whole _) (Memref.whole main_arg4) (Memref.isWhole_whole _)
    (Memref.whole main_v10) (Memref.isWhole_whole _) arg5 harg5 (Memref.whole main_arg1) (Memref.isWhole_whole _)
    (Memref.whole main_arg2) (Memref.isWhole_whole _) arg8 harg8 (Memref.whole cc0_scratch0) (Memref.isWhole_whole _)
    (Memref.whole cc0_scratch1) (Memref.isWhole_whole _) (Memref.whole cc0_scratch2) (Memref.isWhole_whole _)
    (Memref.whole cc0_scratch3) (Memref.isWhole_whole _) cc0_scratch4

/-- A word of a table, at the offset a load names. -/
def word (te : Vec F S40 .i32) (off : Fin 1 → ℕ) (h : ∀ a, off a + S1.size a ≤ S40.size a) : BitVec 32 :=
  te (fun a => ⟨off a, by have := h a; have e : S1.size a = 1 := by match a with | ⟨0, _⟩ => rfl
                          omega⟩)

/-- A buffer held whole. -/
abbrev held (c : Dev nD) {S : Shape} {e : EltTy} {sp : Space} (M : Memref sig .tc sp S e) (f : Buf (Elt F) (M.view.loc (c : Thread nD τ))) : sProp 𝕄 :=
  M.view.loc (c : Thread nD τ) ↦{fullShare} f

/-- The block of a weight at an offset. -/
abbrev blkOf (M : Memref sig .tc .hbm S8x4096x14336 .f32) (off : Fin 3 → ℕ) (h : ∀ a, off a + S1x4096x512.size a ≤ S8x4096x14336.size a) :
    Memref sig .tc .hbm S4096x512 .f32 :=
  (M.slice (Rect.unit (s := S8x4096x14336) off S1x4096x512.size h) (fun _ => rfl)).squeeze S4096x512 squeezes_S1x4096x512_S4096x512

abbrev MW1 : Memref sig .tc .hbm S8x4096x14336 .f32 := Memref.whole main_arg1
abbrev MW2 : Memref sig .tc .hbm S8x4096x14336 .f32 := Memref.whole main_arg2
abbrev MT : Memref sig .tc .smem S40 .i32 := Memref.whole main_arg3
abbrev MM : Memref sig .tc .smem S40 .i32 := Memref.whole main_arg4
abbrev MX : Memref sig .tc .smem S40 .i32 := Memref.whole main_v10
abbrev MF1 : Memref sig .tc .vmem S4096x512 .f32 := Memref.whole cc0_scratch0
abbrev MF2 : Memref sig .tc .vmem S4096x512 .f32 := Memref.whole cc0_scratch1
abbrev MB1 : Memref sig .tc .vmem S4096x512 .bf16 := Memref.whole cc0_scratch2
abbrev MB2 : Memref sig .tc .vmem S4096x512 .bf16 := Memref.whole cc0_scratch3

/-- A table of words, held at half. -/
def tbl (c : Dev nD) {S : Shape} {e : EltTy} {sp : Space} (M : Memref sig .tc sp S e) (f : Buf (Elt F) (M.view.loc (c : Thread nD τ))) : sProp 𝕄 :=
  M.view.loc (c : Thread nD τ) ↦[Finset.univ]{fullShare.right} f

/-- The first part of the body on its windows, then `k`. -/
abbrev weightsAt {X : Type} (i : grid0.Coords) (arg5 : Memref sig .tc .vmem S512x4096 .bf16) (harg5 : arg5.IsWhole)
    (arg8 : Memref sig .tc .vmem S512x512 .bf16) (harg8 : arg8.IsWhole) (k : Elt F .i32 → Prog (TpuEff nD τ sig (Elt F) Λ₀ .tc) X) :
    Prog (TpuEff nD τ sig (Elt F) Λ₀ .tc) X :=
  weightsThen i (Memref.whole main_arg3) (Memref.isWhole_whole _) (Memref.whole main_arg4) (Memref.isWhole_whole _)
    (Memref.whole main_v10) (Memref.isWhole_whole _) arg5 harg5 (Memref.whole main_arg1) (Memref.isWhole_whole _)
    (Memref.whole main_arg2) (Memref.isWhole_whole _) arg8 harg8 (Memref.whole cc0_scratch0) (Memref.isWhole_whole _)
    (Memref.whole cc0_scratch1) (Memref.isWhole_whole _) (Memref.whole cc0_scratch2) (Memref.isWhole_whole _)
    (Memref.whole cc0_scratch3) (Memref.isWhole_whole _) cc0_scratch4 k

/-- The block of a weight that begins at an offset. -/
def blkAt (Wt : Vec F S8x4096x14336 .f32) (off : Fin 3 → ℕ) : Vec F S4096x512 .f32 := fun x =>
  Wt (ix3 (n0 := 8) (n1 := 4096) (n2 := 14336) ⟨off 0 % 8, Nat.mod_lt _ (by decide)⟩ ⟨(off 1 + (x 0).val) % 4096, Nat.mod_lt _ (by decide)⟩
    ⟨(off 2 + (x 1).val) % 14336, Nat.mod_lt _ (by decide)⟩)

/-- A copy's source, read. -/
theorem read_blk1 (off : Fin 3 → ℕ) (h : ∀ a, off a + S1x4096x512.size a ≤ S8x4096x14336.size a) (Wt : Vec F S8x4096x14336 .f32) :
    (blkOf MW1 off h).view.read (Elt F) Wt = blkAt Wt off := by
  have h0 := h 0
  have h1 := h 1
  have h2 := h 2
  change off 0 + 1 ≤ 8 at h0
  change off 1 + 4096 ≤ 4096 at h1
  change off 2 + 512 ≤ 14336 at h2
  have key : ∀ (p : Fin 4096) (q : Fin 512), (blkOf MW1 off h).view.read (Elt F) Wt (ix2 p q) = blkAt Wt off (ix2 p q) := by
    intro p q
    have e : (blkOf MW1 off h).view.read (Elt F) Wt (ix2 p q)
        = Wt ((Rect.unit (s := S8x4096x14336) off S1x4096x512.size h).emb (Shape.reshapeEquiv (s := S1x4096x512) squeezes_S1x4096x512_S4096x512.numel_eq (ix2 p q))) := rfl
    rw [e, show Shape.reshapeEquiv (s := S1x4096x512) squeezes_S1x4096x512_S4096x512.numel_eq (ix2 p q)
        = ix3 (⟨0, Nat.one_pos⟩ : Fin 1) p q from reshapeEquiv_ix2_1ab _ _ _]
    unfold blkAt
    refine congrArg Wt (funext fun a => ?_)
    have x0 := p.isLt
    have x1 := q.isLt
    match a with
    | ⟨0, _⟩ => exact Fin.ext (by show off 0 + 0 * 1 = off 0 % 8; omega)
    | ⟨1, _⟩ => exact Fin.ext (by show off 1 + 1 * p.val = (off 1 + p.val) % 4096; omega)
    | ⟨2, _⟩ => exact Fin.ext (by show off 2 + 1 * q.val = (off 2 + q.val) % 14336; omega)
  funext x
  exact (congrArg _ (eq_ix2 x)).trans ((key (x 0) (x 1)).trans (congrArg _ (eq_ix2 x).symm))

/-- A copy's source, read. -/
theorem read_blk2 (off : Fin 3 → ℕ) (h : ∀ a, off a + S1x4096x512.size a ≤ S8x4096x14336.size a) (Wt : Vec F S8x4096x14336 .f32) :
    (blkOf MW2 off h).view.read (Elt F) Wt = blkAt Wt off := read_blk1 off h Wt

/-- A block of a weight on its way into its buffer; the weight is held but for the block. -/
def flying (c : Dev nD) (MW : Memref sig .tc .hbm S8x4096x14336 .f32) (MF : Memref sig .tc .vmem S4096x512 .f32) (sm : SemLoc sig)
    (f : Buf (Elt F) (MW.view.loc (c : Thread nD τ))) (g : Buf (Elt F) (MF.view.loc (c : Thread nD τ))) : sProp 𝕄 :=
  iprop(∃ I, Transfers.Flight (countersEmb (U := Pipeline.UD sig nD τ)) (c : Thread nD τ) sm default 262144
      iprop((MF.view.loc (c : Thread nD τ) ↦{fullShare} g) ∗ (MW.view.loc (c : Thread nD τ) ↦[I]{fullShare} f))
    ∗ (MW.view.loc (c : Thread nD τ) ↦[Finset.univ \ I]{fullShare} f))

/-- Nothing is on its way: the weight and its buffer are held. -/
def idleAt (c : Dev nD) (MW : Memref sig .tc .hbm S8x4096x14336 .f32) (MF : Memref sig .tc .vmem S4096x512 .f32) (sm : SemLoc sig)
    (f : Buf (Elt F) (MW.view.loc (c : Thread nD τ))) : sProp 𝕄 :=
  iprop((MW.view.loc (c : Thread nD τ) ↦{fullShare} f) ∗ (∃ g, MF.view.loc (c : Thread nD τ) ↦{fullShare} g) ∗ semVal ((c : Thread nD τ), sm) 0)

/-- The two blocks on their way, or none. -/
def pend (c : Dev nD) (W1 W2 : Vec F S8x4096x14336 .f32) : Option (Fin 3 → ℕ) → sProp 𝕄
  | some off => iprop(flying c MW1 MF1 (SemLoc.dma 4) W1 (blkAt W1 off) ∗ flying c MW2 MF2 (SemLoc.dma 5) W2 (blkAt W2 off))
  | none => iprop(idleAt c MW1 MF1 (SemLoc.dma 4) W1 ∗ idleAt c MW2 MF2 (SemLoc.dma 5) W2)

/-- The two spellings of where the expert's block begins. -/
theorem off4_eq (i : grid0.Coords) (v : BitVec 32) : k0_off4 i v = k0_off5 i v := rfl

/-- A copy just started is a block on its way. -/
theorem to_flying (c : Dev nD) (MW : Memref sig .tc .hbm S8x4096x14336 .f32) (MF : Memref sig .tc .vmem S4096x512 .f32) (sm : SemLoc sig)
    (f : Buf (Elt F) (MW.view.loc (c : Thread nD τ))) (g g' : Buf (Elt F) (MF.view.loc (c : Thread nD τ))) (I : Finset (Idx (MW.view.loc (c : Thread nD τ)))) (h : g' = g) :
    iprop(Transfers.Flight (countersEmb (U := Pipeline.UD sig nD τ)) (c : Thread nD τ) sm default 262144
      iprop((MF.view.loc (c : Thread nD τ) ↦{fullShare} g') ∗ (MW.view.loc (c : Thread nD τ) ↦[I]{fullShare} f))
      ∗ (MW.view.loc (c : Thread nD τ) ↦[Finset.univ \ I]{fullShare} f)) ⊢ (flying c MW MF sm f g : sProp 𝕄) := by
  subst h
  unfold flying
  iintro ⟨H1, H2⟩
  iexists I
  isplitl [H1]; · iexact H1
  iexact H2

/-- A buffer held, as its contents read. -/
theorem own_intro (c : Dev nD) {S : Shape} {e : EltTy} {sp : Space} (M : Memref sig .tc sp S e) (f : Buf (Elt F) (M.view.loc (c : Thread nD τ)))
    (A : Vec F S e) (h : M.view.read (Elt F) f = A) :
    (M.view.loc (c : Thread nD τ) ↦[M.view.set]{fullShare} f) ⊢ (owns (c : Thread nD τ) M fullShare A : sProp 𝕄) := by
  unfold owns
  iintro H
  iexists f
  isplitr [H]; · ipureintro; exact h
  iexact H

/-- What the first part of the body leaves: the blocks at `cur` cast, the blocks at `p` on their way. -/
def weightsPost (c : Dev nD) (te md nx : Vec F S40 .i32) (W1 W2 : Vec F S8x4096x14336 .f32) (cur : Fin 3 → ℕ) (p : Option (Fin 3 → ℕ)) : sProp 𝕄 :=
  iprop(tbl c MT te ∗ tbl c MM md ∗ tbl c MX nx ∗ pend c W1 W2 p
    ∗ owns (c : Thread nD τ) MB1 fullShare (k0_pay1 (blkAt W1 cur)) ∗ owns (c : Thread nD τ) MB2 fullShare (k0_pay2 (blkAt W2 cur)) ∗ (∃ W', owes (c : Thread nD τ) 0 W'))

/-- A cast stored whole over a buffer. -/
theorem cast_stored1 (b : Vec F S4096x512 .bf16) (g : Vec F S4096x512 .f32) :
    MB1.view.read (Elt F) (MB1.view.writes (Elt F) b [⟨Rect.unit (s := S4096x512) ![0, 0] S4096x512.size inb_S4096x512_S4096x512_0_0,
      k0_pay1 (View.readAt (Elt F) MF1.view (Rect.unit (s := S4096x512) ![0, 0] S4096x512.size inb_S4096x512_S4096x512_0_0).toLoadRect g)⟩])
      = k0_pay1 (F := F) g := by
  rw [View.readAt_full MF1.view]
  exact View.read_writes_full MB1.view b _ _ []

/-- A cast stored whole over a buffer. -/
theorem cast_stored2 (b : Vec F S4096x512 .bf16) (g : Vec F S4096x512 .f32) :
    MB2.view.read (Elt F) (MB2.view.writes (Elt F) b [⟨Rect.unit (s := S4096x512) ![0, 0] S4096x512.size inb_S4096x512_S4096x512_0_0,
      k0_pay2 (View.readAt (Elt F) MF2.view (Rect.unit (s := S4096x512) ![0, 0] S4096x512.size inb_S4096x512_S4096x512_0_0).toLoadRect g)⟩])
      = k0_pay2 (F := F) g := by
  rw [View.readAt_full MF2.view]
  exact View.read_writes_full MB2.view b _ _ []

/-- A grid point that brings in an expert's blocks, and starts the next ones'. -/
theorem weights_new {X : Type} (c : Dev nD) (K : X → sProp 𝕄) (i : grid0.Coords) (arg5 : Memref sig .tc .vmem S512x4096 .bf16) (harg5 : arg5.IsWhole)
    (arg8 : Memref sig .tc .vmem S512x512 .bf16) (harg8 : arg8.IsWhole) (k : Elt F .i32 → Prog (TpuEff nD τ sig (Elt F) Λ₀ .tc) X)
    (te md nx : Vec F S40 .i32)
    (W1 W2 : Vec F S8x4096x14336 .f32) (W : Waits sig Unit)
    (hc1 : k0_cond1 i (word te (k0_off1 i) (k0_off1_inb i)) (word te (k0_off2 i) (k0_off2_inb i)) = 1#1)
    (hk1 : k0_chk1 i (word te (k0_off1 i) (k0_off1_inb i)) (word te (k0_off2 i) (k0_off2_inb i)) (word te (k0_off3 i) (k0_off3_inb i)))
    (hk2 : k0_chk2 i (word te (k0_off1 i) (k0_off1_inb i)) (word te (k0_off2 i) (k0_off2_inb i)) (word nx (k0_off6 i) (k0_off6_inb i)))
    (hk3 : k0_chk3 i (word te (k0_off1 i) (k0_off1_inb i)) (word te (k0_off2 i) (k0_off2_inb i)) (word nx (k0_off6 i) (k0_off6_inb i)) (word te ![0] inb_S40_S1_0)) :
    iprop(tbl c MT te ∗ tbl c MM md ∗ tbl c MX nx
      ∗ pend c W1 W2 (if k0_cond2 i = 1#1 then none else some (k0_off5 i (word te (k0_off3 i) (k0_off3_inb i))))
      ∗ (∃ A, owns (c : Thread nD τ) MB1 fullShare A) ∗ (∃ A, owns (c : Thread nD τ) MB2 fullShare A)
      ∗ owes (c : Thread nD τ) 0 W
      ∗ (weightsPost c te md nx W1 W2 (k0_off5 i (word te (k0_off3 i) (k0_off3_inb i)))
          (if k0_cond3 i (word nx (k0_off6 i) (k0_off6_inb i)) = 1#1 then some (k0_off7 i (word nx (k0_off6 i) (k0_off6_inb i)) (word te ![0] inb_S40_S1_0)) else none)
        -∗ wp frame (wpE (defs₀ (F := F)) Variants.none c none) Set.univ (k (word md (k0_off8 i) (k0_off8_inb i))) K))
      ⊢ wp frame (wpE (defs₀ (F := F)) Variants.none c none) Set.univ (weightsAt i arg5 harg5 arg8 harg8 k) K := by
  by_cases hc2 : k0_cond2 i = 1#1 <;> by_cases hc3 : k0_cond3 i (word nx (k0_off6 i) (k0_off6_inb i)) = 1#1
  · rw [if_pos hc2, if_pos hc3]
    unfold weightsAt weightsThen owns tbl pend idleAt
    iintro ⟨HT, HM, HX, ⟨⟨HW1, ⟨%g1, Hf1⟩, HF1⟩, ⟨HW2, ⟨%g2, Hf2⟩, HF2⟩⟩, ⟨%A1, %b1, %hb1, HB1⟩, ⟨%A2, %b2, %hb2, HB2⟩, HO, HK⟩
    sl_exec (disch := first | sl_exact hc1 | sl_exact hc2 | sl_exact hc3 | sl_exact hk1 | sl_exact hk2 | sl_exact hk3)
    iapply HK
    unfold weightsPost tbl pend
    isplitl [HT]; · iexact HT
    isplitl [HM]; · iexact HM
    isplitl [HX]; · iexact HX
    isplitl [HF1 HW1 HF2 HW2]
    · isplitl [HF1 HW1]
      · iapply (to_flying c MW1 MF1 (SemLoc.dma 4) W1 _ _ _ ((View.write_whole_univ cc0_scratch0 _ _).trans (read_blk1 (k0_off7 i _ _) _ W1)))
        isplitl [HF1]; · iexact HF1
        iexact HW1
      · iapply (to_flying c MW2 MF2 (SemLoc.dma 5) W2 _ _ _ ((View.write_whole_univ cc0_scratch1 _ _).trans (read_blk2 (k0_off7 i _ _) _ W2)))
        isplitl [HF2]; · iexact HF2
        iexact HW2
    isplitl [HB1]
    · iapply (own_intro c MB1 _ _ ((cast_stored1 b1 _).trans (congrArg k0_pay1 ((View.write_whole_univ cc0_scratch0 _ _).trans ((read_blk1 (k0_off4 i _) _ W1).trans (congrArg (blkAt W1) (off4_eq i _)))))))
      iexact HB1
    isplitl [HB2]
    · iapply (own_intro c MB2 _ _ ((cast_stored2 b2 _).trans (congrArg k0_pay2 ((View.write_whole_univ cc0_scratch1 _ _).trans ((read_blk2 (k0_off4 i _) _ W2).trans (congrArg (blkAt W2) (off4_eq i _)))))))
      iexact HB2
    iexists _; iexact HO
  · exact absurd (cond3_of_cond2 i _ hc2) hc3
  · rw [if_neg hc2, if_pos hc3]
    unfold weightsAt weightsThen owns tbl pend flying
    iintro ⟨HT, HM, HX, ⟨⟨%I1, HF1, HW1⟩, ⟨%I2, HF2, HW2⟩⟩, ⟨%A1, %b1, %hb1, HB1⟩, ⟨%A2, %b2, %hb2, HB2⟩, HO, HK⟩
    sl_exec (disch := first | sl_exact hc1 | sl_exact hc2 | sl_exact hc3 | sl_exact hk1 | sl_exact hk2 | sl_exact hk3)
    iapply HK
    unfold weightsPost tbl pend
    isplitl [HT]; · iexact HT
    isplitl [HM]; · iexact HM
    isplitl [HX]; · iexact HX
    isplitl [HF1 HW1 HF2 HW2]
    · isplitl [HF1 HW1]
      · iapply (to_flying c MW1 MF1 (SemLoc.dma 4) W1 _ _ _ ((View.write_whole_univ cc0_scratch0 _ _).trans (read_blk1 (k0_off7 i _ _) _ W1)))
        isplitl [HF1]; · iexact HF1
        iexact HW1
      · iapply (to_flying c MW2 MF2 (SemLoc.dma 5) W2 _ _ _ ((View.write_whole_univ cc0_scratch1 _ _).trans (read_blk2 (k0_off7 i _ _) _ W2)))
        isplitl [HF2]; · iexact HF2
        iexact HW2
    isplitl [HB1]
    · iapply (own_intro c MB1 _ _ (cast_stored1 b1 _))
      iexact HB1
    isplitl [HB2]
    · iapply (own_intro c MB2 _ _ (cast_stored2 b2 _))
      iexact HB2
    iexists _; iexact HO
  · rw [if_neg hc2, if_neg hc3]
    unfold weightsAt weightsThen owns tbl pend flying
    iintro ⟨HT, HM, HX, ⟨⟨%I1, HF1, HW1⟩, ⟨%I2, HF2, HW2⟩⟩, ⟨%A1, %b1, %hb1, HB1⟩, ⟨%A2, %b2, %hb2, HB2⟩, HO, HK⟩
    sl_exec (disch := first | sl_exact hc1 | sl_exact hc2 | sl_exact hc3 | sl_exact hk1 | sl_exact hk2 | sl_exact hk3)
    iapply HK
    unfold weightsPost tbl pend idleAt
    isplitl [HT]; · iexact HT
    isplitl [HM]; · iexact HM
    isplitl [HX]; · iexact HX
    isplitl [HF1 HW1 HF1_dst HF2 HW2 HF2_dst]
    · isplitl [HF1 HW1 HF1_dst]
      · isplitl [HW1]; · iexact HW1
        isplitl [HF1_dst]; · iexists _; iexact HF1_dst
        iexact HF1
      · isplitl [HW2]; · iexact HW2
        isplitl [HF2_dst]; · iexists _; iexact HF2_dst
        iexact HF2
    isplitl [HB1]
    · iapply (own_intro c MB1 _ _ (cast_stored1 b1 _))
      iexact HB1
    isplitl [HB2]
    · iapply (own_intro c MB2 _ _ (cast_stored2 b2 _))
      iexact HB2
    iexists _; iexact HO

/-- A grid point that keeps the blocks of the one before. -/
theorem weights_kept {X : Type} (c : Dev nD) (K : X → sProp 𝕄) (i : grid0.Coords) (arg5 : Memref sig .tc .vmem S512x4096 .bf16) (harg5 : arg5.IsWhole)
    (arg8 : Memref sig .tc .vmem S512x512 .bf16) (harg8 : arg8.IsWhole) (k : Elt F .i32 → Prog (TpuEff nD τ sig (Elt F) Λ₀ .tc) X)
    (te md nx : Vec F S40 .i32)
    (hc1 : ¬ k0_cond1 i (word te (k0_off1 i) (k0_off1_inb i)) (word te (k0_off2 i) (k0_off2_inb i)) = 1#1) :
    iprop(tbl c MT te ∗ tbl c MM md
      ∗ (iprop(tbl c MT te ∗ tbl c MM md)
        -∗ wp frame (wpE (defs₀ (F := F)) Variants.none c none) Set.univ (k (word md (k0_off8 i) (k0_off8_inb i))) K))
      ⊢ wp frame (wpE (defs₀ (F := F)) Variants.none c none) Set.univ (weightsAt i arg5 harg5 arg8 harg8 k) K := by
  unfold weightsAt weightsThen tbl
  iintro ⟨HT, HM, HK⟩
  sl_exec (disch := sl_exact hc1)
  iapply HK
  isplitl [HT]; · iexact HT
  iexact HM

end Cert.ExpertsIdeal.Moe
end
end
-- ==== Proof.ExpPoint.lean ====
/- A grid point of the experts' kernel on what the points before it leave: which blocks are cast, and which are on their way. -/
module

public import proofs.«01_k».proof.Proof.ExpBody

@[expose] public section

set_option maxRecDepth 16384
set_option maxHeartbeats 4000000

noncomputable section

namespace Cert.ExpertsIdeal.Moe

open Idealize.ShloMosaic Idealize.ShloMosaic.ValueIdx Idealize.ShloMosaic.TcCoe Idealize.ShloMosaic.Tactic Cert.ExpertsIdeal Cert.ExpertsIdeal.Gen
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => Idealize.ShloMosaic.MT nD τ sig Unit (Elt F) ℕ (Pipeline.UD sig nD τ) ℕ

/-- Entry `j` of a table. -/
def ent (te : Vec F S40 .i32) (j : ℕ) : BitVec 32 := te (ix1 (n := 40) ⟨j % 40, Nat.mod_lt _ (by decide)⟩)

/-- The word a load names is the entry at its offset. -/
theorem word_ent (te : Vec F S40 .i32) (off : Fin 1 → ℕ) (h : ∀ a, off a + S1.size a ≤ S40.size a) : word te off h = ent te (off 0) := by
  unfold word ent
  congr 1
  funext a
  match a with
  | ⟨0, _⟩ =>
    have := h 0
    have e1 : S1.size 0 = 1 := rfl
    have e2 : S40.size 0 = 40 := rfl
    exact Fin.ext (show off 0 = off 0 % 40 by omega)

/-- The tables of experts, of tile kinds and of next experts fit together. -/
structure Good (te md nx : Vec F S40 .i32) : Prop where
  te_lt : ∀ j, (ent te j).toNat < 8
  kind : ∀ j, IsKind (ent md j)
  last : (ent nx 39).toInt < 0
  change : ∀ j, j + 1 < 40 → ent te (j + 1) ≠ ent te j → ent nx j = ent te (j + 1)
  keep : ∀ j, j + 1 < 40 → ent te (j + 1) = ent te j → ent nx (j + 1) = ent nx j
  nx_lt : ∀ j, 0 ≤ (ent nx j).toInt → (ent nx j).toNat < 8

/-- Where the blocks of tile `j` in column block `n` begin. -/
def curOff (te : Vec F S40 .i32) (n j : ℕ) : Fin 3 → ℕ := ![(ent te j).toNat, 0, 512 * n]

/-- Where the blocks on their way after that tile begin, if any are. -/
def nextOff (te nx : Vec F S40 .i32) (n j : ℕ) : Option (Fin 3 → ℕ) :=
  if 0 ≤ (ent nx j).toInt then some ![(ent nx j).toNat, 0, 512 * n] else if n + 1 < 28 then some ![(ent te 0).toNat, 0, 512 * (n + 1)] else none

/-- What holds before grid point `s`. -/
def inv (c : Dev nD) (te md nx : Vec F S40 .i32) (W1 W2 : Vec F S8x4096x14336 .f32) : ℕ → sProp 𝕄
  | 0 => iprop(tbl c MT te ∗ tbl c MM md ∗ tbl c MX nx ∗ pend c W1 W2 none
      ∗ (∃ A, owns (c : Thread nD τ) MB1 fullShare A) ∗ (∃ A, owns (c : Thread nD τ) MB2 fullShare A))
  | s + 1 => iprop(tbl c MT te ∗ tbl c MM md ∗ tbl c MX nx ∗ pend c W1 W2 (nextOff te nx (s / 40) (s % 40))
      ∗ owns (c : Thread nD τ) MB1 fullShare (k0_pay1 (blkAt W1 (curOff te (s / 40) (s % 40)))) ∗ owns (c : Thread nD τ) MB2 fullShare (k0_pay2 (blkAt W2 (curOff te (s / 40) (s % 40)))))

/-- After a grid point. -/
theorem inv_succ (c : Dev nD) (te md nx : Vec F S40 .i32) (W1 W2 : Vec F S8x4096x14336 .f32) (s : ℕ) :
    inv c te md nx W1 W2 (s + 1) = iprop(tbl c MT te ∗ tbl c MM md ∗ tbl c MX nx ∗ pend c W1 W2 (nextOff te nx (s / 40) (s % 40))
      ∗ owns (c : Thread nD τ) MB1 fullShare (k0_pay1 (blkAt W1 (curOff te (s / 40) (s % 40)))) ∗ owns (c : Thread nD τ) MB2 fullShare (k0_pay2 (blkAt W2 (curOff te (s / 40) (s % 40))))) := rfl

/-- What a grid point that brings in blocks finds. -/
theorem inv_new (c : Dev nD) (te md nx : Vec F S40 .i32) (W1 W2 : Vec F S8x4096x14336 .f32) (g : Good te md nx) (i : grid0.Coords) (s : ℕ)
    (h0 : (i 0).val = s / 40) (h1 : (i 1).val = s % 40)
    (hc1 : k0_cond1 i (word te (k0_off1 i) (k0_off1_inb i)) (word te (k0_off2 i) (k0_off2_inb i)) = 1#1) :
    inv c te md nx W1 W2 s ⊢ iprop(tbl c MT te ∗ tbl c MM md ∗ tbl c MX nx
      ∗ pend c W1 W2 (if k0_cond2 i = 1#1 then none else some (k0_off5 i (word te (k0_off3 i) (k0_off3_inb i))))
      ∗ (∃ A, owns (c : Thread nD τ) MB1 fullShare A) ∗ (∃ A, owns (c : Thread nD τ) MB2 fullShare A)) := by
  have hn := n_lt i
  match s with
  | 0 => rw [if_pos ((cond2_iff i).mpr ⟨h0, h1⟩)]; exact .rfl
  | s + 1 =>
    have hc2 : ¬ k0_cond2 i = 1#1 := fun h => by have := (cond2_iff i).mp h; omega
    have e : nextOff te nx (s / 40) (s % 40) = some (k0_off5 i (word te (k0_off3 i) (k0_off3_inb i))) := by
      rw [word_ent, off3_eq, off5_eq]
      unfold nextOff
      by_cases hm : (i 1).val = 0
      · have e1 : s % 40 = 39 := by omega
        have e2 : s / 40 + 1 = (i 0).val := by omega
        rw [if_neg (by rw [e1]; exact not_le.mpr g.last), e2, if_pos hn, hm]
      · have e1 : (i 1).val = s % 40 + 1 := by omega
        have e2 : s / 40 = (i 0).val := by omega
        have hd : ent te (s % 40 + 1) ≠ ent te (s % 40) := by
          rcases (cond1_iff i _ _).mp hc1 with h | h
          · exact absurd h hm
          · rw [word_ent, word_ent, off1_eq, off2_eq, e1, Nat.add_sub_cancel] at h
            exact h
        rw [g.change _ (by omega) hd, ← e1, e2]
        have hl := g.te_lt (i 1).val
        rw [if_pos (by rw [BitVec.toInt_eq_toNat_of_lt (by omega)]; omega)]
    rw [if_neg hc2, ← e, inv_succ]
    iintro ⟨H1, H2, H3, H4, H5, H6⟩
    isplitl [H1]; · iexact H1
    isplitl [H2]; · iexact H2
    isplitl [H3]; · iexact H3
    isplitl [H4]; · iexact H4
    isplitl [H5]; · iexists _; iexact H5
    iexists _; iexact H6

/-- The blocks on their way after a grid point that started some. -/
theorem next_eq (te nx : Vec F S40 .i32) (i : grid0.Coords) :
    (if k0_cond3 i (word nx (k0_off6 i) (k0_off6_inb i)) = 1#1 then
      some (k0_off7 i (word nx (k0_off6 i) (k0_off6_inb i)) (word te ![0] inb_S40_S1_0)) else none) = nextOff te nx (i 0).val (i 1).val := by
  rw [word_ent, word_ent, off6_eq, off7_eq]
  unfold nextOff
  by_cases h : 0 ≤ (ent nx (i 1).val).toInt
  · rw [if_pos ((cond3_iff i _).mpr (.inl h)), if_pos h, if_pos h]
  · rw [if_neg h, if_neg h]
    by_cases h' : (i 0).val + 1 < 28
    · rw [if_pos ((cond3_iff i _).mpr (.inr h')), if_pos h']; rfl
    · rw [if_neg h', if_neg fun hc => ((cond3_iff i _).mp hc).elim h h']

/-- A grid point: the tile's rows are written, and what the next point needs holds. -/
theorem point (c : Dev nD) (K : PUnit → sProp 𝕄) (i : grid0.Coords) (arg5 : Memref sig .tc .vmem S512x4096 .bf16) (harg5 : arg5.IsWhole)
    (arg8 : Memref sig .tc .vmem S512x512 .bf16) (harg8 : arg8.IsWhole) (te md nx : Vec F S40 .i32) (g : Good te md nx)
    (W1 W2 : Vec F S8x4096x14336 .f32) (s : ℕ) (h0 : (i 0).val = s / 40) (h1 : (i 1).val = s % 40) (W : Waits sig Unit)
    (H : Vec F S512x4096 .bf16) (D : Vec F S512x512 .bf16) :
    iprop(inv c te md nx W1 W2 s ∗ owes (c : Thread nD τ) 0 W ∗ owns (c : Thread nD τ) arg5 fullShare H ∗ owns (c : Thread nD τ) arg8 fullShare D
      ∗ (iprop(inv c te md nx W1 W2 (s + 1) ∗ (∃ W', owes (c : Thread nD τ) 0 W') ∗ owns (c : Thread nD τ) arg5 fullShare H
          ∗ owns (c : Thread nD τ) arg8 fullShare (rowsVal (ent md (s % 40)) H (k0_pay1 (blkAt W1 (curOff te (s / 40) (s % 40)))) (k0_pay2 (blkAt W2 (curOff te (s / 40) (s % 40)))))) -∗ K ⟨⟩))
      ⊢ wp frame (wpE (defs₀ (F := F)) Variants.none c none) Set.univ (bodyAt i arg5 harg5 arg8 harg8) K := by
  unfold bodyAt
  rw [body_eq]
  have hM : word md (k0_off8 i) (k0_off8_inb i) = ent md (s % 40) := by rw [word_ent, off8_eq, h1]
  have hcur : k0_off5 i (word te (k0_off3 i) (k0_off3_inb i)) = curOff te (s / 40) (s % 40) := by
    rw [off5_eq, word_ent, off3_eq, h0, h1]; rfl
  have hK : IsKind (ent md (s % 40)) := g.kind _
  by_cases hc1 : k0_cond1 i (word te (k0_off1 i) (k0_off1_inb i)) (word te (k0_off2 i) (k0_off2_inb i)) = 1#1
  · have hk1 : k0_chk1 i (word te (k0_off1 i) (k0_off1_inb i)) (word te (k0_off2 i) (k0_off2_inb i)) (word te (k0_off3 i) (k0_off3_inb i)) :=
      chk1_of i _ _ _ (by rw [word_ent]; exact g.te_lt _)
    have hk2 : k0_chk2 i (word te (k0_off1 i) (k0_off1_inb i)) (word te (k0_off2 i) (k0_off2_inb i)) (word nx (k0_off6 i) (k0_off6_inb i)) :=
      chk2_of i _ _ _
    have hk3 : k0_chk3 i (word te (k0_off1 i) (k0_off1_inb i)) (word te (k0_off2 i) (k0_off2_inb i)) (word nx (k0_off6 i) (k0_off6_inb i)) (word te ![0] inb_S40_S1_0) :=
      chk3_of i _ _ _ _ (by rw [word_ent]; exact g.nx_lt _) (by rw [word_ent]; exact g.te_lt _)
    iintro ⟨HI, HO, H5, H8, HK⟩
    ihave HI' := (inv_new c te md nx W1 W2 g i s h0 h1 hc1) $$ HI
    icases HI' with ⟨HT, HM, HX, HP, HA, HB⟩
    iapply (weights_new c K i arg5 harg5 arg8 harg8 _ te md nx W1 W2 W hc1 hk1 hk2 hk3)
    isplitl [HT]; · iexact HT
    isplitl [HM]; · iexact HM
    isplitl [HX]; · iexact HX
    isplitl [HP]; · iexact HP
    isplitl [HA]; · iexact HA
    isplitl [HB]; · iexact HB
    isplitl [HO]; · iexact HO
    rw [next_eq, hM, hcur, h0, h1]
    unfold weightsPost
    iintro ⟨HT, HM, HX, HP, HA, HB, HO⟩
    iapply (rows_run c K i _ _ _ _ _ _ _ _ _ _ _ _ _ _ _ _ _ _ _ _ _ _ _ (ent md (s % 40)) hK H D _ _)
    isplitl [H5]; · iexact H5
    isplitl [H8]; · iexact H8
    isplitl [HA]; · iexact HA
    isplitl [HB]; · iexact HB
    iintro ⟨H5, H8, HA, HB⟩
    iapply HK
    rw [inv_succ]
    isplitl [HT HM HX HP HA HB]
    · isplitl [HT]; · iexact HT
      isplitl [HM]; · iexact HM
      isplitl [HX]; · iexact HX
      isplitl [HP]; · iexact HP
      isplitl [HA]; · iexact HA
      iexact HB
    isplitl [HO]; · iexact HO
    isplitl [H5]; · iexact H5
    iexact H8
  · have hne := fun h => hc1 ((cond1_iff i _ _).mpr h)
    have hm : (i 1).val ≠ 0 := fun h => hne (.inl h)
    have hte : word te (k0_off2 i) (k0_off2_inb i) = word te (k0_off1 i) (k0_off1_inb i) := not_not.mp fun h => hne (.inr h)
    rw [word_ent, word_ent, off1_eq, off2_eq, h1] at hte
    match s, h0, h1 with
    | 0, h0, h1 => exact absurd h1 hm
    | s + 1, h0, h1 =>
      have e1 : (s + 1) % 40 = s % 40 + 1 := by omega
      have e2 : (s + 1) / 40 = s / 40 := by omega
      rw [e1, Nat.add_sub_cancel] at hte
      have hcu : curOff te ((s + 1) / 40) ((s + 1) % 40) = curOff te (s / 40) (s % 40) := by
        unfold curOff; rw [e1, e2, hte]
      have hnx : nextOff te nx ((s + 1) / 40) ((s + 1) % 40) = nextOff te nx (s / 40) (s % 40) := by
        unfold nextOff; rw [e1, e2, g.keep _ (by omega) hte]
      rw [inv_succ, inv_succ, hcu, hnx]
      iintro ⟨⟨HT, HM, HX, HP, HA, HB⟩, HO, H5, H8, HK⟩
      iapply (weights_kept c K i arg5 harg5 arg8 harg8 _ te md nx hc1)
      isplitl [HT]; · iexact HT
      isplitl [HM]; · iexact HM
      rw [hM]
      iintro ⟨HT, HM⟩
      iapply (rows_run c K i _ _ _ _ _ _ _ _ _ _ _ _ _ _ _ _ _ _ _ _ _ _ _ (ent md ((s + 1) % 40)) hK H D _ _)
      isplitl [H5]; · iexact H5
      isplitl [H8]; · iexact H8
      isplitl [HA]; · iexact HA
      isplitl [HB]; · iexact HB
      iintro ⟨H5, H8, HA, HB⟩
      iapply HK
      isplitl [HT HM HX HP HA HB]
      · isplitl [HT]; · iexact HT
        isplitl [HM]; · iexact HM
        isplitl [HX]; · iexact HX
        isplitl [HP]; · iexact HP
        isplitl [HA]; · iexact HA
        iexact HB
      isplitl [HO]; · iexists W; iexact HO
      isplitl [H5]; · iexact H5
      iexact H8

end Cert.ExpertsIdeal.Moe
end
end
-- ==== Proof.ExpRegion.lean ====
/- The experts' region as a whole: what each grid point's windows hold, the body's obligation at every point, and the launch,
   over any arithmetic, for tables that fit together. -/
module

public import proofs.«01_k».proof.Proof.ExpPoint
public import proofs.«01_k».proof.Proof.Gen.ExpertsIdeal.Launch
public import Idealize.ShloMosaic.Lib.Pipeline.FrameBody
public import Idealize.ShloMosaic.Lib.Claim

@[expose] public section

set_option maxRecDepth 16384

noncomputable section

namespace Cert.ExpertsIdeal.Moe

open Idealize.ShloMosaic Idealize.ShloMosaic.ValueIdx Idealize.ShloMosaic.TcCoe Idealize.ShloMosaic.Tactic Cert.ExpertsIdeal Cert.ExpertsIdeal.Gen
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => Idealize.ShloMosaic.MT nD τ sig Unit (Elt F) ℕ (Pipeline.UD sig nD τ) ℕ

variable (m : (ℓ : Loc nD τ sig) → Buf (Elt F) ℓ) (ρ : Dev nD → PrngReg)

/-- A core's buffers when the region is entered: after the lines before it. -/
abbrev V0 (c : Dev nD) : Valuation τ sig (Elt F) := StableHlo.after (List.flatten [hostOps0, hostOps0_1, hostOps0_2, hostOps0_3]) (fun b => m (c, b))
/-- The same, read at a reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor

set_option maxHeartbeats 800000 in
/-- The program up to the region. -/
theorem hmain (𝒱₀ : Variants) : Pipeline.HMainP (Ix := Unit) (Name := ℕ) (U := Pipeline.UD sig nD τ) (Lvl := ℕ) pcfgs 0 defs₀ 𝒱₀ m (main (F := F)) (V m) :=
  Pipeline.hmainP_prefixes pcfgs 0 defs₀ 𝒱₀ m main [hostOps0, hostOps0_1, hostOps0_2, hostOps0_3]
    (by simp only [List.Forall]; exact ⟨hostOps0_sub, hostOps0_1_sub, hostOps0_2_sub, hostOps0_3_sub⟩)
    (by simp only [List.Forall]; exact ⟨hostOps0_fresh, hostOps0_1_fresh, hostOps0_2_fresh, hostOps0_3_fresh⟩) main_chain

/-- No line before the region writes argument 0. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, List.flatten_cons, List.flatten_nil, List.append_nil, List.cons_append,
      List.nil_append, List.Forall, StableHlo.nullary_writes, StableHlo.unary_writes, StableHlo.binary_writes, StableHlo.ternary_writes, Finset.mem_singleton]
    repeat' apply And.intro
    all_goals exact StableHlo.devRef_ne_of_ne (by decide)))
/-- No line before the region writes argument 1. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, List.flatten_cons, List.flatten_nil, List.append_nil, List.cons_append,
      List.nil_append, List.Forall, StableHlo.nullary_writes, StableHlo.unary_writes, StableHlo.binary_writes, StableHlo.ternary_writes, Finset.mem_singleton]
    repeat' apply And.intro
    all_goals exact StableHlo.devRef_ne_of_ne (by decide)))
/-- No line before the region writes argument 2. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, List.flatten_cons, List.flatten_nil, List.append_nil, List.cons_append,
      List.nil_append, List.Forall, StableHlo.nullary_writes, StableHlo.unary_writes, StableHlo.binary_writes, StableHlo.ternary_writes, Finset.mem_singleton]
    repeat' apply And.intro
    all_goals exact StableHlo.devRef_ne_of_ne (by decide)))
/-- No line before the region writes argument 3. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, List.flatten_cons, List.flatten_nil, List.append_nil, List.cons_append,
      List.nil_append, List.Forall, StableHlo.nullary_writes, StableHlo.unary_writes, StableHlo.binary_writes, StableHlo.ternary_writes, Finset.mem_singleton]
    repeat' apply And.intro
    all_goals exact StableHlo.devRef_ne_of_ne (by decide)))
/-- No line before the region writes argument 4. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, hostOps0_3, List.flatten_cons, List.flatten_nil, List.append_nil, List.cons_append,
      List.nil_append, List.Forall, StableHlo.nullary_writes, StableHlo.unary_writes, StableHlo.binary_writes, StableHlo.ternary_writes, Finset.mem_singleton]
    repeat' apply And.intro
    all_goals exact StableHlo.devRef_ne_of_ne (by decide)))

/-- The tables' contents, as the region reads them. -/
abbrev adm (p : Fin 1) : (pcfgs (F := F) p).Adm := ⟨fun k => V m 0 (pre0.ref k), trivial⟩
abbrev cfgA : Pipeline.Cfg sig Λ₀ := cfg0 (adm m 0)
abbrev pcs : Fin 1 → Pipeline.Cfg sig Λ₀ := Pipeline.pin pcfgs (adm m)

theorem cfgA_N : (cfgA m).N = 1120 := N_0
theorem tlt (t : Fin (cfgA m).N) : t.val < 1120 := Nat.lt_of_lt_of_eq t.isLt (cfgA_N m)

/-- The coordinates of a grid point. -/
theorem coord0 (t : Fin grid0.N) : (grid0.coords t 0).val = t.val / 40 := by
  have ht : t.val < 1120 := Nat.lt_of_lt_of_eq t.isLt N_0
  have e : (grid0.coords t 0).val = t.val / 40 % 28 := Pipeline.Grid.coords_val t 0 (by decide) rfl
  omega
theorem coord1 (t : Fin grid0.N) : (grid0.coords t 1).val = t.val % 40 := by
  have e : (grid0.coords t 1).val = t.val / 1 % 40 := Pipeline.Grid.coords_val t 1 (by decide) rfl
  omega

/-- Window `w`'s block at a point, read off its array as the region finds it. -/
def iblk (c : Dev nD) (w : Fin (cfgA m).W) (t : Fin (cfgA m).N) : (((cfgA m).win w).xblock ((cfgA m).grid.coords t)).Idx → Elt F ((cfgA m).win w).elt :=
  (((cfgA m).win w).blk t).view.read (Elt F) (V m c (Pipeline.arrRef spec0 w))

/-- The rows a grid point writes. -/
def outAt (c : Dev nD) (t : Fin (cfgA m).N) : Vec F S512x512 .bf16 :=
  rowsVal (ent (V m c main_arg4) (t.val % 40)) (iblk m c 0 t) (k0_pay1 (blkAt (V m c main_arg1) (curOff (V m c main_arg3) (t.val / 40) (t.val % 40))))
    (k0_pay2 (blkAt (V m c main_arg2) (curOff (V m c main_arg3) (t.val / 40) (t.val % 40))))

/-- The state between points, on the region's buffers. -/
abbrev invAt (c : Dev nD) (n : ℕ) : sProp 𝕄 := inv c (V m c main_arg3) (V m c main_arg4) (V m c main_v10) (V m c main_arg1) (V m c main_arg2) n

/-- The pipeline's data: the rows in, the rows out, the blocks between. -/
def dats (p : Fin 1) (c : Dev nD) : Dat τ (Elt F) Unit ℕ (Pipeline.UD sig nD τ) ℕ (pcs m p) c where
  A w := V m c (Pipeline.arrRef spec0 w)
  after w t := match w with
    | ⟨0, _⟩ => iblk m c 0 t
    | ⟨1, _⟩ => outAt m c t
  Φ t := iprop(invAt m c t.val ∗ (∃ r, prngReg c r))
  q _ := fullShare
  owed _ := 0

theorem A_eq (c : Dev nD) (w : Fin (cfgA m).W) : (dats m 0 c).A w = V m c (Pipeline.arrRef spec0 w) := by
  dsimp only [dats]
theorem after0_0 (c : Dev nD) (t : Fin (cfgA m).N) : (dats m 0 c).after 0 t = iblk m c 0 t := rfl
theorem after0_1 (c : Dev nD) (t : Fin (cfgA m).N) : (dats m 0 c).after 1 t = outAt m c t := rfl

/-- The input window holds its block at every point. -/
theorem before0_0 (c : Dev nD) (t : Fin (cfgA m).N) (d) : (dats m 0 c).before 0 t d = iblk m c 0 t :=
  ((dats m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)

abbrev ms0 (t : Fin (cfgA m).N) : Memref sig .tc .vmem S512x4096 .bf16 := spec0_0.stage ((cfgA m).slots t 0)
abbrev ms1 (t : Fin (cfgA m).N) : Memref sig .tc .vmem S512x512 .bf16 := spec0_1.stage ((cfgA m).slots t 1)

/-- The body at a point, on what the pipeline calls it with. -/
abbrev bodyAt0 (t : Fin (cfgA m).N) : Prog (TpuEff nD τ sig (Elt F) Λ₀ .tc) PUnit :=
  bodyAt (grid0.coords t) (ms0 m t) (hstage0_0 (((cfgA m).slots t 0).cast nbuf0_0)) (ms1 m t) (hstage0_1 (((cfgA m).slots t 1).cast nbuf0_1))

end Cert.ExpertsIdeal.Moe
end
end
-- ==== Proof.ExpRun.lean ====
/- The experts' run: the body's obligation at every grid point, and the launch,
   over any arithmetic, for tables that fit together. -/
module

public import proofs.«01_k».proof.Proof.ExpRegion
public import proofs.«01_k».proof.Proof.Gen.ExpertsIdeal.Launch
public import Idealize.ShloMosaic.Lib.Pipeline.FrameBody
public import Idealize.ShloMosaic.Lib.Claim

@[expose] public section

set_option maxRecDepth 16384

noncomputable section

namespace Cert.ExpertsIdeal.Moe

open Idealize.ShloMosaic Idealize.ShloMosaic.ValueIdx Idealize.ShloMosaic.TcCoe Idealize.ShloMosaic.Tactic Cert.ExpertsIdeal Cert.ExpertsIdeal.Gen
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => Idealize.ShloMosaic.MT nD τ sig Unit (Elt F) ℕ (Pipeline.UD sig nD τ) ℕ

variable (m : (ℓ : Loc nD τ sig) → Buf (Elt F) ℓ) (ρ : Dev nD → PrngReg)

/-- A kind of tile is one of those the body stores for. -/
theorem stored (v : BitVec 32) (h : IsKind v) :
    (!(k0_cond4 v == 1#1) && !(k0_cond5 v == 1#1) && !(k0_cond6 v == 1#1) && !(k0_cond7 v == 1#1) && !(k0_cond8 v == 1#1) && !(k0_cond9 v == 1#1)
      && !(k0_cond10 v == 1#1) && !(k0_cond11 v == 1#1) && !(k0_cond12 v == 1#1) && !(k0_cond13 v == 1#1)) = false := by
  rcases h with h | h | h | h | h | h | h <;> subst h <;> decide

/-- The word of the tile's kind, as the pipeline reads it. -/
theorem atD_ent (pf : pre0.Contents (Elt F)) (i : grid0.Coords) : pf.atD 1 (k0_off8 i) = ent (F := F) (pf 1) (i 1).val := by
  unfold Pipeline.Prefetch.Contents.atD
  rw [dif_pos (fun a => by
    match a with
    | ⟨0, _⟩ =>
      have e := off8_eq i
      have hm := m_lt i
      show k0_off8 i 0 < 40
      omega)]
  unfold ent
  congr 1
  funext a
  match a with
  | ⟨0, _⟩ =>
    have e := off8_eq i
    have hm := m_lt i
    exact Fin.ext (show k0_off8 i 0 = (i 1).val % 40 by omega)

/-- The result's window is stored at every point. -/
theorem idle1 (g : Good (V m 0 main_arg3) (V m 0 main_arg4) (V m 0 main_v10)) (i : grid0.Coords) : (cfgA m).idle 1 i = false := by
  show idle0 (adm m 0).1 1 i = false
  have e := atD_ent (adm m 0).1 i
  show (!(k0_cond4 ((adm m 0).1.atD 1 (k0_off8 i)) == 1#1) && !(k0_cond5 ((adm m 0).1.atD 1 (k0_off8 i)) == 1#1) && !(k0_cond6 ((adm m 0).1.atD 1 (k0_off8 i)) == 1#1) && !(k0_cond7 ((adm m 0).1.atD 1 (k0_off8 i)) == 1#1) && !(k0_cond8 ((adm m 0).1.atD 1 (k0_off8 i)) == 1#1) && !(k0_cond9 ((adm m 0).1.atD 1 (k0_off8 i)) == 1#1)
      && !(k0_cond10 ((adm m 0).1.atD 1 (k0_off8 i)) == 1#1) && !(k0_cond11 ((adm m 0).1.atD 1 (k0_off8 i)) == 1#1) && !(k0_cond12 ((adm m 0).1.atD 1 (k0_off8 i)) == 1#1) && !(k0_cond13 ((adm m 0).1.atD 1 (k0_off8 i)) == 1#1)) = false
  rw [e]
  exact stored _ (g.kind _)

theorem leaves0 (c : Dev nD) (t : Fin (cfgA m).N) :
    (dats m 0 c).leavesExact 0 t = owns (c : Thread nD τ) (ms0 m t) fullShare ((dats m 0 c).after 0 t) := by
  unfold Dat.leavesExact; rw [show (cfgA m).idle 0 (grid0.coords t) = false from rfl]; rfl
theorem leaves1 (g : Good (V m 0 main_arg3) (V m 0 main_arg4) (V m 0 main_v10)) (c : Dev nD) (t : Fin (cfgA m).N) :
    (dats m 0 c).leavesExact 1 t = owns (c : Thread nD τ) (ms1 m t) fullShare ((dats m 0 c).after 1 t) := by
  unfold Dat.leavesExact; rw [idle1 m g (grid0.coords t)]; rfl

theorem Φ_eq (c : Dev nD) (t : Fin ((cfgA m).N + 1)) : (dats m 0 c).Φ t = iprop(invAt m c t.val ∗ (∃ r, prngReg c r)) := rfl

/-- What the body is called with. -/
def bodyPre (c : Dev nD) (t : Fin (cfgA m).N) : sProp 𝕄 :=
  iprop((dats m 0 c).Φ t.castSucc ∗ (dats m 0 c).owesAt () t.castSucc
    ∗ (∃ d, owns (c : Thread nD τ) (ms0 m t) fullShare ((dats m 0 c).before 0 t d))
    ∗ (∃ d, owns (c : Thread nD τ) (ms1 m t) fullShare ((dats m 0 c).before 1 t d)))

/-- What it returns. -/
def bodyPost (c : Dev nD) (t : Fin (cfgA m).N) : sProp 𝕄 :=
  iprop((dats m 0 c).Φ t.succ ∗ (dats m 0 c).owesAt () t.succ ∗ (dats m 0 c).leavesExact 0 t ∗ (dats m 0 c).leavesExact 1 t)

set_option maxHeartbeats 4000000 in
/-- The body at any point. -/
theorem sound_body (g : Good (V m 0 main_arg3) (V m 0 main_arg4) (V m 0 main_v10)) (c : Dev nD) (t : Fin (cfgA m).N) :
    bodyPre m c t ⊢ wp frame (wpE (defs₀ (F := F)) Variants.none c none) Set.univ (bodyAt0 m t) (fun _ => bodyPost m c t) := by
  have hc : c = 0 := Subsingleton.elim _ _
  subst hc
  unfold bodyPre bodyPost bodyAt0
  simp only [before0_0]
  rw [leaves0, leaves1 m g, after0_0, after0_1]
  rw [Φ_eq, Φ_eq, Fin.val_succ, Fin.val_castSucc]
  unfold Dat.owesAt Pipeline.owesWithin
  rw [show (dats m 0 0).owed t.castSucc = 0 from rfl, show (dats m 0 0).owed t.succ = 0 from rfl]
  unfold outAt
  iintro ⟨⟨HI, Hg⟩, ⟨%W, -, HW⟩, ⟨%d0, H0⟩, ⟨%d1, H1⟩⟩
  iapply (point (F := F) 0 _ (grid0.coords t) (ms0 m t) (hstage0_0 (((cfgA m).slots t 0).cast nbuf0_0)) (ms1 m t) (hstage0_1 (((cfgA m).slots t 1).cast nbuf0_1))
    (V m 0 main_arg3) (V m 0 main_arg4) (V m 0 main_v10) g (V m 0 main_arg1) (V m 0 main_arg2) t.val (coord0 t) (coord1 t) W (iblk m 0 0 t) ((dats m 0 0).before 1 t d1))
  isplitl [HI]; · iexact HI
  isplitl [HW]; · iexact HW
  isplitl [H0]; · iexact H0
  isplitl [H1]; · iexact H1
  iintro ⟨HI, ⟨%W', HW'⟩, H0, H1⟩
  isplitl [HI Hg]
  · isplitl [HI]; · iexact HI
    iexact Hg
  isplitl [HW']
  · iexists W'; isplitr; · ipureintro; exact fun _ _ => Or.inl trivial
    iexact HW'
  isplitl [H0]; · iexact H0
  iexact H1

/-- The body table's row at a point is the body there. -/
theorem defs₀_row (t : Fin (cfgA m).N) :
    defs₀ (F := F) .tc (cfgA m).body ((cfgA m).bodyArgs t ((cfgA m).slots t)) = bodyAt0 m t := by
  unfold defs₀; rw [Defs.onTc_tc]; rfl

/-- The pipeline's obligation on the body. -/
theorem body_obligation (g : Good (V m 0 main_arg3) (V m 0 main_arg4) (V m 0 main_v10)) (c : Dev nD) :
    BodyObligation (dats (F := F) m 0 c) (defs₀ (F := F)) Variants.none () Set.univ := fun t => by
  rw [bigSep_W0, bigSep_W0, defs₀_row]
  exact triple_restated (sound_body m g c t) rfl .rfl fun _ => .rfl

/-- The two semaphores of the copies. -/
def osem0 : Fin 2 → SemLoc sig := fun j => (![SemLoc.dma 4, SemLoc.dma 5] : Fin 2 → SemLoc sig) j

theorem ownSemFacts0 : Pipeline.OwnSemFacts spec0 osem0 := by decide

theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 4) 0 ∗ semVal ((c : Thread nD τ), SemLoc.dma 5) 0) := by
  rw [Pipeline.ownSems0_eq_of_list c osem0 [0, 1] (by decide) (by decide)]; rfl

/-- The two weights, which the body copies from itself. -/
abbrev H0 : Finset (Ref sig .tc) := {main_arg1, main_arg2}
theorem H0_sub : H0 ⊆ Pipeline.restRefsP sig pre0 spec0 := by decide

theorem hbm_eq (c : Dev nD) (v : (c : Dev nD) → (b : Ref sig .tc) → Buf (Elt F) ((c : Thread nD τ).loc b)) :
    (BI.bigSep H0 fun b => (((c : Thread nD τ).loc b) ↦{fullShare} v c b : sProp 𝕄))
      = iprop((((c : Thread nD τ).loc main_arg1) ↦{fullShare} v c main_arg1) ∗ (((c : Thread nD τ).loc main_arg2) ↦{fullShare} v c main_arg2)) := by
  rw [BI.bigSep_eq_bigSepL_of_eq [main_arg1, main_arg2] (by decide) (by decide)]; rfl

theorem tables_eq (c : Dev nD) (v : pre0.Contents (Elt F)) :
    (Pipeline.ΦT pre0 v c : sProp 𝕄)
      = iprop((((c : Thread nD τ).loc main_arg3) ↦{fullShare.right} v 0) ∗ (((c : Thread nD τ).loc main_arg4) ↦{fullShare.right} v 1)
        ∗ (((c : Thread nD τ).loc main_v10) ↦{fullShare.right} v 2)) := by
  show Pipeline.prefHeld pre0 c (fun _ => fullShare.right) v = _
  unfold Pipeline.prefHeld
  rw [BI.bigSep_eq_bigSepL_of_eq [0, 1, 2] (by decide) (by decide)]; rfl

theorem whole_owns (c : Dev nD) (b : Ref sig .tc) (f : b.ty.Contents (Elt F)) :
    (((c : Thread nD τ).loc b) ↦{fullShare} f : sProp 𝕄) ⊢ owns (c : Thread nD τ) (Memref.whole b) fullShare f := by rw [owns_whole]
theorem owns_of_whole (c : Dev nD) (b : Ref sig .tc) (f : b.ty.Contents (Elt F)) :
    (owns (c : Thread nD τ) (Memref.whole b) fullShare f : sProp 𝕄) ⊢ ((c : Thread nD τ).loc b) ↦{fullShare} f := by rw [owns_whole]

/-- The launch hands over the state before the first point. -/
theorem hin (c : Dev nD) : iprop(Pipeline.ΦD osem0 spec0 H0 (V m) c ∗ Pipeline.ΦT pre0 (adm m 0).1 c) ⊢ (dats m 0 c).Φ 0 := by
  have hc : c = 0 := Subsingleton.elim _ _
  subst hc
  rw [Φ_eq, Pipeline.ΦD_eq, scopedRest0_eq, ownSems00_eq, hbm_eq, tables_eq]
  show _ ⊢ iprop(inv 0 (V m 0 main_arg3) (V m 0 main_arg4) (V m 0 main_v10) (V m 0 main_arg1) (V m 0 main_arg2) 0 ∗ (∃ r, prngReg 0 r))
  unfold inv pend idleAt tbl
  iintro ⟨⟨⟨HF1, HF2, ⟨%f3, HB1⟩, ⟨%f4, HB2⟩⟩, Hg, ⟨HS1, HS2⟩, HW1, HW2⟩, HT, HM, HX⟩
  isplitr [Hg]
  · isplitl [HT]; · iexact HT
    isplitl [HM]; · iexact HM
    isplitl [HX]; · iexact HX
    isplitl [HF1 HS1 HW1 HF2 HS2 HW2]
    · isplitl [HF1 HS1 HW1]
      · isplitl [HW1]; · iexact HW1
        isplitl [HF1]; · iexact HF1
        iexact HS1
      · isplitl [HW2]; · iexact HW2
        isplitl [HF2]; · iexact HF2
        iexact HS2
    isplitl [HB1]
    · iexists f3
      iapply (whole_owns (F := F) 0 cc0_scratch2 f3); iexact HB1
    · iexists f4
      iapply (whole_owns (F := F) 0 cc0_scratch3 f4); iexact HB2
  · iexact Hg

/-- After the last tile nothing is on its way. -/
theorem next_last (te md nx : Vec F S40 .i32) (g : Good te md nx) : nextOff te nx 27 39 = none := by
  unfold nextOff
  have h := g.last
  rw [if_neg (by omega), if_neg (by omega)]

/-- The state after the last point gives the launch's back. -/
theorem hout (g : Good (V m 0 main_arg3) (V m 0 main_arg4) (V m 0 main_v10)) (c : Dev nD) :
    (dats m 0 c).Φ (Fin.last (cfgA m).N) ⊢ Pipeline.ΦD osem0 spec0 H0 (V m) c := by
  have hc : c = 0 := Subsingleton.elim _ _
  subst hc
  rw [Φ_eq, Pipeline.ΦD_eq, scopedRest0_eq, ownSems00_eq, hbm_eq]
  have e : (Fin.last (cfgA m).N).val = 1119 + 1 := by rw [Fin.val_last, cfgA_N]
  rw [e]
  unfold invAt
  rw [inv_succ, show 1119 / 40 = 27 from rfl, show 1119 % 40 = 39 from rfl, next_last _ _ _ g]
  unfold pend idleAt
  iintro ⟨⟨-, -, -, ⟨⟨HW1, HF1, HS1⟩, HW2, HF2, HS2⟩, HB1, HB2⟩, Hg⟩
  isplitl [HF1 HF2 HB1 HB2]
  · isplitl [HF1]; · iexact HF1
    isplitl [HF2]; · iexact HF2
    isplitl [HB1]
    · iexists _
      iapply (owns_of_whole (F := F) 0 cc0_scratch2 _) $$ HB1
    · iexists _
      iapply (owns_of_whole (F := F) 0 cc0_scratch3 _) $$ HB2
  isplitl [Hg]; · iexact Hg
  isplitl [HS1 HS2]
  · isplitl [HS1]; · iexact HS1
    iexact HS2
  isplitl [HW1]; · iexact HW1
  iexact HW2

set_option backward.isDefEq.respectTransparency.types false in
/-- The run: every array holds what the points wrote, every other buffer is as the region found it. -/
theorem run_main (g : Good (V m 0 main_arg3) (V m 0 main_arg4) (V m 0 main_v10)) :
    θ_run defs (onTc (τ := τ) (main (F := F))) (s₀ m ρ) (fun r => Pipeline.FramePost (pcs m) (dats m) 0 (V m) r ∧ r.2.sem = fun _ => 0) :=
  Pipeline.θ_run_frameP_dma (Q' := _) pcfgs (adm m) (dats m) (0 : Fin 1) launch0 osem0 defs₀ Variants.none ownSemFacts0 H0 H0_sub m ρ main
    (hbody := fun c => (body_obligation m g c).loose) (hshare := fun c => (dats m 0 c).share_full fun _ => rfl)
    (howed := fun _ _ => rfl) (V := V m) (hmain := hmain m Variants.none) (hA := A_eq m)
    (hpf := fun c k => by rw [Subsingleton.elim c 0]) (hin := hin m) (hout := hout m g) (hQ' := fun _ h => h)

/-- The frame: the arguments end unchanged and every semaphore at zero. -/
theorem frame_run (g : Good (V m 0 main_arg3) (V m 0 main_arg4) (V m 0 main_v10)) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => ⟨
      ((h.1 c).1 0).trans (((dats m 0 c).arrAt_in 0 rfl _).trans ((A_eq m c 0).trans (V_main_arg0 m c))),
      ((h.1 c).2 main_arg1 (Pipeline.mem_restRefs_of (win := spec0) main_arg1 (by decide) (by decide))).trans (V_main_arg1 m c),
      ((h.1 c).2 main_arg2 (Pipeline.mem_restRefs_of (win := spec0) main_arg2 (by decide) (by decide))).trans (V_main_arg2 m c),
      ((h.1 c).2 main_arg3 (Pipeline.mem_restRefs_of (win := spec0) main_arg3 (by decide) (by decide))).trans (V_main_arg3 m c),
      ((h.1 c).2 main_arg4 (Pipeline.mem_restRefs_of (win := spec0) main_arg4 (by decide) (by decide))).trans (V_main_arg4 m c)⟩, h.2⟩) (run_main m ρ g)

end Cert.ExpertsIdeal.Moe
end
end
-- ==== Proof.ExpSame.lean ====
/- The experts' kernel and its ideal reading are the same text: the body and the host lines are the same programs at every float
   instance, so a run of the one is a run of the other. -/
module

public import proofs.«01_k».proof.Proof.Gen.Experts
public import proofs.«01_k».proof.Proof.Gen.ExpertsIdeal

@[expose] public section

noncomputable section

namespace Cert.ExpSame

open Idealize.ShloMosaic Idealize.SL.Sem

variable {F : FTy → Type} [FloatOps F]

set_option maxHeartbeats 4000000 in
/-- The body of the call, at every point. -/
theorem bodies : Cert.Experts.defs₀ (F := F) = Cert.ExpertsIdeal.defs₀ (F := F) := by
  unfold Cert.Experts.defs₀ Cert.ExpertsIdeal.defs₀
  congr 1
  funext x y
  match x, y with
  | 0, (t, s) => rfl
  | ⟨_ + 1, h⟩, _ => exact absurd h (Nat.not_lt.2 (Nat.le_add_left _ _))

/-- The table of bodies with the call's pipeline. -/
theorem tables : Cert.Experts.defs (F := F) = Cert.ExpertsIdeal.defs (F := F) :=
  congrArg (Pipeline.defs (Cert.ExpertsIdeal.pcfgs (F := F))) bodies

set_option maxHeartbeats 4000000 in
/-- The host lines. -/
theorem mains : Cert.Experts.main (F := F) = Cert.ExpertsIdeal.main (F := F) := rfl

end Cert.ExpSame

end

end
-- ==== Proof.ExpHost.lean ====
/- The tables: what the precondition says of them, and what the host works out from them before the region. -/
module

public import proofs.«01_k».proof.Proof.ExpRun
public import proofs.«01_k».proof.Proof.Gen.Pre_expert_tables
public import Idealize.ShloMosaic.Lib.StableHlo.Predicate
public import Idealize.ShloMosaic.Lib.Pipeline.ValueKit.Point
public import proofs.«01_k».proof.Proof.Gen.ExpertsIdeal.Launch
public import Idealize.ShloMosaic.Lib.Pipeline.FrameBody
public import Idealize.ShloMosaic.Lib.Claim

@[expose] public section

set_option maxRecDepth 16384

noncomputable section

namespace Cert.ExpertsIdeal.Moe

open Idealize.ShloMosaic Idealize.ShloMosaic.TcCoe Idealize.ShloMosaic.Tactic Cert.ExpertsIdeal Cert.ExpertsIdeal.Gen
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => Idealize.ShloMosaic.MT nD τ sig Unit (Elt F) ℕ (Pipeline.UD sig nD τ) ℕ

variable (m : (ℓ : Loc nD τ sig) → Buf (Elt F) ℓ) (ρ : Dev nD → PrngReg)

/-- The next expert's number at every tile, as the host works it out. -/
def nextTab (te : IVec S40 32) : IVec S40 32 :=
  select
    (cmpi .eq
      (Host.reduce IntOp.minsi
        (select
          (cmpi .sgt (broadcastInDim S40x40 ![0, 1] bcast_S1x40_S40x40_0_1 (broadcastInDim S1x40 ![1] bcast_S40_S1x40_1 te))
            (broadcastInDim S40x40 ![0, 1] bcast_S40x1_S40x40_0_1 (broadcastInDim S40x1 ![0] bcast_S40_S40x1_0 te)))
          (broadcastInDim S40x40 ![0, 1] bcast_S1x40_S40x40_0_1 (broadcastInDim S1x40 ![1] bcast_S40_S1x40_1 te))
          (broadcastInDim S40x40 ![] bcast_S_S40x40 (constantI S_ 32 1073741824#32)))
        (constantI S_ 32 2147483647#32) reducesTo_S40x40_S40_d1 h_S_)
      (broadcastInDim S40 ![] bcast_S_S40 (constantI S_ 32 1073741824#32)))
    (broadcastInDim S40 ![] bcast_S_S40 (constantI S_ 32 4294967295#32))
    (Host.reduce IntOp.minsi
      (select
        (cmpi .sgt (broadcastInDim S40x40 ![0, 1] bcast_S1x40_S40x40_0_1 (broadcastInDim S1x40 ![1] bcast_S40_S1x40_1 te))
          (broadcastInDim S40x40 ![0, 1] bcast_S40x1_S40x40_0_1 (broadcastInDim S40x1 ![0] bcast_S40_S40x1_0 te)))
        (broadcastInDim S40x40 ![0, 1] bcast_S1x40_S40x40_0_1 (broadcastInDim S1x40 ![1] bcast_S40_S1x40_1 te))
        (broadcastInDim S40x40 ![] bcast_S_S40x40 (constantI S_ 32 1073741824#32)))
      (constantI S_ 32 2147483647#32) reducesTo_S40x40_S40_d1 h_S_)

theorem V_next (c : Dev nD) :
    (V m c main_v10 : Vec F S40 .i32) = nextTab (m ((c : Thread nD τ).loc main_arg3)) := by
  simp only [V, V0, hostOps0, hostOps0_1, hostOps0_2, hostOps0_3, List.flatten_cons,
    List.flatten_nil, List.append_nil, List.cons_append, List.nil_append]
  after_results_simp
  rfl

/-- The word put beside another expert's: the larger one, or a large number. -/
def above (v w : BitVec 32) : BitVec 32 := Scalar.select (IntOp.cmpi .sgt w v) w 1073741824#32

/-- The least larger expert's number, or a large number. -/
def least (T : Fin 40 → BitVec 32) (v : BitVec 32) : BitVec 32 :=
  (Finset.univ : Finset (Fin 40)).fold IntOp.minsi 2147483647#32 (fun x => above v (T x))

theorem nextTab_at (te : IVec S40 32) (j : Fin 40) :
    nextTab te (ix1 j) = Scalar.select (IntOp.cmpi .eq (least (fun x => te (ix1 x)) (te (ix1 j))) 1073741824#32) 4294967295#32
      (least (fun x => te (ix1 x)) (te (ix1 j))) := by
  unfold nextTab least above
  pointwise

/-- The smaller of two words below 2³¹. -/
theorem minsi_cases (x y : BitVec 32) (hx : x.toNat < 2 ^ 31) (hy : y.toNat < 2 ^ 31) :
    (IntOp.minsi x y = x ∧ x.toNat ≤ y.toNat) ∨ (IntOp.minsi x y = y ∧ y.toNat ≤ x.toNat) := by
  have ex := StableHlo.Predicate.toInt_eq_toNat_of_lt hx
  have ey := StableHlo.Predicate.toInt_eq_toNat_of_lt hy
  unfold IntOp.minsi
  split
  · rename_i h
    left
    refine ⟨rfl, ?_⟩
    simp only [BitVec.sle, BitVec.slt, decide_eq_true_eq] at h
    omega
  · rename_i h
    right
    refine ⟨rfl, ?_⟩
    simp only [BitVec.sle, BitVec.slt, decide_eq_true_eq] at h
    omega

/-- A minimum is below every entry and is one of them. -/
theorem fold_min (S : Finset (Fin 40)) (f : Fin 40 → BitVec 32) (hf : ∀ x, (f x).toNat < 2 ^ 31) :
    (S.fold IntOp.minsi 2147483647#32 f).toNat < 2 ^ 31
      ∧ (∀ x ∈ S, (S.fold IntOp.minsi 2147483647#32 f).toNat ≤ (f x).toNat)
      ∧ (S.fold IntOp.minsi 2147483647#32 f = 2147483647#32 ∨ ∃ x ∈ S, S.fold IntOp.minsi 2147483647#32 f = f x) := by
  induction S using Finset.cons_induction with
  | empty => exact ⟨by rw [Finset.fold_empty]; decide, fun x h => absurd h (Finset.notMem_empty x), Or.inl rfl⟩
  | cons a S ha ih =>
    obtain ⟨h1, h2, h3⟩ := ih
    rw [Finset.fold_cons]
    rcases minsi_cases (f a) (S.fold IntOp.minsi 2147483647#32 f) (hf a) h1 with ⟨e, h⟩ | ⟨e, h⟩
    · rw [e]
      refine ⟨hf a, fun x hx => ?_, Or.inr ⟨a, Finset.mem_cons_self a S, rfl⟩⟩
      rcases Finset.mem_cons.mp hx with rfl | hx
      · exact le_refl _
      · exact h.trans (h2 x hx)
    · rw [e]
      refine ⟨h1, fun x hx => ?_, ?_⟩
      · rcases Finset.mem_cons.mp hx with rfl | hx
        · exact h
        · exact h2 x hx
      · rcases h3 with h3 | ⟨x, hx, h3⟩
        · exact Or.inl h3
        · exact Or.inr ⟨x, Finset.mem_cons.mpr (Or.inr hx), h3⟩

theorem above_of_lt (v w : BitVec 32) (hv : v.toNat < 8) (hw : w.toNat < 8) (h : v.toNat < w.toNat) : above v w = w := by
  unfold above Scalar.select
  exact if_pos ((StableHlo.Predicate.sgt_iff_toNat (by omega) (by omega)).mpr h)

theorem above_of_le (v w : BitVec 32) (hv : v.toNat < 8) (hw : w.toNat < 8) (h : w.toNat ≤ v.toNat) : above v w = 1073741824#32 := by
  unfold above Scalar.select
  exact if_neg (fun e => absurd ((StableHlo.Predicate.sgt_iff_toNat (by omega) (by omega)).mp e) (by omega))

/-- What the least larger expert's number is. -/
theorem least_cases (T : Fin 40 → BitVec 32) (hT : ∀ x, (T x).toNat < 8) (j : Fin 40) :
    ((∀ x, (T x).toNat ≤ (T j).toNat) ∧ least T (T j) = 1073741824#32)
      ∨ ∃ x, (T j).toNat < (T x).toNat ∧ least T (T j) = T x ∧ ∀ y, (T j).toNat < (T y).toNat → (T x).toNat ≤ (T y).toNat := by
  have hf : ∀ x, (above (T j) (T x)).toNat < 2 ^ 31 := fun x => by
    rcases Nat.lt_or_ge (T j).toNat (T x).toNat with h | h
    · rw [above_of_lt _ _ (hT j) (hT x) h]; have := hT x; omega
    · rw [above_of_le _ _ (hT j) (hT x) h]; decide
  obtain ⟨h1, h2, h3⟩ := fold_min Finset.univ (fun x => above (T j) (T x)) hf
  change (least T (T j)).toNat < 2 ^ 31 at h1
  change ∀ x ∈ Finset.univ, (least T (T j)).toNat ≤ _ at h2
  change least T (T j) = 2147483647#32 ∨ ∃ x ∈ Finset.univ, least T (T j) = above (T j) (T x) at h3
  have hb : (least T (T j)).toNat ≤ 1073741824 := by
    have := h2 j (Finset.mem_univ j)
    rw [above_of_le _ _ (hT j) (hT j) (le_refl _)] at this
    exact this
  rcases h3 with h3 | ⟨x, -, h3⟩
  · rw [h3] at hb; exact absurd hb (by decide)
  · rcases Nat.lt_or_ge (T j).toNat (T x).toNat with h | h
    · right
      rw [above_of_lt _ _ (hT j) (hT x) h] at h3
      refine ⟨x, h, h3, fun y hy => ?_⟩
      have := h2 y (Finset.mem_univ y)
      rw [above_of_lt _ _ (hT j) (hT y) hy, h3] at this
      exact this
    · left
      rw [above_of_le _ _ (hT j) (hT x) h] at h3
      refine ⟨fun y => ?_, h3⟩
      by_contra hy
      have hy' : (T j).toNat < (T y).toNat := by omega
      have := h2 y (Finset.mem_univ y)
      rw [above_of_lt _ _ (hT j) (hT y) hy', h3] at this
      have h8 := hT y
      have e : (1073741824#32).toNat = 1073741824 := rfl
      omega

/-- What the precondition says of the two tables. -/
structure Fits (te md : IVec S40 32) : Prop where
  lt : ∀ j : Fin 40, (te (ix1 j)).toNat < 8
  up : ∀ i j : Fin 40, i.val ≤ j.val → (te (ix1 i)).toNat ≤ (te (ix1 j)).toNat
  kind : ∀ j : Fin 40, IsKind (md (ix1 j))

/-- The next expert's number at a tile. -/
theorem next_cases (te md : IVec S40 32) (h : Fits te md) (j : Fin 40) :
    ((∀ x : Fin 40, (te (ix1 x)).toNat ≤ (te (ix1 j)).toNat) ∧ nextTab te (ix1 j) = 4294967295#32)
      ∨ ∃ x : Fin 40, (te (ix1 j)).toNat < (te (ix1 x)).toNat ∧ nextTab te (ix1 j) = te (ix1 x)
          ∧ ∀ y : Fin 40, (te (ix1 j)).toNat < (te (ix1 y)).toNat → (te (ix1 x)).toNat ≤ (te (ix1 y)).toNat := by
  rw [nextTab_at]
  rcases least_cases (fun x => te (ix1 x)) h.lt j with ⟨h1, h2⟩ | ⟨x, h1, h2, h3⟩
  · left
    refine ⟨h1, ?_⟩
    rw [h2]; rfl
  · right
    refine ⟨x, h1, ?_, h3⟩
    have h8 := h.lt x
    rw [h2]
    unfold Scalar.select
    refine if_neg (fun e => ?_)
    have e' := congrArg BitVec.toNat (StableHlo.Predicate.cmpi_eq_iff.mp e)
    have e2 : (1073741824#32).toNat = 1073741824 := rfl
    omega

theorem ent_at (te : Vec F S40 .i32) (j : ℕ) (hj : j < 40) : ent te j = te (ix1 ⟨j, hj⟩) := by
  unfold ent
  congr 1
  funext a
  match a with
  | ⟨0, _⟩ => exact Fin.ext (Nat.mod_eq_of_lt hj)

theorem ent_mod (te : Vec F S40 .i32) (j : ℕ) : ent te j = te (ix1 ⟨j % 40, Nat.mod_lt _ (by decide)⟩) := by
  unfold ent
  congr 1

/-- Tables that fit, with the host's table of next experts, are good. -/
theorem good_of_fits (te md : Vec F S40 .i32) (h : Fits te md) : Good (F := F) te md (nextTab te) where
  te_lt j := by rw [ent_mod]; exact h.lt _
  kind j := by rw [ent_mod]; exact h.kind _
  last := by
    rw [ent_at _ 39 (by decide)]
    rcases next_cases te md h ⟨39, by decide⟩ with ⟨-, e⟩ | ⟨x, hx, -, -⟩
    · rw [e]; decide
    · have := h.up x ⟨39, by decide⟩ (by have := x.isLt; show x.val ≤ 39; omega)
      omega
  change j hj hne := by
    rw [ent_at _ _ hj, ent_at _ j (by omega)] at hne
    rw [ent_at _ _ hj, ent_at _ j (by omega)]
    have hle := h.up ⟨j, by omega⟩ ⟨j + 1, hj⟩ (Nat.le_succ j)
    have hlt : (te (ix1 ⟨j, by omega⟩)).toNat < (te (ix1 ⟨j + 1, hj⟩)).toNat :=
      lt_of_le_of_ne hle fun e => hne (BitVec.eq_of_toNat_eq e.symm)
    rcases next_cases te md h ⟨j, by omega⟩ with ⟨ha, -⟩ | ⟨x, hx, e, hmin⟩
    · have := ha ⟨j + 1, hj⟩
      omega
    · rw [e]
      have h1 := hmin ⟨j + 1, hj⟩ hlt
      have hxj : j + 1 ≤ x.val := by
        by_contra hc
        have := h.up x ⟨j, by omega⟩ (by show x.val ≤ j; omega)
        omega
      have h2 := h.up ⟨j + 1, hj⟩ x hxj
      exact BitVec.eq_of_toNat_eq (by omega)
  keep j hj he := by
    rw [ent_at _ _ hj, ent_at _ j (by omega)] at he
    rw [ent_at _ _ hj, ent_at _ j (by omega), nextTab_at, nextTab_at, he]
  nx_lt j hj := by
    rw [ent_mod] at hj ⊢
    rcases next_cases te md h ⟨j % 40, Nat.mod_lt _ (by decide)⟩ with ⟨-, e⟩ | ⟨x, -, e, -⟩
    · rw [e] at hj; exact absurd hj (by decide)
    · rw [e]; exact h.lt x

/-- The precondition at a pair of tiles. -/
theorem pre_at (a0 a1 a2) (te md : IVec S40 32) (i j : Fin 40) :
    Cert.Pre_expert_tables.fn (F := F) a0 a1 a2 te md (ix2 i j)
      = IntOp.andi
      (IntOp.ori (IntOp.cmpi CmpIPredicate.sle (te (ix1 i)) (te (ix1 j)))
        (IntOp.cmpi CmpIPredicate.sgt (BitVec.ofNat 32 i.val) (BitVec.ofNat 32 j.val)))
      (IntOp.andi
        (IntOp.andi (IntOp.cmpi CmpIPredicate.sge (te (ix1 i)) 0#32) (IntOp.cmpi CmpIPredicate.slt (te (ix1 i)) 8#32))
        (IntOp.ori
          (IntOp.ori (IntOp.cmpi CmpIPredicate.eq (md (ix1 i)) 0#32) (IntOp.cmpi CmpIPredicate.eq (md (ix1 i)) 1#32))
          (IntOp.andi (IntOp.cmpi CmpIPredicate.sge (md (ix1 i)) 8#32)
            (IntOp.cmpi CmpIPredicate.sle (md (ix1 i)) 12#32)))) := by
  simp only [Cert.Pre_expert_tables.fn, Cert.Pre_expert_tables.fn_part1]
  pointwise

theorem andi_one (a b : BitVec 1) : IntOp.andi a b = 1#1 ↔ a = 1#1 ∧ b = 1#1 := by revert a b; decide
theorem ori_one (a b : BitVec 1) : IntOp.ori a b = 1#1 ↔ a = 1#1 ∨ b = 1#1 := by revert a b; decide

/-- A word between 0 and 8. -/
theorem word_lt (v : BitVec 32) (h0 : IntOp.cmpi .sge v 0#32 = 1#1) (h8 : IntOp.cmpi .slt v 8#32 = 1#1) : v.toNat < 8 := by
  simp only [IntOp.cmpi, StableHlo.Predicate.ofBool_eq_one_iff, BitVec.sle, BitVec.slt, decide_eq_true_eq] at h0 h8
  have e0 : (0#32).toInt = 0 := by decide
  have e8 : (8#32).toInt = 8 := by decide
  rw [e0] at h0; rw [e8] at h8
  have := BitVec.toInt_eq_toNat_cond v
  have := v.isLt
  split at * <;> omega

/-- A word between 8 and 12. -/
theorem word_kind (v : BitVec 32) (h0 : IntOp.cmpi .sge v 8#32 = 1#1) (h8 : IntOp.cmpi .sle v 12#32 = 1#1) :
    v = 8#32 ∨ v = 9#32 ∨ v = 10#32 ∨ v = 11#32 ∨ v = 12#32 := by
  simp only [IntOp.cmpi, StableHlo.Predicate.ofBool_eq_one_iff, BitVec.sle, BitVec.slt, decide_eq_true_eq] at h0 h8
  have e0 : (8#32).toInt = 8 := by decide
  have e8 : (12#32).toInt = 12 := by decide
  rw [e0] at h0; rw [e8] at h8
  have := BitVec.toInt_eq_toNat_cond v
  have := v.isLt
  have h : v.toNat = 8 ∨ v.toNat = 9 ∨ v.toNat = 10 ∨ v.toNat = 11 ∨ v.toNat = 12 := by
    split at * <;> omega
  rcases h with h | h | h | h | h
  · exact Or.inl (BitVec.eq_of_toNat_eq h)
  · exact Or.inr (Or.inl (BitVec.eq_of_toNat_eq h))
  · exact Or.inr (Or.inr (Or.inl (BitVec.eq_of_toNat_eq h)))
  · exact Or.inr (Or.inr (Or.inr (Or.inl (BitVec.eq_of_toNat_eq h))))
  · exact Or.inr (Or.inr (Or.inr (Or.inr (BitVec.eq_of_toNat_eq h))))

/-- The precondition makes the tables fit. -/
theorem fits_of_pre (a0 a1 a2) (te md : IVec S40 32) (h : Cert.Pre_expert_tables.fn (F := F) a0 a1 a2 te md = fun _ => 1#1) : Fits te md := by
  have key := fun i j : Fin 40 => (pre_at (F := F) a0 a1 a2 te md i j).symm.trans (congrFun h (ix2 i j))
  simp only [andi_one, ori_one] at key
  have lt : ∀ j : Fin 40, (te (ix1 j)).toNat < 8 := fun j => word_lt _ (key j j).2.1.1 (key j j).2.1.2
  refine ⟨lt, fun i j hij => ?_, fun j => ?_⟩
  · rcases (key i j).1 with h1 | h1
    · exact (StableHlo.Predicate.sle_iff_toNat (by have := lt i; omega) (by have := lt j; omega)).mp h1
    · have hi := i.isLt
      have hj := j.isLt
      have := (StableHlo.Predicate.sgt_iff_toNat (by rw [BitVec.toNat_ofNat]; omega) (by rw [BitVec.toNat_ofNat]; omega)).mp h1
      rw [BitVec.toNat_ofNat, BitVec.toNat_ofNat] at this
      omega
  · rcases (key j j).2.2 with (h1 | h1) | ⟨h1, h2⟩
    · exact Or.inl (StableHlo.Predicate.cmpi_eq_iff.mp h1)
    · exact Or.inr (Or.inl (StableHlo.Predicate.cmpi_eq_iff.mp h1))
    · exact Or.inr (Or.inr (word_kind _ h1 h2))

end Cert.ExpertsIdeal.Moe
end
end
-- ==== Proof.ExpValue.lean ====
/- The kernel's result array on extended reals: block by block what the grid points store, and so row by row the gated products of
   the row's expert. -/
module

public import proofs.«01_k».proof.Proof.ExpHost
public import proofs.«01_k».proof.Proof.ExpMath

@[expose] public section

set_option maxRecDepth 16384

noncomputable section

namespace Cert.ExpertsIdeal.Moe

open Idealize.ShloMosaic Idealize.ShloMosaic.TcCoe Idealize.ShloMosaic.Tactic Cert.ExpertsIdeal Cert.ExpertsIdeal.Gen
open Idealize.SL.Sem
open Idealize.ShloMosaic.Pipeline (Dat Cfg Window)

variable (m : (ℓ : Loc nD τ sig) → Buf (Elt Ideal) ℓ) (ρ : Dev nD → PrngReg)

/-- The index of window 0's block at a point: the point's tile. -/
theorem index0 (t : Fin (cfgA m).N) (a : Fin 2) : ((cfgA m).win 0).index t a = (![t.val % 40, 0] : Fin 2 → ℕ) a := by
  have ht := tlt m t
  match a with
  | ⟨0, _⟩ =>
    show (BitVec.ofNat 32 (grid0.coords t 1).val).toNat = t.val % 40
    rw [coord1, BitVec.toNat_ofNat]
    omega
  | ⟨1, _⟩ => rfl

/-- The index of window 1's block at a point: the point's tile and its columns. -/
theorem index1 (t : Fin (cfgA m).N) (a : Fin 2) : ((cfgA m).win 1).index t a = (![t.val % 40, t.val / 40] : Fin 2 → ℕ) a := by
  have ht := tlt m t
  match a with
  | ⟨0, _⟩ =>
    show (BitVec.ofNat 32 (grid0.coords t 1).val).toNat = t.val % 40
    rw [coord1, BitVec.toNat_ofNat]
    omega
  | ⟨1, _⟩ =>
    show (BitVec.ofNat 32 (grid0.coords t 0).val).toNat = t.val / 40
    rw [coord0, BitVec.toNat_ofNat]
    omega

/-- The rows of the block in. -/
theorem iblk0_at (c : Dev nD) (t : Fin (cfgA m).N) (p : Fin 512) (k : Fin 4096) :
    iblk m c 0 t (ix2 p k) = V m c main_arg0 (ix2 (⟨512 * (t.val % 40) + p.val, by omega⟩ : Fin 20480) k) := by
  show V m c main_arg0 ((((cfgA m).win 0).blk t).view.emb (ix2 p k)) = _
  refine congrArg (V m c main_arg0) ?_
  funext a
  match a with
  | ⟨0, _⟩ =>
    refine Fin.ext ((((cfgA m).win 0).rect_emb_val t (ix2 p k) (show Fin ((cfgA m).win 0).shape.rank from (0 : Fin 2))).trans ?_)
    rw [index0]
    show t.val % 40 * 512 + p.val = 512 * (t.val % 40) + p.val
    omega
  | ⟨1, _⟩ =>
    refine Fin.ext ((((cfgA m).win 0).rect_emb_val t (ix2 p k) (show Fin ((cfgA m).win 0).shape.rank from (1 : Fin 2))).trans ?_)
    rw [index0]
    show 0 * 4096 + k.val = k.val
    omega

/-- Where an entry of the block out sits in the result. -/
theorem emb1 (t : Fin (cfgA m).N) (p q : Fin 512) :
    ((((cfgA m).win 1).blk t).view.emb (ix2 p q) : S20480x14336.Idx)
      = ix2 (⟨512 * (t.val % 40) + p.val, by omega⟩ : Fin 20480) (⟨512 * (t.val / 40) + q.val, by have := tlt m t; omega⟩ : Fin 14336) := by
  have ht := tlt m t
  funext a
  match a with
  | ⟨0, _⟩ =>
    refine Fin.ext ((((cfgA m).win 1).rect_emb_val t (ix2 p q) (show Fin ((cfgA m).win 1).shape.rank from (0 : Fin 2))).trans ?_)
    rw [index1]
    show t.val % 40 * 512 + p.val = 512 * (t.val % 40) + p.val
    omega
  | ⟨1, _⟩ =>
    refine Fin.ext ((((cfgA m).win 1).rect_emb_val t (ix2 p q) (show Fin ((cfgA m).win 1).shape.rank from (1 : Fin 2))).trans ?_)
    rw [index1]
    show t.val / 40 * 512 + q.val = 512 * (t.val / 40) + q.val
    omega

/-- The weights' block at a column. -/
theorem blk_at (Wt : Vec Ideal S8x4096x14336 .f32) (te : Vec Ideal S40 .i32) (n j : ℕ) (hn : n < 28) (k : Fin 4096) (q : Fin 512) :
    blkAt Wt (curOff te n j) (ix2 k q)
      = Wt (ix3 (⟨(ent te j).toNat % 8, Nat.mod_lt _ (by decide)⟩ : Fin 8) k (⟨512 * n + q.val, by omega⟩ : Fin 14336)) := by
  refine congrArg Wt ?_
  funext a
  match a with
  | ⟨0, _⟩ => rfl
  | ⟨1, _⟩ => exact Fin.ext (show (0 + k.val) % 4096 = k.val by omega)
  | ⟨2, _⟩ => exact Fin.ext (show (512 * n + q.val) % 14336 = 512 * n + q.val by omega)

/-- The closed form at an entry of a block. -/
theorem expOut_at (h : Vec Ideal S20480x4096 .bf16) (w1 w3 : Vec Ideal S8x4096x14336 .f32) (te md : IVec S40 32) (s : Fin 40) (n : ℕ)
    (hn : n < 28) (p q : Fin 512) :
    expOut h w1 w3 te md (ix2 (⟨512 * s.val + p.val, by omega⟩ : Fin 20480) (⟨512 * n + q.val, by omega⟩ : Fin 14336))
      = if Live (md (ix1 s)) p.val then
          gated
            (∑ k : Fin 4096, h (ix2 (⟨512 * s.val + p.val, by omega⟩ : Fin 20480) k)
              * w1 (ix3 (⟨(te (ix1 s)).toNat % 8, Nat.mod_lt _ (by decide)⟩ : Fin 8) k (⟨512 * n + q.val, by omega⟩ : Fin 14336)))
            (∑ k : Fin 4096, h (ix2 (⟨512 * s.val + p.val, by omega⟩ : Fin 20480) k)
              * w3 (ix3 (⟨(te (ix1 s)).toNat % 8, Nat.mod_lt _ (by decide)⟩ : Fin 8) k (⟨512 * n + q.val, by omega⟩ : Fin 14336)))
        else 0 := by
  have key : ∀ (z : Fin 40) (l : ℕ), z = s → l = p.val →
      (if Live (md (ix1 z)) l then
          gated
            (∑ k : Fin 4096, h (ix2 (⟨512 * s.val + p.val, by omega⟩ : Fin 20480) k)
              * w1 (ix3 (⟨(te (ix1 z)).toNat % 8, Nat.mod_lt _ (by decide)⟩ : Fin 8) k (⟨512 * n + q.val, by omega⟩ : Fin 14336)))
            (∑ k : Fin 4096, h (ix2 (⟨512 * s.val + p.val, by omega⟩ : Fin 20480) k)
              * w3 (ix3 (⟨(te (ix1 z)).toNat % 8, Nat.mod_lt _ (by decide)⟩ : Fin 8) k (⟨512 * n + q.val, by omega⟩ : Fin 14336)))
        else 0) = _ := fun z l hz hl => by
    subst hz hl
    rfl
  exact key _ _ (Fin.ext (show (512 * s.val + p.val) / 512 = s.val by omega)) (show (512 * s.val + p.val) % 512 = p.val by omega)

/-- The block of rows a point writes, at an entry. -/
theorem outAt_at (c : Dev nD) (t : Fin (cfgA m).N) (p q : Fin 512)
    (hlt : ∀ j : Fin 40, ((m ((c : Thread nD τ).loc main_arg3) : IVec S40 32) (ix1 j)).toNat < 8)
    (hk : ∀ j : Fin 40, IsKind ((m ((c : Thread nD τ).loc main_arg4) : IVec S40 32) (ix1 j))) :
    outAt m c t (ix2 p q) = expOut (m ((c : Thread nD τ).loc main_arg0)) (m ((c : Thread nD τ).loc main_arg1))
      (m ((c : Thread nD τ).loc main_arg2)) (m ((c : Thread nD τ).loc main_arg3)) (m ((c : Thread nD τ).loc main_arg4))
      (ix2 (⟨512 * (t.val % 40) + p.val, by omega⟩ : Fin 20480) (⟨512 * (t.val / 40) + q.val, by have := tlt m t; omega⟩ : Fin 14336)) := by
  have ht := tlt m t
  have hj : t.val % 40 < 40 := Nat.mod_lt _ (by decide)
  unfold outAt
  rw [V_main_arg1, V_main_arg2, V_main_arg3, V_main_arg4, ent_at _ _ hj]
  refine (rowsVal_at _ (hk ⟨t.val % 40, hj⟩) _ _ _ p q).trans ?_
  simp only [iblk0_at, pay1_at, pay2_at, V_main_arg0]
  simp only [blk_at _ _ _ _ (show t.val / 40 < 28 by omega), ent_at _ _ hj]
  exact (expOut_at _ _ _ _ _ ⟨t.val % 40, hj⟩ (t.val / 40) (by omega) p q).symm

/-- Every point writes its block of the result back. -/
theorem flush1 (t : Fin (cfgA m).N) : ((cfgA m).win 1).flush t = true := by
  refine (((cfgA m).win 1).flush_reads rfl (1 : Fin 2) (show 1 < grid0.bound 1 by decide) (show grid0.fixedAfter reads0_1 1 = true by decide) ?_ (P := 1) (m := 0) (show grid0.stride 1 = 1 by decide) rfl t).mpr (by omega)
  exact Pipeline.Window.sep_of_coord _ _ (0 : Fin 2) (fun _ => rfl) (show grid0.bound 1 ≤ 2 ^ 32 by decide)

/-- The result array after the run. -/
theorem final1 (c : Dev nD)
    (hlt : ∀ j : Fin 40, ((m ((c : Thread nD τ).loc main_arg3) : IVec S40 32) (ix1 j)).toNat < 8)
    (hk : ∀ j : Fin 40, IsKind ((m ((c : Thread nD τ).loc main_arg4) : IVec S40 32) (ix1 j))) :
    (dats m 0 c).arrAt 1 (cfgA m).N = expOut (m ((c : Thread nD τ).loc main_arg0)) (m ((c : Thread nD τ).loc main_arg1))
      (m ((c : Thread nD τ).loc main_arg2)) (m ((c : Thread nD τ).loc main_arg3)) (m ((c : Thread nD τ).loc main_arg4)) := by
  refine (dats m 0 c).arrAt_eq_of_emb 1 _ (fun t hf y => ?_) (fun i => ?_)
  · have key : ∀ y : S512x512.Idx, ∃ p q : Fin 512, y = ix2 p q := fun y => ⟨y 0, y 1, eq_ix2 y⟩
    obtain ⟨p, q, rfl⟩ := key y
    refine Eq.trans ?_ ((outAt_at m c t p q hlt hk).trans (congrArg _ (emb1 m t p q).symm))
    rfl
  · have key : ∀ i : S20480x14336.Idx, ∃ (r : Fin 20480) (j : Fin 14336), i = ix2 r j := fun i => ⟨i 0, i 1, eq_ix2 i⟩
    obtain ⟨r, j, rfl⟩ := key i
    have hr := r.isLt
    have hj := j.isLt
    let t : Fin (cfgA m).N := ⟨40 * (j.val / 512) + r.val / 512, by rw [cfgA_N]; omega⟩
    refine ⟨t, flush1 m t, ?_⟩
    have e : ix2 r j = ((((cfgA m).win 1).blk t).view.emb (ix2 (⟨r.val % 512, by omega⟩ : Fin 512) (⟨j.val % 512, by omega⟩ : Fin 512)) : S20480x14336.Idx) := by
      rw [emb1]
      have h1 : (⟨512 * (t.val % 40) + r.val % 512, by omega⟩ : Fin 20480) = r := Fin.ext (by show 512 * ((40 * (j.val / 512) + r.val / 512) % 40) + r.val % 512 = r.val; omega)
      have h2 : (⟨512 * (t.val / 40) + j.val % 512, by show 512 * ((40 * (j.val / 512) + r.val / 512) / 40) + j.val % 512 < 14336; omega⟩ : Fin 14336) = j := Fin.ext (by show 512 * ((40 * (j.val / 512) + r.val / 512) / 40) + j.val % 512 = j.val; omega)
      rw [h1, h2]
    rw [e]
    exact View.emb_mem_set _ _

/-- The kernel's run on extended reals: its result is the closed form, its arguments unchanged. -/
theorem run_value (hf : ∀ c : Dev nD, Fits (m ((c : Thread nD τ).loc main_arg3)) (m ((c : Thread nD τ).loc main_arg4)))
    (g : Good (V m 0 main_arg3) (V m 0 main_arg4) (V m 0 main_v10)) :
    θ_run defs (onTc (τ := τ) (main (F := Ideal))) ⟨m, fun _ => 0, ρ⟩ (fun r => ∀ c : Dev nD,
      r.2.mem ((c.tc : Thread nD τ).loc main_v11) = expOut (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨
      ((h.1 c).1 1).trans (final1 m c (hf c).lt (hf c).kind),
      ((h.1 c).1 0).trans (((dats m 0 c).arrAt_in 0 rfl _).trans ((A_eq m c 0).trans (V_main_arg0 m c))),
      ((h.1 c).2 main_arg1 (Pipeline.mem_restRefs_of (win := spec0) main_arg1 (by decide) (by decide))).trans (V_main_arg1 m c),
      ((h.1 c).2 main_arg2 (Pipeline.mem_restRefs_of (win := spec0) main_arg2 (by decide) (by decide))).trans (V_main_arg2 m c),
      ((h.1 c).2 main_arg3 (Pipeline.mem_restRefs_of (win := spec0) main_arg3 (by decide) (by decide))).trans (V_main_arg3 m c),
      ((h.1 c).2 main_arg4 (Pipeline.mem_restRefs_of (win := spec0) main_arg4 (by decide) (by decide))).trans (V_main_arg4 m c)⟩) (run_main m ρ g)

end Cert.ExpertsIdeal.Moe
end
end
-- ==== Proof.ExpRef.lean ====
/- The reference's experts at an entry: of its eight turns one adds the gated product of the row's own expert, the others zero. -/
module

public import proofs.«01_k».proof.Proof.ExpMath
public import proofs.«01_k».proof.Proof.Gen.ExpertsRefIdeal.Run
public import Idealize.ShloMosaic.Lib.StableHlo.Predicate
public import Idealize.ShloMosaic.Lib.Pointwise

@[expose] public section

set_option maxRecDepth 16384

noncomputable section

namespace Cert.ExpertsRefIdeal.Moe

open Idealize.ShloMosaic Idealize.ShloMosaic.TcCoe Idealize.SL.Sem Idealize.ShloMosaic.StableHlo Cert.ExpertsRefIdeal Cert.ExpertsRefIdeal.Gen Cert.ExpertsRefIdeal.Value
open Cert.ExpertsIdeal.Moe (gated Live IsKind expOut)

/-- The conjunction of two bits. -/
theorem andi_one {a b : BitVec 1} : IntOp.andi a b = 1#1 ↔ a = 1#1 ∧ b = 1#1 := by
  revert a b
  decide

/-- An expert's product with a weight: the rows against the expert's matrix. -/
def prodOf (hf : FVec Ideal S20480x4096 .f32) (w : FVec Ideal S8x4096x14336 .f32) (x : ℕ)
    (hs : S8x4096x14336.Slices ![x, 0, 0] S1x4096x14336) : FVec Ideal S20480x14336 .f32 :=
  Host.dotGeneral dot_S20480x4096_S4096x14336_S20480x14336_1_0_0_1_n_n none hf
    (shapeCast _ (extractStridedSlice S1x4096x14336 ![x, 0, 0] w hs) shapeCasts_S1x4096x14336_S4096x14336)

/-- The product at an entry. -/
theorem prodOf_at (hf : FVec Ideal S20480x4096 .f32) (w : FVec Ideal S8x4096x14336 .f32) (x : Fin 8)
    (hs : S8x4096x14336.Slices ![x.val, 0, 0] S1x4096x14336) (r : Fin 20480) (j : Fin 14336) :
    prodOf hf w x.val hs (ix2 r j) = ∑ k : Fin 4096, hf (ix2 r k) * w (ix3 x k j) := by
  pointwise [prodOf]

/-- One expert's turn. -/
def turn (hf : FVec Ideal S20480x4096 .f32) (w1 w3 : FVec Ideal S8x4096x14336 .f32) (live : IVec S20480x1 1) (e : IVec S20480x1 32)
    (x : ℕ) (hs : S8x4096x14336.Slices ![x, 0, 0] S1x4096x14336) (out : FVec Ideal S20480x14336 .f32) : FVec Ideal S20480x14336 .f32 :=
  addf out (select (broadcastInDim S20480x14336 ![0, 1] bcast_S20480x1_S20480x14336_0_1
      (andi live (cmpi .eq e (broadcastInDim S20480x1 ![] bcast_S_S20480x1 (constantI S_ 32 (BitVec.ofNat 32 x))))))
    (mulf (mulf (prodOf hf w1 x hs) (Host.divf (broadcastInDim S20480x14336 ![] bcast_S_S20480x14336 (constant S_ .f32 0x3F800000#32))
        (addf (broadcastInDim S20480x14336 ![] bcast_S_S20480x14336 (constant S_ .f32 0x3F800000#32)) (Host.exp (Host.negf (prodOf hf w1 x hs))))))
      (prodOf hf w3 x hs))
    (broadcastInDim S20480x14336 ![] bcast_S_S20480x14336 (id (constant S_ .f32 0x00000000#32))))

/-- One expert's turn at an entry. -/
theorem turn_at (hf : FVec Ideal S20480x4096 .f32) (w1 w3 : FVec Ideal S8x4096x14336 .f32) (live : IVec S20480x1 1) (e : IVec S20480x1 32)
    (x : ℕ) (hs : S8x4096x14336.Slices ![x, 0, 0] S1x4096x14336) (out : FVec Ideal S20480x14336 .f32) (r : Fin 20480) (j : Fin 14336) :
    turn hf w1 w3 live e x hs out (ix2 r j)
      = out (ix2 r j) + (if live (ix2 r 0) = 1#1 ∧ e (ix2 r 0) = BitVec.ofNat 32 x then
          gated (prodOf hf w1 x hs (ix2 r j)) (prodOf hf w3 x hs (ix2 r j)) else 0) := by
  pointwise [turn]
  have hz : (id (constant S_ FTy.f32 0#32) : FVec Ideal S_ .f32) ix0 = (0 : EReal) := Ideal.ofBits_zero_f32
  rw [hz]
  refine congrArg (out (ix2 r j) + ·) ?_
  by_cases h1 : live (ix2 r 0) = 1#1 ∧ e (ix2 r 0) = BitVec.ofNat 32 x
  · rw [if_pos h1, h1.1, StableHlo.Predicate.cmpi_eq_iff.mpr h1.2]
    rfl
  · rw [if_neg h1]
    refine if_neg fun h => h1 ?_
    have h' := andi_one.mp h
    exact ⟨h'.1, StableHlo.Predicate.cmpi_eq_iff.mp h'.2⟩

/-- The reference's test of a row, on the word of its tile's kind. -/
theorem live_word (v : BitVec 32) (hk : IsKind v) (p : ℕ) (hp : p < 512) :
    Scalar.select (IntOp.cmpi .slt v 8#32) (IntOp.cmpi .eq v 1#32)
        (IntOp.cmpi .slt (BitVec.ofNat 32 p) (IntOp.muli (128#32) (IntOp.subi v 8#32))) = 1#1 ↔ Live v p := by
  have part : ∀ w : BitVec 32, w.toNat < 2 ^ 31 → (IntOp.cmpi .slt (BitVec.ofNat 32 p) w = 1#1 ↔ p < w.toNat) := fun w hw => by
    have e : (BitVec.ofNat 32 p).toNat = p := by rw [BitVec.toNat_ofNat]; omega
    have := StableHlo.Predicate.slt_iff_toNat (a := BitVec.ofNat 32 p) (b := w) (by omega) hw
    rwa [e] at this
  have many : ∀ n : ℕ, n ≤ 4 → ∀ w : BitVec 32, w.toNat = 128 * n → (IntOp.cmpi .slt (BitVec.ofNat 32 p) w = 1#1 ↔ p / 128 < n) :=
    fun n hn w hw => (part w (by omega)).trans (by rw [hw]; omega)
  unfold Live
  rcases hk with rfl | rfl | rfl | rfl | rfl | rfl | rfl
  · exact iff_of_false (by generalize IntOp.cmpi .slt (BitVec.ofNat 32 p) _ = b; revert b; decide) (by rintro (h | ⟨h, _⟩) <;> exact absurd h (by decide))
  · exact iff_of_true (by generalize IntOp.cmpi .slt (BitVec.ofNat 32 p) _ = b; revert b; decide) (Or.inl rfl)
  · exact (many 0 (by decide) _ (by decide)).trans ⟨fun h => Or.inr ⟨by decide, h⟩, fun h => h.elim (fun h => absurd h (by decide)) fun h => h.2⟩
  · exact (many 1 (by decide) _ (by decide)).trans ⟨fun h => Or.inr ⟨by decide, h⟩, fun h => h.elim (fun h => absurd h (by decide)) fun h => h.2⟩
  · exact (many 2 (by decide) _ (by decide)).trans ⟨fun h => Or.inr ⟨by decide, h⟩, fun h => h.elim (fun h => absurd h (by decide)) fun h => h.2⟩
  · exact (many 3 (by decide) _ (by decide)).trans ⟨fun h => Or.inr ⟨by decide, h⟩, fun h => h.elim (fun h => absurd h (by decide)) fun h => h.2⟩
  · exact (many 4 (by decide) _ (by decide)).trans ⟨fun h => Or.inr ⟨by decide, h⟩, fun h => h.elim (fun h => absurd h (by decide)) fun h => h.2⟩

variable (V0 : Valuation τ sig (Elt Ideal))

/-- The expert of row `r` is its tile's. -/
theorem expert_at (r : Fin 20480) :
    res_main_v18 (F := Ideal) V0 (ix2 r (0 : Fin 1)) = (V0 (Proc.devRef .tc main_arg3) : IVec S40 32) (ix1 (⟨r.val / 512, by omega⟩ : Fin 40)) := by
  pointwise [res_main_v18]

/-- Row `r` is computed as its tile's kind says. -/
theorem live_at (r : Fin 20480) (hk : IsKind ((V0 (Proc.devRef .tc main_arg4) : IVec S40 32) (ix1 (⟨r.val / 512, by omega⟩ : Fin 40)))) :
    res_main_v15 (F := Ideal) V0 (ix2 r (0 : Fin 1)) = 1#1 ↔
      Live ((V0 (Proc.devRef .tc main_arg4) : IVec S40 32) (ix1 (⟨r.val / 512, by omega⟩ : Fin 40))) (r.val % 512) := by
  pointwise [res_main_v15, res_main_v2]
  exact live_word _ hk (r.val % 512) (Nat.mod_lt _ (by decide))

/-- The eight turns. -/
def turns (hf : FVec Ideal S20480x4096 .f32) (w1 w3 : FVec Ideal S8x4096x14336 .f32) (live : IVec S20480x1 1) (e : IVec S20480x1 32) :
    FVec Ideal S20480x14336 .f32 :=
  turn hf w1 w3 live e 7 slices_S8x4096x14336_S1x4096x14336_7_0_0
  (turn hf w1 w3 live e 6 slices_S8x4096x14336_S1x4096x14336_6_0_0
  (turn hf w1 w3 live e 5 slices_S8x4096x14336_S1x4096x14336_5_0_0
  (turn hf w1 w3 live e 4 slices_S8x4096x14336_S1x4096x14336_4_0_0
  (turn hf w1 w3 live e 3 slices_S8x4096x14336_S1x4096x14336_3_0_0
  (turn hf w1 w3 live e 2 slices_S8x4096x14336_S1x4096x14336_2_0_0
  (turn hf w1 w3 live e 1 slices_S8x4096x14336_S1x4096x14336_1_0_0
  (turn hf w1 w3 live e 0 slices_S8x4096x14336_S1x4096x14336_0_0_0
    (broadcastInDim S20480x14336 ![] bcast_S_S20480x14336 (constant (F := Ideal) S_ .f32 0x00000000#32)))))))))

/-- Eight summands, one per expert: the row's own expert's alone is not zero. -/
theorem one_of_eight (g : Fin 8 → EReal) (L : Prop) [Decidable L] (e : BitVec 32) (he : e.toNat < 8) :
    0 + (if L ∧ e = BitVec.ofNat 32 0 then g 0 else 0) + (if L ∧ e = BitVec.ofNat 32 1 then g 1 else 0)
        + (if L ∧ e = BitVec.ofNat 32 2 then g 2 else 0) + (if L ∧ e = BitVec.ofNat 32 3 then g 3 else 0)
        + (if L ∧ e = BitVec.ofNat 32 4 then g 4 else 0) + (if L ∧ e = BitVec.ofNat 32 5 then g 5 else 0)
        + (if L ∧ e = BitVec.ofNat 32 6 then g 6 else 0) + (if L ∧ e = BitVec.ofNat 32 7 then g 7 else 0)
      = if L then g ⟨e.toNat % 8, Nat.mod_lt _ (by decide)⟩ else 0 := by
  by_cases hL : L
  · have key : e = 0#32 ∨ e = 1#32 ∨ e = 2#32 ∨ e = 3#32 ∨ e = 4#32 ∨ e = 5#32 ∨ e = 6#32 ∨ e = 7#32 := by
      have : e = BitVec.ofNat 32 e.toNat := by simp
      generalize e.toNat = n at this he
      subst this
      rcases n with _ | _ | _ | _ | _ | _ | _ | _ | n
      all_goals first | omega | simp
    rcases key with rfl | rfl | rfl | rfl | rfl | rfl | rfl | rfl <;> simp [hL]
  · simp [hL]

/-- The rows as they are given. -/
theorem rows_at (r : Fin 20480) (k : Fin 4096) : res_main_v20 (F := Ideal) V0 (ix2 r k) = (V0 (Proc.devRef .tc main_arg0) : FVec Ideal S20480x4096 .bf16) (ix2 r k) := by
  pointwise [res_main_v20]

/-- The eight turns at an entry. -/
theorem turns_at (h : FVec Ideal S20480x4096 .bf16) (hf : FVec Ideal S20480x4096 .f32) (w1 w3 : FVec Ideal S8x4096x14336 .f32)
    (live : IVec S20480x1 1) (e : IVec S20480x1 32) (te md : IVec S40 32) (r : Fin 20480) (j : Fin 14336)
    (hh : ∀ k : Fin 4096, hf (ix2 r k) = h (ix2 r k)) (he : e (ix2 r (0 : Fin 1)) = te (ix1 (⟨r.val / 512, by omega⟩ : Fin 40)))
    (hl : live (ix2 r (0 : Fin 1)) = 1#1 ↔ Live (md (ix1 (⟨r.val / 512, by omega⟩ : Fin 40))) (r.val % 512))
    (hlt : (te (ix1 (⟨r.val / 512, by omega⟩ : Fin 40))).toNat < 8) :
    turns hf w1 w3 live e (ix2 r j) = expOut h w1 w3 te md (ix2 r j) := by
  have hz : (broadcastInDim S20480x14336 ![] bcast_S_S20480x14336 (constant (F := Ideal) S_ .f32 0x00000000#32) : FVec Ideal S20480x14336 .f32) (ix2 r j) = 0 := by
    pointwise
  have key : ∀ (x : Fin 8) (hs : S8x4096x14336.Slices ![x.val, 0, 0] S1x4096x14336), gated (prodOf hf w1 x.val hs (ix2 r j)) (prodOf hf w3 x.val hs (ix2 r j))
      = gated (∑ k : Fin 4096, h (ix2 r k) * w1 (ix3 x k j)) (∑ k : Fin 4096, h (ix2 r k) * w3 (ix3 x k j)) := fun x hs => by
    rw [prodOf_at, prodOf_at]
    simp only [hh]
  unfold turns
  rw [turn_at, turn_at, turn_at, turn_at, turn_at, turn_at, turn_at, turn_at, hz, he]
  simp only [hl]
  have k0 := key 0 slices_S8x4096x14336_S1x4096x14336_0_0_0
  have k1 := key 1 slices_S8x4096x14336_S1x4096x14336_1_0_0
  have k2 := key 2 slices_S8x4096x14336_S1x4096x14336_2_0_0
  have k3 := key 3 slices_S8x4096x14336_S1x4096x14336_3_0_0
  have k4 := key 4 slices_S8x4096x14336_S1x4096x14336_4_0_0
  have k5 := key 5 slices_S8x4096x14336_S1x4096x14336_5_0_0
  have k6 := key 6 slices_S8x4096x14336_S1x4096x14336_6_0_0
  have k7 := key 7 slices_S8x4096x14336_S1x4096x14336_7_0_0
  change gated (prodOf hf w1 0 _ (ix2 r j)) (prodOf hf w3 0 _ (ix2 r j)) = _ at k0
  change gated (prodOf hf w1 1 _ (ix2 r j)) (prodOf hf w3 1 _ (ix2 r j)) = _ at k1
  change gated (prodOf hf w1 2 _ (ix2 r j)) (prodOf hf w3 2 _ (ix2 r j)) = _ at k2
  change gated (prodOf hf w1 3 _ (ix2 r j)) (prodOf hf w3 3 _ (ix2 r j)) = _ at k3
  change gated (prodOf hf w1 4 _ (ix2 r j)) (prodOf hf w3 4 _ (ix2 r j)) = _ at k4
  change gated (prodOf hf w1 5 _ (ix2 r j)) (prodOf hf w3 5 _ (ix2 r j)) = _ at k5
  change gated (prodOf hf w1 6 _ (ix2 r j)) (prodOf hf w3 6 _ (ix2 r j)) = _ at k6
  change gated (prodOf hf w1 7 _ (ix2 r j)) (prodOf hf w3 7 _ (ix2 r j)) = _ at k7
  rw [k0, k1, k2, k3, k4, k5, k6, k7]
  exact one_of_eight (fun x : Fin 8 => gated (∑ k : Fin 4096, h (ix2 r k) * w1 (ix3 x k j)) (∑ k : Fin 4096, h (ix2 r k) * w3 (ix3 x k j)))
    (Live (md (ix1 (⟨r.val / 512, by omega⟩ : Fin 40))) (r.val % 512)) _ hlt

/-- The reference's run: its result is the closed form, its arguments unchanged. -/
theorem run_value (m : (ℓ : Loc nD τ sig) → Buf (Elt Ideal) ℓ) (ρ : Dev nD → PrngReg)
    (hf : ∀ c : Dev nD, ∀ j : Fin 40, ((m ((c.tc : Thread nD τ).loc main_arg3) : IVec S40 32) (ix1 j)).toNat < 8
      ∧ IsKind ((m ((c.tc : Thread nD τ).loc main_arg4) : IVec S40 32) (ix1 j))) :
    θ_run defs (onTc (τ := τ) (main (F := Ideal))) ⟨m, fun _ => 0, ρ⟩ fun r => ∀ c : Dev nD,
      r.2.mem ((c.tc : Thread nD τ).loc main_v125) = expOut (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c).1.trans (by
      funext y
      obtain ⟨r, j, rfl⟩ : ∃ (r : Fin 20480) (j : Fin 14336), y = ix2 r j := ⟨y 0, y 1, eq_ix2 y⟩
      exact (show _ = turns (res_main_v20 (launchContents m c)) (launchContents m c (Proc.devRef .tc main_arg1)) (launchContents m c (Proc.devRef .tc main_arg2))
          (res_main_v15 (launchContents m c)) (res_main_v18 (launchContents m c)) (ix2 r j) from rfl).trans
        (turns_at _ _ _ _ _ _ _ _ r j (rows_at (launchContents m c) r) (expert_at (launchContents m c) r)
          (live_at (launchContents m c) r (hf c _).2) (hf c _).1)), (h c).2⟩)
    (run (F := Ideal) m ρ)

end Cert.ExpertsRefIdeal.Moe

end

end
-- ==== Proof.DownRows.lean ====
/- A tile of the experts' second product: what a grid point stores in its block, by the tile's kind. -/
module

public import proofs.«01_k».proof.Proof.Gen.DownIdeal
public import proofs.«01_k».proof.Proof.Gen.DownIdeal.Skeleton
public import proofs.«01_k».proof.Proof.Gen.DownIdeal.Launch
public import Idealize.ShloMosaic.Lib.Tactic
public import Idealize.ShloMosaic.Lib.Pipeline.FrameBody
public import Idealize.ShloMosaic.Lib.Pipeline.Frame
public import Idealize.ShloMosaic.Lib.WritesUnit
public import Idealize.ShloMosaic.Lib.VecWindow

@[expose] public section

set_option maxRecDepth 16384
set_option maxHeartbeats 2000000

noncomputable section

namespace Cert.DownIdeal.Moe

open Idealize.ShloMosaic Idealize.ShloMosaic.TcCoe Idealize.ShloMosaic.Tactic Cert.DownIdeal Cert.DownIdeal.Gen
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- The index of a row and a column. -/
def idx2 {n k : ℕ} (a : Fin n) (b : Fin k) : (⟨2, ![n, k]⟩ : Shape).Idx := fun
  | ⟨0, _⟩ => a
  | ⟨1, _⟩ => b

/-- The rows of a tile from row `o` on, a quarter of them. -/
def quarter {w : ℕ} {e : EltTy} (H : Vec F ⟨2, ![512, w]⟩ e) (o : ℕ) (ho : o + 128 ≤ 512) : Vec F ⟨2, ![128, w]⟩ e :=
  fun x => H (idx2 (n := 512) (k := w) ⟨o + (x 0).val, by have := (x 0).isLt; change (x 0).val < 128 at this; omega⟩ (x 1))

/-- How many quarters of a tile of kind `v` are computed, where it is neither whole nor empty. -/
def liveQuarters (v : BitVec 32) : ℕ := v.toNat - 8

/-- One quarter's result: its rows where it is computed, else zero. -/
def quarterVal (v : BitVec 32) (b : ℕ) (q : Vec F S128x1024 .f32) : Vec F S128x1024 .f32 :=
  if b < liveQuarters v then q else k0_pay5 (F := F)

/-- What a tile of kind `v` holds: the whole product, zero, or the product in its first quarters. -/
def rowsVal (v : BitVec 32) (X : Vec F S512x1024 .f32) (q : (b : ℕ) → 128 * b + 128 ≤ 512 → Vec F S128x1024 .f32) : Vec F S512x1024 .f32 :=
  if v = 1#32 then X else if v = 0#32 then k0_pay3 (F := F) else
    fun y => quarterVal v ((y 0).val / 128) (q ((y 0).val / 128) (by have := (y 0).isLt; change (y 0).val < 512 at this; omega))
      (idx2 (n := 128) (k := 1024) ⟨(y 0).val % 128, Nat.mod_lt _ (by decide)⟩ (y 1))

/-- What a tile of the first part of the sum holds. -/
def first (v : BitVec 32) (H : Vec F S512x3584 .bf16) (A : Vec F S3584x1024 .bf16) (S : Vec F S512x1 .f32) : Vec F S512x1024 .f32 :=
  rowsVal v (k0_pay2 H A S) fun b hb => k0_pay4 (quarter (w := 3584) H (128 * b) hb) A (quarter (w := 1) S (128 * b) hb)

/-- What a tile of a later part of the sum holds, over the sum before it. -/
def later (v : BitVec 32) (H : Vec F S512x3584 .bf16) (A : Vec F S3584x1024 .bf16) (S : Vec F S512x1 .f32) (R : Vec F S512x1024 .f32) : Vec F S512x1024 .f32 :=
  rowsVal v (k1_pay2 H A S R) fun b hb => k1_pay4 (quarter (w := 3584) H (128 * b) hb) A (quarter (w := 1) S (128 * b) hb) (quarter (w := 1024) R (128 * b) hb)

/-- The kinds a tile can have. -/
def IsKind (v : BitVec 32) : Prop := v = 0#32 ∨ v = 1#32 ∨ v = 8#32 ∨ v = 9#32 ∨ v = 10#32 ∨ v = 11#32 ∨ v = 12#32

/-- Four stores of a quarter each leave the rows of each. -/
theorem read_quarters (M : Memref sig .tc .vmem S512x1024 .f32) (f : BufTy.Contents (Elt F) M.view.ty)
    (W0 W1 W2 W3 : Vec F S128x1024 .f32) (i0 i1 i2 i3) (y : S512x1024.Idx) (X : Elt F .f32)
    (h0 : ∀ x : S128x1024.Idx, (y 0).val = 0 + (x 0).val → (y 1).val = (x 1).val → W0 x = X)
    (h1 : ∀ x : S128x1024.Idx, (y 0).val = 128 + (x 0).val → (y 1).val = (x 1).val → W1 x = X)
    (h2 : ∀ x : S128x1024.Idx, (y 0).val = 256 + (x 0).val → (y 1).val = (x 1).val → W2 x = X)
    (h3 : ∀ x : S128x1024.Idx, (y 0).val = 384 + (x 0).val → (y 1).val = (x 1).val → W3 x = X) :
    M.view.read (Elt F) (M.view.writes (Elt F) f
      [⟨Rect.unit (s := S512x1024) ![384, 0] S128x1024.size i3, W3⟩, ⟨Rect.unit (s := S512x1024) ![256, 0] S128x1024.size i2, W2⟩,
        ⟨Rect.unit (s := S512x1024) ![128, 0] S128x1024.size i1, W1⟩, ⟨Rect.unit (s := S512x1024) ![0, 0] S128x1024.size i0, W0⟩]) y = X := by
  have hy : (y 0).val < 512 := (y 0).isLt
  rw [View.read_writes_cons_rows M.view f i3 W3 _ y rfl (W := 128) rfl rfl]
  split
  · exact h3 _ (by show _ = 384 + ((y 0).val - 384); omega) (by show _ = (y 1).val - 0; omega)
  rw [View.read_writes_cons_rows M.view f i2 W2 _ y rfl (W := 128) rfl rfl]
  split
  · exact h2 _ (by show _ = 256 + ((y 0).val - 256); omega) (by show _ = (y 1).val - 0; omega)
  rw [View.read_writes_cons_rows M.view f i1 W1 _ y rfl (W := 128) rfl rfl]
  split
  · exact h1 _ (by show _ = 128 + ((y 0).val - 128); omega) (by show _ = (y 1).val - 0; omega)
  rw [View.read_writes_cons_rows M.view f i0 W0 _ y rfl (W := 128) rfl rfl]
  split
  · exact h0 _ (by show _ = 0 + ((y 0).val - 0); omega) (by show _ = (y 1).val - 0; omega)
  · omega

/-- A row of a quartered tile is a row of its quarter. -/
theorem rowsVal_quarter (v : BitVec 32) (h1 : v ≠ 1#32) (h0 : v ≠ 0#32) (X : Vec F S512x1024 .f32) (q : (b : ℕ) → 128 * b + 128 ≤ 512 → Vec F S128x1024 .f32)
    (b : ℕ) (hb : 128 * b + 128 ≤ 512) (y : S512x1024.Idx) (x : S128x1024.Idx) (hy0 : (y 0).val = 128 * b + (x 0).val) (hy1 : (y 1).val = (x 1).val) :
    quarterVal v b (q b hb) x = rowsVal v X q y := by
  have hx : (x 0).val < 128 := (x 0).isLt
  unfold rowsVal
  rw [if_neg h1, if_neg h0]
  have e : (y 0).val / 128 = b := by omega
  subst e
  refine congrArg _ (funext fun a => ?_)
  match a with
  | ⟨0, _⟩ => exact Fin.ext (by show (x 0).val = (y 0).val % 128; omega)
  | ⟨1, _⟩ => exact Fin.ext hy1.symm

/-- The rows of a load of a quarter are the quarter's. -/
theorem readAt_quarter {w : ℕ} {e : EltTy} (M : Memref sig .tc .vmem ⟨2, ![512, w]⟩ e) (f : BufTy.Contents (Elt F) M.view.ty) (o : ℕ) (ho : o + 128 ≤ 512) (inb) :
    View.readAt (Elt F) M.view (Rect.unit (s := ⟨2, ![512, w]⟩) ![o, 0] ![128, w] inb).toLoadRect f = quarter (M.view.read (Elt F) f) o ho := by
  funext x
  unfold quarter
  rw [View.readAt_apply]
  refine congrArg _ (funext fun a => ?_)
  match a with
  | ⟨0, _⟩ => exact Fin.ext (by show o + 1 * (x 0).val = o + (x 0).val; omega)
  | ⟨1, _⟩ => exact Fin.ext (by show 0 + 1 * (x 1).val = (x 1).val; omega)

/-- A load of a quarter of the rows in reads the quarter. -/
theorem readAt_quarterH (M : Memref sig .tc .vmem S512x3584 .bf16) (f : BufTy.Contents (Elt F) M.view.ty) (o : ℕ) (ho : o + 128 ≤ 512) (inb) :
    View.readAt (Elt F) M.view (Rect.unit (s := S512x3584) ![o, 0] S128x3584.size inb).toLoadRect f = quarter (w := 3584) (M.view.read (Elt F) f) o ho :=
  readAt_quarter (w := 3584) M f o ho inb

/-- A load of a quarter of the gates reads the quarter. -/
theorem readAt_quarterS (M : Memref sig .tc .vmem S512x1 .f32) (f : BufTy.Contents (Elt F) M.view.ty) (o : ℕ) (ho : o + 128 ≤ 512) (inb) :
    View.readAt (Elt F) M.view (Rect.unit (s := S512x1) ![o, 0] S128x1.size inb).toLoadRect f = quarter (w := 1) (M.view.read (Elt F) f) o ho :=
  readAt_quarter (w := 1) M f o ho inb

/-- A load of a quarter of the sum before reads the quarter. -/
theorem readAt_quarterR (M : Memref sig .tc .vmem S512x1024 .f32) (f : BufTy.Contents (Elt F) M.view.ty) (o : ℕ) (ho : o + 128 ≤ 512) (inb) :
    View.readAt (Elt F) M.view (Rect.unit (s := S512x1024) ![o, 0] S128x1024.size inb).toLoadRect f = quarter (w := 1024) (M.view.read (Elt F) f) o ho :=
  readAt_quarter (w := 1024) M f o ho inb

/-- What a quarter's store leaves, where it is computed. -/
theorem live_quarter (v : BitVec 32) (b : ℕ) (h : b < liveQuarters v) (q : Vec F S128x1024 .f32) (x : S128x1024.Idx) : q x = quarterVal v b q x := by
  unfold quarterVal; rw [if_pos h]

/-- What a quarter's store leaves, where it is not. -/
theorem dead_quarter (v : BitVec 32) (b : ℕ) (h : ¬ b < liveQuarters v) (q : Vec F S128x1024 .f32) (x : S128x1024.Idx) : k0_pay5 (F := F) x = quarterVal v b q x := by
  unfold quarterVal; rw [if_neg h]

set_option cleanup.letToHave false in
/-- The body of region 0's kernel from the point where the tile's kind has been read. -/
noncomputable def tail0 (i : grid0.Coords) (arg2 : Memref sig .tc .smem S40 .i32) (harg2 : arg2.IsWhole) (arg3 : Memref sig .tc .smem S40 .i32) (harg3 : arg3.IsWhole) (arg4 : Memref sig .tc .smem S40 .i32) (harg4 : arg4.IsWhole) (arg5 : Memref sig .tc .vmem S512x3584 .bf16) (harg5 : arg5.IsWhole) (arg6 : Memref sig .tc .hbm S8x14336x4096 .f32) (harg6 : arg6.IsWhole) (arg7 : Memref sig .tc .vmem S512x1 .f32) (harg7 : arg7.IsWhole) (arg8 : Memref sig .tc .vmem S512x1024 .f32) (harg8 : arg8.IsWhole) (arg9 : Memref sig .tc .vmem S3584x1024 .f32) (harg9 : arg9.IsWhole) (arg10 : Memref sig .tc .vmem S3584x1024 .bf16) (harg10 : arg10.IsWhole) (arg11 : DmaSems sig S1) (v12 : Elt F .i32) :
    Prog (TpuEff nD τ sig (Elt F) Λ₀ .tc) PUnit := do
  let ⟨v12, v31, v33⟩ : Σ' (v12 : Elt F .i32) (v31 : BitVec 1), BitVec 1 ← (do
    if k0_h4 : k0_cond4 v12 = 1#1 then do
      let v67 : Vec F S512x3584 .bf16 ← Prog.lift (.load arg5 (Rect.unit (s := S512x3584) ![0, 0] S512x3584.size inb_S512x3584_S512x3584_0_0).toLoadRect (View.loadsAt_vmem h_S512x3584))
      let v68 : Vec F S3584x1024 .bf16 ← Prog.lift (.load arg10 (Rect.unit (s := S3584x1024) ![0, 0] S3584x1024.size inb_S3584x1024_S3584x1024_0_0).toLoadRect (View.loadsAt_vmem h_S3584x1024))
      let v70 : Vec F S512x1 .f32 ← Prog.lift (.load arg7 (Rect.unit (s := S512x1) ![0, 0] S512x1.size inb_S512x1_S512x1_0_0).toLoadRect (View.loadsAt_vmem h_S512x1))
      let v73 : Vec F S512x1024 .f32 ← Prog.lift (.load arg8 (Rect.unit (s := S512x1024) ![0, 0] S512x1024.size inb_S512x1024_S512x1024_0_0).toLoadRect (View.loadsAt_vmem h_S512x1024))
      Prog.lift (.store arg8 (Rect.unit (s := S512x1024) ![0, 0] S512x1024.size inb_S512x1024_S512x1024_0_0) (k0_pay2 v67 v68 v70) Finset.univ (View.stores_vmem_bits_univ h_S512x1024 rfl) (.inl rfl))
      pure ⟨⟩
    else do
      pure ⟨⟩
    if k0_h5 : k0_cond5 v12 = 1#1 then do
      let v68 : Vec F S512x1024 .f32 ← Prog.lift (.load arg8 (Rect.unit (s := S512x1024) ![0, 0] S512x1024.size inb_S512x1024_S512x1024_0_0).toLoadRect (View.loadsAt_vmem h_S512x1024))
      Prog.lift (.store arg8 (Rect.unit (s := S512x1024) ![0, 0] S512x1024.size inb_S512x1024_S512x1024_0_0) (k0_pay3 (F := F)) Finset.univ (View.stores_vmem_bits_univ h_S512x1024 rfl) (.inl rfl))
      pure ⟨⟩
    else do
      pure ⟨⟩
    if k0_h6 : k0_cond6 v12 = 1#1 then do
      let v67 : Vec F S128x3584 .bf16 ← Prog.lift (.load arg5 (Rect.unit (s := S512x3584) ![0, 0] S128x3584.size inb_S512x3584_S128x3584_0_0).toLoadRect (View.loadsAt_vmem h_S128x3584))
      let v68 : Vec F S3584x1024 .bf16 ← Prog.lift (.load arg10 (Rect.unit (s := S3584x1024) ![0, 0] S3584x1024.size inb_S3584x1024_S3584x1024_0_0).toLoadRect (View.loadsAt_vmem h_S3584x1024))
      let v70 : Vec F S128x1 .f32 ← Prog.lift (.load arg7 (Rect.unit (s := S512x1) ![0, 0] S128x1.size inb_S512x1_S128x1_0_0).toLoadRect (View.loadsAt_vmem h_S128x1))
      let v73 : Vec F S128x1024 .f32 ← Prog.lift (.load arg8 (Rect.unit (s := S512x1024) ![0, 0] S128x1024.size inb_S512x1024_S128x1024_0_0).toLoadRect (View.loadsAt_vmem h_S128x1024))
      Prog.lift (.store arg8 (Rect.unit (s := S512x1024) ![0, 0] S128x1024.size inb_S512x1024_S128x1024_0_0) (k0_pay4 v67 v68 v70) Finset.univ (View.stores_vmem_bits_univ h_S128x1024 rfl) (.inl rfl))
      pure ⟨⟩
    else do
      pure ⟨⟩
    if k0_h7 : k0_cond7 v12 = 1#1 then do
      let v68 : Vec F S128x1024 .f32 ← Prog.lift (.load arg8 (Rect.unit (s := S512x1024) ![0, 0] S128x1024.size inb_S512x1024_S128x1024_0_0).toLoadRect (View.loadsAt_vmem h_S128x1024))
      Prog.lift (.store arg8 (Rect.unit (s := S512x1024) ![0, 0] S128x1024.size inb_S512x1024_S128x1024_0_0) (k0_pay5 (F := F)) Finset.univ (View.stores_vmem_bits_univ h_S128x1024 rfl) (.inl rfl))
      pure ⟨⟩
    else do
      pure ⟨⟩
    let v31 : BitVec 1 := Scalar.cmpi .sge v12 8#32
    let v32 : BitVec 32 := Scalar.subi v12 8#32
    let v33 : BitVec 1 := Scalar.cmpi .sgt v32 1#32
    pure (⟨v12, v31, v33⟩ : Σ' (v12 : Elt F .i32) (v31 : BitVec 1), BitVec 1))
  k0_part2_skel i arg2 harg2 arg3 harg3 arg4 harg4 arg5 harg5 arg6 harg6 arg7 harg7 arg8 harg8 arg9 harg9 arg10 harg10 arg11 v12 v31 v33
  pure ⟨⟩

/-- The stores of a tile of the first part leave its value in the block. -/
theorem first_run (c : Dev nD) (K : PUnit → sProp 𝕄) (i : grid0.Coords) (arg2 : Memref sig .tc .smem S40 .i32) (harg2 : arg2.IsWhole) (arg3 : Memref sig .tc .smem S40 .i32) (harg3 : arg3.IsWhole) (arg4 : Memref sig .tc .smem S40 .i32) (harg4 : arg4.IsWhole) (arg5 : Memref sig .tc .vmem S512x3584 .bf16) (harg5 : arg5.IsWhole) (arg6 : Memref sig .tc .hbm S8x14336x4096 .f32) (harg6 : arg6.IsWhole) (arg7 : Memref sig .tc .vmem S512x1 .f32) (harg7 : arg7.IsWhole) (arg8 : Memref sig .tc .vmem S512x1024 .f32) (harg8 : arg8.IsWhole) (arg9 : Memref sig .tc .vmem S3584x1024 .f32) (harg9 : arg9.IsWhole) (arg10 : Memref sig .tc .vmem S3584x1024 .bf16) (harg10 : arg10.IsWhole) (arg11 : DmaSems sig S1)
    (v : BitVec 32) (hv : IsKind v) (H : Vec F S512x3584 .bf16) (D : Vec F S512x1024 .f32) (A : Vec F S3584x1024 .bf16) (S : Vec F S512x1 .f32) :
    iprop(owns (c : Thread nD τ) arg5 fullShare H ∗ owns (c : Thread nD τ) arg7 fullShare S ∗ owns (c : Thread nD τ) arg8 fullShare D ∗ owns (c : Thread nD τ) arg10 fullShare A
        ∗ ((owns (c : Thread nD τ) arg5 fullShare H ∗ owns (c : Thread nD τ) arg7 fullShare S ∗ owns (c : Thread nD τ) arg8 fullShare (first v H A S) ∗ owns (c : Thread nD τ) arg10 fullShare A) -∗ K ⟨⟩))
      ⊢ wp frame (wpE (defs₀ (F := F)) Variants.none c none) Set.univ (tail0 i arg2 harg2 arg3 harg3 arg4 harg4 arg5 harg5 arg6 harg6 arg7 harg7 arg8 harg8 arg9 harg9 arg10 harg10 arg11 v) K := by
  unfold owns tail0 first
  iintro ⟨⟨%f5, %hf5, H5⟩, ⟨%fS, %hfS, HS⟩, ⟨%f8, %hf8, H8⟩, ⟨%fA, %hfA, HA⟩, Hk⟩
  subst hf5
  subst hfA
  subst hfS
  skip
  rcases hv with h | h | h | h | h | h | h <;> subst h
  all_goals
    iterate 8
      try sl_exec (disch := decide)
      try sl_step
  all_goals
    iapply Hk
    isplitl [H5]
    · iexists _; isplitr
      swap; · iexact H5
      ipureintro; rfl
    isplitl [HS]
    · iexists _; isplitr
      swap; · iexact HS
      ipureintro; rfl
    isplitl [H8]
    swap
    · iexists _; isplitr
      swap; · iexact HA
      ipureintro; rfl
    iexists _; isplitr
    swap; · iexact H8
    ipureintro
  · exact View.read_writes_full arg8.view f8 _ _ _
  · rw [View.readAt_full arg5.view, View.readAt_full arg10.view, View.readAt_full arg7.view]
    exact View.read_writes_full arg8.view f8 _ _ _
  all_goals
    try rw [View.readAt_full arg10.view]
    try simp only [readAt_quarterH _ _ 0 (by decide), readAt_quarterH _ _ 128 (by decide), readAt_quarterH _ _ 256 (by decide), readAt_quarterH _ _ 384 (by decide)]
    try simp only [readAt_quarterS _ _ 0 (by decide), readAt_quarterS _ _ 128 (by decide), readAt_quarterS _ _ 256 (by decide), readAt_quarterS _ _ 384 (by decide)]
    funext y
    refine read_quarters arg8 f8 _ _ _ _ _ _ _ _ y _ ?_ ?_ ?_ ?_
  all_goals
    intro x hx0 hx1
    first
    | (refine Eq.trans ?goalE (rowsVal_quarter _ ?goalA ?goalB _ _ 0 (by decide) y x hx0 hx1)
       case goalA => decide
       case goalB => decide
       case goalE =>
         first
         | exact live_quarter _ 0 (by decide) _ x
         | exact dead_quarter _ 0 (by decide) _ x)
    | (refine Eq.trans ?goalE (rowsVal_quarter _ ?goalA ?goalB _ _ 1 (by decide) y x hx0 hx1)
       case goalA => decide
       case goalB => decide
       case goalE =>
         first
         | exact live_quarter _ 1 (by decide) _ x
         | exact dead_quarter _ 1 (by decide) _ x)
    | (refine Eq.trans ?goalE (rowsVal_quarter _ ?goalA ?goalB _ _ 2 (by decide) y x hx0 hx1)
       case goalA => decide
       case goalB => decide
       case goalE =>
         first
         | exact live_quarter _ 2 (by decide) _ x
         | exact dead_quarter _ 2 (by decide) _ x)
    | (refine Eq.trans ?goalE (rowsVal_quarter _ ?goalA ?goalB _ _ 3 (by decide) y x hx0 hx1)
       case goalA => decide
       case goalB => decide
       case goalE =>
         first
         | exact live_quarter _ 3 (by decide) _ x
         | exact dead_quarter _ 3 (by decide) _ x)

end Cert.DownIdeal.Moe
end
end
-- ==== Proof.DownRowsB.lean ====
/- A tile of the later parts of the experts' second product. -/
module

public import proofs.«01_k».proof.Proof.DownRows

@[expose] public section

set_option maxRecDepth 16384
set_option maxHeartbeats 2000000

noncomputable section

namespace Cert.DownIdeal.Moe

open Idealize.ShloMosaic Idealize.ShloMosaic.TcCoe Idealize.ShloMosaic.Tactic Cert.DownIdeal Cert.DownIdeal.Gen
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

set_option cleanup.letToHave false in
/-- The body of region 1's kernel from the point where the tile's kind has been read. -/
noncomputable def tail1 (i : grid1.Coords) (arg2 : Memref sig .tc .smem S40 .i32) (harg2 : arg2.IsWhole) (arg3 : Memref sig .tc .smem S40 .i32) (harg3 : arg3.IsWhole) (arg4 : Memref sig .tc .smem S40 .i32) (harg4 : arg4.IsWhole) (arg5 : Memref sig .tc .vmem S512x3584 .bf16) (harg5 : arg5.IsWhole) (arg6 : Memref sig .tc .hbm S8x14336x4096 .f32) (harg6 : arg6.IsWhole) (arg7 : Memref sig .tc .vmem S512x1024 .f32) (harg7 : arg7.IsWhole) (arg8 : Memref sig .tc .vmem S512x1 .f32) (harg8 : arg8.IsWhole) (arg9 : Memref sig .tc .vmem S512x1024 .f32) (harg9 : arg9.IsWhole) (arg10 : Memref sig .tc .vmem S3584x1024 .f32) (harg10 : arg10.IsWhole) (arg11 : Memref sig .tc .vmem S3584x1024 .bf16) (harg11 : arg11.IsWhole) (arg12 : DmaSems sig S1) (v12 : Elt F .i32) :
    Prog (TpuEff nD τ sig (Elt F) Λ₀ .tc) PUnit := do
  let ⟨v12, v31, v33⟩ : Σ' (v12 : Elt F .i32) (v31 : BitVec 1), BitVec 1 ← (do
    if k1_h4 : k1_cond4 v12 = 1#1 then do
      let v67 : Vec F S512x3584 .bf16 ← Prog.lift (.load arg5 (Rect.unit (s := S512x3584) ![0, 0] S512x3584.size inb_S512x3584_S512x3584_0_0).toLoadRect (View.loadsAt_vmem h_S512x3584))
      let v68 : Vec F S3584x1024 .bf16 ← Prog.lift (.load arg11 (Rect.unit (s := S3584x1024) ![0, 0] S3584x1024.size inb_S3584x1024_S3584x1024_0_0).toLoadRect (View.loadsAt_vmem h_S3584x1024))
      let v70 : Vec F S512x1 .f32 ← Prog.lift (.load arg8 (Rect.unit (s := S512x1) ![0, 0] S512x1.size inb_S512x1_S512x1_0_0).toLoadRect (View.loadsAt_vmem h_S512x1))
      let v73 : Vec F S512x1024 .f32 ← Prog.lift (.load arg7 (Rect.unit (s := S512x1024) ![0, 0] S512x1024.size inb_S512x1024_S512x1024_0_0).toLoadRect (View.loadsAt_vmem h_S512x1024))
      let v76 : Vec F S512x1024 .f32 ← Prog.lift (.load arg9 (Rect.unit (s := S512x1024) ![0, 0] S512x1024.size inb_S512x1024_S512x1024_0_0).toLoadRect (View.loadsAt_vmem h_S512x1024))
      Prog.lift (.store arg9 (Rect.unit (s := S512x1024) ![0, 0] S512x1024.size inb_S512x1024_S512x1024_0_0) (k1_pay2 v67 v68 v70 v73) Finset.univ (View.stores_vmem_bits_univ h_S512x1024 rfl) (.inl rfl))
      pure ⟨⟩
    else do
      pure ⟨⟩
    if k1_h5 : k1_cond5 v12 = 1#1 then do
      let v68 : Vec F S512x1024 .f32 ← Prog.lift (.load arg9 (Rect.unit (s := S512x1024) ![0, 0] S512x1024.size inb_S512x1024_S512x1024_0_0).toLoadRect (View.loadsAt_vmem h_S512x1024))
      Prog.lift (.store arg9 (Rect.unit (s := S512x1024) ![0, 0] S512x1024.size inb_S512x1024_S512x1024_0_0) (k1_pay3 (F := F)) Finset.univ (View.stores_vmem_bits_univ h_S512x1024 rfl) (.inl rfl))
      pure ⟨⟩
    else do
      pure ⟨⟩
    if k1_h6 : k1_cond6 v12 = 1#1 then do
      let v67 : Vec F S128x3584 .bf16 ← Prog.lift (.load arg5 (Rect.unit (s := S512x3584) ![0, 0] S128x3584.size inb_S512x3584_S128x3584_0_0).toLoadRect (View.loadsAt_vmem h_S128x3584))
      let v68 : Vec F S3584x1024 .bf16 ← Prog.lift (.load arg11 (Rect.unit (s := S3584x1024) ![0, 0] S3584x1024.size inb_S3584x1024_S3584x1024_0_0).toLoadRect (View.loadsAt_vmem h_S3584x1024))
      let v70 : Vec F S128x1 .f32 ← Prog.lift (.load arg8 (Rect.unit (s := S512x1) ![0, 0] S128x1.size inb_S512x1_S128x1_0_0).toLoadRect (View.loadsAt_vmem h_S128x1))
      let v73 : Vec F S128x1024 .f32 ← Prog.lift (.load arg7 (Rect.unit (s := S512x1024) ![0, 0] S128x1024.size inb_S512x1024_S128x1024_0_0).toLoadRect (View.loadsAt_vmem h_S128x1024))
      let v76 : Vec F S128x1024 .f32 ← Prog.lift (.load arg9 (Rect.unit (s := S512x1024) ![0, 0] S128x1024.size inb_S512x1024_S128x1024_0_0).toLoadRect (View.loadsAt_vmem h_S128x1024))
      Prog.lift (.store arg9 (Rect.unit (s := S512x1024) ![0, 0] S128x1024.size inb_S512x1024_S128x1024_0_0) (k1_pay4 v67 v68 v70 v73) Finset.univ (View.stores_vmem_bits_univ h_S128x1024 rfl) (.inl rfl))
      pure ⟨⟩
    else do
      pure ⟨⟩
    if k1_h7 : k1_cond7 v12 = 1#1 then do
      let v68 : Vec F S128x1024 .f32 ← Prog.lift (.load arg9 (Rect.unit (s := S512x1024) ![0, 0] S128x1024.size inb_S512x1024_S128x1024_0_0).toLoadRect (View.loadsAt_vmem h_S128x1024))
      Prog.lift (.store arg9 (Rect.unit (s := S512x1024) ![0, 0] S128x1024.size inb_S512x1024_S128x1024_0_0) (k1_pay5 (F := F)) Finset.univ (View.stores_vmem_bits_univ h_S128x1024 rfl) (.inl rfl))
      pure ⟨⟩
    else do
      pure ⟨⟩
    let v31 : BitVec 1 := Scalar.cmpi .sge v12 8#32
    let v32 : BitVec 32 := Scalar.subi v12 8#32
    let v33 : BitVec 1 := Scalar.cmpi .sgt v32 1#32
    pure (⟨v12, v31, v33⟩ : Σ' (v12 : Elt F .i32) (v31 : BitVec 1), BitVec 1))
  k1_part2_skel i arg2 harg2 arg3 harg3 arg4 harg4 arg5 harg5 arg6 harg6 arg7 harg7 arg8 harg8 arg9 harg9 arg10 harg10 arg11 harg11 arg12 v12 v31 v33
  pure ⟨⟩

/-- The stores of a tile of a later part leave its value in the block. -/
theorem later_run (c : Dev nD) (K : PUnit → sProp 𝕄) (i : grid1.Coords) (arg2 : Memref sig .tc .smem S40 .i32) (harg2 : arg2.IsWhole) (arg3 : Memref sig .tc .smem S40 .i32) (harg3 : arg3.IsWhole) (arg4 : Memref sig .tc .smem S40 .i32) (harg4 : arg4.IsWhole) (arg5 : Memref sig .tc .vmem S512x3584 .bf16) (harg5 : arg5.IsWhole) (arg6 : Memref sig .tc .hbm S8x14336x4096 .f32) (harg6 : arg6.IsWhole) (arg7 : Memref sig .tc .vmem S512x1024 .f32) (harg7 : arg7.IsWhole) (arg8 : Memref sig .tc .vmem S512x1 .f32) (harg8 : arg8.IsWhole) (arg9 : Memref sig .tc .vmem S512x1024 .f32) (harg9 : arg9.IsWhole) (arg10 : Memref sig .tc .vmem S3584x1024 .f32) (harg10 : arg10.IsWhole) (arg11 : Memref sig .tc .vmem S3584x1024 .bf16) (harg11 : arg11.IsWhole) (arg12 : DmaSems sig S1)
    (v : BitVec 32) (hv : IsKind v) (H : Vec F S512x3584 .bf16) (D : Vec F S512x1024 .f32) (A : Vec F S3584x1024 .bf16) (S : Vec F S512x1 .f32) (R : Vec F S512x1024 .f32) :
    iprop(owns (c : Thread nD τ) arg5 fullShare H ∗ owns (c : Thread nD τ) arg7 fullShare R ∗ owns (c : Thread nD τ) arg8 fullShare S ∗ owns (c : Thread nD τ) arg9 fullShare D ∗ owns (c : Thread nD τ) arg11 fullShare A
        ∗ ((owns (c : Thread nD τ) arg5 fullShare H ∗ owns (c : Thread nD τ) arg7 fullShare R ∗ owns (c : Thread nD τ) arg8 fullShare S ∗ owns (c : Thread nD τ) arg9 fullShare (later v H A S R) ∗ owns (c : Thread nD τ) arg11 fullShare A) -∗ K ⟨⟩))
      ⊢ wp frame (wpE (defs₀ (F := F)) Variants.none c none) Set.univ (tail1 i arg2 harg2 arg3 harg3 arg4 harg4 arg5 harg5 arg6 harg6 arg7 harg7 arg8 harg8 arg9 harg9 arg10 harg10 arg11 harg11 arg12 v) K := by
  unfold owns tail1 later
  iintro ⟨⟨%f5, %hf5, H5⟩, ⟨%fR, %hfR, HR⟩, ⟨%fS, %hfS, HS⟩, ⟨%f8, %hf8, H8⟩, ⟨%fA, %hfA, HA⟩, Hk⟩
  subst hf5
  subst hfA
  subst hfS
  subst hfR
  rcases hv with h | h | h | h | h | h | h <;> subst h
  all_goals
    iterate 8
      try sl_exec (disch := decide)
      try sl_step
  all_goals
    iapply Hk
    isplitl [H5]
    · iexists _; isplitr
      swap; · iexact H5
      ipureintro; rfl
    isplitl [HR]
    · iexists _; isplitr
      swap; · iexact HR
      ipureintro; rfl
    isplitl [HS]
    · iexists _; isplitr
      swap; · iexact HS
      ipureintro; rfl
    isplitl [H8]
    swap
    · iexists _; isplitr
      swap; · iexact HA
      ipureintro; rfl
    iexists _; isplitr
    swap; · iexact H8
    ipureintro
  · exact View.read_writes_full arg9.view f8 _ _ _
  · rw [View.readAt_full arg5.view, View.readAt_full arg11.view, View.readAt_full arg8.view, View.readAt_full arg7.view]
    exact View.read_writes_full arg9.view f8 _ _ _
  all_goals
    try rw [View.readAt_full arg11.view]
    try simp only [readAt_quarterH _ _ 0 (by decide), readAt_quarterH _ _ 128 (by decide), readAt_quarterH _ _ 256 (by decide), readAt_quarterH _ _ 384 (by decide)]
    try simp only [readAt_quarterS _ _ 0 (by decide), readAt_quarterS _ _ 128 (by decide), readAt_quarterS _ _ 256 (by decide), readAt_quarterS _ _ 384 (by decide)]
    try simp only [readAt_quarterR arg7 _ 0 (by decide), readAt_quarterR arg7 _ 128 (by decide), readAt_quarterR arg7 _ 256 (by decide), readAt_quarterR arg7 _ 384 (by decide)]
    funext y
    refine read_quarters arg9 f8 _ _ _ _ _ _ _ _ y _ ?_ ?_ ?_ ?_
  all_goals
    intro x hx0 hx1
    first
    | (refine Eq.trans ?goalE (rowsVal_quarter _ ?goalA ?goalB _ _ 0 (by decide) y x hx0 hx1)
       case goalA => decide
       case goalB => decide
       case goalE =>
         first
         | exact live_quarter _ 0 (by decide) _ x
         | exact dead_quarter _ 0 (by decide) _ x)
    | (refine Eq.trans ?goalE (rowsVal_quarter _ ?goalA ?goalB _ _ 1 (by decide) y x hx0 hx1)
       case goalA => decide
       case goalB => decide
       case goalE =>
         first
         | exact live_quarter _ 1 (by decide) _ x
         | exact dead_quarter _ 1 (by decide) _ x)
    | (refine Eq.trans ?goalE (rowsVal_quarter _ ?goalA ?goalB _ _ 2 (by decide) y x hx0 hx1)
       case goalA => decide
       case goalB => decide
       case goalE =>
         first
         | exact live_quarter _ 2 (by decide) _ x
         | exact dead_quarter _ 2 (by decide) _ x)
    | (refine Eq.trans ?goalE (rowsVal_quarter _ ?goalA ?goalB _ _ 3 (by decide) y x hx0 hx1)
       case goalA => decide
       case goalB => decide
       case goalE =>
         first
         | exact live_quarter _ 3 (by decide) _ x
         | exact dead_quarter _ 3 (by decide) _ x)

end Cert.DownIdeal.Moe
end
end
-- ==== Proof.DownWords.lean ====
/- The kernel's conditions and offsets at a grid point, as arithmetic on its coordinates and words. -/
module

public import proofs.«01_k».proof.Proof.DownRows
public import Idealize.ShloMosaic.Lib.WordCmp

@[expose] public section

set_option maxRecDepth 16384

noncomputable section

namespace Cert.DownIdeal.Moe

open Idealize.ShloMosaic Idealize.ShloMosaic.TcCoe Idealize.ShloMosaic.Tactic Cert.DownIdeal Cert.DownIdeal.Gen

/-- A truth value widened and compared with zero is itself. -/
theorem nonzero_ext (b : BitVec 1) : Scalar.cmpi .ne (Scalar.extui b) 0#32 = b := by
  revert b; decide

theorem or_one (a b : BitVec 1) : Scalar.ori a b = 1#1 ↔ a = 1#1 ∨ b = 1#1 := by
  revert a b; decide

theorem and_one (a b : BitVec 1) : Scalar.andi a b = 1#1 ↔ a = 1#1 ∧ b = 1#1 := by
  revert a b; decide

theorem ofBool_one (p : Prop) [Decidable p] : BitVec.ofBool (decide p) = 1#1 ↔ p := by
  by_cases h : p <;> simp [h]

theorem eq_one (x y : BitVec 32) : Scalar.cmpi .eq x y = 1#1 ↔ x = y := by
  show IntOp.cmpi .eq x y = 1#1 ↔ _
  rw [WordCmp.cmpi_eq_eq]; exact ofBool_one _

theorem ne_one (x y : BitVec 32) : Scalar.cmpi .ne x y = 1#1 ↔ x ≠ y := by
  show IntOp.cmpi .ne x y = 1#1 ↔ _
  rw [WordCmp.cmpi_ne_eq]; exact ofBool_one _

theorem slt_one (x y : BitVec 32) : Scalar.cmpi .slt x y = 1#1 ↔ x.toInt < y.toInt := by
  show IntOp.cmpi .slt x y = 1#1 ↔ _
  rw [WordCmp.cmpi_slt_eq]; exact ofBool_one _

theorem sge_one (x y : BitVec 32) : Scalar.cmpi .sge x y = 1#1 ↔ y.toInt ≤ x.toInt := by
  show IntOp.cmpi .sge x y = 1#1 ↔ _
  rw [WordCmp.cmpi_sge_eq]; exact ofBool_one _

theorem n_lt (i : grid0.Coords) : (i 0).val < 4 := (i 0).isLt
theorem m_lt (i : grid0.Coords) : (i 1).val < 40 := (i 1).isLt

theorem ofNat_zero_iff (n : ℕ) (h : n < 100000) : BitVec.ofNat 32 n = 0#32 ↔ n = 0 := by
  constructor
  · intro e
    have := congrArg BitVec.toNat e
    rw [BitVec.toNat_ofNat] at this
    have h0 : (0#32).toNat = 0 := rfl
    omega
  · rintro rfl; rfl

theorem cond1_iff (i : grid0.Coords) (a b : BitVec 32) : k0_cond1 i a b = 1#1 ↔ (i 1).val = 0 ∨ b ≠ a := by
  show Scalar.cmpi .ne (Scalar.extui (Scalar.ori (Scalar.cmpi .eq (BitVec.ofNat 32 (i 1).val) 0#32) (Scalar.cmpi .ne b a))) 0#32 = 1#1 ↔ _
  rw [nonzero_ext, or_one, eq_one, ne_one, ofNat_zero_iff _ (by have := m_lt i; omega)]

theorem cond2_iff (i : grid0.Coords) : k0_cond2 i = 1#1 ↔ (i 0).val = 0 ∧ (i 1).val = 0 := by
  show Scalar.cmpi .ne (Scalar.extui (Scalar.andi (Scalar.cmpi .eq (BitVec.ofNat 32 (i 0).val) 0#32) (Scalar.cmpi .eq (BitVec.ofNat 32 (i 1).val) 0#32))) 0#32 = 1#1 ↔ _
  rw [nonzero_ext, and_one, eq_one, eq_one, ofNat_zero_iff _ (by have := n_lt i; omega), ofNat_zero_iff _ (by have := m_lt i; omega)]

theorem cond3_iff (i : grid0.Coords) (a : BitVec 32) : k0_cond3 i a = 1#1 ↔ 0 ≤ a.toInt ∨ (i 0).val + 1 < 4 := by
  show Scalar.cmpi .ne (Scalar.extui (Scalar.ori (Scalar.cmpi .sge a 0#32) (Scalar.cmpi .slt (Scalar.addi (BitVec.ofNat 32 (i 0).val) 1#32) 4#32))) 0#32 = 1#1 ↔ _
  rw [nonzero_ext, or_one, sge_one, slt_one]
  have hn := n_lt i
  have e : (Scalar.addi (BitVec.ofNat 32 (i 0).val) 1#32).toInt = (i 0).val + 1 :=
    (by decide : ∀ n : Fin 4, (Scalar.addi (BitVec.ofNat 32 n.val) 1#32).toInt = (n.val : Int) + 1) ⟨(i 0).val, hn⟩
  rw [e]
  have e2 : (4#32 : BitVec 32).toInt = 4 := rfl
  have e3 : (0#32 : BitVec 32).toInt = 0 := rfl
  rw [e2, e3]
  omega

theorem off1_eq (i : grid0.Coords) : k0_off1 i 0 = (i 1).val - 1 := by
  show (Scalar.indexCast (Scalar.maxsi (Scalar.subi (BitVec.ofNat 32 (i 1).val) 1#32) 0#32)).toNat = _
  exact (by decide : ∀ n : Fin 40, (Scalar.indexCast (Scalar.maxsi (Scalar.subi (BitVec.ofNat 32 n.val) 1#32) 0#32)).toNat = n.val - 1) ⟨(i 1).val, m_lt i⟩

theorem off2_eq (i : grid0.Coords) : k0_off2 i 0 = (i 1).val := by
  show (Scalar.indexCast (BitVec.ofNat 32 (i 1).val)).toNat = _
  exact (by decide : ∀ n : Fin 40, (Scalar.indexCast (BitVec.ofNat 32 n.val)).toNat = n.val) ⟨(i 1).val, m_lt i⟩

theorem off3_eq (i : grid0.Coords) : k0_off3 i 0 = (i 1).val := off2_eq i
theorem off6_eq (i : grid0.Coords) : k0_off6 i 0 = (i 1).val := off2_eq i
theorem off8_eq (i : grid0.Coords) : k0_off8 i 0 = (i 1).val := off2_eq i

/-- Where the block of rows `klo` of an expert's weight begins at a grid point. -/
def off (klo : ℕ) (i : grid0.Coords) (v : BitVec 32) : Fin 3 → ℕ :=
  ![v.toNat, klo, (Scalar.muli (BitVec.ofNat 32 (i 0).val) 1024#32).toNat]

/-- Where the next block of those rows begins. -/
def offN (klo : ℕ) (i : grid0.Coords) (a b : BitVec 32) : Fin 3 → ℕ :=
  ![(Scalar.select (Scalar.cmpi .sge a 0#32) a b).toNat, klo,
    (Scalar.muli (Scalar.select (Scalar.cmpi .sge a 0#32) (BitVec.ofNat 32 (i 0).val) (Scalar.addi (BitVec.ofNat 32 (i 0).val) 1#32)) 1024#32).toNat]

/-- What the body assumes of an expert it reads: its block lies in the weight. -/
def chk1 (klo : ℕ) (i : grid0.Coords) (a b v : BitVec 32) : Prop :=
  (∀ _ : k0_cond1 i a b = 1#1, ∀ _ : k0_cond2 i = 1#1, ∀ x, off klo i v x + S1x3584x1024.size x ≤ S8x14336x4096.size x) ∧
  (∀ _ : k0_cond1 i a b = 1#1, ∀ x, off klo i v x + S1x3584x1024.size x ≤ S8x14336x4096.size x)

/-- What it assumes of the next experts: their block lies in the weight. -/
def chk3 (klo : ℕ) (i : grid0.Coords) (a b v u : BitVec 32) : Prop :=
  ∀ _ : k0_cond1 i a b = 1#1, ∀ _ : k0_cond3 i v = 1#1, ∀ x, offN klo i v u x + S1x3584x1024.size x ≤ S8x14336x4096.size x

theorem col_eq (n : ℕ) (h : n < 4) : (Scalar.muli (BitVec.ofNat 32 n) 1024#32).toNat = 1024 * n :=
  (by decide : ∀ n : Fin 4, (Scalar.muli (BitVec.ofNat 32 n.val) 1024#32).toNat = 1024 * n.val) ⟨n, h⟩

theorem col_next (n : ℕ) (h : n < 4) : (Scalar.muli (Scalar.addi (BitVec.ofNat 32 n) 1#32) 1024#32).toNat = 1024 * (n + 1) :=
  (by decide : ∀ n : Fin 4, (Scalar.muli (Scalar.addi (BitVec.ofNat 32 n.val) 1#32) 1024#32).toNat = 1024 * (n.val + 1)) ⟨n, h⟩

theorem off_eq (klo : ℕ) (i : grid0.Coords) (v : BitVec 32) : off klo i v = ![v.toNat, klo, 1024 * (i 0).val] := by
  unfold off
  rw [col_eq _ (n_lt i)]

theorem offN_eq (klo : ℕ) (i : grid0.Coords) (a b : BitVec 32) :
    offN klo i a b = if 0 ≤ a.toInt then ![a.toNat, klo, 1024 * (i 0).val] else ![b.toNat, klo, 1024 * ((i 0).val + 1)] := by
  unfold offN
  by_cases h : 0 ≤ a.toInt
  · rw [if_pos h, (sge_one a 0#32).2 h]
    show ![a.toNat, klo, (Scalar.muli (BitVec.ofNat 32 (i 0).val) 1024#32).toNat] = _
    rw [col_eq _ (n_lt i)]
  · have hc : Scalar.cmpi .sge a 0#32 = 0#1 := by
      have := mt (sge_one a 0#32).1 h
      revert this
      generalize Scalar.cmpi .sge a 0#32 = b
      revert b; decide
    rw [if_neg h, hc]
    show ![b.toNat, klo, (Scalar.muli (Scalar.addi (BitVec.ofNat 32 (i 0).val) 1#32) 1024#32).toNat] = _
    rw [col_next _ (n_lt i)]

/-- At the first grid point there is a next block. -/
theorem cond3_of_cond2 (i : grid0.Coords) (v : BitVec 32) (h : k0_cond2 i = 1#1) : k0_cond3 i v = 1#1 := by
  rw [cond2_iff] at h
  rw [cond3_iff]
  omega

/-- A block's bounds. -/
theorem blk_inb (klo : ℕ) (hk : klo ≤ 10752) (e o : ℕ) (he : e < 8) (ho : o ≤ 3072) : ∀ a : Fin 3, (![e, klo, o] : Fin 3 → ℕ) a + S1x3584x1024.size a ≤ S8x14336x4096.size a
  | ⟨0, _⟩ => by show e + 1 ≤ 8; omega
  | ⟨1, _⟩ => by show klo + 3584 ≤ 14336; omega
  | ⟨2, _⟩ => by show o + 1024 ≤ 4096; omega

theorem chk1_of (klo : ℕ) (hk : klo ≤ 10752) (i : grid0.Coords) (a b v : BitVec 32) (hv : v.toNat < 8) : chk1 klo i a b v := by
  have hn := n_lt i
  exact ⟨fun _ _ => by rw [off_eq]; exact blk_inb klo hk _ _ hv (by omega), fun _ => by rw [off_eq]; exact blk_inb klo hk _ _ hv (by omega)⟩

/-- The column the next block begins at is a multiple of a block's width. -/
theorem chk2_of (i : grid0.Coords) (a b v : BitVec 32) : k0_chk2 i a b v := by
  intro _ _
  have hn := n_lt i
  show 1024 ∣ (Scalar.muli (Scalar.select (Scalar.cmpi .sge v 0#32) (BitVec.ofNat 32 (i 0).val) (Scalar.addi (BitVec.ofNat 32 (i 0).val) 1#32)) 1024#32).toNat
  have hb : ∀ b : BitVec 1, b = 1#1 ∨ b = 0#1 := by decide
  rcases hb (Scalar.cmpi .sge v 0#32) with h | h
  · rw [h]
    exact ⟨_, col_eq _ hn⟩
  · rw [h]
    exact ⟨_, col_next _ hn⟩

theorem chk3_of (klo : ℕ) (hk : klo ≤ 10752) (i : grid0.Coords) (a b v u : BitVec 32) (hv : 0 ≤ v.toInt → v.toNat < 8) (hu : u.toNat < 8) : chk3 klo i a b v u := by
  have hn := n_lt i
  intro _ h3
  rw [cond3_iff] at h3
  rw [offN_eq]
  split
  · rename_i h; exact blk_inb klo hk _ _ (hv h) (by omega)
  · rename_i h; exact blk_inb klo hk _ _ hu (by omega)

end Cert.DownIdeal.Moe
end
end
-- ==== Proof.DownBody.lean ====
/- A grid point of the second product's kernel: the words it reads, the blocks it copies, and its run in each case. -/
module

public import proofs.«01_k».proof.Proof.DownRowsB
public import proofs.«01_k».proof.Proof.DownWords
public import Idealize.ShloMosaic.Lib.ValueLayout

@[expose] public section

set_option maxRecDepth 16384
set_option maxHeartbeats 4000000

noncomputable section

namespace Cert.DownIdeal.Moe

open Idealize.ShloMosaic Idealize.ShloMosaic.ValueIdx Idealize.ShloMosaic.TcCoe Idealize.ShloMosaic.Tactic Cert.DownIdeal Cert.DownIdeal.Gen
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

abbrev MW : Memref sig .tc .hbm S8x14336x4096 .f32 := Memref.whole main_arg1
abbrev MTe : Memref sig .tc .smem S40 .i32 := Memref.whole main_arg2
abbrev MM : Memref sig .tc .smem S40 .i32 := Memref.whole main_arg3
abbrev MX : Memref sig .tc .smem S40 .i32 := Memref.whole main_v10

/-- The first part of the body, then `k`: bring in the expert's block of rows from `klo` on, start the next one, and read the tile's kind. -/
noncomputable def weightsThen {X : Type} (klo : ℕ) (i : grid0.Coords) (d1 : ∀ a b v, Decidable (chk1 klo i a b v)) (d2 : ∀ a b v, Decidable (k0_chk2 i a b v)) (d3 : ∀ a b v u, Decidable (chk3 klo i a b v u)) (MF : Memref sig .tc .vmem S3584x1024 .f32) (hMF : MF.IsWhole) (MB : Memref sig .tc .vmem S3584x1024 .bf16) (hMB : MB.IsWhole) (sm : DmaSems sig S1) (k : Elt F .i32 → Prog (TpuEff nD τ sig (Elt F) Λ₀ .tc) X) :
    Prog (TpuEff nD τ sig (Elt F) Λ₀ .tc) X := do
  let v3 : Elt F .i32 ← smemLoad MTe (Rect.unit (s := S40) (k0_off1 i) S1.size (k0_off1_inb i)) numel1_S1 rfl
  let v6 : Elt F .i32 ← smemLoad MTe (Rect.unit (s := S40) (k0_off2 i) S1.size (k0_off2_inb i)) numel1_S1 rfl
  if k0_h1 : k0_cond1 i v3 v6 = 1#1 then do
    let v68 : Elt F .i32 ← smemLoad MTe (Rect.unit (s := S40) (k0_off3 i) S1.size (k0_off3_inb i)) numel1_S1 rfl
    have k0_hw1 : chk1 klo i v3 v6 v68 := (← Prog.lift (TpuEff.assume (chk1 klo i v3 v6 v68) (d1 v3 v6 v68))).down
    if k0_h2 : k0_cond2 i = 1#1 then do
      let v99 : DmaSems sig S1 := sm.slice (Rect.unit (s := S1) ![0] S1.size inb_S1_S1_0)
      let v100 : DmaSems sig S_ := v99.squeeze S_ squeezes_S1_S_
      let v101 : Memref sig .tc .hbm S1x3584x1024 .f32 := MW.slice (Rect.unit (s := S8x14336x4096) (off klo i v68) S1x3584x1024.size (k0_hw1.1 k0_h1 k0_h2)) (fun _ => rfl)
      let v102 : Memref sig .tc .hbm S3584x1024 .f32 := v101.squeeze S3584x1024 squeezes_S1x3584x1024_S3584x1024
      Prog.lift (.enqueueDma v102 (.here MF) (.dma v100.sem) ((View.wordExact_bits rfl).reshape _ _) hMF.wordExact ⟨Or.inl rfl, trivial⟩)
      pure ⟨⟩
    else do
      pure ⟨⟩
    let v76 : DmaSems sig S1 := sm.slice (Rect.unit (s := S1) ![0] S1.size inb_S1_S1_0)
    let v77 : DmaSems sig S_ := v76.squeeze S_ squeezes_S1_S_
    let v78 : Memref sig .tc .hbm S1x3584x1024 .f32 := MW.slice (Rect.unit (s := S8x14336x4096) (off klo i v68) S1x3584x1024.size (k0_hw1.2 k0_h1)) (fun _ => rfl)
    let v79 : Memref sig .tc .hbm S3584x1024 .f32 := v78.squeeze S3584x1024 squeezes_S1x3584x1024_S3584x1024
    Prog.lift (.waitDma2 v77.sem v79 MF ((View.wordExact_bits rfl).reshape _ _) hMF.wordExact)
    let v80 : Vec F S3584x1024 .f32 ← Prog.lift (.load MF (Rect.unit (s := S3584x1024) ![0, 0] S3584x1024.size inb_S3584x1024_S3584x1024_0_0).toLoadRect (View.loadsAt_vmem h_S3584x1024))
    let v82 : Vec F S3584x1024 .bf16 ← Prog.lift (.load MB (Rect.unit (s := S3584x1024) ![0, 0] S3584x1024.size inb_S3584x1024_S3584x1024_0_0).toLoadRect (View.loadsAt_vmem h_S3584x1024))
    Prog.lift (.store MB (Rect.unit (s := S3584x1024) ![0, 0] S3584x1024.size inb_S3584x1024_S3584x1024_0_0) (k0_pay1 v80) Finset.univ (View.stores_vmem h_S3584x1024 (hMB.storeExact_slice rfl _ packedbf16_S3584x1024_S3584x1024_0_0) (fun _ => rfl)) (.inl rfl))
    let v86 : Elt F .i32 ← smemLoad MX (Rect.unit (s := S40) (k0_off6 i) S1.size (k0_off6_inb i)) numel1_S1 rfl
    have k0_hw2 : k0_chk2 i v3 v6 v86 := (← Prog.lift (TpuEff.assume (k0_chk2 i v3 v6 v86) (d2 v3 v6 v86))).down
    let v88 : Elt F .i32 ← smemLoad MTe (Rect.unit (s := S40) ![0] S1.size inb_S40_S1_0) numel1_S1 rfl
    have k0_hw3 : chk3 klo i v3 v6 v86 v88 := (← Prog.lift (TpuEff.assume (chk3 klo i v3 v6 v86 v88) (d3 v3 v6 v86 v88))).down
    if k0_h3 : k0_cond3 i v86 = 1#1 then do
      let v99 : DmaSems sig S1 := sm.slice (Rect.unit (s := S1) ![0] S1.size inb_S1_S1_0)
      let v100 : DmaSems sig S_ := v99.squeeze S_ squeezes_S1_S_
      let v101 : Memref sig .tc .hbm S1x3584x1024 .f32 := MW.slice (Rect.unit (s := S8x14336x4096) (offN klo i v86 v88) S1x3584x1024.size (k0_hw3 k0_h1 k0_h3)) (fun _ => rfl)
      let v102 : Memref sig .tc .hbm S3584x1024 .f32 := v101.squeeze S3584x1024 squeezes_S1x3584x1024_S3584x1024
      Prog.lift (.enqueueDma v102 (.here MF) (.dma v100.sem) ((View.wordExact_bits rfl).reshape _ _) hMF.wordExact ⟨Or.inl rfl, trivial⟩)
      pure ⟨⟩
    else do
      pure ⟨⟩
    pure ⟨⟩
  else do
    pure ⟨⟩
  let v12 : Elt F .i32 ← smemLoad MM (Rect.unit (s := S40) (k0_off8 i) S1.size (k0_off8_inb i)) numel1_S1 rfl
  k v12

/-- What follows the first part may be put inside it. -/
theorem weightsThen_bind {X Y : Type} (klo : ℕ) (i : grid0.Coords) (d1 : ∀ a b v, Decidable (chk1 klo i a b v)) (d2 : ∀ a b v, Decidable (k0_chk2 i a b v)) (d3 : ∀ a b v u, Decidable (chk3 klo i a b v u)) (MF : Memref sig .tc .vmem S3584x1024 .f32) (hMF : MF.IsWhole) (MB : Memref sig .tc .vmem S3584x1024 .bf16) (hMB : MB.IsWhole) (sm : DmaSems sig S1) (k : Elt F .i32 → Prog (TpuEff nD τ sig (Elt F) Λ₀ .tc) X) (T : X → Prog (TpuEff nD τ sig (Elt F) Λ₀ .tc) Y) :
    weightsThen (F := F) klo i d1 d2 d3 MF hMF MB hMB sm k >>= T = weightsThen klo i d1 d2 d3 MF hMF MB hMB sm (fun v => k v >>= T) := by
  have hd : ∀ {c : Prop} [Decidable c] {A : Type} (p : c → Prog (TpuEff nD τ sig (Elt F) Λ₀ .tc) A) (q : ¬ c → Prog (TpuEff nD τ sig (Elt F) Λ₀ .tc) A)
      (T : A → Prog (TpuEff nD τ sig (Elt F) Λ₀ .tc) Y), (dite c p q >>= T) = dite c (fun h => p h >>= T) (fun h => q h >>= T) := by
    intro c _ A p q T
    split <;> rfl
  unfold weightsThen
  simp only [Prog.bind_assoc, hd]

set_option cleanup.letToHave false in
/-- Region 0's body is its two parts, one after the other. -/
theorem body0_eq (i : grid0.Coords) (arg5 : Memref sig .tc .vmem S512x3584 .bf16) (harg5 : arg5.IsWhole) (arg7 : Memref sig .tc .vmem S512x1 .f32) (harg7 : arg7.IsWhole) (arg8 : Memref sig .tc .vmem S512x1024 .f32) (harg8 : arg8.IsWhole) (arg9 : Memref sig .tc .vmem S3584x1024 .f32) (harg9 : arg9.IsWhole) (arg10 : Memref sig .tc .vmem S3584x1024 .bf16) (harg10 : arg10.IsWhole) (arg11 : DmaSems sig S1) :
    cc0_matmul_residual_skel (F := F) i MTe (Memref.isWhole_whole _) MM (Memref.isWhole_whole _) MX (Memref.isWhole_whole _) arg5 harg5 MW (Memref.isWhole_whole _) arg7 harg7 arg8 harg8 arg9 harg9 arg10 harg10 arg11 = weightsThen 0 i (k0_chk1.dec i) (k0_chk2.dec i) (k0_chk3.dec i) arg9 harg9 arg10 harg10 arg11 (tail0 i MTe (Memref.isWhole_whole _) MM (Memref.isWhole_whole _) MX (Memref.isWhole_whole _) arg5 harg5 MW (Memref.isWhole_whole _) arg7 harg7 arg8 harg8 arg9 harg9 arg10 harg10 arg11) := by
  unfold cc0_matmul_residual_skel
  simp only [k0_part1_eq_skeleton, k0_part2_eq_skeleton]
  have e : k0_part1_skel (F := F) i MTe (Memref.isWhole_whole _) MM (Memref.isWhole_whole _) MX (Memref.isWhole_whole _) arg5 harg5 MW (Memref.isWhole_whole _) arg7 harg7 arg8 harg8 arg9 harg9 arg10 harg10 arg11 = weightsThen 0 i (k0_chk1.dec i) (k0_chk2.dec i) (k0_chk3.dec i) arg9 harg9 arg10 harg10 arg11 (fun v12 => do
    if k0_h4 : k0_cond4 v12 = 1#1 then do
      let v67 : Vec F S512x3584 .bf16 ← Prog.lift (.load arg5 (Rect.unit (s := S512x3584) ![0, 0] S512x3584.size inb_S512x3584_S512x3584_0_0).toLoadRect (View.loadsAt_vmem h_S512x3584))
      let v68 : Vec F S3584x1024 .bf16 ← Prog.lift (.load arg10 (Rect.unit (s := S3584x1024) ![0, 0] S3584x1024.size inb_S3584x1024_S3584x1024_0_0).toLoadRect (View.loadsAt_vmem h_S3584x1024))
      let v70 : Vec F S512x1 .f32 ← Prog.lift (.load arg7 (Rect.unit (s := S512x1) ![0, 0] S512x1.size inb_S512x1_S512x1_0_0).toLoadRect (View.loadsAt_vmem h_S512x1))
      let v73 : Vec F S512x1024 .f32 ← Prog.lift (.load arg8 (Rect.unit (s := S512x1024) ![0, 0] S512x1024.size inb_S512x1024_S512x1024_0_0).toLoadRect (View.loadsAt_vmem h_S512x1024))
      Prog.lift (.store arg8 (Rect.unit (s := S512x1024) ![0, 0] S512x1024.size inb_S512x1024_S512x1024_0_0) (k0_pay2 v67 v68 v70) Finset.univ (View.stores_vmem_bits_univ h_S512x1024 rfl) (.inl rfl))
      pure ⟨⟩
    else do
      pure ⟨⟩
    if k0_h5 : k0_cond5 v12 = 1#1 then do
      let v68 : Vec F S512x1024 .f32 ← Prog.lift (.load arg8 (Rect.unit (s := S512x1024) ![0, 0] S512x1024.size inb_S512x1024_S512x1024_0_0).toLoadRect (View.loadsAt_vmem h_S512x1024))
      Prog.lift (.store arg8 (Rect.unit (s := S512x1024) ![0, 0] S512x1024.size inb_S512x1024_S512x1024_0_0) (k0_pay3 (F := F)) Finset.univ (View.stores_vmem_bits_univ h_S512x1024 rfl) (.inl rfl))
      pure ⟨⟩
    else do
      pure ⟨⟩
    if k0_h6 : k0_cond6 v12 = 1#1 then do
      let v67 : Vec F S128x3584 .bf16 ← Prog.lift (.load arg5 (Rect.unit (s := S512x3584) ![0, 0] S128x3584.size inb_S512x3584_S128x3584_0_0).toLoadRect (View.loadsAt_vmem h_S128x3584))
      let v68 : Vec F S3584x1024 .bf16 ← Prog.lift (.load arg10 (Rect.unit (s := S3584x1024) ![0, 0] S3584x1024.size inb_S3584x1024_S3584x1024_0_0).toLoadRect (View.loadsAt_vmem h_S3584x1024))
      let v70 : Vec F S128x1 .f32 ← Prog.lift (.load arg7 (Rect.unit (s := S512x1) ![0, 0] S128x1.size inb_S512x1_S128x1_0_0).toLoadRect (View.loadsAt_vmem h_S128x1))
      let v73 : Vec F S128x1024 .f32 ← Prog.lift (.load arg8 (Rect.unit (s := S512x1024) ![0, 0] S128x1024.size inb_S512x1024_S128x1024_0_0).toLoadRect (View.loadsAt_vmem h_S128x1024))
      Prog.lift (.store arg8 (Rect.unit (s := S512x1024) ![0, 0] S128x1024.size inb_S512x1024_S128x1024_0_0) (k0_pay4 v67 v68 v70) Finset.univ (View.stores_vmem_bits_univ h_S128x1024 rfl) (.inl rfl))
      pure ⟨⟩
    else do
      pure ⟨⟩
    if k0_h7 : k0_cond7 v12 = 1#1 then do
      let v68 : Vec F S128x1024 .f32 ← Prog.lift (.load arg8 (Rect.unit (s := S512x1024) ![0, 0] S128x1024.size inb_S512x1024_S128x1024_0_0).toLoadRect (View.loadsAt_vmem h_S128x1024))
      Prog.lift (.store arg8 (Rect.unit (s := S512x1024) ![0, 0] S128x1024.size inb_S512x1024_S128x1024_0_0) (k0_pay5 (F := F)) Finset.univ (View.stores_vmem_bits_univ h_S128x1024 rfl) (.inl rfl))
      pure ⟨⟩
    else do
      pure ⟨⟩
    let v31 : BitVec 1 := Scalar.cmpi .sge v12 8#32
    let v32 : BitVec 32 := Scalar.subi v12 8#32
    let v33 : BitVec 1 := Scalar.cmpi .sgt v32 1#32
    pure (⟨v12, v31, v33⟩ : Σ' (v12 : Elt F .i32) (v31 : BitVec 1), BitVec 1)) := by
    unfold k0_part1_skel weightsThen
    rfl
  rw [e]
  exact (weightsThen_bind (F := F) 0 i (k0_chk1.dec i) (k0_chk2.dec i) (k0_chk3.dec i) arg9 harg9 arg10 harg10 arg11 _ _).trans rfl

set_option cleanup.letToHave false in
/-- Region 1's body is its two parts, one after the other. -/
theorem body1_eq (i : grid1.Coords) (arg5 : Memref sig .tc .vmem S512x3584 .bf16) (harg5 : arg5.IsWhole) (arg7 : Memref sig .tc .vmem S512x1024 .f32) (harg7 : arg7.IsWhole) (arg8 : Memref sig .tc .vmem S512x1 .f32) (harg8 : arg8.IsWhole) (arg9 : Memref sig .tc .vmem S512x1024 .f32) (harg9 : arg9.IsWhole) (arg10 : Memref sig .tc .vmem S3584x1024 .f32) (harg10 : arg10.IsWhole) (arg11 : Memref sig .tc .vmem S3584x1024 .bf16) (harg11 : arg11.IsWhole) (arg12 : DmaSems sig S1) :
    cc1_matmul_residual_skel (F := F) i MTe (Memref.isWhole_whole _) MM (Memref.isWhole_whole _) MX (Memref.isWhole_whole _) arg5 harg5 MW (Memref.isWhole_whole _) arg7 harg7 arg8 harg8 arg9 harg9 arg10 harg10 arg11 harg11 arg12 = weightsThen 3584 i (k1_chk1.dec i) (k1_chk2.dec i) (k1_chk3.dec i) arg10 harg10 arg11 harg11 arg12 (tail1 i MTe (Memref.isWhole_whole _) MM (Memref.isWhole_whole _) MX (Memref.isWhole_whole _) arg5 harg5 MW (Memref.isWhole_whole _) arg7 harg7 arg8 harg8 arg9 harg9 arg10 harg10 arg11 harg11 arg12) := by
  unfold cc1_matmul_residual_skel
  simp only [k1_part1_eq_skeleton, k1_part2_eq_skeleton]
  have e : k1_part1_skel (F := F) i MTe (Memref.isWhole_whole _) MM (Memref.isWhole_whole _) MX (Memref.isWhole_whole _) arg5 harg5 MW (Memref.isWhole_whole _) arg7 harg7 arg8 harg8 arg9 harg9 arg10 harg10 arg11 harg11 arg12 = weightsThen 3584 i (k1_chk1.dec i) (k1_chk2.dec i) (k1_chk3.dec i) arg10 harg10 arg11 harg11 arg12 (fun v12 => do
    if k1_h4 : k1_cond4 v12 = 1#1 then do
      let v67 : Vec F S512x3584 .bf16 ← Prog.lift (.load arg5 (Rect.unit (s := S512x3584) ![0, 0] S512x3584.size inb_S512x3584_S512x3584_0_0).toLoadRect (View.loadsAt_vmem h_S512x3584))
      let v68 : Vec F S3584x1024 .bf16 ← Prog.lift (.load arg11 (Rect.unit (s := S3584x1024) ![0, 0] S3584x1024.size inb_S3584x1024_S3584x1024_0_0).toLoadRect (View.loadsAt_vmem h_S3584x1024))
      let v70 : Vec F S512x1 .f32 ← Prog.lift (.load arg8 (Rect.unit (s := S512x1) ![0, 0] S512x1.size inb_S512x1_S512x1_0_0).toLoadRect (View.loadsAt_vmem h_S512x1))
      let v73 : Vec F S512x1024 .f32 ← Prog.lift (.load arg7 (Rect.unit (s := S512x1024) ![0, 0] S512x1024.size inb_S512x1024_S512x1024_0_0).toLoadRect (View.loadsAt_vmem h_S512x1024))
      let v76 : Vec F S512x1024 .f32 ← Prog.lift (.load arg9 (Rect.unit (s := S512x1024) ![0, 0] S512x1024.size inb_S512x1024_S512x1024_0_0).toLoadRect (View.loadsAt_vmem h_S512x1024))
      Prog.lift (.store arg9 (Rect.unit (s := S512x1024) ![0, 0] S512x1024.size inb_S512x1024_S512x1024_0_0) (k1_pay2 v67 v68 v70 v73) Finset.univ (View.stores_vmem_bits_univ h_S512x1024 rfl) (.inl rfl))
      pure ⟨⟩
    else do
      pure ⟨⟩
    if k1_h5 : k1_cond5 v12 = 1#1 then do
      let v68 : Vec F S512x1024 .f32 ← Prog.lift (.load arg9 (Rect.unit (s := S512x1024) ![0, 0] S512x1024.size inb_S512x1024_S512x1024_0_0).toLoadRect (View.loadsAt_vmem h_S512x1024))
      Prog.lift (.store arg9 (Rect.unit (s := S512x1024) ![0, 0] S512x1024.size inb_S512x1024_S512x1024_0_0) (k1_pay3 (F := F)) Finset.univ (View.stores_vmem_bits_univ h_S512x1024 rfl) (.inl rfl))
      pure ⟨⟩
    else do
      pure ⟨⟩
    if k1_h6 : k1_cond6 v12 = 1#1 then do
      let v67 : Vec F S128x3584 .bf16 ← Prog.lift (.load arg5 (Rect.unit (s := S512x3584) ![0, 0] S128x3584.size inb_S512x3584_S128x3584_0_0).toLoadRect (View.loadsAt_vmem h_S128x3584))
      let v68 : Vec F S3584x1024 .bf16 ← Prog.lift (.load arg11 (Rect.unit (s := S3584x1024) ![0, 0] S3584x1024.size inb_S3584x1024_S3584x1024_0_0).toLoadRect (View.loadsAt_vmem h_S3584x1024))
      let v70 : Vec F S128x1 .f32 ← Prog.lift (.load arg8 (Rect.unit (s := S512x1) ![0, 0] S128x1.size inb_S512x1_S128x1_0_0).toLoadRect (View.loadsAt_vmem h_S128x1))
      let v73 : Vec F S128x1024 .f32 ← Prog.lift (.load arg7 (Rect.unit (s := S512x1024) ![0, 0] S128x1024.size inb_S512x1024_S128x1024_0_0).toLoadRect (View.loadsAt_vmem h_S128x1024))
      let v76 : Vec F S128x1024 .f32 ← Prog.lift (.load arg9 (Rect.unit (s := S512x1024) ![0, 0] S128x1024.size inb_S512x1024_S128x1024_0_0).toLoadRect (View.loadsAt_vmem h_S128x1024))
      Prog.lift (.store arg9 (Rect.unit (s := S512x1024) ![0, 0] S128x1024.size inb_S512x1024_S128x1024_0_0) (k1_pay4 v67 v68 v70 v73) Finset.univ (View.stores_vmem_bits_univ h_S128x1024 rfl) (.inl rfl))
      pure ⟨⟩
    else do
      pure ⟨⟩
    if k1_h7 : k1_cond7 v12 = 1#1 then do
      let v68 : Vec F S128x1024 .f32 ← Prog.lift (.load arg9 (Rect.unit (s := S512x1024) ![0, 0] S128x1024.size inb_S512x1024_S128x1024_0_0).toLoadRect (View.loadsAt_vmem h_S128x1024))
      Prog.lift (.store arg9 (Rect.unit (s := S512x1024) ![0, 0] S128x1024.size inb_S512x1024_S128x1024_0_0) (k1_pay5 (F := F)) Finset.univ (View.stores_vmem_bits_univ h_S128x1024 rfl) (.inl rfl))
      pure ⟨⟩
    else do
      pure ⟨⟩
    let v31 : BitVec 1 := Scalar.cmpi .sge v12 8#32
    let v32 : BitVec 32 := Scalar.subi v12 8#32
    let v33 : BitVec 1 := Scalar.cmpi .sgt v32 1#32
    pure (⟨v12, v31, v33⟩ : Σ' (v12 : Elt F .i32) (v31 : BitVec 1), BitVec 1)) := by
    unfold k1_part1_skel weightsThen
    rfl
  rw [e]
  exact (weightsThen_bind (F := F) 3584 i (k1_chk1.dec i) (k1_chk2.dec i) (k1_chk3.dec i) arg10 harg10 arg11 harg11 arg12 _ _).trans rfl

set_option cleanup.letToHave false in
/-- Region 2's body is its two parts, one after the other. -/
theorem body2_eq (i : grid2.Coords) (arg5 : Memref sig .tc .vmem S512x3584 .bf16) (harg5 : arg5.IsWhole) (arg7 : Memref sig .tc .vmem S512x1024 .f32) (harg7 : arg7.IsWhole) (arg8 : Memref sig .tc .vmem S512x1 .f32) (harg8 : arg8.IsWhole) (arg9 : Memref sig .tc .vmem S512x1024 .f32) (harg9 : arg9.IsWhole) (arg10 : Memref sig .tc .vmem S3584x1024 .f32) (harg10 : arg10.IsWhole) (arg11 : Memref sig .tc .vmem S3584x1024 .bf16) (harg11 : arg11.IsWhole) (arg12 : DmaSems sig S1) :
    cc2_matmul_residual_skel (F := F) i MTe (Memref.isWhole_whole _) MM (Memref.isWhole_whole _) MX (Memref.isWhole_whole _) arg5 harg5 MW (Memref.isWhole_whole _) arg7 harg7 arg8 harg8 arg9 harg9 arg10 harg10 arg11 harg11 arg12 = weightsThen 7168 i (k2_chk1.dec i) (k2_chk2.dec i) (k2_chk3.dec i) arg10 harg10 arg11 harg11 arg12 (tail1 i MTe (Memref.isWhole_whole _) MM (Memref.isWhole_whole _) MX (Memref.isWhole_whole _) arg5 harg5 MW (Memref.isWhole_whole _) arg7 harg7 arg8 harg8 arg9 harg9 arg10 harg10 arg11 harg11 arg12) := by
  unfold cc2_matmul_residual_skel
  simp only [k2_part1_eq_skeleton, k2_part2_eq_skeleton]
  have e : k2_part1_skel (F := F) i MTe (Memref.isWhole_whole _) MM (Memref.isWhole_whole _) MX (Memref.isWhole_whole _) arg5 harg5 MW (Memref.isWhole_whole _) arg7 harg7 arg8 harg8 arg9 harg9 arg10 harg10 arg11 harg11 arg12 = weightsThen 7168 i (k2_chk1.dec i) (k2_chk2.dec i) (k2_chk3.dec i) arg10 harg10 arg11 harg11 arg12 (fun v12 => do
    if k2_h4 : k2_cond4 v12 = 1#1 then do
      let v67 : Vec F S512x3584 .bf16 ← Prog.lift (.load arg5 (Rect.unit (s := S512x3584) ![0, 0] S512x3584.size inb_S512x3584_S512x3584_0_0).toLoadRect (View.loadsAt_vmem h_S512x3584))
      let v68 : Vec F S3584x1024 .bf16 ← Prog.lift (.load arg11 (Rect.unit (s := S3584x1024) ![0, 0] S3584x1024.size inb_S3584x1024_S3584x1024_0_0).toLoadRect (View.loadsAt_vmem h_S3584x1024))
      let v70 : Vec F S512x1 .f32 ← Prog.lift (.load arg8 (Rect.unit (s := S512x1) ![0, 0] S512x1.size inb_S512x1_S512x1_0_0).toLoadRect (View.loadsAt_vmem h_S512x1))
      let v73 : Vec F S512x1024 .f32 ← Prog.lift (.load arg7 (Rect.unit (s := S512x1024) ![0, 0] S512x1024.size inb_S512x1024_S512x1024_0_0).toLoadRect (View.loadsAt_vmem h_S512x1024))
      let v76 : Vec F S512x1024 .f32 ← Prog.lift (.load arg9 (Rect.unit (s := S512x1024) ![0, 0] S512x1024.size inb_S512x1024_S512x1024_0_0).toLoadRect (View.loadsAt_vmem h_S512x1024))
      Prog.lift (.store arg9 (Rect.unit (s := S512x1024) ![0, 0] S512x1024.size inb_S512x1024_S512x1024_0_0) (k2_pay2 v67 v68 v70 v73) Finset.univ (View.stores_vmem_bits_univ h_S512x1024 rfl) (.inl rfl))
      pure ⟨⟩
    else do
      pure ⟨⟩
    if k2_h5 : k2_cond5 v12 = 1#1 then do
      let v68 : Vec F S512x1024 .f32 ← Prog.lift (.load arg9 (Rect.unit (s := S512x1024) ![0, 0] S512x1024.size inb_S512x1024_S512x1024_0_0).toLoadRect (View.loadsAt_vmem h_S512x1024))
      Prog.lift (.store arg9 (Rect.unit (s := S512x1024) ![0, 0] S512x1024.size inb_S512x1024_S512x1024_0_0) (k2_pay3 (F := F)) Finset.univ (View.stores_vmem_bits_univ h_S512x1024 rfl) (.inl rfl))
      pure ⟨⟩
    else do
      pure ⟨⟩
    if k2_h6 : k2_cond6 v12 = 1#1 then do
      let v67 : Vec F S128x3584 .bf16 ← Prog.lift (.load arg5 (Rect.unit (s := S512x3584) ![0, 0] S128x3584.size inb_S512x3584_S128x3584_0_0).toLoadRect (View.loadsAt_vmem h_S128x3584))
      let v68 : Vec F S3584x1024 .bf16 ← Prog.lift (.load arg11 (Rect.unit (s := S3584x1024) ![0, 0] S3584x1024.size inb_S3584x1024_S3584x1024_0_0).toLoadRect (View.loadsAt_vmem h_S3584x1024))
      let v70 : Vec F S128x1 .f32 ← Prog.lift (.load arg8 (Rect.unit (s := S512x1) ![0, 0] S128x1.size inb_S512x1_S128x1_0_0).toLoadRect (View.loadsAt_vmem h_S128x1))
      let v73 : Vec F S128x1024 .f32 ← Prog.lift (.load arg7 (Rect.unit (s := S512x1024) ![0, 0] S128x1024.size inb_S512x1024_S128x1024_0_0).toLoadRect (View.loadsAt_vmem h_S128x1024))
      let v76 : Vec F S128x1024 .f32 ← Prog.lift (.load arg9 (Rect.unit (s := S512x1024) ![0, 0] S128x1024.size inb_S512x1024_S128x1024_0_0).toLoadRect (View.loadsAt_vmem h_S128x1024))
      Prog.lift (.store arg9 (Rect.unit (s := S512x1024) ![0, 0] S128x1024.size inb_S512x1024_S128x1024_0_0) (k2_pay4 v67 v68 v70 v73) Finset.univ (View.stores_vmem_bits_univ h_S128x1024 rfl) (.inl rfl))
      pure ⟨⟩
    else do
      pure ⟨⟩
    if k2_h7 : k2_cond7 v12 = 1#1 then do
      let v68 : Vec F S128x1024 .f32 ← Prog.lift (.load arg9 (Rect.unit (s := S512x1024) ![0, 0] S128x1024.size inb_S512x1024_S128x1024_0_0).toLoadRect (View.loadsAt_vmem h_S128x1024))
      Prog.lift (.store arg9 (Rect.unit (s := S512x1024) ![0, 0] S128x1024.size inb_S512x1024_S128x1024_0_0) (k2_pay5 (F := F)) Finset.univ (View.stores_vmem_bits_univ h_S128x1024 rfl) (.inl rfl))
      pure ⟨⟩
    else do
      pure ⟨⟩
    let v31 : BitVec 1 := Scalar.cmpi .sge v12 8#32
    let v32 : BitVec 32 := Scalar.subi v12 8#32
    let v33 : BitVec 1 := Scalar.cmpi .sgt v32 1#32
    pure (⟨v12, v31, v33⟩ : Σ' (v12 : Elt F .i32) (v31 : BitVec 1), BitVec 1)) := by
    unfold k2_part1_skel weightsThen
    rfl
  rw [e]
  exact (weightsThen_bind (F := F) 7168 i (k2_chk1.dec i) (k2_chk2.dec i) (k2_chk3.dec i) arg10 harg10 arg11 harg11 arg12 _ _).trans rfl

set_option cleanup.letToHave false in
/-- Region 3's body is its two parts, one after the other. -/
theorem body3_eq (i : grid3.Coords) (arg5 : Memref sig .tc .vmem S512x3584 .bf16) (harg5 : arg5.IsWhole) (arg7 : Memref sig .tc .vmem S512x1024 .f32) (harg7 : arg7.IsWhole) (arg8 : Memref sig .tc .vmem S512x1 .f32) (harg8 : arg8.IsWhole) (arg9 : Memref sig .tc .vmem S512x1024 .f32) (harg9 : arg9.IsWhole) (arg10 : Memref sig .tc .vmem S3584x1024 .f32) (harg10 : arg10.IsWhole) (arg11 : Memref sig .tc .vmem S3584x1024 .bf16) (harg11 : arg11.IsWhole) (arg12 : DmaSems sig S1) :
    cc3_matmul_residual_skel (F := F) i MTe (Memref.isWhole_whole _) MM (Memref.isWhole_whole _) MX (Memref.isWhole_whole _) arg5 harg5 MW (Memref.isWhole_whole _) arg7 harg7 arg8 harg8 arg9 harg9 arg10 harg10 arg11 harg11 arg12 = weightsThen 10752 i (k3_chk1.dec i) (k3_chk2.dec i) (k3_chk3.dec i) arg10 harg10 arg11 harg11 arg12 (tail1 i MTe (Memref.isWhole_whole _) MM (Memref.isWhole_whole _) MX (Memref.isWhole_whole _) arg5 harg5 MW (Memref.isWhole_whole _) arg7 harg7 arg8 harg8 arg9 harg9 arg10 harg10 arg11 harg11 arg12) := by
  unfold cc3_matmul_residual_skel
  simp only [k3_part1_eq_skeleton, k3_part2_eq_skeleton]
  have e : k3_part1_skel (F := F) i MTe (Memref.isWhole_whole _) MM (Memref.isWhole_whole _) MX (Memref.isWhole_whole _) arg5 harg5 MW (Memref.isWhole_whole _) arg7 harg7 arg8 harg8 arg9 harg9 arg10 harg10 arg11 harg11 arg12 = weightsThen 10752 i (k3_chk1.dec i) (k3_chk2.dec i) (k3_chk3.dec i) arg10 harg10 arg11 harg11 arg12 (fun v12 => do
    if k3_h4 : k3_cond4 v12 = 1#1 then do
      let v67 : Vec F S512x3584 .bf16 ← Prog.lift (.load arg5 (Rect.unit (s := S512x3584) ![0, 0] S512x3584.size inb_S512x3584_S512x3584_0_0).toLoadRect (View.loadsAt_vmem h_S512x3584))
      let v68 : Vec F S3584x1024 .bf16 ← Prog.lift (.load arg11 (Rect.unit (s := S3584x1024) ![0, 0] S3584x1024.size inb_S3584x1024_S3584x1024_0_0).toLoadRect (View.loadsAt_vmem h_S3584x1024))
      let v70 : Vec F S512x1 .f32 ← Prog.lift (.load arg8 (Rect.unit (s := S512x1) ![0, 0] S512x1.size inb_S512x1_S512x1_0_0).toLoadRect (View.loadsAt_vmem h_S512x1))
      let v73 : Vec F S512x1024 .f32 ← Prog.lift (.load arg7 (Rect.unit (s := S512x1024) ![0, 0] S512x1024.size inb_S512x1024_S512x1024_0_0).toLoadRect (View.loadsAt_vmem h_S512x1024))
      let v76 : Vec F S512x1024 .f32 ← Prog.lift (.load arg9 (Rect.unit (s := S512x1024) ![0, 0] S512x1024.size inb_S512x1024_S512x1024_0_0).toLoadRect (View.loadsAt_vmem h_S512x1024))
      Prog.lift (.store arg9 (Rect.unit (s := S512x1024) ![0, 0] S512x1024.size inb_S512x1024_S512x1024_0_0) (k3_pay2 v67 v68 v70 v73) Finset.univ (View.stores_vmem_bits_univ h_S512x1024 rfl) (.inl rfl))
      pure ⟨⟩
    else do
      pure ⟨⟩
    if k3_h5 : k3_cond5 v12 = 1#1 then do
      let v68 : Vec F S512x1024 .f32 ← Prog.lift (.load arg9 (Rect.unit (s := S512x1024) ![0, 0] S512x1024.size inb_S512x1024_S512x1024_0_0).toLoadRect (View.loadsAt_vmem h_S512x1024))
      Prog.lift (.store arg9 (Rect.unit (s := S512x1024) ![0, 0] S512x1024.size inb_S512x1024_S512x1024_0_0) (k3_pay3 (F := F)) Finset.univ (View.stores_vmem_bits_univ h_S512x1024 rfl) (.inl rfl))
      pure ⟨⟩
    else do
      pure ⟨⟩
    if k3_h6 : k3_cond6 v12 = 1#1 then do
      let v67 : Vec F S128x3584 .bf16 ← Prog.lift (.load arg5 (Rect.unit (s := S512x3584) ![0, 0] S128x3584.size inb_S512x3584_S128x3584_0_0).toLoadRect (View.loadsAt_vmem h_S128x3584))
      let v68 : Vec F S3584x1024 .bf16 ← Prog.lift (.load arg11 (Rect.unit (s := S3584x1024) ![0, 0] S3584x1024.size inb_S3584x1024_S3584x1024_0_0).toLoadRect (View.loadsAt_vmem h_S3584x1024))
      let v70 : Vec F S128x1 .f32 ← Prog.lift (.load arg8 (Rect.unit (s := S512x1) ![0, 0] S128x1.size inb_S512x1_S128x1_0_0).toLoadRect (View.loadsAt_vmem h_S128x1))
      let v73 : Vec F S128x1024 .f32 ← Prog.lift (.load arg7 (Rect.unit (s := S512x1024) ![0, 0] S128x1024.size inb_S512x1024_S128x1024_0_0).toLoadRect (View.loadsAt_vmem h_S128x1024))
      let v76 : Vec F S128x1024 .f32 ← Prog.lift (.load arg9 (Rect.unit (s := S512x1024) ![0, 0] S128x1024.size inb_S512x1024_S128x1024_0_0).toLoadRect (View.loadsAt_vmem h_S128x1024))
      Prog.lift (.store arg9 (Rect.unit (s := S512x1024) ![0, 0] S128x1024.size inb_S512x1024_S128x1024_0_0) (k3_pay4 v67 v68 v70 v73) Finset.univ (View.stores_vmem_bits_univ h_S128x1024 rfl) (.inl rfl))
      pure ⟨⟩
    else do
      pure ⟨⟩
    if k3_h7 : k3_cond7 v12 = 1#1 then do
      let v68 : Vec F S128x1024 .f32 ← Prog.lift (.load arg9 (Rect.unit (s := S512x1024) ![0, 0] S128x1024.size inb_S512x1024_S128x1024_0_0).toLoadRect (View.loadsAt_vmem h_S128x1024))
      Prog.lift (.store arg9 (Rect.unit (s := S512x1024) ![0, 0] S128x1024.size inb_S512x1024_S128x1024_0_0) (k3_pay5 (F := F)) Finset.univ (View.stores_vmem_bits_univ h_S128x1024 rfl) (.inl rfl))
      pure ⟨⟩
    else do
      pure ⟨⟩
    let v31 : BitVec 1 := Scalar.cmpi .sge v12 8#32
    let v32 : BitVec 32 := Scalar.subi v12 8#32
    let v33 : BitVec 1 := Scalar.cmpi .sgt v32 1#32
    pure (⟨v12, v31, v33⟩ : Σ' (v12 : Elt F .i32) (v31 : BitVec 1), BitVec 1)) := by
    unfold k3_part1_skel weightsThen
    rfl
  rw [e]
  exact (weightsThen_bind (F := F) 10752 i (k3_chk1.dec i) (k3_chk2.dec i) (k3_chk3.dec i) arg10 harg10 arg11 harg11 arg12 _ _).trans rfl

end Cert.DownIdeal.Moe
end
end
-- ==== Proof.DownStep.lean ====
/- The copies a grid point of the second product waits for and starts, and its run in each case. -/
module

public import proofs.«01_k».proof.Proof.DownBody
public import Idealize.ShloMosaic.Lib.ValueLayout

@[expose] public section

set_option maxRecDepth 16384
set_option maxHeartbeats 4000000

noncomputable section

namespace Cert.DownIdeal.Moe

open Idealize.ShloMosaic Idealize.ShloMosaic.ValueIdx Idealize.ShloMosaic.TcCoe Idealize.ShloMosaic.Tactic Cert.DownIdeal Cert.DownIdeal.Gen
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- A word of a table, at the offset a load names. -/
def word (te : Vec F S40 .i32) (off : Fin 1 → ℕ) (h : ∀ a, off a + S1.size a ≤ S40.size a) : BitVec 32 :=
  te (fun a => ⟨off a, by have := h a; have e : S1.size a = 1 := by match a with | ⟨0, _⟩ => rfl
                          omega⟩)

/-- The block of a weight at an offset. -/
abbrev blkOf (M : Memref sig .tc .hbm S8x14336x4096 .f32) (off : Fin 3 → ℕ) (h : ∀ a, off a + S1x3584x1024.size a ≤ S8x14336x4096.size a) :
    Memref sig .tc .hbm S3584x1024 .f32 :=
  (M.slice (Rect.unit (s := S8x14336x4096) off S1x3584x1024.size h) (fun _ => rfl)).squeeze S3584x1024 squeezes_S1x3584x1024_S3584x1024

/-- A table of words, held. -/
def tbl (c : Dev nD) {S : Shape} {e : EltTy} {sp : Space} (M : Memref sig .tc sp S e) (f : Buf (Elt F) (M.view.loc (c : Thread nD τ))) : sProp 𝕄 :=
  M.view.loc (c : Thread nD τ) ↦[Finset.univ]{fullShare} f

/-- The block of a weight that begins at an offset. -/
def blkAt (Wt : Vec F S8x14336x4096 .f32) (off : Fin 3 → ℕ) : Vec F S3584x1024 .f32 := fun x =>
  Wt (ValueIdx.ix3 (n0 := 8) (n1 := 14336) (n2 := 4096) ⟨off 0 % 8, Nat.mod_lt _ (by decide)⟩ ⟨(off 1 + (x 0).val) % 14336, Nat.mod_lt _ (by decide)⟩
    ⟨(off 2 + (x 1).val) % 4096, Nat.mod_lt _ (by decide)⟩)

/-- A copy's source, read. -/
theorem read_blk (off : Fin 3 → ℕ) (h : ∀ a, off a + S1x3584x1024.size a ≤ S8x14336x4096.size a) (Wt : Vec F S8x14336x4096 .f32) :
    (blkOf MW off h).view.read (Elt F) Wt = blkAt Wt off := by
  have h0 := h 0
  have h1 := h 1
  have h2 := h 2
  change off 0 + 1 ≤ 8 at h0
  change off 1 + 3584 ≤ 14336 at h1
  change off 2 + 1024 ≤ 4096 at h2
  have key : ∀ (p : Fin 3584) (q : Fin 1024), (blkOf MW off h).view.read (Elt F) Wt (ValueIdx.ix2 p q) = blkAt Wt off (ValueIdx.ix2 p q) := by
    intro p q
    have e : (blkOf MW off h).view.read (Elt F) Wt (ValueIdx.ix2 p q)
        = Wt ((Rect.unit (s := S8x14336x4096) off S1x3584x1024.size h).emb (Shape.reshapeEquiv (s := S1x3584x1024) squeezes_S1x3584x1024_S3584x1024.numel_eq (ValueIdx.ix2 p q))) := rfl
    rw [e, show Shape.reshapeEquiv (s := S1x3584x1024) squeezes_S1x3584x1024_S3584x1024.numel_eq (ValueIdx.ix2 p q)
        = ValueIdx.ix3 (⟨0, Nat.one_pos⟩ : Fin 1) p q from reshapeEquiv_ix2_1ab _ _ _]
    unfold blkAt
    refine congrArg Wt (funext fun a => ?_)
    have x0 := p.isLt
    have x1 := q.isLt
    match a with
    | ⟨0, _⟩ => exact Fin.ext (by show off 0 + 0 * 1 = off 0 % 8; omega)
    | ⟨1, _⟩ => exact Fin.ext (by show off 1 + 1 * p.val = (off 1 + p.val) % 14336; omega)
    | ⟨2, _⟩ => exact Fin.ext (by show off 2 + 1 * q.val = (off 2 + q.val) % 4096; omega)
  funext x
  exact (congrArg _ (eq_ix2 x)).trans ((key (x 0) (x 1)).trans (congrArg _ (eq_ix2 x).symm))

/-- The semaphore a copy counts on. -/
abbrev dsem (sm : DmaSems sig S1) : SemLoc sig :=
  .dma ((sm.slice (Rect.unit (s := S1) ![0] S1.size inb_S1_S1_0)).squeeze S_ squeezes_S1_S_).sem

/-- A block of the weight on its way into its buffer; the weight is held but for the block. -/
def flying (c : Dev nD) (MF : Memref sig .tc .vmem S3584x1024 .f32) (sm : SemLoc sig) (Wt : Vec F S8x14336x4096 .f32) (A : Vec F S3584x1024 .f32) : sProp 𝕄 :=
  iprop(∃ I g, Transfers.Flight (countersEmb (U := Pipeline.UD sig nD τ)) (c : Thread nD τ) sm default 458752
      iprop((MF.view.loc (c : Thread nD τ) ↦[MF.view.set]{fullShare} g) ∗ (MW.view.loc (c : Thread nD τ) ↦[I]{fullShare} Wt))
    ∗ (MW.view.loc (c : Thread nD τ) ↦[Finset.univ \ I]{fullShare} Wt) ∗ ⌜MF.view.read (Elt F) g = A⌝)

/-- Nothing is on its way: the weight and its buffer are held. -/
def idleAt (c : Dev nD) (MF : Memref sig .tc .vmem S3584x1024 .f32) (sm : SemLoc sig) (Wt : Vec F S8x14336x4096 .f32) : sProp 𝕄 :=
  iprop((MW.view.loc (c : Thread nD τ) ↦{fullShare} Wt) ∗ (∃ g, MF.view.loc (c : Thread nD τ) ↦[MF.view.set]{fullShare} g) ∗ semVal ((c : Thread nD τ), sm) 0)

/-- The block on its way, or none. -/
def pend (c : Dev nD) (MF : Memref sig .tc .vmem S3584x1024 .f32) (sm : SemLoc sig) (Wt : Vec F S8x14336x4096 .f32) : Option (Fin 3 → ℕ) → sProp 𝕄
  | some o => flying c MF sm Wt (blkAt Wt o)
  | none => idleAt c MF sm Wt

/-- What the first part of the body leaves: the block at `cur` cast, the block at `p` on its way. -/
def weightsPost (c : Dev nD) (MF : Memref sig .tc .vmem S3584x1024 .f32) (MB : Memref sig .tc .vmem S3584x1024 .bf16) (sm : SemLoc sig) (te md nx : Vec F S40 .i32)
    (Wt : Vec F S8x14336x4096 .f32) (cur : Fin 3 → ℕ) (p : Option (Fin 3 → ℕ)) : sProp 𝕄 :=
  iprop(tbl c MTe te ∗ tbl c MM md ∗ tbl c MX nx ∗ pend c MF sm Wt p
    ∗ owns (c : Thread nD τ) MB fullShare (k0_pay1 (blkAt Wt cur)) ∗ (∃ W', owes (c : Thread nD τ) 0 W'))

/-- A copy's source is what its buffer reads. -/
theorem copied {κ : Kind} {sp : Space} {s : Shape} {e : EltTy} (v : View sig κ sp s e) (f : v.ty.Contents (Elt F)) (x : s.Idx → Elt F e) (L : List (View.Piece (Elt F) s e)) :
    v.read (Elt F) (v.writes (Elt F) f (⟨Rect.whole s, x⟩ :: L)) = x := by
  funext y
  have h := View.read_writes_cons_emb v f (Rect.whole s) x L y
  rwa [Rect.emb_whole_apply] at h

/-- A copy under way, with the rest of the weight. -/
theorem to_flying (c : Dev nD) (MF : Memref sig .tc .vmem S3584x1024 .f32) (sm : SemLoc sig) (Wt : Vec F S8x14336x4096 .f32) (A : Vec F S3584x1024 .f32)
    (g : Buf (Elt F) (MF.view.loc (c : Thread nD τ))) (I : Finset (Idx (MW.view.loc (c : Thread nD τ)))) (h : MF.view.read (Elt F) g = A) :
    iprop(Transfers.Flight (countersEmb (U := Pipeline.UD sig nD τ)) (c : Thread nD τ) sm default 458752
      iprop((MF.view.loc (c : Thread nD τ) ↦[MF.view.set]{fullShare} g) ∗ (MW.view.loc (c : Thread nD τ) ↦[I]{fullShare} Wt))
      ∗ (MW.view.loc (c : Thread nD τ) ↦[Finset.univ \ I]{fullShare} Wt)) ⊢ (flying c MF sm Wt A : sProp 𝕄) := by
  unfold flying
  iintro ⟨H1, H2⟩
  iexists I, g
  isplitl [H1]; · iexact H1
  isplitl [H2]; · iexact H2
  ipureintro; exact h

/-- A buffer held, as its contents read. -/
theorem own_intro (c : Dev nD) {S : Shape} {e : EltTy} {sp : Space} (M : Memref sig .tc sp S e) (f : Buf (Elt F) (M.view.loc (c : Thread nD τ)))
    (A : Vec F S e) (h : M.view.read (Elt F) f = A) :
    (M.view.loc (c : Thread nD τ) ↦[M.view.set]{fullShare} f) ⊢ (owns (c : Thread nD τ) M fullShare A : sProp 𝕄) := by
  unfold owns
  iintro H
  iexists f
  isplitr [H]; · ipureintro; exact h
  iexact H

/-- A cast stored whole over a buffer. -/
theorem cast_stored (MF : Memref sig .tc .vmem S3584x1024 .f32) (MB : Memref sig .tc .vmem S3584x1024 .bf16) (b : MB.view.ty.Contents (Elt F))
    (g : MF.view.ty.Contents (Elt F)) (A : Vec F S3584x1024 .f32) (h : MF.view.read (Elt F) g = A) :
    MB.view.read (Elt F) (MB.view.writes (Elt F) b [⟨Rect.unit (s := S3584x1024) ![0, 0] S3584x1024.size inb_S3584x1024_S3584x1024_0_0,
      k0_pay1 (View.readAt (Elt F) MF.view (Rect.unit (s := S3584x1024) ![0, 0] S3584x1024.size inb_S3584x1024_S3584x1024_0_0).toLoadRect g)⟩])
      = k0_pay1 (F := F) A := by
  rw [View.readAt_full MF.view, h]
  exact View.read_writes_full MB.view b _ _ []

/-- A grid point that brings in an expert's block, and starts the next one. -/
theorem weights_new {X : Type} (c : Dev nD) (K : X → sProp 𝕄) (klo : ℕ) (i : grid0.Coords) (d1 : ∀ a b v, Decidable (chk1 klo i a b v)) (d2 : ∀ a b v, Decidable (k0_chk2 i a b v)) (d3 : ∀ a b v u, Decidable (chk3 klo i a b v u)) (MF : Memref sig .tc .vmem S3584x1024 .f32) (hMF : MF.IsWhole) (MB : Memref sig .tc .vmem S3584x1024 .bf16) (hMB : MB.IsWhole) (sm : DmaSems sig S1) (k : Elt F .i32 → Prog (TpuEff nD τ sig (Elt F) Λ₀ .tc) X)
    (te md nx : Vec F S40 .i32) (Wt : Vec F S8x14336x4096 .f32) (W : Waits sig Unit)
    (hc1 : k0_cond1 i (word te (k0_off1 i) (k0_off1_inb i)) (word te (k0_off2 i) (k0_off2_inb i)) = 1#1)
    (hk1 : chk1 klo i (word te (k0_off1 i) (k0_off1_inb i)) (word te (k0_off2 i) (k0_off2_inb i)) (word te (k0_off3 i) (k0_off3_inb i)))
    (hk2 : k0_chk2 i (word te (k0_off1 i) (k0_off1_inb i)) (word te (k0_off2 i) (k0_off2_inb i)) (word nx (k0_off6 i) (k0_off6_inb i)))
    (hk3 : chk3 klo i (word te (k0_off1 i) (k0_off1_inb i)) (word te (k0_off2 i) (k0_off2_inb i)) (word nx (k0_off6 i) (k0_off6_inb i)) (word te ![0] inb_S40_S1_0)) :
    iprop(tbl c MTe te ∗ tbl c MM md ∗ tbl c MX nx
      ∗ pend c MF (dsem sm) Wt (if k0_cond2 i = 1#1 then none else some (off klo i (word te (k0_off3 i) (k0_off3_inb i))))
      ∗ (∃ A, owns (c : Thread nD τ) MB fullShare A)
      ∗ owes (c : Thread nD τ) 0 W
      ∗ (weightsPost c MF MB (dsem sm) te md nx Wt (off klo i (word te (k0_off3 i) (k0_off3_inb i)))
          (if k0_cond3 i (word nx (k0_off6 i) (k0_off6_inb i)) = 1#1 then some (offN klo i (word nx (k0_off6 i) (k0_off6_inb i)) (word te ![0] inb_S40_S1_0)) else none)
        -∗ wp frame (wpE (defs₀ (F := F)) Variants.none c none) Set.univ (k (word md (k0_off8 i) (k0_off8_inb i))) K))
      ⊢ wp frame (wpE (defs₀ (F := F)) Variants.none c none) Set.univ (weightsThen klo i d1 d2 d3 MF hMF MB hMB sm k) K := by
  by_cases hc2 : k0_cond2 i = 1#1 <;> by_cases hc3 : k0_cond3 i (word nx (k0_off6 i) (k0_off6_inb i)) = 1#1
  · rw [if_pos hc2, if_pos hc3]
    unfold weightsThen owns tbl pend idleAt
    iintro ⟨HT, HM, HX, ⟨HW, ⟨%g1, Hf⟩, HS⟩, ⟨%A1, %b1, %hb1, HB⟩, HO, HK⟩
    sl_exec (disch := first | sl_exact hc1 | sl_exact hc2 | sl_exact hc3 | sl_exact hk1 | sl_exact hk2 | sl_exact hk3)
    iapply HK
    unfold weightsPost tbl pend
    isplitl [HT]; · iexact HT
    isplitl [HM]; · iexact HM
    isplitl [HX]; · iexact HX
    isplitl [HS HW]
    · iapply (to_flying c MF (dsem sm) Wt _ _ _ ((copied MF.view _ _ _).trans (read_blk (offN klo i _ _) _ Wt)))
      isplitl [HS]; · iexact HS
      iexact HW
    isplitl [HB]
    · iapply (own_intro c MB _ _ (cast_stored MF MB b1 _ _ ((copied MF.view _ _ _).trans (read_blk (off klo i _) _ Wt))))
      iexact HB
    iexists _; iexact HO
  · exact absurd (cond3_of_cond2 i _ hc2) hc3
  · rw [if_neg hc2, if_pos hc3]
    unfold weightsThen owns tbl pend flying
    iintro ⟨HT, HM, HX, ⟨%I, %g1, HS, HW, %hg⟩, ⟨%A1, %b1, %hb1, HB⟩, HO, HK⟩
    sl_exec (disch := first | sl_exact hc1 | sl_exact hc2 | sl_exact hc3 | sl_exact hk1 | sl_exact hk2 | sl_exact hk3)
    iapply HK
    unfold weightsPost tbl pend
    isplitl [HT]; · iexact HT
    isplitl [HM]; · iexact HM
    isplitl [HX]; · iexact HX
    isplitl [HS HW]
    · iapply (to_flying c MF (dsem sm) Wt _ _ _ ((copied MF.view _ _ _).trans (read_blk (offN klo i _ _) _ Wt)))
      isplitl [HS]; · iexact HS
      iexact HW
    isplitl [HB]
    · iapply (own_intro c MB _ _ (cast_stored MF MB b1 _ _ hg))
      iexact HB
    iexists _; iexact HO
  · rw [if_neg hc2, if_neg hc3]
    unfold weightsThen owns tbl pend flying
    iintro ⟨HT, HM, HX, ⟨%I, %g1, HS, HW, %hg⟩, ⟨%A1, %b1, %hb1, HB⟩, HO, HK⟩
    sl_exec (disch := first | sl_exact hc1 | sl_exact hc2 | sl_exact hc3 | sl_exact hk1 | sl_exact hk2 | sl_exact hk3)
    iapply HK
    unfold weightsPost tbl pend idleAt
    isplitl [HT]; · iexact HT
    isplitl [HM]; · iexact HM
    isplitl [HX]; · iexact HX
    isplitl [HS HW HS_dst]
    · isplitl [HW]; · iexact HW
      isplitl [HS_dst]; · iexists _; iexact HS_dst
      iexact HS
    isplitl [HB]
    · iapply (own_intro c MB _ _ (cast_stored MF MB b1 _ _ hg))
      iexact HB
    iexists _; iexact HO

/-- A grid point that keeps the block of the one before. -/
theorem weights_kept {X : Type} (c : Dev nD) (K : X → sProp 𝕄) (klo : ℕ) (i : grid0.Coords) (d1 : ∀ a b v, Decidable (chk1 klo i a b v)) (d2 : ∀ a b v, Decidable (k0_chk2 i a b v)) (d3 : ∀ a b v u, Decidable (chk3 klo i a b v u)) (MF : Memref sig .tc .vmem S3584x1024 .f32) (hMF : MF.IsWhole) (MB : Memref sig .tc .vmem S3584x1024 .bf16) (hMB : MB.IsWhole) (sm : DmaSems sig S1) (k : Elt F .i32 → Prog (TpuEff nD τ sig (Elt F) Λ₀ .tc) X)
    (te md : Vec F S40 .i32)
    (hc1 : ¬ k0_cond1 i (word te (k0_off1 i) (k0_off1_inb i)) (word te (k0_off2 i) (k0_off2_inb i)) = 1#1) :
    iprop(tbl c MTe te ∗ tbl c MM md
      ∗ (iprop(tbl c MTe te ∗ tbl c MM md)
        -∗ wp frame (wpE (defs₀ (F := F)) Variants.none c none) Set.univ (k (word md (k0_off8 i) (k0_off8_inb i))) K))
      ⊢ wp frame (wpE (defs₀ (F := F)) Variants.none c none) Set.univ (weightsThen klo i d1 d2 d3 MF hMF MB hMB sm k) K := by
  unfold weightsThen tbl
  iintro ⟨HT, HM, HK⟩
  sl_exec (disch := sl_exact hc1)
  iapply HK
  isplitl [HT]; · iexact HT
  iexact HM

end Cert.DownIdeal.Moe
end
end
-- ==== Proof.DownPoint.lean ====
/- A grid point of the second product on what the points before it leave: which blocks are cast, and which are on their way. -/
module

public import proofs.«01_k».proof.Proof.DownStep

@[expose] public section

set_option maxRecDepth 16384
set_option maxHeartbeats 4000000

noncomputable section

namespace Cert.DownIdeal.Moe

open Idealize.ShloMosaic Idealize.ShloMosaic.ValueIdx Idealize.ShloMosaic.TcCoe Idealize.ShloMosaic.Tactic Cert.DownIdeal Cert.DownIdeal.Gen
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => Idealize.ShloMosaic.MT nD τ sig Unit (Elt F) ℕ (Pipeline.UD sig nD τ) ℕ

/-- Entry `j` of a table. -/
def ent (te : Vec F S40 .i32) (j : ℕ) : BitVec 32 := te (ValueIdx.ix1 (n := 40) ⟨j % 40, Nat.mod_lt _ (by decide)⟩)

/-- The word a load names is the entry at its offset. -/
theorem word_ent (te : Vec F S40 .i32) (off : Fin 1 → ℕ) (h : ∀ a, off a + S1.size a ≤ S40.size a) : word te off h = ent te (off 0) := by
  unfold word ent
  congr 1
  funext a
  match a with
  | ⟨0, _⟩ =>
    have := h 0
    have e1 : S1.size 0 = 1 := rfl
    have e2 : S40.size 0 = 40 := rfl
    exact Fin.ext (show off 0 = off 0 % 40 by omega)

/-- The tables of experts, of tile kinds and of next experts fit together. -/
structure Good (te md nx : Vec F S40 .i32) : Prop where
  te_lt : ∀ j, (ent te j).toNat < 8
  kind : ∀ j, IsKind (ent md j)
  last : (ent nx 39).toInt < 0
  change : ∀ j, j + 1 < 40 → ent te (j + 1) ≠ ent te j → ent nx j = ent te (j + 1)
  keep : ∀ j, j + 1 < 40 → ent te (j + 1) = ent te j → ent nx (j + 1) = ent nx j
  nx_lt : ∀ j, 0 ≤ (ent nx j).toInt → (ent nx j).toNat < 8

/-- Where the blocks of tile `j` in column block `n` begin. -/
def curOff (klo : ℕ) (te : Vec F S40 .i32) (n j : ℕ) : Fin 3 → ℕ := ![(ent te j).toNat, klo, 1024 * n]

/-- Where the blocks on their way after that tile begin, if any are. -/
def nextOff (klo : ℕ) (te nx : Vec F S40 .i32) (n j : ℕ) : Option (Fin 3 → ℕ) :=
  if 0 ≤ (ent nx j).toInt then some ![(ent nx j).toNat, klo, 1024 * n] else if n + 1 < 4 then some ![(ent te 0).toNat, klo, 1024 * (n + 1)] else none

/-- What holds before grid point `s`. -/
def inv (c : Dev nD) (MF : Memref sig .tc .vmem S3584x1024 .f32) (MB : Memref sig .tc .vmem S3584x1024 .bf16) (sm : SemLoc sig) (klo : ℕ) (te md nx : Vec F S40 .i32) (Wt : Vec F S8x14336x4096 .f32) : ℕ → sProp 𝕄
  | 0 => iprop(tbl c MTe te ∗ tbl c MM md ∗ tbl c MX nx ∗ pend c MF sm Wt none
      ∗ (∃ A, owns (c : Thread nD τ) MB fullShare A))
  | s + 1 => iprop(tbl c MTe te ∗ tbl c MM md ∗ tbl c MX nx ∗ pend c MF sm Wt (nextOff klo te nx (s / 40) (s % 40))
      ∗ owns (c : Thread nD τ) MB fullShare (k0_pay1 (blkAt Wt (curOff klo te (s / 40) (s % 40)))))

/-- After a grid point. -/
theorem inv_succ (c : Dev nD) (MF : Memref sig .tc .vmem S3584x1024 .f32) (MB : Memref sig .tc .vmem S3584x1024 .bf16) (sm : SemLoc sig) (klo : ℕ) (te md nx : Vec F S40 .i32) (Wt : Vec F S8x14336x4096 .f32) (s : ℕ) :
    inv c MF MB sm klo te md nx Wt (s + 1) = iprop(tbl c MTe te ∗ tbl c MM md ∗ tbl c MX nx ∗ pend c MF sm Wt (nextOff klo te nx (s / 40) (s % 40))
      ∗ owns (c : Thread nD τ) MB fullShare (k0_pay1 (blkAt Wt (curOff klo te (s / 40) (s % 40))))) := rfl

/-- What a grid point that brings in blocks finds. -/
theorem inv_new (c : Dev nD) (MF : Memref sig .tc .vmem S3584x1024 .f32) (MB : Memref sig .tc .vmem S3584x1024 .bf16) (sm : SemLoc sig) (klo : ℕ) (te md nx : Vec F S40 .i32) (Wt : Vec F S8x14336x4096 .f32) (g : Good te md nx) (i : grid0.Coords) (s : ℕ)
    (h0 : (i 0).val = s / 40) (h1 : (i 1).val = s % 40)
    (hc1 : k0_cond1 i (word te (k0_off1 i) (k0_off1_inb i)) (word te (k0_off2 i) (k0_off2_inb i)) = 1#1) :
    inv c MF MB sm klo te md nx Wt s ⊢ iprop(tbl c MTe te ∗ tbl c MM md ∗ tbl c MX nx
      ∗ pend c MF sm Wt (if k0_cond2 i = 1#1 then none else some (off klo i (word te (k0_off3 i) (k0_off3_inb i))))
      ∗ (∃ A, owns (c : Thread nD τ) MB fullShare A)) := by
  have hn := n_lt i
  match s with
  | 0 => rw [if_pos ((cond2_iff i).mpr ⟨h0, h1⟩)]; exact .rfl
  | s + 1 =>
    have hc2 : ¬ k0_cond2 i = 1#1 := fun h => by have := (cond2_iff i).mp h; omega
    have e : nextOff klo te nx (s / 40) (s % 40) = some (off klo i (word te (k0_off3 i) (k0_off3_inb i))) := by
      rw [word_ent, off3_eq, off_eq]
      unfold nextOff
      by_cases hm : (i 1).val = 0
      · have e1 : s % 40 = 39 := by omega
        have e2 : s / 40 + 1 = (i 0).val := by omega
        rw [if_neg (by rw [e1]; exact not_le.mpr g.last), e2, if_pos hn, hm]
      · have e1 : (i 1).val = s % 40 + 1 := by omega
        have e2 : s / 40 = (i 0).val := by omega
        have hd : ent te (s % 40 + 1) ≠ ent te (s % 40) := by
          rcases (cond1_iff i _ _).mp hc1 with h | h
          · exact absurd h hm
          · rw [word_ent, word_ent, off1_eq, off2_eq, e1, Nat.add_sub_cancel] at h
            exact h
        rw [g.change _ (by omega) hd, ← e1, e2]
        have hl := g.te_lt (i 1).val
        rw [if_pos (by rw [BitVec.toInt_eq_toNat_of_lt (by omega)]; omega)]
    rw [if_neg hc2, ← e, inv_succ]
    iintro ⟨H1, H2, H3, H4, H5⟩
    isplitl [H1]; · iexact H1
    isplitl [H2]; · iexact H2
    isplitl [H3]; · iexact H3
    isplitl [H4]; · iexact H4
    iexists _; iexact H5

/-- The blocks on their way after a grid point that started some. -/
theorem next_eq (klo : ℕ) (te nx : Vec F S40 .i32) (i : grid0.Coords) :
    (if k0_cond3 i (word nx (k0_off6 i) (k0_off6_inb i)) = 1#1 then
      some (offN klo i (word nx (k0_off6 i) (k0_off6_inb i)) (word te ![0] inb_S40_S1_0)) else none) = nextOff klo te nx (i 0).val (i 1).val := by
  rw [word_ent, word_ent, off6_eq, offN_eq]
  unfold nextOff
  by_cases h : 0 ≤ (ent nx (i 1).val).toInt
  · rw [if_pos ((cond3_iff i _).mpr (.inl h)), if_pos h, if_pos h]
  · rw [if_neg h, if_neg h]
    by_cases h' : (i 0).val + 1 < 4
    · rw [if_pos ((cond3_iff i _).mpr (.inr h')), if_pos h']; rfl
    · rw [if_neg h', if_neg fun hc => ((cond3_iff i _).mp hc).elim h h']

/-- A grid point: the block of its expert is cast, the rows after it run, and what the next point needs holds. -/
theorem point (c : Dev nD) (K : PUnit → sProp 𝕄) (klo : ℕ) (i : grid0.Coords) (d1 : ∀ a b v, Decidable (chk1 klo i a b v)) (d2 : ∀ a b v, Decidable (k0_chk2 i a b v)) (d3 : ∀ a b v u, Decidable (chk3 klo i a b v u)) (MF : Memref sig .tc .vmem S3584x1024 .f32) (hMF : MF.IsWhole) (MB : Memref sig .tc .vmem S3584x1024 .bf16) (hMB : MB.IsWhole) (sm : DmaSems sig S1) (hk : klo ≤ 10752) (k : Elt F .i32 → Prog (TpuEff nD τ sig (Elt F) Λ₀ .tc) PUnit) (te md nx : Vec F S40 .i32) (g : Good te md nx)
    (Wt : Vec F S8x14336x4096 .f32) (s : ℕ) (h0 : (i 0).val = s / 40) (h1 : (i 1).val = s % 40) (W : Waits sig Unit) (Pre Post : sProp 𝕄)
    (hrun : iprop(Pre ∗ owns (c : Thread nD τ) MB fullShare (k0_pay1 (blkAt Wt (curOff klo te (s / 40) (s % 40))))
        ∗ (iprop(Post ∗ owns (c : Thread nD τ) MB fullShare (k0_pay1 (blkAt Wt (curOff klo te (s / 40) (s % 40))))) -∗ K ⟨⟩))
      ⊢ wp frame (wpE (defs₀ (F := F)) Variants.none c none) Set.univ (k (ent md (s % 40))) K) :
    iprop(inv c MF MB (dsem sm) klo te md nx Wt s ∗ owes (c : Thread nD τ) 0 W ∗ Pre
      ∗ (iprop(inv c MF MB (dsem sm) klo te md nx Wt (s + 1) ∗ (∃ W', owes (c : Thread nD τ) 0 W') ∗ Post) -∗ K ⟨⟩))
      ⊢ wp frame (wpE (defs₀ (F := F)) Variants.none c none) Set.univ (weightsThen klo i d1 d2 d3 MF hMF MB hMB sm k) K := by
  have hM : word md (k0_off8 i) (k0_off8_inb i) = ent md (s % 40) := by rw [word_ent, off8_eq, h1]
  have hcur : off klo i (word te (k0_off3 i) (k0_off3_inb i)) = curOff klo te (s / 40) (s % 40) := by
    rw [off_eq, word_ent, off3_eq, h0, h1]; rfl
  by_cases hc1 : k0_cond1 i (word te (k0_off1 i) (k0_off1_inb i)) (word te (k0_off2 i) (k0_off2_inb i)) = 1#1
  · have hk1 := chk1_of klo hk i (word te (k0_off1 i) (k0_off1_inb i)) (word te (k0_off2 i) (k0_off2_inb i)) (word te (k0_off3 i) (k0_off3_inb i))
      (by rw [word_ent]; exact g.te_lt _)
    have hk2 := chk2_of i (word te (k0_off1 i) (k0_off1_inb i)) (word te (k0_off2 i) (k0_off2_inb i)) (word nx (k0_off6 i) (k0_off6_inb i))
    have hk3 := chk3_of klo hk i (word te (k0_off1 i) (k0_off1_inb i)) (word te (k0_off2 i) (k0_off2_inb i)) (word nx (k0_off6 i) (k0_off6_inb i)) (word te ![0] inb_S40_S1_0)
      (by rw [word_ent]; exact g.nx_lt _) (by rw [word_ent]; exact g.te_lt _)
    iintro ⟨HI, HO, HP0, HK⟩
    ihave HI' := (inv_new c MF MB (dsem sm) klo te md nx Wt g i s h0 h1 hc1) $$ HI
    icases HI' with ⟨HT, HM, HX, HP, HA⟩
    iapply (weights_new c K klo i d1 d2 d3 MF hMF MB hMB sm k te md nx Wt W hc1 hk1 hk2 hk3)
    isplitl [HT]; · iexact HT
    isplitl [HM]; · iexact HM
    isplitl [HX]; · iexact HX
    isplitl [HP]; · iexact HP
    isplitl [HA]; · iexact HA
    isplitl [HO]; · iexact HO
    rw [next_eq, hM, hcur, h0, h1]
    unfold weightsPost
    iintro ⟨HT, HM, HX, HP, HA, HO⟩
    iapply hrun
    isplitl [HP0]; · iexact HP0
    isplitl [HA]; · iexact HA
    iintro ⟨HP0, HA⟩
    iapply HK
    rw [inv_succ]
    isplitl [HT HM HX HP HA]
    · isplitl [HT]; · iexact HT
      isplitl [HM]; · iexact HM
      isplitl [HX]; · iexact HX
      isplitl [HP]; · iexact HP
      iexact HA
    isplitl [HO]; · iexact HO
    iexact HP0
  · have hne := fun h => hc1 ((cond1_iff i _ _).mpr h)
    have hm : (i 1).val ≠ 0 := fun h => hne (.inl h)
    have hte : word te (k0_off2 i) (k0_off2_inb i) = word te (k0_off1 i) (k0_off1_inb i) := not_not.mp fun h => hne (.inr h)
    rw [word_ent, word_ent, off1_eq, off2_eq, h1] at hte
    match s, h0, h1, hM, hrun with
    | 0, h0, h1, hM, hrun => exact absurd h1 hm
    | s + 1, h0, h1, hM, hrun =>
      have e1 : (s + 1) % 40 = s % 40 + 1 := by omega
      have e2 : (s + 1) / 40 = s / 40 := by omega
      rw [e1, Nat.add_sub_cancel] at hte
      have hcu : curOff klo te ((s + 1) / 40) ((s + 1) % 40) = curOff klo te (s / 40) (s % 40) := by
        unfold curOff; rw [e1, e2, hte]
      have hnx : nextOff klo te nx ((s + 1) / 40) ((s + 1) % 40) = nextOff klo te nx (s / 40) (s % 40) := by
        unfold nextOff; rw [e1, e2, g.keep _ (by omega) hte]
      rw [inv_succ, inv_succ, hnx]
      rw [hcu] at hrun ⊢
      iintro ⟨⟨HT, HM, HX, HP, HA⟩, HO, HP0, HK⟩
      iapply (weights_kept c K klo i d1 d2 d3 MF hMF MB hMB sm k te md hc1)
      isplitl [HT]; · iexact HT
      isplitl [HM]; · iexact HM
      rw [hM]
      iintro ⟨HT, HM⟩
      iapply hrun
      isplitl [HP0]; · iexact HP0
      isplitl [HA]; · iexact HA
      iintro ⟨HP0, HA⟩
      iapply HK
      isplitl [HT HM HX HP HA]
      · isplitl [HT]; · iexact HT
        isplitl [HM]; · iexact HM
        isplitl [HX]; · iexact HX
        isplitl [HP]; · iexact HP
        iexact HA
      isplitl [HO]; · iexists W; iexact HO
      iexact HP0

end Cert.DownIdeal.Moe
end
end
-- ==== Proof.DownRegion.lean ====
/- What the four runs of the second product share: the tables, the state between grid points at the launch and at the end,
   and a grid point of the first run and of a later one. -/
module

public import proofs.«01_k».proof.Proof.DownPoint
public import proofs.«01_k».proof.Proof.Gen.DownIdeal.Launch
public import proofs.«01_k».proof.Proof.Gen.DownIdeal.Regions
public import Idealize.ShloMosaic.Lib.Pipeline.FrameBody
public import Idealize.ShloMosaic.Lib.Pipeline.RegionArraysDT
public import Idealize.ShloMosaic.Lib.Pipeline.RegionArraysS
public import Idealize.ShloMosaic.Lib.Claim

@[expose] public section

set_option maxRecDepth 16384

noncomputable section

namespace Cert.DownIdeal.Moe

open Idealize.ShloMosaic Idealize.ShloMosaic.ValueIdx Idealize.ShloMosaic.TcCoe Idealize.ShloMosaic.Tactic Cert.DownIdeal Cert.DownIdeal.Gen
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf RegionSeg)

variable {F : FTy → Type} [FloatOps F]

local notation "𝕄" => Idealize.ShloMosaic.MT nD τ sig Unit (Elt F) ℕ (Pipeline.UD sig nD τ) ℕ

variable (m : (ℓ : Loc nD τ sig) → Buf (Elt F) ℓ)

/-- A core's buffers when the first run is entered, read at a reference. -/
abbrev V (c : Dev nD) (b : Ref sig .tc) : Buf (Elt F) ((c : Thread nD τ).loc b) := V4 m c (Proc.devRef .tc b)

/-- The tables fit together as the first run finds them. -/
abbrev GoodAt : Prop := Good (F := F) (V m 0 main_arg2) (V m 0 main_arg3) (V m 0 main_v10)

/-- The coordinates of a grid point. -/
theorem coord0 (t : Fin grid0.N) : (grid0.coords t 0).val = t.val / 40 := by
  have ht : t.val < 160 := Nat.lt_of_lt_of_eq t.isLt N_0
  have e : (grid0.coords t 0).val = t.val / 40 % 4 := Pipeline.Grid.coords_val t 0 (by decide) rfl
  omega
theorem coord1 (t : Fin grid0.N) : (grid0.coords t 1).val = t.val % 40 := by
  have e : (grid0.coords t 1).val = t.val / 1 % 40 := Pipeline.Grid.coords_val t 1 (by decide) rfl
  omega

/-- The result block of a grid point. -/
theorem out_index (t : Fin grid0.N) : cc1_transform_4 (grid0.coords t) = ![t.val % 40, t.val / 40] := by
  have h0 := coord0 t
  have h1 := coord1 t
  have ht : t.val < 160 := Nat.lt_of_lt_of_eq t.isLt N_0
  unfold cc1_transform_4
  dsimp only
  rw [h0, h1, BitVec.toNat_ofNat, BitVec.toNat_ofNat, Nat.mod_eq_of_lt (a := t.val / 40) (b := 2 ^ 32) (by omega), Nat.mod_eq_of_lt (a := t.val % 40) (b := 2 ^ 32) (by omega)]

/-- No point's result block is a later point's. -/
theorem out_ne (u u' : Fin grid0.N) (h : u'.val < u.val) : cc1_transform_4 (grid0.coords u') ≠ cc1_transform_4 (grid0.coords u) := by
  rw [out_index, out_index]
  intro e
  have e0 : u'.val % 40 = u.val % 40 := congrFun e 0
  have e1 : u'.val / 40 = u.val / 40 := congrFun e 1
  omega

/-- Run 1 may add in place. -/
theorem ok1_all (pf : pre1.Contents (Elt F)) : ok1 pf where
  isIn := rfl
  isOut := rfl
  rank := rfl
  size := by decide
  index := fun c a a' h => by
    have e : a = a' := Fin.ext h
    subst e; rfl
  ordered := fun u u' h _ _ => out_ne u u' h

/-- Run 2 may add in place. -/
theorem ok2_all (pf : pre2.Contents (Elt F)) : ok2 pf where
  isIn := rfl
  isOut := rfl
  rank := rfl
  size := by decide
  index := fun c a a' h => by
    have e : a = a' := Fin.ext h
    subst e; rfl
  ordered := fun u u' h _ _ => out_ne u u' h

/-- Run 3 may add in place. -/
theorem ok3_all (pf : pre3.Contents (Elt F)) : ok3 pf where
  isIn := rfl
  isOut := rfl
  rank := rfl
  size := by decide
  index := fun c a a' h => by
    have e : a = a' := Fin.ext h
    subst e; rfl
  ordered := fun u u' h _ _ => out_ne u u' h

/-- The tables' contents, the same for each run. -/
abbrev adm : (p : Fin 4) → (pcfgs (F := F) p).Adm
  | ⟨0, _⟩ => ⟨fun k => V m 0 (pre0.ref k), trivial⟩
  | ⟨1, _⟩ => ⟨fun k => V m 0 (pre1.ref k), ok1_all _⟩
  | ⟨2, _⟩ => ⟨fun k => V m 0 (pre2.ref k), ok2_all _⟩
  | ⟨3, _⟩ => ⟨fun k => V m 0 (pre3.ref k), ok3_all _⟩
  | ⟨n + 4, h⟩ => absurd h (by omega)
abbrev pcs : Fin 4 → Pipeline.Cfg sig Λ₀ := Pipeline.pin pcfgs (adm m)

/-- A kind of tile is one of those the body stores for. -/
theorem stored (v : BitVec 32) (h : IsKind v) :
    (!(k0_cond4 v == 1#1) && !(k0_cond5 v == 1#1) && !(k0_cond6 v == 1#1) && !(k0_cond7 v == 1#1) && !(k0_cond8 v == 1#1) && !(k0_cond9 v == 1#1)
      && !(k0_cond10 v == 1#1) && !(k0_cond11 v == 1#1) && !(k0_cond12 v == 1#1) && !(k0_cond13 v == 1#1)) = false := by
  rcases h with h | h | h | h | h | h | h <;> subst h <;> decide

/-- The word of the tile's kind, as the pipeline reads it. -/
theorem atD_ent (pf : pre0.Contents (Elt F)) (i : grid0.Coords) : pf.atD 1 (k0_off8 i) = ent (F := F) (pf 1) (i 1).val := by
  unfold Pipeline.Prefetch.Contents.atD
  rw [dif_pos (fun a => by
    match a with
    | ⟨0, _⟩ =>
      have e := off8_eq i
      have hm := m_lt i
      show k0_off8 i 0 < 40
      omega)]
  unfold ent
  congr 1
  funext a
  match a with
  | ⟨0, _⟩ =>
    have e := off8_eq i
    have hm := m_lt i
    exact Fin.ext (show k0_off8 i 0 = (i 1).val % 40 by omega)

/-- The result's window is stored at every point. -/
theorem stores (g : GoodAt m) (pf : pre0.Contents (Elt F)) (h : pf 1 = V m 0 main_arg3) (i : grid0.Coords) :
    (!(k0_cond4 (pf.atD 1 (k0_off8 i)) == 1#1) && !(k0_cond5 (pf.atD 1 (k0_off8 i)) == 1#1) && !(k0_cond6 (pf.atD 1 (k0_off8 i)) == 1#1) && !(k0_cond7 (pf.atD 1 (k0_off8 i)) == 1#1) && !(k0_cond8 (pf.atD 1 (k0_off8 i)) == 1#1) && !(k0_cond9 (pf.atD 1 (k0_off8 i)) == 1#1)
      && !(k0_cond10 (pf.atD 1 (k0_off8 i)) == 1#1) && !(k0_cond11 (pf.atD 1 (k0_off8 i)) == 1#1) && !(k0_cond12 (pf.atD 1 (k0_off8 i)) == 1#1) && !(k0_cond13 (pf.atD 1 (k0_off8 i)) == 1#1)) = false := by
  rw [atD_ent pf i, h]
  exact stored _ (g.kind _)

/-- A buffer held whole, as its contents, and back. -/
theorem whole_owns (c : Dev nD) (b : Ref sig .tc) (f : b.ty.Contents (Elt F)) :
    (((c : Thread nD τ).loc b) ↦{fullShare} f : sProp 𝕄) ⊢ owns (c : Thread nD τ) (Memref.whole b) fullShare f := by rw [owns_whole]
theorem owns_of_whole (c : Dev nD) (b : Ref sig .tc) (f : b.ty.Contents (Elt F)) :
    (owns (c : Thread nD τ) (Memref.whole b) fullShare f : sProp 𝕄) ⊢ ((c : Thread nD τ).loc b) ↦{fullShare} f := by rw [owns_whole]
theorem whole_owns_some (c : Dev nD) (b : Ref sig .tc) :
    iprop(∃ f : Buf (Elt F) ((c : Thread nD τ).loc b), ((c : Thread nD τ).loc b) ↦{fullShare} f) ⊢ (iprop(∃ A, owns (c : Thread nD τ) (Memref.whole b) fullShare A) : sProp 𝕄) := by
  iintro ⟨%f, H⟩
  iexists f
  iapply (whole_owns c b f); iexact H
theorem some_of_owns (c : Dev nD) (b : Ref sig .tc) (A : b.ty.Contents (Elt F)) :
    (owns (c : Thread nD τ) (Memref.whole b) fullShare A : sProp 𝕄) ⊢ iprop(∃ f : Buf (Elt F) ((c : Thread nD τ).loc b), ((c : Thread nD τ).loc b) ↦{fullShare} f) := by
  iintro H
  iexists A
  iapply (owns_of_whole c b A); iexact H
theorem whole_view (c : Dev nD) (b : Ref sig .tc) :
    iprop(∃ f : Buf (Elt F) ((c : Thread nD τ).loc b), ((c : Thread nD τ).loc b) ↦{fullShare} f)
      ⊢ (iprop(∃ g, (Memref.whole b).view.loc (c : Thread nD τ) ↦[(Memref.whole b).view.set]{fullShare} g) : sProp 𝕄) := by
  iintro ⟨%f, H⟩
  ihave H' := (whole_owns c b f) $$ H
  unfold owns
  icases H' with ⟨%g, -, H'⟩
  iexists g; iexact H'
theorem whole_of_view (c : Dev nD) (b : Ref sig .tc) :
    (iprop(∃ g, (Memref.whole b).view.loc (c : Thread nD τ) ↦[(Memref.whole b).view.set]{fullShare} g) : sProp 𝕄)
      ⊢ iprop(∃ f : Buf (Elt F) ((c : Thread nD τ).loc b), ((c : Thread nD τ).loc b) ↦{fullShare} f) := by
  iintro ⟨%g, H⟩
  ihave H' := (own_intro c (Memref.whole b) g _ rfl) $$ H
  iexists _
  iapply (owns_of_whole c b _); iexact H'

/-- The buffers of a run make the state before its first point. -/
theorem phi_in (c : Dev nD) (MF : Memref sig .tc .vmem S3584x1024 .f32) (MB : Memref sig .tc .vmem S3584x1024 .bf16) (sm : SemLoc sig) (klo : ℕ)
    (te md nx : Vec F S40 .i32) (Wt : Vec F S8x14336x4096 .f32) (PF PB Rest PR MWs : sProp 𝕄)
    (hF : PF ⊢ iprop(∃ g, MF.view.loc (c : Thread nD τ) ↦[MF.view.set]{fullShare} g)) (hB : PB ⊢ iprop(∃ A, owns (c : Thread nD τ) MB fullShare A)) :
    iprop((((PF ∗ PB) ∗ Rest) ∗ PR ∗ semVal ((c : Thread nD τ), sm) 0 ∗ (MW.view.loc (c : Thread nD τ) ↦{fullShare} Wt) ∗ MWs) ∗ tbl c MTe te ∗ tbl c MM md ∗ tbl c MX nx)
      ⊢ iprop(inv c MF MB sm klo te md nx Wt 0 ∗ PR ∗ Rest) := by
  unfold inv pend idleAt
  iintro ⟨⟨⟨⟨HF, HB⟩, HR⟩, Hg, HS, HW, -⟩, HT, HM, HX⟩
  isplitr [Hg HR]
  · isplitl [HT]; · iexact HT
    isplitl [HM]; · iexact HM
    isplitl [HX]; · iexact HX
    isplitl [HF HS HW]
    · isplitl [HW]; · iexact HW
      isplitl [HF]; · iapply hF; iexact HF
      iexact HS
    iapply hB; iexact HB
  · isplitl [Hg]; · iexact Hg
    iexact HR

/-- After the last tile nothing is on its way. -/
theorem next_last (klo : ℕ) (te md nx : Vec F S40 .i32) (g : Good te md nx) : nextOff klo te nx 3 39 = none := by
  unfold nextOff
  have h := g.last
  rw [if_neg (by omega), if_neg (by omega)]

/-- The state after the last point gives the buffers back. -/
theorem phi_out (c : Dev nD) (MF : Memref sig .tc .vmem S3584x1024 .f32) (MB : Memref sig .tc .vmem S3584x1024 .bf16) (sm : SemLoc sig) (klo : ℕ)
    (te md nx : Vec F S40 .i32) (g : Good te md nx) (Wt : Vec F S8x14336x4096 .f32) (PF PB Rest PR : sProp 𝕄)
    (hF : iprop(∃ g, MF.view.loc (c : Thread nD τ) ↦[MF.view.set]{fullShare} g) ⊢ PF) (hB : ∀ A, owns (c : Thread nD τ) MB fullShare A ⊢ PB) :
    iprop(inv c MF MB sm klo te md nx Wt (159 + 1) ∗ PR ∗ Rest)
      ⊢ iprop((((PF ∗ PB) ∗ Rest) ∗ PR ∗ semVal ((c : Thread nD τ), sm) 0 ∗ (MW.view.loc (c : Thread nD τ) ↦{fullShare} Wt)) ∗ tbl c MTe te ∗ tbl c MM md ∗ tbl c MX nx) := by
  rw [inv_succ, show 159 / 40 = 3 from rfl, show 159 % 40 = 39 from rfl, next_last _ _ _ _ g]
  unfold pend idleAt
  iintro ⟨⟨HT, HM, HX, ⟨HW, HF, HS⟩, HB⟩, Hg, HR⟩
  isplitr [HT HM HX]
  · isplitl [HF HB HR]
    · isplitl [HF HB]
      · isplitl [HF]; · iapply hF; iexact HF
        iapply (hB _); iexact HB
      iexact HR
    isplitl [Hg]; · iexact Hg
    isplitl [HS]; · iexact HS
    iexact HW
  isplitl [HT]; · iexact HT
  isplitl [HM]; · iexact HM
  iexact HX

/-- A grid point of the first run. -/
theorem first_point (c : Dev nD) (K : PUnit → sProp 𝕄) (i : grid0.Coords) (arg5 : Memref sig .tc .vmem S512x3584 .bf16) (harg5 : arg5.IsWhole) (arg7 : Memref sig .tc .vmem S512x1 .f32) (harg7 : arg7.IsWhole) (arg8 : Memref sig .tc .vmem S512x1024 .f32) (harg8 : arg8.IsWhole) (arg9 : Memref sig .tc .vmem S3584x1024 .f32) (harg9 : arg9.IsWhole) (arg10 : Memref sig .tc .vmem S3584x1024 .bf16) (harg10 : arg10.IsWhole) (arg11 : DmaSems sig S1)
    (te md nx : Vec F S40 .i32) (g : Good te md nx)
    (Wt : Vec F S8x14336x4096 .f32) (s : ℕ) (h0 : (i 0).val = s / 40) (h1 : (i 1).val = s % 40) (W : Waits sig Unit)
    (H : Vec F S512x3584 .bf16) (D : Vec F S512x1024 .f32) (S : Vec F S512x1 .f32) :
    iprop(inv c arg9 arg10 (dsem arg11) 0 te md nx Wt s ∗ owes (c : Thread nD τ) 0 W
      ∗ (owns (c : Thread nD τ) arg5 fullShare H ∗ owns (c : Thread nD τ) arg7 fullShare S ∗ owns (c : Thread nD τ) arg8 fullShare D)
      ∗ (iprop(inv c arg9 arg10 (dsem arg11) 0 te md nx Wt (s + 1) ∗ (∃ W', owes (c : Thread nD τ) 0 W')
          ∗ (owns (c : Thread nD τ) arg5 fullShare H ∗ owns (c : Thread nD τ) arg7 fullShare S
            ∗ owns (c : Thread nD τ) arg8 fullShare (first (ent md (s % 40)) H (k0_pay1 (blkAt Wt (curOff 0 te (s / 40) (s % 40)))) S))) -∗ K ⟨⟩))
      ⊢ wp frame (wpE (defs₀ (F := F)) Variants.none c none) Set.univ (cc0_matmul_residual_skel (F := F) i MTe (Memref.isWhole_whole _) MM (Memref.isWhole_whole _) MX (Memref.isWhole_whole _) arg5 harg5 MW (Memref.isWhole_whole _) arg7 harg7 arg8 harg8 arg9 harg9 arg10 harg10 arg11) K := by
  rw [body0_eq]
  refine point c K 0 i _ _ _ arg9 harg9 arg10 harg10 arg11 (by decide) _ te md nx g Wt s h0 h1 W _ _ ?_
  iintro ⟨⟨H5, HS, H8⟩, HA, HK⟩
  iapply (first_run c K i _ _ _ _ _ _ _ _ _ _ _ _ _ _ _ _ _ _ _ (ent md (s % 40)) (g.kind _) H D _ S)
  isplitl [H5]; · iexact H5
  isplitl [HS]; · iexact HS
  isplitl [H8]; · iexact H8
  isplitl [HA]; · iexact HA
  iintro ⟨H5, HS, H8, HA⟩
  iapply HK
  isplitr [HA]
  · isplitl [H5]; · iexact H5
    isplitl [HS]; · iexact HS
    iexact H8
  iexact HA

/-- A grid point of a later run, which adds to the sums before it. -/
theorem later_point (c : Dev nD) (K : PUnit → sProp 𝕄) (i : grid1.Coords) (arg5 : Memref sig .tc .vmem S512x3584 .bf16) (harg5 : arg5.IsWhole) (arg7 : Memref sig .tc .vmem S512x1024 .f32) (harg7 : arg7.IsWhole) (arg8 : Memref sig .tc .vmem S512x1 .f32) (harg8 : arg8.IsWhole) (arg9 : Memref sig .tc .vmem S512x1024 .f32) (harg9 : arg9.IsWhole) (arg10 : Memref sig .tc .vmem S3584x1024 .f32) (harg10 : arg10.IsWhole) (arg11 : Memref sig .tc .vmem S3584x1024 .bf16) (harg11 : arg11.IsWhole) (arg12 : DmaSems sig S1)
    (te md nx : Vec F S40 .i32) (g : Good te md nx)
    (Wt : Vec F S8x14336x4096 .f32) (s : ℕ) (h0 : (i 0).val = s / 40) (h1 : (i 1).val = s % 40) (W : Waits sig Unit)
    (H : Vec F S512x3584 .bf16) (D : Vec F S512x1024 .f32) (S : Vec F S512x1 .f32) (R : Vec F S512x1024 .f32)
    (klo : ℕ) (hk : klo ≤ 10752) (d1 : ∀ a b v, Decidable (chk1 klo i a b v)) (d2 : ∀ a b v, Decidable (k0_chk2 i a b v)) (d3 : ∀ a b v u, Decidable (chk3 klo i a b v u))
    (B : Prog (TpuEff nD τ sig (Elt F) Λ₀ .tc) PUnit) (hB : B = weightsThen klo i d1 d2 d3 arg10 harg10 arg11 harg11 arg12 (tail1 i MTe (Memref.isWhole_whole _) MM (Memref.isWhole_whole _) MX (Memref.isWhole_whole _) arg5 harg5 MW (Memref.isWhole_whole _) arg7 harg7 arg8 harg8 arg9 harg9 arg10 harg10 arg11 harg11 arg12)) :
    iprop(inv c arg10 arg11 (dsem arg12) klo te md nx Wt s ∗ owes (c : Thread nD τ) 0 W
      ∗ (owns (c : Thread nD τ) arg5 fullShare H ∗ owns (c : Thread nD τ) arg7 fullShare R ∗ owns (c : Thread nD τ) arg8 fullShare S ∗ owns (c : Thread nD τ) arg9 fullShare D)
      ∗ (iprop(inv c arg10 arg11 (dsem arg12) klo te md nx Wt (s + 1) ∗ (∃ W', owes (c : Thread nD τ) 0 W')
          ∗ (owns (c : Thread nD τ) arg5 fullShare H ∗ owns (c : Thread nD τ) arg7 fullShare R ∗ owns (c : Thread nD τ) arg8 fullShare S
            ∗ owns (c : Thread nD τ) arg9 fullShare (later (ent md (s % 40)) H (k0_pay1 (blkAt Wt (curOff klo te (s / 40) (s % 40)))) S R))) -∗ K ⟨⟩))
      ⊢ wp frame (wpE (defs₀ (F := F)) Variants.none c none) Set.univ B K := by
  subst hB
  refine point c K klo i _ _ _ arg10 harg10 arg11 harg11 arg12 hk _ te md nx g Wt s h0 h1 W _ _ ?_
  iintro ⟨⟨H5, HR, HS, H8⟩, HA, HK⟩
  iapply (later_run c K i _ _ _ _ _ _ _ _ _ _ _ _ _ _ _ _ _ _ _ _ _ (ent md (s % 40)) (g.kind _) H D _ S R)
  isplitl [H5]; · iexact H5
  isplitl [HR]; · iexact HR
  isplitl [HS]; · iexact HS
  isplitl [H8]; · iexact H8
  isplitl [HA]; · iexact HA
  iintro ⟨H5, HR, HS, H8, HA⟩
  iapply HK
  isplitr [HA]
  · isplitl [H5]; · iexact H5
    isplitl [HR]; · iexact HR
    isplitl [HS]; · iexact HS
    iexact H8
  iexact HA

end Cert.DownIdeal.Moe
end
end
-- ==== Proof.DownFirst.lean ====
/- The first run of the second product, over any buffers it is entered with. -/
module

public import proofs.«01_k».proof.Proof.DownRegion

@[expose] public section

set_option maxRecDepth 16384

noncomputable section

namespace Cert.DownIdeal.Moe

open Idealize.ShloMosaic Idealize.ShloMosaic.ValueIdx Idealize.ShloMosaic.TcCoe Idealize.ShloMosaic.Tactic Cert.DownIdeal Cert.DownIdeal.Gen
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf RegionSeg)

variable {F : FTy → Type} [FloatOps F]

local notation "𝕄" => Idealize.ShloMosaic.MT nD τ sig Unit (Elt F) ℕ (Pipeline.UD sig nD τ) ℕ

variable (m : (ℓ : Loc nD τ sig) → Buf (Elt F) ℓ) (v : Dev nD → Valuation τ sig (Elt F))

/-- The tables, held whole. -/
theorem tables_eq (c : Dev nD) (w : pre0.Contents (Elt F)) :
    (Pipeline.prefHeld pre0 c (fun _ => fullShare) w : sProp 𝕄) = iprop(tbl c MTe (w 0) ∗ tbl c MM (w 1) ∗ tbl c MX (w 2)) := by
  unfold Pipeline.prefHeld
  rw [BI.bigSep_eq_bigSepL_of_eq [0, 1, 2] (by decide) (by decide)]; rfl

/-- The weight, which the body copies from itself. -/
abbrev H0 : Finset (Ref sig .tc) := {main_arg1}

theorem hbm_eq (c : Dev nD) (w : Valuation τ sig (Elt F)) :
    (BI.bigSep H0 fun b => (((c : Thread nD τ).loc b) ↦{fullShare} w (Proc.devRef .tc b) : sProp 𝕄))
      = iprop(((c : Thread nD τ).loc main_arg1) ↦{fullShare} w (Proc.devRef .tc main_arg1)) := by
  rw [BI.bigSep_eq_bigSepL_of_eq [main_arg1] (by decide) (by decide)]; rfl

namespace R0

/-- Run 0. -/
abbrev cfgA : Pipeline.Cfg sig Λ₀ := cfg0 (adm m 0)
theorem cfgA_N : (cfgA m).N = 160 := N_0

/-- Window `w`'s block at a point, read off its array as the run finds it. -/
def iblk (c : Dev nD) (w : Fin (cfgA m).W) (t : Fin (cfgA m).N) : (((cfgA m).win w).xblock ((cfgA m).grid.coords t)).Idx → Elt F ((cfgA m).win w).elt :=
  (((cfgA m).win w).blk t).view.read (Elt F) (v c (Proc.devRef .tc (Pipeline.arrRef spec0 w)))

/-- The rows a grid point writes. -/
def outAt (c : Dev nD) (t : Fin (cfgA m).N) : Vec F S512x1024 .f32 :=
  first (ent (V m c main_arg3) (t.val % 40)) (iblk m v c 0 t) (k0_pay1 (blkAt (V m c main_arg1) (curOff 0 (V m c main_arg2) (t.val / 40) (t.val % 40)))) (iblk m v c 1 t)

/-- The state between points, on the run's buffers. -/
abbrev invAt (c : Dev nD) (n : ℕ) : sProp 𝕄 := inv c (Memref.whole cc0_scratch0) (Memref.whole cc0_scratch1) (dsem cc0_scratch2) 0 (V m c main_arg2) (V m c main_arg3) (V m c main_v10) (V m c main_arg1) n
/-- The scoped buffers the body does not touch. -/
abbrev restAt (c : Dev nD) : sProp 𝕄 := Pipeline.scopedRestBut (Ix := Unit) (Name := ℕ) (U := Pipeline.UD sig nD τ) (Lvl := ℕ) (Val := Elt F) spec0 c [cc0_scratch0, cc0_scratch1]

/-- The pipeline's data: the rows in, the rows out, the blocks between. -/
def dat (c : Dev nD) : Dat τ (Elt F) Unit ℕ (Pipeline.UD sig nD τ) ℕ (cfgA m) c where
  A w := v c (Proc.devRef .tc (Pipeline.arrRef spec0 w))
  after w t := match w with
    | ⟨0, _⟩ => iblk m v c 0 t
    | ⟨1, _⟩ => iblk m v c 1 t
    | ⟨2, _⟩ => outAt m v c t
  Φ t := iprop(invAt m c t.val ∗ (∃ r, prngReg c r) ∗ restAt c)
  q _ := fullShare
  owed _ := 0

theorem A_eq (c : Dev nD) (w : Fin (cfgA m).W) : (dat m v c).A w = v c (Proc.devRef .tc (Pipeline.arrRef spec0 w)) := by
  dsimp only [dat]
theorem after0 (c : Dev nD) (t : Fin (cfgA m).N) : (dat m v c).after 0 t = iblk m v c 0 t := rfl
theorem after1 (c : Dev nD) (t : Fin (cfgA m).N) : (dat m v c).after 1 t = iblk m v c 1 t := rfl
theorem after2 (c : Dev nD) (t : Fin (cfgA m).N) : (dat m v c).after 2 t = outAt m v c t := rfl

/-- Each input window holds its block at every point. -/
theorem before0 (c : Dev nD) (t : Fin (cfgA m).N) (d) : (dat m v c).before 0 t d = iblk m v c 0 t :=
  ((dat m v c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem before1 (c : Dev nD) (t : Fin (cfgA m).N) (d) : (dat m v c).before 1 t d = iblk m v c 1 t :=
  ((dat m v c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)

abbrev ms0 (t : Fin (cfgA m).N) : Memref sig .tc .vmem S512x3584 .bf16 := spec0_0.stage ((cfgA m).slots t 0)
abbrev ms1 (t : Fin (cfgA m).N) : Memref sig .tc .vmem S512x1 .f32 := spec0_1.stage ((cfgA m).slots t 1)
abbrev ms2 (t : Fin (cfgA m).N) : Memref sig .tc .vmem S512x1024 .f32 := spec0_2.stage ((cfgA m).slots t 2)

/-- The body at a point, on what the pipeline calls it with. -/
abbrev bodyAt (t : Fin (cfgA m).N) : Prog (TpuEff nD τ sig (Elt F) Λ₀ .tc) PUnit :=
  cc0_matmul_residual_skel (grid0.coords t) MTe (Memref.isWhole_whole _) MM (Memref.isWhole_whole _) MX (Memref.isWhole_whole _) (ms0 m t) (hstage0_0 (((cfgA m).slots t 0).cast nbuf0_0))
    MW (Memref.isWhole_whole _) (ms1 m t) (hstage0_1 (((cfgA m).slots t 1).cast nbuf0_1)) (ms2 m t) (hstage0_2 (((cfgA m).slots t 2).cast nbuf0_2)) (Memref.whole cc0_scratch0) (Memref.isWhole_whole _) (Memref.whole cc0_scratch1) (Memref.isWhole_whole _) cc0_scratch2

/-- The result's window is stored at every point. -/
theorem idle_out (g : GoodAt m) (i : grid0.Coords) : (cfgA m).idle 2 i = false := stores m g (adm m 0).1 rfl i

theorem leaves0 (c : Dev nD) (t : Fin (cfgA m).N) :
    (dat m v c).leavesExact 0 t = owns (c : Thread nD τ) (ms0 m t) fullShare ((dat m v c).after 0 t) := by
  unfold Dat.leavesExact; rw [show (cfgA m).idle 0 (grid0.coords t) = false from rfl]; rfl
theorem leaves1 (c : Dev nD) (t : Fin (cfgA m).N) :
    (dat m v c).leavesExact 1 t = owns (c : Thread nD τ) (ms1 m t) fullShare ((dat m v c).after 1 t) := by
  unfold Dat.leavesExact; rw [show (cfgA m).idle 1 (grid0.coords t) = false from rfl]; rfl
theorem leaves2 (g : GoodAt m) (c : Dev nD) (t : Fin (cfgA m).N) :
    (dat m v c).leavesExact 2 t = owns (c : Thread nD τ) (ms2 m t) fullShare ((dat m v c).after 2 t) := by
  unfold Dat.leavesExact; rw [idle_out m g (grid0.coords t)]; rfl

theorem Φ_eq (c : Dev nD) (t : Fin ((cfgA m).N + 1)) : (dat m v c).Φ t = iprop(invAt m c t.val ∗ (∃ r, prngReg c r) ∗ restAt c) := rfl

/-- What the body is called with. -/
def bodyPre (c : Dev nD) (t : Fin (cfgA m).N) : sProp 𝕄 :=
  iprop((dat m v c).Φ t.castSucc ∗ (dat m v c).owesAt () t.castSucc
    ∗ (∃ d, owns (c : Thread nD τ) (ms0 m t) fullShare ((dat m v c).before 0 t d))
    ∗ (∃ d, owns (c : Thread nD τ) (ms1 m t) fullShare ((dat m v c).before 1 t d))
    ∗ (∃ d, owns (c : Thread nD τ) (ms2 m t) fullShare ((dat m v c).before 2 t d)))

/-- What it returns. -/
def bodyPost (c : Dev nD) (t : Fin (cfgA m).N) : sProp 𝕄 :=
  iprop((dat m v c).Φ t.succ ∗ (dat m v c).owesAt () t.succ ∗ (dat m v c).leavesExact 0 t ∗ (dat m v c).leavesExact 1 t ∗ (dat m v c).leavesExact 2 t)

set_option maxHeartbeats 4000000 in
/-- The body at any point. -/
theorem sound_body (g : GoodAt m) (c : Dev nD) (t : Fin (cfgA m).N) :
    bodyPre m v c t ⊢ wp frame (wpE (defs₀ (F := F)) Variants.none c none) Set.univ (bodyAt m t) (fun _ => bodyPost m v c t) := by
  have hc : c = 0 := Subsingleton.elim _ _
  subst hc
  unfold bodyPre bodyPost bodyAt
  simp only [before0, before1]
  rw [leaves0, leaves1, leaves2 m v g, after0, after1, after2]
  rw [Φ_eq, Φ_eq, Fin.val_succ, Fin.val_castSucc]
  unfold Dat.owesAt Pipeline.owesWithin
  rw [show (dat m v 0).owed t.castSucc = 0 from rfl, show (dat m v 0).owed t.succ = 0 from rfl]
  unfold outAt
  iintro ⟨⟨HI, Hg⟩, ⟨%W, -, HW⟩, ⟨%d0, H0⟩, ⟨%d1, H1⟩, ⟨%d2, H2⟩⟩
  iapply (first_point (F := F) 0 _ (grid0.coords t) (ms0 m t) (hstage0_0 (((cfgA m).slots t 0).cast nbuf0_0)) (ms1 m t) (hstage0_1 (((cfgA m).slots t 1).cast nbuf0_1)) (ms2 m t) (hstage0_2 (((cfgA m).slots t 2).cast nbuf0_2)) (Memref.whole cc0_scratch0) (Memref.isWhole_whole _) (Memref.whole cc0_scratch1) (Memref.isWhole_whole _) cc0_scratch2 (V m 0 main_arg2) (V m 0 main_arg3) (V m 0 main_v10) g (V m 0 main_arg1) t.val (coord0 t) (coord1 t) W (iblk m v 0 0 t) ((dat m v 0).before 2 t d2) (iblk m v 0 1 t))
  isplitl [HI]; · iexact HI
  isplitl [HW]; · iexact HW
  isplitl [H0 H1 H2]
  · isplitl [H0]; · iexact H0
    isplitl [H1]; · iexact H1
    iexact H2
  iintro ⟨HI, ⟨%W', HW'⟩, H0, H1, H2⟩
  isplitl [HI Hg]
  · isplitl [HI]; · iexact HI
    iexact Hg
  isplitl [HW']
  · iexists W'; isplitr; · ipureintro; exact fun _ _ => Or.inl trivial
    iexact HW'
  isplitl [H0]; · iexact H0
  isplitl [H1]; · iexact H1
  iexact H2

/-- The body table's row at a point is the body there. -/
theorem defs₀_row (t : Fin (cfgA m).N) :
    defs₀ (F := F) .tc (cfgA m).body ((cfgA m).bodyArgs t ((cfgA m).slots t)) = bodyAt m t := by
  unfold defs₀; rw [Defs.onTc_tc]; rfl

/-- The pipeline's obligation on the body. -/
theorem body_obligation (g : GoodAt m) (c : Dev nD) :
    BodyObligation (dat (F := F) m v c) (defs₀ (F := F)) Variants.none () Set.univ := fun t => by
  rw [bigSep_W0, bigSep_W0, defs₀_row]
  exact triple_restated (sound_body m v g c t) rfl .rfl fun _ => .rfl

/-- The semaphore of the copies. -/
def osem : Fin 1 → SemLoc sig := fun _ => SemLoc.dma 6

theorem ownSemFacts : Pipeline.OwnSemFacts spec0 osem := by decide

theorem ownSems_eq (c : Dev nD) :
    (Pipeline.ownSems0 (Ix := Unit) (Name := ℕ) (U := Pipeline.UD sig nD τ) (Lvl := ℕ) (Val := Elt F) (τ := τ) osem c : sProp 𝕄)
      = semVal ((c : Thread nD τ), SemLoc.dma 6) 0 := by
  rw [Pipeline.ownSems0_eq_of_list c osem [0] (by decide) (by decide)]; rfl

theorem tables (c : Dev nD) : (Pipeline.prefHeld pre0 c (fun _ => fullShare) (adm m 0).1 : sProp 𝕄)
    = iprop(tbl c MTe (V m 0 main_arg2) ∗ tbl c MM (V m 0 main_arg3) ∗ tbl c MX (V m 0 main_v10)) := tables_eq c (adm m 0).1

/-- The launch hands over the state before the first point. -/
theorem hin (hv : ∀ c, v c (Proc.devRef .tc main_arg1) = V m c main_arg1) (c : Dev nD) (X : sProp 𝕄) :
    iprop(iprop(Pipeline.scopedRest spec0 c ∗ (∃ r, prngReg c r) ∗ Pipeline.ownSems0 osem c
        ∗ (BI.bigSep H0 fun b => (((c : Thread nD τ).loc b) ↦{fullShare} v c (Proc.devRef .tc b) : sProp 𝕄)) ∗ X)
      ∗ Pipeline.prefHeld pre0 c (fun _ => fullShare) (adm m 0).1) ⊢ (dat m v c).Φ 0 := by
  have hc : c = 0 := Subsingleton.elim _ _
  subst hc
  rw [Φ_eq, scopedRest0_split, ownSems_eq, hbm_eq, hv, tables]
  exact phi_in 0 (Memref.whole cc0_scratch0) (Memref.whole cc0_scratch1) (dsem cc0_scratch2) 0 _ _ _ _ _ _ _ _ _ (whole_view 0 cc0_scratch0) (whole_owns_some 0 cc0_scratch1)

/-- The state after the last point gives the launch's back. -/
theorem hout (hv : ∀ c, v c (Proc.devRef .tc main_arg1) = V m c main_arg1) (g : GoodAt m) (c : Dev nD) :
    (dat m v c).Φ (Fin.last (cfgA m).N) ⊢ iprop(iprop(Pipeline.scopedRest spec0 c ∗ (∃ r, prngReg c r) ∗ Pipeline.ownSems0 osem c
        ∗ (BI.bigSep H0 fun b => (((c : Thread nD τ).loc b) ↦{fullShare} v c (Proc.devRef .tc b) : sProp 𝕄)))
      ∗ Pipeline.prefHeld pre0 c (fun _ => fullShare) (adm m 0).1) := by
  have hc : c = 0 := Subsingleton.elim _ _
  subst hc
  rw [Φ_eq, scopedRest0_split, ownSems_eq, hbm_eq, hv, tables]
  have e : (Fin.last (cfgA m).N).val = 159 + 1 := by rw [Fin.val_last, cfgA_N]
  rw [e]
  exact phi_out 0 (Memref.whole cc0_scratch0) (Memref.whole cc0_scratch1) (dsem cc0_scratch2) 0 _ _ _ g _ _ _ _ _ (whole_of_view 0 cc0_scratch0) (some_of_owns 0 cc0_scratch1)

end R0

end Cert.DownIdeal.Moe
end
end
-- ==== Proof.DownLater.lean ====
/- The three later runs of the second product, each over any buffers it is entered with. -/
module

public import proofs.«01_k».proof.Proof.DownFirst

@[expose] public section

set_option maxRecDepth 16384

noncomputable section

namespace Cert.DownIdeal.Moe

open Idealize.ShloMosaic Idealize.ShloMosaic.ValueIdx Idealize.ShloMosaic.TcCoe Idealize.ShloMosaic.Tactic Cert.DownIdeal Cert.DownIdeal.Gen
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf RegionSeg)

variable {F : FTy → Type} [FloatOps F]

local notation "𝕄" => Idealize.ShloMosaic.MT nD τ sig Unit (Elt F) ℕ (Pipeline.UD sig nD τ) ℕ

variable (m : (ℓ : Loc nD τ sig) → Buf (Elt F) ℓ) (v : Dev nD → Valuation τ sig (Elt F))

namespace R1

/-- Run 1. -/
abbrev cfgA : Pipeline.Cfg sig Λ₀ := cfg1 (adm m 1)
theorem cfgA_N : (cfgA m).N = 160 := N_1

/-- Window `w`'s block at a point, read off its array as the run finds it. -/
def iblk (c : Dev nD) (w : Fin (cfgA m).W) (t : Fin (cfgA m).N) : (((cfgA m).win w).xblock ((cfgA m).grid.coords t)).Idx → Elt F ((cfgA m).win w).elt :=
  (((cfgA m).win w).blk t).view.read (Elt F) (v c (Proc.devRef .tc (Pipeline.arrRef spec1 w)))

/-- The rows a grid point writes. -/
def outAt (c : Dev nD) (t : Fin (cfgA m).N) : Vec F S512x1024 .f32 :=
  later (ent (V m c main_arg3) (t.val % 40)) (iblk m v c 0 t) (k0_pay1 (blkAt (V m c main_arg1) (curOff 3584 (V m c main_arg2) (t.val / 40) (t.val % 40)))) (iblk m v c 2 t) (iblk m v c 1 t)

/-- The state between points, on the run's buffers. -/
abbrev invAt (c : Dev nD) (n : ℕ) : sProp 𝕄 := inv c (Memref.whole cc1_scratch0) (Memref.whole cc1_scratch1) (dsem cc1_scratch2) 3584 (V m c main_arg2) (V m c main_arg3) (V m c main_v10) (V m c main_arg1) n
/-- The scoped buffers the body does not touch. -/
abbrev restAt (c : Dev nD) : sProp 𝕄 := Pipeline.scopedRestBut (Ix := Unit) (Name := ℕ) (U := Pipeline.UD sig nD τ) (Lvl := ℕ) (Val := Elt F) spec1 c [cc1_scratch0, cc1_scratch1]

/-- The pipeline's data: the rows in, the rows out, the blocks between. -/
def dat (c : Dev nD) : Dat τ (Elt F) Unit ℕ (Pipeline.UD sig nD τ) ℕ (cfgA m) c where
  A w := v c (Proc.devRef .tc (Pipeline.arrRef spec1 w))
  after w t := match w with
    | ⟨0, _⟩ => iblk m v c 0 t
    | ⟨1, _⟩ => iblk m v c 1 t
    | ⟨2, _⟩ => iblk m v c 2 t
    | ⟨3, _⟩ => outAt m v c t
  Φ t := iprop(invAt m c t.val ∗ (∃ r, prngReg c r) ∗ restAt c)
  q _ := fullShare
  owed _ := 0

theorem A_eq (c : Dev nD) (w : Fin (cfgA m).W) : (dat m v c).A w = v c (Proc.devRef .tc (Pipeline.arrRef spec1 w)) := by
  dsimp only [dat]
theorem after0 (c : Dev nD) (t : Fin (cfgA m).N) : (dat m v c).after 0 t = iblk m v c 0 t := rfl
theorem after1 (c : Dev nD) (t : Fin (cfgA m).N) : (dat m v c).after 1 t = iblk m v c 1 t := rfl
theorem after2 (c : Dev nD) (t : Fin (cfgA m).N) : (dat m v c).after 2 t = iblk m v c 2 t := rfl
theorem after3 (c : Dev nD) (t : Fin (cfgA m).N) : (dat m v c).after 3 t = outAt m v c t := rfl

/-- Each input window holds its block at every point. -/
theorem before0 (c : Dev nD) (t : Fin (cfgA m).N) (d) : (dat m v c).before 0 t d = iblk m v c 0 t :=
  ((dat m v c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem before1 (c : Dev nD) (t : Fin (cfgA m).N) (d) : (dat m v c).before 1 t d = iblk m v c 1 t :=
  ((dat m v c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
theorem before2 (c : Dev nD) (t : Fin (cfgA m).N) (d) : (dat m v c).before 2 t d = iblk m v c 2 t :=
  ((dat m v c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)

abbrev ms0 (t : Fin (cfgA m).N) : Memref sig .tc .vmem S512x3584 .bf16 := spec1_0.stage ((cfgA m).slots t 0)
abbrev ms1 (t : Fin (cfgA m).N) : Memref sig .tc .vmem S512x1024 .f32 := spec1_1.stage ((cfgA m).slots t 1)
abbrev ms2 (t : Fin (cfgA m).N) : Memref sig .tc .vmem S512x1 .f32 := spec1_2.stage ((cfgA m).slots t 2)
abbrev ms3 (t : Fin (cfgA m).N) : Memref sig .tc .vmem S512x1024 .f32 := spec1_3.stage ((cfgA m).slots t 3)

/-- The body at a point, on what the pipeline calls it with. -/
abbrev bodyAt (t : Fin (cfgA m).N) : Prog (TpuEff nD τ sig (Elt F) Λ₀ .tc) PUnit :=
  cc1_matmul_residual_skel (grid1.coords t) MTe (Memref.isWhole_whole _) MM (Memref.isWhole_whole _) MX (Memref.isWhole_whole _) (ms0 m t) (hstage1_0 (((cfgA m).slots t 0).cast nbuf1_0))
    MW (Memref.isWhole_whole _) (ms1 m t) (hstage1_1 (((cfgA m).slots t 1).cast nbuf1_1)) (ms2 m t) (hstage1_2 (((cfgA m).slots t 2).cast nbuf1_2)) (ms3 m t) (hstage1_3 (((cfgA m).slots t 3).cast nbuf1_3)) (Memref.whole cc1_scratch0) (Memref.isWhole_whole _) (Memref.whole cc1_scratch1) (Memref.isWhole_whole _) cc1_scratch2

/-- The result's window is stored at every point. -/
theorem idle_out (g : GoodAt m) (i : grid1.Coords) : (cfgA m).idle 3 i = false := stores m g (adm m 1).1 rfl i

theorem leaves0 (c : Dev nD) (t : Fin (cfgA m).N) :
    (dat m v c).leavesExact 0 t = owns (c : Thread nD τ) (ms0 m t) fullShare ((dat m v c).after 0 t) := by
  unfold Dat.leavesExact; rw [show (cfgA m).idle 0 (grid1.coords t) = false from rfl]; rfl
theorem leaves1 (c : Dev nD) (t : Fin (cfgA m).N) :
    (dat m v c).leavesExact 1 t = owns (c : Thread nD τ) (ms1 m t) fullShare ((dat m v c).after 1 t) := by
  unfold Dat.leavesExact; rw [show (cfgA m).idle 1 (grid1.coords t) = false from rfl]; rfl
theorem leaves2 (c : Dev nD) (t : Fin (cfgA m).N) :
    (dat m v c).leavesExact 2 t = owns (c : Thread nD τ) (ms2 m t) fullShare ((dat m v c).after 2 t) := by
  unfold Dat.leavesExact; rw [show (cfgA m).idle 2 (grid1.coords t) = false from rfl]; rfl
theorem leaves3 (g : GoodAt m) (c : Dev nD) (t : Fin (cfgA m).N) :
    (dat m v c).leavesExact 3 t = owns (c : Thread nD τ) (ms3 m t) fullShare ((dat m v c).after 3 t) := by
  unfold Dat.leavesExact; rw [idle_out m g (grid1.coords t)]; rfl

theorem Φ_eq (c : Dev nD) (t : Fin ((cfgA m).N + 1)) : (dat m v c).Φ t = iprop(invAt m c t.val ∗ (∃ r, prngReg c r) ∗ restAt c) := rfl

/-- What the body is called with. -/
def bodyPre (c : Dev nD) (t : Fin (cfgA m).N) : sProp 𝕄 :=
  iprop((dat m v c).Φ t.castSucc ∗ (dat m v c).owesAt () t.castSucc
    ∗ (∃ d, owns (c : Thread nD τ) (ms0 m t) fullShare ((dat m v c).before 0 t d))
    ∗ (∃ d, owns (c : Thread nD τ) (ms1 m t) fullShare ((dat m v c).before 1 t d))
    ∗ (∃ d, owns (c : Thread nD τ) (ms2 m t) fullShare ((dat m v c).before 2 t d))
    ∗ (∃ d, owns (c : Thread nD τ) (ms3 m t) fullShare ((dat m v c).before 3 t d)))

/-- What it returns. -/
def bodyPost (c : Dev nD) (t : Fin (cfgA m).N) : sProp 𝕄 :=
  iprop((dat m v c).Φ t.succ ∗ (dat m v c).owesAt () t.succ ∗ (dat m v c).leavesExact 0 t ∗ (dat m v c).leavesExact 1 t ∗ (dat m v c).leavesExact 2 t ∗ (dat m v c).leavesExact 3 t)

set_option maxHeartbeats 4000000 in
/-- The body at any point. -/
theorem sound_body (g : GoodAt m) (c : Dev nD) (t : Fin (cfgA m).N) :
    bodyPre m v c t ⊢ wp frame (wpE (defs₀ (F := F)) Variants.none c none) Set.univ (bodyAt m t) (fun _ => bodyPost m v c t) := by
  have hc : c = 0 := Subsingleton.elim _ _
  subst hc
  unfold bodyPre bodyPost bodyAt
  simp only [before0, before1, before2]
  rw [leaves0, leaves1, leaves2, leaves3 m v g, after0, after1, after2, after3]
  rw [Φ_eq, Φ_eq, Fin.val_succ, Fin.val_castSucc]
  unfold Dat.owesAt Pipeline.owesWithin
  rw [show (dat m v 0).owed t.castSucc = 0 from rfl, show (dat m v 0).owed t.succ = 0 from rfl]
  unfold outAt
  iintro ⟨⟨HI, Hg⟩, ⟨%W, -, HW⟩, ⟨%d0, H0⟩, ⟨%d1, H1⟩, ⟨%d2, H2⟩, ⟨%d3, H3⟩⟩
  iapply (later_point (F := F) 0 _ (grid1.coords t) (ms0 m t) (hstage1_0 (((cfgA m).slots t 0).cast nbuf1_0)) (ms1 m t) (hstage1_1 (((cfgA m).slots t 1).cast nbuf1_1)) (ms2 m t) (hstage1_2 (((cfgA m).slots t 2).cast nbuf1_2)) (ms3 m t) (hstage1_3 (((cfgA m).slots t 3).cast nbuf1_3)) (Memref.whole cc1_scratch0) (Memref.isWhole_whole _) (Memref.whole cc1_scratch1) (Memref.isWhole_whole _) cc1_scratch2 (V m 0 main_arg2) (V m 0 main_arg3) (V m 0 main_v10) g (V m 0 main_arg1) t.val (coord0 t) (coord1 t) W (iblk m v 0 0 t) ((dat m v 0).before 3 t d3) (iblk m v 0 2 t) (iblk m v 0 1 t) 3584 (by decide) (k1_chk1.dec (grid1.coords t)) (k1_chk2.dec (grid1.coords t)) (k1_chk3.dec (grid1.coords t)) _ (body1_eq _ _ _ _ _ _ _ _ _ _ _ _ _ _))
  isplitl [HI]; · iexact HI
  isplitl [HW]; · iexact HW
  isplitl [H0 H1 H2 H3]
  · isplitl [H0]; · iexact H0
    isplitl [H1]; · iexact H1
    isplitl [H2]; · iexact H2
    iexact H3
  iintro ⟨HI, ⟨%W', HW'⟩, H0, H1, H2, H3⟩
  isplitl [HI Hg]
  · isplitl [HI]; · iexact HI
    iexact Hg
  isplitl [HW']
  · iexists W'; isplitr; · ipureintro; exact fun _ _ => Or.inl trivial
    iexact HW'
  isplitl [H0]; · iexact H0
  isplitl [H1]; · iexact H1
  isplitl [H2]; · iexact H2
  iexact H3

/-- The body table's row at a point is the body there. -/
theorem defs₀_row (t : Fin (cfgA m).N) :
    defs₀ (F := F) .tc (cfgA m).body ((cfgA m).bodyArgs t ((cfgA m).slots t)) = bodyAt m t := by
  unfold defs₀; rw [Defs.onTc_tc]; rfl

/-- The pipeline's obligation on the body. -/
theorem body_obligation (g : GoodAt m) (c : Dev nD) :
    BodyObligation (dat (F := F) m v c) (defs₀ (F := F)) Variants.none () Set.univ := fun t => by
  rw [bigSep_W1, bigSep_W1, defs₀_row]
  exact triple_restated (sound_body m v g c t) rfl .rfl fun _ => .rfl

/-- The semaphore of the copies. -/
def osem : Fin 1 → SemLoc sig := fun _ => SemLoc.dma 15

theorem ownSemFacts : Pipeline.OwnSemFacts spec1 osem := by decide

theorem ownSems_eq (c : Dev nD) :
    (Pipeline.ownSems0 (Ix := Unit) (Name := ℕ) (U := Pipeline.UD sig nD τ) (Lvl := ℕ) (Val := Elt F) (τ := τ) osem c : sProp 𝕄)
      = semVal ((c : Thread nD τ), SemLoc.dma 15) 0 := by
  rw [Pipeline.ownSems0_eq_of_list c osem [0] (by decide) (by decide)]; rfl

theorem tables (c : Dev nD) : (Pipeline.prefHeld pre1 c (fun _ => fullShare) (adm m 1).1 : sProp 𝕄)
    = iprop(tbl c MTe (V m 0 main_arg2) ∗ tbl c MM (V m 0 main_arg3) ∗ tbl c MX (V m 0 main_v10)) := tables_eq c (adm m 1).1

/-- The launch hands over the state before the first point. -/
theorem hin (hv : ∀ c, v c (Proc.devRef .tc main_arg1) = V m c main_arg1) (c : Dev nD) (X : sProp 𝕄) :
    iprop(iprop(Pipeline.scopedRest spec1 c ∗ (∃ r, prngReg c r) ∗ Pipeline.ownSems0 osem c
        ∗ (BI.bigSep H0 fun b => (((c : Thread nD τ).loc b) ↦{fullShare} v c (Proc.devRef .tc b) : sProp 𝕄)) ∗ X)
      ∗ Pipeline.prefHeld pre1 c (fun _ => fullShare) (adm m 1).1) ⊢ (dat m v c).Φ 0 := by
  have hc : c = 0 := Subsingleton.elim _ _
  subst hc
  rw [Φ_eq, scopedRest1_split, ownSems_eq, hbm_eq, hv, tables]
  exact phi_in 0 (Memref.whole cc1_scratch0) (Memref.whole cc1_scratch1) (dsem cc1_scratch2) 3584 _ _ _ _ _ _ _ _ _ (whole_view 0 cc1_scratch0) (whole_owns_some 0 cc1_scratch1)

/-- The state after the last point gives the launch's back. -/
theorem hout (hv : ∀ c, v c (Proc.devRef .tc main_arg1) = V m c main_arg1) (g : GoodAt m) (c : Dev nD) :
    (dat m v c).Φ (Fin.last (cfgA m).N) ⊢ iprop(iprop(Pipeline.scopedRest spec1 c ∗ (∃ r, prngReg c r) ∗ Pipeline.ownSems0 osem c
        ∗ (BI.bigSep H0 fun b => (((c : Thread nD τ).loc b) ↦{fullShare} v c (Proc.devRef .tc b) : sProp 𝕄)))
      ∗ Pipeline.prefHeld pre1 c (fun _ => fullShare) (adm m 1).1) := by
  have hc : c = 0 := Subsingleton.elim _ _
  subst hc
  rw [Φ_eq, scopedRest1_split, ownSems_eq, hbm_eq, hv, tables]
  have e : (Fin.last (cfgA m).N).val = 159 + 1 := by rw [Fin.val_last, cfgA_N]
  rw [e]
  exact phi_out 0 (Memref.whole cc1_scratch0) (Memref.whole cc1_scratch1) (dsem cc1_scratch2) 3584 _ _ _ g _ _ _ _ _ (whole_of_view 0 cc1_scratch0) (some_of_owns 0 cc1_scratch1)

end R1

namespace R2

/-- Run 2. -/
abbrev cfgA : Pipeline.Cfg sig Λ₀ := cfg2 (adm m 2)
theorem cfgA_N : (cfgA m).N = 160 := N_2

/-- Window `w`'s block at a point, read off its array as the run finds it. -/
def iblk (c : Dev nD) (w : Fin (cfgA m).W) (t : Fin (cfgA m).N) : (((cfgA m).win w).xblock ((cfgA m).grid.coords t)).Idx → Elt F ((cfgA m).win w).elt :=
  (((cfgA m).win w).blk t).view.read (Elt F) (v c (Proc.devRef .tc (Pipeline.arrRef spec2 w)))

/-- The rows a grid point writes. -/
def outAt (c : Dev nD) (t : Fin (cfgA m).N) : Vec F S512x1024 .f32 :=
  later (ent (V m c main_arg3) (t.val % 40)) (iblk m v c 0 t) (k0_pay1 (blkAt (V m c main_arg1) (curOff 7168 (V m c main_arg2) (t.val / 40) (t.val % 40)))) (iblk m v c 2 t) (iblk m v c 1 t)

/-- The state between points, on the run's buffers. -/
abbrev invAt (c : Dev nD) (n : ℕ) : sProp 𝕄 := inv c (Memref.whole cc2_scratch0) (Memref.whole cc2_scratch1) (dsem cc2_scratch2) 7168 (V m c main_arg2) (V m c main_arg3) (V m c main_v10) (V m c main_arg1) n
/-- The scoped buffers the body does not touch. -/
abbrev restAt (c : Dev nD) : sProp 𝕄 := Pipeline.scopedRestBut (Ix := Unit) (Name := ℕ) (U := Pipeline.UD sig nD τ) (Lvl := ℕ) (Val := Elt F) spec2 c [cc2_scratch0, cc2_scratch1]

/-- The pipeline's data: the rows in, the rows out, the blocks between. -/
def dat (c : Dev nD) : Dat τ (Elt F) Unit ℕ (Pipeline.UD sig nD τ) ℕ (cfgA m) c where
  A w := v c (Proc.devRef .tc (Pipeline.arrRef spec2 w))
  after w t := match w with
    | ⟨0, _⟩ => iblk m v c 0 t
    | ⟨1, _⟩ => iblk m v c 1 t
    | ⟨2, _⟩ => iblk m v c 2 t
    | ⟨3, _⟩ => outAt m v c t
  Φ t := iprop(invAt m c t.val ∗ (∃ r, prngReg c r) ∗ restAt c)
  q _ := fullShare
  owed _ := 0

theorem A_eq (c : Dev nD) (w : Fin (cfgA m).W) : (dat m v c).A w = v c (Proc.devRef .tc (Pipeline.arrRef spec2 w)) := by
  dsimp only [dat]
theorem after0 (c : Dev nD) (t : Fin (cfgA m).N) : (dat m v c).after 0 t = iblk m v c 0 t := rfl
theorem after1 (c : Dev nD) (t : Fin (cfgA m).N) : (dat m v c).after 1 t = iblk m v c 1 t := rfl
theorem after2 (c : Dev nD) (t : Fin (cfgA m).N) : (dat m v c).after 2 t = iblk m v c 2 t := rfl
theorem after3 (c : Dev nD) (t : Fin (cfgA m).N) : (dat m v c).after 3 t = outAt m v c t := rfl

/-- Each input window holds its block at every point. -/
theorem before0 (c : Dev nD) (t : Fin (cfgA m).N) (d) : (dat m v c).before 0 t d = iblk m v c 0 t :=
  ((dat m v c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem before1 (c : Dev nD) (t : Fin (cfgA m).N) (d) : (dat m v c).before 1 t d = iblk m v c 1 t :=
  ((dat m v c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
theorem before2 (c : Dev nD) (t : Fin (cfgA m).N) (d) : (dat m v c).before 2 t d = iblk m v c 2 t :=
  ((dat m v c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)

abbrev ms0 (t : Fin (cfgA m).N) : Memref sig .tc .vmem S512x3584 .bf16 := spec2_0.stage ((cfgA m).slots t 0)
abbrev ms1 (t : Fin (cfgA m).N) : Memref sig .tc .vmem S512x1024 .f32 := spec2_1.stage ((cfgA m).slots t 1)
abbrev ms2 (t : Fin (cfgA m).N) : Memref sig .tc .vmem S512x1 .f32 := spec2_2.stage ((cfgA m).slots t 2)
abbrev ms3 (t : Fin (cfgA m).N) : Memref sig .tc .vmem S512x1024 .f32 := spec2_3.stage ((cfgA m).slots t 3)

/-- The body at a point, on what the pipeline calls it with. -/
abbrev bodyAt (t : Fin (cfgA m).N) : Prog (TpuEff nD τ sig (Elt F) Λ₀ .tc) PUnit :=
  cc2_matmul_residual_skel (grid2.coords t) MTe (Memref.isWhole_whole _) MM (Memref.isWhole_whole _) MX (Memref.isWhole_whole _) (ms0 m t) (hstage2_0 (((cfgA m).slots t 0).cast nbuf2_0))
    MW (Memref.isWhole_whole _) (ms1 m t) (hstage2_1 (((cfgA m).slots t 1).cast nbuf2_1)) (ms2 m t) (hstage2_2 (((cfgA m).slots t 2).cast nbuf2_2)) (ms3 m t) (hstage2_3 (((cfgA m).slots t 3).cast nbuf2_3)) (Memref.whole cc2_scratch0) (Memref.isWhole_whole _) (Memref.whole cc2_scratch1) (Memref.isWhole_whole _) cc2_scratch2

/-- The result's window is stored at every point. -/
theorem idle_out (g : GoodAt m) (i : grid2.Coords) : (cfgA m).idle 3 i = false := stores m g (adm m 2).1 rfl i

theorem leaves0 (c : Dev nD) (t : Fin (cfgA m).N) :
    (dat m v c).leavesExact 0 t = owns (c : Thread nD τ) (ms0 m t) fullShare ((dat m v c).after 0 t) := by
  unfold Dat.leavesExact; rw [show (cfgA m).idle 0 (grid2.coords t) = false from rfl]; rfl
theorem leaves1 (c : Dev nD) (t : Fin (cfgA m).N) :
    (dat m v c).leavesExact 1 t = owns (c : Thread nD τ) (ms1 m t) fullShare ((dat m v c).after 1 t) := by
  unfold Dat.leavesExact; rw [show (cfgA m).idle 1 (grid2.coords t) = false from rfl]; rfl
theorem leaves2 (c : Dev nD) (t : Fin (cfgA m).N) :
    (dat m v c).leavesExact 2 t = owns (c : Thread nD τ) (ms2 m t) fullShare ((dat m v c).after 2 t) := by
  unfold Dat.leavesExact; rw [show (cfgA m).idle 2 (grid2.coords t) = false from rfl]; rfl
theorem leaves3 (g : GoodAt m) (c : Dev nD) (t : Fin (cfgA m).N) :
    (dat m v c).leavesExact 3 t = owns (c : Thread nD τ) (ms3 m t) fullShare ((dat m v c).after 3 t) := by
  unfold Dat.leavesExact; rw [idle_out m g (grid2.coords t)]; rfl

theorem Φ_eq (c : Dev nD) (t : Fin ((cfgA m).N + 1)) : (dat m v c).Φ t = iprop(invAt m c t.val ∗ (∃ r, prngReg c r) ∗ restAt c) := rfl

/-- What the body is called with. -/
def bodyPre (c : Dev nD) (t : Fin (cfgA m).N) : sProp 𝕄 :=
  iprop((dat m v c).Φ t.castSucc ∗ (dat m v c).owesAt () t.castSucc
    ∗ (∃ d, owns (c : Thread nD τ) (ms0 m t) fullShare ((dat m v c).before 0 t d))
    ∗ (∃ d, owns (c : Thread nD τ) (ms1 m t) fullShare ((dat m v c).before 1 t d))
    ∗ (∃ d, owns (c : Thread nD τ) (ms2 m t) fullShare ((dat m v c).before 2 t d))
    ∗ (∃ d, owns (c : Thread nD τ) (ms3 m t) fullShare ((dat m v c).before 3 t d)))

/-- What it returns. -/
def bodyPost (c : Dev nD) (t : Fin (cfgA m).N) : sProp 𝕄 :=
  iprop((dat m v c).Φ t.succ ∗ (dat m v c).owesAt () t.succ ∗ (dat m v c).leavesExact 0 t ∗ (dat m v c).leavesExact 1 t ∗ (dat m v c).leavesExact 2 t ∗ (dat m v c).leavesExact 3 t)

set_option maxHeartbeats 4000000 in
/-- The body at any point. -/
theorem sound_body (g : GoodAt m) (c : Dev nD) (t : Fin (cfgA m).N) :
    bodyPre m v c t ⊢ wp frame (wpE (defs₀ (F := F)) Variants.none c none) Set.univ (bodyAt m t) (fun _ => bodyPost m v c t) := by
  have hc : c = 0 := Subsingleton.elim _ _
  subst hc
  unfold bodyPre bodyPost bodyAt
  simp only [before0, before1, before2]
  rw [leaves0, leaves1, leaves2, leaves3 m v g, after0, after1, after2, after3]
  rw [Φ_eq, Φ_eq, Fin.val_succ, Fin.val_castSucc]
  unfold Dat.owesAt Pipeline.owesWithin
  rw [show (dat m v 0).owed t.castSucc = 0 from rfl, show (dat m v 0).owed t.succ = 0 from rfl]
  unfold outAt
  iintro ⟨⟨HI, Hg⟩, ⟨%W, -, HW⟩, ⟨%d0, H0⟩, ⟨%d1, H1⟩, ⟨%d2, H2⟩, ⟨%d3, H3⟩⟩
  iapply (later_point (F := F) 0 _ (grid2.coords t) (ms0 m t) (hstage2_0 (((cfgA m).slots t 0).cast nbuf2_0)) (ms1 m t) (hstage2_1 (((cfgA m).slots t 1).cast nbuf2_1)) (ms2 m t) (hstage2_2 (((cfgA m).slots t 2).cast nbuf2_2)) (ms3 m t) (hstage2_3 (((cfgA m).slots t 3).cast nbuf2_3)) (Memref.whole cc2_scratch0) (Memref.isWhole_whole _) (Memref.whole cc2_scratch1) (Memref.isWhole_whole _) cc2_scratch2 (V m 0 main_arg2) (V m 0 main_arg3) (V m 0 main_v10) g (V m 0 main_arg1) t.val (coord0 t) (coord1 t) W (iblk m v 0 0 t) ((dat m v 0).before 3 t d3) (iblk m v 0 2 t) (iblk m v 0 1 t) 7168 (by decide) (k2_chk1.dec (grid2.coords t)) (k2_chk2.dec (grid2.coords t)) (k2_chk3.dec (grid2.coords t)) _ (body2_eq _ _ _ _ _ _ _ _ _ _ _ _ _ _))
  isplitl [HI]; · iexact HI
  isplitl [HW]; · iexact HW
  isplitl [H0 H1 H2 H3]
  · isplitl [H0]; · iexact H0
    isplitl [H1]; · iexact H1
    isplitl [H2]; · iexact H2
    iexact H3
  iintro ⟨HI, ⟨%W', HW'⟩, H0, H1, H2, H3⟩
  isplitl [HI Hg]
  · isplitl [HI]; · iexact HI
    iexact Hg
  isplitl [HW']
  · iexists W'; isplitr; · ipureintro; exact fun _ _ => Or.inl trivial
    iexact HW'
  isplitl [H0]; · iexact H0
  isplitl [H1]; · iexact H1
  isplitl [H2]; · iexact H2
  iexact H3

/-- The body table's row at a point is the body there. -/
theorem defs₀_row (t : Fin (cfgA m).N) :
    defs₀ (F := F) .tc (cfgA m).body ((cfgA m).bodyArgs t ((cfgA m).slots t)) = bodyAt m t := by
  unfold defs₀; rw [Defs.onTc_tc]; rfl

/-- The pipeline's obligation on the body. -/
theorem body_obligation (g : GoodAt m) (c : Dev nD) :
    BodyObligation (dat (F := F) m v c) (defs₀ (F := F)) Variants.none () Set.univ := fun t => by
  rw [bigSep_W2, bigSep_W2, defs₀_row]
  exact triple_restated (sound_body m v g c t) rfl .rfl fun _ => .rfl

/-- The semaphore of the copies. -/
def osem : Fin 1 → SemLoc sig := fun _ => SemLoc.dma 24

theorem ownSemFacts : Pipeline.OwnSemFacts spec2 osem := by decide

theorem ownSems_eq (c : Dev nD) :
    (Pipeline.ownSems0 (Ix := Unit) (Name := ℕ) (U := Pipeline.UD sig nD τ) (Lvl := ℕ) (Val := Elt F) (τ := τ) osem c : sProp 𝕄)
      = semVal ((c : Thread nD τ), SemLoc.dma 24) 0 := by
  rw [Pipeline.ownSems0_eq_of_list c osem [0] (by decide) (by decide)]; rfl

theorem tables (c : Dev nD) : (Pipeline.prefHeld pre2 c (fun _ => fullShare) (adm m 2).1 : sProp 𝕄)
    = iprop(tbl c MTe (V m 0 main_arg2) ∗ tbl c MM (V m 0 main_arg3) ∗ tbl c MX (V m 0 main_v10)) := tables_eq c (adm m 2).1

/-- The launch hands over the state before the first point. -/
theorem hin (hv : ∀ c, v c (Proc.devRef .tc main_arg1) = V m c main_arg1) (c : Dev nD) (X : sProp 𝕄) :
    iprop(iprop(Pipeline.scopedRest spec2 c ∗ (∃ r, prngReg c r) ∗ Pipeline.ownSems0 osem c
        ∗ (BI.bigSep H0 fun b => (((c : Thread nD τ).loc b) ↦{fullShare} v c (Proc.devRef .tc b) : sProp 𝕄)) ∗ X)
      ∗ Pipeline.prefHeld pre2 c (fun _ => fullShare) (adm m 2).1) ⊢ (dat m v c).Φ 0 := by
  have hc : c = 0 := Subsingleton.elim _ _
  subst hc
  rw [Φ_eq, scopedRest2_split, ownSems_eq, hbm_eq, hv, tables]
  exact phi_in 0 (Memref.whole cc2_scratch0) (Memref.whole cc2_scratch1) (dsem cc2_scratch2) 7168 _ _ _ _ _ _ _ _ _ (whole_view 0 cc2_scratch0) (whole_owns_some 0 cc2_scratch1)

/-- The state after the last point gives the launch's back. -/
theorem hout (hv : ∀ c, v c (Proc.devRef .tc main_arg1) = V m c main_arg1) (g : GoodAt m) (c : Dev nD) :
    (dat m v c).Φ (Fin.last (cfgA m).N) ⊢ iprop(iprop(Pipeline.scopedRest spec2 c ∗ (∃ r, prngReg c r) ∗ Pipeline.ownSems0 osem c
        ∗ (BI.bigSep H0 fun b => (((c : Thread nD τ).loc b) ↦{fullShare} v c (Proc.devRef .tc b) : sProp 𝕄)))
      ∗ Pipeline.prefHeld pre2 c (fun _ => fullShare) (adm m 2).1) := by
  have hc : c = 0 := Subsingleton.elim _ _
  subst hc
  rw [Φ_eq, scopedRest2_split, ownSems_eq, hbm_eq, hv, tables]
  have e : (Fin.last (cfgA m).N).val = 159 + 1 := by rw [Fin.val_last, cfgA_N]
  rw [e]
  exact phi_out 0 (Memref.whole cc2_scratch0) (Memref.whole cc2_scratch1) (dsem cc2_scratch2) 7168 _ _ _ g _ _ _ _ _ (whole_of_view 0 cc2_scratch0) (some_of_owns 0 cc2_scratch1)

end R2

namespace R3

/-- Run 3. -/
abbrev cfgA : Pipeline.Cfg sig Λ₀ := cfg3 (adm m 3)
theorem cfgA_N : (cfgA m).N = 160 := N_3

/-- Window `w`'s block at a point, read off its array as the run finds it. -/
def iblk (c : Dev nD) (w : Fin (cfgA m).W) (t : Fin (cfgA m).N) : (((cfgA m).win w).xblock ((cfgA m).grid.coords t)).Idx → Elt F ((cfgA m).win w).elt :=
  (((cfgA m).win w).blk t).view.read (Elt F) (v c (Proc.devRef .tc (Pipeline.arrRef spec3 w)))

/-- The rows a grid point writes. -/
def outAt (c : Dev nD) (t : Fin (cfgA m).N) : Vec F S512x1024 .f32 :=
  later (ent (V m c main_arg3) (t.val % 40)) (iblk m v c 0 t) (k0_pay1 (blkAt (V m c main_arg1) (curOff 10752 (V m c main_arg2) (t.val / 40) (t.val % 40)))) (iblk m v c 2 t) (iblk m v c 1 t)

/-- The state between points, on the run's buffers. -/
abbrev invAt (c : Dev nD) (n : ℕ) : sProp 𝕄 := inv c (Memref.whole cc3_scratch0) (Memref.whole cc3_scratch1) (dsem cc3_scratch2) 10752 (V m c main_arg2) (V m c main_arg3) (V m c main_v10) (V m c main_arg1) n
/-- The scoped buffers the body does not touch. -/
abbrev restAt (c : Dev nD) : sProp 𝕄 := Pipeline.scopedRestBut (Ix := Unit) (Name := ℕ) (U := Pipeline.UD sig nD τ) (Lvl := ℕ) (Val := Elt F) spec3 c [cc3_scratch0, cc3_scratch1]

/-- The pipeline's data: the rows in, the rows out, the blocks between. -/
def dat (c : Dev nD) : Dat τ (Elt F) Unit ℕ (Pipeline.UD sig nD τ) ℕ (cfgA m) c where
  A w := v c (Proc.devRef .tc (Pipeline.arrRef spec3 w))
  after w t := match w with
    | ⟨0, _⟩ => iblk m v c 0 t
    | ⟨1, _⟩ => iblk m v c 1 t
    | ⟨2, _⟩ => iblk m v c 2 t
    | ⟨3, _⟩ => outAt m v c t
  Φ t := iprop(invAt m c t.val ∗ (∃ r, prngReg c r) ∗ restAt c)
  q _ := fullShare
  owed _ := 0

theorem A_eq (c : Dev nD) (w : Fin (cfgA m).W) : (dat m v c).A w = v c (Proc.devRef .tc (Pipeline.arrRef spec3 w)) := by
  dsimp only [dat]
theorem after0 (c : Dev nD) (t : Fin (cfgA m).N) : (dat m v c).after 0 t = iblk m v c 0 t := rfl
theorem after1 (c : Dev nD) (t : Fin (cfgA m).N) : (dat m v c).after 1 t = iblk m v c 1 t := rfl
theorem after2 (c : Dev nD) (t : Fin (cfgA m).N) : (dat m v c).after 2 t = iblk m v c 2 t := rfl
theorem after3 (c : Dev nD) (t : Fin (cfgA m).N) : (dat m v c).after 3 t = outAt m v c t := rfl

/-- Each input window holds its block at every point. -/
theorem before0 (c : Dev nD) (t : Fin (cfgA m).N) (d) : (dat m v c).before 0 t d = iblk m v c 0 t :=
  ((dat m v c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem before1 (c : Dev nD) (t : Fin (cfgA m).N) (d) : (dat m v c).before 1 t d = iblk m v c 1 t :=
  ((dat m v c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
theorem before2 (c : Dev nD) (t : Fin (cfgA m).N) (d) : (dat m v c).before 2 t d = iblk m v c 2 t :=
  ((dat m v c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)

abbrev ms0 (t : Fin (cfgA m).N) : Memref sig .tc .vmem S512x3584 .bf16 := spec3_0.stage ((cfgA m).slots t 0)
abbrev ms1 (t : Fin (cfgA m).N) : Memref sig .tc .vmem S512x1024 .f32 := spec3_1.stage ((cfgA m).slots t 1)
abbrev ms2 (t : Fin (cfgA m).N) : Memref sig .tc .vmem S512x1 .f32 := spec3_2.stage ((cfgA m).slots t 2)
abbrev ms3 (t : Fin (cfgA m).N) : Memref sig .tc .vmem S512x1024 .f32 := spec3_3.stage ((cfgA m).slots t 3)

/-- The body at a point, on what the pipeline calls it with. -/
abbrev bodyAt (t : Fin (cfgA m).N) : Prog (TpuEff nD τ sig (Elt F) Λ₀ .tc) PUnit :=
  cc3_matmul_residual_skel (grid3.coords t) MTe (Memref.isWhole_whole _) MM (Memref.isWhole_whole _) MX (Memref.isWhole_whole _) (ms0 m t) (hstage3_0 (((cfgA m).slots t 0).cast nbuf3_0))
    MW (Memref.isWhole_whole _) (ms1 m t) (hstage3_1 (((cfgA m).slots t 1).cast nbuf3_1)) (ms2 m t) (hstage3_2 (((cfgA m).slots t 2).cast nbuf3_2)) (ms3 m t) (hstage3_3 (((cfgA m).slots t 3).cast nbuf3_3)) (Memref.whole cc3_scratch0) (Memref.isWhole_whole _) (Memref.whole cc3_scratch1) (Memref.isWhole_whole _) cc3_scratch2

/-- The result's window is stored at every point. -/
theorem idle_out (g : GoodAt m) (i : grid3.Coords) : (cfgA m).idle 3 i = false := stores m g (adm m 3).1 rfl i

theorem leaves0 (c : Dev nD) (t : Fin (cfgA m).N) :
    (dat m v c).leavesExact 0 t = owns (c : Thread nD τ) (ms0 m t) fullShare ((dat m v c).after 0 t) := by
  unfold Dat.leavesExact; rw [show (cfgA m).idle 0 (grid3.coords t) = false from rfl]; rfl
theorem leaves1 (c : Dev nD) (t : Fin (cfgA m).N) :
    (dat m v c).leavesExact 1 t = owns (c : Thread nD τ) (ms1 m t) fullShare ((dat m v c).after 1 t) := by
  unfold Dat.leavesExact; rw [show (cfgA m).idle 1 (grid3.coords t) = false from rfl]; rfl
theorem leaves2 (c : Dev nD) (t : Fin (cfgA m).N) :
    (dat m v c).leavesExact 2 t = owns (c : Thread nD τ) (ms2 m t) fullShare ((dat m v c).after 2 t) := by
  unfold Dat.leavesExact; rw [show (cfgA m).idle 2 (grid3.coords t) = false from rfl]; rfl
theorem leaves3 (g : GoodAt m) (c : Dev nD) (t : Fin (cfgA m).N) :
    (dat m v c).leavesExact 3 t = owns (c : Thread nD τ) (ms3 m t) fullShare ((dat m v c).after 3 t) := by
  unfold Dat.leavesExact; rw [idle_out m g (grid3.coords t)]; rfl

theorem Φ_eq (c : Dev nD) (t : Fin ((cfgA m).N + 1)) : (dat m v c).Φ t = iprop(invAt m c t.val ∗ (∃ r, prngReg c r) ∗ restAt c) := rfl

/-- What the body is called with. -/
def bodyPre (c : Dev nD) (t : Fin (cfgA m).N) : sProp 𝕄 :=
  iprop((dat m v c).Φ t.castSucc ∗ (dat m v c).owesAt () t.castSucc
    ∗ (∃ d, owns (c : Thread nD τ) (ms0 m t) fullShare ((dat m v c).before 0 t d))
    ∗ (∃ d, owns (c : Thread nD τ) (ms1 m t) fullShare ((dat m v c).before 1 t d))
    ∗ (∃ d, owns (c : Thread nD τ) (ms2 m t) fullShare ((dat m v c).before 2 t d))
    ∗ (∃ d, owns (c : Thread nD τ) (ms3 m t) fullShare ((dat m v c).before 3 t d)))

/-- What it returns. -/
def bodyPost (c : Dev nD) (t : Fin (cfgA m).N) : sProp 𝕄 :=
  iprop((dat m v c).Φ t.succ ∗ (dat m v c).owesAt () t.succ ∗ (dat m v c).leavesExact 0 t ∗ (dat m v c).leavesExact 1 t ∗ (dat m v c).leavesExact 2 t ∗ (dat m v c).leavesExact 3 t)

set_option maxHeartbeats 4000000 in
/-- The body at any point. -/
theorem sound_body (g : GoodAt m) (c : Dev nD) (t : Fin (cfgA m).N) :
    bodyPre m v c t ⊢ wp frame (wpE (defs₀ (F := F)) Variants.none c none) Set.univ (bodyAt m t) (fun _ => bodyPost m v c t) := by
  have hc : c = 0 := Subsingleton.elim _ _
  subst hc
  unfold bodyPre bodyPost bodyAt
  simp only [before0, before1, before2]
  rw [leaves0, leaves1, leaves2, leaves3 m v g, after0, after1, after2, after3]
  rw [Φ_eq, Φ_eq, Fin.val_succ, Fin.val_castSucc]
  unfold Dat.owesAt Pipeline.owesWithin
  rw [show (dat m v 0).owed t.castSucc = 0 from rfl, show (dat m v 0).owed t.succ = 0 from rfl]
  unfold outAt
  iintro ⟨⟨HI, Hg⟩, ⟨%W, -, HW⟩, ⟨%d0, H0⟩, ⟨%d1, H1⟩, ⟨%d2, H2⟩, ⟨%d3, H3⟩⟩
  iapply (later_point (F := F) 0 _ (grid3.coords t) (ms0 m t) (hstage3_0 (((cfgA m).slots t 0).cast nbuf3_0)) (ms1 m t) (hstage3_1 (((cfgA m).slots t 1).cast nbuf3_1)) (ms2 m t) (hstage3_2 (((cfgA m).slots t 2).cast nbuf3_2)) (ms3 m t) (hstage3_3 (((cfgA m).slots t 3).cast nbuf3_3)) (Memref.whole cc3_scratch0) (Memref.isWhole_whole _) (Memref.whole cc3_scratch1) (Memref.isWhole_whole _) cc3_scratch2 (V m 0 main_arg2) (V m 0 main_arg3) (V m 0 main_v10) g (V m 0 main_arg1) t.val (coord0 t) (coord1 t) W (iblk m v 0 0 t) ((dat m v 0).before 3 t d3) (iblk m v 0 2 t) (iblk m v 0 1 t) 10752 (by decide) (k3_chk1.dec (grid3.coords t)) (k3_chk2.dec (grid3.coords t)) (k3_chk3.dec (grid3.coords t)) _ (body3_eq _ _ _ _ _ _ _ _ _ _ _ _ _ _))
  isplitl [HI]; · iexact HI
  isplitl [HW]; · iexact HW
  isplitl [H0 H1 H2 H3]
  · isplitl [H0]; · iexact H0
    isplitl [H1]; · iexact H1
    isplitl [H2]; · iexact H2
    iexact H3
  iintro ⟨HI, ⟨%W', HW'⟩, H0, H1, H2, H3⟩
  isplitl [HI Hg]
  · isplitl [HI]; · iexact HI
    iexact Hg
  isplitl [HW']
  · iexists W'; isplitr; · ipureintro; exact fun _ _ => Or.inl trivial
    iexact HW'
  isplitl [H0]; · iexact H0
  isplitl [H1]; · iexact H1
  isplitl [H2]; · iexact H2
  iexact H3

/-- The body table's row at a point is the body there. -/
theorem defs₀_row (t : Fin (cfgA m).N) :
    defs₀ (F := F) .tc (cfgA m).body ((cfgA m).bodyArgs t ((cfgA m).slots t)) = bodyAt m t := by
  unfold defs₀; rw [Defs.onTc_tc]; rfl

/-- The pipeline's obligation on the body. -/
theorem body_obligation (g : GoodAt m) (c : Dev nD) :
    BodyObligation (dat (F := F) m v c) (defs₀ (F := F)) Variants.none () Set.univ := fun t => by
  rw [bigSep_W3, bigSep_W3, defs₀_row]
  exact triple_restated (sound_body m v g c t) rfl .rfl fun _ => .rfl

/-- The semaphore of the copies. -/
def osem : Fin 1 → SemLoc sig := fun _ => SemLoc.dma 33

theorem ownSemFacts : Pipeline.OwnSemFacts spec3 osem := by decide

theorem ownSems_eq (c : Dev nD) :
    (Pipeline.ownSems0 (Ix := Unit) (Name := ℕ) (U := Pipeline.UD sig nD τ) (Lvl := ℕ) (Val := Elt F) (τ := τ) osem c : sProp 𝕄)
      = semVal ((c : Thread nD τ), SemLoc.dma 33) 0 := by
  rw [Pipeline.ownSems0_eq_of_list c osem [0] (by decide) (by decide)]; rfl

theorem tables (c : Dev nD) : (Pipeline.prefHeld pre3 c (fun _ => fullShare) (adm m 3).1 : sProp 𝕄)
    = iprop(tbl c MTe (V m 0 main_arg2) ∗ tbl c MM (V m 0 main_arg3) ∗ tbl c MX (V m 0 main_v10)) := tables_eq c (adm m 3).1

/-- The launch hands over the state before the first point. -/
theorem hin (hv : ∀ c, v c (Proc.devRef .tc main_arg1) = V m c main_arg1) (c : Dev nD) (X : sProp 𝕄) :
    iprop(iprop(Pipeline.scopedRest spec3 c ∗ (∃ r, prngReg c r) ∗ Pipeline.ownSems0 osem c
        ∗ (BI.bigSep H0 fun b => (((c : Thread nD τ).loc b) ↦{fullShare} v c (Proc.devRef .tc b) : sProp 𝕄)) ∗ X)
      ∗ Pipeline.prefHeld pre3 c (fun _ => fullShare) (adm m 3).1) ⊢ (dat m v c).Φ 0 := by
  have hc : c = 0 := Subsingleton.elim _ _
  subst hc
  rw [Φ_eq, scopedRest3_split, ownSems_eq, hbm_eq, hv, tables]
  exact phi_in 0 (Memref.whole cc3_scratch0) (Memref.whole cc3_scratch1) (dsem cc3_scratch2) 10752 _ _ _ _ _ _ _ _ _ (whole_view 0 cc3_scratch0) (whole_owns_some 0 cc3_scratch1)

/-- The state after the last point gives the launch's back. -/
theorem hout (hv : ∀ c, v c (Proc.devRef .tc main_arg1) = V m c main_arg1) (g : GoodAt m) (c : Dev nD) :
    (dat m v c).Φ (Fin.last (cfgA m).N) ⊢ iprop(iprop(Pipeline.scopedRest spec3 c ∗ (∃ r, prngReg c r) ∗ Pipeline.ownSems0 osem c
        ∗ (BI.bigSep H0 fun b => (((c : Thread nD τ).loc b) ↦{fullShare} v c (Proc.devRef .tc b) : sProp 𝕄)))
      ∗ Pipeline.prefHeld pre3 c (fun _ => fullShare) (adm m 3).1) := by
  have hc : c = 0 := Subsingleton.elim _ _
  subst hc
  rw [Φ_eq, scopedRest3_split, ownSems_eq, hbm_eq, hv, tables]
  have e : (Fin.last (cfgA m).N).val = 159 + 1 := by rw [Fin.val_last, cfgA_N]
  rw [e]
  exact phi_out 0 (Memref.whole cc3_scratch0) (Memref.whole cc3_scratch1) (dsem cc3_scratch2) 10752 _ _ _ g _ _ _ _ _ (whole_of_view 0 cc3_scratch0) (some_of_owns 0 cc3_scratch1)

end R3

end Cert.DownIdeal.Moe
end
end
-- ==== Proof.DownRun.lean ====
/- The four runs of the second product one after the other: what each leaves, and the whole run from the launch to the end. -/
module

public import proofs.«01_k».proof.Proof.DownLater

@[expose] public section

set_option maxRecDepth 16384

noncomputable section

namespace Cert.DownIdeal.Moe

open Idealize.ShloMosaic Idealize.ShloMosaic.ValueIdx Idealize.ShloMosaic.TcCoe Idealize.ShloMosaic.Tactic Cert.DownIdeal Cert.DownIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Seg HostSeg Dat Cfg Window BodyObligation cellOf RegionSeg)

variable {F : FTy → Type} [FloatOps F]

local notation "𝕄" => Idealize.ShloMosaic.MT nD τ sig Unit (Elt F) ℕ (Pipeline.UD sig nD τ) ℕ

variable (m : (ℓ : Loc nD τ sig) → Buf (Elt F) ℓ) (ρ : Dev nD → PrngReg)

/-- A run changes one array alone. -/
theorem afterRegion_update (p : Fin 4) (c : Dev nD) (d : Dat τ (Elt F) Unit ℕ (Pipeline.UD sig nD τ) ℕ (pcs m p) c)
    (v : Valuation τ sig (Elt F)) (hinj : Function.Injective (Pipeline.arrRef (pcs m p).spec))
    (hA : ∀ w, d.A w = v (Proc.devRef .tc (Pipeline.arrRef (pcs m p).spec w))) (r : Ref sig .tc)
    (hr : ∀ w, ((pcs m p).win w).isOut = false ∨ Pipeline.arrRef (pcs m p).spec w = r) :
    Function.update v (Proc.devRef .tc r) (Pipeline.afterRegion d v (Proc.devRef .tc r)) = Pipeline.afterRegion d v := by
  funext b
  by_cases e : b = Proc.devRef .tc r
  · subst e; rw [Function.update_self]
  · rw [Function.update_of_ne e]
    by_cases h : ∃ w, b = Proc.devRef .tc (Pipeline.arrRef (pcs m p).spec w)
    · obtain ⟨w, rfl⟩ := h
      refine (Pipeline.afterRegion_keeps d v hinj hA _ fun w' e' => ?_).symm
      rcases hr w' with h | h
      · exact h
      · exact absurd (congrArg (Proc.devRef (τ := τ) .tc) (e'.symm.trans h)) e
    · unfold Pipeline.afterRegion
      rw [dif_neg h]

/-- A core's buffers after the first run, then after each line that copies the sums, and after each later run. -/
def w5 (c : Dev nD) : Valuation τ sig (Elt F) := Pipeline.afterRegion (R0.dat m (V4 m) c) (V4 m c)
def w6 (c : Dev nD) : Valuation τ sig (Elt F) := StableHlo.after hostOps1 (w5 m c)
def w7 (c : Dev nD) : Valuation τ sig (Elt F) := Pipeline.afterRegion (R1.dat m (w6 m) c) (w6 m c)
def w8 (c : Dev nD) : Valuation τ sig (Elt F) := StableHlo.after hostOps2 (w7 m c)
def w9 (c : Dev nD) : Valuation τ sig (Elt F) := Pipeline.afterRegion (R2.dat m (w8 m) c) (w8 m c)
def w10 (c : Dev nD) : Valuation τ sig (Elt F) := StableHlo.after hostOps3 (w9 m c)
def w11 (c : Dev nD) : Valuation τ sig (Elt F) := Pipeline.afterRegion (R3.dat m (w10 m) c) (w10 m c)

/-- What each run leaves. -/
def outs : Outs (F := F) := fun J r c =>
  match J with
  | 5 => w5 m c (Proc.devRef .tc r)
  | 7 => w7 m c (Proc.devRef .tc r)
  | 9 => w9 m c (Proc.devRef .tc r)
  | _ => w11 m c (Proc.devRef .tc r)

theorem V5_eq (c : Dev nD) : V5 m (outs m) c = w5 m c :=
  afterRegion_update m 0 c (R0.dat m (V4 m) c) (V4 m c) (launch0 (F := F)).win.arr_inj (R0.A_eq m (V4 m) c) main_v11 (fun | ⟨0, _⟩ => .inl rfl | ⟨1, _⟩ => .inl rfl | ⟨2, _⟩ => .inr rfl)
theorem V6_eq (c : Dev nD) : V6 m (outs m) c = w6 m c := congrArg (StableHlo.after hostOps1) (V5_eq m c)
theorem V7_eq (c : Dev nD) : V7 m (outs m) c = w7 m c := by
  show Function.update (V6 m (outs m) c) _ _ = _
  rw [V6_eq]
  exact afterRegion_update m 1 c (R1.dat m (w6 m) c) (w6 m c) (launch1 (F := F)).win.arr_inj (R1.A_eq m (w6 m) c) main_v12 (fun | ⟨0, _⟩ => .inl rfl | ⟨1, _⟩ => .inl rfl | ⟨2, _⟩ => .inl rfl | ⟨3, _⟩ => .inr rfl)
theorem V8_eq (c : Dev nD) : V8 m (outs m) c = w8 m c := congrArg (StableHlo.after hostOps2) (V7_eq m c)
theorem V9_eq (c : Dev nD) : V9 m (outs m) c = w9 m c := by
  show Function.update (V8 m (outs m) c) _ _ = _
  rw [V8_eq]
  exact afterRegion_update m 2 c (R2.dat m (w8 m) c) (w8 m c) (launch2 (F := F)).win.arr_inj (R2.A_eq m (w8 m) c) main_v13 (fun | ⟨0, _⟩ => .inl rfl | ⟨1, _⟩ => .inl rfl | ⟨2, _⟩ => .inl rfl | ⟨3, _⟩ => .inr rfl)
theorem V10_eq (c : Dev nD) : V10 m (outs m) c = w10 m c := congrArg (StableHlo.after hostOps3) (V9_eq m c)
theorem V11_eq (c : Dev nD) : V11 m (outs m) c = w11 m c := by
  show Function.update (V10 m (outs m) c) _ _ = _
  rw [V10_eq]
  exact afterRegion_update m 3 c (R3.dat m (w10 m) c) (w10 m c) (launch3 (F := F)).win.arr_inj (R3.A_eq m (w10 m) c) main_v14 (fun | ⟨0, _⟩ => .inl rfl | ⟨1, _⟩ => .inl rfl | ⟨2, _⟩ => .inl rfl | ⟨3, _⟩ => .inr rfl)

/-- A buffer that neither the copies nor the runs write is, at each later run, as the first run found it. -/
theorem w6_of (c : Dev nD) (r : Ref sig .tc) (h1 : r ∉ ([main_v11] : List (Ref sig .tc))) (h2 : r ∉ hostOps1_W) : w6 m c (Proc.devRef .tc r) = V m c r := by
  rw [← V6_eq]; exact (V6_of m (outs m) c r h2).trans (V5_of m (outs m) c r h1)
theorem w8_of (c : Dev nD) (r : Ref sig .tc) (h1 : r ∉ ([main_v11] : List (Ref sig .tc))) (h2 : r ∉ hostOps1_W) (h3 : r ∉ ([main_v12] : List (Ref sig .tc)))
    (h4 : r ∉ hostOps2_W) : w8 m c (Proc.devRef .tc r) = V m c r := by
  rw [← V8_eq]; refine (V8_of m (outs m) c r h4).trans ((V7_of m (outs m) c r h3).trans ?_)
  rw [V6_eq]; exact w6_of m c r h1 h2
theorem w10_of (c : Dev nD) (r : Ref sig .tc) (h1 : r ∉ ([main_v11] : List (Ref sig .tc))) (h2 : r ∉ hostOps1_W) (h3 : r ∉ ([main_v12] : List (Ref sig .tc)))
    (h4 : r ∉ hostOps2_W) (h5 : r ∉ ([main_v13] : List (Ref sig .tc))) (h6 : r ∉ hostOps3_W) : w10 m c (Proc.devRef .tc r) = V m c r := by
  rw [← V10_eq]; refine (V10_of m (outs m) c r h6).trans ((V9_of m (outs m) c r h5).trans ?_)
  rw [V8_eq]; exact w8_of m c r h1 h2 h3 h4

/-- The four pipelines' data. -/
def pdats : (p : Fin 4) → (c : Dev nD) → Dat τ (Elt F) Unit ℕ (Pipeline.UD sig nD τ) ℕ (pcs m p) c
  | ⟨0, _⟩ => R0.dat m (V4 m)
  | ⟨1, _⟩ => R1.dat m (w6 m)
  | ⟨2, _⟩ => R2.dat m (w8 m)
  | ⟨3, _⟩ => R3.dat m (w10 m)
  | ⟨n + 4, h⟩ => absurd h (by omega)

/-- One index at every counter of the core, at level zero. -/
abbrev L : GSem nD τ sig → Finset Unit := fun g => if g.1.2 = .tc then {()} else ∅
abbrev lv : GSem nD τ sig → Unit → ℕ := fun _ _ => 0

/-- What rides along beside the buffers. -/
abbrev E (_ : Fin 5) (c : Dev nD) : sProp 𝕄 := iprop((∃ Wd, owes (c : Thread nD τ) (0 : CellTallies nD τ sig Unit) Wd) ∗ (∃ r, prngReg c r))

/-- The weight is among the buffers beside a run's arrays and tables. -/
theorem H0_sub {gr W : ℕ} (win : Fin W → Pipeline.WinSpec sig gr) (pre : Pipeline.Prefetch sig) (h1 : ∀ w, Pipeline.arrRef win w ≠ main_arg1) (h2 : ∀ k, pre.ref k ≠ main_arg1) :
    Pipeline.hbmRefs (τ := τ) H0 ⊆ (Pipeline.ucRefs τ sig \ Pipeline.arrRefs win) \ Pipeline.tblRefs pre := by
  intro b hb
  obtain ⟨r, hr, rfl⟩ := Finset.mem_map.mp hb
  obtain rfl := Finset.mem_singleton.mp hr
  refine Finset.mem_sdiff.mpr ⟨Finset.mem_sdiff.mpr ⟨Finset.mem_filter.mpr ⟨StableHlo.devRef_mem_tcRefs main_arg1, by decide⟩, ?_⟩, ?_⟩
  · intro h
    obtain ⟨r, hr, e⟩ := Finset.mem_map.mp h
    obtain ⟨w, -, rfl⟩ := Finset.mem_image.mp hr
    exact h1 w (Proc.devRef_injective _ e)
  · intro h
    obtain ⟨r, hr, e⟩ := Finset.mem_map.mp h
    obtain ⟨w, -, rfl⟩ := Finset.mem_image.mp hr
    exact h2 w (Proc.devRef_injective _ e)

/-- Nothing is owed, so every wait is allowed. -/
theorem cut (p : Fin 4) : Pipeline.LevelCut (Lvl := ℕ) (pcfgs (F := F)) (adm m) () L lv p (fun _ : Dev nD => (0 : CellTallies nD τ sig Unit)) (fun _ => 0) where
  hι := fun c w s => by simp [L]
  hιb := fun c w s => le_refl _
  hD := fun c g i h => absurd h (lt_irrefl 0)

/-- A run as a segment of the program: entered with every buffer, left with its array written. -/
def runSeg (p : Fin 4) (osem : Fin 1 → SemLoc sig) (ho : Pipeline.OwnSemFacts (pcfgs (F := F) p).spec osem)
  (kit : Pipeline.PLaunchFacts (nD := nD) (τ := τ) (pcfgs (F := F)) p)
  (hHS : Pipeline.hbmRefs (τ := τ) H0 ⊆ (Pipeline.ucRefs τ sig \ Pipeline.arrRefs (pcfgs (F := F) p).spec) \ Pipeline.tblRefs (pcfgs (F := F) p).pre)
  (hbody : ∀ c, Pipeline.BodyObligationLoose (pdats m p c) defs₀ Variants.none () Set.univ)
  (howed : ∀ c t, (pdats m p c).owed t = 0) (hrec : ∀ c, (pdats m p c).recorded 0 = Set.univ)
  (hshare : ∀ c w, (pdats m p c).share w = fullShare)
  (W : Dev nD → Valuation τ sig (Elt F))
  (hin : ∀ c : Dev nD, iprop(iprop(Pipeline.scopedRest (pcs m p).spec c ∗ (∃ r, prngReg c r) ∗ Pipeline.ownSems0 osem c
        ∗ (BI.bigSep H0 fun b => (((c.tc : Thread nD τ).loc b) ↦{fullShare} W c (Proc.devRef .tc b) : sProp 𝕄)) ∗ Transfers.MayWaits (c : Thread nD τ) () (0 : CellTallies nD τ sig Unit)) ∗ Pipeline.tablesAt pcfgs (adm m) p c) ⊢ (pdats m p c).Φ 0)
  (hout : ∀ c : Dev nD, (pdats m p c).Φ (Fin.last (pcs m p).N) ⊢ iprop(iprop(Pipeline.scopedRest (pcs m p).spec c ∗ (∃ r, prngReg c r) ∗ Pipeline.ownSems0 osem c
        ∗ (BI.bigSep H0 fun b => (((c.tc : Thread nD τ).loc b) ↦{fullShare} W c (Proc.devRef .tc b) : sProp 𝕄))) ∗ Pipeline.tablesAt pcfgs (adm m) p c))
  (hW : ∀ c w, (pdats m p c).arrAt w 0 = W c (Proc.devRef .tc (Pipeline.arrRef (pcs m p).spec w)))
  (hT : ∀ c k, (adm m p).1 k = W c (Proc.devRef .tc ((pcfgs (F := F) p).pre.ref k))) : RegionSeg (pcfgs (F := F)) (adm m) (pdats m) () defs₀ Variants.none L lv p :=
  RegionSeg.ofHeldDHT (pcfgs (F := F)) (adm m) (pdats m) () defs₀ Variants.none L lv p (fun _ => 0) () osem ho H0
    ((Pipeline.ucRefs τ sig \ Pipeline.arrRefs (pcfgs (F := F) p).spec) \ Pipeline.tblRefs (pcfgs (F := F) p).pre) hHS kit hbody howed hrec hshare
    (fun c => (show levAts L lv ⊢ (BI.emp : sProp 𝕄) from by iintro -; iempintro).trans (Transfers.MayWaits.zero (c : Thread nD τ) ()))
    W (fun c => Pipeline.afterRegion (pdats m p c) (W c)) hin hout (fun _ => 0) (cut m p) (fun _ => BI.emp) hW hT
    (fun c w => (Pipeline.afterRegion_arr (pdats m p c) (W c) kit.win.arr_inj w).symm)
    (fun c k => (hT c k).trans (Pipeline.afterRegion_of_not_arr (pdats m p c) (W c) (kit.pre.disj k)).symm)

/-- Entered with every buffer held. -/
theorem runSeg_pre (p : Fin 4) (osem : Fin 1 → SemLoc sig) (ho : Pipeline.OwnSemFacts (pcfgs (F := F) p).spec osem)
  (kit : Pipeline.PLaunchFacts (nD := nD) (τ := τ) (pcfgs (F := F)) p)
  (hHS : Pipeline.hbmRefs (τ := τ) H0 ⊆ (Pipeline.ucRefs τ sig \ Pipeline.arrRefs (pcfgs (F := F) p).spec) \ Pipeline.tblRefs (pcfgs (F := F) p).pre)
  (hbody : ∀ c, Pipeline.BodyObligationLoose (pdats m p c) defs₀ Variants.none () Set.univ)
  (howed : ∀ c t, (pdats m p c).owed t = 0) (hrec : ∀ c, (pdats m p c).recorded 0 = Set.univ)
  (hshare : ∀ c w, (pdats m p c).share w = fullShare)
  (W : Dev nD → Valuation τ sig (Elt F))
  (hin : ∀ c : Dev nD, iprop(iprop(Pipeline.scopedRest (pcs m p).spec c ∗ (∃ r, prngReg c r) ∗ Pipeline.ownSems0 osem c
        ∗ (BI.bigSep H0 fun b => (((c.tc : Thread nD τ).loc b) ↦{fullShare} W c (Proc.devRef .tc b) : sProp 𝕄)) ∗ Transfers.MayWaits (c : Thread nD τ) () (0 : CellTallies nD τ sig Unit)) ∗ Pipeline.tablesAt pcfgs (adm m) p c) ⊢ (pdats m p c).Φ 0)
  (hout : ∀ c : Dev nD, (pdats m p c).Φ (Fin.last (pcs m p).N) ⊢ iprop(iprop(Pipeline.scopedRest (pcs m p).spec c ∗ (∃ r, prngReg c r) ∗ Pipeline.ownSems0 osem c
        ∗ (BI.bigSep H0 fun b => (((c.tc : Thread nD τ).loc b) ↦{fullShare} W c (Proc.devRef .tc b) : sProp 𝕄))) ∗ Pipeline.tablesAt pcfgs (adm m) p c))
  (hW : ∀ c w, (pdats m p c).arrAt w 0 = W c (Proc.devRef .tc (Pipeline.arrRef (pcs m p).spec w)))
  (hT : ∀ c k, (adm m p).1 k = W c (Proc.devRef .tc ((pcfgs (F := F) p).pre.ref k))) (j : Fin 5) (c : Dev nD) :
    iprop(StableHlo.held (c.tc : Thread nD τ) (Pipeline.ucRefs τ sig) (W c) ∗ E j c) ⊢ (runSeg m p osem ho kit hHS hbody howed hrec hshare W hin hout hW hT).pre c := by
  show _ ⊢ iprop(StableHlo.held (c.tc : Thread nD τ) (Pipeline.arrRefs (pcfgs (F := F) p).spec) (W c) ∗ StableHlo.held (c.tc : Thread nD τ) (Pipeline.tblRefs (pcfgs (F := F) p).pre) (W c) ∗ (∃ r, prngReg c r)
    ∗ (StableHlo.held (c.tc : Thread nD τ) ((Pipeline.ucRefs τ sig \ Pipeline.arrRefs (pcfgs (F := F) p).spec) \ Pipeline.tblRefs (pcfgs (F := F) p).pre) (W c) ∗ (BI.emp : sProp 𝕄)) ∗ ∃ Wd, owes (c : Thread nD τ) (0 : CellTallies nD τ sig Unit) Wd)
  rw [StableHlo.held_sub_split (c.tc : Thread nD τ) (Pipeline.arrRefs_sub_ucRefs _ kit.win.arr_unscoped) (W c), StableHlo.held_sub_split (c.tc : Thread nD τ) (Pipeline.tblRefs_sub_sdiff (pcfgs (F := F) p).spec (pcfgs (F := F) p).pre kit.pre.disj (Pipeline.tblRefs_sub_ucRefs _ kit.pre.unscoped)) (W c)]
  iintro ⟨⟨Ha, Ht, Hu⟩, HO, HX⟩
  isplitl [Ha]; · iexact Ha
  isplitl [Ht]; · iexact Ht
  isplitl [HX]; · iexact HX
  isplitl [Hu]
  · isplitl [Hu]; · iexact Hu
    iempintro
  iexact HO

/-- Left with every buffer held, the run's array written. -/
theorem runSeg_post (p : Fin 4) (osem : Fin 1 → SemLoc sig) (ho : Pipeline.OwnSemFacts (pcfgs (F := F) p).spec osem)
  (kit : Pipeline.PLaunchFacts (nD := nD) (τ := τ) (pcfgs (F := F)) p)
  (hHS : Pipeline.hbmRefs (τ := τ) H0 ⊆ (Pipeline.ucRefs τ sig \ Pipeline.arrRefs (pcfgs (F := F) p).spec) \ Pipeline.tblRefs (pcfgs (F := F) p).pre)
  (hbody : ∀ c, Pipeline.BodyObligationLoose (pdats m p c) defs₀ Variants.none () Set.univ)
  (howed : ∀ c t, (pdats m p c).owed t = 0) (hrec : ∀ c, (pdats m p c).recorded 0 = Set.univ)
  (hshare : ∀ c w, (pdats m p c).share w = fullShare)
  (W : Dev nD → Valuation τ sig (Elt F))
  (hin : ∀ c : Dev nD, iprop(iprop(Pipeline.scopedRest (pcs m p).spec c ∗ (∃ r, prngReg c r) ∗ Pipeline.ownSems0 osem c
        ∗ (BI.bigSep H0 fun b => (((c.tc : Thread nD τ).loc b) ↦{fullShare} W c (Proc.devRef .tc b) : sProp 𝕄)) ∗ Transfers.MayWaits (c : Thread nD τ) () (0 : CellTallies nD τ sig Unit)) ∗ Pipeline.tablesAt pcfgs (adm m) p c) ⊢ (pdats m p c).Φ 0)
  (hout : ∀ c : Dev nD, (pdats m p c).Φ (Fin.last (pcs m p).N) ⊢ iprop(iprop(Pipeline.scopedRest (pcs m p).spec c ∗ (∃ r, prngReg c r) ∗ Pipeline.ownSems0 osem c
        ∗ (BI.bigSep H0 fun b => (((c.tc : Thread nD τ).loc b) ↦{fullShare} W c (Proc.devRef .tc b) : sProp 𝕄))) ∗ Pipeline.tablesAt pcfgs (adm m) p c))
  (hW : ∀ c w, (pdats m p c).arrAt w 0 = W c (Proc.devRef .tc (Pipeline.arrRef (pcs m p).spec w)))
  (hT : ∀ c k, (adm m p).1 k = W c (Proc.devRef .tc ((pcfgs (F := F) p).pre.ref k))) (j : Fin 5) (c : Dev nD) :
    (runSeg m p osem ho kit hHS hbody howed hrec hshare W hin hout hW hT).post c ⊢ iprop(StableHlo.held (c.tc : Thread nD τ) (Pipeline.ucRefs τ sig) (Pipeline.afterRegion (pdats m p c) (W c)) ∗ E j c) := by
  show iprop(StableHlo.held (c.tc : Thread nD τ) (Pipeline.arrRefs (pcfgs (F := F) p).spec) (Pipeline.afterRegion (pdats m p c) (W c))
    ∗ StableHlo.held (c.tc : Thread nD τ) (Pipeline.tblRefs (pcfgs (F := F) p).pre) (Pipeline.afterRegion (pdats m p c) (W c)) ∗ (∃ r, prngReg c r)
    ∗ (StableHlo.held (c.tc : Thread nD τ) ((Pipeline.ucRefs τ sig \ Pipeline.arrRefs (pcfgs (F := F) p).spec) \ Pipeline.tblRefs (pcfgs (F := F) p).pre) (W c) ∗ (BI.emp : sProp 𝕄)) ∗ ∃ Wd, owes (c : Thread nD τ) (0 : CellTallies nD τ sig Unit) Wd) ⊢ _
  rw [StableHlo.held_sub_split (c.tc : Thread nD τ) (Pipeline.arrRefs_sub_ucRefs _ kit.win.arr_unscoped) (Pipeline.afterRegion (pdats m p c) (W c)),
    StableHlo.held_sub_split (c.tc : Thread nD τ) (Pipeline.tblRefs_sub_sdiff (pcfgs (F := F) p).spec (pcfgs (F := F) p).pre kit.pre.disj (Pipeline.tblRefs_sub_ucRefs _ kit.pre.unscoped)) (Pipeline.afterRegion (pdats m p c) (W c)),
    StableHlo.held_congr (c.tc : Thread nD τ) (S := (Pipeline.ucRefs τ sig \ Pipeline.arrRefs (pcfgs (F := F) p).spec) \ Pipeline.tblRefs (pcfgs (F := F) p).pre) (V := Pipeline.afterRegion (pdats m p c) (W c)) (V' := W c)
      (fun b hb => Pipeline.afterRegion_off (pdats m p c) (W c) (Pipeline.ucRefs τ sig) b (Finset.mem_sdiff.mp hb).1)]
  iintro ⟨Ha, Ht, HX, ⟨Hu, -⟩, HO⟩
  isplitl [Ha Ht Hu]
  · isplitl [Ha]; · iexact Ha
    isplitl [Ht]; · iexact Ht
    iexact Hu
  isplitl [HO]; · iexact HO
  iexact HX

variable (g : GoodAt m)

/-- The tables as run 0 finds them. -/
theorem hT0 (c : Dev nD) (k : Fin 3) : (adm m 0).1 k = (V4 m) c (Proc.devRef .tc (pre0.ref k)) := by
  obtain rfl : c = 0 := Subsingleton.elim _ _
  match k with
  | ⟨0, _⟩ => exact rfl
  | ⟨1, _⟩ => exact rfl
  | ⟨2, _⟩ => exact rfl
/-- Run 0. -/
def seg0R : RegionSeg (pcfgs (F := F)) (adm m) (pdats m) () defs₀ Variants.none L lv 0 :=
  runSeg m 0 R0.osem R0.ownSemFacts launch0 (H0_sub spec0 pre0 (by decide) (by decide)) (fun c => (R0.body_obligation m (V4 m) g c).loose) (fun _ _ => rfl) (fun _ => rfl)
    (fun c => (R0.dat m (V4 m) c).share_full fun _ => rfl) (V4 m) (fun c => R0.hin m (V4 m) (fun _ => rfl) c _) (fun c => R0.hout m (V4 m) (fun _ => rfl) g c)
    (fun c w => R0.A_eq m (V4 m) c w) (hT0 m)

/-- The tables as run 1 finds them. -/
theorem hT1 (c : Dev nD) (k : Fin 3) : (adm m 1).1 k = (w6 m) c (Proc.devRef .tc (pre1.ref k)) := by
  obtain rfl : c = 0 := Subsingleton.elim _ _
  match k with
  | ⟨0, _⟩ => exact (w6_of m 0 main_arg2 (by decide) (by decide)).symm
  | ⟨1, _⟩ => exact (w6_of m 0 main_arg3 (by decide) (by decide)).symm
  | ⟨2, _⟩ => exact (w6_of m 0 main_v10 (by decide) (by decide)).symm
/-- Run 1. -/
def seg1R : RegionSeg (pcfgs (F := F)) (adm m) (pdats m) () defs₀ Variants.none L lv 1 :=
  runSeg m 1 R1.osem R1.ownSemFacts launch1 (H0_sub spec1 pre1 (by decide) (by decide)) (fun c => (R1.body_obligation m (w6 m) g c).loose) (fun _ _ => rfl) (fun _ => rfl)
    (fun c => (R1.dat m (w6 m) c).share_full fun _ => rfl) (w6 m) (fun c => R1.hin m (w6 m) (fun c => w6_of m c main_arg1 (by decide) (by decide)) c _) (fun c => R1.hout m (w6 m) (fun c => w6_of m c main_arg1 (by decide) (by decide)) g c)
    (fun c w => R1.A_eq m (w6 m) c w) (hT1 m)

/-- The tables as run 2 finds them. -/
theorem hT2 (c : Dev nD) (k : Fin 3) : (adm m 2).1 k = (w8 m) c (Proc.devRef .tc (pre2.ref k)) := by
  obtain rfl : c = 0 := Subsingleton.elim _ _
  match k with
  | ⟨0, _⟩ => exact (w8_of m 0 main_arg2 (by decide) (by decide) (by decide) (by decide)).symm
  | ⟨1, _⟩ => exact (w8_of m 0 main_arg3 (by decide) (by decide) (by decide) (by decide)).symm
  | ⟨2, _⟩ => exact (w8_of m 0 main_v10 (by decide) (by decide) (by decide) (by decide)).symm
/-- Run 2. -/
def seg2R : RegionSeg (pcfgs (F := F)) (adm m) (pdats m) () defs₀ Variants.none L lv 2 :=
  runSeg m 2 R2.osem R2.ownSemFacts launch2 (H0_sub spec2 pre2 (by decide) (by decide)) (fun c => (R2.body_obligation m (w8 m) g c).loose) (fun _ _ => rfl) (fun _ => rfl)
    (fun c => (R2.dat m (w8 m) c).share_full fun _ => rfl) (w8 m) (fun c => R2.hin m (w8 m) (fun c => w8_of m c main_arg1 (by decide) (by decide) (by decide) (by decide)) c _) (fun c => R2.hout m (w8 m) (fun c => w8_of m c main_arg1 (by decide) (by decide) (by decide) (by decide)) g c)
    (fun c w => R2.A_eq m (w8 m) c w) (hT2 m)

/-- The tables as run 3 finds them. -/
theorem hT3 (c : Dev nD) (k : Fin 3) : (adm m 3).1 k = (w10 m) c (Proc.devRef .tc (pre3.ref k)) := by
  obtain rfl : c = 0 := Subsingleton.elim _ _
  match k with
  | ⟨0, _⟩ => exact (w10_of m 0 main_arg2 (by decide) (by decide) (by decide) (by decide) (by decide) (by decide)).symm
  | ⟨1, _⟩ => exact (w10_of m 0 main_arg3 (by decide) (by decide) (by decide) (by decide) (by decide) (by decide)).symm
  | ⟨2, _⟩ => exact (w10_of m 0 main_v10 (by decide) (by decide) (by decide) (by decide) (by decide) (by decide)).symm
/-- Run 3. -/
def seg3R : RegionSeg (pcfgs (F := F)) (adm m) (pdats m) () defs₀ Variants.none L lv 3 :=
  runSeg m 3 R3.osem R3.ownSemFacts launch3 (H0_sub spec3 pre3 (by decide) (by decide)) (fun c => (R3.body_obligation m (w10 m) g c).loose) (fun _ _ => rfl) (fun _ => rfl)
    (fun c => (R3.dat m (w10 m) c).share_full fun _ => rfl) (w10 m) (fun c => R3.hin m (w10 m) (fun c => w10_of m c main_arg1 (by decide) (by decide) (by decide) (by decide) (by decide) (by decide)) c _) (fun c => R3.hout m (w10 m) (fun c => w10_of m c main_arg1 (by decide) (by decide) (by decide) (by decide) (by decide) (by decide)) g c)
    (fun c w => R3.A_eq m (w10 m) c w) (hT3 m)

/-- The launch's rest makes what rides along. -/
theorem hE0 : iprop((bigSep Finset.univ fun c : Dev nD => iprop(unscopedSems0 c ∗ owes (c : Thread nD τ) (0 : CellTallies nD τ sig Unit) ∅ ∗ Pipeline.launchCred (fun _ => 0) c ∗ prngReg c (ρ c) ∗ BI.emp)) ∗ levAts L lv)
      ⊢ (|={Set.univ}=> bigSep Finset.univ (E 0) : sProp 𝕄) := by
  iintro ⟨H, -⟩
  imodintro
  iapply (show (bigSep Finset.univ fun c : Dev nD => iprop(unscopedSems0 c ∗ owes (c : Thread nD τ) (0 : CellTallies nD τ sig Unit) ∅ ∗ Pipeline.launchCred (fun _ => 0) c ∗ prngReg c (ρ c) ∗ BI.emp))
      ⊢ (bigSep Finset.univ (E 0) : sProp 𝕄) from bigSep_mono fun c _ => by
    show iprop(unscopedSems0 c ∗ owes (c : Thread nD τ) (0 : CellTallies nD τ sig Unit) ∅ ∗ Pipeline.launchCred (fun _ => 0) c ∗ prngReg c (ρ c) ∗ BI.emp)
      ⊢ (iprop((∃ Wd, owes (c : Thread nD τ) (0 : CellTallies nD τ sig Unit) Wd) ∗ (∃ r, prngReg c r)) : sProp 𝕄)
    iintro ⟨-, HO, -, Hg, -⟩
    isplitl [HO]
    · iexists _; iexact HO
    iexists _; iexact Hg)
  iexact H

set_option maxHeartbeats 4000000 in
set_option backward.isDefEq.respectTransparency.types false in
include g in
/-- The run: it ends, the arguments are unchanged, the result is what the last run leaves, and every semaphore is at zero. -/
theorem run_main :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_v14) = w11 m c (Proc.devRef .tc main_v14))
      ∧ r.2.sem = fun _ => 0) := by
  have hp0 : ∀ c : Dev nD, iprop(StableHlo.held (c : Thread nD τ) (Pipeline.ucRefs τ sig) (V4 m c) ∗ E 0 c) ⊢ (seg0R m g).pre c := fun c => by
    exact runSeg_pre m 0 _ _ _ _ _ _ _ _ _ _ _ _ _ 0 c
  have hq0 : ∀ c : Dev nD, (seg0R m g).post c ⊢ iprop(StableHlo.held (c : Thread nD τ) (Pipeline.ucRefs τ sig) (V5 m (outs m) c) ∗ E 1 c) := fun c => by
    rw [V5_eq]; exact runSeg_post m 0 _ _ _ _ _ _ _ _ _ _ _ _ _ 1 c
  have hp1 : ∀ c : Dev nD, iprop(StableHlo.held (c : Thread nD τ) (Pipeline.ucRefs τ sig) (V6 m (outs m) c) ∗ E 1 c) ⊢ (seg1R m g).pre c := fun c => by
    rw [V6_eq]; exact runSeg_pre m 1 _ _ _ _ _ _ _ _ _ _ _ _ _ 1 c
  have hq1 : ∀ c : Dev nD, (seg1R m g).post c ⊢ iprop(StableHlo.held (c : Thread nD τ) (Pipeline.ucRefs τ sig) (V7 m (outs m) c) ∗ E 2 c) := fun c => by
    rw [V7_eq]; exact runSeg_post m 1 _ _ _ _ _ _ _ _ _ _ _ _ _ 2 c
  have hp2 : ∀ c : Dev nD, iprop(StableHlo.held (c : Thread nD τ) (Pipeline.ucRefs τ sig) (V8 m (outs m) c) ∗ E 2 c) ⊢ (seg2R m g).pre c := fun c => by
    rw [V8_eq]; exact runSeg_pre m 2 _ _ _ _ _ _ _ _ _ _ _ _ _ 2 c
  have hq2 : ∀ c : Dev nD, (seg2R m g).post c ⊢ iprop(StableHlo.held (c : Thread nD τ) (Pipeline.ucRefs τ sig) (V9 m (outs m) c) ∗ E 3 c) := fun c => by
    rw [V9_eq]; exact runSeg_post m 2 _ _ _ _ _ _ _ _ _ _ _ _ _ 3 c
  have hp3 : ∀ c : Dev nD, iprop(StableHlo.held (c : Thread nD τ) (Pipeline.ucRefs τ sig) (V10 m (outs m) c) ∗ E 3 c) ⊢ (seg3R m g).pre c := fun c => by
    rw [V10_eq]; exact runSeg_pre m 3 _ _ _ _ _ _ _ _ _ _ _ _ _ 3 c
  have hq3 : ∀ c : Dev nD, (seg3R m g).post c ⊢ iprop(StableHlo.held (c : Thread nD τ) (Pipeline.ucRefs τ sig) (V11 m (outs m) c) ∗ E 4 c) := fun c => by
    rw [V11_eq]; exact runSeg_post m 3 _ _ _ _ _ _ _ _ _ _ _ _ _ 4 c
  have hu₀ : (ownU (initOf (Pipeline.cells (Pipeline.pin (pcfgs (F := F)) (adm m)) (cellOf_inj (adm m))) (Pipeline.launchToks (Pipeline.pin (pcfgs (F := F)) (adm m)) (cellOf_inj (adm m))), 1) : sProp 𝕄)
      ⊢ |={Set.univ}=> iprop(BI.own (embL (initOf (Pipeline.cells (Pipeline.pin (pcfgs (F := F)) (adm m)) (cellOf_inj (adm m))) (Pipeline.launchToks (Pipeline.pin (pcfgs (F := F)) (adm m)) (cellOf_inj (adm m))))) ∗ bigSep Finset.univ (fun _ : Dev nD => (BI.emp : sProp 𝕄))) := by
    iintro Hu
    ihave H' := (ownU_pair _ _) $$ Hu
    icases H' with ⟨HP, -⟩
    imodintro
    isplitl [HP]; · iexact HP
    iapply (show (BI.emp : sProp 𝕄) ⊢ bigSep Finset.univ (fun _ : Dev nD => (BI.emp : sProp 𝕄)) from by rw [BI.bigSep_emp_const])
    iempintro
  refine Pipeline.θ_run_regions_kit_dev_sems (pcfgs (F := F)) (adm m) (pdats m) () (cellOf_inj (adm m)) embL defs₀ Variants.none L lv m ρ main
    (segs m (outs m) Variants.none L lv E () (adm m) (pdats m) (seg0R m g) (seg1R m g) (seg2R m g) (seg3R m g))
    (fun c Q => by
      rewrite [main_chain c, Seg.run_eq_chain,
        show (segs m (outs m) Variants.none L lv E () (adm m) (pdats m) (seg0R m g) (seg1R m g) (seg2R m g) (seg3R m g) c).map Seg.prog = [
          StableHlo.seq hostOps0,
          StableHlo.seq hostOps0_1,
          StableHlo.seq hostOps0_2,
          StableHlo.seq hostOps0_3,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()) ] from rfl]
      dsimp (config := { failIfUnchanged := false }) only
      exact .rfl)
    (fun c => by simp only [segs, Seg.pipes_host, Seg.pipes_region, Seg.pipes_nil]; decide) (fun _ => 0) (fun g h => if_neg h) (fun _ => BI.emp) (initOf (Pipeline.cells (Pipeline.pin (pcfgs (F := F)) (adm m)) (cellOf_inj (adm m))) (Pipeline.launchToks (Pipeline.pin (pcfgs (F := F)) (adm m)) (cellOf_inj (adm m))), 1) hu₀
    (T₀ := fun c => iprop(StableHlo.held (c : Thread nD τ) (Pipeline.ucRefs τ sig) (V0 m c) ∗ E 0 c))
    (Tₙ := fun c => StableHlo.held (c : Thread nD τ) (Pipeline.ucRefs τ sig) (V11 m (outs m) c))
    (hch := fun c => ⟨.rfl, .rfl, .rfl, .rfl, hp0 c, hq0 c, hp1 c, hq1 c, hp2 c, hq2 c, hp3 c, (hq3 c).trans (sep_mono .rfl (by iintro ⟨HO, -⟩; iexact HO))⟩)
    (hinit := ?_) (QY := fun c s => s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_v14) = w11 m c (Proc.devRef .tc main_v14))
    (hfin := fun c s' => ?_) (hQ := fun _ h hz => ⟨h, funext fun g => hz g (.inr (regions_no_unscoped g.2))⟩)
  · -- the launch: the unscoped buffers are `held` at `V0`; the rest makes `E 0` on every core at once
    have hsplit : (bigSep Finset.univ fun c : Dev nD => iprop(unscopedBufs c (fun b => m ((c.tc : Thread nD τ).loc b)) ∗ unscopedSems0 c
          ∗ owes (c.tc : Thread nD τ) (0 : CellTallies nD τ sig Unit) ∅ ∗ Pipeline.launchCred (fun _ => 0) c ∗ prngReg c (ρ c) ∗ BI.emp))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (0 : CellTallies nD τ sig Unit) ∅ ∗ Pipeline.launchCred (fun _ => 0) c ∗ prngReg c (ρ c) ∗ BI.emp))
            : sProp 𝕄) := by
      rw [← bigSep_sep']
      exact bigSep_mono fun c _ => by rw [← Pipeline.unscopedBufs_held (Ix := Unit) (Name := ℕ) (U := Pipeline.UD sig nD τ) (Lvl := ℕ) c (V0 m c)]; exact BI.Entails.refl _
    iintro ⟨H, Hla⟩
    ihave H' := hsplit $$ H
    icases H' with ⟨Hh, Hr⟩
    imod (hE0 ρ) $$ [Hr Hla] with HE
    · isplitl [Hr]; · iexact Hr
      iexact Hla
    imodintro
    rw [show (bigSep Finset.univ fun c : Dev nD => iprop(StableHlo.held (c : Thread nD τ) (Pipeline.ucRefs τ sig) (V0 m c) ∗ E 0 c))
        = (iprop((bigSep Finset.univ fun c : Dev nD => StableHlo.held (c : Thread nD τ) (Pipeline.ucRefs τ sig) (V0 m c)) ∗ bigSep Finset.univ (E 0)) : sProp 𝕄) from bigSep_sep' ..]
    isplitl [Hh]; · iexact Hh
    iexact HE
  · -- the end: each argument's buffer read off the last valuation
    unfold StableHlo.held
    iintro ⟨Hh, HSI⟩
    ihave Hr := (pointsTo_read_all (Pipeline.ucRefs τ sig) (fun b => ((c : Thread nD τ).1, b)) (V11 m (outs m) c) s') $$ [Hh HSI]
    · isplitl [Hh] <;> iassumption
    icases Hr with ⟨%h, HSI⟩
    imodintro
    isplitr
    · ipureintro
      exact ⟨(h (Proc.devRef .tc main_arg0) (Finset.mem_filter.mpr ⟨StableHlo.devRef_mem_tcRefs main_arg0, by decide⟩)).trans (V11_main_arg0 m (outs m) c),
        (h (Proc.devRef .tc main_arg1) (Finset.mem_filter.mpr ⟨StableHlo.devRef_mem_tcRefs main_arg1, by decide⟩)).trans (V11_main_arg1 m (outs m) c),
        (h (Proc.devRef .tc main_arg2) (Finset.mem_filter.mpr ⟨StableHlo.devRef_mem_tcRefs main_arg2, by decide⟩)).trans (V11_main_arg2 m (outs m) c),
        (h (Proc.devRef .tc main_arg3) (Finset.mem_filter.mpr ⟨StableHlo.devRef_mem_tcRefs main_arg3, by decide⟩)).trans (V11_main_arg3 m (outs m) c),
        (h (Proc.devRef .tc main_arg4) (Finset.mem_filter.mpr ⟨StableHlo.devRef_mem_tcRefs main_arg4, by decide⟩)).trans (V11_main_arg4 m (outs m) c),
        (h (Proc.devRef .tc main_v14) (Finset.mem_filter.mpr ⟨StableHlo.devRef_mem_tcRefs main_v14, by decide⟩)).trans (congrFun (V11_eq m c) _)⟩
    · iexact HSI

end Cert.DownIdeal.Moe
end
end
-- ==== Proof.DownSame.lean ====
/- The second product's kernel and its ideal reading are the same text: the bodies, the calls and the host lines are the same programs at
   every float instance, so a run of the one is a run of the other. -/
module

public import proofs.«01_k».proof.Proof.Gen.Down
public import proofs.«01_k».proof.Proof.Gen.DownIdeal

@[expose] public section

noncomputable section

namespace Cert.DownSame

open Idealize.ShloMosaic Idealize.SL.Sem

variable {F : FTy → Type} [FloatOps F]

set_option maxHeartbeats 4000000 in
/-- The bodies of the calls, at every point. -/
theorem bodies : Cert.Down.defs₀ (F := F) = Cert.DownIdeal.defs₀ (F := F) := by
  unfold Cert.Down.defs₀ Cert.DownIdeal.defs₀
  congr 1
  funext x y
  match x, y with
  | 0, (t, s) => rfl
  | 1, (t, s) => rfl
  | 2, (t, s) => rfl
  | 3, (t, s) => rfl
  | ⟨_ + 4, h⟩, _ => exact absurd h (Nat.not_lt.2 (Nat.le_add_left _ _))

/-- The first call's pipeline. -/
theorem call0 : Cert.Down.pcfg0 (F := F) = Cert.DownIdeal.pcfg0 (F := F) := rfl

/-- The second call's pipeline. -/
theorem call1 : Cert.Down.pcfg1 (F := F) = Cert.DownIdeal.pcfg1 (F := F) := rfl

/-- The third call's pipeline. -/
theorem call2 : Cert.Down.pcfg2 (F := F) = Cert.DownIdeal.pcfg2 (F := F) := rfl

/-- The fourth call's pipeline. -/
theorem call3 : Cert.Down.pcfg3 (F := F) = Cert.DownIdeal.pcfg3 (F := F) := rfl

/-- The calls' pipelines. -/
theorem calls : Cert.Down.pcfgs (F := F) = Cert.DownIdeal.pcfgs (F := F) := by
  funext p
  match p with
  | 0 => exact call0
  | 1 => exact call1
  | 2 => exact call2
  | 3 => exact call3

set_option maxHeartbeats 4000000 in
/-- A run of the ideal reading is a run of the kernel. -/
theorem run_same (m : (ℓ : Loc Cert.Down.nD Cert.Down.τ Cert.Down.sig) → Buf (Elt F) ℓ) (ρ : Dev Cert.Down.nD → PrngReg) (post)
    (h : θ_run (Cert.DownIdeal.defs (F := F)) (onTc (τ := Cert.DownIdeal.τ) (Cert.DownIdeal.main (F := F))) ⟨m, fun _ => 0, ρ⟩ post) :
    θ_run (Cert.Down.defs (F := F)) (onTc (τ := Cert.Down.τ) (Cert.Down.main (F := F))) ⟨m, fun _ => 0, ρ⟩ post := by
  unfold Cert.Down.defs Cert.Down.main Cert.Down.fn_where.body Cert.Down.fn_where_0.body
  rw [bodies, calls]
  exact h

end Cert.DownSame

end

end
-- ==== Proof.DownHost.lean ====
/- The second product's tables and gates: what the precondition says of them, and what the host works out from them before the first run. -/
module

public import proofs.«01_k».proof.Proof.DownRun
public import proofs.«01_k».proof.Proof.ExpHost
public import proofs.«01_k».proof.Proof.Gen.Pre_gated_tables
public import Idealize.ShloMosaic.Lib.StableHlo.Predicate
public import Idealize.ShloMosaic.Lib.ReduceAll
public import Idealize.ShloMosaic.Lib.Pipeline.ValueKit.Point
public import Idealize.ShloMosaic.Lib.Claim

@[expose] public section

set_option maxRecDepth 16384

noncomputable section

namespace Cert.DownIdeal.Moe

open Idealize.ShloMosaic Idealize.ShloMosaic.TcCoe Idealize.ShloMosaic.Tactic Cert.DownIdeal Cert.DownIdeal.Gen
open Idealize.SL.Sem
open Cert.ExpertsIdeal.Moe (nextTab Fits good_of_fits andi_one)

variable {F : FTy → Type} [FloatOps F]

variable (m : (ℓ : Loc nD τ sig) → Buf (Elt F) ℓ)

/-- An argument reaches the first run as launched. -/
theorem V_of (c : Dev nD) (r : Ref sig .tc) (h0 : r ∉ hostOps0_W) (h1 : r ∉ hostOps0_1_W) (h2 : r ∉ hostOps0_2_W) (h3 : r ∉ hostOps0_3_W) :
    V m c r = m ((c : Thread nD τ).loc r) :=
  (V4_of m c r h3).trans ((V3_of m c r h2).trans ((V2_of m c r h1).trans (V1_of m c r h0)))

theorem V_main_arg0 (c : Dev nD) : V m c main_arg0 = m ((c : Thread nD τ).loc main_arg0) := V_of m c main_arg0 (by decide) (by decide) (by decide) (by decide)
theorem V_main_arg1 (c : Dev nD) : V m c main_arg1 = m ((c : Thread nD τ).loc main_arg1) := V_of m c main_arg1 (by decide) (by decide) (by decide) (by decide)
theorem V_main_arg2 (c : Dev nD) : V m c main_arg2 = m ((c : Thread nD τ).loc main_arg2) := V_of m c main_arg2 (by decide) (by decide) (by decide) (by decide)
theorem V_main_arg3 (c : Dev nD) : V m c main_arg3 = m ((c : Thread nD τ).loc main_arg3) := V_of m c main_arg3 (by decide) (by decide) (by decide) (by decide)
theorem V_main_arg4 (c : Dev nD) : V m c main_arg4 = m ((c : Thread nD τ).loc main_arg4) := V_of m c main_arg4 (by decide) (by decide) (by decide) (by decide)

/-- The third table is the next experts' numbers. -/
theorem V_next (c : Dev nD) : (V m c main_v10 : Vec F S40 .i32) = nextTab (m ((c : Thread nD τ).loc main_arg2)) := by
  simp only [V, V4, V3, V2, V1, V0, hostOps0, hostOps0_1, hostOps0_2, hostOps0_3]
  after_results_simp
  rfl

/-- Tables that fit are good. -/
theorem goodAt (h : Fits (m (((0 : Dev nD) : Thread nD τ).loc main_arg2)) (m (((0 : Dev nD) : Thread nD τ).loc main_arg3))) : GoodAt m := by
  unfold GoodAt
  rw [V_main_arg2, V_main_arg3, V_next]
  have g := good_of_fits (F := F) _ _ h
  exact ⟨g.te_lt, g.kind, g.last, g.change, g.keep, g.nx_lt⟩

/-- The precondition makes the tables fit. -/
theorem fits_of_pre (a0 a1) (te md : IVec S40 32) (s) (h : Cert.Pre_gated_tables.fn (F := F) a0 a1 te md s = fun _ => 1#1) : Fits te md := by
  have h' := congrFun h ValueIdx.ix0
  simp only [Cert.Pre_gated_tables.fn, Cert.Pre_gated_tables.fn_part1, Cert.Pre_gated_tables.fn_part2] at h'
  haveI : Subsingleton Cert.Pre_gated_tables.S_.Idx := ⟨fun a b => funext fun z => z.elim0⟩
  have h1 := ((andi_one _ _).mp h').1
  refine Cert.ExpertsIdeal.Moe.fits_of_pre (F := F) (constant _ .bf16 0x0000#16) (constant _ .f32 0x00000000#32) (constant _ .f32 0x00000000#32) te md ?_
  funext i
  exact (Host.reduce_andi_all _ _ _ _ _ h1 i :)

/-- The test of a gate. -/
def gateTest (a : EReal) : BitVec 1 := IntOp.andi (Ideal.cmp .oge a (Ideal.ofBits .f32 0x00000000#32)) (Ideal.cmp .ole a (Ideal.ofBits .f32 0x3F800000#32))

/-- A gate that passes the test lies between 0 and 1. -/
theorem gateTest_iff (a : EReal) (h : gateTest a = 1#1) : 0 ≤ a ∧ a ≤ 1 := by
  have bit : ∀ b : Bool, BitVec.ofBool b = 1#1 → b = true := by decide
  unfold gateTest at h
  rw [Ideal.ofBits_zero_f32, Ideal.ofBits_one_f32, andi_one] at h
  exact ⟨of_decide_eq_true (bit _ h.1), of_decide_eq_true (bit _ h.2)⟩

/-- The precondition keeps every gate between 0 and 1. -/
theorem gates_of_pre (a0 a1) (te md : IVec S40 32) (s : Vec Ideal S20480x1 .f32) (h : Cert.Pre_gated_tables.fn (F := Ideal) a0 a1 te md s = fun _ => 1#1) (r : Fin 20480) :
    0 ≤ s (ValueIdx.ix2 r (0 : Fin 1)) ∧ s (ValueIdx.ix2 r (0 : Fin 1)) ≤ 1 := by
  have h' := congrFun h ValueIdx.ix0
  simp only [Cert.Pre_gated_tables.fn, Cert.Pre_gated_tables.fn_part1, Cert.Pre_gated_tables.fn_part2] at h'
  haveI : Subsingleton Cert.Pre_gated_tables.S_.Idx := ⟨fun a b => funext fun z => z.elim0⟩
  exact gateTest_iff _ (Host.reduce_andi_all _ _ _ _ _ ((andi_one _ _).mp h').2 (ValueIdx.ix2 r (0 : Fin 1)) :)

end Cert.DownIdeal.Moe

end

end
-- ==== Proof.DownMath.lean ====
/- The second product on extended reals: what a tile holds entry by entry, and that the four parts scaled by the gate and added up are
   the whole product scaled by the gate. -/
module

public import proofs.«01_k».proof.Proof.DownRows
public import proofs.«01_k».proof.Proof.ExpMath
public import Idealize.ShloMosaic.Lib.Pipeline.ValueKit.Point

@[expose] public section

set_option maxRecDepth 16384

noncomputable section

namespace Cert.DownIdeal.Moe

open Idealize.ShloMosaic Cert.DownIdeal Cert.DownIdeal.Gen
open Cert.ExpertsIdeal.Moe (Live)

/-- The tile of a row. -/
def tileOf (r : Fin 20480) : Fin 40 := ⟨r.val / 512, by omega⟩

/-- The expert a tile names. -/
def expOf (te : IVec S40 32) (z : Fin 40) : Fin 8 := ⟨(te (ValueIdx.ix1 z)).toNat % 8, Nat.mod_lt _ (by decide)⟩

/-- One part of the sum of a row against its expert's weight: the 3584 columns from `klo` on. -/
def part (g : Vec Ideal S20480x14336 .bf16) (w2 : Vec Ideal S8x14336x4096 .f32) (e : Fin 8) (klo : ℕ) (r : Fin 20480) (j : Fin 4096) : EReal :=
  ∑ k : Fin 3584, g (ValueIdx.ix2 r (⟨(klo + k.val) % 14336, Nat.mod_lt _ (by decide)⟩ : Fin 14336))
    * w2 (ValueIdx.ix3 e (⟨(klo + k.val) % 14336, Nat.mod_lt _ (by decide)⟩ : Fin 14336) j)

/-- The sums after the first part. -/
def stage0 (g : Vec Ideal S20480x14336 .bf16) (w2 : Vec Ideal S8x14336x4096 .f32) (te md : IVec S40 32) (s : Vec Ideal S20480x1 .f32) :
    Vec Ideal S20480x4096 .f32 := fun y =>
  if Live (md (ValueIdx.ix1 (tileOf (y 0)))) ((y 0).val % 512) then part g w2 (expOf te (tileOf (y 0))) 0 (y 0) (y 1) * s (ValueIdx.ix2 (y 0) (0 : Fin 1)) else 0

/-- The sums after a later part, over the sums before it. -/
def stage (klo : ℕ) (R : Vec Ideal S20480x4096 .f32) (g : Vec Ideal S20480x14336 .bf16) (w2 : Vec Ideal S8x14336x4096 .f32) (te md : IVec S40 32)
    (s : Vec Ideal S20480x1 .f32) : Vec Ideal S20480x4096 .f32 := fun y =>
  if Live (md (ValueIdx.ix1 (tileOf (y 0)))) ((y 0).val % 512) then R y + part g w2 (expOf te (tileOf (y 0))) klo (y 0) (y 1) * s (ValueIdx.ix2 (y 0) (0 : Fin 1)) else 0

/-- The whole result: a computed row is its expert's product scaled by the row's gate, another row is zero. -/
def downOut (g : Vec Ideal S20480x14336 .bf16) (w2 : Vec Ideal S8x14336x4096 .f32) (te md : IVec S40 32) (s : Vec Ideal S20480x1 .f32) :
    Vec Ideal S20480x4096 .f32 := fun y =>
  if Live (md (ValueIdx.ix1 (tileOf (y 0)))) ((y 0).val % 512) then
    s (ValueIdx.ix2 (y 0) (0 : Fin 1)) * ∑ k : Fin 14336, g (ValueIdx.ix2 (y 0) k) * w2 (ValueIdx.ix3 (expOf te (tileOf (y 0))) k (y 1))
  else 0

/-- A sum over 14336 columns in four parts. -/
theorem sum_parts (f : Fin 14336 → EReal) :
    ∑ k : Fin 14336, f k = (∑ k : Fin 3584, f ⟨(0 + k.val) % 14336, Nat.mod_lt _ (by decide)⟩) + (∑ k : Fin 3584, f ⟨(3584 + k.val) % 14336, Nat.mod_lt _ (by decide)⟩)
      + (∑ k : Fin 3584, f ⟨(7168 + k.val) % 14336, Nat.mod_lt _ (by decide)⟩) + (∑ k : Fin 3584, f ⟨(10752 + k.val) % 14336, Nat.mod_lt _ (by decide)⟩) := by
  let G : ℕ → EReal := fun n => f ⟨n % 14336, Nat.mod_lt _ (by decide)⟩
  have e : ∑ k : Fin 14336, f k = ∑ n ∈ Finset.range (3584 + 3584 + 3584 + 3584), G n := by
    rw [Finset.sum_range]
    exact Finset.sum_congr rfl fun k _ => congrArg f (Fin.ext (Nat.mod_eq_of_lt k.isLt).symm)
  rw [e, Finset.sum_range_add, Finset.sum_range_add, Finset.sum_range_add, Finset.sum_range, Finset.sum_range, Finset.sum_range, Finset.sum_range]
  simp only [G, Nat.zero_add]

/-- Four scaled parts added up are the whole scaled, for a gate between 0 and 1. -/
theorem gate_parts (a x y z w : EReal) (h0 : 0 ≤ a) (h1 : a ≤ 1) : x * a + y * a + z * a + w * a = a * (x + y + z + w) := by
  have ht : a ≠ ⊤ := fun h => absurd (h ▸ h1) (by decide)
  rw [EReal.left_distrib_of_nonneg_of_ne_top h0 ht, EReal.left_distrib_of_nonneg_of_ne_top h0 ht, EReal.left_distrib_of_nonneg_of_ne_top h0 ht,
    mul_comm x, mul_comm y, mul_comm z, mul_comm w]

/-- The four stages are the whole result, where every gate is between 0 and 1. -/
theorem stages_eq (g : Vec Ideal S20480x14336 .bf16) (w2 : Vec Ideal S8x14336x4096 .f32) (te md : IVec S40 32) (s : Vec Ideal S20480x1 .f32)
    (hs : ∀ r : Fin 20480, 0 ≤ s (ValueIdx.ix2 r (0 : Fin 1)) ∧ s (ValueIdx.ix2 r (0 : Fin 1)) ≤ 1) :
    stage 10752 (stage 7168 (stage 3584 (stage0 g w2 te md s) g w2 te md s) g w2 te md s) g w2 te md s = downOut g w2 te md s := by
  funext y
  unfold stage stage0 downOut
  by_cases h : Live (md (ValueIdx.ix1 (tileOf (y 0)))) ((y 0).val % 512)
  · rw [if_pos h, if_pos h, if_pos h, if_pos h, if_pos h, gate_parts _ _ _ _ _ (hs (y 0)).1 (hs (y 0)).2, sum_parts]
    rfl
  · rw [if_neg h, if_neg h]

/-- An index by its coordinates, in the library's spelling. -/
theorem idx2_eq {n k : ℕ} (a : Fin n) (b : Fin k) : idx2 a b = ValueIdx.ix2 a b := by
  funext z
  match z with
  | ⟨0, _⟩ => rfl
  | ⟨1, _⟩ => rfl

/-- The weights narrowed are the weights. -/
theorem pay1_at (A : Vec Ideal S3584x1024 .f32) (k : Fin 3584) (q : Fin 1024) : k0_pay1 (F := Ideal) A (ValueIdx.ix2 k q) = A (ValueIdx.ix2 k q) := by
  pointwise [k0_pay1]

/-- A tile of the first part at an entry. -/
theorem pay2_at (H : Vec Ideal S512x3584 .bf16) (A : Vec Ideal S3584x1024 .bf16) (S : Vec Ideal S512x1 .f32) (p : Fin 512) (q : Fin 1024) :
    k0_pay2 (F := Ideal) H A S (ValueIdx.ix2 p q) = (∑ k : Fin 3584, H (ValueIdx.ix2 p k) * A (ValueIdx.ix2 k q)) * S (ValueIdx.ix2 p (0 : Fin 1)) := by
  pointwise [k0_pay2]
  rfl

/-- A quarter of the first part at an entry. -/
theorem pay4_at (H : Vec Ideal S128x3584 .bf16) (A : Vec Ideal S3584x1024 .bf16) (S : Vec Ideal S128x1 .f32) (p : Fin 128) (q : Fin 1024) :
    k0_pay4 (F := Ideal) H A S (ValueIdx.ix2 p q) = (∑ k : Fin 3584, H (ValueIdx.ix2 p k) * A (ValueIdx.ix2 k q)) * S (ValueIdx.ix2 p (0 : Fin 1)) := by
  pointwise [k0_pay4]
  rfl

/-- A tile of a later part at an entry. -/
theorem pay2'_at (H : Vec Ideal S512x3584 .bf16) (A : Vec Ideal S3584x1024 .bf16) (S : Vec Ideal S512x1 .f32) (R : Vec Ideal S512x1024 .f32) (p : Fin 512) (q : Fin 1024) :
    k1_pay2 (F := Ideal) H A S R (ValueIdx.ix2 p q)
      = R (ValueIdx.ix2 p q) + (∑ k : Fin 3584, H (ValueIdx.ix2 p k) * A (ValueIdx.ix2 k q)) * S (ValueIdx.ix2 p (0 : Fin 1)) := by
  pointwise [k1_pay2]
  rfl

/-- A quarter of a later part at an entry. -/
theorem pay4'_at (H : Vec Ideal S128x3584 .bf16) (A : Vec Ideal S3584x1024 .bf16) (S : Vec Ideal S128x1 .f32) (R : Vec Ideal S128x1024 .f32) (p : Fin 128) (q : Fin 1024) :
    k1_pay4 (F := Ideal) H A S R (ValueIdx.ix2 p q)
      = R (ValueIdx.ix2 p q) + (∑ k : Fin 3584, H (ValueIdx.ix2 p k) * A (ValueIdx.ix2 k q)) * S (ValueIdx.ix2 p (0 : Fin 1)) := by
  pointwise [k1_pay4]
  rfl

/-- A skipped tile is zero. -/
theorem pay3_at (p : Fin 512) (q : Fin 1024) : k0_pay3 (F := Ideal) (ValueIdx.ix2 p q) = 0 := by
  pointwise [k0_pay3]

/-- A skipped quarter is zero. -/
theorem pay5_at (p : Fin 128) (q : Fin 1024) : k0_pay5 (F := Ideal) (ValueIdx.ix2 p q) = 0 := by
  pointwise [k0_pay5]

/-- A quarter of the rows at an entry. -/
theorem quarter_at {w : ℕ} {e : EltTy} (H : Vec Ideal ⟨2, ![512, w]⟩ e) (o : ℕ) (ho : o + 128 ≤ 512) (x : Fin 128) (k : Fin w) :
    quarter H o ho (ValueIdx.ix2 x k) = H (ValueIdx.ix2 (⟨o + x.val, by omega⟩ : Fin 512) k) := by
  refine congrArg H ?_
  funext z
  match z with
  | ⟨0, _⟩ => rfl
  | ⟨1, _⟩ => rfl

/-- What a tile holds, at an entry: the rows its kind computes, zero elsewhere. -/
theorem rowsVal_at (v : BitVec 32) (hv : IsKind v) (X : Vec Ideal S512x1024 .f32) (qs : (b : ℕ) → 128 * b + 128 ≤ 512 → Vec Ideal S128x1024 .f32)
    (hq : ∀ (b : ℕ) (hb : 128 * b + 128 ≤ 512) (x : Fin 128) (q : Fin 1024), qs b hb (ValueIdx.ix2 x q) = X (ValueIdx.ix2 (⟨128 * b + x.val, by omega⟩ : Fin 512) q))
    (p : Fin 512) (q : Fin 1024) :
    rowsVal (F := Ideal) v X qs (ValueIdx.ix2 p q) = if Live v p.val then X (ValueIdx.ix2 p q) else 0 := by
  unfold rowsVal
  by_cases h1 : v = 1#32
  · rw [if_pos h1, if_pos (show Live v p.val from Or.inl h1)]
  rw [if_neg h1]
  by_cases h0 : v = 0#32
  · rw [if_pos h0, pay3_at, if_neg]
    rintro (h | ⟨h, _⟩)
    · exact h1 h
    · subst h0
      exact absurd h (by decide)
  rw [if_neg h0]
  have h8 : 8 ≤ v.toNat := by
    rcases hv with rfl | rfl | rfl | rfl | rfl | rfl | rfl
    · exact absurd rfl h0
    · exact absurd rfl h1
    all_goals decide
  show quarterVal v (p.val / 128) _ (idx2 ⟨p.val % 128, _⟩ q) = _
  unfold quarterVal liveQuarters
  rw [idx2_eq]
  by_cases hl : p.val / 128 < v.toNat - 8
  · rw [if_pos hl, if_pos (show Live v p.val from Or.inr ⟨h8, hl⟩)]
    refine (hq _ _ _ _).trans (congrArg X ?_)
    funext z
    match z with
    | ⟨0, _⟩ => exact Fin.ext (Nat.div_add_mod p.val 128)
    | ⟨1, _⟩ => rfl
  · rw [if_neg hl, pay5_at, if_neg]
    rintro (h | ⟨_, h⟩)
    · exact h1 h
    · exact hl h

/-- What a tile of the first part holds, at an entry. -/
theorem first_at (v : BitVec 32) (hv : IsKind v) (H : Vec Ideal S512x3584 .bf16) (A : Vec Ideal S3584x1024 .bf16) (S : Vec Ideal S512x1 .f32) (p : Fin 512) (q : Fin 1024) :
    first (F := Ideal) v H A S (ValueIdx.ix2 p q)
      = if Live v p.val then (∑ k : Fin 3584, H (ValueIdx.ix2 p k) * A (ValueIdx.ix2 k q)) * S (ValueIdx.ix2 p (0 : Fin 1)) else 0 := by
  refine (rowsVal_at v hv _ _ (fun b hb x q => ?_) p q).trans (by rw [pay2_at])
  rw [pay2_at, pay4_at]
  simp only [quarter_at]

/-- What a tile of a later part holds, at an entry. -/
theorem later_at (v : BitVec 32) (hv : IsKind v) (H : Vec Ideal S512x3584 .bf16) (A : Vec Ideal S3584x1024 .bf16) (S : Vec Ideal S512x1 .f32) (R : Vec Ideal S512x1024 .f32)
    (p : Fin 512) (q : Fin 1024) :
    later (F := Ideal) v H A S R (ValueIdx.ix2 p q)
      = if Live v p.val then R (ValueIdx.ix2 p q) + (∑ k : Fin 3584, H (ValueIdx.ix2 p k) * A (ValueIdx.ix2 k q)) * S (ValueIdx.ix2 p (0 : Fin 1)) else 0 := by
  refine (rowsVal_at v hv _ _ (fun b hb x q => ?_) p q).trans (by rw [pay2'_at])
  rw [pay2'_at, pay4'_at]
  simp only [quarter_at]

end Cert.DownIdeal.Moe

end

end
-- ==== Proof.DownValue.lean ====
/- The second product's result array on extended reals: run by run what the grid points store, and so row by row the sums after each part;
   the four runs together leave the whole product scaled by the gates. -/
module

public import proofs.«01_k».proof.Proof.DownHost
public import proofs.«01_k».proof.Proof.DownMath

@[expose] public section

set_option maxRecDepth 16384

noncomputable section

namespace Cert.DownIdeal.Moe

open Idealize.ShloMosaic Idealize.ShloMosaic.TcCoe Idealize.ShloMosaic.Tactic Cert.DownIdeal Cert.DownIdeal.Gen
open Idealize.SL.Sem
open Idealize.ShloMosaic.Pipeline (Dat Cfg Window)
open Cert.ExpertsIdeal.Moe (Live Fits)

variable (m : (ℓ : Loc nD τ sig) → Buf (Elt Ideal) ℓ) (ρ : Dev nD → PrngReg)

/-- An index by the values of its two coordinates. -/
theorem ix2_of {n k : ℕ} (y : (⟨2, ![n, k]⟩ : Shape).Idx) (a : Fin n) (b : Fin k) (h0 : (y 0).val = a.val) (h1 : (y 1).val = b.val) : y = ValueIdx.ix2 a b := by
  funext z
  match z with
  | ⟨0, _⟩ => exact Fin.ext h0
  | ⟨1, _⟩ => exact Fin.ext h1

/-- The grid's second coordinate, a word, is the tile. -/
theorem tile_word (t : Fin grid0.N) : (BitVec.ofNat 32 (grid0.coords t 1).val).toNat = t.val % 40 := by
  rw [coord1, BitVec.toNat_ofNat]
  omega

/-- The place in the result of an entry of the block of point `t`. -/
abbrev place (t : ℕ) (ht : t < 160) (p : Fin 512) (q : Fin 1024) : S20480x4096.Idx :=
  ValueIdx.ix2 (⟨512 * (t % 40) + p.val, by omega⟩ : Fin 20480) (⟨1024 * (t / 40) + q.val, by omega⟩ : Fin 4096)

/-- The blocks of the points cover the result. -/
theorem cover (i : S20480x4096.Idx) : ∃ (t : ℕ) (ht : t < 160) (p : Fin 512) (q : Fin 1024), i = place t ht p q := by
  have hr : (i 0).val < 20480 := (i 0).isLt
  have hj : (i 1).val < 4096 := (i 1).isLt
  refine ⟨40 * ((i 1).val / 1024) + (i 0).val / 512, by omega, ⟨(i 0).val % 512, by omega⟩, ⟨(i 1).val % 1024, by omega⟩, ix2_of i _ _ ?_ ?_⟩
  · show (i 0).val = 512 * ((40 * ((i 1).val / 1024) + (i 0).val / 512) % 40) + (i 0).val % 512
    omega
  · show (i 1).val = 1024 * ((40 * ((i 1).val / 1024) + (i 0).val / 512) / 40) + (i 1).val % 1024
    omega

/-- A block's entry in an array: the block's place times its size, and the entry's place in the block. -/
theorem block_place (i b x y : ℕ) (h : i * b + x = y) (u : ℕ) (hu : u = i) : u * b + x = y := hu ▸ h

/-- The tile of a row of a block. -/
theorem tileOf_at (t : ℕ) (p : Fin 512) (h : 512 * (t % 40) + p.val < 20480) : tileOf ⟨512 * (t % 40) + p.val, h⟩ = ⟨t % 40 % 40, Nat.mod_lt _ (by decide)⟩ :=
  Fin.ext (show (512 * (t % 40) + p.val) / 512 = t % 40 % 40 by omega)

/-- The weights' block at an entry. -/
theorem blk_at (Wt : Vec Ideal S8x14336x4096 .f32) (te : Vec Ideal S40 .i32) (klo n j : ℕ) (hn : n < 4) (k : Fin 3584) (q : Fin 1024) :
    blkAt Wt (curOff klo te n j) (ValueIdx.ix2 k q)
      = Wt (ValueIdx.ix3 (expOf te ⟨j % 40, Nat.mod_lt _ (by decide)⟩) (⟨(klo + k.val) % 14336, Nat.mod_lt _ (by decide)⟩ : Fin 14336) (⟨1024 * n + q.val, by omega⟩ : Fin 4096)) := by
  refine congrArg Wt ?_
  funext a
  match a with
  | ⟨0, _⟩ => rfl
  | ⟨1, _⟩ => rfl
  | ⟨2, _⟩ => exact Fin.ext (show (1024 * n + q.val) % 4096 = 1024 * n + q.val by omega)

/-- The first stage at an entry, by its tile and its row there. -/
theorem stage0_row (g : Vec Ideal S20480x14336 .bf16) (w2 : Vec Ideal S8x14336x4096 .f32) (te md : IVec S40 32) (s : Vec Ideal S20480x1 .f32)
    (r : Fin 20480) (j : Fin 4096) (z : Fin 40) (p : ℕ) (hz : tileOf r = z) (hp : r.val % 512 = p) :
    stage0 g w2 te md s (ValueIdx.ix2 r j) = if Live (md (ValueIdx.ix1 z)) p then part g w2 (expOf te z) 0 r j * s (ValueIdx.ix2 r (0 : Fin 1)) else 0 := by
  subst hz hp
  rfl

/-- A later stage at an entry, by its tile and its row there. -/
theorem stage_row (klo : ℕ) (R : Vec Ideal S20480x4096 .f32) (g : Vec Ideal S20480x14336 .bf16) (w2 : Vec Ideal S8x14336x4096 .f32) (te md : IVec S40 32)
    (s : Vec Ideal S20480x1 .f32) (r : Fin 20480) (j : Fin 4096) (z : Fin 40) (p : ℕ) (hz : tileOf r = z) (hp : r.val % 512 = p) :
    stage klo R g w2 te md s (ValueIdx.ix2 r j)
      = if Live (md (ValueIdx.ix1 z)) p then R (ValueIdx.ix2 r j) + part g w2 (expOf te z) klo r j * s (ValueIdx.ix2 r (0 : Fin 1)) else 0 := by
  subst hz hp
  rfl

/-! ### Run 0 -/

namespace R0

variable (v : Dev nD → Valuation τ sig (Elt Ideal))

theorem tlt (t : Fin (cfgA m).N) : t.val < 160 := Nat.lt_of_lt_of_eq t.isLt (cfgA_N m)

/-- The index of the block of rows at a point: the point's tile, and this run's part. -/
theorem index_rows (t : Fin (cfgA m).N) (a : Fin 2) : ((cfgA m).win 0).index t a = (![t.val % 40, 0] : Fin 2 → ℕ) a := by
  match a with
  | ⟨0, _⟩ => exact tile_word t
  | ⟨1, _⟩ => rfl

/-- The index of the block of gates at a point: the point's tile. -/
theorem index_gate (t : Fin (cfgA m).N) (a : Fin 2) : ((cfgA m).win 1).index t a = (![t.val % 40, 0] : Fin 2 → ℕ) a := by
  match a with
  | ⟨0, _⟩ => exact tile_word t
  | ⟨1, _⟩ => rfl

/-- The index of the block out at a point: the point's tile and its columns. -/
theorem index_out (t : Fin (cfgA m).N) (a : Fin 2) : ((cfgA m).win 2).index t a = (![t.val % 40, t.val / 40] : Fin 2 → ℕ) a :=
  congrFun (out_index t) a

/-- The rows of the block in. -/
theorem rows_at (c : Dev nD) (t : Fin (cfgA m).N) (p : Fin 512) (k : Fin 3584) :
    iblk m v c 0 t (ValueIdx.ix2 p k) = v c main_arg0 (ValueIdx.ix2 (⟨512 * (t.val % 40) + p.val, by omega⟩ : Fin 20480) (⟨(0 + k.val) % 14336, Nat.mod_lt _ (by decide)⟩ : Fin 14336)) :=
  congrArg (v c main_arg0) <| ix2_of _ _ _
    (((((cfgA m).win 0).rect_emb_val t (ValueIdx.ix2 p k) (show Fin ((cfgA m).win 0).shape.rank from (0 : Fin 2))).trans
      (block_place (t.val % 40) 512 p.val _ (by rw [Nat.mul_comm]) _ (index_rows m t 0))))
    (((((cfgA m).win 0).rect_emb_val t (ValueIdx.ix2 p k) (show Fin ((cfgA m).win 0).shape.rank from (1 : Fin 2))).trans
      (block_place 0 3584 k.val _ (show 0 * 3584 + k.val = (0 + k.val) % 14336 by omega) _ (index_rows m t 1))))

/-- The gates of the block in. -/
theorem gate_at (c : Dev nD) (t : Fin (cfgA m).N) (p : Fin 512) :
    iblk m v c 1 t (ValueIdx.ix2 p (0 : Fin 1)) = v c main_arg4 (ValueIdx.ix2 (⟨512 * (t.val % 40) + p.val, by omega⟩ : Fin 20480) (0 : Fin 1)) :=
  congrArg (v c main_arg4) <| ix2_of _ _ _
    (((((cfgA m).win 1).rect_emb_val t (ValueIdx.ix2 p (0 : Fin 1)) (show Fin ((cfgA m).win 1).shape.rank from (0 : Fin 2))).trans
      (block_place (t.val % 40) 512 p.val _ (by rw [Nat.mul_comm]) _ (index_gate m t 0))))
    (((((cfgA m).win 1).rect_emb_val t (ValueIdx.ix2 p (0 : Fin 1)) (show Fin ((cfgA m).win 1).shape.rank from (1 : Fin 2))).trans
      (block_place 0 1 0 _ rfl _ (index_gate m t 1))))

/-- Where an entry of the block out sits in the result. -/
theorem emb_out (t : Fin (cfgA m).N) (p : Fin 512) (q : Fin 1024) :
    ((((cfgA m).win 2).blk t).view.emb (ValueIdx.ix2 p q) : S20480x4096.Idx)
      = place t.val (tlt m t) p q :=
  ix2_of _ _ _
    (((((cfgA m).win 2).rect_emb_val t (ValueIdx.ix2 p q) (show Fin ((cfgA m).win 2).shape.rank from (0 : Fin 2))).trans
      (block_place (t.val % 40) 512 p.val _ (by rw [Nat.mul_comm]) _ (index_out m t 0))))
    (((((cfgA m).win 2).rect_emb_val t (ValueIdx.ix2 p q) (show Fin ((cfgA m).win 2).shape.rank from (1 : Fin 2))).trans
      (block_place (t.val / 40) 1024 q.val _ (by rw [Nat.mul_comm]) _ (index_out m t 1))))

/-- The block of rows a point writes, at an entry. -/
theorem outAt_at (c : Dev nD) (hk : ∀ j : Fin 40, IsKind ((V m c main_arg3 : IVec S40 32) (ValueIdx.ix1 j))) (t : Fin (cfgA m).N) (p : Fin 512) (q : Fin 1024) :
    outAt m v c t (ValueIdx.ix2 p q) = stage0 (v c main_arg0) (V m c main_arg1) (V m c main_arg2) (V m c main_arg3) (v c main_arg4)
      (place t.val (tlt m t) p q) := by
  have ht := tlt m t
  unfold outAt
  refine (first_at _ (hk ⟨t.val % 40 % 40, Nat.mod_lt _ (by decide)⟩) _ _ _ p q).trans ?_
  simp only [rows_at, gate_at, pay1_at, blk_at _ _ _ _ _ (show t.val / 40 < 4 by omega)]
  exact (stage0_row _ _ _ _ _ _ _ _ p.val (tileOf_at t.val p _) (show (512 * (t.val % 40) + p.val) % 512 = p.val by omega)).symm

/-- Every point writes its block of the result back. -/
theorem flush_out (t : Fin (cfgA m).N) : ((cfgA m).win 2).flush t = true := by
  refine (((cfgA m).win 2).flush_reads rfl (1 : Fin 2) (show 1 < grid0.bound 1 by decide) (show grid0.fixedAfter reads0_2 1 = true by decide) ?_ (P := 1) (m := 0) (show grid0.stride 1 = 1 by decide) rfl t).mpr (by omega)
  exact Pipeline.Window.sep_of_coord _ _ (0 : Fin 2) (fun _ => rfl) (show grid0.bound 1 ≤ 2 ^ 32 by decide)

/-- The result array after the run. -/
theorem final (c : Dev nD) (hk : ∀ j : Fin 40, IsKind ((V m c main_arg3 : IVec S40 32) (ValueIdx.ix1 j))) :
    (dat m v c).arrAt 2 (cfgA m).N = stage0 (v c main_arg0) (V m c main_arg1) (V m c main_arg2) (V m c main_arg3) (v c main_arg4) := by
  refine (dat m v c).arrAt_eq_of_emb 2 _ (fun t hf y => ?_) (fun i => ?_)
  · have key : ∀ y : S512x1024.Idx, ∃ (p : Fin 512) (q : Fin 1024), y = ValueIdx.ix2 p q := fun y => ⟨y 0, y 1, ValueIdx.eq_ix2 y⟩
    obtain ⟨p, q, rfl⟩ := key y
    refine Eq.trans ?_ ((outAt_at m v c hk t p q).trans (congrArg _ (emb_out m t p q).symm))
    rfl
  · obtain ⟨n, hn, p, q, rfl⟩ := cover i
    let t : Fin (cfgA m).N := ⟨n, Nat.lt_of_lt_of_eq hn (cfgA_N m).symm⟩
    refine ⟨t, flush_out m t, ?_⟩
    rw [show place n hn p q = _ from (emb_out m t p q).symm]
    exact View.emb_mem_set _ _

end R0

/-! ### Run 1 -/

namespace R1

variable (v : Dev nD → Valuation τ sig (Elt Ideal))

theorem tlt (t : Fin (cfgA m).N) : t.val < 160 := Nat.lt_of_lt_of_eq t.isLt (cfgA_N m)

/-- The index of the block of rows at a point: the point's tile, and this run's part. -/
theorem index_rows (t : Fin (cfgA m).N) (a : Fin 2) : ((cfgA m).win 0).index t a = (![t.val % 40, 1] : Fin 2 → ℕ) a := by
  match a with
  | ⟨0, _⟩ => exact tile_word t
  | ⟨1, _⟩ => rfl

/-- The index of the block of gates at a point: the point's tile. -/
theorem index_gate (t : Fin (cfgA m).N) (a : Fin 2) : ((cfgA m).win 2).index t a = (![t.val % 40, 0] : Fin 2 → ℕ) a := by
  match a with
  | ⟨0, _⟩ => exact tile_word t
  | ⟨1, _⟩ => rfl

/-- The index of the block out at a point: the point's tile and its columns. -/
theorem index_out (t : Fin (cfgA m).N) (a : Fin 2) : ((cfgA m).win 3).index t a = (![t.val % 40, t.val / 40] : Fin 2 → ℕ) a :=
  congrFun (out_index t) a

/-- The rows of the block in. -/
theorem rows_at (c : Dev nD) (t : Fin (cfgA m).N) (p : Fin 512) (k : Fin 3584) :
    iblk m v c 0 t (ValueIdx.ix2 p k) = v c main_arg0 (ValueIdx.ix2 (⟨512 * (t.val % 40) + p.val, by omega⟩ : Fin 20480) (⟨(3584 + k.val) % 14336, Nat.mod_lt _ (by decide)⟩ : Fin 14336)) :=
  congrArg (v c main_arg0) <| ix2_of _ _ _
    (((((cfgA m).win 0).rect_emb_val t (ValueIdx.ix2 p k) (show Fin ((cfgA m).win 0).shape.rank from (0 : Fin 2))).trans
      (block_place (t.val % 40) 512 p.val _ (by rw [Nat.mul_comm]) _ (index_rows m t 0))))
    (((((cfgA m).win 0).rect_emb_val t (ValueIdx.ix2 p k) (show Fin ((cfgA m).win 0).shape.rank from (1 : Fin 2))).trans
      (block_place 1 3584 k.val _ (show 1 * 3584 + k.val = (3584 + k.val) % 14336 by omega) _ (index_rows m t 1))))

/-- The gates of the block in. -/
theorem gate_at (c : Dev nD) (t : Fin (cfgA m).N) (p : Fin 512) :
    iblk m v c 2 t (ValueIdx.ix2 p (0 : Fin 1)) = v c main_arg4 (ValueIdx.ix2 (⟨512 * (t.val % 40) + p.val, by omega⟩ : Fin 20480) (0 : Fin 1)) :=
  congrArg (v c main_arg4) <| ix2_of _ _ _
    (((((cfgA m).win 2).rect_emb_val t (ValueIdx.ix2 p (0 : Fin 1)) (show Fin ((cfgA m).win 2).shape.rank from (0 : Fin 2))).trans
      (block_place (t.val % 40) 512 p.val _ (by rw [Nat.mul_comm]) _ (index_gate m t 0))))
    (((((cfgA m).win 2).rect_emb_val t (ValueIdx.ix2 p (0 : Fin 1)) (show Fin ((cfgA m).win 2).shape.rank from (1 : Fin 2))).trans
      (block_place 0 1 0 _ rfl _ (index_gate m t 1))))

/-- Where an entry of the block out sits in the result. -/
theorem emb_out (t : Fin (cfgA m).N) (p : Fin 512) (q : Fin 1024) :
    ((((cfgA m).win 3).blk t).view.emb (ValueIdx.ix2 p q) : S20480x4096.Idx)
      = place t.val (tlt m t) p q :=
  ix2_of _ _ _
    (((((cfgA m).win 3).rect_emb_val t (ValueIdx.ix2 p q) (show Fin ((cfgA m).win 3).shape.rank from (0 : Fin 2))).trans
      (block_place (t.val % 40) 512 p.val _ (by rw [Nat.mul_comm]) _ (index_out m t 0))))
    (((((cfgA m).win 3).rect_emb_val t (ValueIdx.ix2 p q) (show Fin ((cfgA m).win 3).shape.rank from (1 : Fin 2))).trans
      (block_place (t.val / 40) 1024 q.val _ (by rw [Nat.mul_comm]) _ (index_out m t 1))))

/-- The sums of the block in: the block at the place of the block out. -/
theorem sums_at (c : Dev nD) (t : Fin (cfgA m).N) (p : Fin 512) (q : Fin 1024) :
    iblk m v c 1 t (ValueIdx.ix2 p q) = v c main_v11 (place t.val (tlt m t) p q) :=
  congrArg (v c main_v11) (emb_out m t p q)

/-- The block of rows a point writes, at an entry. -/
theorem outAt_at (c : Dev nD) (hk : ∀ j : Fin 40, IsKind ((V m c main_arg3 : IVec S40 32) (ValueIdx.ix1 j))) (t : Fin (cfgA m).N) (p : Fin 512) (q : Fin 1024) :
    outAt m v c t (ValueIdx.ix2 p q) = stage 3584 (v c main_v11) (v c main_arg0) (V m c main_arg1) (V m c main_arg2) (V m c main_arg3) (v c main_arg4)
      (place t.val (tlt m t) p q) := by
  have ht := tlt m t
  unfold outAt
  refine (later_at _ (hk ⟨t.val % 40 % 40, Nat.mod_lt _ (by decide)⟩) _ _ _ _ p q).trans ?_
  simp only [rows_at, gate_at, pay1_at, blk_at _ _ _ _ _ (show t.val / 40 < 4 by omega), sums_at]
  exact (stage_row 3584 _ _ _ _ _ _ _ _ _ p.val (tileOf_at t.val p _) (show (512 * (t.val % 40) + p.val) % 512 = p.val by omega)).symm

/-- Every point writes its block of the result back. -/
theorem flush_out (t : Fin (cfgA m).N) : ((cfgA m).win 3).flush t = true := by
  refine (((cfgA m).win 3).flush_reads rfl (1 : Fin 2) (show 1 < grid1.bound 1 by decide) (show grid1.fixedAfter reads1_3 1 = true by decide) ?_ (P := 1) (m := 0) (show grid1.stride 1 = 1 by decide) rfl t).mpr (by omega)
  exact Pipeline.Window.sep_of_coord _ _ (0 : Fin 2) (fun _ => rfl) (show grid1.bound 1 ≤ 2 ^ 32 by decide)

/-- The result array after the run. -/
theorem final (c : Dev nD) (hk : ∀ j : Fin 40, IsKind ((V m c main_arg3 : IVec S40 32) (ValueIdx.ix1 j))) :
    (dat m v c).arrAt 3 (cfgA m).N = stage 3584 (v c main_v11) (v c main_arg0) (V m c main_arg1) (V m c main_arg2) (V m c main_arg3) (v c main_arg4) := by
  refine (dat m v c).arrAt_eq_of_emb 3 _ (fun t hf y => ?_) (fun i => ?_)
  · have key : ∀ y : S512x1024.Idx, ∃ (p : Fin 512) (q : Fin 1024), y = ValueIdx.ix2 p q := fun y => ⟨y 0, y 1, ValueIdx.eq_ix2 y⟩
    obtain ⟨p, q, rfl⟩ := key y
    refine Eq.trans ?_ ((outAt_at m v c hk t p q).trans (congrArg _ (emb_out m t p q).symm))
    rfl
  · obtain ⟨n, hn, p, q, rfl⟩ := cover i
    let t : Fin (cfgA m).N := ⟨n, Nat.lt_of_lt_of_eq hn (cfgA_N m).symm⟩
    refine ⟨t, flush_out m t, ?_⟩
    rw [show place n hn p q = _ from (emb_out m t p q).symm]
    exact View.emb_mem_set _ _

end R1

/-! ### Run 2 -/

namespace R2

variable (v : Dev nD → Valuation τ sig (Elt Ideal))

theorem tlt (t : Fin (cfgA m).N) : t.val < 160 := Nat.lt_of_lt_of_eq t.isLt (cfgA_N m)

/-- The index of the block of rows at a point: the point's tile, and this run's part. -/
theorem index_rows (t : Fin (cfgA m).N) (a : Fin 2) : ((cfgA m).win 0).index t a = (![t.val % 40, 2] : Fin 2 → ℕ) a := by
  match a with
  | ⟨0, _⟩ => exact tile_word t
  | ⟨1, _⟩ => rfl

/-- The index of the block of gates at a point: the point's tile. -/
theorem index_gate (t : Fin (cfgA m).N) (a : Fin 2) : ((cfgA m).win 2).index t a = (![t.val % 40, 0] : Fin 2 → ℕ) a := by
  match a with
  | ⟨0, _⟩ => exact tile_word t
  | ⟨1, _⟩ => rfl

/-- The index of the block out at a point: the point's tile and its columns. -/
theorem index_out (t : Fin (cfgA m).N) (a : Fin 2) : ((cfgA m).win 3).index t a = (![t.val % 40, t.val / 40] : Fin 2 → ℕ) a :=
  congrFun (out_index t) a

/-- The rows of the block in. -/
theorem rows_at (c : Dev nD) (t : Fin (cfgA m).N) (p : Fin 512) (k : Fin 3584) :
    iblk m v c 0 t (ValueIdx.ix2 p k) = v c main_arg0 (ValueIdx.ix2 (⟨512 * (t.val % 40) + p.val, by omega⟩ : Fin 20480) (⟨(7168 + k.val) % 14336, Nat.mod_lt _ (by decide)⟩ : Fin 14336)) :=
  congrArg (v c main_arg0) <| ix2_of _ _ _
    (((((cfgA m).win 0).rect_emb_val t (ValueIdx.ix2 p k) (show Fin ((cfgA m).win 0).shape.rank from (0 : Fin 2))).trans
      (block_place (t.val % 40) 512 p.val _ (by rw [Nat.mul_comm]) _ (index_rows m t 0))))
    (((((cfgA m).win 0).rect_emb_val t (ValueIdx.ix2 p k) (show Fin ((cfgA m).win 0).shape.rank from (1 : Fin 2))).trans
      (block_place 2 3584 k.val _ (show 2 * 3584 + k.val = (7168 + k.val) % 14336 by omega) _ (index_rows m t 1))))

/-- The gates of the block in. -/
theorem gate_at (c : Dev nD) (t : Fin (cfgA m).N) (p : Fin 512) :
    iblk m v c 2 t (ValueIdx.ix2 p (0 : Fin 1)) = v c main_arg4 (ValueIdx.ix2 (⟨512 * (t.val % 40) + p.val, by omega⟩ : Fin 20480) (0 : Fin 1)) :=
  congrArg (v c main_arg4) <| ix2_of _ _ _
    (((((cfgA m).win 2).rect_emb_val t (ValueIdx.ix2 p (0 : Fin 1)) (show Fin ((cfgA m).win 2).shape.rank from (0 : Fin 2))).trans
      (block_place (t.val % 40) 512 p.val _ (by rw [Nat.mul_comm]) _ (index_gate m t 0))))
    (((((cfgA m).win 2).rect_emb_val t (ValueIdx.ix2 p (0 : Fin 1)) (show Fin ((cfgA m).win 2).shape.rank from (1 : Fin 2))).trans
      (block_place 0 1 0 _ rfl _ (index_gate m t 1))))

/-- Where an entry of the block out sits in the result. -/
theorem emb_out (t : Fin (cfgA m).N) (p : Fin 512) (q : Fin 1024) :
    ((((cfgA m).win 3).blk t).view.emb (ValueIdx.ix2 p q) : S20480x4096.Idx)
      = place t.val (tlt m t) p q :=
  ix2_of _ _ _
    (((((cfgA m).win 3).rect_emb_val t (ValueIdx.ix2 p q) (show Fin ((cfgA m).win 3).shape.rank from (0 : Fin 2))).trans
      (block_place (t.val % 40) 512 p.val _ (by rw [Nat.mul_comm]) _ (index_out m t 0))))
    (((((cfgA m).win 3).rect_emb_val t (ValueIdx.ix2 p q) (show Fin ((cfgA m).win 3).shape.rank from (1 : Fin 2))).trans
      (block_place (t.val / 40) 1024 q.val _ (by rw [Nat.mul_comm]) _ (index_out m t 1))))

/-- The sums of the block in: the block at the place of the block out. -/
theorem sums_at (c : Dev nD) (t : Fin (cfgA m).N) (p : Fin 512) (q : Fin 1024) :
    iblk m v c 1 t (ValueIdx.ix2 p q) = v c main_v12 (place t.val (tlt m t) p q) :=
  congrArg (v c main_v12) (emb_out m t p q)

/-- The block of rows a point writes, at an entry. -/
theorem outAt_at (c : Dev nD) (hk : ∀ j : Fin 40, IsKind ((V m c main_arg3 : IVec S40 32) (ValueIdx.ix1 j))) (t : Fin (cfgA m).N) (p : Fin 512) (q : Fin 1024) :
    outAt m v c t (ValueIdx.ix2 p q) = stage 7168 (v c main_v12) (v c main_arg0) (V m c main_arg1) (V m c main_arg2) (V m c main_arg3) (v c main_arg4)
      (place t.val (tlt m t) p q) := by
  have ht := tlt m t
  unfold outAt
  refine (later_at _ (hk ⟨t.val % 40 % 40, Nat.mod_lt _ (by decide)⟩) _ _ _ _ p q).trans ?_
  simp only [rows_at, gate_at, pay1_at, blk_at _ _ _ _ _ (show t.val / 40 < 4 by omega), sums_at]
  exact (stage_row 7168 _ _ _ _ _ _ _ _ _ p.val (tileOf_at t.val p _) (show (512 * (t.val % 40) + p.val) % 512 = p.val by omega)).symm

/-- Every point writes its block of the result back. -/
theorem flush_out (t : Fin (cfgA m).N) : ((cfgA m).win 3).flush t = true := by
  refine (((cfgA m).win 3).flush_reads rfl (1 : Fin 2) (show 1 < grid2.bound 1 by decide) (show grid2.fixedAfter reads2_3 1 = true by decide) ?_ (P := 1) (m := 0) (show grid2.stride 1 = 1 by decide) rfl t).mpr (by omega)
  exact Pipeline.Window.sep_of_coord _ _ (0 : Fin 2) (fun _ => rfl) (show grid2.bound 1 ≤ 2 ^ 32 by decide)

/-- The result array after the run. -/
theorem final (c : Dev nD) (hk : ∀ j : Fin 40, IsKind ((V m c main_arg3 : IVec S40 32) (ValueIdx.ix1 j))) :
    (dat m v c).arrAt 3 (cfgA m).N = stage 7168 (v c main_v12) (v c main_arg0) (V m c main_arg1) (V m c main_arg2) (V m c main_arg3) (v c main_arg4) := by
  refine (dat m v c).arrAt_eq_of_emb 3 _ (fun t hf y => ?_) (fun i => ?_)
  · have key : ∀ y : S512x1024.Idx, ∃ (p : Fin 512) (q : Fin 1024), y = ValueIdx.ix2 p q := fun y => ⟨y 0, y 1, ValueIdx.eq_ix2 y⟩
    obtain ⟨p, q, rfl⟩ := key y
    refine Eq.trans ?_ ((outAt_at m v c hk t p q).trans (congrArg _ (emb_out m t p q).symm))
    rfl
  · obtain ⟨n, hn, p, q, rfl⟩ := cover i
    let t : Fin (cfgA m).N := ⟨n, Nat.lt_of_lt_of_eq hn (cfgA_N m).symm⟩
    refine ⟨t, flush_out m t, ?_⟩
    rw [show place n hn p q = _ from (emb_out m t p q).symm]
    exact View.emb_mem_set _ _

end R2

/-! ### Run 3 -/

namespace R3

variable (v : Dev nD → Valuation τ sig (Elt Ideal))

theorem tlt (t : Fin (cfgA m).N) : t.val < 160 := Nat.lt_of_lt_of_eq t.isLt (cfgA_N m)

/-- The index of the block of rows at a point: the point's tile, and this run's part. -/
theorem index_rows (t : Fin (cfgA m).N) (a : Fin 2) : ((cfgA m).win 0).index t a = (![t.val % 40, 3] : Fin 2 → ℕ) a := by
  match a with
  | ⟨0, _⟩ => exact tile_word t
  | ⟨1, _⟩ => rfl

/-- The index of the block of gates at a point: the point's tile. -/
theorem index_gate (t : Fin (cfgA m).N) (a : Fin 2) : ((cfgA m).win 2).index t a = (![t.val % 40, 0] : Fin 2 → ℕ) a := by
  match a with
  | ⟨0, _⟩ => exact tile_word t
  | ⟨1, _⟩ => rfl

/-- The index of the block out at a point: the point's tile and its columns. -/
theorem index_out (t : Fin (cfgA m).N) (a : Fin 2) : ((cfgA m).win 3).index t a = (![t.val % 40, t.val / 40] : Fin 2 → ℕ) a :=
  congrFun (out_index t) a

/-- The rows of the block in. -/
theorem rows_at (c : Dev nD) (t : Fin (cfgA m).N) (p : Fin 512) (k : Fin 3584) :
    iblk m v c 0 t (ValueIdx.ix2 p k) = v c main_arg0 (ValueIdx.ix2 (⟨512 * (t.val % 40) + p.val, by omega⟩ : Fin 20480) (⟨(10752 + k.val) % 14336, Nat.mod_lt _ (by decide)⟩ : Fin 14336)) :=
  congrArg (v c main_arg0) <| ix2_of _ _ _
    (((((cfgA m).win 0).rect_emb_val t (ValueIdx.ix2 p k) (show Fin ((cfgA m).win 0).shape.rank from (0 : Fin 2))).trans
      (block_place (t.val % 40) 512 p.val _ (by rw [Nat.mul_comm]) _ (index_rows m t 0))))
    (((((cfgA m).win 0).rect_emb_val t (ValueIdx.ix2 p k) (show Fin ((cfgA m).win 0).shape.rank from (1 : Fin 2))).trans
      (block_place 3 3584 k.val _ (show 3 * 3584 + k.val = (10752 + k.val) % 14336 by omega) _ (index_rows m t 1))))

/-- The gates of the block in. -/
theorem gate_at (c : Dev nD) (t : Fin (cfgA m).N) (p : Fin 512) :
    iblk m v c 2 t (ValueIdx.ix2 p (0 : Fin 1)) = v c main_arg4 (ValueIdx.ix2 (⟨512 * (t.val % 40) + p.val, by omega⟩ : Fin 20480) (0 : Fin 1)) :=
  congrArg (v c main_arg4) <| ix2_of _ _ _
    (((((cfgA m).win 2).rect_emb_val t (ValueIdx.ix2 p (0 : Fin 1)) (show Fin ((cfgA m).win 2).shape.rank from (0 : Fin 2))).trans
      (block_place (t.val % 40) 512 p.val _ (by rw [Nat.mul_comm]) _ (index_gate m t 0))))
    (((((cfgA m).win 2).rect_emb_val t (ValueIdx.ix2 p (0 : Fin 1)) (show Fin ((cfgA m).win 2).shape.rank from (1 : Fin 2))).trans
      (block_place 0 1 0 _ rfl _ (index_gate m t 1))))

/-- Where an entry of the block out sits in the result. -/
theorem emb_out (t : Fin (cfgA m).N) (p : Fin 512) (q : Fin 1024) :
    ((((cfgA m).win 3).blk t).view.emb (ValueIdx.ix2 p q) : S20480x4096.Idx)
      = place t.val (tlt m t) p q :=
  ix2_of _ _ _
    (((((cfgA m).win 3).rect_emb_val t (ValueIdx.ix2 p q) (show Fin ((cfgA m).win 3).shape.rank from (0 : Fin 2))).trans
      (block_place (t.val % 40) 512 p.val _ (by rw [Nat.mul_comm]) _ (index_out m t 0))))
    (((((cfgA m).win 3).rect_emb_val t (ValueIdx.ix2 p q) (show Fin ((cfgA m).win 3).shape.rank from (1 : Fin 2))).trans
      (block_place (t.val / 40) 1024 q.val _ (by rw [Nat.mul_comm]) _ (index_out m t 1))))

/-- The sums of the block in: the block at the place of the block out. -/
theorem sums_at (c : Dev nD) (t : Fin (cfgA m).N) (p : Fin 512) (q : Fin 1024) :
    iblk m v c 1 t (ValueIdx.ix2 p q) = v c main_v13 (place t.val (tlt m t) p q) :=
  congrArg (v c main_v13) (emb_out m t p q)

/-- The block of rows a point writes, at an entry. -/
theorem outAt_at (c : Dev nD) (hk : ∀ j : Fin 40, IsKind ((V m c main_arg3 : IVec S40 32) (ValueIdx.ix1 j))) (t : Fin (cfgA m).N) (p : Fin 512) (q : Fin 1024) :
    outAt m v c t (ValueIdx.ix2 p q) = stage 10752 (v c main_v13) (v c main_arg0) (V m c main_arg1) (V m c main_arg2) (V m c main_arg3) (v c main_arg4)
      (place t.val (tlt m t) p q) := by
  have ht := tlt m t
  unfold outAt
  refine (later_at _ (hk ⟨t.val % 40 % 40, Nat.mod_lt _ (by decide)⟩) _ _ _ _ p q).trans ?_
  simp only [rows_at, gate_at, pay1_at, blk_at _ _ _ _ _ (show t.val / 40 < 4 by omega), sums_at]
  exact (stage_row 10752 _ _ _ _ _ _ _ _ _ p.val (tileOf_at t.val p _) (show (512 * (t.val % 40) + p.val) % 512 = p.val by omega)).symm

/-- Every point writes its block of the result back. -/
theorem flush_out (t : Fin (cfgA m).N) : ((cfgA m).win 3).flush t = true := by
  refine (((cfgA m).win 3).flush_reads rfl (1 : Fin 2) (show 1 < grid3.bound 1 by decide) (show grid3.fixedAfter reads3_3 1 = true by decide) ?_ (P := 1) (m := 0) (show grid3.stride 1 = 1 by decide) rfl t).mpr (by omega)
  exact Pipeline.Window.sep_of_coord _ _ (0 : Fin 2) (fun _ => rfl) (show grid3.bound 1 ≤ 2 ^ 32 by decide)

/-- The result array after the run. -/
theorem final (c : Dev nD) (hk : ∀ j : Fin 40, IsKind ((V m c main_arg3 : IVec S40 32) (ValueIdx.ix1 j))) :
    (dat m v c).arrAt 3 (cfgA m).N = stage 10752 (v c main_v13) (v c main_arg0) (V m c main_arg1) (V m c main_arg2) (V m c main_arg3) (v c main_arg4) := by
  refine (dat m v c).arrAt_eq_of_emb 3 _ (fun t hf y => ?_) (fun i => ?_)
  · have key : ∀ y : S512x1024.Idx, ∃ (p : Fin 512) (q : Fin 1024), y = ValueIdx.ix2 p q := fun y => ⟨y 0, y 1, ValueIdx.eq_ix2 y⟩
    obtain ⟨p, q, rfl⟩ := key y
    refine Eq.trans ?_ ((outAt_at m v c hk t p q).trans (congrArg _ (emb_out m t p q).symm))
    rfl
  · obtain ⟨n, hn, p, q, rfl⟩ := cover i
    let t : Fin (cfgA m).N := ⟨n, Nat.lt_of_lt_of_eq hn (cfgA_N m).symm⟩
    refine ⟨t, flush_out m t, ?_⟩
    rw [show place n hn p q = _ from (emb_out m t p q).symm]
    exact View.emb_mem_set _ _

end R3

/-! ### The four runs -/

/-- The sums after the first run. -/
theorem w5_out (c : Dev nD) (hk : ∀ j : Fin 40, IsKind ((V m c main_arg3 : IVec S40 32) (ValueIdx.ix1 j))) :
    w5 m c (Proc.devRef .tc main_v11) = stage0 (V m c main_arg0) (V m c main_arg1) (V m c main_arg2) (V m c main_arg3) (V m c main_arg4) :=
  (Pipeline.afterRegion_arr (R0.dat m (V4 m) c) (V4 m c) (launch0 (F := Ideal)).win.arr_inj 2).trans (R0.final m (V4 m) c hk)

/-- The sums after the second run. -/
theorem w7_out (c : Dev nD) (hk : ∀ j : Fin 40, IsKind ((V m c main_arg3 : IVec S40 32) (ValueIdx.ix1 j))) :
    w7 m c (Proc.devRef .tc main_v12) = stage 3584 (w5 m c (Proc.devRef .tc main_v11)) (V m c main_arg0) (V m c main_arg1) (V m c main_arg2) (V m c main_arg3) (V m c main_arg4) := by
  refine (Pipeline.afterRegion_arr (R1.dat m (w6 m) c) (w6 m c) (launch1 (F := Ideal)).win.arr_inj 3).trans ((R1.final m (w6 m) c hk).trans ?_)
  rw [w6_of m c main_arg0 (by decide) (by decide), w6_of m c main_arg4 (by decide) (by decide)]
  have e : w6 m c (Proc.devRef .tc main_v11) = w5 m c (Proc.devRef .tc main_v11) := StableHlo.after_of_writes_sub hostOps1 _ hostOps1_writes (by decide)
  rw [e]

/-- The sums after the third run. -/
theorem w9_out (c : Dev nD) (hk : ∀ j : Fin 40, IsKind ((V m c main_arg3 : IVec S40 32) (ValueIdx.ix1 j))) :
    w9 m c (Proc.devRef .tc main_v13) = stage 7168 (w7 m c (Proc.devRef .tc main_v12)) (V m c main_arg0) (V m c main_arg1) (V m c main_arg2) (V m c main_arg3) (V m c main_arg4) := by
  refine (Pipeline.afterRegion_arr (R2.dat m (w8 m) c) (w8 m c) (launch2 (F := Ideal)).win.arr_inj 3).trans ((R2.final m (w8 m) c hk).trans ?_)
  rw [w8_of m c main_arg0 (by decide) (by decide) (by decide) (by decide), w8_of m c main_arg4 (by decide) (by decide) (by decide) (by decide)]
  have e : w8 m c (Proc.devRef .tc main_v12) = w7 m c (Proc.devRef .tc main_v12) := StableHlo.after_of_writes_sub hostOps2 _ hostOps2_writes (by decide)
  rw [e]

/-- The sums after the fourth run. -/
theorem w11_out (c : Dev nD) (hk : ∀ j : Fin 40, IsKind ((V m c main_arg3 : IVec S40 32) (ValueIdx.ix1 j))) :
    w11 m c (Proc.devRef .tc main_v14) = stage 10752 (w9 m c (Proc.devRef .tc main_v13)) (V m c main_arg0) (V m c main_arg1) (V m c main_arg2) (V m c main_arg3) (V m c main_arg4) := by
  refine (Pipeline.afterRegion_arr (R3.dat m (w10 m) c) (w10 m c) (launch3 (F := Ideal)).win.arr_inj 3).trans ((R3.final m (w10 m) c hk).trans ?_)
  rw [w10_of m c main_arg0 (by decide) (by decide) (by decide) (by decide) (by decide) (by decide), w10_of m c main_arg4 (by decide) (by decide) (by decide) (by decide) (by decide) (by decide)]
  have e : w10 m c (Proc.devRef .tc main_v13) = w9 m c (Proc.devRef .tc main_v13) := StableHlo.after_of_writes_sub hostOps3 _ hostOps3_writes (by decide)
  rw [e]

/-- Every gate lies between 0 and 1. -/
def GatesOk (s : Vec Ideal S20480x1 .f32) : Prop := ∀ r : Fin 20480, 0 ≤ s (ValueIdx.ix2 r (0 : Fin 1)) ∧ s (ValueIdx.ix2 r (0 : Fin 1)) ≤ 1

/-- The kernel's run on extended reals: its result is the closed form, its arguments unchanged. -/
theorem run_value (hf : ∀ c : Dev nD, Fits (m ((c : Thread nD τ).loc main_arg2)) (m ((c : Thread nD τ).loc main_arg3)))
    (hs : ∀ c : Dev nD, GatesOk (m ((c : Thread nD τ).loc main_arg4))) :
    θ_run defs (onTc (τ := τ) (main (F := Ideal))) ⟨m, fun _ => 0, ρ⟩ (fun r => ∀ c : Dev nD,
      r.2.mem ((c.tc : Thread nD τ).loc main_v14) = downOut (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  refine (θ_run defs _ _).mono (fun r h c => ?_) (run_main (F := Ideal) m ρ (goodAt m (hf 0)))
  obtain ⟨a0, a1, a2, a3, a4, e⟩ := h.1 c
  have hk : ∀ j : Fin 40, IsKind ((V m c main_arg3 : IVec S40 32) (ValueIdx.ix1 j)) := fun j => by
    rw [V_main_arg3]
    exact (hf c).kind j
  refine ⟨e.trans ?_, a0, a1, a2, a3, a4⟩
  rw [w11_out m c hk, w9_out m c hk, w7_out m c hk, w5_out m c hk, V_main_arg0, V_main_arg1, V_main_arg2, V_main_arg3, V_main_arg4]
  exact stages_eq _ _ _ _ _ (hs c)

end Cert.DownIdeal.Moe

end

end
-- ==== Proof.DownRef.lean ====
/- The reference's second product at an entry: of its eight turns one adds the row's own expert's product scaled by the row's gate, the
   others zero. -/
module

public import proofs.«01_k».proof.Proof.DownMath
public import proofs.«01_k».proof.Proof.ExpRef
public import proofs.«01_k».proof.Proof.Gen.DownRefIdeal.Run
public import Idealize.ShloMosaic.Lib.StableHlo.Predicate
public import Idealize.ShloMosaic.Lib.Pointwise

@[expose] public section

set_option maxRecDepth 16384

noncomputable section

namespace Cert.DownRefIdeal.Moe

open Idealize.ShloMosaic Idealize.ShloMosaic.TcCoe Idealize.SL.Sem Idealize.ShloMosaic.StableHlo Cert.DownRefIdeal Cert.DownRefIdeal.Gen Cert.DownRefIdeal.Value
open Cert.ExpertsIdeal.Moe (Live IsKind)
open Cert.DownIdeal.Moe (downOut tileOf expOf)
open Cert.ExpertsRefIdeal.Moe (andi_one live_word one_of_eight)

/-- An expert's product with its weight: the rows against the expert's matrix. -/
def prodOf (hf : FVec Ideal S20480x14336 .f32) (w : FVec Ideal S8x14336x4096 .f32) (x : ℕ)
    (hs : S8x14336x4096.Slices ![x, 0, 0] S1x14336x4096) : FVec Ideal S20480x4096 .f32 :=
  Host.dotGeneral dot_S20480x14336_S14336x4096_S20480x4096_1_0_0_1_n_n none hf
    (shapeCast _ (extractStridedSlice S1x14336x4096 ![x, 0, 0] w hs) shapeCasts_S1x14336x4096_S14336x4096)

/-- The product at an entry. -/
theorem prodOf_at (hf : FVec Ideal S20480x14336 .f32) (w : FVec Ideal S8x14336x4096 .f32) (x : Fin 8)
    (hs : S8x14336x4096.Slices ![x.val, 0, 0] S1x14336x4096) (r : Fin 20480) (j : Fin 4096) :
    prodOf hf w x.val hs (ix2 r j) = ∑ k : Fin 14336, hf (ix2 r k) * w (ix3 x k j) := by
  pointwise [prodOf]

/-- One expert's turn. -/
def turn (hf : FVec Ideal S20480x14336 .f32) (w : FVec Ideal S8x14336x4096 .f32) (s : FVec Ideal S20480x1 .f32) (live : IVec S20480x1 1) (e : IVec S20480x1 32)
    (x : ℕ) (hs : S8x14336x4096.Slices ![x, 0, 0] S1x14336x4096) (out : FVec Ideal S20480x4096 .f32) : FVec Ideal S20480x4096 .f32 :=
  addf out (select (broadcastInDim S20480x4096 ![0, 1] bcast_S20480x1_S20480x4096_0_1
      (andi live (cmpi .eq e (broadcastInDim S20480x1 ![] bcast_S_S20480x1 (constantI S_ 32 (BitVec.ofNat 32 x))))))
    (mulf (broadcastInDim S20480x4096 ![0, 1] bcast_S20480x1_S20480x4096_0_1 s) (prodOf hf w x hs))
    (broadcastInDim S20480x4096 ![] bcast_S_S20480x4096 (id (constant S_ .f32 0x00000000#32))))

/-- One expert's turn at an entry. -/
theorem turn_at (hf : FVec Ideal S20480x14336 .f32) (w : FVec Ideal S8x14336x4096 .f32) (s : FVec Ideal S20480x1 .f32) (live : IVec S20480x1 1) (e : IVec S20480x1 32)
    (x : ℕ) (hs : S8x14336x4096.Slices ![x, 0, 0] S1x14336x4096) (out : FVec Ideal S20480x4096 .f32) (r : Fin 20480) (j : Fin 4096) :
    turn hf w s live e x hs out (ix2 r j)
      = out (ix2 r j) + (if live (ix2 r 0) = 1#1 ∧ e (ix2 r 0) = BitVec.ofNat 32 x then
          s (ix2 r (0 : Fin 1)) * prodOf hf w x hs (ix2 r j) else 0) := by
  pointwise [turn]
  have hz : (id (constant S_ FTy.f32 0#32) : FVec Ideal S_ .f32) ix0 = (0 : EReal) := Ideal.ofBits_zero_f32
  rw [hz]
  refine congrArg (out (ix2 r j) + ·) ?_
  by_cases h1 : live (ix2 r 0) = 1#1 ∧ e (ix2 r 0) = BitVec.ofNat 32 x
  · rw [if_pos h1, h1.1, StableHlo.Predicate.cmpi_eq_iff.mpr h1.2]
    rfl
  · rw [if_neg h1]
    refine if_neg fun h => h1 ?_
    have h' := andi_one.mp h
    exact ⟨h'.1, StableHlo.Predicate.cmpi_eq_iff.mp h'.2⟩

/-- The rows' experts, as the reference works them out. -/
def expRows (te : IVec S40 32) : IVec S20480x1 32 :=
  shapeCast _ (broadcastInDim S40x512 ![0, 1] bcast_S40x1_S40x512_0_1 (broadcastInDim S40x1 ![0] bcast_S40_S40x1_0 te)) shapeCasts_S40x512_S20480x1

/-- The expert of row `r` is its tile's. -/
theorem expert_at (te : IVec S40 32) (r : Fin 20480) : expRows te (ix2 r (0 : Fin 1)) = te (ix1 (⟨r.val / 512, by omega⟩ : Fin 40)) := by
  pointwise [expRows]

/-- Which rows the reference computes. -/
def liveRows (md : IVec S40 32) : IVec S20480x1 1 :=
  shapeCast _ (select (broadcastInDim S40x512 ![0, 1] bcast_S40x1_S40x512_0_1 (cmpi .slt (broadcastInDim S40x1 ![0] bcast_S40_S40x1_0 md) (broadcastInDim S40x1 ![] bcast_S_S40x1 (constantI S_ 32 8#32))))
    (broadcastInDim S40x512 ![0, 1] bcast_S40x1_S40x512_0_1 (cmpi .eq (broadcastInDim S40x1 ![0] bcast_S40_S40x1_0 md) (broadcastInDim S40x1 ![] bcast_S_S40x1 (constantI S_ 32 1#32))))
    (cmpi .slt (broadcastInDim S40x512 ![0, 1] bcast_S1x512_S40x512_0_1 (broadcastInDim S1x512 ![1] bcast_S512_S1x512_1 (iotaInDim S512 32 0)))
      (broadcastInDim S40x512 ![0, 1] bcast_S40x1_S40x512_0_1 (muli (broadcastInDim S40x1 ![] bcast_S_S40x1 (constantI S_ 32 128#32))
        (subi (broadcastInDim S40x1 ![0] bcast_S40_S40x1_0 md) (broadcastInDim S40x1 ![] bcast_S_S40x1 (constantI S_ 32 8#32))))))) shapeCasts_S40x512_S20480x1

/-- Row `r` is computed as its tile's kind says. -/
theorem live_at (md : IVec S40 32) (r : Fin 20480) (hk : IsKind (md (ix1 (⟨r.val / 512, by omega⟩ : Fin 40)))) :
    liveRows md (ix2 r (0 : Fin 1)) = 1#1 ↔ Live (md (ix1 (⟨r.val / 512, by omega⟩ : Fin 40))) (r.val % 512) := by
  pointwise [liveRows]
  exact live_word _ hk (r.val % 512) (Nat.mod_lt _ (by decide))

/-- The rows as they are given. -/
def rowsOf (g : FVec Ideal S20480x14336 .bf16) : FVec Ideal S20480x14336 .f32 := extf .f32 g bitsLt_bf16_f32

theorem rows_at (g : FVec Ideal S20480x14336 .bf16) (r : Fin 20480) (k : Fin 14336) : rowsOf g (ix2 r k) = g (ix2 r k) := by
  pointwise [rowsOf]

/-- The eight turns. -/
def turns (hf : FVec Ideal S20480x14336 .f32) (w : FVec Ideal S8x14336x4096 .f32) (s : FVec Ideal S20480x1 .f32) (live : IVec S20480x1 1) (e : IVec S20480x1 32) :
    FVec Ideal S20480x4096 .f32 :=
  turn hf w s live e 7 slices_S8x14336x4096_S1x14336x4096_7_0_0
  (turn hf w s live e 6 slices_S8x14336x4096_S1x14336x4096_6_0_0
  (turn hf w s live e 5 slices_S8x14336x4096_S1x14336x4096_5_0_0
  (turn hf w s live e 4 slices_S8x14336x4096_S1x14336x4096_4_0_0
  (turn hf w s live e 3 slices_S8x14336x4096_S1x14336x4096_3_0_0
  (turn hf w s live e 2 slices_S8x14336x4096_S1x14336x4096_2_0_0
  (turn hf w s live e 1 slices_S8x14336x4096_S1x14336x4096_1_0_0
  (turn hf w s live e 0 slices_S8x14336x4096_S1x14336x4096_0_0_0
    (broadcastInDim S20480x4096 ![] bcast_S_S20480x4096 (constant (F := Ideal) S_ .f32 0x00000000#32)))))))))

/-- The eight turns at an entry. -/
theorem turns_at (g : FVec Ideal S20480x14336 .bf16) (w : FVec Ideal S8x14336x4096 .f32) (te md : IVec S40 32) (s : FVec Ideal S20480x1 .f32) (r : Fin 20480) (j : Fin 4096)
    (hk : IsKind (md (ix1 (⟨r.val / 512, by omega⟩ : Fin 40)))) (hlt : (te (ix1 (⟨r.val / 512, by omega⟩ : Fin 40))).toNat < 8) :
    turns (rowsOf g) w s (liveRows md) (expRows te) (ix2 r j) = downOut g w te md s (ix2 r j) := by
  have hz : (broadcastInDim S20480x4096 ![] bcast_S_S20480x4096 (constant (F := Ideal) S_ .f32 0x00000000#32) : FVec Ideal S20480x4096 .f32) (ix2 r j) = 0 := by
    pointwise
  have key : ∀ (x : Fin 8) (hs : S8x14336x4096.Slices ![x.val, 0, 0] S1x14336x4096), prodOf (rowsOf g) w x.val hs (ix2 r j)
      = ∑ k : Fin 14336, g (ix2 r k) * w (ix3 x k j) := fun x hs => by
    rw [prodOf_at]
    simp only [rows_at]
  unfold turns
  rw [turn_at, turn_at, turn_at, turn_at, turn_at, turn_at, turn_at, turn_at, hz, expert_at]
  simp only [live_at md r hk]
  have k0 := key 0 slices_S8x14336x4096_S1x14336x4096_0_0_0
  have k1 := key 1 slices_S8x14336x4096_S1x14336x4096_1_0_0
  have k2 := key 2 slices_S8x14336x4096_S1x14336x4096_2_0_0
  have k3 := key 3 slices_S8x14336x4096_S1x14336x4096_3_0_0
  have k4 := key 4 slices_S8x14336x4096_S1x14336x4096_4_0_0
  have k5 := key 5 slices_S8x14336x4096_S1x14336x4096_5_0_0
  have k6 := key 6 slices_S8x14336x4096_S1x14336x4096_6_0_0
  have k7 := key 7 slices_S8x14336x4096_S1x14336x4096_7_0_0
  change prodOf (rowsOf g) w 0 _ (ix2 r j) = _ at k0
  change prodOf (rowsOf g) w 1 _ (ix2 r j) = _ at k1
  change prodOf (rowsOf g) w 2 _ (ix2 r j) = _ at k2
  change prodOf (rowsOf g) w 3 _ (ix2 r j) = _ at k3
  change prodOf (rowsOf g) w 4 _ (ix2 r j) = _ at k4
  change prodOf (rowsOf g) w 5 _ (ix2 r j) = _ at k5
  change prodOf (rowsOf g) w 6 _ (ix2 r j) = _ at k6
  change prodOf (rowsOf g) w 7 _ (ix2 r j) = _ at k7
  rw [k0, k1, k2, k3, k4, k5, k6, k7]
  exact one_of_eight (fun x : Fin 8 => s (ix2 r (0 : Fin 1)) * ∑ k : Fin 14336, g (ix2 r k) * w (ix3 x k j))
    (Live (md (ix1 (⟨r.val / 512, by omega⟩ : Fin 40))) (r.val % 512)) _ hlt

/-- The reference's run: its result is the closed form, its arguments unchanged. -/
theorem run_value (m : (ℓ : Loc nD τ sig) → Buf (Elt Ideal) ℓ) (ρ : Dev nD → PrngReg)
    (hf : ∀ c : Dev nD, ∀ j : Fin 40, ((m ((c.tc : Thread nD τ).loc main_arg2) : IVec S40 32) (ix1 j)).toNat < 8
      ∧ IsKind ((m ((c.tc : Thread nD τ).loc main_arg3) : IVec S40 32) (ix1 j))) :
    θ_run defs (onTc (τ := τ) (main (F := Ideal))) ⟨m, fun _ => 0, ρ⟩ fun r => ∀ c : Dev nD,
      r.2.mem ((c.tc : Thread nD τ).loc main_v100) = downOut (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c).1.trans (by
      funext y
      obtain ⟨r, j, rfl⟩ : ∃ (r : Fin 20480) (j : Fin 4096), y = ix2 r j := ⟨y 0, y 1, eq_ix2 y⟩
      exact (show _ = turns (rowsOf (m ((c.tc : Thread nD τ).loc main_arg0))) (m ((c.tc : Thread nD τ).loc main_arg1)) (m ((c.tc : Thread nD τ).loc main_arg4))
          (liveRows (m ((c.tc : Thread nD τ).loc main_arg3))) (expRows (m ((c.tc : Thread nD τ).loc main_arg2))) (ix2 r j) from rfl).trans
        (turns_at _ _ _ _ _ r j (hf c _).2 (hf c _).1)), (h c).2⟩)
    (run (F := Ideal) m ρ)

end Cert.DownRefIdeal.Moe

end

end
-- ==== Proof.lean ====
module

public import proofs.«01_k».proof.Proof.Gen.Down
public import proofs.«01_k».proof.Proof.Gen.DownIdeal.Regions
public import proofs.«01_k».proof.Proof.Gen.DownRefIdeal.Run
public import proofs.«01_k».proof.Proof.Gen.DownIdeal.Skeleton
public import proofs.«01_k».proof.Proof.Gen.Pre_gated_tables
public import proofs.«01_k».proof.Defs
public import proofs.«01_k».proof.Proof.Gen.Kernel
public import proofs.«01_k».proof.Proof.SameText
public import proofs.«01_k».proof.Proof.Region
public import proofs.«01_k».proof.Proof.Equation
public import proofs.«01_k».proof.Proof.Gen.Experts
public import proofs.«01_k».proof.Proof.Gen.ExpertsIdeal
public import proofs.«01_k».proof.Proof.Gen.ExpertsIdeal.Skeleton
public import proofs.«01_k».proof.Proof.Gen.ExpertsIdeal.Launch
public import proofs.«01_k».proof.Proof.Gen.ExpertsRefIdeal
public import proofs.«01_k».proof.Proof.Gen.Pre_expert_tables
public import Idealize.ShloMosaic.Lib.StableHlo.Predicate
public import proofs.«01_k».proof.Proof.Gen.Dense
public import proofs.«01_k».proof.Proof.Gen.DenseIdeal.Launch
public import proofs.«01_k».proof.Proof.Gen.DenseIdeal.Skeleton
public import proofs.«01_k».proof.Proof.Gen.DenseRefIdeal.Run
public import proofs.«01_k».proof.Proof.FfnRun
public import proofs.«01_k».proof.Proof.FfnSame
public import proofs.«01_k».proof.Proof.FfnHost
public import proofs.«01_k».proof.Proof.FfnValue
public import proofs.«01_k».proof.Proof.FfnRef
public import proofs.«01_k».proof.Proof.ExpRun
public import proofs.«01_k».proof.Proof.ExpSame
public import proofs.«01_k».proof.Proof.ExpHost
public import proofs.«01_k».proof.Proof.ExpMath
public import proofs.«01_k».proof.Proof.ExpValue
public import proofs.«01_k».proof.Proof.ExpRef
public import proofs.«01_k».proof.Proof.Gen.ExpertsRefIdeal.Run
public import proofs.«01_k».proof.Proof.DownRun
public import proofs.«01_k».proof.Proof.DownSame
public import proofs.«01_k».proof.Proof.DownHost
public import proofs.«01_k».proof.Proof.DownValue
public import proofs.«01_k».proof.Proof.DownRef
public import Idealize.ShloMosaic.Adequacy
public import Idealize.ShloMosaic.Init
public import Idealize.ShloMosaic.Lib.Quiescent

@[expose] public section

noncomputable section

namespace Cert.Proof

open Idealize.ShloMosaic Idealize.SL.Sem Cert.Kernel

/-- The kernel on bits: it terminates, its arguments unchanged and every semaphore at zero. Its text is the ideal kernel's. -/
theorem frame_kernel : Cert.quiescent_Kernel (hKernel := Cert.Kernel.Gen.facts) := by
  intro m g _
  have h := Cert.KernelIdeal.Wkv.frame (F := Bits) m g
  rw [← Cert.SameText.tables, ← Cert.SameText.mains] at h
  exact h

/-- The kernel on extended reals. -/
theorem frame_ideal : Cert.quiescent_KernelIdeal (hKernelIdeal := Cert.KernelIdeal.Gen.facts) := fun m g _ =>
  Cert.KernelIdeal.Wkv.frame (F := Ideal) m g

/-- The reference on extended reals. -/
theorem frame_reference : Cert.quiescent_ReferenceIdeal (hReferenceIdeal := Cert.ReferenceIdeal.Gen.facts) := fun m g _ =>
  (θ_run Cert.ReferenceIdeal.defs _ _).mono
    (fun r h => ⟨fun c => (h c).2.2, Idealize.ShloMosaic.sem_eq_zero_of_no_sems (by decide) r.2⟩)
    (Cert.ReferenceIdeal.Value.run (F := Ideal) m g)

/-- On the same arguments both programs end with the recurrence's outputs and last state. -/
theorem values : Cert.algebraic_KernelIdeal_ReferenceIdeal (hKernelIdeal := Cert.KernelIdeal.Gen.facts)
    (hReferenceIdeal := Cert.ReferenceIdeal.Gen.facts) := fun m g m' g' _ hagree =>
  ⟨fun c => Cert.KernelIdeal.Wkv.outArr m c, fun c => Cert.KernelIdeal.Wkv.stArr m c, Cert.KernelIdeal.Wkv.run_values m g,
    (θ_run Cert.ReferenceIdeal.defs _ _).mono
      (fun _ h c => ⟨(h c).1.trans (Cert.Wkv.outputs_eq m c), (h c).2.1.trans (Cert.Wkv.states_eq m c), (h c).2.2⟩)
      (Cert.ReferenceIdeal.Wkv.run_states (F := Ideal) m' g' (fun c => Cert.Wkv.itOf m c)
        (fun c => by
          obtain ⟨e0, e1, e2, e3, e4, e5⟩ := hagree c
          show Cert.Wkv.itOf m c 0 = Cert.ReferenceIdeal.Step.init _ _ _ _ _ _
          rw [e0, e1, e2, e3, e4, e5]
          rfl)
        fun _ _ => rfl)⟩

/-- The tables the precondition admits are tables the experts' kernel runs on. -/
theorem tables_good {F : FTy → Type} [FloatOps F] (m : (ℓ : Loc Cert.ExpertsIdeal.nD Cert.ExpertsIdeal.τ Cert.ExpertsIdeal.sig) → Buf (Elt F) ℓ)
    (h : Cert.ExpertsIdeal.Moe.Fits (m ((((0 : Dev Cert.ExpertsIdeal.nD).tc : Thread Cert.ExpertsIdeal.nD Cert.ExpertsIdeal.τ)).loc Cert.ExpertsIdeal.main_arg3))
      (m ((((0 : Dev Cert.ExpertsIdeal.nD).tc : Thread Cert.ExpertsIdeal.nD Cert.ExpertsIdeal.τ)).loc Cert.ExpertsIdeal.main_arg4))) :
    Cert.ExpertsIdeal.Moe.Good (Cert.ExpertsIdeal.Moe.V m 0 Cert.ExpertsIdeal.main_arg3) (Cert.ExpertsIdeal.Moe.V m 0 Cert.ExpertsIdeal.main_arg4)
      (Cert.ExpertsIdeal.Moe.V m 0 Cert.ExpertsIdeal.main_v10) := by
  rw [Cert.ExpertsIdeal.Moe.V_main_arg3, Cert.ExpertsIdeal.Moe.V_main_arg4, Cert.ExpertsIdeal.Moe.V_next]
  exact Cert.ExpertsIdeal.Moe.good_of_fits _ _ h

/-- The experts' kernel on bits. Its text is the ideal kernel's. -/
theorem frame_experts : Cert.quiescent_Experts (hExperts := Cert.Experts.Gen.facts) (hPre_expert_tables := Cert.Pre_expert_tables.Gen.facts) := by
  intro m g hp
  have h := Cert.ExpertsIdeal.Moe.frame_run (F := Bits) m g (tables_good m (Cert.ExpertsIdeal.Moe.fits_of_pre _ _ _ _ _ (hp 0)))
  rw [← Cert.ExpSame.tables, ← Cert.ExpSame.mains] at h
  exact h

/-- The experts' kernel on extended reals. -/
theorem frame_experts_ideal : Cert.quiescent_ExpertsIdeal (hExpertsIdeal := Cert.ExpertsIdeal.Gen.facts)
    (hPre_expert_tables := Cert.Pre_expert_tables.Gen.facts) := fun m g hp =>
  Cert.ExpertsIdeal.Moe.frame_run (F := Ideal) m g (tables_good m (Cert.ExpertsIdeal.Moe.fits_of_pre _ _ _ _ _ (hp 0)))

/-- The experts' reference on extended reals, whatever its tables hold. -/
theorem frame_experts_reference : Cert.quiescent_ExpertsRefIdeal (hExpertsRefIdeal := Cert.ExpertsRefIdeal.Gen.facts) := fun m g _ =>
  (θ_run Cert.ExpertsRefIdeal.defs _ _).mono
    (fun r h => ⟨fun c => (h c).2, Idealize.ShloMosaic.sem_eq_zero_of_no_sems (by decide) r.2⟩)
    (Cert.ExpertsRefIdeal.Value.run (F := Ideal) m g)

/-- The same, for the tables the precondition admits. -/
theorem frame_experts_reference_pre : Cert.quiescent_ExpertsRefIdeal_pre_expert_tables (hExpertsRefIdeal := Cert.ExpertsRefIdeal.Gen.facts)
    (hPre_expert_tables := Cert.Pre_expert_tables.Gen.facts) := fun m g _ => frame_experts_reference m g trivial

/-- On the same arguments both programs end with each row's gated products by its own expert. -/
theorem values_experts : Cert.algebraic_ExpertsIdeal_ExpertsRefIdeal (hExpertsIdeal := Cert.ExpertsIdeal.Gen.facts)
    (hExpertsRefIdeal := Cert.ExpertsRefIdeal.Gen.facts) (hPre_expert_tables := Cert.Pre_expert_tables.Gen.facts) := by
  intro m g m' g' hp hagree
  have hf := fun c => Cert.ExpertsIdeal.Moe.fits_of_pre _ _ _ _ _ (hp c)
  refine ⟨_, Cert.ExpertsIdeal.Moe.run_value m g hf (tables_good m (hf 0)), ?_⟩
  refine (θ_run Cert.ExpertsRefIdeal.defs _ _).mono (fun _ h c => ⟨(h c).1.trans ?_, (h c).2⟩)
    (Cert.ExpertsRefIdeal.Moe.run_value m' g' fun c j => ?_)
  · obtain ⟨e0, e1, e2, e3, e4⟩ := hagree c
    rw [e3, e4]
    exact ⟨(hf c).lt j, (hf c).kind j⟩
  · obtain ⟨e0, e1, e2, e3, e4⟩ := hagree c
    rw [e0, e1, e2, e3, e4]

/-- The dense feed-forward's kernel on bits. Its text is the ideal kernel's. -/
theorem frame_dense : Cert.quiescent_Dense (hDense := Cert.Dense.Gen.facts) := by
  intro m g _
  have h := Cert.DenseIdeal.Ffn.frame_run (F := Bits) m g (Cert.DenseIdeal.Ffn.good m)
  rw [← Cert.FfnSame.tables, ← Cert.FfnSame.mains] at h
  exact h

/-- The dense feed-forward's kernel on extended reals. -/
theorem frame_dense_ideal : Cert.quiescent_DenseIdeal (hDenseIdeal := Cert.DenseIdeal.Gen.facts) := fun m g _ =>
  Cert.DenseIdeal.Ffn.frame_run (F := Ideal) m g (Cert.DenseIdeal.Ffn.good m)

/-- The dense feed-forward's reference on extended reals. -/
theorem frame_dense_reference : Cert.quiescent_DenseRefIdeal (hDenseRefIdeal := Cert.DenseRefIdeal.Gen.facts) := fun m g _ =>
  (θ_run Cert.DenseRefIdeal.defs _ _).mono
    (fun r h => ⟨fun c => (h c).2, Idealize.ShloMosaic.sem_eq_zero_of_no_sems (by decide) r.2⟩)
    (Cert.DenseRefIdeal.Value.run (F := Ideal) m g)

/-- On the same arguments both programs end with each row's gated products. -/
theorem values_dense : Cert.algebraic_DenseIdeal_DenseRefIdeal (hDenseIdeal := Cert.DenseIdeal.Gen.facts)
    (hDenseRefIdeal := Cert.DenseRefIdeal.Gen.facts) := by
  intro m g m' g' _ hagree
  refine ⟨_, Cert.DenseIdeal.Ffn.run_value m g, ?_⟩
  refine (θ_run Cert.DenseRefIdeal.defs _ _).mono (fun _ h c => ⟨(h c).1.trans ?_, (h c).2⟩)
    (Cert.DenseRefIdeal.Ffn.run_value m' g')
  obtain ⟨e0, e1, e2⟩ := hagree c
  rw [e0, e1, e2]

/-- A run of the second product's kernel, at any float values: the arguments stay and every semaphore ends at zero. -/
theorem down_run {F : FTy → Type} [FloatOps F] (m : (ℓ : Loc Cert.DownIdeal.nD Cert.DownIdeal.τ Cert.DownIdeal.sig) → Buf (Elt F) ℓ)
    (g : Dev Cert.DownIdeal.nD → PrngReg) (h : Cert.DownIdeal.Moe.GoodAt m) :
    θ_run (Cert.DownIdeal.defs (F := F)) (onTc (τ := Cert.DownIdeal.τ) (Cert.DownIdeal.main (F := F))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
      ∧ r.2.mem ((c.tc : Thread Cert.DownIdeal.nD Cert.DownIdeal.τ).loc Cert.DownIdeal.main_arg4) = m ((c.tc : Thread Cert.DownIdeal.nD Cert.DownIdeal.τ).loc Cert.DownIdeal.main_arg4))
      ∧ r.2.sem = fun _ => 0) :=
  (θ_run Cert.DownIdeal.defs _ _).mono
    (fun r h => ⟨fun c => ⟨(h.1 c).1, (h.1 c).2.1, (h.1 c).2.2.1, (h.1 c).2.2.2.1, (h.1 c).2.2.2.2.1⟩, h.2⟩)
    (Cert.DownIdeal.Moe.run_main (F := F) m g h)

/-- The second product's kernel on bits. Its text is the ideal kernel's. -/
theorem frame_down : Cert.quiescent_Down (hDown := Cert.Down.Gen.facts) (hPre_gated_tables := Cert.Pre_gated_tables.Gen.facts) := fun m g hp =>
  Cert.DownSame.run_same (F := Bits) m g _ (down_run (F := Bits) m g (Cert.DownIdeal.Moe.goodAt m (Cert.DownIdeal.Moe.fits_of_pre _ _ _ _ _ (hp 0))))

/-- The second product's kernel on extended reals. -/
theorem frame_down_ideal : Cert.quiescent_DownIdeal (hDownIdeal := Cert.DownIdeal.Gen.facts) (hPre_gated_tables := Cert.Pre_gated_tables.Gen.facts) := fun m g hp =>
  down_run (F := Ideal) m g (Cert.DownIdeal.Moe.goodAt m (Cert.DownIdeal.Moe.fits_of_pre _ _ _ _ _ (hp 0)))

/-- The second product's reference on extended reals, whatever its tables hold. -/
theorem frame_down_reference : Cert.quiescent_DownRefIdeal (hDownRefIdeal := Cert.DownRefIdeal.Gen.facts) := fun m g _ =>
  (θ_run Cert.DownRefIdeal.defs _ _).mono
    (fun r h => ⟨fun c => (h c).2, Idealize.ShloMosaic.sem_eq_zero_of_no_sems (by decide) r.2⟩)
    (Cert.DownRefIdeal.Value.run (F := Ideal) m g)

/-- The same, for the tables and gates the precondition admits. -/
theorem frame_down_reference_pre : Cert.quiescent_DownRefIdeal_pre_gated_tables (hDownRefIdeal := Cert.DownRefIdeal.Gen.facts)
    (hPre_gated_tables := Cert.Pre_gated_tables.Gen.facts) := fun m g _ => frame_down_reference m g trivial

/-- On the same arguments both programs end with each row's second product by its own expert, scaled by the row's gate. -/
theorem values_down : Cert.algebraic_DownIdeal_DownRefIdeal (hDownIdeal := Cert.DownIdeal.Gen.facts)
    (hDownRefIdeal := Cert.DownRefIdeal.Gen.facts) (hPre_gated_tables := Cert.Pre_gated_tables.Gen.facts) := by
  intro m g m' g' hp hagree
  have hf := fun c => Cert.DownIdeal.Moe.fits_of_pre _ _ _ _ _ (hp c)
  refine ⟨_, Cert.DownIdeal.Moe.run_value m g hf (fun c r => Cert.DownIdeal.Moe.gates_of_pre _ _ _ _ _ (hp c) r), ?_⟩
  refine (θ_run Cert.DownRefIdeal.defs _ _).mono (fun _ h c => ⟨(h c).1.trans ?_, (h c).2⟩)
    (Cert.DownRefIdeal.Moe.run_value m' g' fun c j => ?_)
  · obtain ⟨e0, e1, e2, e3, e4⟩ := hagree c
    rw [e2, e3]
    exact ⟨(hf c).lt j, (hf c).kind j⟩
  · obtain ⟨e0, e1, e2, e3, e4⟩ := hagree c
    rw [e0, e1, e2, e3, e4]

/-- Everything the certificate claims. -/
theorem claim : Cert.Claim :=
  ⟨Cert.Kernel.Gen.facts, Cert.KernelIdeal.Gen.facts, Cert.ReferenceIdeal.Gen.facts, Cert.Experts.Gen.facts, Cert.ExpertsIdeal.Gen.facts,
    Cert.ExpertsRefIdeal.Gen.facts, Cert.Dense.Gen.facts, Cert.DenseIdeal.Gen.facts, Cert.DenseRefIdeal.Gen.facts,
    Cert.Down.Gen.facts, Cert.DownIdeal.Gen.facts, Cert.DownRefIdeal.Gen.facts,
    Cert.Pre_expert_tables.Gen.facts, Cert.Pre_gated_tables.Gen.facts, frame_kernel, frame_ideal, frame_reference, frame_experts,
    frame_experts_ideal, frame_experts_reference, frame_experts_reference_pre, frame_dense, frame_dense_ideal, frame_dense_reference,
    frame_down, frame_down_ideal, frame_down_reference, frame_down_reference_pre,
    trivial, values, trivial, values_experts, trivial, values_dense, trivial, values_down⟩

end Cert.Proof

end
